-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DH3 (m : (ℓ : Loc Cert.DH3.nD Cert.DH3.τ Cert.DH3.sig) → Buf (Elt Bits) ℓ) : Prop :=
  True

def Pre_DH3Ideal (m : (ℓ : Loc Cert.DH3Ideal.nD Cert.DH3Ideal.τ Cert.DH3Ideal.sig) → Buf (Elt Ideal) ℓ) : Prop :=
  True

def Pre_DH3RefIdeal (m : (ℓ : Loc Cert.DH3RefIdeal.nD Cert.DH3RefIdeal.τ Cert.DH3RefIdeal.sig) → Buf (Elt Ideal) ℓ) : Prop :=
  True

def Pre_DWGu (m : (ℓ : Loc Cert.DWGu.nD Cert.DWGu.τ Cert.DWGu.sig) → Buf (Elt Bits) ℓ) : Prop :=
  True

def Pre_DWGuIdeal (m : (ℓ : Loc Cert.DWGuIdeal.nD Cert.DWGuIdeal.τ Cert.DWGuIdeal.sig) → Buf (Elt Ideal) ℓ) : Prop :=
  True

def Pre_DWGuRefIdeal (m : (ℓ : Loc Cert.DWGuRefIdeal.nD Cert.DWGuRefIdeal.τ Cert.DWGuRefIdeal.sig) → Buf (Elt Ideal) ℓ) : Prop :=
  True

def Pre_DOxa (m : (ℓ : Loc Cert.DOxa.nD Cert.DOxa.τ Cert.DOxa.sig) → Buf (Elt Bits) ℓ) : Prop :=
  True

def Pre_DOxaIdeal (m : (ℓ : Loc Cert.DOxaIdeal.nD Cert.DOxaIdeal.τ Cert.DOxaIdeal.sig) → Buf (Elt Ideal) ℓ) : Prop :=
  True

def Pre_DOxaRefIdeal (m : (ℓ : Loc Cert.DOxaRefIdeal.nD Cert.DOxaRefIdeal.τ Cert.DOxaRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DWXo (m : (ℓ : Loc Cert.DWXo.nD Cert.DWXo.τ Cert.DWXo.sig) → Buf (Elt Bits) ℓ) : Prop :=
  True

def Pre_DWXoIdeal (m : (ℓ : Loc Cert.DWXoIdeal.nD Cert.DWXoIdeal.τ Cert.DWXoIdeal.sig) → Buf (Elt Ideal) ℓ) : Prop :=
  True

def Pre_DWXoRefIdeal (m : (ℓ : Loc Cert.DWXoRefIdeal.nD Cert.DWXoRefIdeal.τ Cert.DWXoRefIdeal.sig) → Buf (Elt Ideal) ℓ) : Prop :=
  True

def Pre_DMem (m : (ℓ : Loc Cert.DMem.nD Cert.DMem.τ Cert.DMem.sig) → Buf (Elt Bits) ℓ) : Prop :=
  True

def Pre_DMemIdeal (m : (ℓ : Loc Cert.DMemIdeal.nD Cert.DMemIdeal.τ Cert.DMemIdeal.sig) → Buf (Elt Ideal) ℓ) : Prop :=
  True

def Pre_DMemRefIdeal (m : (ℓ : Loc Cert.DMemRefIdeal.nD Cert.DMemRefIdeal.τ Cert.DMemRefIdeal.sig) → Buf (Elt Ideal) ℓ) : Prop :=
  True

def Pre_DWXkv (m : (ℓ : Loc Cert.DWXkv.nD Cert.DWXkv.τ Cert.DWXkv.sig) → Buf (Elt Bits) ℓ) : Prop :=
  True

def Pre_DWXkvIdeal (m : (ℓ : Loc Cert.DWXkvIdeal.nD Cert.DWXkvIdeal.τ Cert.DWXkvIdeal.sig) → Buf (Elt Ideal) ℓ) : Prop :=
  True

def Pre_DWXkvRefIdeal (m : (ℓ : Loc Cert.DWXkvRefIdeal.nD Cert.DWXkvRefIdeal.τ Cert.DWXkvRefIdeal.sig) → Buf (Elt Ideal) ℓ) : Prop :=
  True

def Pre_DWAtt (m : (ℓ : Loc Cert.DWAtt.nD Cert.DWAtt.τ Cert.DWAtt.sig) → Buf (Elt Bits) ℓ) : Prop :=
  True

def Pre_DWAttIdeal (m : (ℓ : Loc Cert.DWAttIdeal.nD Cert.DWAttIdeal.τ Cert.DWAttIdeal.sig) → Buf (Elt Ideal) ℓ) : Prop :=
  True

def Pre_DWAttRefIdeal (m : (ℓ : Loc Cert.DWAttRefIdeal.nD Cert.DWAttRefIdeal.τ Cert.DWAttRefIdeal.sig) → Buf (Elt Ideal) ℓ) : Prop :=
  True

def Pre_DOssm (m : (ℓ : Loc Cert.DOssm.nD Cert.DOssm.τ Cert.DOssm.sig) → Buf (Elt Bits) ℓ) : Prop :=
  True

def Pre_DOssmIdeal (m : (ℓ : Loc Cert.DOssmIdeal.nD Cert.DOssmIdeal.τ Cert.DOssmIdeal.sig) → Buf (Elt Ideal) ℓ) : Prop :=
  True

def Pre_DOssmRefIdeal (m : (ℓ : Loc Cert.DOssmRefIdeal.nD Cert.DOssmRefIdeal.τ Cert.DOssmRefIdeal.sig) → Buf (Elt Ideal) ℓ) : Prop :=
  True

def Pre_DWSsm (m : (ℓ : Loc Cert.DWSsm.nD Cert.DWSsm.τ Cert.DWSsm.sig) → Buf (Elt Bits) ℓ) : Prop :=
  True

def Pre_DWSsmIdeal (m : (ℓ : Loc Cert.DWSsmIdeal.nD Cert.DWSsmIdeal.τ Cert.DWSsmIdeal.sig) → Buf (Elt Ideal) ℓ) : Prop :=
  True

def Pre_DWSsmRefIdeal (m : (ℓ : Loc Cert.DWSsmRefIdeal.nD Cert.DWSsmRefIdeal.τ Cert.DWSsmRefIdeal.sig) → Buf (Elt Ideal) ℓ) : Prop :=
  True

def Pre_MProj (m : (ℓ : Loc Cert.MProj.nD Cert.MProj.τ Cert.MProj.sig) → Buf (Elt Bits) ℓ) : Prop :=
  True

def Pre_MProjIdeal (m : (ℓ : Loc Cert.MProjIdeal.nD Cert.MProjIdeal.τ Cert.MProjIdeal.sig) → Buf (Elt Ideal) ℓ) : Prop :=
  True

def Pre_MProjRefIdeal (m : (ℓ : Loc Cert.MProjRefIdeal.nD Cert.MProjRefIdeal.τ Cert.MProjRefIdeal.sig) → Buf (Elt Ideal) ℓ) : Prop :=
  True

def Pre_MAtt (m : (ℓ : Loc Cert.MAtt.nD Cert.MAtt.τ Cert.MAtt.sig) → Buf (Elt Bits) ℓ) : Prop :=
  True

def Pre_MAttIdeal (m : (ℓ : Loc Cert.MAttIdeal.nD Cert.MAttIdeal.τ Cert.MAttIdeal.sig) → Buf (Elt Ideal) ℓ) : Prop :=
  True

def Pre_MAttRefIdeal (m : (ℓ : Loc Cert.MAttRefIdeal.nD Cert.MAttRefIdeal.τ Cert.MAttRefIdeal.sig) → Buf (Elt Ideal) ℓ) : Prop :=
  True

def Pre_MSsm (m : (ℓ : Loc Cert.MSsm.nD Cert.MSsm.τ Cert.MSsm.sig) → Buf (Elt Bits) ℓ) : Prop :=
  True

def Pre_MSsmIdeal (m : (ℓ : Loc Cert.MSsmIdeal.nD Cert.MSsmIdeal.τ Cert.MSsmIdeal.sig) → Buf (Elt Ideal) ℓ) : Prop :=
  True

def Pre_MSsmRefIdeal (m : (ℓ : Loc Cert.MSsmRefIdeal.nD Cert.MSsmRefIdeal.τ Cert.MSsmRefIdeal.sig) → Buf (Elt Ideal) ℓ) : Prop :=
  True

def Pre_MMix (m : (ℓ : Loc Cert.MMix.nD Cert.MMix.τ Cert.MMix.sig) → Buf (Elt Bits) ℓ) : Prop :=
  True

def Pre_MMixIdeal (m : (ℓ : Loc Cert.MMixIdeal.nD Cert.MMixIdeal.τ Cert.MMixIdeal.sig) → Buf (Elt Ideal) ℓ) : Prop :=
  True

def Pre_MMixRefIdeal (m : (ℓ : Loc Cert.MMixRefIdeal.nD Cert.MMixRefIdeal.τ Cert.MMixRefIdeal.sig) → Buf (Elt Ideal) ℓ) : Prop :=
  True

def Pre_MKv (m : (ℓ : Loc Cert.MKv.nD Cert.MKv.τ Cert.MKv.sig) → Buf (Elt Bits) ℓ) : Prop :=
  True

def Pre_MKvIdeal (m : (ℓ : Loc Cert.MKvIdeal.nD Cert.MKvIdeal.τ Cert.MKvIdeal.sig) → Buf (Elt Ideal) ℓ) : Prop :=
  True

def Pre_MKvRefIdeal (m : (ℓ : Loc Cert.MKvRefIdeal.nD Cert.MKvRefIdeal.τ Cert.MKvRefIdeal.sig) → Buf (Elt Ideal) ℓ) : Prop :=
  True

def Pre_MGu (m : (ℓ : Loc Cert.MGu.nD Cert.MGu.τ Cert.MGu.sig) → Buf (Elt Bits) ℓ) : Prop :=
  True

def Pre_MGuIdeal (m : (ℓ : Loc Cert.MGuIdeal.nD Cert.MGuIdeal.τ Cert.MGuIdeal.sig) → Buf (Elt Ideal) ℓ) : Prop :=
  True

def Pre_MGuRefIdeal (m : (ℓ : Loc Cert.MGuRefIdeal.nD Cert.MGuRefIdeal.τ Cert.MGuRefIdeal.sig) → Buf (Elt Ideal) ℓ) : Prop :=
  True

def Pre_MDown (m : (ℓ : Loc Cert.MDown.nD Cert.MDown.τ Cert.MDown.sig) → Buf (Elt Bits) ℓ) : Prop :=
  True

def Pre_MDownIdeal (m : (ℓ : Loc Cert.MDownIdeal.nD Cert.MDownIdeal.τ Cert.MDownIdeal.sig) → Buf (Elt Ideal) ℓ) : Prop :=
  True

def Pre_MDownRefIdeal (m : (ℓ : Loc Cert.MDownRefIdeal.nD Cert.MDownRefIdeal.τ Cert.MDownRefIdeal.sig) → Buf (Elt Ideal) ℓ) : Prop :=
  True

def Pre_ESwiglu (m : (ℓ : Loc Cert.ESwiglu.nD Cert.ESwiglu.τ Cert.ESwiglu.sig) → Buf (Elt Bits) ℓ) : Prop :=
  True

def Pre_ESwigluIdeal (m : (ℓ : Loc Cert.ESwigluIdeal.nD Cert.ESwigluIdeal.τ Cert.ESwigluIdeal.sig) → Buf (Elt Ideal) ℓ) : Prop :=
  True

def Pre_ESwigluIdeal_finite_gate [hPre_finite_gate : Cert.Pre_finite_gate.Facts] (m : (ℓ : Loc Cert.ESwigluIdeal.nD Cert.ESwigluIdeal.τ Cert.ESwigluIdeal.sig) → Buf (Elt Ideal) ℓ) : Prop :=
  ∀ c : Dev Cert.ESwigluIdeal.nD,
    (Cert.Pre_finite_gate.fn (F := Ideal) (m ((c.tc : Thread Cert.ESwigluIdeal.nD Cert.ESwigluIdeal.τ).loc Cert.ESwigluIdeal.main_arg0)) (m ((c.tc : Thread Cert.ESwigluIdeal.nD Cert.ESwigluIdeal.τ).loc Cert.ESwigluIdeal.main_arg1))) = (fun _ => 1#1)

def Pre_ESwigluRefIdeal (m : (ℓ : Loc Cert.ESwigluRefIdeal.nD Cert.ESwigluRefIdeal.τ Cert.ESwigluRefIdeal.sig) → Buf (Elt Ideal) ℓ) : Prop :=
  True

def Pre_ESwigluRefIdeal_finite_gate [hPre_finite_gate : Cert.Pre_finite_gate.Facts] (m : (ℓ : Loc Cert.ESwigluRefIdeal.nD Cert.ESwigluRefIdeal.τ Cert.ESwigluRefIdeal.sig) → Buf (Elt Ideal) ℓ) : Prop :=
  ∀ c : Dev Cert.ESwigluRefIdeal.nD,
    (Cert.Pre_finite_gate.fn (F := Ideal) (m ((c.tc : Thread Cert.ESwigluRefIdeal.nD Cert.ESwigluRefIdeal.τ).loc Cert.ESwigluRefIdeal.main_arg0)) (m ((c.tc : Thread Cert.ESwigluRefIdeal.nD Cert.ESwigluRefIdeal.τ).loc Cert.ESwigluRefIdeal.main_arg1))) = (fun _ => 1#1)

def Pre_EMerge (m : (ℓ : Loc Cert.EMerge.nD Cert.EMerge.τ Cert.EMerge.sig) → Buf (Elt Bits) ℓ) : Prop :=
  True

def Pre_EMergeIdeal (m : (ℓ : Loc Cert.EMergeIdeal.nD Cert.EMergeIdeal.τ Cert.EMergeIdeal.sig) → Buf (Elt Ideal) ℓ) : Prop :=
  True

def Pre_EMergeRefIdeal (m : (ℓ : Loc Cert.EMergeRefIdeal.nD Cert.EMergeRefIdeal.τ Cert.EMergeRefIdeal.sig) → Buf (Elt Ideal) ℓ) : Prop :=
  True

def Pre_FSwiglu (m : (ℓ : Loc Cert.FSwiglu.nD Cert.FSwiglu.τ Cert.FSwiglu.sig) → Buf (Elt Bits) ℓ) : Prop :=
  True

def Pre_FSwigluIdeal (m : (ℓ : Loc Cert.FSwigluIdeal.nD Cert.FSwigluIdeal.τ Cert.FSwigluIdeal.sig) → Buf (Elt Ideal) ℓ) : Prop :=
  True

def Pre_FSwigluRefIdeal (m : (ℓ : Loc Cert.FSwigluRefIdeal.nD Cert.FSwigluRefIdeal.τ Cert.FSwigluRefIdeal.sig) → Buf (Elt Ideal) ℓ) : Prop :=
  True

def Pre_FMerge (m : (ℓ : Loc Cert.FMerge.nD Cert.FMerge.τ Cert.FMerge.sig) → Buf (Elt Bits) ℓ) : Prop :=
  True

def Pre_FMergeIdeal (m : (ℓ : Loc Cert.FMergeIdeal.nD Cert.FMergeIdeal.τ Cert.FMergeIdeal.sig) → Buf (Elt Ideal) ℓ) : Prop :=
  True

def Pre_FMergeRefIdeal (m : (ℓ : Loc Cert.FMergeRefIdeal.nD Cert.FMergeRefIdeal.τ Cert.FMergeRefIdeal.sig) → Buf (Elt Ideal) ℓ) : Prop :=
  True

def Pre_AWIn (m : (ℓ : Loc Cert.AWIn.nD Cert.AWIn.τ Cert.AWIn.sig) → Buf (Elt Bits) ℓ) : Prop :=
  True

def Pre_AWInIdeal (m : (ℓ : Loc Cert.AWInIdeal.nD Cert.AWInIdeal.τ Cert.AWInIdeal.sig) → Buf (Elt Ideal) ℓ) : Prop :=
  True

def Pre_AWInRefIdeal (m : (ℓ : Loc Cert.AWInRefIdeal.nD Cert.AWInRefIdeal.τ Cert.AWInRefIdeal.sig) → Buf (Elt Ideal) ℓ) : Prop :=
  True

def Pre_ABrAtt (m : (ℓ : Loc Cert.ABrAtt.nD Cert.ABrAtt.τ Cert.ABrAtt.sig) → Buf (Elt Bits) ℓ) : Prop :=
  True

def Pre_ABrAttIdeal (m : (ℓ : Loc Cert.ABrAttIdeal.nD Cert.ABrAttIdeal.τ Cert.ABrAttIdeal.sig) → Buf (Elt Ideal) ℓ) : Prop :=
  True

def Pre_ABrAttRefIdeal (m : (ℓ : Loc Cert.ABrAttRefIdeal.nD Cert.ABrAttRefIdeal.τ Cert.ABrAttRefIdeal.sig) → Buf (Elt Ideal) ℓ) : Prop :=
  True

def Pre_ABrSsm (m : (ℓ : Loc Cert.ABrSsm.nD Cert.ABrSsm.τ Cert.ABrSsm.sig) → Buf (Elt Bits) ℓ) : Prop :=
  True

def Pre_ABrSsmIdeal (m : (ℓ : Loc Cert.ABrSsmIdeal.nD Cert.ABrSsmIdeal.τ Cert.ABrSsmIdeal.sig) → Buf (Elt Ideal) ℓ) : Prop :=
  True

def Pre_ABrSsmRefIdeal (m : (ℓ : Loc Cert.ABrSsmRefIdeal.nD Cert.ABrSsmRefIdeal.τ Cert.ABrSsmRefIdeal.sig) → Buf (Elt Ideal) ℓ) : Prop :=
  True

def Pre_AXkv (m : (ℓ : Loc Cert.AXkv.nD Cert.AXkv.τ Cert.AXkv.sig) → Buf (Elt Bits) ℓ) : Prop :=
  True

def Pre_AXkvIdeal (m : (ℓ : Loc Cert.AXkvIdeal.nD Cert.AXkvIdeal.τ Cert.AXkvIdeal.sig) → Buf (Elt Ideal) ℓ) : Prop :=
  True

def Pre_AXkvRefIdeal (m : (ℓ : Loc Cert.AXkvRefIdeal.nD Cert.AXkvRefIdeal.τ Cert.AXkvRefIdeal.sig) → Buf (Elt Ideal) ℓ) : Prop :=
  True

def Pre_AGu (m : (ℓ : Loc Cert.AGu.nD Cert.AGu.τ Cert.AGu.sig) → Buf (Elt Bits) ℓ) : Prop :=
  True

def Pre_AGuIdeal (m : (ℓ : Loc Cert.AGuIdeal.nD Cert.AGuIdeal.τ Cert.AGuIdeal.sig) → Buf (Elt Ideal) ℓ) : Prop :=
  True

def Pre_AGuRefIdeal (m : (ℓ : Loc Cert.AGuRefIdeal.nD Cert.AGuRefIdeal.τ Cert.AGuRefIdeal.sig) → Buf (Elt Ideal) ℓ) : Prop :=
  True

def Pre_ADown (m : (ℓ : Loc Cert.ADown.nD Cert.ADown.τ Cert.ADown.sig) → Buf (Elt Bits) ℓ) : Prop :=
  True

def Pre_ADownIdeal (m : (ℓ : Loc Cert.ADownIdeal.nD Cert.ADownIdeal.τ Cert.ADownIdeal.sig) → Buf (Elt Ideal) ℓ) : Prop :=
  True

def Pre_ADownRefIdeal (m : (ℓ : Loc Cert.ADownRefIdeal.nD Cert.ADownRefIdeal.τ Cert.ADownRefIdeal.sig) → Buf (Elt Ideal) ℓ) : Prop :=
  True

def Pre_AConv (m : (ℓ : Loc Cert.AConv.nD Cert.AConv.τ Cert.AConv.sig) → Buf (Elt Bits) ℓ) : Prop :=
  True

def Pre_AConvIdeal (m : (ℓ : Loc Cert.AConvIdeal.nD Cert.AConvIdeal.τ Cert.AConvIdeal.sig) → Buf (Elt Ideal) ℓ) : Prop :=
  True

def Pre_AConvRefIdeal (m : (ℓ : Loc Cert.AConvRefIdeal.nD Cert.AConvRefIdeal.τ Cert.AConvRefIdeal.sig) → Buf (Elt Ideal) ℓ) : Prop :=
  True

def Pre_ASmall (m : (ℓ : Loc Cert.ASmall.nD Cert.ASmall.τ Cert.ASmall.sig) → Buf (Elt Bits) ℓ) : Prop :=
  True

def Pre_ASmallIdeal (m : (ℓ : Loc Cert.ASmallIdeal.nD Cert.ASmallIdeal.τ Cert.ASmallIdeal.sig) → Buf (Elt Ideal) ℓ) : Prop :=
  True

def Pre_ASmallRefIdeal (m : (ℓ : Loc Cert.ASmallRefIdeal.nD Cert.ASmallRefIdeal.τ Cert.ASmallRefIdeal.sig) → Buf (Elt Ideal) ℓ) : Prop :=
  True

def Pre_EPre (m : (ℓ : Loc Cert.EPre.nD Cert.EPre.τ Cert.EPre.sig) → Buf (Elt Bits) ℓ) : Prop :=
  True

def Pre_EPreIdeal (m : (ℓ : Loc Cert.EPreIdeal.nD Cert.EPreIdeal.τ Cert.EPreIdeal.sig) → Buf (Elt Ideal) ℓ) : Prop :=
  True

def Pre_EPreRefIdeal (m : (ℓ : Loc Cert.EPreRefIdeal.nD Cert.EPreRefIdeal.τ Cert.EPreRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DH3 [hDH3 : Cert.DH3.Facts] : Prop :=
  ∀ (m : (ℓ : Loc Cert.DH3.nD Cert.DH3.τ Cert.DH3.sig) → Buf (Elt Bits) ℓ) (g : Dev Cert.DH3.nD → PrngReg), Pre_DH3 m →
    θ_run (Cert.DH3.defs (F := Bits)) (onTc (τ := Cert.DH3.τ) (Cert.DH3.main (F := Bits))) ⟨m, fun _ => 0, g⟩ (fun r => (∀ c : Dev Cert.DH3.nD,
      r.2.mem ((c.tc : Thread Cert.DH3.nD Cert.DH3.τ).loc Cert.DH3.main_arg0) = m ((c.tc : Thread Cert.DH3.nD Cert.DH3.τ).loc Cert.DH3.main_arg0)
      ∧ r.2.mem ((c.tc : Thread Cert.DH3.nD Cert.DH3.τ).loc Cert.DH3.main_arg1) = m ((c.tc : Thread Cert.DH3.nD Cert.DH3.τ).loc Cert.DH3.main_arg1))
      ∧ r.2.sem = fun _ => 0)

def quiescent_DH3Ideal [hDH3Ideal : Cert.DH3Ideal.Facts] : Prop :=
  ∀ (m : (ℓ : Loc Cert.DH3Ideal.nD Cert.DH3Ideal.τ Cert.DH3Ideal.sig) → Buf (Elt Ideal) ℓ) (g : Dev Cert.DH3Ideal.nD → PrngReg), Pre_DH3Ideal m →
    θ_run (Cert.DH3Ideal.defs (F := Ideal)) (onTc (τ := Cert.DH3Ideal.τ) (Cert.DH3Ideal.main (F := Ideal))) ⟨m, fun _ => 0, g⟩ (fun r => (∀ c : Dev Cert.DH3Ideal.nD,
      r.2.mem ((c.tc : Thread Cert.DH3Ideal.nD Cert.DH3Ideal.τ).loc Cert.DH3Ideal.main_arg0) = m ((c.tc : Thread Cert.DH3Ideal.nD Cert.DH3Ideal.τ).loc Cert.DH3Ideal.main_arg0)
      ∧ r.2.mem ((c.tc : Thread Cert.DH3Ideal.nD Cert.DH3Ideal.τ).loc Cert.DH3Ideal.main_arg1) = m ((c.tc : Thread Cert.DH3Ideal.nD Cert.DH3Ideal.τ).loc Cert.DH3Ideal.main_arg1))
      ∧ r.2.sem = fun _ => 0)

def quiescent_DH3RefIdeal [hDH3RefIdeal : Cert.DH3RefIdeal.Facts] : Prop :=
  ∀ (m : (ℓ : Loc Cert.DH3RefIdeal.nD Cert.DH3RefIdeal.τ Cert.DH3RefIdeal.sig) → Buf (Elt Ideal) ℓ) (g : Dev Cert.DH3RefIdeal.nD → PrngReg), Pre_DH3RefIdeal m →
    θ_run (Cert.DH3RefIdeal.defs (F := Ideal)) (onTc (τ := Cert.DH3RefIdeal.τ) (Cert.DH3RefIdeal.main (F := Ideal))) ⟨m, fun _ => 0, g⟩ (fun r => (∀ c : Dev Cert.DH3RefIdeal.nD,
      r.2.mem ((c.tc : Thread Cert.DH3RefIdeal.nD Cert.DH3RefIdeal.τ).loc Cert.DH3RefIdeal.main_arg0) = m ((c.tc : Thread Cert.DH3RefIdeal.nD Cert.DH3RefIdeal.τ).loc Cert.DH3RefIdeal.main_arg0)
      ∧ r.2.mem ((c.tc : Thread Cert.DH3RefIdeal.nD Cert.DH3RefIdeal.τ).loc Cert.DH3RefIdeal.main_arg1) = m ((c.tc : Thread Cert.DH3RefIdeal.nD Cert.DH3RefIdeal.τ).loc Cert.DH3RefIdeal.main_arg1))
      ∧ r.2.sem = fun _ => 0)

def quiescent_DWGu [hDWGu : Cert.DWGu.Facts] : Prop :=
  ∀ (m : (ℓ : Loc Cert.DWGu.nD Cert.DWGu.τ Cert.DWGu.sig) → Buf (Elt Bits) ℓ) (g : Dev Cert.DWGu.nD → PrngReg), Pre_DWGu m →
    θ_run (Cert.DWGu.defs (F := Bits)) (onTc (τ := Cert.DWGu.τ) (Cert.DWGu.main (F := Bits))) ⟨m, fun _ => 0, g⟩ (fun r => (∀ c : Dev Cert.DWGu.nD,
      r.2.mem ((c.tc : Thread Cert.DWGu.nD Cert.DWGu.τ).loc Cert.DWGu.main_arg0) = m ((c.tc : Thread Cert.DWGu.nD Cert.DWGu.τ).loc Cert.DWGu.main_arg0)
      ∧ r.2.mem ((c.tc : Thread Cert.DWGu.nD Cert.DWGu.τ).loc Cert.DWGu.main_arg1) = m ((c.tc : Thread Cert.DWGu.nD Cert.DWGu.τ).loc Cert.DWGu.main_arg1))
      ∧ r.2.sem = fun _ => 0)

def quiescent_DWGuIdeal [hDWGuIdeal : Cert.DWGuIdeal.Facts] : Prop :=
  ∀ (m : (ℓ : Loc Cert.DWGuIdeal.nD Cert.DWGuIdeal.τ Cert.DWGuIdeal.sig) → Buf (Elt Ideal) ℓ) (g : Dev Cert.DWGuIdeal.nD → PrngReg), Pre_DWGuIdeal m →
    θ_run (Cert.DWGuIdeal.defs (F := Ideal)) (onTc (τ := Cert.DWGuIdeal.τ) (Cert.DWGuIdeal.main (F := Ideal))) ⟨m, fun _ => 0, g⟩ (fun r => (∀ c : Dev Cert.DWGuIdeal.nD,
      r.2.mem ((c.tc : Thread Cert.DWGuIdeal.nD Cert.DWGuIdeal.τ).loc Cert.DWGuIdeal.main_arg0) = m ((c.tc : Thread Cert.DWGuIdeal.nD Cert.DWGuIdeal.τ).loc Cert.DWGuIdeal.main_arg0)
      ∧ r.2.mem ((c.tc : Thread Cert.DWGuIdeal.nD Cert.DWGuIdeal.τ).loc Cert.DWGuIdeal.main_arg1) = m ((c.tc : Thread Cert.DWGuIdeal.nD Cert.DWGuIdeal.τ).loc Cert.DWGuIdeal.main_arg1))
      ∧ r.2.sem = fun _ => 0)

def quiescent_DWGuRefIdeal [hDWGuRefIdeal : Cert.DWGuRefIdeal.Facts] : Prop :=
  ∀ (m : (ℓ : Loc Cert.DWGuRefIdeal.nD Cert.DWGuRefIdeal.τ Cert.DWGuRefIdeal.sig) → Buf (Elt Ideal) ℓ) (g : Dev Cert.DWGuRefIdeal.nD → PrngReg), Pre_DWGuRefIdeal m →
    θ_run (Cert.DWGuRefIdeal.defs (F := Ideal)) (onTc (τ := Cert.DWGuRefIdeal.τ) (Cert.DWGuRefIdeal.main (F := Ideal))) ⟨m, fun _ => 0, g⟩ (fun r => (∀ c : Dev Cert.DWGuRefIdeal.nD,
      r.2.mem ((c.tc : Thread Cert.DWGuRefIdeal.nD Cert.DWGuRefIdeal.τ).loc Cert.DWGuRefIdeal.main_arg0) = m ((c.tc : Thread Cert.DWGuRefIdeal.nD Cert.DWGuRefIdeal.τ).loc Cert.DWGuRefIdeal.main_arg0)
      ∧ r.2.mem ((c.tc : Thread Cert.DWGuRefIdeal.nD Cert.DWGuRefIdeal.τ).loc Cert.DWGuRefIdeal.main_arg1) = m ((c.tc : Thread Cert.DWGuRefIdeal.nD Cert.DWGuRefIdeal.τ).loc Cert.DWGuRefIdeal.main_arg1))
      ∧ r.2.sem = fun _ => 0)

def quiescent_DOxa [hDOxa : Cert.DOxa.Facts] : Prop :=
  ∀ (m : (ℓ : Loc Cert.DOxa.nD Cert.DOxa.τ Cert.DOxa.sig) → Buf (Elt Bits) ℓ) (g : Dev Cert.DOxa.nD → PrngReg), Pre_DOxa m →
    θ_run (Cert.DOxa.defs (F := Bits)) (onTc (τ := Cert.DOxa.τ) (Cert.DOxa.main (F := Bits))) ⟨m, fun _ => 0, g⟩ (fun r => (∀ c : Dev Cert.DOxa.nD,
      r.2.mem ((c.tc : Thread Cert.DOxa.nD Cert.DOxa.τ).loc Cert.DOxa.main_arg0) = m ((c.tc : Thread Cert.DOxa.nD Cert.DOxa.τ).loc Cert.DOxa.main_arg0)
      ∧ r.2.mem ((c.tc : Thread Cert.DOxa.nD Cert.DOxa.τ).loc Cert.DOxa.main_arg1) = m ((c.tc : Thread Cert.DOxa.nD Cert.DOxa.τ).loc Cert.DOxa.main_arg1))
      ∧ r.2.sem = fun _ => 0)

def quiescent_DOxaIdeal [hDOxaIdeal : Cert.DOxaIdeal.Facts] : Prop :=
  ∀ (m : (ℓ : Loc Cert.DOxaIdeal.nD Cert.DOxaIdeal.τ Cert.DOxaIdeal.sig) → Buf (Elt Ideal) ℓ) (g : Dev Cert.DOxaIdeal.nD → PrngReg), Pre_DOxaIdeal m →
    θ_run (Cert.DOxaIdeal.defs (F := Ideal)) (onTc (τ := Cert.DOxaIdeal.τ) (Cert.DOxaIdeal.main (F := Ideal))) ⟨m, fun _ => 0, g⟩ (fun r => (∀ c : Dev Cert.DOxaIdeal.nD,
      r.2.mem ((c.tc : Thread Cert.DOxaIdeal.nD Cert.DOxaIdeal.τ).loc Cert.DOxaIdeal.main_arg0) = m ((c.tc : Thread Cert.DOxaIdeal.nD Cert.DOxaIdeal.τ).loc Cert.DOxaIdeal.main_arg0)
      ∧ r.2.mem ((c.tc : Thread Cert.DOxaIdeal.nD Cert.DOxaIdeal.τ).loc Cert.DOxaIdeal.main_arg1) = m ((c.tc : Thread Cert.DOxaIdeal.nD Cert.DOxaIdeal.τ).loc Cert.DOxaIdeal.main_arg1))
      ∧ r.2.sem = fun _ => 0)

def quiescent_DOxaRefIdeal [hDOxaRefIdeal : Cert.DOxaRefIdeal.Facts] : Prop :=
  ∀ (m : (ℓ : Loc Cert.DOxaRefIdeal.nD Cert.DOxaRefIdeal.τ Cert.DOxaRefIdeal.sig) → Buf (Elt Ideal) ℓ) (g : Dev Cert.DOxaRefIdeal.nD → PrngReg), Pre_DOxaRefIdeal m →
    θ_run (Cert.DOxaRefIdeal.defs (F := Ideal)) (onTc (τ := Cert.DOxaRefIdeal.τ) (Cert.DOxaRefIdeal.main (F := Ideal))) ⟨m, fun _ => 0, g⟩ (fun r => (∀ c : Dev Cert.DOxaRefIdeal.nD,
      r.2.mem ((c.tc : Thread Cert.DOxaRefIdeal.nD Cert.DOxaRefIdeal.τ).loc Cert.DOxaRefIdeal.main_arg0) = m ((c.tc : Thread Cert.DOxaRefIdeal.nD Cert.DOxaRefIdeal.τ).loc Cert.DOxaRefIdeal.main_arg0)
      ∧ r.2.mem ((c.tc : Thread Cert.DOxaRefIdeal.nD Cert.DOxaRefIdeal.τ).loc Cert.DOxaRefIdeal.main_arg1) = m ((c.tc : Thread Cert.DOxaRefIdeal.nD Cert.DOxaRefIdeal.τ).loc Cert.DOxaRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_DWXo [hDWXo : Cert.DWXo.Facts] : Prop :=
  ∀ (m : (ℓ : Loc Cert.DWXo.nD Cert.DWXo.τ Cert.DWXo.sig) → Buf (Elt Bits) ℓ) (g : Dev Cert.DWXo.nD → PrngReg), Pre_DWXo m →
    θ_run (Cert.DWXo.defs (F := Bits)) (onTc (τ := Cert.DWXo.τ) (Cert.DWXo.main (F := Bits))) ⟨m, fun _ => 0, g⟩ (fun r => (∀ c : Dev Cert.DWXo.nD,
      r.2.mem ((c.tc : Thread Cert.DWXo.nD Cert.DWXo.τ).loc Cert.DWXo.main_arg0) = m ((c.tc : Thread Cert.DWXo.nD Cert.DWXo.τ).loc Cert.DWXo.main_arg0)
      ∧ r.2.mem ((c.tc : Thread Cert.DWXo.nD Cert.DWXo.τ).loc Cert.DWXo.main_arg1) = m ((c.tc : Thread Cert.DWXo.nD Cert.DWXo.τ).loc Cert.DWXo.main_arg1))
      ∧ r.2.sem = fun _ => 0)

def quiescent_DWXoIdeal [hDWXoIdeal : Cert.DWXoIdeal.Facts] : Prop :=
  ∀ (m : (ℓ : Loc Cert.DWXoIdeal.nD Cert.DWXoIdeal.τ Cert.DWXoIdeal.sig) → Buf (Elt Ideal) ℓ) (g : Dev Cert.DWXoIdeal.nD → PrngReg), Pre_DWXoIdeal m →
    θ_run (Cert.DWXoIdeal.defs (F := Ideal)) (onTc (τ := Cert.DWXoIdeal.τ) (Cert.DWXoIdeal.main (F := Ideal))) ⟨m, fun _ => 0, g⟩ (fun r => (∀ c : Dev Cert.DWXoIdeal.nD,
      r.2.mem ((c.tc : Thread Cert.DWXoIdeal.nD Cert.DWXoIdeal.τ).loc Cert.DWXoIdeal.main_arg0) = m ((c.tc : Thread Cert.DWXoIdeal.nD Cert.DWXoIdeal.τ).loc Cert.DWXoIdeal.main_arg0)
      ∧ r.2.mem ((c.tc : Thread Cert.DWXoIdeal.nD Cert.DWXoIdeal.τ).loc Cert.DWXoIdeal.main_arg1) = m ((c.tc : Thread Cert.DWXoIdeal.nD Cert.DWXoIdeal.τ).loc Cert.DWXoIdeal.main_arg1))
      ∧ r.2.sem = fun _ => 0)

def quiescent_DWXoRefIdeal [hDWXoRefIdeal : Cert.DWXoRefIdeal.Facts] : Prop :=
  ∀ (m : (ℓ : Loc Cert.DWXoRefIdeal.nD Cert.DWXoRefIdeal.τ Cert.DWXoRefIdeal.sig) → Buf (Elt Ideal) ℓ) (g : Dev Cert.DWXoRefIdeal.nD → PrngReg), Pre_DWXoRefIdeal m →
    θ_run (Cert.DWXoRefIdeal.defs (F := Ideal)) (onTc (τ := Cert.DWXoRefIdeal.τ) (Cert.DWXoRefIdeal.main (F := Ideal))) ⟨m, fun _ => 0, g⟩ (fun r => (∀ c : Dev Cert.DWXoRefIdeal.nD,
      r.2.mem ((c.tc : Thread Cert.DWXoRefIdeal.nD Cert.DWXoRefIdeal.τ).loc Cert.DWXoRefIdeal.main_arg0) = m ((c.tc : Thread Cert.DWXoRefIdeal.nD Cert.DWXoRefIdeal.τ).loc Cert.DWXoRefIdeal.main_arg0)
      ∧ r.2.mem ((c.tc : Thread Cert.DWXoRefIdeal.nD Cert.DWXoRefIdeal.τ).loc Cert.DWXoRefIdeal.main_arg1) = m ((c.tc : Thread Cert.DWXoRefIdeal.nD Cert.DWXoRefIdeal.τ).loc Cert.DWXoRefIdeal.main_arg1))
      ∧ r.2.sem = fun _ => 0)

def quiescent_DMem [hDMem : Cert.DMem.Facts] : Prop :=
  ∀ (m : (ℓ : Loc Cert.DMem.nD Cert.DMem.τ Cert.DMem.sig) → Buf (Elt Bits) ℓ) (g : Dev Cert.DMem.nD → PrngReg), Pre_DMem m →
    θ_run (Cert.DMem.defs (F := Bits)) (onTc (τ := Cert.DMem.τ) (Cert.DMem.main (F := Bits))) ⟨m, fun _ => 0, g⟩ (fun r => (∀ c : Dev Cert.DMem.nD,
      r.2.mem ((c.tc : Thread Cert.DMem.nD Cert.DMem.τ).loc Cert.DMem.main_arg0) = m ((c.tc : Thread Cert.DMem.nD Cert.DMem.τ).loc Cert.DMem.main_arg0)
      ∧ r.2.mem ((c.tc : Thread Cert.DMem.nD Cert.DMem.τ).loc Cert.DMem.main_arg1) = m ((c.tc : Thread Cert.DMem.nD Cert.DMem.τ).loc Cert.DMem.main_arg1))
      ∧ r.2.sem = fun _ => 0)

def quiescent_DMemIdeal [hDMemIdeal : Cert.DMemIdeal.Facts] : Prop :=
  ∀ (m : (ℓ : Loc Cert.DMemIdeal.nD Cert.DMemIdeal.τ Cert.DMemIdeal.sig) → Buf (Elt Ideal) ℓ) (g : Dev Cert.DMemIdeal.nD → PrngReg), Pre_DMemIdeal m →
    θ_run (Cert.DMemIdeal.defs (F := Ideal)) (onTc (τ := Cert.DMemIdeal.τ) (Cert.DMemIdeal.main (F := Ideal))) ⟨m, fun _ => 0, g⟩ (fun r => (∀ c : Dev Cert.DMemIdeal.nD,
      r.2.mem ((c.tc : Thread Cert.DMemIdeal.nD Cert.DMemIdeal.τ).loc Cert.DMemIdeal.main_arg0) = m ((c.tc : Thread Cert.DMemIdeal.nD Cert.DMemIdeal.τ).loc Cert.DMemIdeal.main_arg0)
      ∧ r.2.mem ((c.tc : Thread Cert.DMemIdeal.nD Cert.DMemIdeal.τ).loc Cert.DMemIdeal.main_arg1) = m ((c.tc : Thread Cert.DMemIdeal.nD Cert.DMemIdeal.τ).loc Cert.DMemIdeal.main_arg1))
      ∧ r.2.sem = fun _ => 0)

def quiescent_DMemRefIdeal [hDMemRefIdeal : Cert.DMemRefIdeal.Facts] : Prop :=
  ∀ (m : (ℓ : Loc Cert.DMemRefIdeal.nD Cert.DMemRefIdeal.τ Cert.DMemRefIdeal.sig) → Buf (Elt Ideal) ℓ) (g : Dev Cert.DMemRefIdeal.nD → PrngReg), Pre_DMemRefIdeal m →
    θ_run (Cert.DMemRefIdeal.defs (F := Ideal)) (onTc (τ := Cert.DMemRefIdeal.τ) (Cert.DMemRefIdeal.main (F := Ideal))) ⟨m, fun _ => 0, g⟩ (fun r => (∀ c : Dev Cert.DMemRefIdeal.nD,
      r.2.mem ((c.tc : Thread Cert.DMemRefIdeal.nD Cert.DMemRefIdeal.τ).loc Cert.DMemRefIdeal.main_arg0) = m ((c.tc : Thread Cert.DMemRefIdeal.nD Cert.DMemRefIdeal.τ).loc Cert.DMemRefIdeal.main_arg0)
      ∧ r.2.mem ((c.tc : Thread Cert.DMemRefIdeal.nD Cert.DMemRefIdeal.τ).loc Cert.DMemRefIdeal.main_arg1) = m ((c.tc : Thread Cert.DMemRefIdeal.nD Cert.DMemRefIdeal.τ).loc Cert.DMemRefIdeal.main_arg1))
      ∧ r.2.sem = fun _ => 0)

def quiescent_DWXkv [hDWXkv : Cert.DWXkv.Facts] : Prop :=
  ∀ (m : (ℓ : Loc Cert.DWXkv.nD Cert.DWXkv.τ Cert.DWXkv.sig) → Buf (Elt Bits) ℓ) (g : Dev Cert.DWXkv.nD → PrngReg), Pre_DWXkv m →
    θ_run (Cert.DWXkv.defs (F := Bits)) (onTc (τ := Cert.DWXkv.τ) (Cert.DWXkv.main (F := Bits))) ⟨m, fun _ => 0, g⟩ (fun r => (∀ c : Dev Cert.DWXkv.nD,
      r.2.mem ((c.tc : Thread Cert.DWXkv.nD Cert.DWXkv.τ).loc Cert.DWXkv.main_arg0) = m ((c.tc : Thread Cert.DWXkv.nD Cert.DWXkv.τ).loc Cert.DWXkv.main_arg0)
      ∧ r.2.mem ((c.tc : Thread Cert.DWXkv.nD Cert.DWXkv.τ).loc Cert.DWXkv.main_arg1) = m ((c.tc : Thread Cert.DWXkv.nD Cert.DWXkv.τ).loc Cert.DWXkv.main_arg1))
      ∧ r.2.sem = fun _ => 0)

def quiescent_DWXkvIdeal [hDWXkvIdeal : Cert.DWXkvIdeal.Facts] : Prop :=
  ∀ (m : (ℓ : Loc Cert.DWXkvIdeal.nD Cert.DWXkvIdeal.τ Cert.DWXkvIdeal.sig) → Buf (Elt Ideal) ℓ) (g : Dev Cert.DWXkvIdeal.nD → PrngReg), Pre_DWXkvIdeal m →
    θ_run (Cert.DWXkvIdeal.defs (F := Ideal)) (onTc (τ := Cert.DWXkvIdeal.τ) (Cert.DWXkvIdeal.main (F := Ideal))) ⟨m, fun _ => 0, g⟩ (fun r => (∀ c : Dev Cert.DWXkvIdeal.nD,
      r.2.mem ((c.tc : Thread Cert.DWXkvIdeal.nD Cert.DWXkvIdeal.τ).loc Cert.DWXkvIdeal.main_arg0) = m ((c.tc : Thread Cert.DWXkvIdeal.nD Cert.DWXkvIdeal.τ).loc Cert.DWXkvIdeal.main_arg0)
      ∧ r.2.mem ((c.tc : Thread Cert.DWXkvIdeal.nD Cert.DWXkvIdeal.τ).loc Cert.DWXkvIdeal.main_arg1) = m ((c.tc : Thread Cert.DWXkvIdeal.nD Cert.DWXkvIdeal.τ).loc Cert.DWXkvIdeal.main_arg1))
      ∧ r.2.sem = fun _ => 0)

def quiescent_DWXkvRefIdeal [hDWXkvRefIdeal : Cert.DWXkvRefIdeal.Facts] : Prop :=
  ∀ (m : (ℓ : Loc Cert.DWXkvRefIdeal.nD Cert.DWXkvRefIdeal.τ Cert.DWXkvRefIdeal.sig) → Buf (Elt Ideal) ℓ) (g : Dev Cert.DWXkvRefIdeal.nD → PrngReg), Pre_DWXkvRefIdeal m →
    θ_run (Cert.DWXkvRefIdeal.defs (F := Ideal)) (onTc (τ := Cert.DWXkvRefIdeal.τ) (Cert.DWXkvRefIdeal.main (F := Ideal))) ⟨m, fun _ => 0, g⟩ (fun r => (∀ c : Dev Cert.DWXkvRefIdeal.nD,
      r.2.mem ((c.tc : Thread Cert.DWXkvRefIdeal.nD Cert.DWXkvRefIdeal.τ).loc Cert.DWXkvRefIdeal.main_arg0) = m ((c.tc : Thread Cert.DWXkvRefIdeal.nD Cert.DWXkvRefIdeal.τ).loc Cert.DWXkvRefIdeal.main_arg0)
      ∧ r.2.mem ((c.tc : Thread Cert.DWXkvRefIdeal.nD Cert.DWXkvRefIdeal.τ).loc Cert.DWXkvRefIdeal.main_arg1) = m ((c.tc : Thread Cert.DWXkvRefIdeal.nD Cert.DWXkvRefIdeal.τ).loc Cert.DWXkvRefIdeal.main_arg1))
      ∧ r.2.sem = fun _ => 0)

def quiescent_DWAtt [hDWAtt : Cert.DWAtt.Facts] : Prop :=
  ∀ (m : (ℓ : Loc Cert.DWAtt.nD Cert.DWAtt.τ Cert.DWAtt.sig) → Buf (Elt Bits) ℓ) (g : Dev Cert.DWAtt.nD → PrngReg), Pre_DWAtt m →
    θ_run (Cert.DWAtt.defs (F := Bits)) (onTc (τ := Cert.DWAtt.τ) (Cert.DWAtt.main (F := Bits))) ⟨m, fun _ => 0, g⟩ (fun r => (∀ c : Dev Cert.DWAtt.nD,
      r.2.mem ((c.tc : Thread Cert.DWAtt.nD Cert.DWAtt.τ).loc Cert.DWAtt.main_arg0) = m ((c.tc : Thread Cert.DWAtt.nD Cert.DWAtt.τ).loc Cert.DWAtt.main_arg0)
      ∧ r.2.mem ((c.tc : Thread Cert.DWAtt.nD Cert.DWAtt.τ).loc Cert.DWAtt.main_arg1) = m ((c.tc : Thread Cert.DWAtt.nD Cert.DWAtt.τ).loc Cert.DWAtt.main_arg1))
      ∧ r.2.sem = fun _ => 0)

def quiescent_DWAttIdeal [hDWAttIdeal : Cert.DWAttIdeal.Facts] : Prop :=
  ∀ (m : (ℓ : Loc Cert.DWAttIdeal.nD Cert.DWAttIdeal.τ Cert.DWAttIdeal.sig) → Buf (Elt Ideal) ℓ) (g : Dev Cert.DWAttIdeal.nD → PrngReg), Pre_DWAttIdeal m →
    θ_run (Cert.DWAttIdeal.defs (F := Ideal)) (onTc (τ := Cert.DWAttIdeal.τ) (Cert.DWAttIdeal.main (F := Ideal))) ⟨m, fun _ => 0, g⟩ (fun r => (∀ c : Dev Cert.DWAttIdeal.nD,
      r.2.mem ((c.tc : Thread Cert.DWAttIdeal.nD Cert.DWAttIdeal.τ).loc Cert.DWAttIdeal.main_arg0) = m ((c.tc : Thread Cert.DWAttIdeal.nD Cert.DWAttIdeal.τ).loc Cert.DWAttIdeal.main_arg0)
      ∧ r.2.mem ((c.tc : Thread Cert.DWAttIdeal.nD Cert.DWAttIdeal.τ).loc Cert.DWAttIdeal.main_arg1) = m ((c.tc : Thread Cert.DWAttIdeal.nD Cert.DWAttIdeal.τ).loc Cert.DWAttIdeal.main_arg1))
      ∧ r.2.sem = fun _ => 0)

def quiescent_DWAttRefIdeal [hDWAttRefIdeal : Cert.DWAttRefIdeal.Facts] : Prop :=
  ∀ (m : (ℓ : Loc Cert.DWAttRefIdeal.nD Cert.DWAttRefIdeal.τ Cert.DWAttRefIdeal.sig) → Buf (Elt Ideal) ℓ) (g : Dev Cert.DWAttRefIdeal.nD → PrngReg), Pre_DWAttRefIdeal m →
    θ_run (Cert.DWAttRefIdeal.defs (F := Ideal)) (onTc (τ := Cert.DWAttRefIdeal.τ) (Cert.DWAttRefIdeal.main (F := Ideal))) ⟨m, fun _ => 0, g⟩ (fun r => (∀ c : Dev Cert.DWAttRefIdeal.nD,
      r.2.mem ((c.tc : Thread Cert.DWAttRefIdeal.nD Cert.DWAttRefIdeal.τ).loc Cert.DWAttRefIdeal.main_arg0) = m ((c.tc : Thread Cert.DWAttRefIdeal.nD Cert.DWAttRefIdeal.τ).loc Cert.DWAttRefIdeal.main_arg0)
      ∧ r.2.mem ((c.tc : Thread Cert.DWAttRefIdeal.nD Cert.DWAttRefIdeal.τ).loc Cert.DWAttRefIdeal.main_arg1) = m ((c.tc : Thread Cert.DWAttRefIdeal.nD Cert.DWAttRefIdeal.τ).loc Cert.DWAttRefIdeal.main_arg1))
      ∧ r.2.sem = fun _ => 0)

def quiescent_DOssm [hDOssm : Cert.DOssm.Facts] : Prop :=
  ∀ (m : (ℓ : Loc Cert.DOssm.nD Cert.DOssm.τ Cert.DOssm.sig) → Buf (Elt Bits) ℓ) (g : Dev Cert.DOssm.nD → PrngReg), Pre_DOssm m →
    θ_run (Cert.DOssm.defs (F := Bits)) (onTc (τ := Cert.DOssm.τ) (Cert.DOssm.main (F := Bits))) ⟨m, fun _ => 0, g⟩ (fun r => (∀ c : Dev Cert.DOssm.nD,
      r.2.mem ((c.tc : Thread Cert.DOssm.nD Cert.DOssm.τ).loc Cert.DOssm.main_arg0) = m ((c.tc : Thread Cert.DOssm.nD Cert.DOssm.τ).loc Cert.DOssm.main_arg0)
      ∧ r.2.mem ((c.tc : Thread Cert.DOssm.nD Cert.DOssm.τ).loc Cert.DOssm.main_arg1) = m ((c.tc : Thread Cert.DOssm.nD Cert.DOssm.τ).loc Cert.DOssm.main_arg1))
      ∧ r.2.sem = fun _ => 0)

def quiescent_DOssmIdeal [hDOssmIdeal : Cert.DOssmIdeal.Facts] : Prop :=
  ∀ (m : (ℓ : Loc Cert.DOssmIdeal.nD Cert.DOssmIdeal.τ Cert.DOssmIdeal.sig) → Buf (Elt Ideal) ℓ) (g : Dev Cert.DOssmIdeal.nD → PrngReg), Pre_DOssmIdeal m →
    θ_run (Cert.DOssmIdeal.defs (F := Ideal)) (onTc (τ := Cert.DOssmIdeal.τ) (Cert.DOssmIdeal.main (F := Ideal))) ⟨m, fun _ => 0, g⟩ (fun r => (∀ c : Dev Cert.DOssmIdeal.nD,
      r.2.mem ((c.tc : Thread Cert.DOssmIdeal.nD Cert.DOssmIdeal.τ).loc Cert.DOssmIdeal.main_arg0) = m ((c.tc : Thread Cert.DOssmIdeal.nD Cert.DOssmIdeal.τ).loc Cert.DOssmIdeal.main_arg0)
      ∧ r.2.mem ((c.tc : Thread Cert.DOssmIdeal.nD Cert.DOssmIdeal.τ).loc Cert.DOssmIdeal.main_arg1) = m ((c.tc : Thread Cert.DOssmIdeal.nD Cert.DOssmIdeal.τ).loc Cert.DOssmIdeal.main_arg1))
      ∧ r.2.sem = fun _ => 0)

def quiescent_DOssmRefIdeal [hDOssmRefIdeal : Cert.DOssmRefIdeal.Facts] : Prop :=
  ∀ (m : (ℓ : Loc Cert.DOssmRefIdeal.nD Cert.DOssmRefIdeal.τ Cert.DOssmRefIdeal.sig) → Buf (Elt Ideal) ℓ) (g : Dev Cert.DOssmRefIdeal.nD → PrngReg), Pre_DOssmRefIdeal m →
    θ_run (Cert.DOssmRefIdeal.defs (F := Ideal)) (onTc (τ := Cert.DOssmRefIdeal.τ) (Cert.DOssmRefIdeal.main (F := Ideal))) ⟨m, fun _ => 0, g⟩ (fun r => (∀ c : Dev Cert.DOssmRefIdeal.nD,
      r.2.mem ((c.tc : Thread Cert.DOssmRefIdeal.nD Cert.DOssmRefIdeal.τ).loc Cert.DOssmRefIdeal.main_arg0) = m ((c.tc : Thread Cert.DOssmRefIdeal.nD Cert.DOssmRefIdeal.τ).loc Cert.DOssmRefIdeal.main_arg0)
      ∧ r.2.mem ((c.tc : Thread Cert.DOssmRefIdeal.nD Cert.DOssmRefIdeal.τ).loc Cert.DOssmRefIdeal.main_arg1) = m ((c.tc : Thread Cert.DOssmRefIdeal.nD Cert.DOssmRefIdeal.τ).loc Cert.DOssmRefIdeal.main_arg1))
      ∧ r.2.sem = fun _ => 0)

def quiescent_DWSsm [hDWSsm : Cert.DWSsm.Facts] : Prop :=
  ∀ (m : (ℓ : Loc Cert.DWSsm.nD Cert.DWSsm.τ Cert.DWSsm.sig) → Buf (Elt Bits) ℓ) (g : Dev Cert.DWSsm.nD → PrngReg), Pre_DWSsm m →
    θ_run (Cert.DWSsm.defs (F := Bits)) (onTc (τ := Cert.DWSsm.τ) (Cert.DWSsm.main (F := Bits))) ⟨m, fun _ => 0, g⟩ (fun r => (∀ c : Dev Cert.DWSsm.nD,
      r.2.mem ((c.tc : Thread Cert.DWSsm.nD Cert.DWSsm.τ).loc Cert.DWSsm.main_arg0) = m ((c.tc : Thread Cert.DWSsm.nD Cert.DWSsm.τ).loc Cert.DWSsm.main_arg0)
      ∧ r.2.mem ((c.tc : Thread Cert.DWSsm.nD Cert.DWSsm.τ).loc Cert.DWSsm.main_arg1) = m ((c.tc : Thread Cert.DWSsm.nD Cert.DWSsm.τ).loc Cert.DWSsm.main_arg1))
      ∧ r.2.sem = fun _ => 0)

def quiescent_DWSsmIdeal [hDWSsmIdeal : Cert.DWSsmIdeal.Facts] : Prop :=
  ∀ (m : (ℓ : Loc Cert.DWSsmIdeal.nD Cert.DWSsmIdeal.τ Cert.DWSsmIdeal.sig) → Buf (Elt Ideal) ℓ) (g : Dev Cert.DWSsmIdeal.nD → PrngReg), Pre_DWSsmIdeal m →
    θ_run (Cert.DWSsmIdeal.defs (F := Ideal)) (onTc (τ := Cert.DWSsmIdeal.τ) (Cert.DWSsmIdeal.main (F := Ideal))) ⟨m, fun _ => 0, g⟩ (fun r => (∀ c : Dev Cert.DWSsmIdeal.nD,
      r.2.mem ((c.tc : Thread Cert.DWSsmIdeal.nD Cert.DWSsmIdeal.τ).loc Cert.DWSsmIdeal.main_arg0) = m ((c.tc : Thread Cert.DWSsmIdeal.nD Cert.DWSsmIdeal.τ).loc Cert.DWSsmIdeal.main_arg0)
      ∧ r.2.mem ((c.tc : Thread Cert.DWSsmIdeal.nD Cert.DWSsmIdeal.τ).loc Cert.DWSsmIdeal.main_arg1) = m ((c.tc : Thread Cert.DWSsmIdeal.nD Cert.DWSsmIdeal.τ).loc Cert.DWSsmIdeal.main_arg1))
      ∧ r.2.sem = fun _ => 0)

def quiescent_DWSsmRefIdeal [hDWSsmRefIdeal : Cert.DWSsmRefIdeal.Facts] : Prop :=
  ∀ (m : (ℓ : Loc Cert.DWSsmRefIdeal.nD Cert.DWSsmRefIdeal.τ Cert.DWSsmRefIdeal.sig) → Buf (Elt Ideal) ℓ) (g : Dev Cert.DWSsmRefIdeal.nD → PrngReg), Pre_DWSsmRefIdeal m →
    θ_run (Cert.DWSsmRefIdeal.defs (F := Ideal)) (onTc (τ := Cert.DWSsmRefIdeal.τ) (Cert.DWSsmRefIdeal.main (F := Ideal))) ⟨m, fun _ => 0, g⟩ (fun r => (∀ c : Dev Cert.DWSsmRefIdeal.nD,
      r.2.mem ((c.tc : Thread Cert.DWSsmRefIdeal.nD Cert.DWSsmRefIdeal.τ).loc Cert.DWSsmRefIdeal.main_arg0) = m ((c.tc : Thread Cert.DWSsmRefIdeal.nD Cert.DWSsmRefIdeal.τ).loc Cert.DWSsmRefIdeal.main_arg0)
      ∧ r.2.mem ((c.tc : Thread Cert.DWSsmRefIdeal.nD Cert.DWSsmRefIdeal.τ).loc Cert.DWSsmRefIdeal.main_arg1) = m ((c.tc : Thread Cert.DWSsmRefIdeal.nD Cert.DWSsmRefIdeal.τ).loc Cert.DWSsmRefIdeal.main_arg1))
      ∧ r.2.sem = fun _ => 0)

def quiescent_MProj [hMProj : Cert.MProj.Facts] : Prop :=
  ∀ (m : (ℓ : Loc Cert.MProj.nD Cert.MProj.τ Cert.MProj.sig) → Buf (Elt Bits) ℓ) (g : Dev Cert.MProj.nD → PrngReg), Pre_MProj m →
    θ_run (Cert.MProj.defs (F := Bits)) (onTc (τ := Cert.MProj.τ) (Cert.MProj.main (F := Bits))) ⟨m, fun _ => 0, g⟩ (fun r => (∀ c : Dev Cert.MProj.nD,
      r.2.mem ((c.tc : Thread Cert.MProj.nD Cert.MProj.τ).loc Cert.MProj.main_arg0) = m ((c.tc : Thread Cert.MProj.nD Cert.MProj.τ).loc Cert.MProj.main_arg0)
      ∧ r.2.mem ((c.tc : Thread Cert.MProj.nD Cert.MProj.τ).loc Cert.MProj.main_arg1) = m ((c.tc : Thread Cert.MProj.nD Cert.MProj.τ).loc Cert.MProj.main_arg1))
      ∧ r.2.sem = fun _ => 0)

def quiescent_MProjIdeal [hMProjIdeal : Cert.MProjIdeal.Facts] : Prop :=
  ∀ (m : (ℓ : Loc Cert.MProjIdeal.nD Cert.MProjIdeal.τ Cert.MProjIdeal.sig) → Buf (Elt Ideal) ℓ) (g : Dev Cert.MProjIdeal.nD → PrngReg), Pre_MProjIdeal m →
    θ_run (Cert.MProjIdeal.defs (F := Ideal)) (onTc (τ := Cert.MProjIdeal.τ) (Cert.MProjIdeal.main (F := Ideal))) ⟨m, fun _ => 0, g⟩ (fun r => (∀ c : Dev Cert.MProjIdeal.nD,
      r.2.mem ((c.tc : Thread Cert.MProjIdeal.nD Cert.MProjIdeal.τ).loc Cert.MProjIdeal.main_arg0) = m ((c.tc : Thread Cert.MProjIdeal.nD Cert.MProjIdeal.τ).loc Cert.MProjIdeal.main_arg0)
      ∧ r.2.mem ((c.tc : Thread Cert.MProjIdeal.nD Cert.MProjIdeal.τ).loc Cert.MProjIdeal.main_arg1) = m ((c.tc : Thread Cert.MProjIdeal.nD Cert.MProjIdeal.τ).loc Cert.MProjIdeal.main_arg1))
      ∧ r.2.sem = fun _ => 0)

def quiescent_MProjRefIdeal [hMProjRefIdeal : Cert.MProjRefIdeal.Facts] : Prop :=
  ∀ (m : (ℓ : Loc Cert.MProjRefIdeal.nD Cert.MProjRefIdeal.τ Cert.MProjRefIdeal.sig) → Buf (Elt Ideal) ℓ) (g : Dev Cert.MProjRefIdeal.nD → PrngReg), Pre_MProjRefIdeal m →
    θ_run (Cert.MProjRefIdeal.defs (F := Ideal)) (onTc (τ := Cert.MProjRefIdeal.τ) (Cert.MProjRefIdeal.main (F := Ideal))) ⟨m, fun _ => 0, g⟩ (fun r => (∀ c : Dev Cert.MProjRefIdeal.nD,
      r.2.mem ((c.tc : Thread Cert.MProjRefIdeal.nD Cert.MProjRefIdeal.τ).loc Cert.MProjRefIdeal.main_arg0) = m ((c.tc : Thread Cert.MProjRefIdeal.nD Cert.MProjRefIdeal.τ).loc Cert.MProjRefIdeal.main_arg0)
      ∧ r.2.mem ((c.tc : Thread Cert.MProjRefIdeal.nD Cert.MProjRefIdeal.τ).loc Cert.MProjRefIdeal.main_arg1) = m ((c.tc : Thread Cert.MProjRefIdeal.nD Cert.MProjRefIdeal.τ).loc Cert.MProjRefIdeal.main_arg1))
      ∧ r.2.sem = fun _ => 0)

def quiescent_MAtt [hMAtt : Cert.MAtt.Facts] : Prop :=
  ∀ (m : (ℓ : Loc Cert.MAtt.nD Cert.MAtt.τ Cert.MAtt.sig) → Buf (Elt Bits) ℓ) (g : Dev Cert.MAtt.nD → PrngReg), Pre_MAtt m →
    θ_run (Cert.MAtt.defs (F := Bits)) (onTc (τ := Cert.MAtt.τ) (Cert.MAtt.main (F := Bits))) ⟨m, fun _ => 0, g⟩ (fun r => (∀ c : Dev Cert.MAtt.nD,
      r.2.mem ((c.tc : Thread Cert.MAtt.nD Cert.MAtt.τ).loc Cert.MAtt.main_arg0) = m ((c.tc : Thread Cert.MAtt.nD Cert.MAtt.τ).loc Cert.MAtt.main_arg0)
      ∧ r.2.mem ((c.tc : Thread Cert.MAtt.nD Cert.MAtt.τ).loc Cert.MAtt.main_arg1) = m ((c.tc : Thread Cert.MAtt.nD Cert.MAtt.τ).loc Cert.MAtt.main_arg1))
      ∧ r.2.sem = fun _ => 0)

def quiescent_MAttIdeal [hMAttIdeal : Cert.MAttIdeal.Facts] : Prop :=
  ∀ (m : (ℓ : Loc Cert.MAttIdeal.nD Cert.MAttIdeal.τ Cert.MAttIdeal.sig) → Buf (Elt Ideal) ℓ) (g : Dev Cert.MAttIdeal.nD → PrngReg), Pre_MAttIdeal m →
    θ_run (Cert.MAttIdeal.defs (F := Ideal)) (onTc (τ := Cert.MAttIdeal.τ) (Cert.MAttIdeal.main (F := Ideal))) ⟨m, fun _ => 0, g⟩ (fun r => (∀ c : Dev Cert.MAttIdeal.nD,
      r.2.mem ((c.tc : Thread Cert.MAttIdeal.nD Cert.MAttIdeal.τ).loc Cert.MAttIdeal.main_arg0) = m ((c.tc : Thread Cert.MAttIdeal.nD Cert.MAttIdeal.τ).loc Cert.MAttIdeal.main_arg0)
      ∧ r.2.mem ((c.tc : Thread Cert.MAttIdeal.nD Cert.MAttIdeal.τ).loc Cert.MAttIdeal.main_arg1) = m ((c.tc : Thread Cert.MAttIdeal.nD Cert.MAttIdeal.τ).loc Cert.MAttIdeal.main_arg1))
      ∧ r.2.sem = fun _ => 0)

def quiescent_MAttRefIdeal [hMAttRefIdeal : Cert.MAttRefIdeal.Facts] : Prop :=
  ∀ (m : (ℓ : Loc Cert.MAttRefIdeal.nD Cert.MAttRefIdeal.τ Cert.MAttRefIdeal.sig) → Buf (Elt Ideal) ℓ) (g : Dev Cert.MAttRefIdeal.nD → PrngReg), Pre_MAttRefIdeal m →
    θ_run (Cert.MAttRefIdeal.defs (F := Ideal)) (onTc (τ := Cert.MAttRefIdeal.τ) (Cert.MAttRefIdeal.main (F := Ideal))) ⟨m, fun _ => 0, g⟩ (fun r => (∀ c : Dev Cert.MAttRefIdeal.nD,
      r.2.mem ((c.tc : Thread Cert.MAttRefIdeal.nD Cert.MAttRefIdeal.τ).loc Cert.MAttRefIdeal.main_arg0) = m ((c.tc : Thread Cert.MAttRefIdeal.nD Cert.MAttRefIdeal.τ).loc Cert.MAttRefIdeal.main_arg0)
      ∧ r.2.mem ((c.tc : Thread Cert.MAttRefIdeal.nD Cert.MAttRefIdeal.τ).loc Cert.MAttRefIdeal.main_arg1) = m ((c.tc : Thread Cert.MAttRefIdeal.nD Cert.MAttRefIdeal.τ).loc Cert.MAttRefIdeal.main_arg1))
      ∧ r.2.sem = fun _ => 0)

def quiescent_MSsm [hMSsm : Cert.MSsm.Facts] : Prop :=
  ∀ (m : (ℓ : Loc Cert.MSsm.nD Cert.MSsm.τ Cert.MSsm.sig) → Buf (Elt Bits) ℓ) (g : Dev Cert.MSsm.nD → PrngReg), Pre_MSsm m →
    θ_run (Cert.MSsm.defs (F := Bits)) (onTc (τ := Cert.MSsm.τ) (Cert.MSsm.main (F := Bits))) ⟨m, fun _ => 0, g⟩ (fun r => (∀ c : Dev Cert.MSsm.nD,
      r.2.mem ((c.tc : Thread Cert.MSsm.nD Cert.MSsm.τ).loc Cert.MSsm.main_arg0) = m ((c.tc : Thread Cert.MSsm.nD Cert.MSsm.τ).loc Cert.MSsm.main_arg0)
      ∧ r.2.mem ((c.tc : Thread Cert.MSsm.nD Cert.MSsm.τ).loc Cert.MSsm.main_arg1) = m ((c.tc : Thread Cert.MSsm.nD Cert.MSsm.τ).loc Cert.MSsm.main_arg1))
      ∧ r.2.sem = fun _ => 0)

def quiescent_MSsmIdeal [hMSsmIdeal : Cert.MSsmIdeal.Facts] : Prop :=
  ∀ (m : (ℓ : Loc Cert.MSsmIdeal.nD Cert.MSsmIdeal.τ Cert.MSsmIdeal.sig) → Buf (Elt Ideal) ℓ) (g : Dev Cert.MSsmIdeal.nD → PrngReg), Pre_MSsmIdeal m →
    θ_run (Cert.MSsmIdeal.defs (F := Ideal)) (onTc (τ := Cert.MSsmIdeal.τ) (Cert.MSsmIdeal.main (F := Ideal))) ⟨m, fun _ => 0, g⟩ (fun r => (∀ c : Dev Cert.MSsmIdeal.nD,
      r.2.mem ((c.tc : Thread Cert.MSsmIdeal.nD Cert.MSsmIdeal.τ).loc Cert.MSsmIdeal.main_arg0) = m ((c.tc : Thread Cert.MSsmIdeal.nD Cert.MSsmIdeal.τ).loc Cert.MSsmIdeal.main_arg0)
      ∧ r.2.mem ((c.tc : Thread Cert.MSsmIdeal.nD Cert.MSsmIdeal.τ).loc Cert.MSsmIdeal.main_arg1) = m ((c.tc : Thread Cert.MSsmIdeal.nD Cert.MSsmIdeal.τ).loc Cert.MSsmIdeal.main_arg1))
      ∧ r.2.sem = fun _ => 0)

def quiescent_MSsmRefIdeal [hMSsmRefIdeal : Cert.MSsmRefIdeal.Facts] : Prop :=
  ∀ (m : (ℓ : Loc Cert.MSsmRefIdeal.nD Cert.MSsmRefIdeal.τ Cert.MSsmRefIdeal.sig) → Buf (Elt Ideal) ℓ) (g : Dev Cert.MSsmRefIdeal.nD → PrngReg), Pre_MSsmRefIdeal m →
    θ_run (Cert.MSsmRefIdeal.defs (F := Ideal)) (onTc (τ := Cert.MSsmRefIdeal.τ) (Cert.MSsmRefIdeal.main (F := Ideal))) ⟨m, fun _ => 0, g⟩ (fun r => (∀ c : Dev Cert.MSsmRefIdeal.nD,
      r.2.mem ((c.tc : Thread Cert.MSsmRefIdeal.nD Cert.MSsmRefIdeal.τ).loc Cert.MSsmRefIdeal.main_arg0) = m ((c.tc : Thread Cert.MSsmRefIdeal.nD Cert.MSsmRefIdeal.τ).loc Cert.MSsmRefIdeal.main_arg0)
      ∧ r.2.mem ((c.tc : Thread Cert.MSsmRefIdeal.nD Cert.MSsmRefIdeal.τ).loc Cert.MSsmRefIdeal.main_arg1) = m ((c.tc : Thread Cert.MSsmRefIdeal.nD Cert.MSsmRefIdeal.τ).loc Cert.MSsmRefIdeal.main_arg1))
      ∧ r.2.sem = fun _ => 0)

def quiescent_MMix [hMMix : Cert.MMix.Facts] : Prop :=
  ∀ (m : (ℓ : Loc Cert.MMix.nD Cert.MMix.τ Cert.MMix.sig) → Buf (Elt Bits) ℓ) (g : Dev Cert.MMix.nD → PrngReg), Pre_MMix m →
    θ_run (Cert.MMix.defs (F := Bits)) (onTc (τ := Cert.MMix.τ) (Cert.MMix.main (F := Bits))) ⟨m, fun _ => 0, g⟩ (fun r => (∀ c : Dev Cert.MMix.nD,
      r.2.mem ((c.tc : Thread Cert.MMix.nD Cert.MMix.τ).loc Cert.MMix.main_arg0) = m ((c.tc : Thread Cert.MMix.nD Cert.MMix.τ).loc Cert.MMix.main_arg0)
      ∧ r.2.mem ((c.tc : Thread Cert.MMix.nD Cert.MMix.τ).loc Cert.MMix.main_arg1) = m ((c.tc : Thread Cert.MMix.nD Cert.MMix.τ).loc Cert.MMix.main_arg1))
      ∧ r.2.sem = fun _ => 0)

def quiescent_MMixIdeal [hMMixIdeal : Cert.MMixIdeal.Facts] : Prop :=
  ∀ (m : (ℓ : Loc Cert.MMixIdeal.nD Cert.MMixIdeal.τ Cert.MMixIdeal.sig) → Buf (Elt Ideal) ℓ) (g : Dev Cert.MMixIdeal.nD → PrngReg), Pre_MMixIdeal m →
    θ_run (Cert.MMixIdeal.defs (F := Ideal)) (onTc (τ := Cert.MMixIdeal.τ) (Cert.MMixIdeal.main (F := Ideal))) ⟨m, fun _ => 0, g⟩ (fun r => (∀ c : Dev Cert.MMixIdeal.nD,
      r.2.mem ((c.tc : Thread Cert.MMixIdeal.nD Cert.MMixIdeal.τ).loc Cert.MMixIdeal.main_arg0) = m ((c.tc : Thread Cert.MMixIdeal.nD Cert.MMixIdeal.τ).loc Cert.MMixIdeal.main_arg0)
      ∧ r.2.mem ((c.tc : Thread Cert.MMixIdeal.nD Cert.MMixIdeal.τ).loc Cert.MMixIdeal.main_arg1) = m ((c.tc : Thread Cert.MMixIdeal.nD Cert.MMixIdeal.τ).loc Cert.MMixIdeal.main_arg1))
      ∧ r.2.sem = fun _ => 0)

def quiescent_MMixRefIdeal [hMMixRefIdeal : Cert.MMixRefIdeal.Facts] : Prop :=
  ∀ (m : (ℓ : Loc Cert.MMixRefIdeal.nD Cert.MMixRefIdeal.τ Cert.MMixRefIdeal.sig) → Buf (Elt Ideal) ℓ) (g : Dev Cert.MMixRefIdeal.nD → PrngReg), Pre_MMixRefIdeal m →
    θ_run (Cert.MMixRefIdeal.defs (F := Ideal)) (onTc (τ := Cert.MMixRefIdeal.τ) (Cert.MMixRefIdeal.main (F := Ideal))) ⟨m, fun _ => 0, g⟩ (fun r => (∀ c : Dev Cert.MMixRefIdeal.nD,
      r.2.mem ((c.tc : Thread Cert.MMixRefIdeal.nD Cert.MMixRefIdeal.τ).loc Cert.MMixRefIdeal.main_arg0) = m ((c.tc : Thread Cert.MMixRefIdeal.nD Cert.MMixRefIdeal.τ).loc Cert.MMixRefIdeal.main_arg0)
      ∧ r.2.mem ((c.tc : Thread Cert.MMixRefIdeal.nD Cert.MMixRefIdeal.τ).loc Cert.MMixRefIdeal.main_arg1) = m ((c.tc : Thread Cert.MMixRefIdeal.nD Cert.MMixRefIdeal.τ).loc Cert.MMixRefIdeal.main_arg1))
      ∧ r.2.sem = fun _ => 0)

def quiescent_MKv [hMKv : Cert.MKv.Facts] : Prop :=
  ∀ (m : (ℓ : Loc Cert.MKv.nD Cert.MKv.τ Cert.MKv.sig) → Buf (Elt Bits) ℓ) (g : Dev Cert.MKv.nD → PrngReg), Pre_MKv m →
    θ_run (Cert.MKv.defs (F := Bits)) (onTc (τ := Cert.MKv.τ) (Cert.MKv.main (F := Bits))) ⟨m, fun _ => 0, g⟩ (fun r => (∀ c : Dev Cert.MKv.nD,
      r.2.mem ((c.tc : Thread Cert.MKv.nD Cert.MKv.τ).loc Cert.MKv.main_arg0) = m ((c.tc : Thread Cert.MKv.nD Cert.MKv.τ).loc Cert.MKv.main_arg0)
      ∧ r.2.mem ((c.tc : Thread Cert.MKv.nD Cert.MKv.τ).loc Cert.MKv.main_arg1) = m ((c.tc : Thread Cert.MKv.nD Cert.MKv.τ).loc Cert.MKv.main_arg1))
      ∧ r.2.sem = fun _ => 0)

def quiescent_MKvIdeal [hMKvIdeal : Cert.MKvIdeal.Facts] : Prop :=
  ∀ (m : (ℓ : Loc Cert.MKvIdeal.nD Cert.MKvIdeal.τ Cert.MKvIdeal.sig) → Buf (Elt Ideal) ℓ) (g : Dev Cert.MKvIdeal.nD → PrngReg), Pre_MKvIdeal m →
    θ_run (Cert.MKvIdeal.defs (F := Ideal)) (onTc (τ := Cert.MKvIdeal.τ) (Cert.MKvIdeal.main (F := Ideal))) ⟨m, fun _ => 0, g⟩ (fun r => (∀ c : Dev Cert.MKvIdeal.nD,
      r.2.mem ((c.tc : Thread Cert.MKvIdeal.nD Cert.MKvIdeal.τ).loc Cert.MKvIdeal.main_arg0) = m ((c.tc : Thread Cert.MKvIdeal.nD Cert.MKvIdeal.τ).loc Cert.MKvIdeal.main_arg0)
      ∧ r.2.mem ((c.tc : Thread Cert.MKvIdeal.nD Cert.MKvIdeal.τ).loc Cert.MKvIdeal.main_arg1) = m ((c.tc : Thread Cert.MKvIdeal.nD Cert.MKvIdeal.τ).loc Cert.MKvIdeal.main_arg1))
      ∧ r.2.sem = fun _ => 0)

def quiescent_MKvRefIdeal [hMKvRefIdeal : Cert.MKvRefIdeal.Facts] : Prop :=
  ∀ (m : (ℓ : Loc Cert.MKvRefIdeal.nD Cert.MKvRefIdeal.τ Cert.MKvRefIdeal.sig) → Buf (Elt Ideal) ℓ) (g : Dev Cert.MKvRefIdeal.nD → PrngReg), Pre_MKvRefIdeal m →
    θ_run (Cert.MKvRefIdeal.defs (F := Ideal)) (onTc (τ := Cert.MKvRefIdeal.τ) (Cert.MKvRefIdeal.main (F := Ideal))) ⟨m, fun _ => 0, g⟩ (fun r => (∀ c : Dev Cert.MKvRefIdeal.nD,
      r.2.mem ((c.tc : Thread Cert.MKvRefIdeal.nD Cert.MKvRefIdeal.τ).loc Cert.MKvRefIdeal.main_arg0) = m ((c.tc : Thread Cert.MKvRefIdeal.nD Cert.MKvRefIdeal.τ).loc Cert.MKvRefIdeal.main_arg0)
      ∧ r.2.mem ((c.tc : Thread Cert.MKvRefIdeal.nD Cert.MKvRefIdeal.τ).loc Cert.MKvRefIdeal.main_arg1) = m ((c.tc : Thread Cert.MKvRefIdeal.nD Cert.MKvRefIdeal.τ).loc Cert.MKvRefIdeal.main_arg1))
      ∧ r.2.sem = fun _ => 0)

def quiescent_MGu [hMGu : Cert.MGu.Facts] : Prop :=
  ∀ (m : (ℓ : Loc Cert.MGu.nD Cert.MGu.τ Cert.MGu.sig) → Buf (Elt Bits) ℓ) (g : Dev Cert.MGu.nD → PrngReg), Pre_MGu m →
    θ_run (Cert.MGu.defs (F := Bits)) (onTc (τ := Cert.MGu.τ) (Cert.MGu.main (F := Bits))) ⟨m, fun _ => 0, g⟩ (fun r => (∀ c : Dev Cert.MGu.nD,
      r.2.mem ((c.tc : Thread Cert.MGu.nD Cert.MGu.τ).loc Cert.MGu.main_arg0) = m ((c.tc : Thread Cert.MGu.nD Cert.MGu.τ).loc Cert.MGu.main_arg0)
      ∧ r.2.mem ((c.tc : Thread Cert.MGu.nD Cert.MGu.τ).loc Cert.MGu.main_arg1) = m ((c.tc : Thread Cert.MGu.nD Cert.MGu.τ).loc Cert.MGu.main_arg1))
      ∧ r.2.sem = fun _ => 0)

def quiescent_MGuIdeal [hMGuIdeal : Cert.MGuIdeal.Facts] : Prop :=
  ∀ (m : (ℓ : Loc Cert.MGuIdeal.nD Cert.MGuIdeal.τ Cert.MGuIdeal.sig) → Buf (Elt Ideal) ℓ) (g : Dev Cert.MGuIdeal.nD → PrngReg), Pre_MGuIdeal m →
    θ_run (Cert.MGuIdeal.defs (F := Ideal)) (onTc (τ := Cert.MGuIdeal.τ) (Cert.MGuIdeal.main (F := Ideal))) ⟨m, fun _ => 0, g⟩ (fun r => (∀ c : Dev Cert.MGuIdeal.nD,
      r.2.mem ((c.tc : Thread Cert.MGuIdeal.nD Cert.MGuIdeal.τ).loc Cert.MGuIdeal.main_arg0) = m ((c.tc : Thread Cert.MGuIdeal.nD Cert.MGuIdeal.τ).loc Cert.MGuIdeal.main_arg0)
      ∧ r.2.mem ((c.tc : Thread Cert.MGuIdeal.nD Cert.MGuIdeal.τ).loc Cert.MGuIdeal.main_arg1) = m ((c.tc : Thread Cert.MGuIdeal.nD Cert.MGuIdeal.τ).loc Cert.MGuIdeal.main_arg1))
      ∧ r.2.sem = fun _ => 0)

def quiescent_MGuRefIdeal [hMGuRefIdeal : Cert.MGuRefIdeal.Facts] : Prop :=
  ∀ (m : (ℓ : Loc Cert.MGuRefIdeal.nD Cert.MGuRefIdeal.τ Cert.MGuRefIdeal.sig) → Buf (Elt Ideal) ℓ) (g : Dev Cert.MGuRefIdeal.nD → PrngReg), Pre_MGuRefIdeal m →
    θ_run (Cert.MGuRefIdeal.defs (F := Ideal)) (onTc (τ := Cert.MGuRefIdeal.τ) (Cert.MGuRefIdeal.main (F := Ideal))) ⟨m, fun _ => 0, g⟩ (fun r => (∀ c : Dev Cert.MGuRefIdeal.nD,
      r.2.mem ((c.tc : Thread Cert.MGuRefIdeal.nD Cert.MGuRefIdeal.τ).loc Cert.MGuRefIdeal.main_arg0) = m ((c.tc : Thread Cert.MGuRefIdeal.nD Cert.MGuRefIdeal.τ).loc Cert.MGuRefIdeal.main_arg0)
      ∧ r.2.mem ((c.tc : Thread Cert.MGuRefIdeal.nD Cert.MGuRefIdeal.τ).loc Cert.MGuRefIdeal.main_arg1) = m ((c.tc : Thread Cert.MGuRefIdeal.nD Cert.MGuRefIdeal.τ).loc Cert.MGuRefIdeal.main_arg1))
      ∧ r.2.sem = fun _ => 0)

def quiescent_MDown [hMDown : Cert.MDown.Facts] : Prop :=
  ∀ (m : (ℓ : Loc Cert.MDown.nD Cert.MDown.τ Cert.MDown.sig) → Buf (Elt Bits) ℓ) (g : Dev Cert.MDown.nD → PrngReg), Pre_MDown m →
    θ_run (Cert.MDown.defs (F := Bits)) (onTc (τ := Cert.MDown.τ) (Cert.MDown.main (F := Bits))) ⟨m, fun _ => 0, g⟩ (fun r => (∀ c : Dev Cert.MDown.nD,
      r.2.mem ((c.tc : Thread Cert.MDown.nD Cert.MDown.τ).loc Cert.MDown.main_arg0) = m ((c.tc : Thread Cert.MDown.nD Cert.MDown.τ).loc Cert.MDown.main_arg0)
      ∧ r.2.mem ((c.tc : Thread Cert.MDown.nD Cert.MDown.τ).loc Cert.MDown.main_arg1) = m ((c.tc : Thread Cert.MDown.nD Cert.MDown.τ).loc Cert.MDown.main_arg1))
      ∧ r.2.sem = fun _ => 0)

def quiescent_MDownIdeal [hMDownIdeal : Cert.MDownIdeal.Facts] : Prop :=
  ∀ (m : (ℓ : Loc Cert.MDownIdeal.nD Cert.MDownIdeal.τ Cert.MDownIdeal.sig) → Buf (Elt Ideal) ℓ) (g : Dev Cert.MDownIdeal.nD → PrngReg), Pre_MDownIdeal m →
    θ_run (Cert.MDownIdeal.defs (F := Ideal)) (onTc (τ := Cert.MDownIdeal.τ) (Cert.MDownIdeal.main (F := Ideal))) ⟨m, fun _ => 0, g⟩ (fun r => (∀ c : Dev Cert.MDownIdeal.nD,
      r.2.mem ((c.tc : Thread Cert.MDownIdeal.nD Cert.MDownIdeal.τ).loc Cert.MDownIdeal.main_arg0) = m ((c.tc : Thread Cert.MDownIdeal.nD Cert.MDownIdeal.τ).loc Cert.MDownIdeal.main_arg0)
      ∧ r.2.mem ((c.tc : Thread Cert.MDownIdeal.nD Cert.MDownIdeal.τ).loc Cert.MDownIdeal.main_arg1) = m ((c.tc : Thread Cert.MDownIdeal.nD Cert.MDownIdeal.τ).loc Cert.MDownIdeal.main_arg1))
      ∧ r.2.sem = fun _ => 0)

def quiescent_MDownRefIdeal [hMDownRefIdeal : Cert.MDownRefIdeal.Facts] : Prop :=
  ∀ (m : (ℓ : Loc Cert.MDownRefIdeal.nD Cert.MDownRefIdeal.τ Cert.MDownRefIdeal.sig) → Buf (Elt Ideal) ℓ) (g : Dev Cert.MDownRefIdeal.nD → PrngReg), Pre_MDownRefIdeal m →
    θ_run (Cert.MDownRefIdeal.defs (F := Ideal)) (onTc (τ := Cert.MDownRefIdeal.τ) (Cert.MDownRefIdeal.main (F := Ideal))) ⟨m, fun _ => 0, g⟩ (fun r => (∀ c : Dev Cert.MDownRefIdeal.nD,
      r.2.mem ((c.tc : Thread Cert.MDownRefIdeal.nD Cert.MDownRefIdeal.τ).loc Cert.MDownRefIdeal.main_arg0) = m ((c.tc : Thread Cert.MDownRefIdeal.nD Cert.MDownRefIdeal.τ).loc Cert.MDownRefIdeal.main_arg0)
      ∧ r.2.mem ((c.tc : Thread Cert.MDownRefIdeal.nD Cert.MDownRefIdeal.τ).loc Cert.MDownRefIdeal.main_arg1) = m ((c.tc : Thread Cert.MDownRefIdeal.nD Cert.MDownRefIdeal.τ).loc Cert.MDownRefIdeal.main_arg1))
      ∧ r.2.sem = fun _ => 0)

def quiescent_ESwiglu [hESwiglu : Cert.ESwiglu.Facts] : Prop :=
  ∀ (m : (ℓ : Loc Cert.ESwiglu.nD Cert.ESwiglu.τ Cert.ESwiglu.sig) → Buf (Elt Bits) ℓ) (g : Dev Cert.ESwiglu.nD → PrngReg), Pre_ESwiglu m →
    θ_run (Cert.ESwiglu.defs (F := Bits)) (onTc (τ := Cert.ESwiglu.τ) (Cert.ESwiglu.main (F := Bits))) ⟨m, fun _ => 0, g⟩ (fun r => (∀ c : Dev Cert.ESwiglu.nD,
      r.2.mem ((c.tc : Thread Cert.ESwiglu.nD Cert.ESwiglu.τ).loc Cert.ESwiglu.main_arg0) = m ((c.tc : Thread Cert.ESwiglu.nD Cert.ESwiglu.τ).loc Cert.ESwiglu.main_arg0)
      ∧ r.2.mem ((c.tc : Thread Cert.ESwiglu.nD Cert.ESwiglu.τ).loc Cert.ESwiglu.main_arg1) = m ((c.tc : Thread Cert.ESwiglu.nD Cert.ESwiglu.τ).loc Cert.ESwiglu.main_arg1))
      ∧ r.2.sem = fun _ => 0)

def quiescent_ESwigluIdeal [hESwigluIdeal : Cert.ESwigluIdeal.Facts] : Prop :=
  ∀ (m : (ℓ : Loc Cert.ESwigluIdeal.nD Cert.ESwigluIdeal.τ Cert.ESwigluIdeal.sig) → Buf (Elt Ideal) ℓ) (g : Dev Cert.ESwigluIdeal.nD → PrngReg), Pre_ESwigluIdeal m →
    θ_run (Cert.ESwigluIdeal.defs (F := Ideal)) (onTc (τ := Cert.ESwigluIdeal.τ) (Cert.ESwigluIdeal.main (F := Ideal))) ⟨m, fun _ => 0, g⟩ (fun r => (∀ c : Dev Cert.ESwigluIdeal.nD,
      r.2.mem ((c.tc : Thread Cert.ESwigluIdeal.nD Cert.ESwigluIdeal.τ).loc Cert.ESwigluIdeal.main_arg0) = m ((c.tc : Thread Cert.ESwigluIdeal.nD Cert.ESwigluIdeal.τ).loc Cert.ESwigluIdeal.main_arg0)
      ∧ r.2.mem ((c.tc : Thread Cert.ESwigluIdeal.nD Cert.ESwigluIdeal.τ).loc Cert.ESwigluIdeal.main_arg1) = m ((c.tc : Thread Cert.ESwigluIdeal.nD Cert.ESwigluIdeal.τ).loc Cert.ESwigluIdeal.main_arg1))
      ∧ r.2.sem = fun _ => 0)

def quiescent_ESwigluIdeal_pre_finite_gate [hESwigluIdeal : Cert.ESwigluIdeal.Facts] [hPre_finite_gate : Cert.Pre_finite_gate.Facts] : Prop :=
  ∀ (m : (ℓ : Loc Cert.ESwigluIdeal.nD Cert.ESwigluIdeal.τ Cert.ESwigluIdeal.sig) → Buf (Elt Ideal) ℓ) (g : Dev Cert.ESwigluIdeal.nD → PrngReg), Pre_ESwigluIdeal_finite_gate m →
    θ_run (Cert.ESwigluIdeal.defs (F := Ideal)) (onTc (τ := Cert.ESwigluIdeal.τ) (Cert.ESwigluIdeal.main (F := Ideal))) ⟨m, fun _ => 0, g⟩ (fun r => (∀ c : Dev Cert.ESwigluIdeal.nD,
      r.2.mem ((c.tc : Thread Cert.ESwigluIdeal.nD Cert.ESwigluIdeal.τ).loc Cert.ESwigluIdeal.main_arg0) = m ((c.tc : Thread Cert.ESwigluIdeal.nD Cert.ESwigluIdeal.τ).loc Cert.ESwigluIdeal.main_arg0)
      ∧ r.2.mem ((c.tc : Thread Cert.ESwigluIdeal.nD Cert.ESwigluIdeal.τ).loc Cert.ESwigluIdeal.main_arg1) = m ((c.tc : Thread Cert.ESwigluIdeal.nD Cert.ESwigluIdeal.τ).loc Cert.ESwigluIdeal.main_arg1))
      ∧ r.2.sem = fun _ => 0)

def quiescent_ESwigluRefIdeal [hESwigluRefIdeal : Cert.ESwigluRefIdeal.Facts] : Prop :=
  ∀ (m : (ℓ : Loc Cert.ESwigluRefIdeal.nD Cert.ESwigluRefIdeal.τ Cert.ESwigluRefIdeal.sig) → Buf (Elt Ideal) ℓ) (g : Dev Cert.ESwigluRefIdeal.nD → PrngReg), Pre_ESwigluRefIdeal m →
    θ_run (Cert.ESwigluRefIdeal.defs (F := Ideal)) (onTc (τ := Cert.ESwigluRefIdeal.τ) (Cert.ESwigluRefIdeal.main (F := Ideal))) ⟨m, fun _ => 0, g⟩ (fun r => (∀ c : Dev Cert.ESwigluRefIdeal.nD,
      r.2.mem ((c.tc : Thread Cert.ESwigluRefIdeal.nD Cert.ESwigluRefIdeal.τ).loc Cert.ESwigluRefIdeal.main_arg0) = m ((c.tc : Thread Cert.ESwigluRefIdeal.nD Cert.ESwigluRefIdeal.τ).loc Cert.ESwigluRefIdeal.main_arg0)
      ∧ r.2.mem ((c.tc : Thread Cert.ESwigluRefIdeal.nD Cert.ESwigluRefIdeal.τ).loc Cert.ESwigluRefIdeal.main_arg1) = m ((c.tc : Thread Cert.ESwigluRefIdeal.nD Cert.ESwigluRefIdeal.τ).loc Cert.ESwigluRefIdeal.main_arg1))
      ∧ r.2.sem = fun _ => 0)

def quiescent_ESwigluRefIdeal_pre_finite_gate [hESwigluRefIdeal : Cert.ESwigluRefIdeal.Facts] [hPre_finite_gate : Cert.Pre_finite_gate.Facts] : Prop :=
  ∀ (m : (ℓ : Loc Cert.ESwigluRefIdeal.nD Cert.ESwigluRefIdeal.τ Cert.ESwigluRefIdeal.sig) → Buf (Elt Ideal) ℓ) (g : Dev Cert.ESwigluRefIdeal.nD → PrngReg), Pre_ESwigluRefIdeal_finite_gate m →
    θ_run (Cert.ESwigluRefIdeal.defs (F := Ideal)) (onTc (τ := Cert.ESwigluRefIdeal.τ) (Cert.ESwigluRefIdeal.main (F := Ideal))) ⟨m, fun _ => 0, g⟩ (fun r => (∀ c : Dev Cert.ESwigluRefIdeal.nD,
      r.2.mem ((c.tc : Thread Cert.ESwigluRefIdeal.nD Cert.ESwigluRefIdeal.τ).loc Cert.ESwigluRefIdeal.main_arg0) = m ((c.tc : Thread Cert.ESwigluRefIdeal.nD Cert.ESwigluRefIdeal.τ).loc Cert.ESwigluRefIdeal.main_arg0)
      ∧ r.2.mem ((c.tc : Thread Cert.ESwigluRefIdeal.nD Cert.ESwigluRefIdeal.τ).loc Cert.ESwigluRefIdeal.main_arg1) = m ((c.tc : Thread Cert.ESwigluRefIdeal.nD Cert.ESwigluRefIdeal.τ).loc Cert.ESwigluRefIdeal.main_arg1))
      ∧ r.2.sem = fun _ => 0)

def quiescent_EMerge [hEMerge : Cert.EMerge.Facts] : Prop :=
  ∀ (m : (ℓ : Loc Cert.EMerge.nD Cert.EMerge.τ Cert.EMerge.sig) → Buf (Elt Bits) ℓ) (g : Dev Cert.EMerge.nD → PrngReg), Pre_EMerge m →
    θ_run (Cert.EMerge.defs (F := Bits)) (onTc (τ := Cert.EMerge.τ) (Cert.EMerge.main (F := Bits))) ⟨m, fun _ => 0, g⟩ (fun r => (∀ c : Dev Cert.EMerge.nD,
      r.2.mem ((c.tc : Thread Cert.EMerge.nD Cert.EMerge.τ).loc Cert.EMerge.main_arg0) = m ((c.tc : Thread Cert.EMerge.nD Cert.EMerge.τ).loc Cert.EMerge.main_arg0)
      ∧ r.2.mem ((c.tc : Thread Cert.EMerge.nD Cert.EMerge.τ).loc Cert.EMerge.main_arg1) = m ((c.tc : Thread Cert.EMerge.nD Cert.EMerge.τ).loc Cert.EMerge.main_arg1)
      ∧ r.2.mem ((c.tc : Thread Cert.EMerge.nD Cert.EMerge.τ).loc Cert.EMerge.main_arg2) = m ((c.tc : Thread Cert.EMerge.nD Cert.EMerge.τ).loc Cert.EMerge.main_arg2)
      ∧ r.2.mem ((c.tc : Thread Cert.EMerge.nD Cert.EMerge.τ).loc Cert.EMerge.main_arg3) = m ((c.tc : Thread Cert.EMerge.nD Cert.EMerge.τ).loc Cert.EMerge.main_arg3))
      ∧ r.2.sem = fun _ => 0)

def quiescent_EMergeIdeal [hEMergeIdeal : Cert.EMergeIdeal.Facts] : Prop :=
  ∀ (m : (ℓ : Loc Cert.EMergeIdeal.nD Cert.EMergeIdeal.τ Cert.EMergeIdeal.sig) → Buf (Elt Ideal) ℓ) (g : Dev Cert.EMergeIdeal.nD → PrngReg), Pre_EMergeIdeal m →
    θ_run (Cert.EMergeIdeal.defs (F := Ideal)) (onTc (τ := Cert.EMergeIdeal.τ) (Cert.EMergeIdeal.main (F := Ideal))) ⟨m, fun _ => 0, g⟩ (fun r => (∀ c : Dev Cert.EMergeIdeal.nD,
      r.2.mem ((c.tc : Thread Cert.EMergeIdeal.nD Cert.EMergeIdeal.τ).loc Cert.EMergeIdeal.main_arg0) = m ((c.tc : Thread Cert.EMergeIdeal.nD Cert.EMergeIdeal.τ).loc Cert.EMergeIdeal.main_arg0)
      ∧ r.2.mem ((c.tc : Thread Cert.EMergeIdeal.nD Cert.EMergeIdeal.τ).loc Cert.EMergeIdeal.main_arg1) = m ((c.tc : Thread Cert.EMergeIdeal.nD Cert.EMergeIdeal.τ).loc Cert.EMergeIdeal.main_arg1)
      ∧ r.2.mem ((c.tc : Thread Cert.EMergeIdeal.nD Cert.EMergeIdeal.τ).loc Cert.EMergeIdeal.main_arg2) = m ((c.tc : Thread Cert.EMergeIdeal.nD Cert.EMergeIdeal.τ).loc Cert.EMergeIdeal.main_arg2)
      ∧ r.2.mem ((c.tc : Thread Cert.EMergeIdeal.nD Cert.EMergeIdeal.τ).loc Cert.EMergeIdeal.main_arg3) = m ((c.tc : Thread Cert.EMergeIdeal.nD Cert.EMergeIdeal.τ).loc Cert.EMergeIdeal.main_arg3))
      ∧ r.2.sem = fun _ => 0)

def quiescent_EMergeRefIdeal [hEMergeRefIdeal : Cert.EMergeRefIdeal.Facts] : Prop :=
  ∀ (m : (ℓ : Loc Cert.EMergeRefIdeal.nD Cert.EMergeRefIdeal.τ Cert.EMergeRefIdeal.sig) → Buf (Elt Ideal) ℓ) (g : Dev Cert.EMergeRefIdeal.nD → PrngReg), Pre_EMergeRefIdeal m →
    θ_run (Cert.EMergeRefIdeal.defs (F := Ideal)) (onTc (τ := Cert.EMergeRefIdeal.τ) (Cert.EMergeRefIdeal.main (F := Ideal))) ⟨m, fun _ => 0, g⟩ (fun r => (∀ c : Dev Cert.EMergeRefIdeal.nD,
      r.2.mem ((c.tc : Thread Cert.EMergeRefIdeal.nD Cert.EMergeRefIdeal.τ).loc Cert.EMergeRefIdeal.main_arg0) = m ((c.tc : Thread Cert.EMergeRefIdeal.nD Cert.EMergeRefIdeal.τ).loc Cert.EMergeRefIdeal.main_arg0)
      ∧ r.2.mem ((c.tc : Thread Cert.EMergeRefIdeal.nD Cert.EMergeRefIdeal.τ).loc Cert.EMergeRefIdeal.main_arg1) = m ((c.tc : Thread Cert.EMergeRefIdeal.nD Cert.EMergeRefIdeal.τ).loc Cert.EMergeRefIdeal.main_arg1)
      ∧ r.2.mem ((c.tc : Thread Cert.EMergeRefIdeal.nD Cert.EMergeRefIdeal.τ).loc Cert.EMergeRefIdeal.main_arg2) = m ((c.tc : Thread Cert.EMergeRefIdeal.nD Cert.EMergeRefIdeal.τ).loc Cert.EMergeRefIdeal.main_arg2)
      ∧ r.2.mem ((c.tc : Thread Cert.EMergeRefIdeal.nD Cert.EMergeRefIdeal.τ).loc Cert.EMergeRefIdeal.main_arg3) = m ((c.tc : Thread Cert.EMergeRefIdeal.nD Cert.EMergeRefIdeal.τ).loc Cert.EMergeRefIdeal.main_arg3))
      ∧ r.2.sem = fun _ => 0)

def quiescent_FSwiglu [hFSwiglu : Cert.FSwiglu.Facts] : Prop :=
  ∀ (m : (ℓ : Loc Cert.FSwiglu.nD Cert.FSwiglu.τ Cert.FSwiglu.sig) → Buf (Elt Bits) ℓ) (g : Dev Cert.FSwiglu.nD → PrngReg), Pre_FSwiglu m →
    θ_run (Cert.FSwiglu.defs (F := Bits)) (onTc (τ := Cert.FSwiglu.τ) (Cert.FSwiglu.main (F := Bits))) ⟨m, fun _ => 0, g⟩ (fun r => (∀ c : Dev Cert.FSwiglu.nD,
      r.2.mem ((c.tc : Thread Cert.FSwiglu.nD Cert.FSwiglu.τ).loc Cert.FSwiglu.main_arg0) = m ((c.tc : Thread Cert.FSwiglu.nD Cert.FSwiglu.τ).loc Cert.FSwiglu.main_arg0))
      ∧ r.2.sem = fun _ => 0)

def quiescent_FSwigluIdeal [hFSwigluIdeal : Cert.FSwigluIdeal.Facts] : Prop :=
  ∀ (m : (ℓ : Loc Cert.FSwigluIdeal.nD Cert.FSwigluIdeal.τ Cert.FSwigluIdeal.sig) → Buf (Elt Ideal) ℓ) (g : Dev Cert.FSwigluIdeal.nD → PrngReg), Pre_FSwigluIdeal m →
    θ_run (Cert.FSwigluIdeal.defs (F := Ideal)) (onTc (τ := Cert.FSwigluIdeal.τ) (Cert.FSwigluIdeal.main (F := Ideal))) ⟨m, fun _ => 0, g⟩ (fun r => (∀ c : Dev Cert.FSwigluIdeal.nD,
      r.2.mem ((c.tc : Thread Cert.FSwigluIdeal.nD Cert.FSwigluIdeal.τ).loc Cert.FSwigluIdeal.main_arg0) = m ((c.tc : Thread Cert.FSwigluIdeal.nD Cert.FSwigluIdeal.τ).loc Cert.FSwigluIdeal.main_arg0))
      ∧ r.2.sem = fun _ => 0)

def quiescent_FSwigluRefIdeal [hFSwigluRefIdeal : Cert.FSwigluRefIdeal.Facts] : Prop :=
  ∀ (m : (ℓ : Loc Cert.FSwigluRefIdeal.nD Cert.FSwigluRefIdeal.τ Cert.FSwigluRefIdeal.sig) → Buf (Elt Ideal) ℓ) (g : Dev Cert.FSwigluRefIdeal.nD → PrngReg), Pre_FSwigluRefIdeal m →
    θ_run (Cert.FSwigluRefIdeal.defs (F := Ideal)) (onTc (τ := Cert.FSwigluRefIdeal.τ) (Cert.FSwigluRefIdeal.main (F := Ideal))) ⟨m, fun _ => 0, g⟩ (fun r => (∀ c : Dev Cert.FSwigluRefIdeal.nD,
      r.2.mem ((c.tc : Thread Cert.FSwigluRefIdeal.nD Cert.FSwigluRefIdeal.τ).loc Cert.FSwigluRefIdeal.main_arg0) = m ((c.tc : Thread Cert.FSwigluRefIdeal.nD Cert.FSwigluRefIdeal.τ).loc Cert.FSwigluRefIdeal.main_arg0))
      ∧ r.2.sem = fun _ => 0)

def quiescent_FMerge [hFMerge : Cert.FMerge.Facts] : Prop :=
  ∀ (m : (ℓ : Loc Cert.FMerge.nD Cert.FMerge.τ Cert.FMerge.sig) → Buf (Elt Bits) ℓ) (g : Dev Cert.FMerge.nD → PrngReg), Pre_FMerge m →
    θ_run (Cert.FMerge.defs (F := Bits)) (onTc (τ := Cert.FMerge.τ) (Cert.FMerge.main (F := Bits))) ⟨m, fun _ => 0, g⟩ (fun r => (∀ c : Dev Cert.FMerge.nD,
      r.2.mem ((c.tc : Thread Cert.FMerge.nD Cert.FMerge.τ).loc Cert.FMerge.main_arg0) = m ((c.tc : Thread Cert.FMerge.nD Cert.FMerge.τ).loc Cert.FMerge.main_arg0)
      ∧ r.2.mem ((c.tc : Thread Cert.FMerge.nD Cert.FMerge.τ).loc Cert.FMerge.main_arg1) = m ((c.tc : Thread Cert.FMerge.nD Cert.FMerge.τ).loc Cert.FMerge.main_arg1)
      ∧ r.2.mem ((c.tc : Thread Cert.FMerge.nD Cert.FMerge.τ).loc Cert.FMerge.main_arg2) = m ((c.tc : Thread Cert.FMerge.nD Cert.FMerge.τ).loc Cert.FMerge.main_arg2))
      ∧ r.2.sem = fun _ => 0)

def quiescent_FMergeIdeal [hFMergeIdeal : Cert.FMergeIdeal.Facts] : Prop :=
  ∀ (m : (ℓ : Loc Cert.FMergeIdeal.nD Cert.FMergeIdeal.τ Cert.FMergeIdeal.sig) → Buf (Elt Ideal) ℓ) (g : Dev Cert.FMergeIdeal.nD → PrngReg), Pre_FMergeIdeal m →
    θ_run (Cert.FMergeIdeal.defs (F := Ideal)) (onTc (τ := Cert.FMergeIdeal.τ) (Cert.FMergeIdeal.main (F := Ideal))) ⟨m, fun _ => 0, g⟩ (fun r => (∀ c : Dev Cert.FMergeIdeal.nD,
      r.2.mem ((c.tc : Thread Cert.FMergeIdeal.nD Cert.FMergeIdeal.τ).loc Cert.FMergeIdeal.main_arg0) = m ((c.tc : Thread Cert.FMergeIdeal.nD Cert.FMergeIdeal.τ).loc Cert.FMergeIdeal.main_arg0)
      ∧ r.2.mem ((c.tc : Thread Cert.FMergeIdeal.nD Cert.FMergeIdeal.τ).loc Cert.FMergeIdeal.main_arg1) = m ((c.tc : Thread Cert.FMergeIdeal.nD Cert.FMergeIdeal.τ).loc Cert.FMergeIdeal.main_arg1)
      ∧ r.2.mem ((c.tc : Thread Cert.FMergeIdeal.nD Cert.FMergeIdeal.τ).loc Cert.FMergeIdeal.main_arg2) = m ((c.tc : Thread Cert.FMergeIdeal.nD Cert.FMergeIdeal.τ).loc Cert.FMergeIdeal.main_arg2))
      ∧ r.2.sem = fun _ => 0)

def quiescent_FMergeRefIdeal [hFMergeRefIdeal : Cert.FMergeRefIdeal.Facts] : Prop :=
  ∀ (m : (ℓ : Loc Cert.FMergeRefIdeal.nD Cert.FMergeRefIdeal.τ Cert.FMergeRefIdeal.sig) → Buf (Elt Ideal) ℓ) (g : Dev Cert.FMergeRefIdeal.nD → PrngReg), Pre_FMergeRefIdeal m →
    θ_run (Cert.FMergeRefIdeal.defs (F := Ideal)) (onTc (τ := Cert.FMergeRefIdeal.τ) (Cert.FMergeRefIdeal.main (F := Ideal))) ⟨m, fun _ => 0, g⟩ (fun r => (∀ c : Dev Cert.FMergeRefIdeal.nD,
      r.2.mem ((c.tc : Thread Cert.FMergeRefIdeal.nD Cert.FMergeRefIdeal.τ).loc Cert.FMergeRefIdeal.main_arg0) = m ((c.tc : Thread Cert.FMergeRefIdeal.nD Cert.FMergeRefIdeal.τ).loc Cert.FMergeRefIdeal.main_arg0)
      ∧ r.2.mem ((c.tc : Thread Cert.FMergeRefIdeal.nD Cert.FMergeRefIdeal.τ).loc Cert.FMergeRefIdeal.main_arg1) = m ((c.tc : Thread Cert.FMergeRefIdeal.nD Cert.FMergeRefIdeal.τ).loc Cert.FMergeRefIdeal.main_arg1)
      ∧ r.2.mem ((c.tc : Thread Cert.FMergeRefIdeal.nD Cert.FMergeRefIdeal.τ).loc Cert.FMergeRefIdeal.main_arg2) = m ((c.tc : Thread Cert.FMergeRefIdeal.nD Cert.FMergeRefIdeal.τ).loc Cert.FMergeRefIdeal.main_arg2))
      ∧ r.2.sem = fun _ => 0)

def quiescent_AWIn [hAWIn : Cert.AWIn.Facts] : Prop :=
  ∀ (m : (ℓ : Loc Cert.AWIn.nD Cert.AWIn.τ Cert.AWIn.sig) → Buf (Elt Bits) ℓ) (g : Dev Cert.AWIn.nD → PrngReg), Pre_AWIn m →
    θ_run (Cert.AWIn.defs (F := Bits)) (onTc (τ := Cert.AWIn.τ) (Cert.AWIn.main (F := Bits))) ⟨m, fun _ => 0, g⟩ (fun r => (∀ c : Dev Cert.AWIn.nD,
      r.2.mem ((c.tc : Thread Cert.AWIn.nD Cert.AWIn.τ).loc Cert.AWIn.main_arg0) = m ((c.tc : Thread Cert.AWIn.nD Cert.AWIn.τ).loc Cert.AWIn.main_arg0)
      ∧ r.2.mem ((c.tc : Thread Cert.AWIn.nD Cert.AWIn.τ).loc Cert.AWIn.main_arg1) = m ((c.tc : Thread Cert.AWIn.nD Cert.AWIn.τ).loc Cert.AWIn.main_arg1)
      ∧ r.2.mem ((c.tc : Thread Cert.AWIn.nD Cert.AWIn.τ).loc Cert.AWIn.main_arg2) = m ((c.tc : Thread Cert.AWIn.nD Cert.AWIn.τ).loc Cert.AWIn.main_arg2)
      ∧ r.2.mem ((c.tc : Thread Cert.AWIn.nD Cert.AWIn.τ).loc Cert.AWIn.main_arg3) = m ((c.tc : Thread Cert.AWIn.nD Cert.AWIn.τ).loc Cert.AWIn.main_arg3))
      ∧ r.2.sem = fun _ => 0)

def quiescent_AWInIdeal [hAWInIdeal : Cert.AWInIdeal.Facts] : Prop :=
  ∀ (m : (ℓ : Loc Cert.AWInIdeal.nD Cert.AWInIdeal.τ Cert.AWInIdeal.sig) → Buf (Elt Ideal) ℓ) (g : Dev Cert.AWInIdeal.nD → PrngReg), Pre_AWInIdeal m →
    θ_run (Cert.AWInIdeal.defs (F := Ideal)) (onTc (τ := Cert.AWInIdeal.τ) (Cert.AWInIdeal.main (F := Ideal))) ⟨m, fun _ => 0, g⟩ (fun r => (∀ c : Dev Cert.AWInIdeal.nD,
      r.2.mem ((c.tc : Thread Cert.AWInIdeal.nD Cert.AWInIdeal.τ).loc Cert.AWInIdeal.main_arg0) = m ((c.tc : Thread Cert.AWInIdeal.nD Cert.AWInIdeal.τ).loc Cert.AWInIdeal.main_arg0)
      ∧ r.2.mem ((c.tc : Thread Cert.AWInIdeal.nD Cert.AWInIdeal.τ).loc Cert.AWInIdeal.main_arg1) = m ((c.tc : Thread Cert.AWInIdeal.nD Cert.AWInIdeal.τ).loc Cert.AWInIdeal.main_arg1)
      ∧ r.2.mem ((c.tc : Thread Cert.AWInIdeal.nD Cert.AWInIdeal.τ).loc Cert.AWInIdeal.main_arg2) = m ((c.tc : Thread Cert.AWInIdeal.nD Cert.AWInIdeal.τ).loc Cert.AWInIdeal.main_arg2)
      ∧ r.2.mem ((c.tc : Thread Cert.AWInIdeal.nD Cert.AWInIdeal.τ).loc Cert.AWInIdeal.main_arg3) = m ((c.tc : Thread Cert.AWInIdeal.nD Cert.AWInIdeal.τ).loc Cert.AWInIdeal.main_arg3))
      ∧ r.2.sem = fun _ => 0)

def quiescent_AWInRefIdeal [hAWInRefIdeal : Cert.AWInRefIdeal.Facts] : Prop :=
  ∀ (m : (ℓ : Loc Cert.AWInRefIdeal.nD Cert.AWInRefIdeal.τ Cert.AWInRefIdeal.sig) → Buf (Elt Ideal) ℓ) (g : Dev Cert.AWInRefIdeal.nD → PrngReg), Pre_AWInRefIdeal m →
    θ_run (Cert.AWInRefIdeal.defs (F := Ideal)) (onTc (τ := Cert.AWInRefIdeal.τ) (Cert.AWInRefIdeal.main (F := Ideal))) ⟨m, fun _ => 0, g⟩ (fun r => (∀ c : Dev Cert.AWInRefIdeal.nD,
      r.2.mem ((c.tc : Thread Cert.AWInRefIdeal.nD Cert.AWInRefIdeal.τ).loc Cert.AWInRefIdeal.main_arg0) = m ((c.tc : Thread Cert.AWInRefIdeal.nD Cert.AWInRefIdeal.τ).loc Cert.AWInRefIdeal.main_arg0)
      ∧ r.2.mem ((c.tc : Thread Cert.AWInRefIdeal.nD Cert.AWInRefIdeal.τ).loc Cert.AWInRefIdeal.main_arg1) = m ((c.tc : Thread Cert.AWInRefIdeal.nD Cert.AWInRefIdeal.τ).loc Cert.AWInRefIdeal.main_arg1)
      ∧ r.2.mem ((c.tc : Thread Cert.AWInRefIdeal.nD Cert.AWInRefIdeal.τ).loc Cert.AWInRefIdeal.main_arg2) = m ((c.tc : Thread Cert.AWInRefIdeal.nD Cert.AWInRefIdeal.τ).loc Cert.AWInRefIdeal.main_arg2)
      ∧ r.2.mem ((c.tc : Thread Cert.AWInRefIdeal.nD Cert.AWInRefIdeal.τ).loc Cert.AWInRefIdeal.main_arg3) = m ((c.tc : Thread Cert.AWInRefIdeal.nD Cert.AWInRefIdeal.τ).loc Cert.AWInRefIdeal.main_arg3))
      ∧ r.2.sem = fun _ => 0)

def quiescent_ABrAtt [hABrAtt : Cert.ABrAtt.Facts] : Prop :=
  ∀ (m : (ℓ : Loc Cert.ABrAtt.nD Cert.ABrAtt.τ Cert.ABrAtt.sig) → Buf (Elt Bits) ℓ) (g : Dev Cert.ABrAtt.nD → PrngReg), Pre_ABrAtt m →
    θ_run (Cert.ABrAtt.defs (F := Bits)) (onTc (τ := Cert.ABrAtt.τ) (Cert.ABrAtt.main (F := Bits))) ⟨m, fun _ => 0, g⟩ (fun r => (∀ c : Dev Cert.ABrAtt.nD,
      r.2.mem ((c.tc : Thread Cert.ABrAtt.nD Cert.ABrAtt.τ).loc Cert.ABrAtt.main_arg0) = m ((c.tc : Thread Cert.ABrAtt.nD Cert.ABrAtt.τ).loc Cert.ABrAtt.main_arg0)
      ∧ r.2.mem ((c.tc : Thread Cert.ABrAtt.nD Cert.ABrAtt.τ).loc Cert.ABrAtt.main_arg1) = m ((c.tc : Thread Cert.ABrAtt.nD Cert.ABrAtt.τ).loc Cert.ABrAtt.main_arg1)
      ∧ r.2.mem ((c.tc : Thread Cert.ABrAtt.nD Cert.ABrAtt.τ).loc Cert.ABrAtt.main_arg2) = m ((c.tc : Thread Cert.ABrAtt.nD Cert.ABrAtt.τ).loc Cert.ABrAtt.main_arg2)
      ∧ r.2.mem ((c.tc : Thread Cert.ABrAtt.nD Cert.ABrAtt.τ).loc Cert.ABrAtt.main_arg3) = m ((c.tc : Thread Cert.ABrAtt.nD Cert.ABrAtt.τ).loc Cert.ABrAtt.main_arg3))
      ∧ r.2.sem = fun _ => 0)

def quiescent_ABrAttIdeal [hABrAttIdeal : Cert.ABrAttIdeal.Facts] : Prop :=
  ∀ (m : (ℓ : Loc Cert.ABrAttIdeal.nD Cert.ABrAttIdeal.τ Cert.ABrAttIdeal.sig) → Buf (Elt Ideal) ℓ) (g : Dev Cert.ABrAttIdeal.nD → PrngReg), Pre_ABrAttIdeal m →
    θ_run (Cert.ABrAttIdeal.defs (F := Ideal)) (onTc (τ := Cert.ABrAttIdeal.τ) (Cert.ABrAttIdeal.main (F := Ideal))) ⟨m, fun _ => 0, g⟩ (fun r => (∀ c : Dev Cert.ABrAttIdeal.nD,
      r.2.mem ((c.tc : Thread Cert.ABrAttIdeal.nD Cert.ABrAttIdeal.τ).loc Cert.ABrAttIdeal.main_arg0) = m ((c.tc : Thread Cert.ABrAttIdeal.nD Cert.ABrAttIdeal.τ).loc Cert.ABrAttIdeal.main_arg0)
      ∧ r.2.mem ((c.tc : Thread Cert.ABrAttIdeal.nD Cert.ABrAttIdeal.τ).loc Cert.ABrAttIdeal.main_arg1) = m ((c.tc : Thread Cert.ABrAttIdeal.nD Cert.ABrAttIdeal.τ).loc Cert.ABrAttIdeal.main_arg1)
      ∧ r.2.mem ((c.tc : Thread Cert.ABrAttIdeal.nD Cert.ABrAttIdeal.τ).loc Cert.ABrAttIdeal.main_arg2) = m ((c.tc : Thread Cert.ABrAttIdeal.nD Cert.ABrAttIdeal.τ).loc Cert.ABrAttIdeal.main_arg2)
      ∧ r.2.mem ((c.tc : Thread Cert.ABrAttIdeal.nD Cert.ABrAttIdeal.τ).loc Cert.ABrAttIdeal.main_arg3) = m ((c.tc : Thread Cert.ABrAttIdeal.nD Cert.ABrAttIdeal.τ).loc Cert.ABrAttIdeal.main_arg3))
      ∧ r.2.sem = fun _ => 0)

def quiescent_ABrAttRefIdeal [hABrAttRefIdeal : Cert.ABrAttRefIdeal.Facts] : Prop :=
  ∀ (m : (ℓ : Loc Cert.ABrAttRefIdeal.nD Cert.ABrAttRefIdeal.τ Cert.ABrAttRefIdeal.sig) → Buf (Elt Ideal) ℓ) (g : Dev Cert.ABrAttRefIdeal.nD → PrngReg), Pre_ABrAttRefIdeal m →
    θ_run (Cert.ABrAttRefIdeal.defs (F := Ideal)) (onTc (τ := Cert.ABrAttRefIdeal.τ) (Cert.ABrAttRefIdeal.main (F := Ideal))) ⟨m, fun _ => 0, g⟩ (fun r => (∀ c : Dev Cert.ABrAttRefIdeal.nD,
      r.2.mem ((c.tc : Thread Cert.ABrAttRefIdeal.nD Cert.ABrAttRefIdeal.τ).loc Cert.ABrAttRefIdeal.main_arg0) = m ((c.tc : Thread Cert.ABrAttRefIdeal.nD Cert.ABrAttRefIdeal.τ).loc Cert.ABrAttRefIdeal.main_arg0)
      ∧ r.2.mem ((c.tc : Thread Cert.ABrAttRefIdeal.nD Cert.ABrAttRefIdeal.τ).loc Cert.ABrAttRefIdeal.main_arg1) = m ((c.tc : Thread Cert.ABrAttRefIdeal.nD Cert.ABrAttRefIdeal.τ).loc Cert.ABrAttRefIdeal.main_arg1)
      ∧ r.2.mem ((c.tc : Thread Cert.ABrAttRefIdeal.nD Cert.ABrAttRefIdeal.τ).loc Cert.ABrAttRefIdeal.main_arg2) = m ((c.tc : Thread Cert.ABrAttRefIdeal.nD Cert.ABrAttRefIdeal.τ).loc Cert.ABrAttRefIdeal.main_arg2)
      ∧ r.2.mem ((c.tc : Thread Cert.ABrAttRefIdeal.nD Cert.ABrAttRefIdeal.τ).loc Cert.ABrAttRefIdeal.main_arg3) = m ((c.tc : Thread Cert.ABrAttRefIdeal.nD Cert.ABrAttRefIdeal.τ).loc Cert.ABrAttRefIdeal.main_arg3))
      ∧ r.2.sem = fun _ => 0)

def quiescent_ABrSsm [hABrSsm : Cert.ABrSsm.Facts] : Prop :=
  ∀ (m : (ℓ : Loc Cert.ABrSsm.nD Cert.ABrSsm.τ Cert.ABrSsm.sig) → Buf (Elt Bits) ℓ) (g : Dev Cert.ABrSsm.nD → PrngReg), Pre_ABrSsm m →
    θ_run (Cert.ABrSsm.defs (F := Bits)) (onTc (τ := Cert.ABrSsm.τ) (Cert.ABrSsm.main (F := Bits))) ⟨m, fun _ => 0, g⟩ (fun r => (∀ c : Dev Cert.ABrSsm.nD,
      r.2.mem ((c.tc : Thread Cert.ABrSsm.nD Cert.ABrSsm.τ).loc Cert.ABrSsm.main_arg0) = m ((c.tc : Thread Cert.ABrSsm.nD Cert.ABrSsm.τ).loc Cert.ABrSsm.main_arg0)
      ∧ r.2.mem ((c.tc : Thread Cert.ABrSsm.nD Cert.ABrSsm.τ).loc Cert.ABrSsm.main_arg1) = m ((c.tc : Thread Cert.ABrSsm.nD Cert.ABrSsm.τ).loc Cert.ABrSsm.main_arg1)
      ∧ r.2.mem ((c.tc : Thread Cert.ABrSsm.nD Cert.ABrSsm.τ).loc Cert.ABrSsm.main_arg2) = m ((c.tc : Thread Cert.ABrSsm.nD Cert.ABrSsm.τ).loc Cert.ABrSsm.main_arg2)
      ∧ r.2.mem ((c.tc : Thread Cert.ABrSsm.nD Cert.ABrSsm.τ).loc Cert.ABrSsm.main_arg3) = m ((c.tc : Thread Cert.ABrSsm.nD Cert.ABrSsm.τ).loc Cert.ABrSsm.main_arg3))
      ∧ r.2.sem = fun _ => 0)

def quiescent_ABrSsmIdeal [hABrSsmIdeal : Cert.ABrSsmIdeal.Facts] : Prop :=
  ∀ (m : (ℓ : Loc Cert.ABrSsmIdeal.nD Cert.ABrSsmIdeal.τ Cert.ABrSsmIdeal.sig) → Buf (Elt Ideal) ℓ) (g : Dev Cert.ABrSsmIdeal.nD → PrngReg), Pre_ABrSsmIdeal m →
    θ_run (Cert.ABrSsmIdeal.defs (F := Ideal)) (onTc (τ := Cert.ABrSsmIdeal.τ) (Cert.ABrSsmIdeal.main (F := Ideal))) ⟨m, fun _ => 0, g⟩ (fun r => (∀ c : Dev Cert.ABrSsmIdeal.nD,
      r.2.mem ((c.tc : Thread Cert.ABrSsmIdeal.nD Cert.ABrSsmIdeal.τ).loc Cert.ABrSsmIdeal.main_arg0) = m ((c.tc : Thread Cert.ABrSsmIdeal.nD Cert.ABrSsmIdeal.τ).loc Cert.ABrSsmIdeal.main_arg0)
      ∧ r.2.mem ((c.tc : Thread Cert.ABrSsmIdeal.nD Cert.ABrSsmIdeal.τ).loc Cert.ABrSsmIdeal.main_arg1) = m ((c.tc : Thread Cert.ABrSsmIdeal.nD Cert.ABrSsmIdeal.τ).loc Cert.ABrSsmIdeal.main_arg1)
      ∧ r.2.mem ((c.tc : Thread Cert.ABrSsmIdeal.nD Cert.ABrSsmIdeal.τ).loc Cert.ABrSsmIdeal.main_arg2) = m ((c.tc : Thread Cert.ABrSsmIdeal.nD Cert.ABrSsmIdeal.τ).loc Cert.ABrSsmIdeal.main_arg2)
      ∧ r.2.mem ((c.tc : Thread Cert.ABrSsmIdeal.nD Cert.ABrSsmIdeal.τ).loc Cert.ABrSsmIdeal.main_arg3) = m ((c.tc : Thread Cert.ABrSsmIdeal.nD Cert.ABrSsmIdeal.τ).loc Cert.ABrSsmIdeal.main_arg3))
      ∧ r.2.sem = fun _ => 0)

def quiescent_ABrSsmRefIdeal [hABrSsmRefIdeal : Cert.ABrSsmRefIdeal.Facts] : Prop :=
  ∀ (m : (ℓ : Loc Cert.ABrSsmRefIdeal.nD Cert.ABrSsmRefIdeal.τ Cert.ABrSsmRefIdeal.sig) → Buf (Elt Ideal) ℓ) (g : Dev Cert.ABrSsmRefIdeal.nD → PrngReg), Pre_ABrSsmRefIdeal m →
    θ_run (Cert.ABrSsmRefIdeal.defs (F := Ideal)) (onTc (τ := Cert.ABrSsmRefIdeal.τ) (Cert.ABrSsmRefIdeal.main (F := Ideal))) ⟨m, fun _ => 0, g⟩ (fun r => (∀ c : Dev Cert.ABrSsmRefIdeal.nD,
      r.2.mem ((c.tc : Thread Cert.ABrSsmRefIdeal.nD Cert.ABrSsmRefIdeal.τ).loc Cert.ABrSsmRefIdeal.main_arg0) = m ((c.tc : Thread Cert.ABrSsmRefIdeal.nD Cert.ABrSsmRefIdeal.τ).loc Cert.ABrSsmRefIdeal.main_arg0)
      ∧ r.2.mem ((c.tc : Thread Cert.ABrSsmRefIdeal.nD Cert.ABrSsmRefIdeal.τ).loc Cert.ABrSsmRefIdeal.main_arg1) = m ((c.tc : Thread Cert.ABrSsmRefIdeal.nD Cert.ABrSsmRefIdeal.τ).loc Cert.ABrSsmRefIdeal.main_arg1)
      ∧ r.2.mem ((c.tc : Thread Cert.ABrSsmRefIdeal.nD Cert.ABrSsmRefIdeal.τ).loc Cert.ABrSsmRefIdeal.main_arg2) = m ((c.tc : Thread Cert.ABrSsmRefIdeal.nD Cert.ABrSsmRefIdeal.τ).loc Cert.ABrSsmRefIdeal.main_arg2)
      ∧ r.2.mem ((c.tc : Thread Cert.ABrSsmRefIdeal.nD Cert.ABrSsmRefIdeal.τ).loc Cert.ABrSsmRefIdeal.main_arg3) = m ((c.tc : Thread Cert.ABrSsmRefIdeal.nD Cert.ABrSsmRefIdeal.τ).loc Cert.ABrSsmRefIdeal.main_arg3))
      ∧ r.2.sem = fun _ => 0)

def quiescent_AXkv [hAXkv : Cert.AXkv.Facts] : Prop :=
  ∀ (m : (ℓ : Loc Cert.AXkv.nD Cert.AXkv.τ Cert.AXkv.sig) → Buf (Elt Bits) ℓ) (g : Dev Cert.AXkv.nD → PrngReg), Pre_AXkv m →
    θ_run (Cert.AXkv.defs (F := Bits)) (onTc (τ := Cert.AXkv.τ) (Cert.AXkv.main (F := Bits))) ⟨m, fun _ => 0, g⟩ (fun r => (∀ c : Dev Cert.AXkv.nD,
      r.2.mem ((c.tc : Thread Cert.AXkv.nD Cert.AXkv.τ).loc Cert.AXkv.main_arg0) = m ((c.tc : Thread Cert.AXkv.nD Cert.AXkv.τ).loc Cert.AXkv.main_arg0)
      ∧ r.2.mem ((c.tc : Thread Cert.AXkv.nD Cert.AXkv.τ).loc Cert.AXkv.main_arg1) = m ((c.tc : Thread Cert.AXkv.nD Cert.AXkv.τ).loc Cert.AXkv.main_arg1)
      ∧ r.2.mem ((c.tc : Thread Cert.AXkv.nD Cert.AXkv.τ).loc Cert.AXkv.main_arg2) = m ((c.tc : Thread Cert.AXkv.nD Cert.AXkv.τ).loc Cert.AXkv.main_arg2)
      ∧ r.2.mem ((c.tc : Thread Cert.AXkv.nD Cert.AXkv.τ).loc Cert.AXkv.main_arg3) = m ((c.tc : Thread Cert.AXkv.nD Cert.AXkv.τ).loc Cert.AXkv.main_arg3))
      ∧ r.2.sem = fun _ => 0)

def quiescent_AXkvIdeal [hAXkvIdeal : Cert.AXkvIdeal.Facts] : Prop :=
  ∀ (m : (ℓ : Loc Cert.AXkvIdeal.nD Cert.AXkvIdeal.τ Cert.AXkvIdeal.sig) → Buf (Elt Ideal) ℓ) (g : Dev Cert.AXkvIdeal.nD → PrngReg), Pre_AXkvIdeal m →
    θ_run (Cert.AXkvIdeal.defs (F := Ideal)) (onTc (τ := Cert.AXkvIdeal.τ) (Cert.AXkvIdeal.main (F := Ideal))) ⟨m, fun _ => 0, g⟩ (fun r => (∀ c : Dev Cert.AXkvIdeal.nD,
      r.2.mem ((c.tc : Thread Cert.AXkvIdeal.nD Cert.AXkvIdeal.τ).loc Cert.AXkvIdeal.main_arg0) = m ((c.tc : Thread Cert.AXkvIdeal.nD Cert.AXkvIdeal.τ).loc Cert.AXkvIdeal.main_arg0)
      ∧ r.2.mem ((c.tc : Thread Cert.AXkvIdeal.nD Cert.AXkvIdeal.τ).loc Cert.AXkvIdeal.main_arg1) = m ((c.tc : Thread Cert.AXkvIdeal.nD Cert.AXkvIdeal.τ).loc Cert.AXkvIdeal.main_arg1)
      ∧ r.2.mem ((c.tc : Thread Cert.AXkvIdeal.nD Cert.AXkvIdeal.τ).loc Cert.AXkvIdeal.main_arg2) = m ((c.tc : Thread Cert.AXkvIdeal.nD Cert.AXkvIdeal.τ).loc Cert.AXkvIdeal.main_arg2)
      ∧ r.2.mem ((c.tc : Thread Cert.AXkvIdeal.nD Cert.AXkvIdeal.τ).loc Cert.AXkvIdeal.main_arg3) = m ((c.tc : Thread Cert.AXkvIdeal.nD Cert.AXkvIdeal.τ).loc Cert.AXkvIdeal.main_arg3))
      ∧ r.2.sem = fun _ => 0)

def quiescent_AXkvRefIdeal [hAXkvRefIdeal : Cert.AXkvRefIdeal.Facts] : Prop :=
  ∀ (m : (ℓ : Loc Cert.AXkvRefIdeal.nD Cert.AXkvRefIdeal.τ Cert.AXkvRefIdeal.sig) → Buf (Elt Ideal) ℓ) (g : Dev Cert.AXkvRefIdeal.nD → PrngReg), Pre_AXkvRefIdeal m →
    θ_run (Cert.AXkvRefIdeal.defs (F := Ideal)) (onTc (τ := Cert.AXkvRefIdeal.τ) (Cert.AXkvRefIdeal.main (F := Ideal))) ⟨m, fun _ => 0, g⟩ (fun r => (∀ c : Dev Cert.AXkvRefIdeal.nD,
      r.2.mem ((c.tc : Thread Cert.AXkvRefIdeal.nD Cert.AXkvRefIdeal.τ).loc Cert.AXkvRefIdeal.main_arg0) = m ((c.tc : Thread Cert.AXkvRefIdeal.nD Cert.AXkvRefIdeal.τ).loc Cert.AXkvRefIdeal.main_arg0)
      ∧ r.2.mem ((c.tc : Thread Cert.AXkvRefIdeal.nD Cert.AXkvRefIdeal.τ).loc Cert.AXkvRefIdeal.main_arg1) = m ((c.tc : Thread Cert.AXkvRefIdeal.nD Cert.AXkvRefIdeal.τ).loc Cert.AXkvRefIdeal.main_arg1)
      ∧ r.2.mem ((c.tc : Thread Cert.AXkvRefIdeal.nD Cert.AXkvRefIdeal.τ).loc Cert.AXkvRefIdeal.main_arg2) = m ((c.tc : Thread Cert.AXkvRefIdeal.nD Cert.AXkvRefIdeal.τ).loc Cert.AXkvRefIdeal.main_arg2)
      ∧ r.2.mem ((c.tc : Thread Cert.AXkvRefIdeal.nD Cert.AXkvRefIdeal.τ).loc Cert.AXkvRefIdeal.main_arg3) = m ((c.tc : Thread Cert.AXkvRefIdeal.nD Cert.AXkvRefIdeal.τ).loc Cert.AXkvRefIdeal.main_arg3))
      ∧ r.2.sem = fun _ => 0)

def quiescent_AGu [hAGu : Cert.AGu.Facts] : Prop :=
  ∀ (m : (ℓ : Loc Cert.AGu.nD Cert.AGu.τ Cert.AGu.sig) → Buf (Elt Bits) ℓ) (g : Dev Cert.AGu.nD → PrngReg), Pre_AGu m →
    θ_run (Cert.AGu.defs (F := Bits)) (onTc (τ := Cert.AGu.τ) (Cert.AGu.main (F := Bits))) ⟨m, fun _ => 0, g⟩ (fun r => (∀ c : Dev Cert.AGu.nD,
      r.2.mem ((c.tc : Thread Cert.AGu.nD Cert.AGu.τ).loc Cert.AGu.main_arg0) = m ((c.tc : Thread Cert.AGu.nD Cert.AGu.τ).loc Cert.AGu.main_arg0)
      ∧ r.2.mem ((c.tc : Thread Cert.AGu.nD Cert.AGu.τ).loc Cert.AGu.main_arg1) = m ((c.tc : Thread Cert.AGu.nD Cert.AGu.τ).loc Cert.AGu.main_arg1)
      ∧ r.2.mem ((c.tc : Thread Cert.AGu.nD Cert.AGu.τ).loc Cert.AGu.main_arg2) = m ((c.tc : Thread Cert.AGu.nD Cert.AGu.τ).loc Cert.AGu.main_arg2)
      ∧ r.2.mem ((c.tc : Thread Cert.AGu.nD Cert.AGu.τ).loc Cert.AGu.main_arg3) = m ((c.tc : Thread Cert.AGu.nD Cert.AGu.τ).loc Cert.AGu.main_arg3))
      ∧ r.2.sem = fun _ => 0)

def quiescent_AGuIdeal [hAGuIdeal : Cert.AGuIdeal.Facts] : Prop :=
  ∀ (m : (ℓ : Loc Cert.AGuIdeal.nD Cert.AGuIdeal.τ Cert.AGuIdeal.sig) → Buf (Elt Ideal) ℓ) (g : Dev Cert.AGuIdeal.nD → PrngReg), Pre_AGuIdeal m →
    θ_run (Cert.AGuIdeal.defs (F := Ideal)) (onTc (τ := Cert.AGuIdeal.τ) (Cert.AGuIdeal.main (F := Ideal))) ⟨m, fun _ => 0, g⟩ (fun r => (∀ c : Dev Cert.AGuIdeal.nD,
      r.2.mem ((c.tc : Thread Cert.AGuIdeal.nD Cert.AGuIdeal.τ).loc Cert.AGuIdeal.main_arg0) = m ((c.tc : Thread Cert.AGuIdeal.nD Cert.AGuIdeal.τ).loc Cert.AGuIdeal.main_arg0)
      ∧ r.2.mem ((c.tc : Thread Cert.AGuIdeal.nD Cert.AGuIdeal.τ).loc Cert.AGuIdeal.main_arg1) = m ((c.tc : Thread Cert.AGuIdeal.nD Cert.AGuIdeal.τ).loc Cert.AGuIdeal.main_arg1)
      ∧ r.2.mem ((c.tc : Thread Cert.AGuIdeal.nD Cert.AGuIdeal.τ).loc Cert.AGuIdeal.main_arg2) = m ((c.tc : Thread Cert.AGuIdeal.nD Cert.AGuIdeal.τ).loc Cert.AGuIdeal.main_arg2)
      ∧ r.2.mem ((c.tc : Thread Cert.AGuIdeal.nD Cert.AGuIdeal.τ).loc Cert.AGuIdeal.main_arg3) = m ((c.tc : Thread Cert.AGuIdeal.nD Cert.AGuIdeal.τ).loc Cert.AGuIdeal.main_arg3))
      ∧ r.2.sem = fun _ => 0)

def quiescent_AGuRefIdeal [hAGuRefIdeal : Cert.AGuRefIdeal.Facts] : Prop :=
  ∀ (m : (ℓ : Loc Cert.AGuRefIdeal.nD Cert.AGuRefIdeal.τ Cert.AGuRefIdeal.sig) → Buf (Elt Ideal) ℓ) (g : Dev Cert.AGuRefIdeal.nD → PrngReg), Pre_AGuRefIdeal m →
    θ_run (Cert.AGuRefIdeal.defs (F := Ideal)) (onTc (τ := Cert.AGuRefIdeal.τ) (Cert.AGuRefIdeal.main (F := Ideal))) ⟨m, fun _ => 0, g⟩ (fun r => (∀ c : Dev Cert.AGuRefIdeal.nD,
      r.2.mem ((c.tc : Thread Cert.AGuRefIdeal.nD Cert.AGuRefIdeal.τ).loc Cert.AGuRefIdeal.main_arg0) = m ((c.tc : Thread Cert.AGuRefIdeal.nD Cert.AGuRefIdeal.τ).loc Cert.AGuRefIdeal.main_arg0)
      ∧ r.2.mem ((c.tc : Thread Cert.AGuRefIdeal.nD Cert.AGuRefIdeal.τ).loc Cert.AGuRefIdeal.main_arg1) = m ((c.tc : Thread Cert.AGuRefIdeal.nD Cert.AGuRefIdeal.τ).loc Cert.AGuRefIdeal.main_arg1)
      ∧ r.2.mem ((c.tc : Thread Cert.AGuRefIdeal.nD Cert.AGuRefIdeal.τ).loc Cert.AGuRefIdeal.main_arg2) = m ((c.tc : Thread Cert.AGuRefIdeal.nD Cert.AGuRefIdeal.τ).loc Cert.AGuRefIdeal.main_arg2)
      ∧ r.2.mem ((c.tc : Thread Cert.AGuRefIdeal.nD Cert.AGuRefIdeal.τ).loc Cert.AGuRefIdeal.main_arg3) = m ((c.tc : Thread Cert.AGuRefIdeal.nD Cert.AGuRefIdeal.τ).loc Cert.AGuRefIdeal.main_arg3))
      ∧ r.2.sem = fun _ => 0)

def quiescent_ADown [hADown : Cert.ADown.Facts] : Prop :=
  ∀ (m : (ℓ : Loc Cert.ADown.nD Cert.ADown.τ Cert.ADown.sig) → Buf (Elt Bits) ℓ) (g : Dev Cert.ADown.nD → PrngReg), Pre_ADown m →
    θ_run (Cert.ADown.defs (F := Bits)) (onTc (τ := Cert.ADown.τ) (Cert.ADown.main (F := Bits))) ⟨m, fun _ => 0, g⟩ (fun r => (∀ c : Dev Cert.ADown.nD,
      r.2.mem ((c.tc : Thread Cert.ADown.nD Cert.ADown.τ).loc Cert.ADown.main_arg0) = m ((c.tc : Thread Cert.ADown.nD Cert.ADown.τ).loc Cert.ADown.main_arg0)
      ∧ r.2.mem ((c.tc : Thread Cert.ADown.nD Cert.ADown.τ).loc Cert.ADown.main_arg1) = m ((c.tc : Thread Cert.ADown.nD Cert.ADown.τ).loc Cert.ADown.main_arg1)
      ∧ r.2.mem ((c.tc : Thread Cert.ADown.nD Cert.ADown.τ).loc Cert.ADown.main_arg2) = m ((c.tc : Thread Cert.ADown.nD Cert.ADown.τ).loc Cert.ADown.main_arg2)
      ∧ r.2.mem ((c.tc : Thread Cert.ADown.nD Cert.ADown.τ).loc Cert.ADown.main_arg3) = m ((c.tc : Thread Cert.ADown.nD Cert.ADown.τ).loc Cert.ADown.main_arg3))
      ∧ r.2.sem = fun _ => 0)

def quiescent_ADownIdeal [hADownIdeal : Cert.ADownIdeal.Facts] : Prop :=
  ∀ (m : (ℓ : Loc Cert.ADownIdeal.nD Cert.ADownIdeal.τ Cert.ADownIdeal.sig) → Buf (Elt Ideal) ℓ) (g : Dev Cert.ADownIdeal.nD → PrngReg), Pre_ADownIdeal m →
    θ_run (Cert.ADownIdeal.defs (F := Ideal)) (onTc (τ := Cert.ADownIdeal.τ) (Cert.ADownIdeal.main (F := Ideal))) ⟨m, fun _ => 0, g⟩ (fun r => (∀ c : Dev Cert.ADownIdeal.nD,
      r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
      ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
      ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
      ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3))
      ∧ r.2.sem = fun _ => 0)

def quiescent_ADownRefIdeal [hADownRefIdeal : Cert.ADownRefIdeal.Facts] : Prop :=
  ∀ (m : (ℓ : Loc Cert.ADownRefIdeal.nD Cert.ADownRefIdeal.τ Cert.ADownRefIdeal.sig) → Buf (Elt Ideal) ℓ) (g : Dev Cert.ADownRefIdeal.nD → PrngReg), Pre_ADownRefIdeal m →
    θ_run (Cert.ADownRefIdeal.defs (F := Ideal)) (onTc (τ := Cert.ADownRefIdeal.τ) (Cert.ADownRefIdeal.main (F := Ideal))) ⟨m, fun _ => 0, g⟩ (fun r => (∀ c : Dev Cert.ADownRefIdeal.nD,
      r.2.mem ((c.tc : Thread Cert.ADownRefIdeal.nD Cert.ADownRefIdeal.τ).loc Cert.ADownRefIdeal.main_arg0) = m ((c.tc : Thread Cert.ADownRefIdeal.nD Cert.ADownRefIdeal.τ).loc Cert.ADownRefIdeal.main_arg0)
      ∧ r.2.mem ((c.tc : Thread Cert.ADownRefIdeal.nD Cert.ADownRefIdeal.τ).loc Cert.ADownRefIdeal.main_arg1) = m ((c.tc : Thread Cert.ADownRefIdeal.nD Cert.ADownRefIdeal.τ).loc Cert.ADownRefIdeal.main_arg1)
      ∧ r.2.mem ((c.tc : Thread Cert.ADownRefIdeal.nD Cert.ADownRefIdeal.τ).loc Cert.ADownRefIdeal.main_arg2) = m ((c.tc : Thread Cert.ADownRefIdeal.nD Cert.ADownRefIdeal.τ).loc Cert.ADownRefIdeal.main_arg2)
      ∧ r.2.mem ((c.tc : Thread Cert.ADownRefIdeal.nD Cert.ADownRefIdeal.τ).loc Cert.ADownRefIdeal.main_arg3) = m ((c.tc : Thread Cert.ADownRefIdeal.nD Cert.ADownRefIdeal.τ).loc Cert.ADownRefIdeal.main_arg3))
      ∧ r.2.sem = fun _ => 0)

def quiescent_AConv [hAConv : Cert.AConv.Facts] : Prop :=
  ∀ (m : (ℓ : Loc Cert.AConv.nD Cert.AConv.τ Cert.AConv.sig) → Buf (Elt Bits) ℓ) (g : Dev Cert.AConv.nD → PrngReg), Pre_AConv m →
    θ_run (Cert.AConv.defs (F := Bits)) (onTc (τ := Cert.AConv.τ) (Cert.AConv.main (F := Bits))) ⟨m, fun _ => 0, g⟩ (fun r => (∀ c : Dev Cert.AConv.nD,
      r.2.mem ((c.tc : Thread Cert.AConv.nD Cert.AConv.τ).loc Cert.AConv.main_arg0) = m ((c.tc : Thread Cert.AConv.nD Cert.AConv.τ).loc Cert.AConv.main_arg0)
      ∧ r.2.mem ((c.tc : Thread Cert.AConv.nD Cert.AConv.τ).loc Cert.AConv.main_arg1) = m ((c.tc : Thread Cert.AConv.nD Cert.AConv.τ).loc Cert.AConv.main_arg1)
      ∧ r.2.mem ((c.tc : Thread Cert.AConv.nD Cert.AConv.τ).loc Cert.AConv.main_arg2) = m ((c.tc : Thread Cert.AConv.nD Cert.AConv.τ).loc Cert.AConv.main_arg2)
      ∧ r.2.mem ((c.tc : Thread Cert.AConv.nD Cert.AConv.τ).loc Cert.AConv.main_arg3) = m ((c.tc : Thread Cert.AConv.nD Cert.AConv.τ).loc Cert.AConv.main_arg3))
      ∧ r.2.sem = fun _ => 0)

def quiescent_AConvIdeal [hAConvIdeal : Cert.AConvIdeal.Facts] : Prop :=
  ∀ (m : (ℓ : Loc Cert.AConvIdeal.nD Cert.AConvIdeal.τ Cert.AConvIdeal.sig) → Buf (Elt Ideal) ℓ) (g : Dev Cert.AConvIdeal.nD → PrngReg), Pre_AConvIdeal m →
    θ_run (Cert.AConvIdeal.defs (F := Ideal)) (onTc (τ := Cert.AConvIdeal.τ) (Cert.AConvIdeal.main (F := Ideal))) ⟨m, fun _ => 0, g⟩ (fun r => (∀ c : Dev Cert.AConvIdeal.nD,
      r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
      ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1)
      ∧ r.2.mem ((c.tc : Thread Cert.AConvIdeal.nD Cert.AConvIdeal.τ).loc Cert.AConvIdeal.main_arg2) = m ((c.tc : Thread Cert.AConvIdeal.nD Cert.AConvIdeal.τ).loc Cert.AConvIdeal.main_arg2)
      ∧ r.2.mem ((c.tc : Thread Cert.AConvIdeal.nD Cert.AConvIdeal.τ).loc Cert.AConvIdeal.main_arg3) = m ((c.tc : Thread Cert.AConvIdeal.nD Cert.AConvIdeal.τ).loc Cert.AConvIdeal.main_arg3))
      ∧ r.2.sem = fun _ => 0)

def quiescent_AConvRefIdeal [hAConvRefIdeal : Cert.AConvRefIdeal.Facts] : Prop :=
  ∀ (m : (ℓ : Loc Cert.AConvRefIdeal.nD Cert.AConvRefIdeal.τ Cert.AConvRefIdeal.sig) → Buf (Elt Ideal) ℓ) (g : Dev Cert.AConvRefIdeal.nD → PrngReg), Pre_AConvRefIdeal m →
    θ_run (Cert.AConvRefIdeal.defs (F := Ideal)) (onTc (τ := Cert.AConvRefIdeal.τ) (Cert.AConvRefIdeal.main (F := Ideal))) ⟨m, fun _ => 0, g⟩ (fun r => (∀ c : Dev Cert.AConvRefIdeal.nD,
      r.2.mem ((c.tc : Thread Cert.AConvRefIdeal.nD Cert.AConvRefIdeal.τ).loc Cert.AConvRefIdeal.main_arg0) = m ((c.tc : Thread Cert.AConvRefIdeal.nD Cert.AConvRefIdeal.τ).loc Cert.AConvRefIdeal.main_arg0)
      ∧ r.2.mem ((c.tc : Thread Cert.AConvRefIdeal.nD Cert.AConvRefIdeal.τ).loc Cert.AConvRefIdeal.main_arg1) = m ((c.tc : Thread Cert.AConvRefIdeal.nD Cert.AConvRefIdeal.τ).loc Cert.AConvRefIdeal.main_arg1)
      ∧ r.2.mem ((c.tc : Thread Cert.AConvRefIdeal.nD Cert.AConvRefIdeal.τ).loc Cert.AConvRefIdeal.main_arg2) = m ((c.tc : Thread Cert.AConvRefIdeal.nD Cert.AConvRefIdeal.τ).loc Cert.AConvRefIdeal.main_arg2)
      ∧ r.2.mem ((c.tc : Thread Cert.AConvRefIdeal.nD Cert.AConvRefIdeal.τ).loc Cert.AConvRefIdeal.main_arg3) = m ((c.tc : Thread Cert.AConvRefIdeal.nD Cert.AConvRefIdeal.τ).loc Cert.AConvRefIdeal.main_arg3))
      ∧ r.2.sem = fun _ => 0)

def quiescent_ASmall [hASmall : Cert.ASmall.Facts] : Prop :=
  ∀ (m : (ℓ : Loc Cert.ASmall.nD Cert.ASmall.τ Cert.ASmall.sig) → Buf (Elt Bits) ℓ) (g : Dev Cert.ASmall.nD → PrngReg), Pre_ASmall m →
    θ_run (Cert.ASmall.defs (F := Bits)) (onTc (τ := Cert.ASmall.τ) (Cert.ASmall.main (F := Bits))) ⟨m, fun _ => 0, g⟩ (fun r => (∀ c : Dev Cert.ASmall.nD,
      r.2.mem ((c.tc : Thread Cert.ASmall.nD Cert.ASmall.τ).loc Cert.ASmall.main_arg0) = m ((c.tc : Thread Cert.ASmall.nD Cert.ASmall.τ).loc Cert.ASmall.main_arg0)
      ∧ r.2.mem ((c.tc : Thread Cert.ASmall.nD Cert.ASmall.τ).loc Cert.ASmall.main_arg1) = m ((c.tc : Thread Cert.ASmall.nD Cert.ASmall.τ).loc Cert.ASmall.main_arg1)
      ∧ r.2.mem ((c.tc : Thread Cert.ASmall.nD Cert.ASmall.τ).loc Cert.ASmall.main_arg2) = m ((c.tc : Thread Cert.ASmall.nD Cert.ASmall.τ).loc Cert.ASmall.main_arg2)
      ∧ r.2.mem ((c.tc : Thread Cert.ASmall.nD Cert.ASmall.τ).loc Cert.ASmall.main_arg3) = m ((c.tc : Thread Cert.ASmall.nD Cert.ASmall.τ).loc Cert.ASmall.main_arg3))
      ∧ r.2.sem = fun _ => 0)

def quiescent_ASmallIdeal [hASmallIdeal : Cert.ASmallIdeal.Facts] : Prop :=
  ∀ (m : (ℓ : Loc Cert.ASmallIdeal.nD Cert.ASmallIdeal.τ Cert.ASmallIdeal.sig) → Buf (Elt Ideal) ℓ) (g : Dev Cert.ASmallIdeal.nD → PrngReg), Pre_ASmallIdeal m →
    θ_run (Cert.ASmallIdeal.defs (F := Ideal)) (onTc (τ := Cert.ASmallIdeal.τ) (Cert.ASmallIdeal.main (F := Ideal))) ⟨m, fun _ => 0, g⟩ (fun r => (∀ c : Dev Cert.ASmallIdeal.nD,
      r.2.mem ((c.tc : Thread Cert.ASmallIdeal.nD Cert.ASmallIdeal.τ).loc Cert.ASmallIdeal.main_arg0) = m ((c.tc : Thread Cert.ASmallIdeal.nD Cert.ASmallIdeal.τ).loc Cert.ASmallIdeal.main_arg0)
      ∧ r.2.mem ((c.tc : Thread Cert.ASmallIdeal.nD Cert.ASmallIdeal.τ).loc Cert.ASmallIdeal.main_arg1) = m ((c.tc : Thread Cert.ASmallIdeal.nD Cert.ASmallIdeal.τ).loc Cert.ASmallIdeal.main_arg1)
      ∧ r.2.mem ((c.tc : Thread Cert.ASmallIdeal.nD Cert.ASmallIdeal.τ).loc Cert.ASmallIdeal.main_arg2) = m ((c.tc : Thread Cert.ASmallIdeal.nD Cert.ASmallIdeal.τ).loc Cert.ASmallIdeal.main_arg2)
      ∧ r.2.mem ((c.tc : Thread Cert.ASmallIdeal.nD Cert.ASmallIdeal.τ).loc Cert.ASmallIdeal.main_arg3) = m ((c.tc : Thread Cert.ASmallIdeal.nD Cert.ASmallIdeal.τ).loc Cert.ASmallIdeal.main_arg3))
      ∧ r.2.sem = fun _ => 0)

def quiescent_ASmallRefIdeal [hASmallRefIdeal : Cert.ASmallRefIdeal.Facts] : Prop :=
  ∀ (m : (ℓ : Loc Cert.ASmallRefIdeal.nD Cert.ASmallRefIdeal.τ Cert.ASmallRefIdeal.sig) → Buf (Elt Ideal) ℓ) (g : Dev Cert.ASmallRefIdeal.nD → PrngReg), Pre_ASmallRefIdeal m →
    θ_run (Cert.ASmallRefIdeal.defs (F := Ideal)) (onTc (τ := Cert.ASmallRefIdeal.τ) (Cert.ASmallRefIdeal.main (F := Ideal))) ⟨m, fun _ => 0, g⟩ (fun r => (∀ c : Dev Cert.ASmallRefIdeal.nD,
      r.2.mem ((c.tc : Thread Cert.ASmallRefIdeal.nD Cert.ASmallRefIdeal.τ).loc Cert.ASmallRefIdeal.main_arg0) = m ((c.tc : Thread Cert.ASmallRefIdeal.nD Cert.ASmallRefIdeal.τ).loc Cert.ASmallRefIdeal.main_arg0)
      ∧ r.2.mem ((c.tc : Thread Cert.ASmallRefIdeal.nD Cert.ASmallRefIdeal.τ).loc Cert.ASmallRefIdeal.main_arg1) = m ((c.tc : Thread Cert.ASmallRefIdeal.nD Cert.ASmallRefIdeal.τ).loc Cert.ASmallRefIdeal.main_arg1)
      ∧ r.2.mem ((c.tc : Thread Cert.ASmallRefIdeal.nD Cert.ASmallRefIdeal.τ).loc Cert.ASmallRefIdeal.main_arg2) = m ((c.tc : Thread Cert.ASmallRefIdeal.nD Cert.ASmallRefIdeal.τ).loc Cert.ASmallRefIdeal.main_arg2)
      ∧ r.2.mem ((c.tc : Thread Cert.ASmallRefIdeal.nD Cert.ASmallRefIdeal.τ).loc Cert.ASmallRefIdeal.main_arg3) = m ((c.tc : Thread Cert.ASmallRefIdeal.nD Cert.ASmallRefIdeal.τ).loc Cert.ASmallRefIdeal.main_arg3))
      ∧ r.2.sem = fun _ => 0)

def quiescent_EPre [hEPre : Cert.EPre.Facts] : Prop :=
  ∀ (m : (ℓ : Loc Cert.EPre.nD Cert.EPre.τ Cert.EPre.sig) → Buf (Elt Bits) ℓ) (g : Dev Cert.EPre.nD → PrngReg), Pre_EPre m →
    θ_run (Cert.EPre.defs (F := Bits)) (onTc (τ := Cert.EPre.τ) (Cert.EPre.main (F := Bits))) ⟨m, fun _ => 0, g⟩ (fun r => (∀ c : Dev Cert.EPre.nD,
      r.2.mem ((c.tc : Thread Cert.EPre.nD Cert.EPre.τ).loc Cert.EPre.main_arg0) = m ((c.tc : Thread Cert.EPre.nD Cert.EPre.τ).loc Cert.EPre.main_arg0)
      ∧ r.2.mem ((c.tc : Thread Cert.EPre.nD Cert.EPre.τ).loc Cert.EPre.main_arg1) = m ((c.tc : Thread Cert.EPre.nD Cert.EPre.τ).loc Cert.EPre.main_arg1)
      ∧ r.2.mem ((c.tc : Thread Cert.EPre.nD Cert.EPre.τ).loc Cert.EPre.main_arg2) = m ((c.tc : Thread Cert.EPre.nD Cert.EPre.τ).loc Cert.EPre.main_arg2)
      ∧ r.2.mem ((c.tc : Thread Cert.EPre.nD Cert.EPre.τ).loc Cert.EPre.main_arg3) = m ((c.tc : Thread Cert.EPre.nD Cert.EPre.τ).loc Cert.EPre.main_arg3))
      ∧ r.2.sem = fun _ => 0)

def quiescent_EPreIdeal [hEPreIdeal : Cert.EPreIdeal.Facts] : Prop :=
  ∀ (m : (ℓ : Loc Cert.EPreIdeal.nD Cert.EPreIdeal.τ Cert.EPreIdeal.sig) → Buf (Elt Ideal) ℓ) (g : Dev Cert.EPreIdeal.nD → PrngReg), Pre_EPreIdeal m →
    θ_run (Cert.EPreIdeal.defs (F := Ideal)) (onTc (τ := Cert.EPreIdeal.τ) (Cert.EPreIdeal.main (F := Ideal))) ⟨m, fun _ => 0, g⟩ (fun r => (∀ c : Dev Cert.EPreIdeal.nD,
      r.2.mem ((c.tc : Thread Cert.EPreIdeal.nD Cert.EPreIdeal.τ).loc Cert.EPreIdeal.main_arg0) = m ((c.tc : Thread Cert.EPreIdeal.nD Cert.EPreIdeal.τ).loc Cert.EPreIdeal.main_arg0)
      ∧ r.2.mem ((c.tc : Thread Cert.EPreIdeal.nD Cert.EPreIdeal.τ).loc Cert.EPreIdeal.main_arg1) = m ((c.tc : Thread Cert.EPreIdeal.nD Cert.EPreIdeal.τ).loc Cert.EPreIdeal.main_arg1)
      ∧ r.2.mem ((c.tc : Thread Cert.EPreIdeal.nD Cert.EPreIdeal.τ).loc Cert.EPreIdeal.main_arg2) = m ((c.tc : Thread Cert.EPreIdeal.nD Cert.EPreIdeal.τ).loc Cert.EPreIdeal.main_arg2)
      ∧ r.2.mem ((c.tc : Thread Cert.EPreIdeal.nD Cert.EPreIdeal.τ).loc Cert.EPreIdeal.main_arg3) = m ((c.tc : Thread Cert.EPreIdeal.nD Cert.EPreIdeal.τ).loc Cert.EPreIdeal.main_arg3))
      ∧ r.2.sem = fun _ => 0)

def quiescent_EPreRefIdeal [hEPreRefIdeal : Cert.EPreRefIdeal.Facts] : Prop :=
  ∀ (m : (ℓ : Loc Cert.EPreRefIdeal.nD Cert.EPreRefIdeal.τ Cert.EPreRefIdeal.sig) → Buf (Elt Ideal) ℓ) (g : Dev Cert.EPreRefIdeal.nD → PrngReg), Pre_EPreRefIdeal m →
    θ_run (Cert.EPreRefIdeal.defs (F := Ideal)) (onTc (τ := Cert.EPreRefIdeal.τ) (Cert.EPreRefIdeal.main (F := Ideal))) ⟨m, fun _ => 0, g⟩ (fun r => (∀ c : Dev Cert.EPreRefIdeal.nD,
      r.2.mem ((c.tc : Thread Cert.EPreRefIdeal.nD Cert.EPreRefIdeal.τ).loc Cert.EPreRefIdeal.main_arg0) = m ((c.tc : Thread Cert.EPreRefIdeal.nD Cert.EPreRefIdeal.τ).loc Cert.EPreRefIdeal.main_arg0)
      ∧ r.2.mem ((c.tc : Thread Cert.EPreRefIdeal.nD Cert.EPreRefIdeal.τ).loc Cert.EPreRefIdeal.main_arg1) = m ((c.tc : Thread Cert.EPreRefIdeal.nD Cert.EPreRefIdeal.τ).loc Cert.EPreRefIdeal.main_arg1)
      ∧ r.2.mem ((c.tc : Thread Cert.EPreRefIdeal.nD Cert.EPreRefIdeal.τ).loc Cert.EPreRefIdeal.main_arg2) = m ((c.tc : Thread Cert.EPreRefIdeal.nD Cert.EPreRefIdeal.τ).loc Cert.EPreRefIdeal.main_arg2)
      ∧ r.2.mem ((c.tc : Thread Cert.EPreRefIdeal.nD Cert.EPreRefIdeal.τ).loc Cert.EPreRefIdeal.main_arg3) = m ((c.tc : Thread Cert.EPreRefIdeal.nD Cert.EPreRefIdeal.τ).loc Cert.EPreRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v4) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v5) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v5) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DH3_DH3Ideal : Prop :=
  True

def algebraic_DH3Ideal_DH3RefIdeal [hDH3Ideal : Cert.DH3Ideal.Facts] [hDH3RefIdeal : Cert.DH3RefIdeal.Facts] : Prop :=
  ∀ (m : (ℓ : Loc Cert.DH3Ideal.nD Cert.DH3Ideal.τ Cert.DH3Ideal.sig) → Buf (Elt Ideal) ℓ) (g : Dev Cert.DH3Ideal.nD → PrngReg)
    (m' : (ℓ : Loc Cert.DH3RefIdeal.nD Cert.DH3RefIdeal.τ Cert.DH3RefIdeal.sig) → Buf (Elt Ideal) ℓ) (g' : Dev Cert.DH3RefIdeal.nD → PrngReg), Pre_DH3Ideal m →
    (∀ c : Dev Cert.DH3Ideal.nD,
      m' ((c.tc : Thread Cert.DH3RefIdeal.nD Cert.DH3RefIdeal.τ).loc Cert.DH3RefIdeal.main_arg0) = m ((c.tc : Thread Cert.DH3Ideal.nD Cert.DH3Ideal.τ).loc Cert.DH3Ideal.main_arg0)
      ∧ m' ((c.tc : Thread Cert.DH3RefIdeal.nD Cert.DH3RefIdeal.τ).loc Cert.DH3RefIdeal.main_arg1) = m ((c.tc : Thread Cert.DH3Ideal.nD Cert.DH3Ideal.τ).loc Cert.DH3Ideal.main_arg1)) →
    ∃ (v0 : (c : Dev Cert.DH3Ideal.nD) → Buf (Elt Ideal) ((c.tc : Thread Cert.DH3Ideal.nD Cert.DH3Ideal.τ).loc Cert.DH3Ideal.main_v0)),
      θ_run (Cert.DH3Ideal.defs (F := Ideal)) (onTc (τ := Cert.DH3Ideal.τ) (Cert.DH3Ideal.main (F := Ideal))) ⟨m, fun _ => 0, g⟩ (fun r => ∀ c : Dev Cert.DH3Ideal.nD,
          r.2.mem ((c.tc : Thread Cert.DH3Ideal.nD Cert.DH3Ideal.τ).loc Cert.DH3Ideal.main_v0) = v0 c
          ∧ r.2.mem ((c.tc : Thread Cert.DH3Ideal.nD Cert.DH3Ideal.τ).loc Cert.DH3Ideal.main_arg0) = m ((c.tc : Thread Cert.DH3Ideal.nD Cert.DH3Ideal.τ).loc Cert.DH3Ideal.main_arg0)
          ∧ r.2.mem ((c.tc : Thread Cert.DH3Ideal.nD Cert.DH3Ideal.τ).loc Cert.DH3Ideal.main_arg1) = m ((c.tc : Thread Cert.DH3Ideal.nD Cert.DH3Ideal.τ).loc Cert.DH3Ideal.main_arg1))
      ∧ θ_run (Cert.DH3RefIdeal.defs (F := Ideal)) (onTc (τ := Cert.DH3RefIdeal.τ) (Cert.DH3RefIdeal.main (F := Ideal))) ⟨m', fun _ => 0, g'⟩ (fun r => ∀ c : Dev Cert.DH3RefIdeal.nD,
          r.2.mem ((c.tc : Thread Cert.DH3RefIdeal.nD Cert.DH3RefIdeal.τ).loc Cert.DH3RefIdeal.main_v4) = v0 c
          ∧ r.2.mem ((c.tc : Thread Cert.DH3RefIdeal.nD Cert.DH3RefIdeal.τ).loc Cert.DH3RefIdeal.main_arg0) = m' ((c.tc : Thread Cert.DH3RefIdeal.nD Cert.DH3RefIdeal.τ).loc Cert.DH3RefIdeal.main_arg0)
          ∧ r.2.mem ((c.tc : Thread Cert.DH3RefIdeal.nD Cert.DH3RefIdeal.τ).loc Cert.DH3RefIdeal.main_arg1) = m' ((c.tc : Thread Cert.DH3RefIdeal.nD Cert.DH3RefIdeal.τ).loc Cert.DH3RefIdeal.main_arg1))

def preserves_DWGu_DWGuIdeal : Prop :=
  True

def algebraic_DWGuIdeal_DWGuRefIdeal [hDWGuIdeal : Cert.DWGuIdeal.Facts] [hDWGuRefIdeal : Cert.DWGuRefIdeal.Facts] : Prop :=
  ∀ (m : (ℓ : Loc Cert.DWGuIdeal.nD Cert.DWGuIdeal.τ Cert.DWGuIdeal.sig) → Buf (Elt Ideal) ℓ) (g : Dev Cert.DWGuIdeal.nD → PrngReg)
    (m' : (ℓ : Loc Cert.DWGuRefIdeal.nD Cert.DWGuRefIdeal.τ Cert.DWGuRefIdeal.sig) → Buf (Elt Ideal) ℓ) (g' : Dev Cert.DWGuRefIdeal.nD → PrngReg), Pre_DWGuIdeal m →
    (∀ c : Dev Cert.DWGuIdeal.nD,
      m' ((c.tc : Thread Cert.DWGuRefIdeal.nD Cert.DWGuRefIdeal.τ).loc Cert.DWGuRefIdeal.main_arg0) = m ((c.tc : Thread Cert.DWGuIdeal.nD Cert.DWGuIdeal.τ).loc Cert.DWGuIdeal.main_arg0)
      ∧ m' ((c.tc : Thread Cert.DWGuRefIdeal.nD Cert.DWGuRefIdeal.τ).loc Cert.DWGuRefIdeal.main_arg1) = m ((c.tc : Thread Cert.DWGuIdeal.nD Cert.DWGuIdeal.τ).loc Cert.DWGuIdeal.main_arg1)) →
    ∃ (v0 : (c : Dev Cert.DWGuIdeal.nD) → Buf (Elt Ideal) ((c.tc : Thread Cert.DWGuIdeal.nD Cert.DWGuIdeal.τ).loc Cert.DWGuIdeal.main_v0)),
      θ_run (Cert.DWGuIdeal.defs (F := Ideal)) (onTc (τ := Cert.DWGuIdeal.τ) (Cert.DWGuIdeal.main (F := Ideal))) ⟨m, fun _ => 0, g⟩ (fun r => ∀ c : Dev Cert.DWGuIdeal.nD,
          r.2.mem ((c.tc : Thread Cert.DWGuIdeal.nD Cert.DWGuIdeal.τ).loc Cert.DWGuIdeal.main_v0) = v0 c
          ∧ r.2.mem ((c.tc : Thread Cert.DWGuIdeal.nD Cert.DWGuIdeal.τ).loc Cert.DWGuIdeal.main_arg0) = m ((c.tc : Thread Cert.DWGuIdeal.nD Cert.DWGuIdeal.τ).loc Cert.DWGuIdeal.main_arg0)
          ∧ r.2.mem ((c.tc : Thread Cert.DWGuIdeal.nD Cert.DWGuIdeal.τ).loc Cert.DWGuIdeal.main_arg1) = m ((c.tc : Thread Cert.DWGuIdeal.nD Cert.DWGuIdeal.τ).loc Cert.DWGuIdeal.main_arg1))
      ∧ θ_run (Cert.DWGuRefIdeal.defs (F := Ideal)) (onTc (τ := Cert.DWGuRefIdeal.τ) (Cert.DWGuRefIdeal.main (F := Ideal))) ⟨m', fun _ => 0, g'⟩ (fun r => ∀ c : Dev Cert.DWGuRefIdeal.nD,
          r.2.mem ((c.tc : Thread Cert.DWGuRefIdeal.nD Cert.DWGuRefIdeal.τ).loc Cert.DWGuRefIdeal.main_v5) = v0 c
          ∧ r.2.mem ((c.tc : Thread Cert.DWGuRefIdeal.nD Cert.DWGuRefIdeal.τ).loc Cert.DWGuRefIdeal.main_arg0) = m' ((c.tc : Thread Cert.DWGuRefIdeal.nD Cert.DWGuRefIdeal.τ).loc Cert.DWGuRefIdeal.main_arg0)
          ∧ r.2.mem ((c.tc : Thread Cert.DWGuRefIdeal.nD Cert.DWGuRefIdeal.τ).loc Cert.DWGuRefIdeal.main_arg1) = m' ((c.tc : Thread Cert.DWGuRefIdeal.nD Cert.DWGuRefIdeal.τ).loc Cert.DWGuRefIdeal.main_arg1))

def preserves_DOxa_DOxaIdeal : Prop :=
  True

def algebraic_DOxaIdeal_DOxaRefIdeal [hDOxaIdeal : Cert.DOxaIdeal.Facts] [hDOxaRefIdeal : Cert.DOxaRefIdeal.Facts] : Prop :=
  ∀ (m : (ℓ : Loc Cert.DOxaIdeal.nD Cert.DOxaIdeal.τ Cert.DOxaIdeal.sig) → Buf (Elt Ideal) ℓ) (g : Dev Cert.DOxaIdeal.nD → PrngReg)
    (m' : (ℓ : Loc Cert.DOxaRefIdeal.nD Cert.DOxaRefIdeal.τ Cert.DOxaRefIdeal.sig) → Buf (Elt Ideal) ℓ) (g' : Dev Cert.DOxaRefIdeal.nD → PrngReg), Pre_DOxaIdeal m →
    (∀ c : Dev Cert.DOxaIdeal.nD,
      m' ((c.tc : Thread Cert.DOxaRefIdeal.nD Cert.DOxaRefIdeal.τ).loc Cert.DOxaRefIdeal.main_arg0) = m ((c.tc : Thread Cert.DOxaIdeal.nD Cert.DOxaIdeal.τ).loc Cert.DOxaIdeal.main_arg0)
      ∧ m' ((c.tc : Thread Cert.DOxaRefIdeal.nD Cert.DOxaRefIdeal.τ).loc Cert.DOxaRefIdeal.main_arg1) = m ((c.tc : Thread Cert.DOxaIdeal.nD Cert.DOxaIdeal.τ).loc Cert.DOxaIdeal.main_arg1)) →
    ∃ (v0 : (c : Dev Cert.DOxaIdeal.nD) → Buf (Elt Ideal) ((c.tc : Thread Cert.DOxaIdeal.nD Cert.DOxaIdeal.τ).loc Cert.DOxaIdeal.main_v0)),
      θ_run (Cert.DOxaIdeal.defs (F := Ideal)) (onTc (τ := Cert.DOxaIdeal.τ) (Cert.DOxaIdeal.main (F := Ideal))) ⟨m, fun _ => 0, g⟩ (fun r => ∀ c : Dev Cert.DOxaIdeal.nD,
          r.2.mem ((c.tc : Thread Cert.DOxaIdeal.nD Cert.DOxaIdeal.τ).loc Cert.DOxaIdeal.main_v0) = v0 c
          ∧ r.2.mem ((c.tc : Thread Cert.DOxaIdeal.nD Cert.DOxaIdeal.τ).loc Cert.DOxaIdeal.main_arg0) = m ((c.tc : Thread Cert.DOxaIdeal.nD Cert.DOxaIdeal.τ).loc Cert.DOxaIdeal.main_arg0)
          ∧ r.2.mem ((c.tc : Thread Cert.DOxaIdeal.nD Cert.DOxaIdeal.τ).loc Cert.DOxaIdeal.main_arg1) = m ((c.tc : Thread Cert.DOxaIdeal.nD Cert.DOxaIdeal.τ).loc Cert.DOxaIdeal.main_arg1))
      ∧ θ_run (Cert.DOxaRefIdeal.defs (F := Ideal)) (onTc (τ := Cert.DOxaRefIdeal.τ) (Cert.DOxaRefIdeal.main (F := Ideal))) ⟨m', fun _ => 0, g'⟩ (fun r => ∀ c : Dev Cert.DOxaRefIdeal.nD,
          r.2.mem ((c.tc : Thread Cert.DOxaRefIdeal.nD Cert.DOxaRefIdeal.τ).loc Cert.DOxaRefIdeal.main_v5) = v0 c
          ∧ r.2.mem ((c.tc : Thread Cert.DOxaRefIdeal.nD Cert.DOxaRefIdeal.τ).loc Cert.DOxaRefIdeal.main_arg0) = m' ((c.tc : Thread Cert.DOxaRefIdeal.nD Cert.DOxaRefIdeal.τ).loc Cert.DOxaRefIdeal.main_arg0)
          ∧ r.2.mem ((c.tc : Thread Cert.DOxaRefIdeal.nD Cert.DOxaRefIdeal.τ).loc Cert.DOxaRefIdeal.main_arg1) = m' ((c.tc : Thread Cert.DOxaRefIdeal.nD Cert.DOxaRefIdeal.τ).loc Cert.DOxaRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v4) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_DWXo_DWXoIdeal : Prop :=
  True

def algebraic_DWXoIdeal_DWXoRefIdeal [hDWXoIdeal : Cert.DWXoIdeal.Facts] [hDWXoRefIdeal : Cert.DWXoRefIdeal.Facts] : Prop :=
  ∀ (m : (ℓ : Loc Cert.DWXoIdeal.nD Cert.DWXoIdeal.τ Cert.DWXoIdeal.sig) → Buf (Elt Ideal) ℓ) (g : Dev Cert.DWXoIdeal.nD → PrngReg)
    (m' : (ℓ : Loc Cert.DWXoRefIdeal.nD Cert.DWXoRefIdeal.τ Cert.DWXoRefIdeal.sig) → Buf (Elt Ideal) ℓ) (g' : Dev Cert.DWXoRefIdeal.nD → PrngReg), Pre_DWXoIdeal m →
    (∀ c : Dev Cert.DWXoIdeal.nD,
      m' ((c.tc : Thread Cert.DWXoRefIdeal.nD Cert.DWXoRefIdeal.τ).loc Cert.DWXoRefIdeal.main_arg0) = m ((c.tc : Thread Cert.DWXoIdeal.nD Cert.DWXoIdeal.τ).loc Cert.DWXoIdeal.main_arg0)
      ∧ m' ((c.tc : Thread Cert.DWXoRefIdeal.nD Cert.DWXoRefIdeal.τ).loc Cert.DWXoRefIdeal.main_arg1) = m ((c.tc : Thread Cert.DWXoIdeal.nD Cert.DWXoIdeal.τ).loc Cert.DWXoIdeal.main_arg1)) →
    ∃ (v0 : (c : Dev Cert.DWXoIdeal.nD) → Buf (Elt Ideal) ((c.tc : Thread Cert.DWXoIdeal.nD Cert.DWXoIdeal.τ).loc Cert.DWXoIdeal.main_v0)),
      θ_run (Cert.DWXoIdeal.defs (F := Ideal)) (onTc (τ := Cert.DWXoIdeal.τ) (Cert.DWXoIdeal.main (F := Ideal))) ⟨m, fun _ => 0, g⟩ (fun r => ∀ c : Dev Cert.DWXoIdeal.nD,
          r.2.mem ((c.tc : Thread Cert.DWXoIdeal.nD Cert.DWXoIdeal.τ).loc Cert.DWXoIdeal.main_v0) = v0 c
          ∧ r.2.mem ((c.tc : Thread Cert.DWXoIdeal.nD Cert.DWXoIdeal.τ).loc Cert.DWXoIdeal.main_arg0) = m ((c.tc : Thread Cert.DWXoIdeal.nD Cert.DWXoIdeal.τ).loc Cert.DWXoIdeal.main_arg0)
          ∧ r.2.mem ((c.tc : Thread Cert.DWXoIdeal.nD Cert.DWXoIdeal.τ).loc Cert.DWXoIdeal.main_arg1) = m ((c.tc : Thread Cert.DWXoIdeal.nD Cert.DWXoIdeal.τ).loc Cert.DWXoIdeal.main_arg1))
      ∧ θ_run (Cert.DWXoRefIdeal.defs (F := Ideal)) (onTc (τ := Cert.DWXoRefIdeal.τ) (Cert.DWXoRefIdeal.main (F := Ideal))) ⟨m', fun _ => 0, g'⟩ (fun r => ∀ c : Dev Cert.DWXoRefIdeal.nD,
          r.2.mem ((c.tc : Thread Cert.DWXoRefIdeal.nD Cert.DWXoRefIdeal.τ).loc Cert.DWXoRefIdeal.main_v5) = v0 c
          ∧ r.2.mem ((c.tc : Thread Cert.DWXoRefIdeal.nD Cert.DWXoRefIdeal.τ).loc Cert.DWXoRefIdeal.main_arg0) = m' ((c.tc : Thread Cert.DWXoRefIdeal.nD Cert.DWXoRefIdeal.τ).loc Cert.DWXoRefIdeal.main_arg0)
          ∧ r.2.mem ((c.tc : Thread Cert.DWXoRefIdeal.nD Cert.DWXoRefIdeal.τ).loc Cert.DWXoRefIdeal.main_arg1) = m' ((c.tc : Thread Cert.DWXoRefIdeal.nD Cert.DWXoRefIdeal.τ).loc Cert.DWXoRefIdeal.main_arg1))

def preserves_DMem_DMemIdeal : Prop :=
  True

def algebraic_DMemIdeal_DMemRefIdeal [hDMemIdeal : Cert.DMemIdeal.Facts] [hDMemRefIdeal : Cert.DMemRefIdeal.Facts] : Prop :=
  ∀ (m : (ℓ : Loc Cert.DMemIdeal.nD Cert.DMemIdeal.τ Cert.DMemIdeal.sig) → Buf (Elt Ideal) ℓ) (g : Dev Cert.DMemIdeal.nD → PrngReg)
    (m' : (ℓ : Loc Cert.DMemRefIdeal.nD Cert.DMemRefIdeal.τ Cert.DMemRefIdeal.sig) → Buf (Elt Ideal) ℓ) (g' : Dev Cert.DMemRefIdeal.nD → PrngReg), Pre_DMemIdeal m →
    (∀ c : Dev Cert.DMemIdeal.nD,
      m' ((c.tc : Thread Cert.DMemRefIdeal.nD Cert.DMemRefIdeal.τ).loc Cert.DMemRefIdeal.main_arg0) = m ((c.tc : Thread Cert.DMemIdeal.nD Cert.DMemIdeal.τ).loc Cert.DMemIdeal.main_arg0)
      ∧ m' ((c.tc : Thread Cert.DMemRefIdeal.nD Cert.DMemRefIdeal.τ).loc Cert.DMemRefIdeal.main_arg1) = m ((c.tc : Thread Cert.DMemIdeal.nD Cert.DMemIdeal.τ).loc Cert.DMemIdeal.main_arg1)) →
    ∃ (v0 : (c : Dev Cert.DMemIdeal.nD) → Buf (Elt Ideal) ((c.tc : Thread Cert.DMemIdeal.nD Cert.DMemIdeal.τ).loc Cert.DMemIdeal.main_v0)),
      θ_run (Cert.DMemIdeal.defs (F := Ideal)) (onTc (τ := Cert.DMemIdeal.τ) (Cert.DMemIdeal.main (F := Ideal))) ⟨m, fun _ => 0, g⟩ (fun r => ∀ c : Dev Cert.DMemIdeal.nD,
          r.2.mem ((c.tc : Thread Cert.DMemIdeal.nD Cert.DMemIdeal.τ).loc Cert.DMemIdeal.main_v0) = v0 c
          ∧ r.2.mem ((c.tc : Thread Cert.DMemIdeal.nD Cert.DMemIdeal.τ).loc Cert.DMemIdeal.main_arg0) = m ((c.tc : Thread Cert.DMemIdeal.nD Cert.DMemIdeal.τ).loc Cert.DMemIdeal.main_arg0)
          ∧ r.2.mem ((c.tc : Thread Cert.DMemIdeal.nD Cert.DMemIdeal.τ).loc Cert.DMemIdeal.main_arg1) = m ((c.tc : Thread Cert.DMemIdeal.nD Cert.DMemIdeal.τ).loc Cert.DMemIdeal.main_arg1))
      ∧ θ_run (Cert.DMemRefIdeal.defs (F := Ideal)) (onTc (τ := Cert.DMemRefIdeal.τ) (Cert.DMemRefIdeal.main (F := Ideal))) ⟨m', fun _ => 0, g'⟩ (fun r => ∀ c : Dev Cert.DMemRefIdeal.nD,
          r.2.mem ((c.tc : Thread Cert.DMemRefIdeal.nD Cert.DMemRefIdeal.τ).loc Cert.DMemRefIdeal.main_v4) = v0 c
          ∧ r.2.mem ((c.tc : Thread Cert.DMemRefIdeal.nD Cert.DMemRefIdeal.τ).loc Cert.DMemRefIdeal.main_arg0) = m' ((c.tc : Thread Cert.DMemRefIdeal.nD Cert.DMemRefIdeal.τ).loc Cert.DMemRefIdeal.main_arg0)
          ∧ r.2.mem ((c.tc : Thread Cert.DMemRefIdeal.nD Cert.DMemRefIdeal.τ).loc Cert.DMemRefIdeal.main_arg1) = m' ((c.tc : Thread Cert.DMemRefIdeal.nD Cert.DMemRefIdeal.τ).loc Cert.DMemRefIdeal.main_arg1))

def preserves_DWXkv_DWXkvIdeal : Prop :=
  True

def algebraic_DWXkvIdeal_DWXkvRefIdeal [hDWXkvIdeal : Cert.DWXkvIdeal.Facts] [hDWXkvRefIdeal : Cert.DWXkvRefIdeal.Facts] : Prop :=
  ∀ (m : (ℓ : Loc Cert.DWXkvIdeal.nD Cert.DWXkvIdeal.τ Cert.DWXkvIdeal.sig) → Buf (Elt Ideal) ℓ) (g : Dev Cert.DWXkvIdeal.nD → PrngReg)
    (m' : (ℓ : Loc Cert.DWXkvRefIdeal.nD Cert.DWXkvRefIdeal.τ Cert.DWXkvRefIdeal.sig) → Buf (Elt Ideal) ℓ) (g' : Dev Cert.DWXkvRefIdeal.nD → PrngReg), Pre_DWXkvIdeal m →
    (∀ c : Dev Cert.DWXkvIdeal.nD,
      m' ((c.tc : Thread Cert.DWXkvRefIdeal.nD Cert.DWXkvRefIdeal.τ).loc Cert.DWXkvRefIdeal.main_arg0) = m ((c.tc : Thread Cert.DWXkvIdeal.nD Cert.DWXkvIdeal.τ).loc Cert.DWXkvIdeal.main_arg0)
      ∧ m' ((c.tc : Thread Cert.DWXkvRefIdeal.nD Cert.DWXkvRefIdeal.τ).loc Cert.DWXkvRefIdeal.main_arg1) = m ((c.tc : Thread Cert.DWXkvIdeal.nD Cert.DWXkvIdeal.τ).loc Cert.DWXkvIdeal.main_arg1)) →
    ∃ (v0 : (c : Dev Cert.DWXkvIdeal.nD) → Buf (Elt Ideal) ((c.tc : Thread Cert.DWXkvIdeal.nD Cert.DWXkvIdeal.τ).loc Cert.DWXkvIdeal.main_v0)),
      θ_run (Cert.DWXkvIdeal.defs (F := Ideal)) (onTc (τ := Cert.DWXkvIdeal.τ) (Cert.DWXkvIdeal.main (F := Ideal))) ⟨m, fun _ => 0, g⟩ (fun r => ∀ c : Dev Cert.DWXkvIdeal.nD,
          r.2.mem ((c.tc : Thread Cert.DWXkvIdeal.nD Cert.DWXkvIdeal.τ).loc Cert.DWXkvIdeal.main_v0) = v0 c
          ∧ r.2.mem ((c.tc : Thread Cert.DWXkvIdeal.nD Cert.DWXkvIdeal.τ).loc Cert.DWXkvIdeal.main_arg0) = m ((c.tc : Thread Cert.DWXkvIdeal.nD Cert.DWXkvIdeal.τ).loc Cert.DWXkvIdeal.main_arg0)
          ∧ r.2.mem ((c.tc : Thread Cert.DWXkvIdeal.nD Cert.DWXkvIdeal.τ).loc Cert.DWXkvIdeal.main_arg1) = m ((c.tc : Thread Cert.DWXkvIdeal.nD Cert.DWXkvIdeal.τ).loc Cert.DWXkvIdeal.main_arg1))
      ∧ θ_run (Cert.DWXkvRefIdeal.defs (F := Ideal)) (onTc (τ := Cert.DWXkvRefIdeal.τ) (Cert.DWXkvRefIdeal.main (F := Ideal))) ⟨m', fun _ => 0, g'⟩ (fun r => ∀ c : Dev Cert.DWXkvRefIdeal.nD,
          r.2.mem ((c.tc : Thread Cert.DWXkvRefIdeal.nD Cert.DWXkvRefIdeal.τ).loc Cert.DWXkvRefIdeal.main_v5) = v0 c
          ∧ r.2.mem ((c.tc : Thread Cert.DWXkvRefIdeal.nD Cert.DWXkvRefIdeal.τ).loc Cert.DWXkvRefIdeal.main_arg0) = m' ((c.tc : Thread Cert.DWXkvRefIdeal.nD Cert.DWXkvRefIdeal.τ).loc Cert.DWXkvRefIdeal.main_arg0)
          ∧ r.2.mem ((c.tc : Thread Cert.DWXkvRefIdeal.nD Cert.DWXkvRefIdeal.τ).loc Cert.DWXkvRefIdeal.main_arg1) = m' ((c.tc : Thread Cert.DWXkvRefIdeal.nD Cert.DWXkvRefIdeal.τ).loc Cert.DWXkvRefIdeal.main_arg1))

def preserves_DWAtt_DWAttIdeal : Prop :=
  True

def algebraic_DWAttIdeal_DWAttRefIdeal [hDWAttIdeal : Cert.DWAttIdeal.Facts] [hDWAttRefIdeal : Cert.DWAttRefIdeal.Facts] : Prop :=
  ∀ (m : (ℓ : Loc Cert.DWAttIdeal.nD Cert.DWAttIdeal.τ Cert.DWAttIdeal.sig) → Buf (Elt Ideal) ℓ) (g : Dev Cert.DWAttIdeal.nD → PrngReg)
    (m' : (ℓ : Loc Cert.DWAttRefIdeal.nD Cert.DWAttRefIdeal.τ Cert.DWAttRefIdeal.sig) → Buf (Elt Ideal) ℓ) (g' : Dev Cert.DWAttRefIdeal.nD → PrngReg), Pre_DWAttIdeal m →
    (∀ c : Dev Cert.DWAttIdeal.nD,
      m' ((c.tc : Thread Cert.DWAttRefIdeal.nD Cert.DWAttRefIdeal.τ).loc Cert.DWAttRefIdeal.main_arg0) = m ((c.tc : Thread Cert.DWAttIdeal.nD Cert.DWAttIdeal.τ).loc Cert.DWAttIdeal.main_arg0)
      ∧ m' ((c.tc : Thread Cert.DWAttRefIdeal.nD Cert.DWAttRefIdeal.τ).loc Cert.DWAttRefIdeal.main_arg1) = m ((c.tc : Thread Cert.DWAttIdeal.nD Cert.DWAttIdeal.τ).loc Cert.DWAttIdeal.main_arg1)) →
    ∃ (v0 : (c : Dev Cert.DWAttIdeal.nD) → Buf (Elt Ideal) ((c.tc : Thread Cert.DWAttIdeal.nD Cert.DWAttIdeal.τ).loc Cert.DWAttIdeal.main_v0)),
      θ_run (Cert.DWAttIdeal.defs (F := Ideal)) (onTc (τ := Cert.DWAttIdeal.τ) (Cert.DWAttIdeal.main (F := Ideal))) ⟨m, fun _ => 0, g⟩ (fun r => ∀ c : Dev Cert.DWAttIdeal.nD,
          r.2.mem ((c.tc : Thread Cert.DWAttIdeal.nD Cert.DWAttIdeal.τ).loc Cert.DWAttIdeal.main_v0) = v0 c
          ∧ r.2.mem ((c.tc : Thread Cert.DWAttIdeal.nD Cert.DWAttIdeal.τ).loc Cert.DWAttIdeal.main_arg0) = m ((c.tc : Thread Cert.DWAttIdeal.nD Cert.DWAttIdeal.τ).loc Cert.DWAttIdeal.main_arg0)
          ∧ r.2.mem ((c.tc : Thread Cert.DWAttIdeal.nD Cert.DWAttIdeal.τ).loc Cert.DWAttIdeal.main_arg1) = m ((c.tc : Thread Cert.DWAttIdeal.nD Cert.DWAttIdeal.τ).loc Cert.DWAttIdeal.main_arg1))
      ∧ θ_run (Cert.DWAttRefIdeal.defs (F := Ideal)) (onTc (τ := Cert.DWAttRefIdeal.τ) (Cert.DWAttRefIdeal.main (F := Ideal))) ⟨m', fun _ => 0, g'⟩ (fun r => ∀ c : Dev Cert.DWAttRefIdeal.nD,
          r.2.mem ((c.tc : Thread Cert.DWAttRefIdeal.nD Cert.DWAttRefIdeal.τ).loc Cert.DWAttRefIdeal.main_v4) = v0 c
          ∧ r.2.mem ((c.tc : Thread Cert.DWAttRefIdeal.nD Cert.DWAttRefIdeal.τ).loc Cert.DWAttRefIdeal.main_arg0) = m' ((c.tc : Thread Cert.DWAttRefIdeal.nD Cert.DWAttRefIdeal.τ).loc Cert.DWAttRefIdeal.main_arg0)
          ∧ r.2.mem ((c.tc : Thread Cert.DWAttRefIdeal.nD Cert.DWAttRefIdeal.τ).loc Cert.DWAttRefIdeal.main_arg1) = m' ((c.tc : Thread Cert.DWAttRefIdeal.nD Cert.DWAttRefIdeal.τ).loc Cert.DWAttRefIdeal.main_arg1))

def preserves_DOssm_DOssmIdeal : Prop :=
  True

def algebraic_DOssmIdeal_DOssmRefIdeal [hDOssmIdeal : Cert.DOssmIdeal.Facts] [hDOssmRefIdeal : Cert.DOssmRefIdeal.Facts] : Prop :=
  ∀ (m : (ℓ : Loc Cert.DOssmIdeal.nD Cert.DOssmIdeal.τ Cert.DOssmIdeal.sig) → Buf (Elt Ideal) ℓ) (g : Dev Cert.DOssmIdeal.nD → PrngReg)
    (m' : (ℓ : Loc Cert.DOssmRefIdeal.nD Cert.DOssmRefIdeal.τ Cert.DOssmRefIdeal.sig) → Buf (Elt Ideal) ℓ) (g' : Dev Cert.DOssmRefIdeal.nD → PrngReg), Pre_DOssmIdeal m →
    (∀ c : Dev Cert.DOssmIdeal.nD,
      m' ((c.tc : Thread Cert.DOssmRefIdeal.nD Cert.DOssmRefIdeal.τ).loc Cert.DOssmRefIdeal.main_arg0) = m ((c.tc : Thread Cert.DOssmIdeal.nD Cert.DOssmIdeal.τ).loc Cert.DOssmIdeal.main_arg0)
      ∧ m' ((c.tc : Thread Cert.DOssmRefIdeal.nD Cert.DOssmRefIdeal.τ).loc Cert.DOssmRefIdeal.main_arg1) = m ((c.tc : Thread Cert.DOssmIdeal.nD Cert.DOssmIdeal.τ).loc Cert.DOssmIdeal.main_arg1)) →
    ∃ (v0 : (c : Dev Cert.DOssmIdeal.nD) → Buf (Elt Ideal) ((c.tc : Thread Cert.DOssmIdeal.nD Cert.DOssmIdeal.τ).loc Cert.DOssmIdeal.main_v0)),
      θ_run (Cert.DOssmIdeal.defs (F := Ideal)) (onTc (τ := Cert.DOssmIdeal.τ) (Cert.DOssmIdeal.main (F := Ideal))) ⟨m, fun _ => 0, g⟩ (fun r => ∀ c : Dev Cert.DOssmIdeal.nD,
          r.2.mem ((c.tc : Thread Cert.DOssmIdeal.nD Cert.DOssmIdeal.τ).loc Cert.DOssmIdeal.main_v0) = v0 c
          ∧ r.2.mem ((c.tc : Thread Cert.DOssmIdeal.nD Cert.DOssmIdeal.τ).loc Cert.DOssmIdeal.main_arg0) = m ((c.tc : Thread Cert.DOssmIdeal.nD Cert.DOssmIdeal.τ).loc Cert.DOssmIdeal.main_arg0)
          ∧ r.2.mem ((c.tc : Thread Cert.DOssmIdeal.nD Cert.DOssmIdeal.τ).loc Cert.DOssmIdeal.main_arg1) = m ((c.tc : Thread Cert.DOssmIdeal.nD Cert.DOssmIdeal.τ).loc Cert.DOssmIdeal.main_arg1))
      ∧ θ_run (Cert.DOssmRefIdeal.defs (F := Ideal)) (onTc (τ := Cert.DOssmRefIdeal.τ) (Cert.DOssmRefIdeal.main (F := Ideal))) ⟨m', fun _ => 0, g'⟩ (fun r => ∀ c : Dev Cert.DOssmRefIdeal.nD,
          r.2.mem ((c.tc : Thread Cert.DOssmRefIdeal.nD Cert.DOssmRefIdeal.τ).loc Cert.DOssmRefIdeal.main_v5) = v0 c
          ∧ r.2.mem ((c.tc : Thread Cert.DOssmRefIdeal.nD Cert.DOssmRefIdeal.τ).loc Cert.DOssmRefIdeal.main_arg0) = m' ((c.tc : Thread Cert.DOssmRefIdeal.nD Cert.DOssmRefIdeal.τ).loc Cert.DOssmRefIdeal.main_arg0)
          ∧ r.2.mem ((c.tc : Thread Cert.DOssmRefIdeal.nD Cert.DOssmRefIdeal.τ).loc Cert.DOssmRefIdeal.main_arg1) = m' ((c.tc : Thread Cert.DOssmRefIdeal.nD Cert.DOssmRefIdeal.τ).loc Cert.DOssmRefIdeal.main_arg1))

def preserves_DWSsm_DWSsmIdeal : Prop :=
  True

def algebraic_DWSsmIdeal_DWSsmRefIdeal [hDWSsmIdeal : Cert.DWSsmIdeal.Facts] [hDWSsmRefIdeal : Cert.DWSsmRefIdeal.Facts] : Prop :=
  ∀ (m : (ℓ : Loc Cert.DWSsmIdeal.nD Cert.DWSsmIdeal.τ Cert.DWSsmIdeal.sig) → Buf (Elt Ideal) ℓ) (g : Dev Cert.DWSsmIdeal.nD → PrngReg)
    (m' : (ℓ : Loc Cert.DWSsmRefIdeal.nD Cert.DWSsmRefIdeal.τ Cert.DWSsmRefIdeal.sig) → Buf (Elt Ideal) ℓ) (g' : Dev Cert.DWSsmRefIdeal.nD → PrngReg), Pre_DWSsmIdeal m →
    (∀ c : Dev Cert.DWSsmIdeal.nD,
      m' ((c.tc : Thread Cert.DWSsmRefIdeal.nD Cert.DWSsmRefIdeal.τ).loc Cert.DWSsmRefIdeal.main_arg0) = m ((c.tc : Thread Cert.DWSsmIdeal.nD Cert.DWSsmIdeal.τ).loc Cert.DWSsmIdeal.main_arg0)
      ∧ m' ((c.tc : Thread Cert.DWSsmRefIdeal.nD Cert.DWSsmRefIdeal.τ).loc Cert.DWSsmRefIdeal.main_arg1) = m ((c.tc : Thread Cert.DWSsmIdeal.nD Cert.DWSsmIdeal.τ).loc Cert.DWSsmIdeal.main_arg1)) →
    ∃ (v0 : (c : Dev Cert.DWSsmIdeal.nD) → Buf (Elt Ideal) ((c.tc : Thread Cert.DWSsmIdeal.nD Cert.DWSsmIdeal.τ).loc Cert.DWSsmIdeal.main_v0)),
      θ_run (Cert.DWSsmIdeal.defs (F := Ideal)) (onTc (τ := Cert.DWSsmIdeal.τ) (Cert.DWSsmIdeal.main (F := Ideal))) ⟨m, fun _ => 0, g⟩ (fun r => ∀ c : Dev Cert.DWSsmIdeal.nD,
          r.2.mem ((c.tc : Thread Cert.DWSsmIdeal.nD Cert.DWSsmIdeal.τ).loc Cert.DWSsmIdeal.main_v0) = v0 c
          ∧ r.2.mem ((c.tc : Thread Cert.DWSsmIdeal.nD Cert.DWSsmIdeal.τ).loc Cert.DWSsmIdeal.main_arg0) = m ((c.tc : Thread Cert.DWSsmIdeal.nD Cert.DWSsmIdeal.τ).loc Cert.DWSsmIdeal.main_arg0)
          ∧ r.2.mem ((c.tc : Thread Cert.DWSsmIdeal.nD Cert.DWSsmIdeal.τ).loc Cert.DWSsmIdeal.main_arg1) = m ((c.tc : Thread Cert.DWSsmIdeal.nD Cert.DWSsmIdeal.τ).loc Cert.DWSsmIdeal.main_arg1))
      ∧ θ_run (Cert.DWSsmRefIdeal.defs (F := Ideal)) (onTc (τ := Cert.DWSsmRefIdeal.τ) (Cert.DWSsmRefIdeal.main (F := Ideal))) ⟨m', fun _ => 0, g'⟩ (fun r => ∀ c : Dev Cert.DWSsmRefIdeal.nD,
          r.2.mem ((c.tc : Thread Cert.DWSsmRefIdeal.nD Cert.DWSsmRefIdeal.τ).loc Cert.DWSsmRefIdeal.main_v5) = v0 c
          ∧ r.2.mem ((c.tc : Thread Cert.DWSsmRefIdeal.nD Cert.DWSsmRefIdeal.τ).loc Cert.DWSsmRefIdeal.main_arg0) = m' ((c.tc : Thread Cert.DWSsmRefIdeal.nD Cert.DWSsmRefIdeal.τ).loc Cert.DWSsmRefIdeal.main_arg0)
          ∧ r.2.mem ((c.tc : Thread Cert.DWSsmRefIdeal.nD Cert.DWSsmRefIdeal.τ).loc Cert.DWSsmRefIdeal.main_arg1) = m' ((c.tc : Thread Cert.DWSsmRefIdeal.nD Cert.DWSsmRefIdeal.τ).loc Cert.DWSsmRefIdeal.main_arg1))

def preserves_MProj_MProjIdeal : Prop :=
  True

def algebraic_MProjIdeal_MProjRefIdeal [hMProjIdeal : Cert.MProjIdeal.Facts] [hMProjRefIdeal : Cert.MProjRefIdeal.Facts] : Prop :=
  ∀ (m : (ℓ : Loc Cert.MProjIdeal.nD Cert.MProjIdeal.τ Cert.MProjIdeal.sig) → Buf (Elt Ideal) ℓ) (g : Dev Cert.MProjIdeal.nD → PrngReg)
    (m' : (ℓ : Loc Cert.MProjRefIdeal.nD Cert.MProjRefIdeal.τ Cert.MProjRefIdeal.sig) → Buf (Elt Ideal) ℓ) (g' : Dev Cert.MProjRefIdeal.nD → PrngReg), Pre_MProjIdeal m →
    (∀ c : Dev Cert.MProjIdeal.nD,
      m' ((c.tc : Thread Cert.MProjRefIdeal.nD Cert.MProjRefIdeal.τ).loc Cert.MProjRefIdeal.main_arg0) = m ((c.tc : Thread Cert.MProjIdeal.nD Cert.MProjIdeal.τ).loc Cert.MProjIdeal.main_arg0)
      ∧ m' ((c.tc : Thread Cert.MProjRefIdeal.nD Cert.MProjRefIdeal.τ).loc Cert.MProjRefIdeal.main_arg1) = m ((c.tc : Thread Cert.MProjIdeal.nD Cert.MProjIdeal.τ).loc Cert.MProjIdeal.main_arg1)) →
    ∃ (v0 : (c : Dev Cert.MProjIdeal.nD) → Buf (Elt Ideal) ((c.tc : Thread Cert.MProjIdeal.nD Cert.MProjIdeal.τ).loc Cert.MProjIdeal.main_v0)),
      θ_run (Cert.MProjIdeal.defs (F := Ideal)) (onTc (τ := Cert.MProjIdeal.τ) (Cert.MProjIdeal.main (F := Ideal))) ⟨m, fun _ => 0, g⟩ (fun r => ∀ c : Dev Cert.MProjIdeal.nD,
          r.2.mem ((c.tc : Thread Cert.MProjIdeal.nD Cert.MProjIdeal.τ).loc Cert.MProjIdeal.main_v0) = v0 c
          ∧ r.2.mem ((c.tc : Thread Cert.MProjIdeal.nD Cert.MProjIdeal.τ).loc Cert.MProjIdeal.main_arg0) = m ((c.tc : Thread Cert.MProjIdeal.nD Cert.MProjIdeal.τ).loc Cert.MProjIdeal.main_arg0)
          ∧ r.2.mem ((c.tc : Thread Cert.MProjIdeal.nD Cert.MProjIdeal.τ).loc Cert.MProjIdeal.main_arg1) = m ((c.tc : Thread Cert.MProjIdeal.nD Cert.MProjIdeal.τ).loc Cert.MProjIdeal.main_arg1))
      ∧ θ_run (Cert.MProjRefIdeal.defs (F := Ideal)) (onTc (τ := Cert.MProjRefIdeal.τ) (Cert.MProjRefIdeal.main (F := Ideal))) ⟨m', fun _ => 0, g'⟩ (fun r => ∀ c : Dev Cert.MProjRefIdeal.nD,
          r.2.mem ((c.tc : Thread Cert.MProjRefIdeal.nD Cert.MProjRefIdeal.τ).loc Cert.MProjRefIdeal.main_v2) = v0 c
          ∧ r.2.mem ((c.tc : Thread Cert.MProjRefIdeal.nD Cert.MProjRefIdeal.τ).loc Cert.MProjRefIdeal.main_arg0) = m' ((c.tc : Thread Cert.MProjRefIdeal.nD Cert.MProjRefIdeal.τ).loc Cert.MProjRefIdeal.main_arg0)
          ∧ r.2.mem ((c.tc : Thread Cert.MProjRefIdeal.nD Cert.MProjRefIdeal.τ).loc Cert.MProjRefIdeal.main_arg1) = m' ((c.tc : Thread Cert.MProjRefIdeal.nD Cert.MProjRefIdeal.τ).loc Cert.MProjRefIdeal.main_arg1))

def preserves_MAtt_MAttIdeal : Prop :=
  True

def algebraic_MAttIdeal_MAttRefIdeal [hMAttIdeal : Cert.MAttIdeal.Facts] [hMAttRefIdeal : Cert.MAttRefIdeal.Facts] : Prop :=
  ∀ (m : (ℓ : Loc Cert.MAttIdeal.nD Cert.MAttIdeal.τ Cert.MAttIdeal.sig) → Buf (Elt Ideal) ℓ) (g : Dev Cert.MAttIdeal.nD → PrngReg)
    (m' : (ℓ : Loc Cert.MAttRefIdeal.nD Cert.MAttRefIdeal.τ Cert.MAttRefIdeal.sig) → Buf (Elt Ideal) ℓ) (g' : Dev Cert.MAttRefIdeal.nD → PrngReg), Pre_MAttIdeal m →
    (∀ c : Dev Cert.MAttIdeal.nD,
      m' ((c.tc : Thread Cert.MAttRefIdeal.nD Cert.MAttRefIdeal.τ).loc Cert.MAttRefIdeal.main_arg0) = m ((c.tc : Thread Cert.MAttIdeal.nD Cert.MAttIdeal.τ).loc Cert.MAttIdeal.main_arg0)
      ∧ m' ((c.tc : Thread Cert.MAttRefIdeal.nD Cert.MAttRefIdeal.τ).loc Cert.MAttRefIdeal.main_arg1) = m ((c.tc : Thread Cert.MAttIdeal.nD Cert.MAttIdeal.τ).loc Cert.MAttIdeal.main_arg1)) →
    ∃ (v0 : (c : Dev Cert.MAttIdeal.nD) → Buf (Elt Ideal) ((c.tc : Thread Cert.MAttIdeal.nD Cert.MAttIdeal.τ).loc Cert.MAttIdeal.main_v0)),
      θ_run (Cert.MAttIdeal.defs (F := Ideal)) (onTc (τ := Cert.MAttIdeal.τ) (Cert.MAttIdeal.main (F := Ideal))) ⟨m, fun _ => 0, g⟩ (fun r => ∀ c : Dev Cert.MAttIdeal.nD,
          r.2.mem ((c.tc : Thread Cert.MAttIdeal.nD Cert.MAttIdeal.τ).loc Cert.MAttIdeal.main_v0) = v0 c
          ∧ r.2.mem ((c.tc : Thread Cert.MAttIdeal.nD Cert.MAttIdeal.τ).loc Cert.MAttIdeal.main_arg0) = m ((c.tc : Thread Cert.MAttIdeal.nD Cert.MAttIdeal.τ).loc Cert.MAttIdeal.main_arg0)
          ∧ r.2.mem ((c.tc : Thread Cert.MAttIdeal.nD Cert.MAttIdeal.τ).loc Cert.MAttIdeal.main_arg1) = m ((c.tc : Thread Cert.MAttIdeal.nD Cert.MAttIdeal.τ).loc Cert.MAttIdeal.main_arg1))
      ∧ θ_run (Cert.MAttRefIdeal.defs (F := Ideal)) (onTc (τ := Cert.MAttRefIdeal.τ) (Cert.MAttRefIdeal.main (F := Ideal))) ⟨m', fun _ => 0, g'⟩ (fun r => ∀ c : Dev Cert.MAttRefIdeal.nD,
          r.2.mem ((c.tc : Thread Cert.MAttRefIdeal.nD Cert.MAttRefIdeal.τ).loc Cert.MAttRefIdeal.main_v1) = v0 c
          ∧ r.2.mem ((c.tc : Thread Cert.MAttRefIdeal.nD Cert.MAttRefIdeal.τ).loc Cert.MAttRefIdeal.main_arg0) = m' ((c.tc : Thread Cert.MAttRefIdeal.nD Cert.MAttRefIdeal.τ).loc Cert.MAttRefIdeal.main_arg0)
          ∧ r.2.mem ((c.tc : Thread Cert.MAttRefIdeal.nD Cert.MAttRefIdeal.τ).loc Cert.MAttRefIdeal.main_arg1) = m' ((c.tc : Thread Cert.MAttRefIdeal.nD Cert.MAttRefIdeal.τ).loc Cert.MAttRefIdeal.main_arg1))

def preserves_MSsm_MSsmIdeal : Prop :=
  True

def algebraic_MSsmIdeal_MSsmRefIdeal [hMSsmIdeal : Cert.MSsmIdeal.Facts] [hMSsmRefIdeal : Cert.MSsmRefIdeal.Facts] : Prop :=
  ∀ (m : (ℓ : Loc Cert.MSsmIdeal.nD Cert.MSsmIdeal.τ Cert.MSsmIdeal.sig) → Buf (Elt Ideal) ℓ) (g : Dev Cert.MSsmIdeal.nD → PrngReg)
    (m' : (ℓ : Loc Cert.MSsmRefIdeal.nD Cert.MSsmRefIdeal.τ Cert.MSsmRefIdeal.sig) → Buf (Elt Ideal) ℓ) (g' : Dev Cert.MSsmRefIdeal.nD → PrngReg), Pre_MSsmIdeal m →
    (∀ c : Dev Cert.MSsmIdeal.nD,
      m' ((c.tc : Thread Cert.MSsmRefIdeal.nD Cert.MSsmRefIdeal.τ).loc Cert.MSsmRefIdeal.main_arg0) = m ((c.tc : Thread Cert.MSsmIdeal.nD Cert.MSsmIdeal.τ).loc Cert.MSsmIdeal.main_arg0)
      ∧ m' ((c.tc : Thread Cert.MSsmRefIdeal.nD Cert.MSsmRefIdeal.τ).loc Cert.MSsmRefIdeal.main_arg1) = m ((c.tc : Thread Cert.MSsmIdeal.nD Cert.MSsmIdeal.τ).loc Cert.MSsmIdeal.main_arg1)) →
    ∃ (v0 : (c : Dev Cert.MSsmIdeal.nD) → Buf (Elt Ideal) ((c.tc : Thread Cert.MSsmIdeal.nD Cert.MSsmIdeal.τ).loc Cert.MSsmIdeal.main_v0)),
      θ_run (Cert.MSsmIdeal.defs (F := Ideal)) (onTc (τ := Cert.MSsmIdeal.τ) (Cert.MSsmIdeal.main (F := Ideal))) ⟨m, fun _ => 0, g⟩ (fun r => ∀ c : Dev Cert.MSsmIdeal.nD,
          r.2.mem ((c.tc : Thread Cert.MSsmIdeal.nD Cert.MSsmIdeal.τ).loc Cert.MSsmIdeal.main_v0) = v0 c
          ∧ r.2.mem ((c.tc : Thread Cert.MSsmIdeal.nD Cert.MSsmIdeal.τ).loc Cert.MSsmIdeal.main_arg0) = m ((c.tc : Thread Cert.MSsmIdeal.nD Cert.MSsmIdeal.τ).loc Cert.MSsmIdeal.main_arg0)
          ∧ r.2.mem ((c.tc : Thread Cert.MSsmIdeal.nD Cert.MSsmIdeal.τ).loc Cert.MSsmIdeal.main_arg1) = m ((c.tc : Thread Cert.MSsmIdeal.nD Cert.MSsmIdeal.τ).loc Cert.MSsmIdeal.main_arg1))
      ∧ θ_run (Cert.MSsmRefIdeal.defs (F := Ideal)) (onTc (τ := Cert.MSsmRefIdeal.τ) (Cert.MSsmRefIdeal.main (F := Ideal))) ⟨m', fun _ => 0, g'⟩ (fun r => ∀ c : Dev Cert.MSsmRefIdeal.nD,
          r.2.mem ((c.tc : Thread Cert.MSsmRefIdeal.nD Cert.MSsmRefIdeal.τ).loc Cert.MSsmRefIdeal.main_v2) = v0 c
          ∧ r.2.mem ((c.tc : Thread Cert.MSsmRefIdeal.nD Cert.MSsmRefIdeal.τ).loc Cert.MSsmRefIdeal.main_arg0) = m' ((c.tc : Thread Cert.MSsmRefIdeal.nD Cert.MSsmRefIdeal.τ).loc Cert.MSsmRefIdeal.main_arg0)
          ∧ r.2.mem ((c.tc : Thread Cert.MSsmRefIdeal.nD Cert.MSsmRefIdeal.τ).loc Cert.MSsmRefIdeal.main_arg1) = m' ((c.tc : Thread Cert.MSsmRefIdeal.nD Cert.MSsmRefIdeal.τ).loc Cert.MSsmRefIdeal.main_arg1))

def preserves_MMix_MMixIdeal : Prop :=
  True

def algebraic_MMixIdeal_MMixRefIdeal [hMMixIdeal : Cert.MMixIdeal.Facts] [hMMixRefIdeal : Cert.MMixRefIdeal.Facts] : Prop :=
  ∀ (m : (ℓ : Loc Cert.MMixIdeal.nD Cert.MMixIdeal.τ Cert.MMixIdeal.sig) → Buf (Elt Ideal) ℓ) (g : Dev Cert.MMixIdeal.nD → PrngReg)
    (m' : (ℓ : Loc Cert.MMixRefIdeal.nD Cert.MMixRefIdeal.τ Cert.MMixRefIdeal.sig) → Buf (Elt Ideal) ℓ) (g' : Dev Cert.MMixRefIdeal.nD → PrngReg), Pre_MMixIdeal m →
    (∀ c : Dev Cert.MMixIdeal.nD,
      m' ((c.tc : Thread Cert.MMixRefIdeal.nD Cert.MMixRefIdeal.τ).loc Cert.MMixRefIdeal.main_arg0) = m ((c.tc : Thread Cert.MMixIdeal.nD Cert.MMixIdeal.τ).loc Cert.MMixIdeal.main_arg0)
      ∧ m' ((c.tc : Thread Cert.MMixRefIdeal.nD Cert.MMixRefIdeal.τ).loc Cert.MMixRefIdeal.main_arg1) = m ((c.tc : Thread Cert.MMixIdeal.nD Cert.MMixIdeal.τ).loc Cert.MMixIdeal.main_arg1)) →
    ∃ (v0 : (c : Dev Cert.MMixIdeal.nD) → Buf (Elt Ideal) ((c.tc : Thread Cert.MMixIdeal.nD Cert.MMixIdeal.τ).loc Cert.MMixIdeal.main_v0)),
      θ_run (Cert.MMixIdeal.defs (F := Ideal)) (onTc (τ := Cert.MMixIdeal.τ) (Cert.MMixIdeal.main (F := Ideal))) ⟨m, fun _ => 0, g⟩ (fun r => ∀ c : Dev Cert.MMixIdeal.nD,
          r.2.mem ((c.tc : Thread Cert.MMixIdeal.nD Cert.MMixIdeal.τ).loc Cert.MMixIdeal.main_v0) = v0 c
          ∧ r.2.mem ((c.tc : Thread Cert.MMixIdeal.nD Cert.MMixIdeal.τ).loc Cert.MMixIdeal.main_arg0) = m ((c.tc : Thread Cert.MMixIdeal.nD Cert.MMixIdeal.τ).loc Cert.MMixIdeal.main_arg0)
          ∧ r.2.mem ((c.tc : Thread Cert.MMixIdeal.nD Cert.MMixIdeal.τ).loc Cert.MMixIdeal.main_arg1) = m ((c.tc : Thread Cert.MMixIdeal.nD Cert.MMixIdeal.τ).loc Cert.MMixIdeal.main_arg1))
      ∧ θ_run (Cert.MMixRefIdeal.defs (F := Ideal)) (onTc (τ := Cert.MMixRefIdeal.τ) (Cert.MMixRefIdeal.main (F := Ideal))) ⟨m', fun _ => 0, g'⟩ (fun r => ∀ c : Dev Cert.MMixRefIdeal.nD,
          r.2.mem ((c.tc : Thread Cert.MMixRefIdeal.nD Cert.MMixRefIdeal.τ).loc Cert.MMixRefIdeal.main_v2) = v0 c
          ∧ r.2.mem ((c.tc : Thread Cert.MMixRefIdeal.nD Cert.MMixRefIdeal.τ).loc Cert.MMixRefIdeal.main_arg0) = m' ((c.tc : Thread Cert.MMixRefIdeal.nD Cert.MMixRefIdeal.τ).loc Cert.MMixRefIdeal.main_arg0)
          ∧ r.2.mem ((c.tc : Thread Cert.MMixRefIdeal.nD Cert.MMixRefIdeal.τ).loc Cert.MMixRefIdeal.main_arg1) = m' ((c.tc : Thread Cert.MMixRefIdeal.nD Cert.MMixRefIdeal.τ).loc Cert.MMixRefIdeal.main_arg1))

def preserves_MKv_MKvIdeal : Prop :=
  True

def algebraic_MKvIdeal_MKvRefIdeal [hMKvIdeal : Cert.MKvIdeal.Facts] [hMKvRefIdeal : Cert.MKvRefIdeal.Facts] : Prop :=
  ∀ (m : (ℓ : Loc Cert.MKvIdeal.nD Cert.MKvIdeal.τ Cert.MKvIdeal.sig) → Buf (Elt Ideal) ℓ) (g : Dev Cert.MKvIdeal.nD → PrngReg)
    (m' : (ℓ : Loc Cert.MKvRefIdeal.nD Cert.MKvRefIdeal.τ Cert.MKvRefIdeal.sig) → Buf (Elt Ideal) ℓ) (g' : Dev Cert.MKvRefIdeal.nD → PrngReg), Pre_MKvIdeal m →
    (∀ c : Dev Cert.MKvIdeal.nD,
      m' ((c.tc : Thread Cert.MKvRefIdeal.nD Cert.MKvRefIdeal.τ).loc Cert.MKvRefIdeal.main_arg0) = m ((c.tc : Thread Cert.MKvIdeal.nD Cert.MKvIdeal.τ).loc Cert.MKvIdeal.main_arg0)
      ∧ m' ((c.tc : Thread Cert.MKvRefIdeal.nD Cert.MKvRefIdeal.τ).loc Cert.MKvRefIdeal.main_arg1) = m ((c.tc : Thread Cert.MKvIdeal.nD Cert.MKvIdeal.τ).loc Cert.MKvIdeal.main_arg1)) →
    ∃ (v0 : (c : Dev Cert.MKvIdeal.nD) → Buf (Elt Ideal) ((c.tc : Thread Cert.MKvIdeal.nD Cert.MKvIdeal.τ).loc Cert.MKvIdeal.main_v0)),
      θ_run (Cert.MKvIdeal.defs (F := Ideal)) (onTc (τ := Cert.MKvIdeal.τ) (Cert.MKvIdeal.main (F := Ideal))) ⟨m, fun _ => 0, g⟩ (fun r => ∀ c : Dev Cert.MKvIdeal.nD,
          r.2.mem ((c.tc : Thread Cert.MKvIdeal.nD Cert.MKvIdeal.τ).loc Cert.MKvIdeal.main_v0) = v0 c
          ∧ r.2.mem ((c.tc : Thread Cert.MKvIdeal.nD Cert.MKvIdeal.τ).loc Cert.MKvIdeal.main_arg0) = m ((c.tc : Thread Cert.MKvIdeal.nD Cert.MKvIdeal.τ).loc Cert.MKvIdeal.main_arg0)
          ∧ r.2.mem ((c.tc : Thread Cert.MKvIdeal.nD Cert.MKvIdeal.τ).loc Cert.MKvIdeal.main_arg1) = m ((c.tc : Thread Cert.MKvIdeal.nD Cert.MKvIdeal.τ).loc Cert.MKvIdeal.main_arg1))
      ∧ θ_run (Cert.MKvRefIdeal.defs (F := Ideal)) (onTc (τ := Cert.MKvRefIdeal.τ) (Cert.MKvRefIdeal.main (F := Ideal))) ⟨m', fun _ => 0, g'⟩ (fun r => ∀ c : Dev Cert.MKvRefIdeal.nD,
          r.2.mem ((c.tc : Thread Cert.MKvRefIdeal.nD Cert.MKvRefIdeal.τ).loc Cert.MKvRefIdeal.main_v2) = v0 c
          ∧ r.2.mem ((c.tc : Thread Cert.MKvRefIdeal.nD Cert.MKvRefIdeal.τ).loc Cert.MKvRefIdeal.main_arg0) = m' ((c.tc : Thread Cert.MKvRefIdeal.nD Cert.MKvRefIdeal.τ).loc Cert.MKvRefIdeal.main_arg0)
          ∧ r.2.mem ((c.tc : Thread Cert.MKvRefIdeal.nD Cert.MKvRefIdeal.τ).loc Cert.MKvRefIdeal.main_arg1) = m' ((c.tc : Thread Cert.MKvRefIdeal.nD Cert.MKvRefIdeal.τ).loc Cert.MKvRefIdeal.main_arg1))

def preserves_MGu_MGuIdeal : Prop :=
  True

def algebraic_MGuIdeal_MGuRefIdeal [hMGuIdeal : Cert.MGuIdeal.Facts] [hMGuRefIdeal : Cert.MGuRefIdeal.Facts] : Prop :=
  ∀ (m : (ℓ : Loc Cert.MGuIdeal.nD Cert.MGuIdeal.τ Cert.MGuIdeal.sig) → Buf (Elt Ideal) ℓ) (g : Dev Cert.MGuIdeal.nD → PrngReg)
    (m' : (ℓ : Loc Cert.MGuRefIdeal.nD Cert.MGuRefIdeal.τ Cert.MGuRefIdeal.sig) → Buf (Elt Ideal) ℓ) (g' : Dev Cert.MGuRefIdeal.nD → PrngReg), Pre_MGuIdeal m →
    (∀ c : Dev Cert.MGuIdeal.nD,
      m' ((c.tc : Thread Cert.MGuRefIdeal.nD Cert.MGuRefIdeal.τ).loc Cert.MGuRefIdeal.main_arg0) = m ((c.tc : Thread Cert.MGuIdeal.nD Cert.MGuIdeal.τ).loc Cert.MGuIdeal.main_arg0)
      ∧ m' ((c.tc : Thread Cert.MGuRefIdeal.nD Cert.MGuRefIdeal.τ).loc Cert.MGuRefIdeal.main_arg1) = m ((c.tc : Thread Cert.MGuIdeal.nD Cert.MGuIdeal.τ).loc Cert.MGuIdeal.main_arg1)) →
    ∃ (v0 : (c : Dev Cert.MGuIdeal.nD) → Buf (Elt Ideal) ((c.tc : Thread Cert.MGuIdeal.nD Cert.MGuIdeal.τ).loc Cert.MGuIdeal.main_v0)),
      θ_run (Cert.MGuIdeal.defs (F := Ideal)) (onTc (τ := Cert.MGuIdeal.τ) (Cert.MGuIdeal.main (F := Ideal))) ⟨m, fun _ => 0, g⟩ (fun r => ∀ c : Dev Cert.MGuIdeal.nD,
          r.2.mem ((c.tc : Thread Cert.MGuIdeal.nD Cert.MGuIdeal.τ).loc Cert.MGuIdeal.main_v0) = v0 c
          ∧ r.2.mem ((c.tc : Thread Cert.MGuIdeal.nD Cert.MGuIdeal.τ).loc Cert.MGuIdeal.main_arg0) = m ((c.tc : Thread Cert.MGuIdeal.nD Cert.MGuIdeal.τ).loc Cert.MGuIdeal.main_arg0)
          ∧ r.2.mem ((c.tc : Thread Cert.MGuIdeal.nD Cert.MGuIdeal.τ).loc Cert.MGuIdeal.main_arg1) = m ((c.tc : Thread Cert.MGuIdeal.nD Cert.MGuIdeal.τ).loc Cert.MGuIdeal.main_arg1))
      ∧ θ_run (Cert.MGuRefIdeal.defs (F := Ideal)) (onTc (τ := Cert.MGuRefIdeal.τ) (Cert.MGuRefIdeal.main (F := Ideal))) ⟨m', fun _ => 0, g'⟩ (fun r => ∀ c : Dev Cert.MGuRefIdeal.nD,
          r.2.mem ((c.tc : Thread Cert.MGuRefIdeal.nD Cert.MGuRefIdeal.τ).loc Cert.MGuRefIdeal.main_v2) = v0 c
          ∧ r.2.mem ((c.tc : Thread Cert.MGuRefIdeal.nD Cert.MGuRefIdeal.τ).loc Cert.MGuRefIdeal.main_arg0) = m' ((c.tc : Thread Cert.MGuRefIdeal.nD Cert.MGuRefIdeal.τ).loc Cert.MGuRefIdeal.main_arg0)
          ∧ r.2.mem ((c.tc : Thread Cert.MGuRefIdeal.nD Cert.MGuRefIdeal.τ).loc Cert.MGuRefIdeal.main_arg1) = m' ((c.tc : Thread Cert.MGuRefIdeal.nD Cert.MGuRefIdeal.τ).loc Cert.MGuRefIdeal.main_arg1))

def preserves_MDown_MDownIdeal : Prop :=
  True

def algebraic_MDownIdeal_MDownRefIdeal [hMDownIdeal : Cert.MDownIdeal.Facts] [hMDownRefIdeal : Cert.MDownRefIdeal.Facts] : Prop :=
  ∀ (m : (ℓ : Loc Cert.MDownIdeal.nD Cert.MDownIdeal.τ Cert.MDownIdeal.sig) → Buf (Elt Ideal) ℓ) (g : Dev Cert.MDownIdeal.nD → PrngReg)
    (m' : (ℓ : Loc Cert.MDownRefIdeal.nD Cert.MDownRefIdeal.τ Cert.MDownRefIdeal.sig) → Buf (Elt Ideal) ℓ) (g' : Dev Cert.MDownRefIdeal.nD → PrngReg), Pre_MDownIdeal m →
    (∀ c : Dev Cert.MDownIdeal.nD,
      m' ((c.tc : Thread Cert.MDownRefIdeal.nD Cert.MDownRefIdeal.τ).loc Cert.MDownRefIdeal.main_arg0) = m ((c.tc : Thread Cert.MDownIdeal.nD Cert.MDownIdeal.τ).loc Cert.MDownIdeal.main_arg0)
      ∧ m' ((c.tc : Thread Cert.MDownRefIdeal.nD Cert.MDownRefIdeal.τ).loc Cert.MDownRefIdeal.main_arg1) = m ((c.tc : Thread Cert.MDownIdeal.nD Cert.MDownIdeal.τ).loc Cert.MDownIdeal.main_arg1)) →
    ∃ (v0 : (c : Dev Cert.MDownIdeal.nD) → Buf (Elt Ideal) ((c.tc : Thread Cert.MDownIdeal.nD Cert.MDownIdeal.τ).loc Cert.MDownIdeal.main_v0)),
      θ_run (Cert.MDownIdeal.defs (F := Ideal)) (onTc (τ := Cert.MDownIdeal.τ) (Cert.MDownIdeal.main (F := Ideal))) ⟨m, fun _ => 0, g⟩ (fun r => ∀ c : Dev Cert.MDownIdeal.nD,
          r.2.mem ((c.tc : Thread Cert.MDownIdeal.nD Cert.MDownIdeal.τ).loc Cert.MDownIdeal.main_v0) = v0 c
          ∧ r.2.mem ((c.tc : Thread Cert.MDownIdeal.nD Cert.MDownIdeal.τ).loc Cert.MDownIdeal.main_arg0) = m ((c.tc : Thread Cert.MDownIdeal.nD Cert.MDownIdeal.τ).loc Cert.MDownIdeal.main_arg0)
          ∧ r.2.mem ((c.tc : Thread Cert.MDownIdeal.nD Cert.MDownIdeal.τ).loc Cert.MDownIdeal.main_arg1) = m ((c.tc : Thread Cert.MDownIdeal.nD Cert.MDownIdeal.τ).loc Cert.MDownIdeal.main_arg1))
      ∧ θ_run (Cert.MDownRefIdeal.defs (F := Ideal)) (onTc (τ := Cert.MDownRefIdeal.τ) (Cert.MDownRefIdeal.main (F := Ideal))) ⟨m', fun _ => 0, g'⟩ (fun r => ∀ c : Dev Cert.MDownRefIdeal.nD,
          r.2.mem ((c.tc : Thread Cert.MDownRefIdeal.nD Cert.MDownRefIdeal.τ).loc Cert.MDownRefIdeal.main_v2) = v0 c
          ∧ r.2.mem ((c.tc : Thread Cert.MDownRefIdeal.nD Cert.MDownRefIdeal.τ).loc Cert.MDownRefIdeal.main_arg0) = m' ((c.tc : Thread Cert.MDownRefIdeal.nD Cert.MDownRefIdeal.τ).loc Cert.MDownRefIdeal.main_arg0)
          ∧ r.2.mem ((c.tc : Thread Cert.MDownRefIdeal.nD Cert.MDownRefIdeal.τ).loc Cert.MDownRefIdeal.main_arg1) = m' ((c.tc : Thread Cert.MDownRefIdeal.nD Cert.MDownRefIdeal.τ).loc Cert.MDownRefIdeal.main_arg1))

def preserves_ESwiglu_ESwigluIdeal : Prop :=
  True

def algebraic_ESwigluIdeal_ESwigluRefIdeal_pre_finite_gate [hESwigluIdeal : Cert.ESwigluIdeal.Facts] [hESwigluRefIdeal : Cert.ESwigluRefIdeal.Facts] [hPre_finite_gate : Cert.Pre_finite_gate.Facts] : Prop :=
  ∀ (m : (ℓ : Loc Cert.ESwigluIdeal.nD Cert.ESwigluIdeal.τ Cert.ESwigluIdeal.sig) → Buf (Elt Ideal) ℓ) (g : Dev Cert.ESwigluIdeal.nD → PrngReg)
    (m' : (ℓ : Loc Cert.ESwigluRefIdeal.nD Cert.ESwigluRefIdeal.τ Cert.ESwigluRefIdeal.sig) → Buf (Elt Ideal) ℓ) (g' : Dev Cert.ESwigluRefIdeal.nD → PrngReg), Pre_ESwigluIdeal_finite_gate m →
    (∀ c : Dev Cert.ESwigluIdeal.nD,
      m' ((c.tc : Thread Cert.ESwigluRefIdeal.nD Cert.ESwigluRefIdeal.τ).loc Cert.ESwigluRefIdeal.main_arg0) = m ((c.tc : Thread Cert.ESwigluIdeal.nD Cert.ESwigluIdeal.τ).loc Cert.ESwigluIdeal.main_arg0)
      ∧ m' ((c.tc : Thread Cert.ESwigluRefIdeal.nD Cert.ESwigluRefIdeal.τ).loc Cert.ESwigluRefIdeal.main_arg1) = m ((c.tc : Thread Cert.ESwigluIdeal.nD Cert.ESwigluIdeal.τ).loc Cert.ESwigluIdeal.main_arg1)) →
    ∃ (v0 : (c : Dev Cert.ESwigluIdeal.nD) → Buf (Elt Ideal) ((c.tc : Thread Cert.ESwigluIdeal.nD Cert.ESwigluIdeal.τ).loc Cert.ESwigluIdeal.main_v0)),
      θ_run (Cert.ESwigluIdeal.defs (F := Ideal)) (onTc (τ := Cert.ESwigluIdeal.τ) (Cert.ESwigluIdeal.main (F := Ideal))) ⟨m, fun _ => 0, g⟩ (fun r => ∀ c : Dev Cert.ESwigluIdeal.nD,
          r.2.mem ((c.tc : Thread Cert.ESwigluIdeal.nD Cert.ESwigluIdeal.τ).loc Cert.ESwigluIdeal.main_v0) = v0 c
          ∧ r.2.mem ((c.tc : Thread Cert.ESwigluIdeal.nD Cert.ESwigluIdeal.τ).loc Cert.ESwigluIdeal.main_arg0) = m ((c.tc : Thread Cert.ESwigluIdeal.nD Cert.ESwigluIdeal.τ).loc Cert.ESwigluIdeal.main_arg0)
          ∧ r.2.mem ((c.tc : Thread Cert.ESwigluIdeal.nD Cert.ESwigluIdeal.τ).loc Cert.ESwigluIdeal.main_arg1) = m ((c.tc : Thread Cert.ESwigluIdeal.nD Cert.ESwigluIdeal.τ).loc Cert.ESwigluIdeal.main_arg1))
      ∧ θ_run (Cert.ESwigluRefIdeal.defs (F := Ideal)) (onTc (τ := Cert.ESwigluRefIdeal.τ) (Cert.ESwigluRefIdeal.main (F := Ideal))) ⟨m', fun _ => 0, g'⟩ (fun r => ∀ c : Dev Cert.ESwigluRefIdeal.nD,
          r.2.mem ((c.tc : Thread Cert.ESwigluRefIdeal.nD Cert.ESwigluRefIdeal.τ).loc Cert.ESwigluRefIdeal.main_v9) = v0 c
          ∧ r.2.mem ((c.tc : Thread Cert.ESwigluRefIdeal.nD Cert.ESwigluRefIdeal.τ).loc Cert.ESwigluRefIdeal.main_arg0) = m' ((c.tc : Thread Cert.ESwigluRefIdeal.nD Cert.ESwigluRefIdeal.τ).loc Cert.ESwigluRefIdeal.main_arg0)
          ∧ r.2.mem ((c.tc : Thread Cert.ESwigluRefIdeal.nD Cert.ESwigluRefIdeal.τ).loc Cert.ESwigluRefIdeal.main_arg1) = m' ((c.tc : Thread Cert.ESwigluRefIdeal.nD Cert.ESwigluRefIdeal.τ).loc Cert.ESwigluRefIdeal.main_arg1))

def preserves_EMerge_EMergeIdeal : Prop :=
  True

def algebraic_EMergeIdeal_EMergeRefIdeal [hEMergeIdeal : Cert.EMergeIdeal.Facts] [hEMergeRefIdeal : Cert.EMergeRefIdeal.Facts] : Prop :=
  ∀ (m : (ℓ : Loc Cert.EMergeIdeal.nD Cert.EMergeIdeal.τ Cert.EMergeIdeal.sig) → Buf (Elt Ideal) ℓ) (g : Dev Cert.EMergeIdeal.nD → PrngReg)
    (m' : (ℓ : Loc Cert.EMergeRefIdeal.nD Cert.EMergeRefIdeal.τ Cert.EMergeRefIdeal.sig) → Buf (Elt Ideal) ℓ) (g' : Dev Cert.EMergeRefIdeal.nD → PrngReg), Pre_EMergeIdeal m →
    (∀ c : Dev Cert.EMergeIdeal.nD,
      m' ((c.tc : Thread Cert.EMergeRefIdeal.nD Cert.EMergeRefIdeal.τ).loc Cert.EMergeRefIdeal.main_arg0) = m ((c.tc : Thread Cert.EMergeIdeal.nD Cert.EMergeIdeal.τ).loc Cert.EMergeIdeal.main_arg0)
      ∧ m' ((c.tc : Thread Cert.EMergeRefIdeal.nD Cert.EMergeRefIdeal.τ).loc Cert.EMergeRefIdeal.main_arg1) = m ((c.tc : Thread Cert.EMergeIdeal.nD Cert.EMergeIdeal.τ).loc Cert.EMergeIdeal.main_arg1)
      ∧ m' ((c.tc : Thread Cert.EMergeRefIdeal.nD Cert.EMergeRefIdeal.τ).loc Cert.EMergeRefIdeal.main_arg2) = m ((c.tc : Thread Cert.EMergeIdeal.nD Cert.EMergeIdeal.τ).loc Cert.EMergeIdeal.main_arg2)
      ∧ m' ((c.tc : Thread Cert.EMergeRefIdeal.nD Cert.EMergeRefIdeal.τ).loc Cert.EMergeRefIdeal.main_arg3) = m ((c.tc : Thread Cert.EMergeIdeal.nD Cert.EMergeIdeal.τ).loc Cert.EMergeIdeal.main_arg3)) →
    ∃ (v0 : (c : Dev Cert.EMergeIdeal.nD) → Buf (Elt Ideal) ((c.tc : Thread Cert.EMergeIdeal.nD Cert.EMergeIdeal.τ).loc Cert.EMergeIdeal.main_v0_0)) (v1 : (c : Dev Cert.EMergeIdeal.nD) → Buf (Elt Ideal) ((c.tc : Thread Cert.EMergeIdeal.nD Cert.EMergeIdeal.τ).loc Cert.EMergeIdeal.main_v0_1)) (v2 : (c : Dev Cert.EMergeIdeal.nD) → Buf (Elt Ideal) ((c.tc : Thread Cert.EMergeIdeal.nD Cert.EMergeIdeal.τ).loc Cert.EMergeIdeal.main_v0_2)),
      θ_run (Cert.EMergeIdeal.defs (F := Ideal)) (onTc (τ := Cert.EMergeIdeal.τ) (Cert.EMergeIdeal.main (F := Ideal))) ⟨m, fun _ => 0, g⟩ (fun r => ∀ c : Dev Cert.EMergeIdeal.nD,
          r.2.mem ((c.tc : Thread Cert.EMergeIdeal.nD Cert.EMergeIdeal.τ).loc Cert.EMergeIdeal.main_v0_0) = v0 c
          ∧ r.2.mem ((c.tc : Thread Cert.EMergeIdeal.nD Cert.EMergeIdeal.τ).loc Cert.EMergeIdeal.main_v0_1) = v1 c
          ∧ r.2.mem ((c.tc : Thread Cert.EMergeIdeal.nD Cert.EMergeIdeal.τ).loc Cert.EMergeIdeal.main_v0_2) = v2 c
          ∧ r.2.mem ((c.tc : Thread Cert.EMergeIdeal.nD Cert.EMergeIdeal.τ).loc Cert.EMergeIdeal.main_arg0) = m ((c.tc : Thread Cert.EMergeIdeal.nD Cert.EMergeIdeal.τ).loc Cert.EMergeIdeal.main_arg0)
          ∧ r.2.mem ((c.tc : Thread Cert.EMergeIdeal.nD Cert.EMergeIdeal.τ).loc Cert.EMergeIdeal.main_arg1) = m ((c.tc : Thread Cert.EMergeIdeal.nD Cert.EMergeIdeal.τ).loc Cert.EMergeIdeal.main_arg1)
          ∧ r.2.mem ((c.tc : Thread Cert.EMergeIdeal.nD Cert.EMergeIdeal.τ).loc Cert.EMergeIdeal.main_arg2) = m ((c.tc : Thread Cert.EMergeIdeal.nD Cert.EMergeIdeal.τ).loc Cert.EMergeIdeal.main_arg2)
          ∧ r.2.mem ((c.tc : Thread Cert.EMergeIdeal.nD Cert.EMergeIdeal.τ).loc Cert.EMergeIdeal.main_arg3) = m ((c.tc : Thread Cert.EMergeIdeal.nD Cert.EMergeIdeal.τ).loc Cert.EMergeIdeal.main_arg3))
      ∧ θ_run (Cert.EMergeRefIdeal.defs (F := Ideal)) (onTc (τ := Cert.EMergeRefIdeal.τ) (Cert.EMergeRefIdeal.main (F := Ideal))) ⟨m', fun _ => 0, g'⟩ (fun r => ∀ c : Dev Cert.EMergeRefIdeal.nD,
          r.2.mem ((c.tc : Thread Cert.EMergeRefIdeal.nD Cert.EMergeRefIdeal.τ).loc Cert.EMergeRefIdeal.main_v31) = v0 c
          ∧ r.2.mem ((c.tc : Thread Cert.EMergeRefIdeal.nD Cert.EMergeRefIdeal.τ).loc Cert.EMergeRefIdeal.main_v32) = v1 c
          ∧ r.2.mem ((c.tc : Thread Cert.EMergeRefIdeal.nD Cert.EMergeRefIdeal.τ).loc Cert.EMergeRefIdeal.main_v33) = v2 c
          ∧ r.2.mem ((c.tc : Thread Cert.EMergeRefIdeal.nD Cert.EMergeRefIdeal.τ).loc Cert.EMergeRefIdeal.main_arg0) = m' ((c.tc : Thread Cert.EMergeRefIdeal.nD Cert.EMergeRefIdeal.τ).loc Cert.EMergeRefIdeal.main_arg0)
          ∧ r.2.mem ((c.tc : Thread Cert.EMergeRefIdeal.nD Cert.EMergeRefIdeal.τ).loc Cert.EMergeRefIdeal.main_arg1) = m' ((c.tc : Thread Cert.EMergeRefIdeal.nD Cert.EMergeRefIdeal.τ).loc Cert.EMergeRefIdeal.main_arg1)
          ∧ r.2.mem ((c.tc : Thread Cert.EMergeRefIdeal.nD Cert.EMergeRefIdeal.τ).loc Cert.EMergeRefIdeal.main_arg2) = m' ((c.tc : Thread Cert.EMergeRefIdeal.nD Cert.EMergeRefIdeal.τ).loc Cert.EMergeRefIdeal.main_arg2)
          ∧ r.2.mem ((c.tc : Thread Cert.EMergeRefIdeal.nD Cert.EMergeRefIdeal.τ).loc Cert.EMergeRefIdeal.main_arg3) = m' ((c.tc : Thread Cert.EMergeRefIdeal.nD Cert.EMergeRefIdeal.τ).loc Cert.EMergeRefIdeal.main_arg3))

def preserves_FSwiglu_FSwigluIdeal : Prop :=
  True

def algebraic_FSwigluIdeal_FSwigluRefIdeal [hFSwigluIdeal : Cert.FSwigluIdeal.Facts] [hFSwigluRefIdeal : Cert.FSwigluRefIdeal.Facts] : Prop :=
  ∀ (m : (ℓ : Loc Cert.FSwigluIdeal.nD Cert.FSwigluIdeal.τ Cert.FSwigluIdeal.sig) → Buf (Elt Ideal) ℓ) (g : Dev Cert.FSwigluIdeal.nD → PrngReg)
    (m' : (ℓ : Loc Cert.FSwigluRefIdeal.nD Cert.FSwigluRefIdeal.τ Cert.FSwigluRefIdeal.sig) → Buf (Elt Ideal) ℓ) (g' : Dev Cert.FSwigluRefIdeal.nD → PrngReg), Pre_FSwigluIdeal m →
    (∀ c : Dev Cert.FSwigluIdeal.nD,
      m' ((c.tc : Thread Cert.FSwigluRefIdeal.nD Cert.FSwigluRefIdeal.τ).loc Cert.FSwigluRefIdeal.main_arg0) = m ((c.tc : Thread Cert.FSwigluIdeal.nD Cert.FSwigluIdeal.τ).loc Cert.FSwigluIdeal.main_arg0)) →
    ∃ (v0 : (c : Dev Cert.FSwigluIdeal.nD) → Buf (Elt Ideal) ((c.tc : Thread Cert.FSwigluIdeal.nD Cert.FSwigluIdeal.τ).loc Cert.FSwigluIdeal.main_v0)),
      θ_run (Cert.FSwigluIdeal.defs (F := Ideal)) (onTc (τ := Cert.FSwigluIdeal.τ) (Cert.FSwigluIdeal.main (F := Ideal))) ⟨m, fun _ => 0, g⟩ (fun r => ∀ c : Dev Cert.FSwigluIdeal.nD,
          r.2.mem ((c.tc : Thread Cert.FSwigluIdeal.nD Cert.FSwigluIdeal.τ).loc Cert.FSwigluIdeal.main_v0) = v0 c
          ∧ r.2.mem ((c.tc : Thread Cert.FSwigluIdeal.nD Cert.FSwigluIdeal.τ).loc Cert.FSwigluIdeal.main_arg0) = m ((c.tc : Thread Cert.FSwigluIdeal.nD Cert.FSwigluIdeal.τ).loc Cert.FSwigluIdeal.main_arg0))
      ∧ θ_run (Cert.FSwigluRefIdeal.defs (F := Ideal)) (onTc (τ := Cert.FSwigluRefIdeal.τ) (Cert.FSwigluRefIdeal.main (F := Ideal))) ⟨m', fun _ => 0, g'⟩ (fun r => ∀ c : Dev Cert.FSwigluRefIdeal.nD,
          r.2.mem ((c.tc : Thread Cert.FSwigluRefIdeal.nD Cert.FSwigluRefIdeal.τ).loc Cert.FSwigluRefIdeal.main_v4) = v0 c
          ∧ r.2.mem ((c.tc : Thread Cert.FSwigluRefIdeal.nD Cert.FSwigluRefIdeal.τ).loc Cert.FSwigluRefIdeal.main_arg0) = m' ((c.tc : Thread Cert.FSwigluRefIdeal.nD Cert.FSwigluRefIdeal.τ).loc Cert.FSwigluRefIdeal.main_arg0))

def preserves_FMerge_FMergeIdeal : Prop :=
  True

def algebraic_FMergeIdeal_FMergeRefIdeal [hFMergeIdeal : Cert.FMergeIdeal.Facts] [hFMergeRefIdeal : Cert.FMergeRefIdeal.Facts] : Prop :=
  ∀ (m : (ℓ : Loc Cert.FMergeIdeal.nD Cert.FMergeIdeal.τ Cert.FMergeIdeal.sig) → Buf (Elt Ideal) ℓ) (g : Dev Cert.FMergeIdeal.nD → PrngReg)
    (m' : (ℓ : Loc Cert.FMergeRefIdeal.nD Cert.FMergeRefIdeal.τ Cert.FMergeRefIdeal.sig) → Buf (Elt Ideal) ℓ) (g' : Dev Cert.FMergeRefIdeal.nD → PrngReg), Pre_FMergeIdeal m →
    (∀ c : Dev Cert.FMergeIdeal.nD,
      m' ((c.tc : Thread Cert.FMergeRefIdeal.nD Cert.FMergeRefIdeal.τ).loc Cert.FMergeRefIdeal.main_arg0) = m ((c.tc : Thread Cert.FMergeIdeal.nD Cert.FMergeIdeal.τ).loc Cert.FMergeIdeal.main_arg0)
      ∧ m' ((c.tc : Thread Cert.FMergeRefIdeal.nD Cert.FMergeRefIdeal.τ).loc Cert.FMergeRefIdeal.main_arg1) = m ((c.tc : Thread Cert.FMergeIdeal.nD Cert.FMergeIdeal.τ).loc Cert.FMergeIdeal.main_arg1)
      ∧ m' ((c.tc : Thread Cert.FMergeRefIdeal.nD Cert.FMergeRefIdeal.τ).loc Cert.FMergeRefIdeal.main_arg2) = m ((c.tc : Thread Cert.FMergeIdeal.nD Cert.FMergeIdeal.τ).loc Cert.FMergeIdeal.main_arg2)) →
    ∃ (v0 : (c : Dev Cert.FMergeIdeal.nD) → Buf (Elt Ideal) ((c.tc : Thread Cert.FMergeIdeal.nD Cert.FMergeIdeal.τ).loc Cert.FMergeIdeal.main_v0)),
      θ_run (Cert.FMergeIdeal.defs (F := Ideal)) (onTc (τ := Cert.FMergeIdeal.τ) (Cert.FMergeIdeal.main (F := Ideal))) ⟨m, fun _ => 0, g⟩ (fun r => ∀ c : Dev Cert.FMergeIdeal.nD,
          r.2.mem ((c.tc : Thread Cert.FMergeIdeal.nD Cert.FMergeIdeal.τ).loc Cert.FMergeIdeal.main_v0) = v0 c
          ∧ r.2.mem ((c.tc : Thread Cert.FMergeIdeal.nD Cert.FMergeIdeal.τ).loc Cert.FMergeIdeal.main_arg0) = m ((c.tc : Thread Cert.FMergeIdeal.nD Cert.FMergeIdeal.τ).loc Cert.FMergeIdeal.main_arg0)
          ∧ r.2.mem ((c.tc : Thread Cert.FMergeIdeal.nD Cert.FMergeIdeal.τ).loc Cert.FMergeIdeal.main_arg1) = m ((c.tc : Thread Cert.FMergeIdeal.nD Cert.FMergeIdeal.τ).loc Cert.FMergeIdeal.main_arg1)
          ∧ r.2.mem ((c.tc : Thread Cert.FMergeIdeal.nD Cert.FMergeIdeal.τ).loc Cert.FMergeIdeal.main_arg2) = m ((c.tc : Thread Cert.FMergeIdeal.nD Cert.FMergeIdeal.τ).loc Cert.FMergeIdeal.main_arg2))
      ∧ θ_run (Cert.FMergeRefIdeal.defs (F := Ideal)) (onTc (τ := Cert.FMergeRefIdeal.τ) (Cert.FMergeRefIdeal.main (F := Ideal))) ⟨m', fun _ => 0, g'⟩ (fun r => ∀ c : Dev Cert.FMergeRefIdeal.nD,
          r.2.mem ((c.tc : Thread Cert.FMergeRefIdeal.nD Cert.FMergeRefIdeal.τ).loc Cert.FMergeRefIdeal.main_v17) = v0 c
          ∧ r.2.mem ((c.tc : Thread Cert.FMergeRefIdeal.nD Cert.FMergeRefIdeal.τ).loc Cert.FMergeRefIdeal.main_arg0) = m' ((c.tc : Thread Cert.FMergeRefIdeal.nD Cert.FMergeRefIdeal.τ).loc Cert.FMergeRefIdeal.main_arg0)
          ∧ r.2.mem ((c.tc : Thread Cert.FMergeRefIdeal.nD Cert.FMergeRefIdeal.τ).loc Cert.FMergeRefIdeal.main_arg1) = m' ((c.tc : Thread Cert.FMergeRefIdeal.nD Cert.FMergeRefIdeal.τ).loc Cert.FMergeRefIdeal.main_arg1)
          ∧ r.2.mem ((c.tc : Thread Cert.FMergeRefIdeal.nD Cert.FMergeRefIdeal.τ).loc Cert.FMergeRefIdeal.main_arg2) = m' ((c.tc : Thread Cert.FMergeRefIdeal.nD Cert.FMergeRefIdeal.τ).loc Cert.FMergeRefIdeal.main_arg2))

def preserves_AWIn_AWInIdeal : Prop :=
  True

def algebraic_AWInIdeal_AWInRefIdeal [hAWInIdeal : Cert.AWInIdeal.Facts] [hAWInRefIdeal : Cert.AWInRefIdeal.Facts] : Prop :=
  ∀ (m : (ℓ : Loc Cert.AWInIdeal.nD Cert.AWInIdeal.τ Cert.AWInIdeal.sig) → Buf (Elt Ideal) ℓ) (g : Dev Cert.AWInIdeal.nD → PrngReg)
    (m' : (ℓ : Loc Cert.AWInRefIdeal.nD Cert.AWInRefIdeal.τ Cert.AWInRefIdeal.sig) → Buf (Elt Ideal) ℓ) (g' : Dev Cert.AWInRefIdeal.nD → PrngReg), Pre_AWInIdeal m →
    (∀ c : Dev Cert.AWInIdeal.nD,
      m' ((c.tc : Thread Cert.AWInRefIdeal.nD Cert.AWInRefIdeal.τ).loc Cert.AWInRefIdeal.main_arg0) = m ((c.tc : Thread Cert.AWInIdeal.nD Cert.AWInIdeal.τ).loc Cert.AWInIdeal.main_arg0)
      ∧ m' ((c.tc : Thread Cert.AWInRefIdeal.nD Cert.AWInRefIdeal.τ).loc Cert.AWInRefIdeal.main_arg1) = m ((c.tc : Thread Cert.AWInIdeal.nD Cert.AWInIdeal.τ).loc Cert.AWInIdeal.main_arg1)
      ∧ m' ((c.tc : Thread Cert.AWInRefIdeal.nD Cert.AWInRefIdeal.τ).loc Cert.AWInRefIdeal.main_arg2) = m ((c.tc : Thread Cert.AWInIdeal.nD Cert.AWInIdeal.τ).loc Cert.AWInIdeal.main_arg2)
      ∧ m' ((c.tc : Thread Cert.AWInRefIdeal.nD Cert.AWInRefIdeal.τ).loc Cert.AWInRefIdeal.main_arg3) = m ((c.tc : Thread Cert.AWInIdeal.nD Cert.AWInIdeal.τ).loc Cert.AWInIdeal.main_arg3)) →
    ∃ (v0 : (c : Dev Cert.AWInIdeal.nD) → Buf (Elt Ideal) ((c.tc : Thread Cert.AWInIdeal.nD Cert.AWInIdeal.τ).loc Cert.AWInIdeal.main_v0_0)) (v1 : (c : Dev Cert.AWInIdeal.nD) → Buf (Elt Ideal) ((c.tc : Thread Cert.AWInIdeal.nD Cert.AWInIdeal.τ).loc Cert.AWInIdeal.main_v0_1)) (v2 : (c : Dev Cert.AWInIdeal.nD) → Buf (Elt Ideal) ((c.tc : Thread Cert.AWInIdeal.nD Cert.AWInIdeal.τ).loc Cert.AWInIdeal.main_v0_2)) (v3 : (c : Dev Cert.AWInIdeal.nD) → Buf (Elt Ideal) ((c.tc : Thread Cert.AWInIdeal.nD Cert.AWInIdeal.τ).loc Cert.AWInIdeal.main_v0_3)),
      θ_run (Cert.AWInIdeal.defs (F := Ideal)) (onTc (τ := Cert.AWInIdeal.τ) (Cert.AWInIdeal.main (F := Ideal))) ⟨m, fun _ => 0, g⟩ (fun r => ∀ c : Dev Cert.AWInIdeal.nD,
          r.2.mem ((c.tc : Thread Cert.AWInIdeal.nD Cert.AWInIdeal.τ).loc Cert.AWInIdeal.main_v0_0) = v0 c
          ∧ r.2.mem ((c.tc : Thread Cert.AWInIdeal.nD Cert.AWInIdeal.τ).loc Cert.AWInIdeal.main_v0_1) = v1 c
          ∧ r.2.mem ((c.tc : Thread Cert.AWInIdeal.nD Cert.AWInIdeal.τ).loc Cert.AWInIdeal.main_v0_2) = v2 c
          ∧ r.2.mem ((c.tc : Thread Cert.AWInIdeal.nD Cert.AWInIdeal.τ).loc Cert.AWInIdeal.main_v0_3) = v3 c
          ∧ r.2.mem ((c.tc : Thread Cert.AWInIdeal.nD Cert.AWInIdeal.τ).loc Cert.AWInIdeal.main_arg0) = m ((c.tc : Thread Cert.AWInIdeal.nD Cert.AWInIdeal.τ).loc Cert.AWInIdeal.main_arg0)
          ∧ r.2.mem ((c.tc : Thread Cert.AWInIdeal.nD Cert.AWInIdeal.τ).loc Cert.AWInIdeal.main_arg1) = m ((c.tc : Thread Cert.AWInIdeal.nD Cert.AWInIdeal.τ).loc Cert.AWInIdeal.main_arg1)
          ∧ r.2.mem ((c.tc : Thread Cert.AWInIdeal.nD Cert.AWInIdeal.τ).loc Cert.AWInIdeal.main_arg2) = m ((c.tc : Thread Cert.AWInIdeal.nD Cert.AWInIdeal.τ).loc Cert.AWInIdeal.main_arg2)
          ∧ r.2.mem ((c.tc : Thread Cert.AWInIdeal.nD Cert.AWInIdeal.τ).loc Cert.AWInIdeal.main_arg3) = m ((c.tc : Thread Cert.AWInIdeal.nD Cert.AWInIdeal.τ).loc Cert.AWInIdeal.main_arg3))
      ∧ θ_run (Cert.AWInRefIdeal.defs (F := Ideal)) (onTc (τ := Cert.AWInRefIdeal.τ) (Cert.AWInRefIdeal.main (F := Ideal))) ⟨m', fun _ => 0, g'⟩ (fun r => ∀ c : Dev Cert.AWInRefIdeal.nD,
          r.2.mem ((c.tc : Thread Cert.AWInRefIdeal.nD Cert.AWInRefIdeal.τ).loc Cert.AWInRefIdeal.main_v1) = v0 c
          ∧ r.2.mem ((c.tc : Thread Cert.AWInRefIdeal.nD Cert.AWInRefIdeal.τ).loc Cert.AWInRefIdeal.main_v25) = v1 c
          ∧ r.2.mem ((c.tc : Thread Cert.AWInRefIdeal.nD Cert.AWInRefIdeal.τ).loc Cert.AWInRefIdeal.main_v6) = v2 c
          ∧ r.2.mem ((c.tc : Thread Cert.AWInRefIdeal.nD Cert.AWInRefIdeal.τ).loc Cert.AWInRefIdeal.main_v12) = v3 c
          ∧ r.2.mem ((c.tc : Thread Cert.AWInRefIdeal.nD Cert.AWInRefIdeal.τ).loc Cert.AWInRefIdeal.main_arg0) = m' ((c.tc : Thread Cert.AWInRefIdeal.nD Cert.AWInRefIdeal.τ).loc Cert.AWInRefIdeal.main_arg0)
          ∧ r.2.mem ((c.tc : Thread Cert.AWInRefIdeal.nD Cert.AWInRefIdeal.τ).loc Cert.AWInRefIdeal.main_arg1) = m' ((c.tc : Thread Cert.AWInRefIdeal.nD Cert.AWInRefIdeal.τ).loc Cert.AWInRefIdeal.main_arg1)
          ∧ r.2.mem ((c.tc : Thread Cert.AWInRefIdeal.nD Cert.AWInRefIdeal.τ).loc Cert.AWInRefIdeal.main_arg2) = m' ((c.tc : Thread Cert.AWInRefIdeal.nD Cert.AWInRefIdeal.τ).loc Cert.AWInRefIdeal.main_arg2)
          ∧ r.2.mem ((c.tc : Thread Cert.AWInRefIdeal.nD Cert.AWInRefIdeal.τ).loc Cert.AWInRefIdeal.main_arg3) = m' ((c.tc : Thread Cert.AWInRefIdeal.nD Cert.AWInRefIdeal.τ).loc Cert.AWInRefIdeal.main_arg3))

def preserves_ABrAtt_ABrAttIdeal : Prop :=
  True

def algebraic_ABrAttIdeal_ABrAttRefIdeal [hABrAttIdeal : Cert.ABrAttIdeal.Facts] [hABrAttRefIdeal : Cert.ABrAttRefIdeal.Facts] : Prop :=
  ∀ (m : (ℓ : Loc Cert.ABrAttIdeal.nD Cert.ABrAttIdeal.τ Cert.ABrAttIdeal.sig) → Buf (Elt Ideal) ℓ) (g : Dev Cert.ABrAttIdeal.nD → PrngReg)
    (m' : (ℓ : Loc Cert.ABrAttRefIdeal.nD Cert.ABrAttRefIdeal.τ Cert.ABrAttRefIdeal.sig) → Buf (Elt Ideal) ℓ) (g' : Dev Cert.ABrAttRefIdeal.nD → PrngReg), Pre_ABrAttIdeal m →
    (∀ c : Dev Cert.ABrAttIdeal.nD,
      m' ((c.tc : Thread Cert.ABrAttRefIdeal.nD Cert.ABrAttRefIdeal.τ).loc Cert.ABrAttRefIdeal.main_arg0) = m ((c.tc : Thread Cert.ABrAttIdeal.nD Cert.ABrAttIdeal.τ).loc Cert.ABrAttIdeal.main_arg0)
      ∧ m' ((c.tc : Thread Cert.ABrAttRefIdeal.nD Cert.ABrAttRefIdeal.τ).loc Cert.ABrAttRefIdeal.main_arg1) = m ((c.tc : Thread Cert.ABrAttIdeal.nD Cert.ABrAttIdeal.τ).loc Cert.ABrAttIdeal.main_arg1)
      ∧ m' ((c.tc : Thread Cert.ABrAttRefIdeal.nD Cert.ABrAttRefIdeal.τ).loc Cert.ABrAttRefIdeal.main_arg2) = m ((c.tc : Thread Cert.ABrAttIdeal.nD Cert.ABrAttIdeal.τ).loc Cert.ABrAttIdeal.main_arg2)
      ∧ m' ((c.tc : Thread Cert.ABrAttRefIdeal.nD Cert.ABrAttRefIdeal.τ).loc Cert.ABrAttRefIdeal.main_arg3) = m ((c.tc : Thread Cert.ABrAttIdeal.nD Cert.ABrAttIdeal.τ).loc Cert.ABrAttIdeal.main_arg3)) →
    ∃ (v0 : (c : Dev Cert.ABrAttIdeal.nD) → Buf (Elt Ideal) ((c.tc : Thread Cert.ABrAttIdeal.nD Cert.ABrAttIdeal.τ).loc Cert.ABrAttIdeal.main_v0_0)) (v1 : (c : Dev Cert.ABrAttIdeal.nD) → Buf (Elt Ideal) ((c.tc : Thread Cert.ABrAttIdeal.nD Cert.ABrAttIdeal.τ).loc Cert.ABrAttIdeal.main_v0_1)) (v2 : (c : Dev Cert.ABrAttIdeal.nD) → Buf (Elt Ideal) ((c.tc : Thread Cert.ABrAttIdeal.nD Cert.ABrAttIdeal.τ).loc Cert.ABrAttIdeal.main_v0_2)) (v3 : (c : Dev Cert.ABrAttIdeal.nD) → Buf (Elt Ideal) ((c.tc : Thread Cert.ABrAttIdeal.nD Cert.ABrAttIdeal.τ).loc Cert.ABrAttIdeal.main_v0_3)),
      θ_run (Cert.ABrAttIdeal.defs (F := Ideal)) (onTc (τ := Cert.ABrAttIdeal.τ) (Cert.ABrAttIdeal.main (F := Ideal))) ⟨m, fun _ => 0, g⟩ (fun r => ∀ c : Dev Cert.ABrAttIdeal.nD,
          r.2.mem ((c.tc : Thread Cert.ABrAttIdeal.nD Cert.ABrAttIdeal.τ).loc Cert.ABrAttIdeal.main_v0_0) = v0 c
          ∧ r.2.mem ((c.tc : Thread Cert.ABrAttIdeal.nD Cert.ABrAttIdeal.τ).loc Cert.ABrAttIdeal.main_v0_1) = v1 c
          ∧ r.2.mem ((c.tc : Thread Cert.ABrAttIdeal.nD Cert.ABrAttIdeal.τ).loc Cert.ABrAttIdeal.main_v0_2) = v2 c
          ∧ r.2.mem ((c.tc : Thread Cert.ABrAttIdeal.nD Cert.ABrAttIdeal.τ).loc Cert.ABrAttIdeal.main_v0_3) = v3 c
          ∧ r.2.mem ((c.tc : Thread Cert.ABrAttIdeal.nD Cert.ABrAttIdeal.τ).loc Cert.ABrAttIdeal.main_arg0) = m ((c.tc : Thread Cert.ABrAttIdeal.nD Cert.ABrAttIdeal.τ).loc Cert.ABrAttIdeal.main_arg0)
          ∧ r.2.mem ((c.tc : Thread Cert.ABrAttIdeal.nD Cert.ABrAttIdeal.τ).loc Cert.ABrAttIdeal.main_arg1) = m ((c.tc : Thread Cert.ABrAttIdeal.nD Cert.ABrAttIdeal.τ).loc Cert.ABrAttIdeal.main_arg1)
          ∧ r.2.mem ((c.tc : Thread Cert.ABrAttIdeal.nD Cert.ABrAttIdeal.τ).loc Cert.ABrAttIdeal.main_arg2) = m ((c.tc : Thread Cert.ABrAttIdeal.nD Cert.ABrAttIdeal.τ).loc Cert.ABrAttIdeal.main_arg2)
          ∧ r.2.mem ((c.tc : Thread Cert.ABrAttIdeal.nD Cert.ABrAttIdeal.τ).loc Cert.ABrAttIdeal.main_arg3) = m ((c.tc : Thread Cert.ABrAttIdeal.nD Cert.ABrAttIdeal.τ).loc Cert.ABrAttIdeal.main_arg3))
      ∧ θ_run (Cert.ABrAttRefIdeal.defs (F := Ideal)) (onTc (τ := Cert.ABrAttRefIdeal.τ) (Cert.ABrAttRefIdeal.main (F := Ideal))) ⟨m', fun _ => 0, g'⟩ (fun r => ∀ c : Dev Cert.ABrAttRefIdeal.nD,
          r.2.mem ((c.tc : Thread Cert.ABrAttRefIdeal.nD Cert.ABrAttRefIdeal.τ).loc Cert.ABrAttRefIdeal.main_v1) = v0 c
          ∧ r.2.mem ((c.tc : Thread Cert.ABrAttRefIdeal.nD Cert.ABrAttRefIdeal.τ).loc Cert.ABrAttRefIdeal.main_v25) = v1 c
          ∧ r.2.mem ((c.tc : Thread Cert.ABrAttRefIdeal.nD Cert.ABrAttRefIdeal.τ).loc Cert.ABrAttRefIdeal.main_v6) = v2 c
          ∧ r.2.mem ((c.tc : Thread Cert.ABrAttRefIdeal.nD Cert.ABrAttRefIdeal.τ).loc Cert.ABrAttRefIdeal.main_v12) = v3 c
          ∧ r.2.mem ((c.tc : Thread Cert.ABrAttRefIdeal.nD Cert.ABrAttRefIdeal.τ).loc Cert.ABrAttRefIdeal.main_arg0) = m' ((c.tc : Thread Cert.ABrAttRefIdeal.nD Cert.ABrAttRefIdeal.τ).loc Cert.ABrAttRefIdeal.main_arg0)
          ∧ r.2.mem ((c.tc : Thread Cert.ABrAttRefIdeal.nD Cert.ABrAttRefIdeal.τ).loc Cert.ABrAttRefIdeal.main_arg1) = m' ((c.tc : Thread Cert.ABrAttRefIdeal.nD Cert.ABrAttRefIdeal.τ).loc Cert.ABrAttRefIdeal.main_arg1)
          ∧ r.2.mem ((c.tc : Thread Cert.ABrAttRefIdeal.nD Cert.ABrAttRefIdeal.τ).loc Cert.ABrAttRefIdeal.main_arg2) = m' ((c.tc : Thread Cert.ABrAttRefIdeal.nD Cert.ABrAttRefIdeal.τ).loc Cert.ABrAttRefIdeal.main_arg2)
          ∧ r.2.mem ((c.tc : Thread Cert.ABrAttRefIdeal.nD Cert.ABrAttRefIdeal.τ).loc Cert.ABrAttRefIdeal.main_arg3) = m' ((c.tc : Thread Cert.ABrAttRefIdeal.nD Cert.ABrAttRefIdeal.τ).loc Cert.ABrAttRefIdeal.main_arg3))

def preserves_ABrSsm_ABrSsmIdeal : Prop :=
  True

def algebraic_ABrSsmIdeal_ABrSsmRefIdeal [hABrSsmIdeal : Cert.ABrSsmIdeal.Facts] [hABrSsmRefIdeal : Cert.ABrSsmRefIdeal.Facts] : Prop :=
  ∀ (m : (ℓ : Loc Cert.ABrSsmIdeal.nD Cert.ABrSsmIdeal.τ Cert.ABrSsmIdeal.sig) → Buf (Elt Ideal) ℓ) (g : Dev Cert.ABrSsmIdeal.nD → PrngReg)
    (m' : (ℓ : Loc Cert.ABrSsmRefIdeal.nD Cert.ABrSsmRefIdeal.τ Cert.ABrSsmRefIdeal.sig) → Buf (Elt Ideal) ℓ) (g' : Dev Cert.ABrSsmRefIdeal.nD → PrngReg), Pre_ABrSsmIdeal m →
    (∀ c : Dev Cert.ABrSsmIdeal.nD,
      m' ((c.tc : Thread Cert.ABrSsmRefIdeal.nD Cert.ABrSsmRefIdeal.τ).loc Cert.ABrSsmRefIdeal.main_arg0) = m ((c.tc : Thread Cert.ABrSsmIdeal.nD Cert.ABrSsmIdeal.τ).loc Cert.ABrSsmIdeal.main_arg0)
      ∧ m' ((c.tc : Thread Cert.ABrSsmRefIdeal.nD Cert.ABrSsmRefIdeal.τ).loc Cert.ABrSsmRefIdeal.main_arg1) = m ((c.tc : Thread Cert.ABrSsmIdeal.nD Cert.ABrSsmIdeal.τ).loc Cert.ABrSsmIdeal.main_arg1)
      ∧ m' ((c.tc : Thread Cert.ABrSsmRefIdeal.nD Cert.ABrSsmRefIdeal.τ).loc Cert.ABrSsmRefIdeal.main_arg2) = m ((c.tc : Thread Cert.ABrSsmIdeal.nD Cert.ABrSsmIdeal.τ).loc Cert.ABrSsmIdeal.main_arg2)
      ∧ m' ((c.tc : Thread Cert.ABrSsmRefIdeal.nD Cert.ABrSsmRefIdeal.τ).loc Cert.ABrSsmRefIdeal.main_arg3) = m ((c.tc : Thread Cert.ABrSsmIdeal.nD Cert.ABrSsmIdeal.τ).loc Cert.ABrSsmIdeal.main_arg3)) →
    ∃ (v0 : (c : Dev Cert.ABrSsmIdeal.nD) → Buf (Elt Ideal) ((c.tc : Thread Cert.ABrSsmIdeal.nD Cert.ABrSsmIdeal.τ).loc Cert.ABrSsmIdeal.main_v0_0)) (v1 : (c : Dev Cert.ABrSsmIdeal.nD) → Buf (Elt Ideal) ((c.tc : Thread Cert.ABrSsmIdeal.nD Cert.ABrSsmIdeal.τ).loc Cert.ABrSsmIdeal.main_v0_1)) (v2 : (c : Dev Cert.ABrSsmIdeal.nD) → Buf (Elt Ideal) ((c.tc : Thread Cert.ABrSsmIdeal.nD Cert.ABrSsmIdeal.τ).loc Cert.ABrSsmIdeal.main_v0_2)) (v3 : (c : Dev Cert.ABrSsmIdeal.nD) → Buf (Elt Ideal) ((c.tc : Thread Cert.ABrSsmIdeal.nD Cert.ABrSsmIdeal.τ).loc Cert.ABrSsmIdeal.main_v0_3)),
      θ_run (Cert.ABrSsmIdeal.defs (F := Ideal)) (onTc (τ := Cert.ABrSsmIdeal.τ) (Cert.ABrSsmIdeal.main (F := Ideal))) ⟨m, fun _ => 0, g⟩ (fun r => ∀ c : Dev Cert.ABrSsmIdeal.nD,
          r.2.mem ((c.tc : Thread Cert.ABrSsmIdeal.nD Cert.ABrSsmIdeal.τ).loc Cert.ABrSsmIdeal.main_v0_0) = v0 c
          ∧ r.2.mem ((c.tc : Thread Cert.ABrSsmIdeal.nD Cert.ABrSsmIdeal.τ).loc Cert.ABrSsmIdeal.main_v0_1) = v1 c
          ∧ r.2.mem ((c.tc : Thread Cert.ABrSsmIdeal.nD Cert.ABrSsmIdeal.τ).loc Cert.ABrSsmIdeal.main_v0_2) = v2 c
          ∧ r.2.mem ((c.tc : Thread Cert.ABrSsmIdeal.nD Cert.ABrSsmIdeal.τ).loc Cert.ABrSsmIdeal.main_v0_3) = v3 c
          ∧ r.2.mem ((c.tc : Thread Cert.ABrSsmIdeal.nD Cert.ABrSsmIdeal.τ).loc Cert.ABrSsmIdeal.main_arg0) = m ((c.tc : Thread Cert.ABrSsmIdeal.nD Cert.ABrSsmIdeal.τ).loc Cert.ABrSsmIdeal.main_arg0)
          ∧ r.2.mem ((c.tc : Thread Cert.ABrSsmIdeal.nD Cert.ABrSsmIdeal.τ).loc Cert.ABrSsmIdeal.main_arg1) = m ((c.tc : Thread Cert.ABrSsmIdeal.nD Cert.ABrSsmIdeal.τ).loc Cert.ABrSsmIdeal.main_arg1)
          ∧ r.2.mem ((c.tc : Thread Cert.ABrSsmIdeal.nD Cert.ABrSsmIdeal.τ).loc Cert.ABrSsmIdeal.main_arg2) = m ((c.tc : Thread Cert.ABrSsmIdeal.nD Cert.ABrSsmIdeal.τ).loc Cert.ABrSsmIdeal.main_arg2)
          ∧ r.2.mem ((c.tc : Thread Cert.ABrSsmIdeal.nD Cert.ABrSsmIdeal.τ).loc Cert.ABrSsmIdeal.main_arg3) = m ((c.tc : Thread Cert.ABrSsmIdeal.nD Cert.ABrSsmIdeal.τ).loc Cert.ABrSsmIdeal.main_arg3))
      ∧ θ_run (Cert.ABrSsmRefIdeal.defs (F := Ideal)) (onTc (τ := Cert.ABrSsmRefIdeal.τ) (Cert.ABrSsmRefIdeal.main (F := Ideal))) ⟨m', fun _ => 0, g'⟩ (fun r => ∀ c : Dev Cert.ABrSsmRefIdeal.nD,
          r.2.mem ((c.tc : Thread Cert.ABrSsmRefIdeal.nD Cert.ABrSsmRefIdeal.τ).loc Cert.ABrSsmRefIdeal.main_v1) = v0 c
          ∧ r.2.mem ((c.tc : Thread Cert.ABrSsmRefIdeal.nD Cert.ABrSsmRefIdeal.τ).loc Cert.ABrSsmRefIdeal.main_v25) = v1 c
          ∧ r.2.mem ((c.tc : Thread Cert.ABrSsmRefIdeal.nD Cert.ABrSsmRefIdeal.τ).loc Cert.ABrSsmRefIdeal.main_v6) = v2 c
          ∧ r.2.mem ((c.tc : Thread Cert.ABrSsmRefIdeal.nD Cert.ABrSsmRefIdeal.τ).loc Cert.ABrSsmRefIdeal.main_v12) = v3 c
          ∧ r.2.mem ((c.tc : Thread Cert.ABrSsmRefIdeal.nD Cert.ABrSsmRefIdeal.τ).loc Cert.ABrSsmRefIdeal.main_arg0) = m' ((c.tc : Thread Cert.ABrSsmRefIdeal.nD Cert.ABrSsmRefIdeal.τ).loc Cert.ABrSsmRefIdeal.main_arg0)
          ∧ r.2.mem ((c.tc : Thread Cert.ABrSsmRefIdeal.nD Cert.ABrSsmRefIdeal.τ).loc Cert.ABrSsmRefIdeal.main_arg1) = m' ((c.tc : Thread Cert.ABrSsmRefIdeal.nD Cert.ABrSsmRefIdeal.τ).loc Cert.ABrSsmRefIdeal.main_arg1)
          ∧ r.2.mem ((c.tc : Thread Cert.ABrSsmRefIdeal.nD Cert.ABrSsmRefIdeal.τ).loc Cert.ABrSsmRefIdeal.main_arg2) = m' ((c.tc : Thread Cert.ABrSsmRefIdeal.nD Cert.ABrSsmRefIdeal.τ).loc Cert.ABrSsmRefIdeal.main_arg2)
          ∧ r.2.mem ((c.tc : Thread Cert.ABrSsmRefIdeal.nD Cert.ABrSsmRefIdeal.τ).loc Cert.ABrSsmRefIdeal.main_arg3) = m' ((c.tc : Thread Cert.ABrSsmRefIdeal.nD Cert.ABrSsmRefIdeal.τ).loc Cert.ABrSsmRefIdeal.main_arg3))

def preserves_AXkv_AXkvIdeal : Prop :=
  True

def algebraic_AXkvIdeal_AXkvRefIdeal [hAXkvIdeal : Cert.AXkvIdeal.Facts] [hAXkvRefIdeal : Cert.AXkvRefIdeal.Facts] : Prop :=
  ∀ (m : (ℓ : Loc Cert.AXkvIdeal.nD Cert.AXkvIdeal.τ Cert.AXkvIdeal.sig) → Buf (Elt Ideal) ℓ) (g : Dev Cert.AXkvIdeal.nD → PrngReg)
    (m' : (ℓ : Loc Cert.AXkvRefIdeal.nD Cert.AXkvRefIdeal.τ Cert.AXkvRefIdeal.sig) → Buf (Elt Ideal) ℓ) (g' : Dev Cert.AXkvRefIdeal.nD → PrngReg), Pre_AXkvIdeal m →
    (∀ c : Dev Cert.AXkvIdeal.nD,
      m' ((c.tc : Thread Cert.AXkvRefIdeal.nD Cert.AXkvRefIdeal.τ).loc Cert.AXkvRefIdeal.main_arg0) = m ((c.tc : Thread Cert.AXkvIdeal.nD Cert.AXkvIdeal.τ).loc Cert.AXkvIdeal.main_arg0)
      ∧ m' ((c.tc : Thread Cert.AXkvRefIdeal.nD Cert.AXkvRefIdeal.τ).loc Cert.AXkvRefIdeal.main_arg1) = m ((c.tc : Thread Cert.AXkvIdeal.nD Cert.AXkvIdeal.τ).loc Cert.AXkvIdeal.main_arg1)
      ∧ m' ((c.tc : Thread Cert.AXkvRefIdeal.nD Cert.AXkvRefIdeal.τ).loc Cert.AXkvRefIdeal.main_arg2) = m ((c.tc : Thread Cert.AXkvIdeal.nD Cert.AXkvIdeal.τ).loc Cert.AXkvIdeal.main_arg2)
      ∧ m' ((c.tc : Thread Cert.AXkvRefIdeal.nD Cert.AXkvRefIdeal.τ).loc Cert.AXkvRefIdeal.main_arg3) = m ((c.tc : Thread Cert.AXkvIdeal.nD Cert.AXkvIdeal.τ).loc Cert.AXkvIdeal.main_arg3)) →
    ∃ (v0 : (c : Dev Cert.AXkvIdeal.nD) → Buf (Elt Ideal) ((c.tc : Thread Cert.AXkvIdeal.nD Cert.AXkvIdeal.τ).loc Cert.AXkvIdeal.main_v0_0)) (v1 : (c : Dev Cert.AXkvIdeal.nD) → Buf (Elt Ideal) ((c.tc : Thread Cert.AXkvIdeal.nD Cert.AXkvIdeal.τ).loc Cert.AXkvIdeal.main_v0_1)) (v2 : (c : Dev Cert.AXkvIdeal.nD) → Buf (Elt Ideal) ((c.tc : Thread Cert.AXkvIdeal.nD Cert.AXkvIdeal.τ).loc Cert.AXkvIdeal.main_v0_2)) (v3 : (c : Dev Cert.AXkvIdeal.nD) → Buf (Elt Ideal) ((c.tc : Thread Cert.AXkvIdeal.nD Cert.AXkvIdeal.τ).loc Cert.AXkvIdeal.main_v0_3)),
      θ_run (Cert.AXkvIdeal.defs (F := Ideal)) (onTc (τ := Cert.AXkvIdeal.τ) (Cert.AXkvIdeal.main (F := Ideal))) ⟨m, fun _ => 0, g⟩ (fun r => ∀ c : Dev Cert.AXkvIdeal.nD,
          r.2.mem ((c.tc : Thread Cert.AXkvIdeal.nD Cert.AXkvIdeal.τ).loc Cert.AXkvIdeal.main_v0_0) = v0 c
          ∧ r.2.mem ((c.tc : Thread Cert.AXkvIdeal.nD Cert.AXkvIdeal.τ).loc Cert.AXkvIdeal.main_v0_1) = v1 c
          ∧ r.2.mem ((c.tc : Thread Cert.AXkvIdeal.nD Cert.AXkvIdeal.τ).loc Cert.AXkvIdeal.main_v0_2) = v2 c
          ∧ r.2.mem ((c.tc : Thread Cert.AXkvIdeal.nD Cert.AXkvIdeal.τ).loc Cert.AXkvIdeal.main_v0_3) = v3 c
          ∧ r.2.mem ((c.tc : Thread Cert.AXkvIdeal.nD Cert.AXkvIdeal.τ).loc Cert.AXkvIdeal.main_arg0) = m ((c.tc : Thread Cert.AXkvIdeal.nD Cert.AXkvIdeal.τ).loc Cert.AXkvIdeal.main_arg0)
          ∧ r.2.mem ((c.tc : Thread Cert.AXkvIdeal.nD Cert.AXkvIdeal.τ).loc Cert.AXkvIdeal.main_arg1) = m ((c.tc : Thread Cert.AXkvIdeal.nD Cert.AXkvIdeal.τ).loc Cert.AXkvIdeal.main_arg1)
          ∧ r.2.mem ((c.tc : Thread Cert.AXkvIdeal.nD Cert.AXkvIdeal.τ).loc Cert.AXkvIdeal.main_arg2) = m ((c.tc : Thread Cert.AXkvIdeal.nD Cert.AXkvIdeal.τ).loc Cert.AXkvIdeal.main_arg2)
          ∧ r.2.mem ((c.tc : Thread Cert.AXkvIdeal.nD Cert.AXkvIdeal.τ).loc Cert.AXkvIdeal.main_arg3) = m ((c.tc : Thread Cert.AXkvIdeal.nD Cert.AXkvIdeal.τ).loc Cert.AXkvIdeal.main_arg3))
      ∧ θ_run (Cert.AXkvRefIdeal.defs (F := Ideal)) (onTc (τ := Cert.AXkvRefIdeal.τ) (Cert.AXkvRefIdeal.main (F := Ideal))) ⟨m', fun _ => 0, g'⟩ (fun r => ∀ c : Dev Cert.AXkvRefIdeal.nD,
          r.2.mem ((c.tc : Thread Cert.AXkvRefIdeal.nD Cert.AXkvRefIdeal.τ).loc Cert.AXkvRefIdeal.main_v1) = v0 c
          ∧ r.2.mem ((c.tc : Thread Cert.AXkvRefIdeal.nD Cert.AXkvRefIdeal.τ).loc Cert.AXkvRefIdeal.main_v25) = v1 c
          ∧ r.2.mem ((c.tc : Thread Cert.AXkvRefIdeal.nD Cert.AXkvRefIdeal.τ).loc Cert.AXkvRefIdeal.main_v6) = v2 c
          ∧ r.2.mem ((c.tc : Thread Cert.AXkvRefIdeal.nD Cert.AXkvRefIdeal.τ).loc Cert.AXkvRefIdeal.main_v12) = v3 c
          ∧ r.2.mem ((c.tc : Thread Cert.AXkvRefIdeal.nD Cert.AXkvRefIdeal.τ).loc Cert.AXkvRefIdeal.main_arg0) = m' ((c.tc : Thread Cert.AXkvRefIdeal.nD Cert.AXkvRefIdeal.τ).loc Cert.AXkvRefIdeal.main_arg0)
          ∧ r.2.mem ((c.tc : Thread Cert.AXkvRefIdeal.nD Cert.AXkvRefIdeal.τ).loc Cert.AXkvRefIdeal.main_arg1) = m' ((c.tc : Thread Cert.AXkvRefIdeal.nD Cert.AXkvRefIdeal.τ).loc Cert.AXkvRefIdeal.main_arg1)
          ∧ r.2.mem ((c.tc : Thread Cert.AXkvRefIdeal.nD Cert.AXkvRefIdeal.τ).loc Cert.AXkvRefIdeal.main_arg2) = m' ((c.tc : Thread Cert.AXkvRefIdeal.nD Cert.AXkvRefIdeal.τ).loc Cert.AXkvRefIdeal.main_arg2)
          ∧ r.2.mem ((c.tc : Thread Cert.AXkvRefIdeal.nD Cert.AXkvRefIdeal.τ).loc Cert.AXkvRefIdeal.main_arg3) = m' ((c.tc : Thread Cert.AXkvRefIdeal.nD Cert.AXkvRefIdeal.τ).loc Cert.AXkvRefIdeal.main_arg3))

def preserves_AGu_AGuIdeal : Prop :=
  True

def algebraic_AGuIdeal_AGuRefIdeal [hAGuIdeal : Cert.AGuIdeal.Facts] [hAGuRefIdeal : Cert.AGuRefIdeal.Facts] : Prop :=
  ∀ (m : (ℓ : Loc Cert.AGuIdeal.nD Cert.AGuIdeal.τ Cert.AGuIdeal.sig) → Buf (Elt Ideal) ℓ) (g : Dev Cert.AGuIdeal.nD → PrngReg)
    (m' : (ℓ : Loc Cert.AGuRefIdeal.nD Cert.AGuRefIdeal.τ Cert.AGuRefIdeal.sig) → Buf (Elt Ideal) ℓ) (g' : Dev Cert.AGuRefIdeal.nD → PrngReg), Pre_AGuIdeal m →
    (∀ c : Dev Cert.AGuIdeal.nD,
      m' ((c.tc : Thread Cert.AGuRefIdeal.nD Cert.AGuRefIdeal.τ).loc Cert.AGuRefIdeal.main_arg0) = m ((c.tc : Thread Cert.AGuIdeal.nD Cert.AGuIdeal.τ).loc Cert.AGuIdeal.main_arg0)
      ∧ m' ((c.tc : Thread Cert.AGuRefIdeal.nD Cert.AGuRefIdeal.τ).loc Cert.AGuRefIdeal.main_arg1) = m ((c.tc : Thread Cert.AGuIdeal.nD Cert.AGuIdeal.τ).loc Cert.AGuIdeal.main_arg1)
      ∧ m' ((c.tc : Thread Cert.AGuRefIdeal.nD Cert.AGuRefIdeal.τ).loc Cert.AGuRefIdeal.main_arg2) = m ((c.tc : Thread Cert.AGuIdeal.nD Cert.AGuIdeal.τ).loc Cert.AGuIdeal.main_arg2)
      ∧ m' ((c.tc : Thread Cert.AGuRefIdeal.nD Cert.AGuRefIdeal.τ).loc Cert.AGuRefIdeal.main_arg3) = m ((c.tc : Thread Cert.AGuIdeal.nD Cert.AGuIdeal.τ).loc Cert.AGuIdeal.main_arg3)) →
    ∃ (v0 : (c : Dev Cert.AGuIdeal.nD) → Buf (Elt Ideal) ((c.tc : Thread Cert.AGuIdeal.nD Cert.AGuIdeal.τ).loc Cert.AGuIdeal.main_v0_0)) (v1 : (c : Dev Cert.AGuIdeal.nD) → Buf (Elt Ideal) ((c.tc : Thread Cert.AGuIdeal.nD Cert.AGuIdeal.τ).loc Cert.AGuIdeal.main_v0_1)) (v2 : (c : Dev Cert.AGuIdeal.nD) → Buf (Elt Ideal) ((c.tc : Thread Cert.AGuIdeal.nD Cert.AGuIdeal.τ).loc Cert.AGuIdeal.main_v0_2)) (v3 : (c : Dev Cert.AGuIdeal.nD) → Buf (Elt Ideal) ((c.tc : Thread Cert.AGuIdeal.nD Cert.AGuIdeal.τ).loc Cert.AGuIdeal.main_v0_3)),
      θ_run (Cert.AGuIdeal.defs (F := Ideal)) (onTc (τ := Cert.AGuIdeal.τ) (Cert.AGuIdeal.main (F := Ideal))) ⟨m, fun _ => 0, g⟩ (fun r => ∀ c : Dev Cert.AGuIdeal.nD,
          r.2.mem ((c.tc : Thread Cert.AGuIdeal.nD Cert.AGuIdeal.τ).loc Cert.AGuIdeal.main_v0_0) = v0 c
          ∧ r.2.mem ((c.tc : Thread Cert.AGuIdeal.nD Cert.AGuIdeal.τ).loc Cert.AGuIdeal.main_v0_1) = v1 c
          ∧ r.2.mem ((c.tc : Thread Cert.AGuIdeal.nD Cert.AGuIdeal.τ).loc Cert.AGuIdeal.main_v0_2) = v2 c
          ∧ r.2.mem ((c.tc : Thread Cert.AGuIdeal.nD Cert.AGuIdeal.τ).loc Cert.AGuIdeal.main_v0_3) = v3 c
          ∧ r.2.mem ((c.tc : Thread Cert.AGuIdeal.nD Cert.AGuIdeal.τ).loc Cert.AGuIdeal.main_arg0) = m ((c.tc : Thread Cert.AGuIdeal.nD Cert.AGuIdeal.τ).loc Cert.AGuIdeal.main_arg0)
          ∧ r.2.mem ((c.tc : Thread Cert.AGuIdeal.nD Cert.AGuIdeal.τ).loc Cert.AGuIdeal.main_arg1) = m ((c.tc : Thread Cert.AGuIdeal.nD Cert.AGuIdeal.τ).loc Cert.AGuIdeal.main_arg1)
          ∧ r.2.mem ((c.tc : Thread Cert.AGuIdeal.nD Cert.AGuIdeal.τ).loc Cert.AGuIdeal.main_arg2) = m ((c.tc : Thread Cert.AGuIdeal.nD Cert.AGuIdeal.τ).loc Cert.AGuIdeal.main_arg2)
          ∧ r.2.mem ((c.tc : Thread Cert.AGuIdeal.nD Cert.AGuIdeal.τ).loc Cert.AGuIdeal.main_arg3) = m ((c.tc : Thread Cert.AGuIdeal.nD Cert.AGuIdeal.τ).loc Cert.AGuIdeal.main_arg3))
      ∧ θ_run (Cert.AGuRefIdeal.defs (F := Ideal)) (onTc (τ := Cert.AGuRefIdeal.τ) (Cert.AGuRefIdeal.main (F := Ideal))) ⟨m', fun _ => 0, g'⟩ (fun r => ∀ c : Dev Cert.AGuRefIdeal.nD,
          r.2.mem ((c.tc : Thread Cert.AGuRefIdeal.nD Cert.AGuRefIdeal.τ).loc Cert.AGuRefIdeal.main_v1) = v0 c
          ∧ r.2.mem ((c.tc : Thread Cert.AGuRefIdeal.nD Cert.AGuRefIdeal.τ).loc Cert.AGuRefIdeal.main_v25) = v1 c
          ∧ r.2.mem ((c.tc : Thread Cert.AGuRefIdeal.nD Cert.AGuRefIdeal.τ).loc Cert.AGuRefIdeal.main_v6) = v2 c
          ∧ r.2.mem ((c.tc : Thread Cert.AGuRefIdeal.nD Cert.AGuRefIdeal.τ).loc Cert.AGuRefIdeal.main_v12) = v3 c
          ∧ r.2.mem ((c.tc : Thread Cert.AGuRefIdeal.nD Cert.AGuRefIdeal.τ).loc Cert.AGuRefIdeal.main_arg0) = m' ((c.tc : Thread Cert.AGuRefIdeal.nD Cert.AGuRefIdeal.τ).loc Cert.AGuRefIdeal.main_arg0)
          ∧ r.2.mem ((c.tc : Thread Cert.AGuRefIdeal.nD Cert.AGuRefIdeal.τ).loc Cert.AGuRefIdeal.main_arg1) = m' ((c.tc : Thread Cert.AGuRefIdeal.nD Cert.AGuRefIdeal.τ).loc Cert.AGuRefIdeal.main_arg1)
          ∧ r.2.mem ((c.tc : Thread Cert.AGuRefIdeal.nD Cert.AGuRefIdeal.τ).loc Cert.AGuRefIdeal.main_arg2) = m' ((c.tc : Thread Cert.AGuRefIdeal.nD Cert.AGuRefIdeal.τ).loc Cert.AGuRefIdeal.main_arg2)
          ∧ r.2.mem ((c.tc : Thread Cert.AGuRefIdeal.nD Cert.AGuRefIdeal.τ).loc Cert.AGuRefIdeal.main_arg3) = m' ((c.tc : Thread Cert.AGuRefIdeal.nD Cert.AGuRefIdeal.τ).loc Cert.AGuRefIdeal.main_arg3))

def preserves_ADown_ADownIdeal : Prop :=
  True

def algebraic_ADownIdeal_ADownRefIdeal [hADownIdeal : Cert.ADownIdeal.Facts] [hADownRefIdeal : Cert.ADownRefIdeal.Facts] : Prop :=
  ∀ (m : (ℓ : Loc Cert.ADownIdeal.nD Cert.ADownIdeal.τ Cert.ADownIdeal.sig) → Buf (Elt Ideal) ℓ) (g : Dev Cert.ADownIdeal.nD → PrngReg)
    (m' : (ℓ : Loc Cert.ADownRefIdeal.nD Cert.ADownRefIdeal.τ Cert.ADownRefIdeal.sig) → Buf (Elt Ideal) ℓ) (g' : Dev Cert.ADownRefIdeal.nD → PrngReg), Pre_ADownIdeal m →
    (∀ c : Dev Cert.ADownIdeal.nD,
      m' ((c.tc : Thread Cert.ADownRefIdeal.nD Cert.ADownRefIdeal.τ).loc Cert.ADownRefIdeal.main_arg0) = m ((c.tc : Thread Cert.ADownIdeal.nD Cert.ADownIdeal.τ).loc Cert.ADownIdeal.main_arg0)
      ∧ m' ((c.tc : Thread Cert.ADownRefIdeal.nD Cert.ADownRefIdeal.τ).loc Cert.ADownRefIdeal.main_arg1) = m ((c.tc : Thread Cert.ADownIdeal.nD Cert.ADownIdeal.τ).loc Cert.ADownIdeal.main_arg1)
      ∧ m' ((c.tc : Thread Cert.ADownRefIdeal.nD Cert.ADownRefIdeal.τ).loc Cert.ADownRefIdeal.main_arg2) = m ((c.tc : Thread Cert.ADownIdeal.nD Cert.ADownIdeal.τ).loc Cert.ADownIdeal.main_arg2)
      ∧ m' ((c.tc : Thread Cert.ADownRefIdeal.nD Cert.ADownRefIdeal.τ).loc Cert.ADownRefIdeal.main_arg3) = m ((c.tc : Thread Cert.ADownIdeal.nD Cert.ADownIdeal.τ).loc Cert.ADownIdeal.main_arg3)) →
    ∃ (v0 : (c : Dev Cert.ADownIdeal.nD) → Buf (Elt Ideal) ((c.tc : Thread Cert.ADownIdeal.nD Cert.ADownIdeal.τ).loc Cert.ADownIdeal.main_v0_0)) (v1 : (c : Dev Cert.ADownIdeal.nD) → Buf (Elt Ideal) ((c.tc : Thread Cert.ADownIdeal.nD Cert.ADownIdeal.τ).loc Cert.ADownIdeal.main_v0_1)) (v2 : (c : Dev Cert.ADownIdeal.nD) → Buf (Elt Ideal) ((c.tc : Thread Cert.ADownIdeal.nD Cert.ADownIdeal.τ).loc Cert.ADownIdeal.main_v0_2)) (v3 : (c : Dev Cert.ADownIdeal.nD) → Buf (Elt Ideal) ((c.tc : Thread Cert.ADownIdeal.nD Cert.ADownIdeal.τ).loc Cert.ADownIdeal.main_v0_3)),
      θ_run (Cert.ADownIdeal.defs (F := Ideal)) (onTc (τ := Cert.ADownIdeal.τ) (Cert.ADownIdeal.main (F := Ideal))) ⟨m, fun _ => 0, g⟩ (fun r => ∀ c : Dev Cert.ADownIdeal.nD,
          r.2.mem ((c.tc : Thread Cert.ADownIdeal.nD Cert.ADownIdeal.τ).loc Cert.ADownIdeal.main_v0_0) = v0 c
          ∧ r.2.mem ((c.tc : Thread Cert.ADownIdeal.nD Cert.ADownIdeal.τ).loc Cert.ADownIdeal.main_v0_1) = v1 c
          ∧ r.2.mem ((c.tc : Thread Cert.ADownIdeal.nD Cert.ADownIdeal.τ).loc Cert.ADownIdeal.main_v0_2) = v2 c
          ∧ r.2.mem ((c.tc : Thread Cert.ADownIdeal.nD Cert.ADownIdeal.τ).loc Cert.ADownIdeal.main_v0_3) = v3 c
          ∧ r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
          ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
          ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
          ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3))
      ∧ θ_run (Cert.ADownRefIdeal.defs (F := Ideal)) (onTc (τ := Cert.ADownRefIdeal.τ) (Cert.ADownRefIdeal.main (F := Ideal))) ⟨m', fun _ => 0, g'⟩ (fun r => ∀ c : Dev Cert.ADownRefIdeal.nD,
          r.2.mem ((c.tc : Thread Cert.ADownRefIdeal.nD Cert.ADownRefIdeal.τ).loc Cert.ADownRefIdeal.main_v1) = v0 c
          ∧ r.2.mem ((c.tc : Thread Cert.ADownRefIdeal.nD Cert.ADownRefIdeal.τ).loc Cert.ADownRefIdeal.main_v25) = v1 c
          ∧ r.2.mem ((c.tc : Thread Cert.ADownRefIdeal.nD Cert.ADownRefIdeal.τ).loc Cert.ADownRefIdeal.main_v6) = v2 c
          ∧ r.2.mem ((c.tc : Thread Cert.ADownRefIdeal.nD Cert.ADownRefIdeal.τ).loc Cert.ADownRefIdeal.main_v12) = v3 c
          ∧ r.2.mem ((c.tc : Thread Cert.ADownRefIdeal.nD Cert.ADownRefIdeal.τ).loc Cert.ADownRefIdeal.main_arg0) = m' ((c.tc : Thread Cert.ADownRefIdeal.nD Cert.ADownRefIdeal.τ).loc Cert.ADownRefIdeal.main_arg0)
          ∧ r.2.mem ((c.tc : Thread Cert.ADownRefIdeal.nD Cert.ADownRefIdeal.τ).loc Cert.ADownRefIdeal.main_arg1) = m' ((c.tc : Thread Cert.ADownRefIdeal.nD Cert.ADownRefIdeal.τ).loc Cert.ADownRefIdeal.main_arg1)
          ∧ r.2.mem ((c.tc : Thread Cert.ADownRefIdeal.nD Cert.ADownRefIdeal.τ).loc Cert.ADownRefIdeal.main_arg2) = m' ((c.tc : Thread Cert.ADownRefIdeal.nD Cert.ADownRefIdeal.τ).loc Cert.ADownRefIdeal.main_arg2)
          ∧ r.2.mem ((c.tc : Thread Cert.ADownRefIdeal.nD Cert.ADownRefIdeal.τ).loc Cert.ADownRefIdeal.main_arg3) = m' ((c.tc : Thread Cert.ADownRefIdeal.nD Cert.ADownRefIdeal.τ).loc Cert.ADownRefIdeal.main_arg3))

def preserves_AConv_AConvIdeal : Prop :=
  True

def algebraic_AConvIdeal_AConvRefIdeal [hAConvIdeal : Cert.AConvIdeal.Facts] [hAConvRefIdeal : Cert.AConvRefIdeal.Facts] : Prop :=
  ∀ (m : (ℓ : Loc Cert.AConvIdeal.nD Cert.AConvIdeal.τ Cert.AConvIdeal.sig) → Buf (Elt Ideal) ℓ) (g : Dev Cert.AConvIdeal.nD → PrngReg)
    (m' : (ℓ : Loc Cert.AConvRefIdeal.nD Cert.AConvRefIdeal.τ Cert.AConvRefIdeal.sig) → Buf (Elt Ideal) ℓ) (g' : Dev Cert.AConvRefIdeal.nD → PrngReg), Pre_AConvIdeal m →
    (∀ c : Dev Cert.AConvIdeal.nD,
      m' ((c.tc : Thread Cert.AConvRefIdeal.nD Cert.AConvRefIdeal.τ).loc Cert.AConvRefIdeal.main_arg0) = m ((c.tc : Thread Cert.AConvIdeal.nD Cert.AConvIdeal.τ).loc Cert.AConvIdeal.main_arg0)
      ∧ m' ((c.tc : Thread Cert.AConvRefIdeal.nD Cert.AConvRefIdeal.τ).loc Cert.AConvRefIdeal.main_arg1) = m ((c.tc : Thread Cert.AConvIdeal.nD Cert.AConvIdeal.τ).loc Cert.AConvIdeal.main_arg1)
      ∧ m' ((c.tc : Thread Cert.AConvRefIdeal.nD Cert.AConvRefIdeal.τ).loc Cert.AConvRefIdeal.main_arg2) = m ((c.tc : Thread Cert.AConvIdeal.nD Cert.AConvIdeal.τ).loc Cert.AConvIdeal.main_arg2)
      ∧ m' ((c.tc : Thread Cert.AConvRefIdeal.nD Cert.AConvRefIdeal.τ).loc Cert.AConvRefIdeal.main_arg3) = m ((c.tc : Thread Cert.AConvIdeal.nD Cert.AConvIdeal.τ).loc Cert.AConvIdeal.main_arg3)) →
    ∃ (v0 : (c : Dev Cert.AConvIdeal.nD) → Buf (Elt Ideal) ((c.tc : Thread Cert.AConvIdeal.nD Cert.AConvIdeal.τ).loc Cert.AConvIdeal.main_v0_0)) (v1 : (c : Dev Cert.AConvIdeal.nD) → Buf (Elt Ideal) ((c.tc : Thread Cert.AConvIdeal.nD Cert.AConvIdeal.τ).loc Cert.AConvIdeal.main_v0_1)) (v2 : (c : Dev Cert.AConvIdeal.nD) → Buf (Elt Ideal) ((c.tc : Thread Cert.AConvIdeal.nD Cert.AConvIdeal.τ).loc Cert.AConvIdeal.main_v0_2)) (v3 : (c : Dev Cert.AConvIdeal.nD) → Buf (Elt Ideal) ((c.tc : Thread Cert.AConvIdeal.nD Cert.AConvIdeal.τ).loc Cert.AConvIdeal.main_v0_3)),
      θ_run (Cert.AConvIdeal.defs (F := Ideal)) (onTc (τ := Cert.AConvIdeal.τ) (Cert.AConvIdeal.main (F := Ideal))) ⟨m, fun _ => 0, g⟩ (fun r => ∀ c : Dev Cert.AConvIdeal.nD,
          r.2.mem ((c.tc : Thread Cert.AConvIdeal.nD Cert.AConvIdeal.τ).loc Cert.AConvIdeal.main_v0_0) = v0 c
          ∧ r.2.mem ((c.tc : Thread Cert.AConvIdeal.nD Cert.AConvIdeal.τ).loc Cert.AConvIdeal.main_v0_1) = v1 c
          ∧ r.2.mem ((c.tc : Thread Cert.AConvIdeal.nD Cert.AConvIdeal.τ).loc Cert.AConvIdeal.main_v0_2) = v2 c
          ∧ r.2.mem ((c.tc : Thread Cert.AConvIdeal.nD Cert.AConvIdeal.τ).loc Cert.AConvIdeal.main_v0_3) = v3 c
          ∧ r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
          ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1)
          ∧ r.2.mem ((c.tc : Thread Cert.AConvIdeal.nD Cert.AConvIdeal.τ).loc Cert.AConvIdeal.main_arg2) = m ((c.tc : Thread Cert.AConvIdeal.nD Cert.AConvIdeal.τ).loc Cert.AConvIdeal.main_arg2)
          ∧ r.2.mem ((c.tc : Thread Cert.AConvIdeal.nD Cert.AConvIdeal.τ).loc Cert.AConvIdeal.main_arg3) = m ((c.tc : Thread Cert.AConvIdeal.nD Cert.AConvIdeal.τ).loc Cert.AConvIdeal.main_arg3))
      ∧ θ_run (Cert.AConvRefIdeal.defs (F := Ideal)) (onTc (τ := Cert.AConvRefIdeal.τ) (Cert.AConvRefIdeal.main (F := Ideal))) ⟨m', fun _ => 0, g'⟩ (fun r => ∀ c : Dev Cert.AConvRefIdeal.nD,
          r.2.mem ((c.tc : Thread Cert.AConvRefIdeal.nD Cert.AConvRefIdeal.τ).loc Cert.AConvRefIdeal.main_v0) = v0 c
          ∧ r.2.mem ((c.tc : Thread Cert.AConvRefIdeal.nD Cert.AConvRefIdeal.τ).loc Cert.AConvRefIdeal.main_v24) = v1 c
          ∧ r.2.mem ((c.tc : Thread Cert.AConvRefIdeal.nD Cert.AConvRefIdeal.τ).loc Cert.AConvRefIdeal.main_v5) = v2 c
          ∧ r.2.mem ((c.tc : Thread Cert.AConvRefIdeal.nD Cert.AConvRefIdeal.τ).loc Cert.AConvRefIdeal.main_v11) = v3 c
          ∧ r.2.mem ((c.tc : Thread Cert.AConvRefIdeal.nD Cert.AConvRefIdeal.τ).loc Cert.AConvRefIdeal.main_arg0) = m' ((c.tc : Thread Cert.AConvRefIdeal.nD Cert.AConvRefIdeal.τ).loc Cert.AConvRefIdeal.main_arg0)
          ∧ r.2.mem ((c.tc : Thread Cert.AConvRefIdeal.nD Cert.AConvRefIdeal.τ).loc Cert.AConvRefIdeal.main_arg1) = m' ((c.tc : Thread Cert.AConvRefIdeal.nD Cert.AConvRefIdeal.τ).loc Cert.AConvRefIdeal.main_arg1)
          ∧ r.2.mem ((c.tc : Thread Cert.AConvRefIdeal.nD Cert.AConvRefIdeal.τ).loc Cert.AConvRefIdeal.main_arg2) = m' ((c.tc : Thread Cert.AConvRefIdeal.nD Cert.AConvRefIdeal.τ).loc Cert.AConvRefIdeal.main_arg2)
          ∧ r.2.mem ((c.tc : Thread Cert.AConvRefIdeal.nD Cert.AConvRefIdeal.τ).loc Cert.AConvRefIdeal.main_arg3) = m' ((c.tc : Thread Cert.AConvRefIdeal.nD Cert.AConvRefIdeal.τ).loc Cert.AConvRefIdeal.main_arg3))

def preserves_ASmall_ASmallIdeal : Prop :=
  True

def algebraic_ASmallIdeal_ASmallRefIdeal [hASmallIdeal : Cert.ASmallIdeal.Facts] [hASmallRefIdeal : Cert.ASmallRefIdeal.Facts] : Prop :=
  ∀ (m : (ℓ : Loc Cert.ASmallIdeal.nD Cert.ASmallIdeal.τ Cert.ASmallIdeal.sig) → Buf (Elt Ideal) ℓ) (g : Dev Cert.ASmallIdeal.nD → PrngReg)
    (m' : (ℓ : Loc Cert.ASmallRefIdeal.nD Cert.ASmallRefIdeal.τ Cert.ASmallRefIdeal.sig) → Buf (Elt Ideal) ℓ) (g' : Dev Cert.ASmallRefIdeal.nD → PrngReg), Pre_ASmallIdeal m →
    (∀ c : Dev Cert.ASmallIdeal.nD,
      m' ((c.tc : Thread Cert.ASmallRefIdeal.nD Cert.ASmallRefIdeal.τ).loc Cert.ASmallRefIdeal.main_arg0) = m ((c.tc : Thread Cert.ASmallIdeal.nD Cert.ASmallIdeal.τ).loc Cert.ASmallIdeal.main_arg0)
      ∧ m' ((c.tc : Thread Cert.ASmallRefIdeal.nD Cert.ASmallRefIdeal.τ).loc Cert.ASmallRefIdeal.main_arg1) = m ((c.tc : Thread Cert.ASmallIdeal.nD Cert.ASmallIdeal.τ).loc Cert.ASmallIdeal.main_arg1)
      ∧ m' ((c.tc : Thread Cert.ASmallRefIdeal.nD Cert.ASmallRefIdeal.τ).loc Cert.ASmallRefIdeal.main_arg2) = m ((c.tc : Thread Cert.ASmallIdeal.nD Cert.ASmallIdeal.τ).loc Cert.ASmallIdeal.main_arg2)
      ∧ m' ((c.tc : Thread Cert.ASmallRefIdeal.nD Cert.ASmallRefIdeal.τ).loc Cert.ASmallRefIdeal.main_arg3) = m ((c.tc : Thread Cert.ASmallIdeal.nD Cert.ASmallIdeal.τ).loc Cert.ASmallIdeal.main_arg3)) →
    ∃ (v0 : (c : Dev Cert.ASmallIdeal.nD) → Buf (Elt Ideal) ((c.tc : Thread Cert.ASmallIdeal.nD Cert.ASmallIdeal.τ).loc Cert.ASmallIdeal.main_v0_0)) (v1 : (c : Dev Cert.ASmallIdeal.nD) → Buf (Elt Ideal) ((c.tc : Thread Cert.ASmallIdeal.nD Cert.ASmallIdeal.τ).loc Cert.ASmallIdeal.main_v0_1)) (v2 : (c : Dev Cert.ASmallIdeal.nD) → Buf (Elt Ideal) ((c.tc : Thread Cert.ASmallIdeal.nD Cert.ASmallIdeal.τ).loc Cert.ASmallIdeal.main_v0_2)) (v3 : (c : Dev Cert.ASmallIdeal.nD) → Buf (Elt Ideal) ((c.tc : Thread Cert.ASmallIdeal.nD Cert.ASmallIdeal.τ).loc Cert.ASmallIdeal.main_v0_3)),
      θ_run (Cert.ASmallIdeal.defs (F := Ideal)) (onTc (τ := Cert.ASmallIdeal.τ) (Cert.ASmallIdeal.main (F := Ideal))) ⟨m, fun _ => 0, g⟩ (fun r => ∀ c : Dev Cert.ASmallIdeal.nD,
          r.2.mem ((c.tc : Thread Cert.ASmallIdeal.nD Cert.ASmallIdeal.τ).loc Cert.ASmallIdeal.main_v0_0) = v0 c
          ∧ r.2.mem ((c.tc : Thread Cert.ASmallIdeal.nD Cert.ASmallIdeal.τ).loc Cert.ASmallIdeal.main_v0_1) = v1 c
          ∧ r.2.mem ((c.tc : Thread Cert.ASmallIdeal.nD Cert.ASmallIdeal.τ).loc Cert.ASmallIdeal.main_v0_2) = v2 c
          ∧ r.2.mem ((c.tc : Thread Cert.ASmallIdeal.nD Cert.ASmallIdeal.τ).loc Cert.ASmallIdeal.main_v0_3) = v3 c
          ∧ r.2.mem ((c.tc : Thread Cert.ASmallIdeal.nD Cert.ASmallIdeal.τ).loc Cert.ASmallIdeal.main_arg0) = m ((c.tc : Thread Cert.ASmallIdeal.nD Cert.ASmallIdeal.τ).loc Cert.ASmallIdeal.main_arg0)
          ∧ r.2.mem ((c.tc : Thread Cert.ASmallIdeal.nD Cert.ASmallIdeal.τ).loc Cert.ASmallIdeal.main_arg1) = m ((c.tc : Thread Cert.ASmallIdeal.nD Cert.ASmallIdeal.τ).loc Cert.ASmallIdeal.main_arg1)
          ∧ r.2.mem ((c.tc : Thread Cert.ASmallIdeal.nD Cert.ASmallIdeal.τ).loc Cert.ASmallIdeal.main_arg2) = m ((c.tc : Thread Cert.ASmallIdeal.nD Cert.ASmallIdeal.τ).loc Cert.ASmallIdeal.main_arg2)
          ∧ r.2.mem ((c.tc : Thread Cert.ASmallIdeal.nD Cert.ASmallIdeal.τ).loc Cert.ASmallIdeal.main_arg3) = m ((c.tc : Thread Cert.ASmallIdeal.nD Cert.ASmallIdeal.τ).loc Cert.ASmallIdeal.main_arg3))
      ∧ θ_run (Cert.ASmallRefIdeal.defs (F := Ideal)) (onTc (τ := Cert.ASmallRefIdeal.τ) (Cert.ASmallRefIdeal.main (F := Ideal))) ⟨m', fun _ => 0, g'⟩ (fun r => ∀ c : Dev Cert.ASmallRefIdeal.nD,
          r.2.mem ((c.tc : Thread Cert.ASmallRefIdeal.nD Cert.ASmallRefIdeal.τ).loc Cert.ASmallRefIdeal.main_v0) = v0 c
          ∧ r.2.mem ((c.tc : Thread Cert.ASmallRefIdeal.nD Cert.ASmallRefIdeal.τ).loc Cert.ASmallRefIdeal.main_v24) = v1 c
          ∧ r.2.mem ((c.tc : Thread Cert.ASmallRefIdeal.nD Cert.ASmallRefIdeal.τ).loc Cert.ASmallRefIdeal.main_v5) = v2 c
          ∧ r.2.mem ((c.tc : Thread Cert.ASmallRefIdeal.nD Cert.ASmallRefIdeal.τ).loc Cert.ASmallRefIdeal.main_v11) = v3 c
          ∧ r.2.mem ((c.tc : Thread Cert.ASmallRefIdeal.nD Cert.ASmallRefIdeal.τ).loc Cert.ASmallRefIdeal.main_arg0) = m' ((c.tc : Thread Cert.ASmallRefIdeal.nD Cert.ASmallRefIdeal.τ).loc Cert.ASmallRefIdeal.main_arg0)
          ∧ r.2.mem ((c.tc : Thread Cert.ASmallRefIdeal.nD Cert.ASmallRefIdeal.τ).loc Cert.ASmallRefIdeal.main_arg1) = m' ((c.tc : Thread Cert.ASmallRefIdeal.nD Cert.ASmallRefIdeal.τ).loc Cert.ASmallRefIdeal.main_arg1)
          ∧ r.2.mem ((c.tc : Thread Cert.ASmallRefIdeal.nD Cert.ASmallRefIdeal.τ).loc Cert.ASmallRefIdeal.main_arg2) = m' ((c.tc : Thread Cert.ASmallRefIdeal.nD Cert.ASmallRefIdeal.τ).loc Cert.ASmallRefIdeal.main_arg2)
          ∧ r.2.mem ((c.tc : Thread Cert.ASmallRefIdeal.nD Cert.ASmallRefIdeal.τ).loc Cert.ASmallRefIdeal.main_arg3) = m' ((c.tc : Thread Cert.ASmallRefIdeal.nD Cert.ASmallRefIdeal.τ).loc Cert.ASmallRefIdeal.main_arg3))

def preserves_EPre_EPreIdeal : Prop :=
  True

def algebraic_EPreIdeal_EPreRefIdeal [hEPreIdeal : Cert.EPreIdeal.Facts] [hEPreRefIdeal : Cert.EPreRefIdeal.Facts] : Prop :=
  ∀ (m : (ℓ : Loc Cert.EPreIdeal.nD Cert.EPreIdeal.τ Cert.EPreIdeal.sig) → Buf (Elt Ideal) ℓ) (g : Dev Cert.EPreIdeal.nD → PrngReg)
    (m' : (ℓ : Loc Cert.EPreRefIdeal.nD Cert.EPreRefIdeal.τ Cert.EPreRefIdeal.sig) → Buf (Elt Ideal) ℓ) (g' : Dev Cert.EPreRefIdeal.nD → PrngReg), Pre_EPreIdeal m →
    (∀ c : Dev Cert.EPreIdeal.nD,
      m' ((c.tc : Thread Cert.EPreRefIdeal.nD Cert.EPreRefIdeal.τ).loc Cert.EPreRefIdeal.main_arg0) = m ((c.tc : Thread Cert.EPreIdeal.nD Cert.EPreIdeal.τ).loc Cert.EPreIdeal.main_arg0)
      ∧ m' ((c.tc : Thread Cert.EPreRefIdeal.nD Cert.EPreRefIdeal.τ).loc Cert.EPreRefIdeal.main_arg1) = m ((c.tc : Thread Cert.EPreIdeal.nD Cert.EPreIdeal.τ).loc Cert.EPreIdeal.main_arg1)
      ∧ m' ((c.tc : Thread Cert.EPreRefIdeal.nD Cert.EPreRefIdeal.τ).loc Cert.EPreRefIdeal.main_arg2) = m ((c.tc : Thread Cert.EPreIdeal.nD Cert.EPreIdeal.τ).loc Cert.EPreIdeal.main_arg2)
      ∧ m' ((c.tc : Thread Cert.EPreRefIdeal.nD Cert.EPreRefIdeal.τ).loc Cert.EPreRefIdeal.main_arg3) = m ((c.tc : Thread Cert.EPreIdeal.nD Cert.EPreIdeal.τ).loc Cert.EPreIdeal.main_arg3)) →
    ∃ (v0 : (c : Dev Cert.EPreIdeal.nD) → Buf (Elt Ideal) ((c.tc : Thread Cert.EPreIdeal.nD Cert.EPreIdeal.τ).loc Cert.EPreIdeal.main_v0_0)) (v1 : (c : Dev Cert.EPreIdeal.nD) → Buf (Elt Ideal) ((c.tc : Thread Cert.EPreIdeal.nD Cert.EPreIdeal.τ).loc Cert.EPreIdeal.main_v0_1)),
      θ_run (Cert.EPreIdeal.defs (F := Ideal)) (onTc (τ := Cert.EPreIdeal.τ) (Cert.EPreIdeal.main (F := Ideal))) ⟨m, fun _ => 0, g⟩ (fun r => ∀ c : Dev Cert.EPreIdeal.nD,
          r.2.mem ((c.tc : Thread Cert.EPreIdeal.nD Cert.EPreIdeal.τ).loc Cert.EPreIdeal.main_v0_0) = v0 c
          ∧ r.2.mem ((c.tc : Thread Cert.EPreIdeal.nD Cert.EPreIdeal.τ).loc Cert.EPreIdeal.main_v0_1) = v1 c
          ∧ r.2.mem ((c.tc : Thread Cert.EPreIdeal.nD Cert.EPreIdeal.τ).loc Cert.EPreIdeal.main_arg0) = m ((c.tc : Thread Cert.EPreIdeal.nD Cert.EPreIdeal.τ).loc Cert.EPreIdeal.main_arg0)
          ∧ r.2.mem ((c.tc : Thread Cert.EPreIdeal.nD Cert.EPreIdeal.τ).loc Cert.EPreIdeal.main_arg1) = m ((c.tc : Thread Cert.EPreIdeal.nD Cert.EPreIdeal.τ).loc Cert.EPreIdeal.main_arg1)
          ∧ r.2.mem ((c.tc : Thread Cert.EPreIdeal.nD Cert.EPreIdeal.τ).loc Cert.EPreIdeal.main_arg2) = m ((c.tc : Thread Cert.EPreIdeal.nD Cert.EPreIdeal.τ).loc Cert.EPreIdeal.main_arg2)
          ∧ r.2.mem ((c.tc : Thread Cert.EPreIdeal.nD Cert.EPreIdeal.τ).loc Cert.EPreIdeal.main_arg3) = m ((c.tc : Thread Cert.EPreIdeal.nD Cert.EPreIdeal.τ).loc Cert.EPreIdeal.main_arg3))
      ∧ θ_run (Cert.EPreRefIdeal.defs (F := Ideal)) (onTc (τ := Cert.EPreRefIdeal.τ) (Cert.EPreRefIdeal.main (F := Ideal))) ⟨m', fun _ => 0, g'⟩ (fun r => ∀ c : Dev Cert.EPreRefIdeal.nD,
          r.2.mem ((c.tc : Thread Cert.EPreRefIdeal.nD Cert.EPreRefIdeal.τ).loc Cert.EPreRefIdeal.main_v36) = v0 c
          ∧ r.2.mem ((c.tc : Thread Cert.EPreRefIdeal.nD Cert.EPreRefIdeal.τ).loc Cert.EPreRefIdeal.main_v19) = v1 c
          ∧ r.2.mem ((c.tc : Thread Cert.EPreRefIdeal.nD Cert.EPreRefIdeal.τ).loc Cert.EPreRefIdeal.main_arg0) = m' ((c.tc : Thread Cert.EPreRefIdeal.nD Cert.EPreRefIdeal.τ).loc Cert.EPreRefIdeal.main_arg0)
          ∧ r.2.mem ((c.tc : Thread Cert.EPreRefIdeal.nD Cert.EPreRefIdeal.τ).loc Cert.EPreRefIdeal.main_arg1) = m' ((c.tc : Thread Cert.EPreRefIdeal.nD Cert.EPreRefIdeal.τ).loc Cert.EPreRefIdeal.main_arg1)
          ∧ r.2.mem ((c.tc : Thread Cert.EPreRefIdeal.nD Cert.EPreRefIdeal.τ).loc Cert.EPreRefIdeal.main_arg2) = m' ((c.tc : Thread Cert.EPreRefIdeal.nD Cert.EPreRefIdeal.τ).loc Cert.EPreRefIdeal.main_arg2)
          ∧ r.2.mem ((c.tc : Thread Cert.EPreRefIdeal.nD Cert.EPreRefIdeal.τ).loc Cert.EPreRefIdeal.main_arg3) = m' ((c.tc : Thread Cert.EPreRefIdeal.nD Cert.EPreRefIdeal.τ).loc Cert.EPreRefIdeal.main_arg3))

def Claim : Prop :=
  ∃ (hKernel : Cert.Kernel.Facts) (hKernelIdeal : Cert.KernelIdeal.Facts) (hReferenceIdeal : Cert.ReferenceIdeal.Facts) (hDH1 : Cert.DH1.Facts) (hDH1Ideal : Cert.DH1Ideal.Facts) (hDH1RefIdeal : Cert.DH1RefIdeal.Facts) (hDWIn : Cert.DWIn.Facts) (hDWInIdeal : Cert.DWInIdeal.Facts) (hDWInRefIdeal : Cert.DWInRefIdeal.Facts) (hDAct : Cert.DAct.Facts) (hDActIdeal : Cert.DActIdeal.Facts) (hDActRefIdeal : Cert.DActRefIdeal.Facts) (hDWDown : Cert.DWDown.Facts) (hDWDownIdeal : Cert.DWDownIdeal.Facts) (hDWDownRefIdeal : Cert.DWDownRefIdeal.Facts) (hDH3 : Cert.DH3.Facts) (hDH3Ideal : Cert.DH3Ideal.Facts) (hDH3RefIdeal : Cert.DH3RefIdeal.Facts) (hDWGu : Cert.DWGu.Facts) (hDWGuIdeal : Cert.DWGuIdeal.Facts) (hDWGuRefIdeal : Cert.DWGuRefIdeal.Facts) (hDOxa : Cert.DOxa.Facts) (hDOxaIdeal : Cert.DOxaIdeal.Facts) (hDOxaRefIdeal : Cert.DOxaRefIdeal.Facts) (hDH2 : Cert.DH2.Facts) (hDH2Ideal : Cert.DH2Ideal.Facts) (hDH2RefIdeal : Cert.DH2RefIdeal.Facts) (hDWXo : Cert.DWXo.Facts) (hDWXoIdeal : Cert.DWXoIdeal.Facts) (hDWXoRefIdeal : Cert.DWXoRefIdeal.Facts) (hDMem : Cert.DMem.Facts) (hDMemIdeal : Cert.DMemIdeal.Facts) (hDMemRefIdeal : Cert.DMemRefIdeal.Facts) (hDWXkv : Cert.DWXkv.Facts) (hDWXkvIdeal : Cert.DWXkvIdeal.Facts) (hDWXkvRefIdeal : Cert.DWXkvRefIdeal.Facts) (hDWAtt : Cert.DWAtt.Facts) (hDWAttIdeal : Cert.DWAttIdeal.Facts) (hDWAttRefIdeal : Cert.DWAttRefIdeal.Facts) (hDOssm : Cert.DOssm.Facts) (hDOssmIdeal : Cert.DOssmIdeal.Facts) (hDOssmRefIdeal : Cert.DOssmRefIdeal.Facts) (hDWSsm : Cert.DWSsm.Facts) (hDWSsmIdeal : Cert.DWSsmIdeal.Facts) (hDWSsmRefIdeal : Cert.DWSsmRefIdeal.Facts) (hMProj : Cert.MProj.Facts) (hMProjIdeal : Cert.MProjIdeal.Facts) (hMProjRefIdeal : Cert.MProjRefIdeal.Facts) (hMAtt : Cert.MAtt.Facts) (hMAttIdeal : Cert.MAttIdeal.Facts) (hMAttRefIdeal : Cert.MAttRefIdeal.Facts) (hMSsm : Cert.MSsm.Facts) (hMSsmIdeal : Cert.MSsmIdeal.Facts) (hMSsmRefIdeal : Cert.MSsmRefIdeal.Facts) (hMMix : Cert.MMix.Facts) (hMMixIdeal : Cert.MMixIdeal.Facts) (hMMixRefIdeal : Cert.MMixRefIdeal.Facts) (hMKv : Cert.MKv.Facts) (hMKvIdeal : Cert.MKvIdeal.Facts) (hMKvRefIdeal : Cert.MKvRefIdeal.Facts) (hMGu : Cert.MGu.Facts) (hMGuIdeal : Cert.MGuIdeal.Facts) (hMGuRefIdeal : Cert.MGuRefIdeal.Facts) (hMDown : Cert.MDown.Facts) (hMDownIdeal : Cert.MDownIdeal.Facts) (hMDownRefIdeal : Cert.MDownRefIdeal.Facts) (hESwiglu : Cert.ESwiglu.Facts) (hESwigluIdeal : Cert.ESwigluIdeal.Facts) (hESwigluRefIdeal : Cert.ESwigluRefIdeal.Facts) (hEMerge : Cert.EMerge.Facts) (hEMergeIdeal : Cert.EMergeIdeal.Facts) (hEMergeRefIdeal : Cert.EMergeRefIdeal.Facts) (hFSwiglu : Cert.FSwiglu.Facts) (hFSwigluIdeal : Cert.FSwigluIdeal.Facts) (hFSwigluRefIdeal : Cert.FSwigluRefIdeal.Facts) (hFMerge : Cert.FMerge.Facts) (hFMergeIdeal : Cert.FMergeIdeal.Facts) (hFMergeRefIdeal : Cert.FMergeRefIdeal.Facts) (hAWIn : Cert.AWIn.Facts) (hAWInIdeal : Cert.AWInIdeal.Facts) (hAWInRefIdeal : Cert.AWInRefIdeal.Facts) (hABrAtt : Cert.ABrAtt.Facts) (hABrAttIdeal : Cert.ABrAttIdeal.Facts) (hABrAttRefIdeal : Cert.ABrAttRefIdeal.Facts) (hABrSsm : Cert.ABrSsm.Facts) (hABrSsmIdeal : Cert.ABrSsmIdeal.Facts) (hABrSsmRefIdeal : Cert.ABrSsmRefIdeal.Facts) (hAXkv : Cert.AXkv.Facts) (hAXkvIdeal : Cert.AXkvIdeal.Facts) (hAXkvRefIdeal : Cert.AXkvRefIdeal.Facts) (hAGu : Cert.AGu.Facts) (hAGuIdeal : Cert.AGuIdeal.Facts) (hAGuRefIdeal : Cert.AGuRefIdeal.Facts) (hADown : Cert.ADown.Facts) (hADownIdeal : Cert.ADownIdeal.Facts) (hADownRefIdeal : Cert.ADownRefIdeal.Facts) (hAConv : Cert.AConv.Facts) (hAConvIdeal : Cert.AConvIdeal.Facts) (hAConvRefIdeal : Cert.AConvRefIdeal.Facts) (hASmall : Cert.ASmall.Facts) (hASmallIdeal : Cert.ASmallIdeal.Facts) (hASmallRefIdeal : Cert.ASmallRefIdeal.Facts) (hEPre : Cert.EPre.Facts) (hEPreIdeal : Cert.EPreIdeal.Facts) (hEPreRefIdeal : Cert.EPreRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DH1 (hDH1 := hDH1)
    ∧ quiescent_DH1Ideal (hDH1Ideal := hDH1Ideal)
    ∧ quiescent_DH1RefIdeal (hDH1RefIdeal := hDH1RefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DAct (hDAct := hDAct)
    ∧ quiescent_DActIdeal (hDActIdeal := hDActIdeal)
    ∧ quiescent_DActRefIdeal (hDActRefIdeal := hDActRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DH3 (hDH3 := hDH3)
    ∧ quiescent_DH3Ideal (hDH3Ideal := hDH3Ideal)
    ∧ quiescent_DH3RefIdeal (hDH3RefIdeal := hDH3RefIdeal)
    ∧ quiescent_DWGu (hDWGu := hDWGu)
    ∧ quiescent_DWGuIdeal (hDWGuIdeal := hDWGuIdeal)
    ∧ quiescent_DWGuRefIdeal (hDWGuRefIdeal := hDWGuRefIdeal)
    ∧ quiescent_DOxa (hDOxa := hDOxa)
    ∧ quiescent_DOxaIdeal (hDOxaIdeal := hDOxaIdeal)
    ∧ quiescent_DOxaRefIdeal (hDOxaRefIdeal := hDOxaRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DWXo (hDWXo := hDWXo)
    ∧ quiescent_DWXoIdeal (hDWXoIdeal := hDWXoIdeal)
    ∧ quiescent_DWXoRefIdeal (hDWXoRefIdeal := hDWXoRefIdeal)
    ∧ quiescent_DMem (hDMem := hDMem)
    ∧ quiescent_DMemIdeal (hDMemIdeal := hDMemIdeal)
    ∧ quiescent_DMemRefIdeal (hDMemRefIdeal := hDMemRefIdeal)
    ∧ quiescent_DWXkv (hDWXkv := hDWXkv)
    ∧ quiescent_DWXkvIdeal (hDWXkvIdeal := hDWXkvIdeal)
    ∧ quiescent_DWXkvRefIdeal (hDWXkvRefIdeal := hDWXkvRefIdeal)
    ∧ quiescent_DWAtt (hDWAtt := hDWAtt)
    ∧ quiescent_DWAttIdeal (hDWAttIdeal := hDWAttIdeal)
    ∧ quiescent_DWAttRefIdeal (hDWAttRefIdeal := hDWAttRefIdeal)
    ∧ quiescent_DOssm (hDOssm := hDOssm)
    ∧ quiescent_DOssmIdeal (hDOssmIdeal := hDOssmIdeal)
    ∧ quiescent_DOssmRefIdeal (hDOssmRefIdeal := hDOssmRefIdeal)
    ∧ quiescent_DWSsm (hDWSsm := hDWSsm)
    ∧ quiescent_DWSsmIdeal (hDWSsmIdeal := hDWSsmIdeal)
    ∧ quiescent_DWSsmRefIdeal (hDWSsmRefIdeal := hDWSsmRefIdeal)
    ∧ quiescent_MProj (hMProj := hMProj)
    ∧ quiescent_MProjIdeal (hMProjIdeal := hMProjIdeal)
    ∧ quiescent_MProjRefIdeal (hMProjRefIdeal := hMProjRefIdeal)
    ∧ quiescent_MAtt (hMAtt := hMAtt)
    ∧ quiescent_MAttIdeal (hMAttIdeal := hMAttIdeal)
    ∧ quiescent_MAttRefIdeal (hMAttRefIdeal := hMAttRefIdeal)
    ∧ quiescent_MSsm (hMSsm := hMSsm)
    ∧ quiescent_MSsmIdeal (hMSsmIdeal := hMSsmIdeal)
    ∧ quiescent_MSsmRefIdeal (hMSsmRefIdeal := hMSsmRefIdeal)
    ∧ quiescent_MMix (hMMix := hMMix)
    ∧ quiescent_MMixIdeal (hMMixIdeal := hMMixIdeal)
    ∧ quiescent_MMixRefIdeal (hMMixRefIdeal := hMMixRefIdeal)
    ∧ quiescent_MKv (hMKv := hMKv)
    ∧ quiescent_MKvIdeal (hMKvIdeal := hMKvIdeal)
    ∧ quiescent_MKvRefIdeal (hMKvRefIdeal := hMKvRefIdeal)
    ∧ quiescent_MGu (hMGu := hMGu)
    ∧ quiescent_MGuIdeal (hMGuIdeal := hMGuIdeal)
    ∧ quiescent_MGuRefIdeal (hMGuRefIdeal := hMGuRefIdeal)
    ∧ quiescent_MDown (hMDown := hMDown)
    ∧ quiescent_MDownIdeal (hMDownIdeal := hMDownIdeal)
    ∧ quiescent_MDownRefIdeal (hMDownRefIdeal := hMDownRefIdeal)
    ∧ quiescent_ESwiglu (hESwiglu := hESwiglu)
    ∧ quiescent_ESwigluIdeal (hESwigluIdeal := hESwigluIdeal)
    ∧ quiescent_ESwigluIdeal_pre_finite_gate (hESwigluIdeal := hESwigluIdeal) (hPre_finite_gate := hPre_finite_gate)
    ∧ quiescent_ESwigluRefIdeal (hESwigluRefIdeal := hESwigluRefIdeal)
    ∧ quiescent_ESwigluRefIdeal_pre_finite_gate (hESwigluRefIdeal := hESwigluRefIdeal) (hPre_finite_gate := hPre_finite_gate)
    ∧ quiescent_EMerge (hEMerge := hEMerge)
    ∧ quiescent_EMergeIdeal (hEMergeIdeal := hEMergeIdeal)
    ∧ quiescent_EMergeRefIdeal (hEMergeRefIdeal := hEMergeRefIdeal)
    ∧ quiescent_FSwiglu (hFSwiglu := hFSwiglu)
    ∧ quiescent_FSwigluIdeal (hFSwigluIdeal := hFSwigluIdeal)
    ∧ quiescent_FSwigluRefIdeal (hFSwigluRefIdeal := hFSwigluRefIdeal)
    ∧ quiescent_FMerge (hFMerge := hFMerge)
    ∧ quiescent_FMergeIdeal (hFMergeIdeal := hFMergeIdeal)
    ∧ quiescent_FMergeRefIdeal (hFMergeRefIdeal := hFMergeRefIdeal)
    ∧ quiescent_AWIn (hAWIn := hAWIn)
    ∧ quiescent_AWInIdeal (hAWInIdeal := hAWInIdeal)
    ∧ quiescent_AWInRefIdeal (hAWInRefIdeal := hAWInRefIdeal)
    ∧ quiescent_ABrAtt (hABrAtt := hABrAtt)
    ∧ quiescent_ABrAttIdeal (hABrAttIdeal := hABrAttIdeal)
    ∧ quiescent_ABrAttRefIdeal (hABrAttRefIdeal := hABrAttRefIdeal)
    ∧ quiescent_ABrSsm (hABrSsm := hABrSsm)
    ∧ quiescent_ABrSsmIdeal (hABrSsmIdeal := hABrSsmIdeal)
    ∧ quiescent_ABrSsmRefIdeal (hABrSsmRefIdeal := hABrSsmRefIdeal)
    ∧ quiescent_AXkv (hAXkv := hAXkv)
    ∧ quiescent_AXkvIdeal (hAXkvIdeal := hAXkvIdeal)
    ∧ quiescent_AXkvRefIdeal (hAXkvRefIdeal := hAXkvRefIdeal)
    ∧ quiescent_AGu (hAGu := hAGu)
    ∧ quiescent_AGuIdeal (hAGuIdeal := hAGuIdeal)
    ∧ quiescent_AGuRefIdeal (hAGuRefIdeal := hAGuRefIdeal)
    ∧ quiescent_ADown (hADown := hADown)
    ∧ quiescent_ADownIdeal (hADownIdeal := hADownIdeal)
    ∧ quiescent_ADownRefIdeal (hADownRefIdeal := hADownRefIdeal)
    ∧ quiescent_AConv (hAConv := hAConv)
    ∧ quiescent_AConvIdeal (hAConvIdeal := hAConvIdeal)
    ∧ quiescent_AConvRefIdeal (hAConvRefIdeal := hAConvRefIdeal)
    ∧ quiescent_ASmall (hASmall := hASmall)
    ∧ quiescent_ASmallIdeal (hASmallIdeal := hASmallIdeal)
    ∧ quiescent_ASmallRefIdeal (hASmallRefIdeal := hASmallRefIdeal)
    ∧ quiescent_EPre (hEPre := hEPre)
    ∧ quiescent_EPreIdeal (hEPreIdeal := hEPreIdeal)
    ∧ quiescent_EPreRefIdeal (hEPreRefIdeal := hEPreRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DH1_DH1Ideal
    ∧ algebraic_DH1Ideal_DH1RefIdeal (hDH1Ideal := hDH1Ideal) (hDH1RefIdeal := hDH1RefIdeal)
    ∧ preserves_DWIn_DWInIdeal
    ∧ algebraic_DWInIdeal_DWInRefIdeal (hDWInIdeal := hDWInIdeal) (hDWInRefIdeal := hDWInRefIdeal)
    ∧ preserves_DAct_DActIdeal
    ∧ algebraic_DActIdeal_DActRefIdeal (hDActIdeal := hDActIdeal) (hDActRefIdeal := hDActRefIdeal)
    ∧ preserves_DWDown_DWDownIdeal
    ∧ algebraic_DWDownIdeal_DWDownRefIdeal (hDWDownIdeal := hDWDownIdeal) (hDWDownRefIdeal := hDWDownRefIdeal)
    ∧ preserves_DH3_DH3Ideal
    ∧ algebraic_DH3Ideal_DH3RefIdeal (hDH3Ideal := hDH3Ideal) (hDH3RefIdeal := hDH3RefIdeal)
    ∧ preserves_DWGu_DWGuIdeal
    ∧ algebraic_DWGuIdeal_DWGuRefIdeal (hDWGuIdeal := hDWGuIdeal) (hDWGuRefIdeal := hDWGuRefIdeal)
    ∧ preserves_DOxa_DOxaIdeal
    ∧ algebraic_DOxaIdeal_DOxaRefIdeal (hDOxaIdeal := hDOxaIdeal) (hDOxaRefIdeal := hDOxaRefIdeal)
    ∧ preserves_DH2_DH2Ideal
    ∧ algebraic_DH2Ideal_DH2RefIdeal (hDH2Ideal := hDH2Ideal) (hDH2RefIdeal := hDH2RefIdeal)
    ∧ preserves_DWXo_DWXoIdeal
    ∧ algebraic_DWXoIdeal_DWXoRefIdeal (hDWXoIdeal := hDWXoIdeal) (hDWXoRefIdeal := hDWXoRefIdeal)
    ∧ preserves_DMem_DMemIdeal
    ∧ algebraic_DMemIdeal_DMemRefIdeal (hDMemIdeal := hDMemIdeal) (hDMemRefIdeal := hDMemRefIdeal)
    ∧ preserves_DWXkv_DWXkvIdeal
    ∧ algebraic_DWXkvIdeal_DWXkvRefIdeal (hDWXkvIdeal := hDWXkvIdeal) (hDWXkvRefIdeal := hDWXkvRefIdeal)
    ∧ preserves_DWAtt_DWAttIdeal
    ∧ algebraic_DWAttIdeal_DWAttRefIdeal (hDWAttIdeal := hDWAttIdeal) (hDWAttRefIdeal := hDWAttRefIdeal)
    ∧ preserves_DOssm_DOssmIdeal
    ∧ algebraic_DOssmIdeal_DOssmRefIdeal (hDOssmIdeal := hDOssmIdeal) (hDOssmRefIdeal := hDOssmRefIdeal)
    ∧ preserves_DWSsm_DWSsmIdeal
    ∧ algebraic_DWSsmIdeal_DWSsmRefIdeal (hDWSsmIdeal := hDWSsmIdeal) (hDWSsmRefIdeal := hDWSsmRefIdeal)
    ∧ preserves_MProj_MProjIdeal
    ∧ algebraic_MProjIdeal_MProjRefIdeal (hMProjIdeal := hMProjIdeal) (hMProjRefIdeal := hMProjRefIdeal)
    ∧ preserves_MAtt_MAttIdeal
    ∧ algebraic_MAttIdeal_MAttRefIdeal (hMAttIdeal := hMAttIdeal) (hMAttRefIdeal := hMAttRefIdeal)
    ∧ preserves_MSsm_MSsmIdeal
    ∧ algebraic_MSsmIdeal_MSsmRefIdeal (hMSsmIdeal := hMSsmIdeal) (hMSsmRefIdeal := hMSsmRefIdeal)
    ∧ preserves_MMix_MMixIdeal
    ∧ algebraic_MMixIdeal_MMixRefIdeal (hMMixIdeal := hMMixIdeal) (hMMixRefIdeal := hMMixRefIdeal)
    ∧ preserves_MKv_MKvIdeal
    ∧ algebraic_MKvIdeal_MKvRefIdeal (hMKvIdeal := hMKvIdeal) (hMKvRefIdeal := hMKvRefIdeal)
    ∧ preserves_MGu_MGuIdeal
    ∧ algebraic_MGuIdeal_MGuRefIdeal (hMGuIdeal := hMGuIdeal) (hMGuRefIdeal := hMGuRefIdeal)
    ∧ preserves_MDown_MDownIdeal
    ∧ algebraic_MDownIdeal_MDownRefIdeal (hMDownIdeal := hMDownIdeal) (hMDownRefIdeal := hMDownRefIdeal)
    ∧ preserves_ESwiglu_ESwigluIdeal
    ∧ algebraic_ESwigluIdeal_ESwigluRefIdeal_pre_finite_gate (hESwigluIdeal := hESwigluIdeal) (hESwigluRefIdeal := hESwigluRefIdeal) (hPre_finite_gate := hPre_finite_gate)
    ∧ preserves_EMerge_EMergeIdeal
    ∧ algebraic_EMergeIdeal_EMergeRefIdeal (hEMergeIdeal := hEMergeIdeal) (hEMergeRefIdeal := hEMergeRefIdeal)
    ∧ preserves_FSwiglu_FSwigluIdeal
    ∧ algebraic_FSwigluIdeal_FSwigluRefIdeal (hFSwigluIdeal := hFSwigluIdeal) (hFSwigluRefIdeal := hFSwigluRefIdeal)
    ∧ preserves_FMerge_FMergeIdeal
    ∧ algebraic_FMergeIdeal_FMergeRefIdeal (hFMergeIdeal := hFMergeIdeal) (hFMergeRefIdeal := hFMergeRefIdeal)
    ∧ preserves_AWIn_AWInIdeal
    ∧ algebraic_AWInIdeal_AWInRefIdeal (hAWInIdeal := hAWInIdeal) (hAWInRefIdeal := hAWInRefIdeal)
    ∧ preserves_ABrAtt_ABrAttIdeal
    ∧ algebraic_ABrAttIdeal_ABrAttRefIdeal (hABrAttIdeal := hABrAttIdeal) (hABrAttRefIdeal := hABrAttRefIdeal)
    ∧ preserves_ABrSsm_ABrSsmIdeal
    ∧ algebraic_ABrSsmIdeal_ABrSsmRefIdeal (hABrSsmIdeal := hABrSsmIdeal) (hABrSsmRefIdeal := hABrSsmRefIdeal)
    ∧ preserves_AXkv_AXkvIdeal
    ∧ algebraic_AXkvIdeal_AXkvRefIdeal (hAXkvIdeal := hAXkvIdeal) (hAXkvRefIdeal := hAXkvRefIdeal)
    ∧ preserves_AGu_AGuIdeal
    ∧ algebraic_AGuIdeal_AGuRefIdeal (hAGuIdeal := hAGuIdeal) (hAGuRefIdeal := hAGuRefIdeal)
    ∧ preserves_ADown_ADownIdeal
    ∧ algebraic_ADownIdeal_ADownRefIdeal (hADownIdeal := hADownIdeal) (hADownRefIdeal := hADownRefIdeal)
    ∧ preserves_AConv_AConvIdeal
    ∧ algebraic_AConvIdeal_AConvRefIdeal (hAConvIdeal := hAConvIdeal) (hAConvRefIdeal := hAConvRefIdeal)
    ∧ preserves_ASmall_ASmallIdeal
    ∧ algebraic_ASmallIdeal_ASmallRefIdeal (hASmallIdeal := hASmallIdeal) (hASmallRefIdeal := hASmallRefIdeal)
    ∧ preserves_EPre_EPreIdeal
    ∧ algebraic_EPreIdeal_EPreRefIdeal (hEPreIdeal := hEPreIdeal) (hEPreRefIdeal := hEPreRefIdeal)
-- ==== Pre_finite.lean ====
abbrev S4096x10368 : Shape := ⟨2, ![4096, 10368]⟩
abbrev S4096x1024 : Shape := ⟨2, ![4096, 1024]⟩
abbrev S4096x3072 : Shape := ⟨2, ![4096, 3072]⟩
abbrev S_ : Shape := ⟨0, ![]⟩

class Facts : Prop where
  slices_S4096x10368_S4096x3072_0_4096 : S4096x10368.Slices ![0, 4096] S4096x3072
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x10368 .f32) (main_arg1 : FVec F S4096x1024 .f32) : IVec S4096x3072 1 × IVec S4096x1024 1 :=
  let main_v0 : FVec F S4096x3072 .f32 := (extractStridedSlice S4096x3072 ![0, 4096] · slices_S4096x10368_S4096x3072_0_4096) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  (main_v3, main_v6)
-- ==== Pre_finite_gate.lean ====
abbrev S4096x5632 : Shape := ⟨2, ![4096, 5632]⟩
abbrev S4096x2816 : Shape := ⟨2, ![4096, 2816]⟩
abbrev S_ : Shape := ⟨0, ![]⟩

class Facts : Prop where
  bitsLt_bf16_f32 : FTy.bits .bf16 < FTy.bits .f32
  slices_S4096x5632_S4096x2816_0_2816 : S4096x5632.Slices ![0, 2816] S4096x2816
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S4096x2816 .bf16) : IVec S4096x2816 1 :=
  let main_v0 : FVec F S4096x2816 .f32 := (extf .f32 · bitsLt_bf16_f32) main_arg1
  let main_v1 : FVec F S4096x2816 .f32 := (extractStridedSlice S4096x2816 ![0, 2816] · slices_S4096x5632_S4096x2816_0_2816) main_arg0
  let main_v2 : FVec F S4096x2816 .f32 := mulf main_v0 main_v1
  let main_v3 : FVec F S4096x2816 .f32 := Host.absf main_v2
  let main_cst : FVec F S_ .f32 := constant S_ .f32 0x7F800000#32
  let main_v4 : FVec F S4096x2816 .f32 := broadcastInDim S4096x2816 ![] bcast_S_S4096x2816 main_cst
  let main_v5 : IVec S4096x2816 1 := cmpf .olt main_v3 main_v4
  main_v5
-- ==== Kernel.lean ====
abbrev S4096x10368 : Shape := ⟨2, ![4096, 10368]⟩
abbrev S4096x1024 : Shape := ⟨2, ![4096, 1024]⟩
abbrev S512x128 : Shape := ⟨2, ![512, 128]⟩
abbrev S2048x128 : Shape := ⟨2, ![2048, 128]⟩
abbrev S2x16x512x128 : Shape := ⟨4, ![2, 16, 512, 128]⟩
abbrev S1x128 : Shape := ⟨2, ![1, 128]⟩
abbrev S128x128 : Shape := ⟨2, ![128, 128]⟩
abbrev S512x1 : Shape := ⟨2, ![512, 1]⟩
abbrev S128x1 : Shape := ⟨2, ![128, 1]⟩
abbrev S1x1x128x128 : Shape := ⟨4, ![1, 1, 128, 128]⟩
abbrev S384x1 : Shape := ⟨2, ![384, 1]⟩
abbrev S256x128 : Shape := ⟨2, ![256, 128]⟩
abbrev S256x1 : Shape := ⟨2, ![256, 1]⟩
abbrev S1x1x256x128 : Shape := ⟨4, ![1, 1, 256, 128]⟩
abbrev S384x128 : Shape := ⟨2, ![384, 128]⟩
abbrev S1x1x384x128 : Shape := ⟨4, ![1, 1, 384, 128]⟩
abbrev S1x1x512x128 : Shape := ⟨4, ![1, 1, 512, 128]⟩
abbrev S512 : Shape := ⟨1, ![512]⟩
abbrev S384 : Shape := ⟨1, ![384]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2x16x512x128, .f32⟩
  | .local _ .vmem, ⟨15, _⟩ => ⟨S2x16x512x128, .f32⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c4_i32 : BitVec 32 := 4#32
  let v53 : BitVec 32 := Scalar.muli arg2 c4_i32
  let c3_i32 : BitVec 32 := 3#32
  let v54 : BitVec 32 := Scalar.addi v53 c3_i32
  let c128_i32_12 : BitVec 32 := 128#32
  let v55 : BitVec 32 := Scalar.muli v54 c128_i32_12
  v55
def k0_off1 (i : grid0.Coords) (c3_i32 : BitVec 32) : Fin 2 → Nat :=
  let arg2 : BitVec 32 := BitVec.ofNat 32 (i 2).val
  let c4_i32 : BitVec 32 := 4#32
  let v53 : BitVec 32 := Scalar.muli arg2 c4_i32
  let v54 : BitVec 32 := Scalar.addi v53 c3_i32
  let c128_i32_12 : BitVec 32 := 128#32
  let v55 : BitVec 32 := Scalar.muli v54 c128_i32_12
  let v56 : BitVec 32 := v55
  let v57 : Index := Scalar.indexCast v56
  let c0_13 : Index := 0#32
  ![v57.toNat, 0]
def k0_off2 (i : grid0.Coords) : Fin 4 → Nat :=
  let c0_28 : Index := 0#32
  let arg2 : BitVec 32 := BitVec.ofNat 32 (i 2).val
  let c4_i32 : BitVec 32 := 4#32
  let v53 : BitVec 32 := Scalar.muli arg2 c4_i32
  let c3_i32 : BitVec 32 := 3#32
  let v54 : BitVec 32 := Scalar.addi v53 c3_i32
  let v104 : Index := Scalar.indexCast v54
  let c384 : Index := 384#32
  let c0_29 : Index := 0#32
  ![0, v104.toNat, 384, 0]
def k0_off3 (i : grid0.Coords) : Fin 4 → Nat :=
  let c1 : Index := 1#32
  let arg2 : BitVec 32 := BitVec.ofNat 32 (i 2).val
  let c4_i32 : BitVec 32 := 4#32
  let v53 : BitVec 32 := Scalar.muli arg2 c4_i32
  let c3_i32 : BitVec 32 := 3#32
  let v54 : BitVec 32 := Scalar.addi v53 c3_i32
  let v157 : Index := Scalar.indexCast v54
  let c384_45 : Index := 384#32
  let c0_46 : Index := 0#32
  ![1, v157.toNat, 384, 0]
def k0_mult2 (i : grid0.Coords) : BitVec 32 :=
  let arg2 : BitVec 32 := BitVec.ofNat 32 (i 2).val
  let c4_i32_53 : BitVec 32 := 4#32
  let v179 : BitVec 32 := Scalar.muli arg2 c4_i32_53
  let c2_i32 : BitVec 32 := 2#32
  let v180 : BitVec 32 := Scalar.addi v179 c2_i32
  let c128_i32_54 : BitVec 32 := 128#32
  let v181 : BitVec 32 := Scalar.muli v180 c128_i32_54
  v181
def k0_off4 (i : grid0.Coords) : Fin 4 → Nat :=
  let c0_70 : Index := 0#32
  let arg2 : BitVec 32 := BitVec.ofNat 32 (i 2).val
  let c4_i32_53 : BitVec 32 := 4#32
  let v179 : BitVec 32 := Scalar.muli arg2 c4_i32_53
  let c2_i32 : BitVec 32 := 2#32
  let v180 : BitVec 32 := Scalar.addi v179 c2_i32
  let v230 : Index := Scalar.indexCast v180
  let c256 : Index := 256#32
  let c0_71 : Index := 0#32
  ![0, v230.toNat, 256, 0]
def k0_off5 (i : grid0.Coords) : Fin 4 → Nat :=
  let c1_87 : Index := 1#32
  let arg2 : BitVec 32 := BitVec.ofNat 32 (i 2).val
  let c4_i32_53 : BitVec 32 := 4#32
  let v179 : BitVec 32 := Scalar.muli arg2 c4_i32_53
  let c2_i32 : BitVec 32 := 2#32
  let v180 : BitVec 32 := Scalar.addi v179 c2_i32
  let v283 : Index := Scalar.indexCast v180
  let c256_88 : Index := 256#32
  let c0_89 : Index := 0#32
  ![1, v283.toNat, 256, 0]
def k0_mult3 (i : grid0.Coords) : BitVec 32 :=
  let arg2 : BitVec 32 := BitVec.ofNat 32 (i 2).val
  let c4_i32_96 : BitVec 32 := 4#32
  let v305 : BitVec 32 := Scalar.muli arg2 c4_i32_96
  let c1_i32 : BitVec 32 := 1#32
  let v306 : BitVec 32 := Scalar.addi v305 c1_i32
  let c128_i32_97 : BitVec 32 := 128#32
  let v307 : BitVec 32 := Scalar.muli v306 c128_i32_97
  v307
def k0_off6 (i : grid0.Coords) : Fin 4 → Nat :=
  let c0_113 : Index := 0#32
  let arg2 : BitVec 32 := BitVec.ofNat 32 (i 2).val
  let c4_i32_96 : BitVec 32 := 4#32
  let v305 : BitVec 32 := Scalar.muli arg2 c4_i32_96
  let c1_i32 : BitVec 32 := 1#32
  let v306 : BitVec 32 := Scalar.addi v305 c1_i32
  let v356 : Index := Scalar.indexCast v306
  let c128 : Index := 128#32
  let c0_114 : Index := 0#32
  ![0, v356.toNat, 128, 0]
def k0_off7 (i : grid0.Coords) : Fin 4 → Nat :=
  let c1_130 : Index := 1#32
  let arg2 : BitVec 32 := BitVec.ofNat 32 (i 2).val
  let c4_i32_96 : BitVec 32 := 4#32
  let v305 : BitVec 32 := Scalar.muli arg2 c4_i32_96
  let c1_i32 : BitVec 32 := 1#32
  let v306 : BitVec 32 := Scalar.addi v305 c1_i32
  let v409 : Index := Scalar.indexCast v306
  let c128_131 : Index := 128#32
  let c0_132 : Index := 0#32
  ![1, v409.toNat, 128, 0]
def k0_mult4 (i : grid0.Coords) : BitVec 32 :=
  let arg2 : BitVec 32 := BitVec.ofNat 32 (i 2).val
  let c4_i32_139 : BitVec 32 := 4#32
  let v431 : BitVec 32 := Scalar.muli arg2 c4_i32_139
  let c0_i32_140 : BitVec 32 := 0#32
  let v432 : BitVec 32 := Scalar.addi v431 c0_i32_140
  let c128_i32_141 : BitVec 32 := 128#32
  let v433 : BitVec 32 := Scalar.muli v432 c128_i32_141
  v433
def k0_off8 (i : grid0.Coords) : Fin 4 → Nat :=
  let c0_157 : Index := 0#32
  let arg2 : BitVec 32 := BitVec.ofNat 32 (i 2).val
  let c4_i32_139 : BitVec 32 := 4#32
  let v431 : BitVec 32 := Scalar.muli arg2 c4_i32_139
  let c0_i32_140 : BitVec 32 := 0#32
  let v432 : BitVec 32 := Scalar.addi v431 c0_i32_140
  let v477 : Index := Scalar.indexCast v432
  let c0_158 : Index := 0#32
  let c0_159 : Index := 0#32
  ![0, v477.toNat, 0, 0]
def k0_off9 (i : grid0.Coords) : Fin 4 → Nat :=
  let c1_175 : Index := 1#32
  let arg2 : BitVec 32 := BitVec.ofNat 32 (i 2).val
  let c4_i32_139 : BitVec 32 := 4#32
  let v431 : BitVec 32 := Scalar.muli arg2 c4_i32_139
  let c0_i32_140 : BitVec 32 := 0#32
  let v432 : BitVec 32 := Scalar.addi v431 c0_i32_140
  let v523 : Index := Scalar.indexCast v432
  let c0_176 : Index := 0#32
  let c0_177 : Index := 0#32
  ![1, v523.toNat, 0, 0]
@[reducible] def k0_t1_loop (i : grid0.Coords) : Scf.Loop 32 :=
  let c0_i32_185 : BitVec 32 := 0#32
  let arg2 : BitVec 32 := BitVec.ofNat 32 (i 2).val
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_187 : BitVec 32 := 1#32
  ⟨c0_i32_185, v547, c1_i32_187⟩
def k0_mult5 (i : grid0.Coords) (k0_t1 : Fin (k0_t1_loop i).trips) : BitVec 32 :=
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_187 : BitVec 32 := 1#32
  let arg12 : BitVec 32 := Scf.iv c0_i32_185 c1_i32_187 k0_t1
  let c4_i32_339 : BitVec 32 := 4#32
  let v936 : BitVec 32 := Scalar.muli arg12 c4_i32_339
  let c0_i32_340 : BitVec 32 := 0#32
  let v937 : BitVec 32 := Scalar.addi v936 c0_i32_340
  let v938 : BitVec 32 := Scalar.subi v935 v937
  let c128_i32_341 : BitVec 32 := 128#32
  let v939 : BitVec 32 := Scalar.muli v938 c128_i32_341
  v939
def k0_off10 (i : grid0.Coords) (k0_t1 : Fin (k0_t1_loop i).trips) (c0_i32_340 : BitVec 32) : Fin 2 → Nat :=
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_187 : BitVec 32 := 1#32
  let arg12 : BitVec 32 := Scf.iv c0_i32_185 c1_i32_187 k0_t1
  let c4_i32_339 : BitVec 32 := 4#32
  let v936 : BitVec 32 := Scalar.muli arg12 c4_i32_339
  let v937 : BitVec 32 := Scalar.addi v936 c0_i32_340
  let v938 : BitVec 32 := Scalar.subi v935 v937
  let c128_i32_341 : BitVec 32 := 128#32
  let v939 : BitVec 32 := Scalar.muli v938 c128_i32_341
  let v940 : BitVec 32 := v939
  let v941 : Index := Scalar.indexCast v940
  let c0_342 : Index := 0#32
  ![v941.toNat, 0]
def k0_off11 (i : grid0.Coords) (k0_t1 : Fin (k0_t1_loop i).trips) (c0_i32_340 : BitVec 32) : Fin 4 → Nat :=
  let c0_354 : Index := 0#32
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_187 : BitVec 32 := 1#32
  let arg12 : BitVec 32 := Scf.iv c0_i32_185 c1_i32_187 k0_t1
  let c4_i32_339 : BitVec 32 := 4#32
  let v936 : BitVec 32 := Scalar.muli arg12 c4_i32_339
  let v937 : BitVec 32 := Scalar.addi v936 c0_i32_340
  let v938 : BitVec 32 := Scalar.subi v935 v937
  let v977 : Index := Scalar.indexCast v938
  let c0_355 : Index := 0#32
  let c0_356 : Index := 0#32
  ![0, v977.toNat, 0, 0]
def k0_off12 (i : grid0.Coords) (k0_t1 : Fin (k0_t1_loop i).trips) (c0_i32_340 : BitVec 32) : Fin 4 → Nat :=
  let c1_370 : Index := 1#32
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_187 : BitVec 32 := 1#32
  let arg12 : BitVec 32 := Scf.iv c0_i32_185 c1_i32_187 k0_t1
  let c4_i32_339 : BitVec 32 := 4#32
  let v936 : BitVec 32 := Scalar.muli arg12 c4_i32_339
  let v937 : BitVec 32 := Scalar.addi v936 c0_i32_340
  let v938 : BitVec 32 := Scalar.subi v935 v937
  let v1019 : Index := Scalar.indexCast v938
  let c0_371 : Index := 0#32
  let c0_372 : Index := 0#32
  ![1, v1019.toNat, 0, 0]
def k0_mult6 (i : grid0.Coords) (k0_t1 : Fin (k0_t1_loop i).trips) : BitVec 32 :=
  let arg2 : BitVec 32 := BitVec.ofNat 32 (i 2).val
  let c4_i32_379 : BitVec 32 := 4#32
  let v1038 : BitVec 32 := Scalar.muli arg2 c4_i32_379
  let c1_i32_380 : BitVec 32 := 1#32
  let v1039 : BitVec 32 := Scalar.subi v1038 c1_i32_380
  let c0_i32_185 : BitVec 32 := 0#32
  let c1_i32_187 : BitVec 32 := 1#32
  let arg12 : BitVec 32 := Scf.iv c0_i32_185 c1_i32_187 k0_t1
  let c4_i32_381 : BitVec 32 := 4#32
  let v1040 : BitVec 32 := Scalar.muli arg12 c4_i32_381
  let c1_i32_382 : BitVec 32 := 1#32
  let v1041 : BitVec 32 := Scalar.addi v1040 c1_i32_382
  let v1042 : BitVec 32 := Scalar.subi v1039 v1041
  let c128_i32_383 : BitVec 32 := 128#32
  let v1043 : BitVec 32 := Scalar.muli v1042 c128_i32_383
  v1043
def k0_mult7 (i : grid0.Coords) (k0_t1 : Fin (k0_t1_loop i).trips) : BitVec 32 :=
  let arg2 : BitVec 32 := BitVec.ofNat 32 (i 2).val
  let c4_i32_421 : BitVec 32 := 4#32
  let v1142 : BitVec 32 := Scalar.muli arg2 c4_i32_421
  let c1_i32_422 : BitVec 32 := 1#32
  let v1143 : BitVec 32 := Scalar.subi v1142 c1_i32_422
  let c0_i32_185 : BitVec 32 := 0#32
  let c1_i32_187 : BitVec 32 := 1#32
  let arg12 : BitVec 32 := Scf.iv c0_i32_185 c1_i32_187 k0_t1
  let c4_i32_423 : BitVec 32 := 4#32
  let v1144 : BitVec 32 := Scalar.muli arg12 c4_i32_423
  let c2_i32_424 : BitVec 32 := 2#32
  let v1145 : BitVec 32 := Scalar.addi v1144 c2_i32_424
  let v1146 : BitVec 32 := Scalar.subi v1143 v1145
  let c128_i32_425 : BitVec 32 := 128#32
  let v1147 : BitVec 32 := Scalar.muli v1146 c128_i32_425
  v1147
def k0_mult8 (i : grid0.Coords) (k0_t1 : Fin (k0_t1_loop i).trips) : BitVec 32 :=
  let arg2 : BitVec 32 := BitVec.ofNat 32 (i 2).val
  let c4_i32_463 : BitVec 32 := 4#32
  let v1246 : BitVec 32 := Scalar.muli arg2 c4_i32_463
  let c1_i32_464 : BitVec 32 := 1#32
  let v1247 : BitVec 32 := Scalar.subi v1246 c1_i32_464
  let c0_i32_185 : BitVec 32 := 0#32
  let c1_i32_187 : BitVec 32 := 1#32
  let arg12 : BitVec 32 := Scf.iv c0_i32_185 c1_i32_187 k0_t1
  let c4_i32_465 : BitVec 32 := 4#32
  let v1248 : BitVec 32 := Scalar.muli arg12 c4_i32_465
  let c3_i32_466 : BitVec 32 := 3#32
  let v1249 : BitVec 32 := Scalar.addi v1248 c3_i32_466
  let v1250 : BitVec 32 := Scalar.subi v1247 v1249
  let c128_i32_467 : BitVec 32 := 128#32
  let v1251 : BitVec 32 := Scalar.muli v1250 c128_i32_467
  v1251
@[reducible] def k0_t2_loop (i : grid0.Coords) : Scf.Loop 32 :=
  let c0_i32_185 : BitVec 32 := 0#32
  let arg2 : BitVec 32 := BitVec.ofNat 32 (i 2).val
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let v544 : BitVec 32 := Scalar.addi c0_i32_185 v543
  let c1_i32_188 : BitVec 32 := 1#32
  ⟨v547, v544, c1_i32_188⟩
def k0_mult9 (i : grid0.Coords) (k0_t2 : Fin (k0_t2_loop i).trips) : BitVec 32 :=
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_339 : BitVec 32 := 4#32
  let v936 : BitVec 32 := Scalar.muli arg12 c4_i32_339
  let c0_i32_340 : BitVec 32 := 0#32
  let v937 : BitVec 32 := Scalar.addi v936 c0_i32_340
  let v938 : BitVec 32 := Scalar.subi v935 v937
  let c128_i32_341 : BitVec 32 := 128#32
  let v939 : BitVec 32 := Scalar.muli v938 c128_i32_341
  v939
def k0_off13 (i : grid0.Coords) (k0_t2 : Fin (k0_t2_loop i).trips) (c0_i32_340 : BitVec 32) : Fin 2 → Nat :=
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_339 : BitVec 32 := 4#32
  let v936 : BitVec 32 := Scalar.muli arg12 c4_i32_339
  let v937 : BitVec 32 := Scalar.addi v936 c0_i32_340
  let v938 : BitVec 32 := Scalar.subi v935 v937
  let c128_i32_341 : BitVec 32 := 128#32
  let v939 : BitVec 32 := Scalar.muli v938 c128_i32_341
  let v940 : BitVec 32 := v939
  let v941 : Index := Scalar.indexCast v940
  let c0_342 : Index := 0#32
  ![v941.toNat, 0]
def k0_off14 (i : grid0.Coords) (k0_t2 : Fin (k0_t2_loop i).trips) (c0_i32_340 : BitVec 32) : Fin 4 → Nat :=
  let c0_354 : Index := 0#32
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_339 : BitVec 32 := 4#32
  let v936 : BitVec 32 := Scalar.muli arg12 c4_i32_339
  let v937 : BitVec 32 := Scalar.addi v936 c0_i32_340
  let v938 : BitVec 32 := Scalar.subi v935 v937
  let v977 : Index := Scalar.indexCast v938
  let c0_355 : Index := 0#32
  let c0_356 : Index := 0#32
  ![0, v977.toNat, 0, 0]
def k0_off15 (i : grid0.Coords) (k0_t2 : Fin (k0_t2_loop i).trips) (c0_i32_340 : BitVec 32) : Fin 4 → Nat :=
  let c1_370 : Index := 1#32
  let arg2 : BitVec 32 := BitVec.ofNat 32 (i 2).val
  let c4_i32_337 : BitVec 32 := 4#32
  let v934 : BitVec 32 := Scalar.muli arg2 c4_i32_337
  let c1_i32_338 : BitVec 32 := 1#32
  let v935 : BitVec 32 := Scalar.subi v934 c1_i32_338
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_339 : BitVec 32 := 4#32
  let v936 : BitVec 32 := Scalar.muli arg12 c4_i32_339
  let v937 : BitVec 32 := Scalar.addi v936 c0_i32_340
  let v938 : BitVec 32 := Scalar.subi v935 v937
  let v1019 : Index := Scalar.indexCast v938
  let c0_371 : Index := 0#32
  let c0_372 : Index := 0#32
  ![1, v1019.toNat, 0, 0]
def k0_mult10 (i : grid0.Coords) (k0_t2 : Fin (k0_t2_loop i).trips) : BitVec 32 :=
  let arg2 : BitVec 32 := BitVec.ofNat 32 (i 2).val
  let c4_i32_379 : BitVec 32 := 4#32
  let v1038 : BitVec 32 := Scalar.muli arg2 c4_i32_379
  let c1_i32_380 : BitVec 32 := 1#32
  let v1039 : BitVec 32 := Scalar.subi v1038 c1_i32_380
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_381 : BitVec 32 := 4#32
  let v1040 : BitVec 32 := Scalar.muli arg12 c4_i32_381
  let c1_i32_382 : BitVec 32 := 1#32
  let v1041 : BitVec 32 := Scalar.addi v1040 c1_i32_382
  let v1042 : BitVec 32 := Scalar.subi v1039 v1041
  let c128_i32_383 : BitVec 32 := 128#32
  let v1043 : BitVec 32 := Scalar.muli v1042 c128_i32_383
  v1043
def k0_mult11 (i : grid0.Coords) (k0_t2 : Fin (k0_t2_loop i).trips) : BitVec 32 :=
  let arg2 : BitVec 32 := BitVec.ofNat 32 (i 2).val
  let c4_i32_421 : BitVec 32 := 4#32
  let v1142 : BitVec 32 := Scalar.muli arg2 c4_i32_421
  let c1_i32_422 : BitVec 32 := 1#32
  let v1143 : BitVec 32 := Scalar.subi v1142 c1_i32_422
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_423 : BitVec 32 := 4#32
  let v1144 : BitVec 32 := Scalar.muli arg12 c4_i32_423
  let c2_i32_424 : BitVec 32 := 2#32
  let v1145 : BitVec 32 := Scalar.addi v1144 c2_i32_424
  let v1146 : BitVec 32 := Scalar.subi v1143 v1145
  let c128_i32_425 : BitVec 32 := 128#32
  let v1147 : BitVec 32 := Scalar.muli v1146 c128_i32_425
  v1147
def k0_mult12 (i : grid0.Coords) (k0_t2 : Fin (k0_t2_loop i).trips) : BitVec 32 :=
  let arg2 : BitVec 32 := BitVec.ofNat 32 (i 2).val
  let c4_i32_463 : BitVec 32 := 4#32
  let v1246 : BitVec 32 := Scalar.muli arg2 c4_i32_463
  let c1_i32_464 : BitVec 32 := 1#32
  let v1247 : BitVec 32 := Scalar.subi v1246 c1_i32_464
  let c0_i32_185 : BitVec 32 := 0#32
  let c1_i32_184 : BitVec 32 := 1#32
  let v542 : BitVec 32 := Scalar.muli arg2 c1_i32_184
  let v543 : BitVec 32 := Scalar.subi v542 c0_i32_185
  let c1_i32_186 : BitVec 32 := 1#32
  let v545 : BitVec 32 := Scalar.divsi v543 c1_i32_186
  let v546 : BitVec 32 := Scalar.muli v545 c1_i32_186
  let v547 : BitVec 32 := Scalar.addi c0_i32_185 v546
  let c1_i32_188 : BitVec 32 := 1#32
  let arg12 : BitVec 32 := Scf.iv v547 c1_i32_188 k0_t2
  let c4_i32_465 : BitVec 32 := 4#32
  let v1248 : BitVec 32 := Scalar.muli arg12 c4_i32_465
  let c3_i32_466 : BitVec 32 := 3#32
  let v1249 : BitVec 32 := Scalar.addi v1248 c3_i32_466
  let v1250 : BitVec 32 := Scalar.subi v1247 v1249
  let c128_i32_467 : BitVec 32 := 128#32
  let v1251 : BitVec 32 := Scalar.muli v1250 c128_i32_467
  v1251
@[reducible] def k0_t3_loop (i : grid0.Coords) : Scf.Loop 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_194 : BitVec 32 := 1#32
  ⟨c0_i32_192, v557, c1_i32_194⟩
def k0_mult13 (i : grid0.Coords) (k0_t3 : Fin (k0_t3_loop i).trips) : BitVec 32 :=
  let c0_i32_192 : BitVec 32 := 0#32
  let c1_i32_194 : BitVec 32 := 1#32
  let arg12 : BitVec 32 := Scf.iv c0_i32_192 c1_i32_194 k0_t3
  let c4_i32_337 : BitVec 32 := 4#32
  let v934 : BitVec 32 := Scalar.muli arg12 c4_i32_337
  let c0_i32_338 : BitVec 32 := 0#32
  let v935 : BitVec 32 := Scalar.addi v934 c0_i32_338
  let c128_i32_339 : BitVec 32 := 128#32
  let v936 : BitVec 32 := Scalar.muli v935 c128_i32_339
  v936
def k0_off16 (i : grid0.Coords) (k0_t3 : Fin (k0_t3_loop i).trips) (c0_i32_338 : BitVec 32) : Fin 2 → Nat :=
  let c0_i32_192 : BitVec 32 := 0#32
  let c1_i32_194 : BitVec 32 := 1#32
  let arg12 : BitVec 32 := Scf.iv c0_i32_192 c1_i32_194 k0_t3
  let c4_i32_337 : BitVec 32 := 4#32
  let v934 : BitVec 32 := Scalar.muli arg12 c4_i32_337
  let v935 : BitVec 32 := Scalar.addi v934 c0_i32_338
  let c128_i32_339 : BitVec 32 := 128#32
  let v936 : BitVec 32 := Scalar.muli v935 c128_i32_339
  let v937 : BitVec 32 := v936
  let v938 : Index := Scalar.indexCast v937
  let c0_340 : Index := 0#32
  ![v938.toNat, 0]
def k0_off17 (i : grid0.Coords) (k0_t3 : Fin (k0_t3_loop i).trips) (c0_i32_338 : BitVec 32) : Fin 4 → Nat :=
  let c0_342 : Index := 0#32
  let c0_i32_192 : BitVec 32 := 0#32
  let c1_i32_194 : BitVec 32 := 1#32
  let arg12 : BitVec 32 := Scf.iv c0_i32_192 c1_i32_194 k0_t3
  let c4_i32_337 : BitVec 32 := 4#32
  let v934 : BitVec 32 := Scalar.muli arg12 c4_i32_337
  let v935 : BitVec 32 := Scalar.addi v934 c0_i32_338
  let v942 : Index := Scalar.indexCast v935
  let c0_343 : Index := 0#32
  let c0_344 : Index := 0#32
  ![0, v942.toNat, 0, 0]
def k0_off18 (i : grid0.Coords) (k0_t3 : Fin (k0_t3_loop i).trips) (c0_i32_338 : BitVec 32) : Fin 4 → Nat :=
  let c1_354 : Index := 1#32
  let c0_i32_192 : BitVec 32 := 0#32
  let c1_i32_194 : BitVec 32 := 1#32
  let arg12 : BitVec 32 := Scf.iv c0_i32_192 c1_i32_194 k0_t3
  let c4_i32_337 : BitVec 32 := 4#32
  let v934 : BitVec 32 := Scalar.muli arg12 c4_i32_337
  let v935 : BitVec 32 := Scalar.addi v934 c0_i32_338
  let v972 : Index := Scalar.indexCast v935
  let c0_355 : Index := 0#32
  let c0_356 : Index := 0#32
  ![1, v972.toNat, 0, 0]
def k0_mult14 (i : grid0.Coords) (k0_t3 : Fin (k0_t3_loop i).trips) : BitVec 32 :=
  let c0_i32_192 : BitVec 32 := 0#32
  let c1_i32_194 : BitVec 32 := 1#32
  let arg12 : BitVec 32 := Scf.iv c0_i32_192 c1_i32_194 k0_t3
  let c4_i32_368 : BitVec 32 := 4#32
  let v1008 : BitVec 32 := Scalar.muli arg12 c4_i32_368
  let c1_i32_369 : BitVec 32 := 1#32
  let v1009 : BitVec 32 := Scalar.addi v1008 c1_i32_369
  let c128_i32_370 : BitVec 32 := 128#32
  let v1010 : BitVec 32 := Scalar.muli v1009 c128_i32_370
  v1010
def k0_mult15 (i : grid0.Coords) (k0_t3 : Fin (k0_t3_loop i).trips) : BitVec 32 :=
  let c0_i32_192 : BitVec 32 := 0#32
  let c1_i32_194 : BitVec 32 := 1#32
  let arg12 : BitVec 32 := Scf.iv c0_i32_192 c1_i32_194 k0_t3
  let c4_i32_399 : BitVec 32 := 4#32
  let v1082 : BitVec 32 := Scalar.muli arg12 c4_i32_399
  let c2_i32_400 : BitVec 32 := 2#32
  let v1083 : BitVec 32 := Scalar.addi v1082 c2_i32_400
  let c128_i32_401 : BitVec 32 := 128#32
  let v1084 : BitVec 32 := Scalar.muli v1083 c128_i32_401
  v1084
def k0_mult16 (i : grid0.Coords) (k0_t3 : Fin (k0_t3_loop i).trips) : BitVec 32 :=
  let c0_i32_192 : BitVec 32 := 0#32
  let c1_i32_194 : BitVec 32 := 1#32
  let arg12 : BitVec 32 := Scf.iv c0_i32_192 c1_i32_194 k0_t3
  let c4_i32_430 : BitVec 32 := 4#32
  let v1156 : BitVec 32 := Scalar.muli arg12 c4_i32_430
  let c3_i32_431 : BitVec 32 := 3#32
  let v1157 : BitVec 32 := Scalar.addi v1156 c3_i32_431
  let c128_i32_432 : BitVec 32 := 128#32
  let v1158 : BitVec 32 := Scalar.muli v1157 c128_i32_432
  v1158
@[reducible] def k0_t4_loop (i : grid0.Coords) : Scf.Loop 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let v554 : BitVec 32 := Scalar.addi c0_i32_192 v553
  let c1_i32_195 : BitVec 32 := 1#32
  ⟨v557, v554, c1_i32_195⟩
def k0_mult17 (i : grid0.Coords) (k0_t4 : Fin (k0_t4_loop i).trips) : BitVec 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_337 : BitVec 32 := 4#32
  let v934 : BitVec 32 := Scalar.muli arg12 c4_i32_337
  let c0_i32_338 : BitVec 32 := 0#32
  let v935 : BitVec 32 := Scalar.addi v934 c0_i32_338
  let c128_i32_339 : BitVec 32 := 128#32
  let v936 : BitVec 32 := Scalar.muli v935 c128_i32_339
  v936
def k0_off19 (i : grid0.Coords) (k0_t4 : Fin (k0_t4_loop i).trips) (c0_i32_338 : BitVec 32) : Fin 2 → Nat :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_337 : BitVec 32 := 4#32
  let v934 : BitVec 32 := Scalar.muli arg12 c4_i32_337
  let v935 : BitVec 32 := Scalar.addi v934 c0_i32_338
  let c128_i32_339 : BitVec 32 := 128#32
  let v936 : BitVec 32 := Scalar.muli v935 c128_i32_339
  let v937 : BitVec 32 := v936
  let v938 : Index := Scalar.indexCast v937
  let c0_340 : Index := 0#32
  ![v938.toNat, 0]
def k0_off20 (i : grid0.Coords) (k0_t4 : Fin (k0_t4_loop i).trips) (c0_i32_338 : BitVec 32) : Fin 4 → Nat :=
  let c0_342 : Index := 0#32
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_337 : BitVec 32 := 4#32
  let v934 : BitVec 32 := Scalar.muli arg12 c4_i32_337
  let v935 : BitVec 32 := Scalar.addi v934 c0_i32_338
  let v942 : Index := Scalar.indexCast v935
  let c0_343 : Index := 0#32
  let c0_344 : Index := 0#32
  ![0, v942.toNat, 0, 0]
def k0_off21 (i : grid0.Coords) (k0_t4 : Fin (k0_t4_loop i).trips) (c0_i32_338 : BitVec 32) : Fin 4 → Nat :=
  let c1_354 : Index := 1#32
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_337 : BitVec 32 := 4#32
  let v934 : BitVec 32 := Scalar.muli arg12 c4_i32_337
  let v935 : BitVec 32 := Scalar.addi v934 c0_i32_338
  let v972 : Index := Scalar.indexCast v935
  let c0_355 : Index := 0#32
  let c0_356 : Index := 0#32
  ![1, v972.toNat, 0, 0]
def k0_mult18 (i : grid0.Coords) (k0_t4 : Fin (k0_t4_loop i).trips) : BitVec 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_368 : BitVec 32 := 4#32
  let v1008 : BitVec 32 := Scalar.muli arg12 c4_i32_368
  let c1_i32_369 : BitVec 32 := 1#32
  let v1009 : BitVec 32 := Scalar.addi v1008 c1_i32_369
  let c128_i32_370 : BitVec 32 := 128#32
  let v1010 : BitVec 32 := Scalar.muli v1009 c128_i32_370
  v1010
def k0_mult19 (i : grid0.Coords) (k0_t4 : Fin (k0_t4_loop i).trips) : BitVec 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_399 : BitVec 32 := 4#32
  let v1082 : BitVec 32 := Scalar.muli arg12 c4_i32_399
  let c2_i32_400 : BitVec 32 := 2#32
  let v1083 : BitVec 32 := Scalar.addi v1082 c2_i32_400
  let c128_i32_401 : BitVec 32 := 128#32
  let v1084 : BitVec 32 := Scalar.muli v1083 c128_i32_401
  v1084
def k0_mult20 (i : grid0.Coords) (k0_t4 : Fin (k0_t4_loop i).trips) : BitVec 32 :=
  let c0_i32_192 : BitVec 32 := 0#32
  let arg2 : BitVec 32 := BitVec.ofNat 32 (i 2).val
  let c1_i32_184 : BitVec 32 := 1#32
  let v542 : BitVec 32 := Scalar.muli arg2 c1_i32_184
  let v553 : BitVec 32 := Scalar.subi v542 c0_i32_192
  let c1_i32_193 : BitVec 32 := 1#32
  let v555 : BitVec 32 := Scalar.divsi v553 c1_i32_193
  let v556 : BitVec 32 := Scalar.muli v555 c1_i32_193
  let v557 : BitVec 32 := Scalar.addi c0_i32_192 v556
  let c1_i32_195 : BitVec 32 := 1#32
  let arg12 : BitVec 32 := Scf.iv v557 c1_i32_195 k0_t4
  let c4_i32_430 : BitVec 32 := 4#32
  let v1156 : BitVec 32 := Scalar.muli arg12 c4_i32_430
  let c3_i32_431 : BitVec 32 := 3#32
  let v1157 : BitVec 32 := Scalar.addi v1156 c3_i32_431
  let c128_i32_432 : BitVec 32 := 128#32
  let v1158 : BitVec 32 := Scalar.muli v1157 c128_i32_432
  v1158
def k0_mult21 (i : grid0.Coords) : BitVec 32 :=
  let arg2 : BitVec 32 := BitVec.ofNat 32 (i 2).val
  let c4_i32_196 : BitVec 32 := 4#32
  let v560 : BitVec 32 := Scalar.muli arg2 c4_i32_196
  let c0_i32_197 : BitVec 32 := 0#32
  let v561 : BitVec 32 := Scalar.addi v560 c0_i32_197
  let c128_i32_198 : BitVec 32 := 128#32
  let v562 : BitVec 32 := Scalar.muli v561 c128_i32_198
  v562
def k0_mult22 (i : grid0.Coords) : BitVec 32 :=
  let arg2 : BitVec 32 := BitVec.ofNat 32 (i 2).val
  let c4_i32_231 : BitVec 32 := 4#32
  let v642 : BitVec 32 := Scalar.muli arg2 c4_i32_231
  let c1_i32_232 : BitVec 32 := 1#32
  let v643 : BitVec 32 := Scalar.addi v642 c1_i32_232
  let c128_i32_233 : BitVec 32 := 128#32
  let v644 : BitVec 32 := Scalar.muli v643 c128_i32_233
  v644
def k0_mult23 (i : grid0.Coords) : BitVec 32 :=
  let arg2 : BitVec 32 := BitVec.ofNat 32 (i 2).val
  let c4_i32_266 : BitVec 32 := 4#32
  let v742 : BitVec 32 := Scalar.muli arg2 c4_i32_266
  let c2_i32_267 : BitVec 32 := 2#32
  let v743 : BitVec 32 := Scalar.addi v742 c2_i32_267
  let c128_i32_268 : BitVec 32 := 128#32
  let v744 : BitVec 32 := Scalar.muli v743 c128_i32_268
  v744
def k0_mult24 (i : grid0.Coords) : BitVec 32 :=
  let arg2 : BitVec 32 := BitVec.ofNat 32 (i 2).val
  let c4_i32_301 : BitVec 32 := 4#32
  let v842 : BitVec 32 := Scalar.muli arg2 c4_i32_301
  let c3_i32_302 : BitVec 32 := 3#32
  let v843 : BitVec 32 := Scalar.addi v842 c3_i32_302
  let c128_i32_303 : BitVec 32 := 128#32
  let v844 : BitVec 32 := Scalar.muli v843 c128_i32_303
  v844
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x10368 : Shape := ⟨2, ![4096, 10368]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x2048x1024 : Shape := ⟨3, ![2, 2048, 1024]⟩
abbrev S2x16x64x2048 : Shape := ⟨4, ![2, 16, 64, 2048]⟩

abbrev nBuf : Space → Nat
  | .hbm => 126
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .f32⟩
  | .hbm, ⟨3, _⟩ => ⟨S2x2048x16x64, .f32⟩
  | .hbm, ⟨4, _⟩ => ⟨S4096x1024, .f32⟩
  | .hbm, ⟨5, _⟩ => ⟨S2x2048x16x64, .f32⟩
  | .hbm, ⟨6, _⟩ => ⟨S4096x1024, .f32⟩
  | .hbm, ⟨7, _⟩ => ⟨S2x2048x16x64, .f32⟩
  | .hbm, ⟨8, _⟩ => ⟨S2x16x2048x64, .f32⟩
  | .hbm, ⟨9, _⟩ => ⟨S_, .f32⟩
  | .hbm, ⟨10, _⟩ => ⟨S2x16x2048x64, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .i1⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048x2048, .f32⟩
  | .hbm, ⟨40, _⟩ => ⟨S2x16x2048x2048, .i1⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048x2048, .f32⟩
  | .hbm, ⟨46, _⟩ => ⟨S2x16x2048x2048, .i1⟩
  | .hbm, ⟨47, _⟩ => ⟨S_, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x16x2048x2048, .f32⟩
  | .hbm, ⟨60, _⟩ => ⟨S2x16x2048x2048, .i1⟩
  | .hbm, ⟨61, _⟩ => ⟨S_, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S2x16x2048x2048, .f32⟩
  | .hbm, ⟨66, _⟩ => ⟨S2x16x2048x2048, .f32⟩
  | .hbm, ⟨67, _⟩ => ⟨S_, .f32⟩
  | .hbm, ⟨68, _⟩ => ⟨S2x16x2048x2048, .f32⟩
  | .hbm, ⟨69, _⟩ => ⟨S2x16x2048x2048, .f32⟩
  | .hbm, ⟨70, _⟩ => ⟨S2x16x2048x2048, .f32⟩
  | .hbm, ⟨71, _⟩ => ⟨S_, .f32⟩
  | .hbm, ⟨72, _⟩ => ⟨S_, .f32⟩
  | .hbm, ⟨73, _⟩ => ⟨S2x16x2048x2048, .i1⟩
  | .hbm, ⟨74, _⟩ => ⟨S2x16x2048x2048, .f32⟩
  | .hbm, ⟨75, _⟩ => ⟨S2x16x2048x2048, .f32⟩
  | .hbm, ⟨76, _⟩ => ⟨S_, .f32⟩
  | .hbm, ⟨77, _⟩ => ⟨S2x16x2048x2048, .f32⟩
  | .hbm, ⟨78, _⟩ => ⟨S_, .f32⟩
  | .hbm, ⟨79, _⟩ => ⟨S_, .f32⟩
  | .hbm, ⟨80, _⟩ => ⟨S2x16x2048x2048, .f32⟩
  | .hbm, ⟨81, _⟩ => ⟨S2x16x2048x2048, .f32⟩
  | .hbm, ⟨82, _⟩ => ⟨S2x16x2048x2048, .f32⟩
  | .hbm, ⟨83, _⟩ => ⟨S_, .f32⟩
  | .hbm, ⟨84, _⟩ => ⟨S_, .f32⟩
  | .hbm, ⟨85, _⟩ => ⟨S2x16x2048x2048, .i1⟩
  | .hbm, ⟨86, _⟩ => ⟨S2x16x2048x2048, .f32⟩
  | .hbm, ⟨87, _⟩ => ⟨S2x16x2048x2048, .f32⟩
  | .hbm, ⟨88, _⟩ => ⟨S_, .f32⟩
  | .hbm, ⟨89, _⟩ => ⟨S2x16x2048x2048, .f32⟩
  | .hbm, ⟨90, _⟩ => ⟨S2x16x2048x64, .f32⟩
  | .hbm, ⟨91, _⟩ => ⟨S2x2048x16x64, .f32⟩
  | .hbm, ⟨92, _⟩ => ⟨S2x2048x1024, .f32⟩
  | .hbm, ⟨93, _⟩ => ⟨S2x2048x1024, .f32⟩
  | .hbm, ⟨94, _⟩ => ⟨S2x2048x16x64, .f32⟩
  | .hbm, ⟨95, _⟩ => ⟨S2x16x2048x64, .f32⟩
  | .hbm, ⟨96, _⟩ => ⟨S2x16x64x2048, .f32⟩
  | .hbm, ⟨97, _⟩ => ⟨S2x16x2048x64, .f32⟩
  | .hbm, ⟨98, _⟩ => ⟨S2x16x2048x2048, .f32⟩
  | .hbm, ⟨99, _⟩ => ⟨S_, .f32⟩
  | .hbm, ⟨100, _⟩ => ⟨S2x16x2048x2048, .f32⟩
  | .hbm, ⟨101, _⟩ => ⟨S2x16x2048x2048, .f32⟩
  | .hbm, ⟨102, _⟩ => ⟨S2x16x2048x2048, .f32⟩
  | .hbm, ⟨103, _⟩ => ⟨S_, .f32⟩
  | .hbm, ⟨104, _⟩ => ⟨S_, .f32⟩
  | .hbm, ⟨105, _⟩ => ⟨S2x16x2048x2048, .f32⟩
  | .hbm, ⟨106, _⟩ => ⟨S_, .f32⟩
  | .hbm, ⟨107, _⟩ => ⟨S2x16x2048x2048, .f32⟩
  | .hbm, ⟨108, _⟩ => ⟨S2x16x2048x2048, .f32⟩
  | .hbm, ⟨109, _⟩ => ⟨S2x16x2048x2048, .f32⟩
  | .hbm, ⟨110, _⟩ => ⟨S2x16x2048x2048, .f32⟩
  | .hbm, ⟨111, _⟩ => ⟨S2x16x2048x2048, .f32⟩
  | .hbm, ⟨112, _⟩ => ⟨S2x16x2048x2048, .f32⟩
  | .hbm, ⟨113, _⟩ => ⟨S2x16x2048x2048, .f32⟩
  | .hbm, ⟨114, _⟩ => ⟨S2x16x2048x64, .f32⟩
  | .hbm, ⟨115, _⟩ => ⟨S2x16x2048x64, .f32⟩
  | .hbm, ⟨116, _⟩ => ⟨S2x2048x16x64, .f32⟩
  | .hbm, ⟨117, _⟩ => ⟨S2x2048x16x64, .f32⟩
  | .hbm, ⟨118, _⟩ => ⟨S_, .f32⟩
  | .hbm, ⟨119, _⟩ => ⟨S2x16x2048x64, .f32⟩
  | .hbm, ⟨120, _⟩ => ⟨S2x16x2048x64, .f32⟩
  | .hbm, ⟨121, _⟩ => ⟨S2x2048x16x64, .f32⟩
  | .hbm, ⟨122, _⟩ => ⟨S4096x1024, .f32⟩
  | .hbm, ⟨123, _⟩ => ⟨S4096x1024, .bf16⟩
  | .hbm, ⟨124, _⟩ => ⟨S4096x1024, .f32⟩
  | .hbm, ⟨125, _⟩ => ⟨S4096x1024, .f32⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_1 : Ref sig .tc := ⟨.hbm, 83, rfl⟩
abbrev main_call3_v0 : Ref sig .tc := ⟨.hbm, 84, rfl⟩
abbrev main_v25_1 : Ref sig .tc := ⟨.hbm, 85, rfl⟩
abbrev main_call3_v2 : Ref sig .tc := ⟨.hbm, 86, rfl⟩
abbrev main_v25_0 : Ref sig .tc := ⟨.hbm, 87, rfl⟩
abbrev main_call3_cst : Ref sig .tc := ⟨.hbm, 88, rfl⟩
abbrev main_v25_2 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_cst : Ref sig .tc := ⟨.hbm, 99, rfl⟩
abbrev main_call4_v0 : Ref sig .tc := ⟨.hbm, 100, rfl⟩
abbrev main_v35 : Ref sig .tc := ⟨.hbm, 101, rfl⟩
abbrev main_v36 : Ref sig .tc := ⟨.hbm, 102, rfl⟩
abbrev main_call5_cst : Ref sig .tc := ⟨.hbm, 103, rfl⟩
abbrev main_call5_v0 : Ref sig .tc := ⟨.hbm, 104, rfl⟩
abbrev main_v37 : Ref sig .tc := ⟨.hbm, 105, rfl⟩
abbrev main_call6_cst : Ref sig .tc := ⟨.hbm, 106, rfl⟩
abbrev main_call6_v0 : Ref sig .tc := ⟨.hbm, 107, rfl⟩
abbrev main_v38 : Ref sig .tc := ⟨.hbm, 108, rfl⟩
abbrev main_call7_v0 : Ref sig .tc := ⟨.hbm, 109, rfl⟩
abbrev main_call7_v1 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_2 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩

abbrev nD : Nat := 1
abbrev τ : Topo := Topo.v7x

variable {F : FTy → Type} [FloatOps F]
-- ==== DH1.lean ====
abbrev S4096x10368 : Shape := ⟨2, ![4096, 10368]⟩
abbrev S1024x10368 : Shape := ⟨2, ![1024, 10368]⟩
abbrev S4096x1024 : Shape := ⟨2, ![4096, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10368, .bf16⟩
  | .hbm, ⟨1, _⟩ => ⟨S1024x10368, .bf16⟩
  | .hbm, ⟨2, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1RefIdeal.lean ====
abbrev S4096x10368 : Shape := ⟨2, ![4096, 10368]⟩
abbrev S1024x10368 : Shape := ⟨2, ![1024, 10368]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S1024x10368, .bf16⟩
  | .hbm, ⟨2, _⟩ => ⟨S_, .f32⟩
  | .hbm, ⟨3, _⟩ => ⟨S4096x1024, .f32⟩
  | .hbm, ⟨4, _⟩ => ⟨S1024x10368, .f32⟩
  | .hbm, ⟨5, _⟩ => ⟨S4096x10368, .f32⟩
  | .hbm, ⟨6, _⟩ => ⟨S4096x10368, .f32⟩
  | .hbm, ⟨7, _⟩ => ⟨S4096x1024, .f32⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWIn.lean ====
abbrev S4096x1024 : Shape := ⟨2, ![4096, 1024]⟩
abbrev S4096x10368 : Shape := ⟨2, ![4096, 10368]⟩
abbrev S1024x10368 : Shape := ⟨2, ![1024, 10368]⟩
abbrev S2048x512 : Shape := ⟨2, ![2048, 512]⟩
abbrev S2048x1152 : Shape := ⟨2, ![2048, 1152]⟩
abbrev S512x1152 : Shape := ⟨2, ![512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x10368, .bf16⟩
  | .hbm, ⟨2, _⟩ => ⟨S1024x10368, .f32⟩
  | .local _ .vmem, ⟨0, _⟩ => ⟨S2048x512, .bf16⟩
  | .local _ .vmem, ⟨1, _⟩ => ⟨S2048x512, .bf16⟩
  | .local _ .vmem, ⟨2, _⟩ => ⟨S2048x1152, .bf16⟩
  | .local _ .vmem, ⟨3, _⟩ => ⟨S2048x1152, .bf16⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S4096x1024 : Shape := ⟨2, ![4096, 1024]⟩
abbrev S4096x10368 : Shape := ⟨2, ![4096, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10368, .bf16⟩
  | .hbm, ⟨2, _⟩ => ⟨S_, .f32⟩
  | .hbm, ⟨3, _⟩ => ⟨S1024x10368, .f32⟩
  | .hbm, ⟨4, _⟩ => ⟨S4096x1024, .f32⟩
  | .hbm, ⟨5, _⟩ => ⟨S4096x10368, .f32⟩
  | .hbm, ⟨6, _⟩ => ⟨S4096x10368, .f32⟩
  | .hbm, ⟨7, _⟩ => ⟨S10368x1024, .f32⟩
  | .hbm, ⟨8, _⟩ => ⟨S1024x10368, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWDown.lean ====
abbrev S4096x2816 : Shape := ⟨2, ![4096, 2816]⟩
abbrev S4096x1024 : Shape := ⟨2, ![4096, 1024]⟩
abbrev S2816x1024 : Shape := ⟨2, ![2816, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH3.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH3RefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWGu.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWGuRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DOxa.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOxaRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH2.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWXo.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWXoRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMem.lean ====
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S512x1024, .f32⟩
  | .local _ .vmem, ⟨0, _⟩ => ⟨S512x2048, .bf16⟩
  | .local _ .vmem, ⟨1, _⟩ => ⟨S1024x2048, .bf16⟩
  | .local _ .vmem, ⟨2, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DMemRefIdeal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S_, .f32⟩
  | .hbm, ⟨3, _⟩ => ⟨S512x1024, .f32⟩
  | .hbm, ⟨4, _⟩ => ⟨S1024x2048, .f32⟩
  | .hbm, ⟨5, _⟩ => ⟨S512x2048, .f32⟩
  | .hbm, ⟨6, _⟩ => ⟨S512x2048, .f32⟩
  | .hbm, ⟨7, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWXkv.lean ====
abbrev S512x1024 : Shape := ⟨2, ![512, 1024]⟩
abbrev S512x2048 : Shape := ⟨2, ![512, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWXkvRefIdeal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S_, .f32⟩
  | .hbm, ⟨3, _⟩ => ⟨S1024x2048, .f32⟩
  | .hbm, ⟨4, _⟩ => ⟨S512x1024, .f32⟩
  | .hbm, ⟨5, _⟩ => ⟨S512x2048, .f32⟩
  | .hbm, ⟨6, _⟩ => ⟨S512x2048, .f32⟩
  | .hbm, ⟨7, _⟩ => ⟨S2048x1024, .f32⟩
  | .hbm, ⟨8, _⟩ => ⟨S1024x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWAtt.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWAttRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOssm.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOssmRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWSsm.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWSsmRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MProj.lean ====
abbrev S4096x1024 : Shape := ⟨2, ![4096, 1024]⟩
abbrev S1024x10368 : Shape := ⟨2, ![1024, 10368]⟩
abbrev S4096x10368 : Shape := ⟨2, ![4096, 10368]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x10368, .bf16⟩
  | .hbm, ⟨2, _⟩ => ⟨S4096x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MProjRefIdeal.lean ====
abbrev S4096x1024 : Shape := ⟨2, ![4096, 1024]⟩
abbrev S1024x10368 : Shape := ⟨2, ![1024, 10368]⟩
abbrev S4096x10368 : Shape := ⟨2, ![4096, 10368]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x10368, .bf16⟩
  | .hbm, ⟨2, _⟩ => ⟨S4096x1024, .f32⟩
  | .hbm, ⟨3, _⟩ => ⟨S1024x10368, .f32⟩
  | .hbm, ⟨4, _⟩ => ⟨S4096x10368, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MAtt.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MAttRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MSsm.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MSsmRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MMix.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MMixRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MKv.lean ====
abbrev S512x1024 : Shape := ⟨2, ![512, 1024]⟩
abbrev S1024x2048 : Shape := ⟨2, ![1024, 2048]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x2048, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MKvRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x1024, .f32⟩
  | .hbm, ⟨3, _⟩ => ⟨S1024x2048, .f32⟩
  | .hbm, ⟨4, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MGu.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MGuRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ESwiglu.lean ====
abbrev S4096x5632 : Shape := ⟨2, ![4096, 5632]⟩
abbrev S4096x2816 : Shape := ⟨2, ![4096, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S4096x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ESwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x5632, .f32⟩
  | .hbm, ⟨26, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== EMerge.lean ====
abbrev S4096x10368 : Shape := ⟨2, ![4096, 10368]⟩
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 7
  | .vmem => 16
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x2048, .bf16⟩
  | .hbm, ⟨5, _⟩ => ⟨S4096x1024, .bf16⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EMergeRefIdeal.lean ====
abbrev S4096x10368 : Shape := ⟨2, ![4096, 10368]⟩
abbrev S4096x1024 : Shape := ⟨2, ![4096, 1024]⟩
abbrev S_ : Shape := ⟨0, ![]⟩
abbrev S4096x2048 : Shape := ⟨2, ![4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x2048, .f32⟩
  | .hbm, ⟨41, _⟩ => ⟨S4096x2048, .bf16⟩
  | .hbm, ⟨42, _⟩ => ⟨S4096x1024, .bf16⟩
  | .hbm, ⟨43, _⟩ => ⟨S4096x1024, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== FSwiglu.lean ====
abbrev S4096x5632 : Shape := ⟨2, ![4096, 5632]⟩
abbrev S4096x2816 : Shape := ⟨2, ![4096, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FSwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== FMerge.lean ====
abbrev S4096x10368 : Shape := ⟨2, ![4096, 10368]⟩
abbrev S4096x1024 : Shape := ⟨2, ![4096, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FMergeRefIdeal.lean ====
abbrev S4096x10368 : Shape := ⟨2, ![4096, 10368]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AWIn.lean ====
abbrev S8x4x1024x1284 : Shape := ⟨4, ![8, 4, 1024, 1284]⟩
abbrev S4x1024x1284 : Shape := ⟨3, ![4, 1024, 1284]⟩
abbrev S8x1x128x1284 : Shape := ⟨4, ![8, 1, 128, 1284]⟩
abbrev S1x128x1284 : Shape := ⟨3, ![1, 128, 1284]⟩
abbrev S1x1x128x1284 : Shape := ⟨4, ![1, 1, 128, 1284]⟩
abbrev S128x1284 : Shape := ⟨2, ![128, 1284]⟩

abbrev nBuf : Space → Nat
  | .hbm => 8
  | .vmem => 16
  | .smem => 0
  | _ => 0

abbrev bufTy : (tb : Table) → Fin (tcTables nBuf tb) → BufTy
  | .hbm, ⟨0, _⟩ => ⟨S8x4x1024x1284, .bf16⟩
  | .hbm, ⟨1, _⟩ => ⟨S4x1024x1284, .f32⟩
  | .hbm, ⟨2, _⟩ => ⟨S4x1024x1284, .f32⟩
  | .hbm, ⟨3, _⟩ => ⟨S4x1024x1284, .f32⟩
  | .hbm, ⟨4, _⟩ => ⟨S4x1024x1284, .f32⟩
  | .hbm, ⟨5, _⟩ => ⟨S4x1024x1284, .f32⟩
  | .hbm, ⟨6, _⟩ => ⟨S4x1024x1284, .f32⟩
  | .hbm, ⟨7, _⟩ => ⟨S4x1024x1284, .f32⟩
  | .local _ .vmem, ⟨0, _⟩ => ⟨S8x1x128x1284, .bf16⟩
  | .local _ .vmem, ⟨1, _⟩ => ⟨S8x1x128x1284, .bf16⟩
  | .local _ .vmem, ⟨2, _⟩ => ⟨S1x128x1284, .f32⟩
  | .local _ .vmem, ⟨3, _⟩ => ⟨S1x128x1284, .f32⟩
  | .local _ .vmem, ⟨4, _⟩ => ⟨S1x128x1284, .f32⟩
  | .local _ .vmem, ⟨5, _⟩ => ⟨S1x128x1284, .f32⟩
  | .local _ .vmem, ⟨6, _⟩ => ⟨S1x128x1284, .f32⟩
  | .local _ .vmem, ⟨7, _⟩ => ⟨S1x128x1284, .f32⟩
  | .local _ .vmem, ⟨8, _⟩ => ⟨S1x128x1284, .f32⟩
  | .local _ .vmem, ⟨9, _⟩ => ⟨S1x128x1284, .f32⟩
  | .local _ .vmem, ⟨10, _⟩ => ⟨S1x128x1284, .f32⟩
  | .local _ .vmem, ⟨11, _⟩ => ⟨S1x128x1284, .f32⟩
  | .local _ .vmem, ⟨12, _⟩ => ⟨S1x128x1284, .f32⟩
  | .local _ .vmem, ⟨13, _⟩ => ⟨S1x128x1284, .f32⟩
  | .local _ .vmem, ⟨14, _⟩ => ⟨S1x128x1284, .f32⟩
  | .local _ .vmem, ⟨15, _⟩ => ⟨S1x128x1284, .f32⟩
  | _, _ => ⟨S8x4x1024x1284, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1284 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AWInRefIdeal.lean ====
abbrev S8x4x1024x1284 : Shape := ⟨4, ![8, 4, 1024, 1284]⟩
abbrev S4x1024x1284 : Shape := ⟨3, ![4, 1024, 1284]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x1024x1284, .bf16⟩
  | .hbm, ⟨1, _⟩ => ⟨S4x1024x1284, .f32⟩
  | .hbm, ⟨2, _⟩ => ⟨S4x1024x1284, .f32⟩
  | .hbm, ⟨3, _⟩ => ⟨S4x1024x1284, .f32⟩
  | .hbm, ⟨4, _⟩ => ⟨S8x4x1024x1284, .f32⟩
  | .hbm, ⟨5, _⟩ => ⟨S_, .f32⟩
  | .hbm, ⟨6, _⟩ => ⟨S4x1024x1284, .f32⟩
  | .hbm, ⟨7, _⟩ => ⟨S_, .f32⟩
  | .hbm, ⟨8, _⟩ => ⟨S4x1024x1284, .f32⟩
  | .hbm, ⟨9, _⟩ => ⟨S4x1024x1284, .f32⟩
  | .hbm, ⟨10, _⟩ => ⟨S_, .f32⟩
  | .hbm, ⟨11, _⟩ => ⟨S4x1024x1284, .f32⟩
  | .hbm, ⟨12, _⟩ => ⟨S4x1024x1284, .f32⟩
  | .hbm, ⟨13, _⟩ => ⟨S4x1024x1284, .f32⟩
  | .hbm, ⟨14, _⟩ => ⟨S_, .f32⟩
  | .hbm, ⟨15, _⟩ => ⟨S4x1024x1284, .f32⟩
  | .hbm, ⟨16, _⟩ => ⟨S4x1024x1284, .f32⟩
  | .hbm, ⟨17, _⟩ => ⟨S4x1024x1284, .f32⟩
  | .hbm, ⟨18, _⟩ => ⟨S_, .f32⟩
  | .hbm, ⟨19, _⟩ => ⟨S4x1024x1284, .f32⟩
  | .hbm, ⟨20, _⟩ => ⟨S4x1024x1284, .f32⟩
  | .hbm, ⟨21, _⟩ => ⟨S4x1024x1284, .f32⟩
  | .hbm, ⟨22, _⟩ => ⟨S_, .f32⟩
  | .hbm, ⟨23, _⟩ => ⟨S4x1024x1284, .f32⟩
  | .hbm, ⟨24, _⟩ => ⟨S4x1024x1284, .f32⟩
  | .hbm, ⟨25, _⟩ => ⟨S_, .f32⟩
  | .hbm, ⟨26, _⟩ => ⟨S4x1024x1284, .f32⟩
  | .hbm, ⟨27, _⟩ => ⟨S4x1024x1284, .f32⟩
  | .hbm, ⟨28, _⟩ => ⟨S4x1024x1284, .f32⟩
  | .hbm, ⟨29, _⟩ => ⟨S_, .f32⟩
  | .hbm, ⟨30, _⟩ => ⟨S4x1024x1284, .f32⟩
  | .hbm, ⟨31, _⟩ => ⟨S4x1024x1284, .f32⟩
  | .hbm, ⟨32, _⟩ => ⟨S4x1024x1284, .f32⟩
  | .hbm, ⟨33, _⟩ => ⟨S_, .f32⟩
  | .hbm, ⟨34, _⟩ => ⟨S4x1024x1284, .f32⟩
  | .hbm, ⟨35, _⟩ => ⟨S4x1024x1284, .f32⟩
  | .hbm, ⟨36, _⟩ => ⟨S4x1024x1284, .f32⟩
  | .hbm, ⟨37, _⟩ => ⟨S_, .f32⟩
  | .hbm, ⟨38, _⟩ => ⟨S4x1024x1284, .f32⟩
  | .hbm, ⟨39, _⟩ => ⟨S4x1024x1284, .f32⟩
  | _, _ => ⟨S8x4x1024x1284, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ABrAtt.lean ====
abbrev S8x4x128x1024 : Shape := ⟨4, ![8, 4, 128, 1024]⟩
abbrev S4x128x1024 : Shape := ⟨3, ![4, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ABrAttRefIdeal.lean ====
abbrev S8x4x128x1024 : Shape := ⟨4, ![8, 4, 128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S8x4x128x1024, .f32⟩
  | .hbm, ⟨5, _⟩ => ⟨S_, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S_, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S_, .f32⟩
  | .hbm, ⟨15, _⟩ => ⟨S4x128x1024, .f32⟩
  | .hbm, ⟨16, _⟩ => ⟨S4x128x1024, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | _, _ => ⟨S8x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ABrSsm.lean ====
abbrev S8x4x256x1024 : Shape := ⟨4, ![8, 4, 256, 1024]⟩
abbrev S4x256x1024 : Shape := ⟨3, ![4, 256, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x256x1024, .bf16⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ABrSsmRefIdeal.lean ====
abbrev S8x4x256x1024 : Shape := ⟨4, ![8, 4, 256, 1024]⟩
abbrev S4x256x1024 : Shape := ⟨3, ![4, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x256x1024, .bf16⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S8x4x256x1024, .f32⟩
  | .hbm, ⟨5, _⟩ => ⟨S_, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S_, .f32⟩
  | .hbm, ⟨38, _⟩ => ⟨S4x256x1024, .f32⟩
  | .hbm, ⟨39, _⟩ => ⟨S4x256x1024, .f32⟩
  | _, _ => ⟨S8x4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AXkv.lean ====
abbrev S8x4x1024x256 : Shape := ⟨4, ![8, 4, 1024, 256]⟩
abbrev S4x1024x256 : Shape := ⟨3, ![4, 1024, 256]⟩
abbrev S8x1x128x256 : Shape := ⟨4, ![8, 1, 128, 256]⟩
abbrev S1x128x256 : Shape := ⟨3, ![1, 128, 256]⟩
abbrev S1x1x128x256 : Shape := ⟨4, ![1, 1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x4x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .local _ .vmem, ⟨0, _⟩ => ⟨S8x1x128x256, .bf16⟩
  | .local _ .vmem, ⟨1, _⟩ => ⟨S8x1x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AXkvRefIdeal.lean ====
abbrev S8x4x1024x256 : Shape := ⟨4, ![8, 4, 1024, 256]⟩
abbrev S4x1024x256 : Shape := ⟨3, ![4, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S8x4x1024x256, .f32⟩
  | .hbm, ⟨5, _⟩ => ⟨S_, .f32⟩
  | .hbm, ⟨6, _⟩ => ⟨S4x1024x256, .f32⟩
  | .hbm, ⟨7, _⟩ => ⟨S_, .f32⟩
  | .hbm, ⟨8, _⟩ => ⟨S4x1024x256, .f32⟩
  | .hbm, ⟨9, _⟩ => ⟨S4x1024x256, .f32⟩
  | .hbm, ⟨10, _⟩ => ⟨S_, .f32⟩
  | .hbm, ⟨11, _⟩ => ⟨S4x1024x256, .f32⟩
  | .hbm, ⟨12, _⟩ => ⟨S4x1024x256, .f32⟩
  | .hbm, ⟨13, _⟩ => ⟨S4x1024x256, .f32⟩
  | .hbm, ⟨14, _⟩ => ⟨S_, .f32⟩
  | .hbm, ⟨15, _⟩ => ⟨S4x1024x256, .f32⟩
  | .hbm, ⟨16, _⟩ => ⟨S4x1024x256, .f32⟩
  | .hbm, ⟨17, _⟩ => ⟨S4x1024x256, .f32⟩
  | .hbm, ⟨18, _⟩ => ⟨S_, .f32⟩
  | .hbm, ⟨19, _⟩ => ⟨S4x1024x256, .f32⟩
  | .hbm, ⟨20, _⟩ => ⟨S4x1024x256, .f32⟩
  | .hbm, ⟨21, _⟩ => ⟨S4x1024x256, .f32⟩
  | .hbm, ⟨22, _⟩ => ⟨S_, .f32⟩
  | .hbm, ⟨23, _⟩ => ⟨S4x1024x256, .f32⟩
  | .hbm, ⟨24, _⟩ => ⟨S4x1024x256, .f32⟩
  | .hbm, ⟨25, _⟩ => ⟨S_, .f32⟩
  | .hbm, ⟨26, _⟩ => ⟨S4x1024x256, .f32⟩
  | .hbm, ⟨27, _⟩ => ⟨S4x1024x256, .f32⟩
  | .hbm, ⟨28, _⟩ => ⟨S4x1024x256, .f32⟩
  | .hbm, ⟨29, _⟩ => ⟨S_, .f32⟩
  | .hbm, ⟨30, _⟩ => ⟨S4x1024x256, .f32⟩
  | .hbm, ⟨31, _⟩ => ⟨S4x1024x256, .f32⟩
  | .hbm, ⟨32, _⟩ => ⟨S4x1024x256, .f32⟩
  | .hbm, ⟨33, _⟩ => ⟨S_, .f32⟩
  | .hbm, ⟨34, _⟩ => ⟨S4x1024x256, .f32⟩
  | .hbm, ⟨35, _⟩ => ⟨S4x1024x256, .f32⟩
  | .hbm, ⟨36, _⟩ => ⟨S4x1024x256, .f32⟩
  | .hbm, ⟨37, _⟩ => ⟨S_, .f32⟩
  | .hbm, ⟨38, _⟩ => ⟨S4x1024x256, .f32⟩
  | .hbm, ⟨39, _⟩ => ⟨S4x1024x256, .f32⟩
  | _, _ => ⟨S8x4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AGu.lean ====
abbrev S8x4x1024x704 : Shape := ⟨4, ![8, 4, 1024, 704]⟩
abbrev S4x1024x704 : Shape := ⟨3, ![4, 1024, 704]⟩
abbrev S8x1x128x704 : Shape := ⟨4, ![8, 1, 128, 704]⟩
abbrev S1x128x704 : Shape := ⟨3, ![1, 128, 704]⟩
abbrev S1x1x128x704 : Shape := ⟨4, ![1, 1, 128, 704]⟩
abbrev S128x704 : Shape := ⟨2, ![128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x4x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .local _ .vmem, ⟨0, _⟩ => ⟨S8x1x128x704, .bf16⟩
  | .local _ .vmem, ⟨1, _⟩ => ⟨S8x1x128x704, .bf16⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | _, _ => ⟨S8x4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AGuRefIdeal.lean ====
abbrev S8x4x1024x704 : Shape := ⟨4, ![8, 4, 1024, 704]⟩
abbrev S4x1024x704 : Shape := ⟨3, ![4, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S8x4x1024x704, .f32⟩
  | .hbm, ⟨5, _⟩ => ⟨S_, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .hbm, ⟨14, _⟩ => ⟨S_, .f32⟩
  | .hbm, ⟨15, _⟩ => ⟨S4x1024x704, .f32⟩
  | .hbm, ⟨16, _⟩ => ⟨S4x1024x704, .f32⟩
  | .hbm, ⟨17, _⟩ => ⟨S4x1024x704, .f32⟩
  | .hbm, ⟨18, _⟩ => ⟨S_, .f32⟩
  | .hbm, ⟨19, _⟩ => ⟨S4x1024x704, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S_, .f32⟩
  | .hbm, ⟨26, _⟩ => ⟨S4x1024x704, .f32⟩
  | .hbm, ⟨27, _⟩ => ⟨S4x1024x704, .f32⟩
  | .hbm, ⟨28, _⟩ => ⟨S4x1024x704, .f32⟩
  | .hbm, ⟨29, _⟩ => ⟨S_, .f32⟩
  | .hbm, ⟨30, _⟩ => ⟨S4x1024x704, .f32⟩
  | .hbm, ⟨31, _⟩ => ⟨S4x1024x704, .f32⟩
  | .hbm, ⟨32, _⟩ => ⟨S4x1024x704, .f32⟩
  | .hbm, ⟨33, _⟩ => ⟨S_, .f32⟩
  | .hbm, ⟨34, _⟩ => ⟨S4x1024x704, .f32⟩
  | .hbm, ⟨35, _⟩ => ⟨S4x1024x704, .f32⟩
  | .hbm, ⟨36, _⟩ => ⟨S4x1024x704, .f32⟩
  | .hbm, ⟨37, _⟩ => ⟨S_, .f32⟩
  | .hbm, ⟨38, _⟩ => ⟨S4x1024x704, .f32⟩
  | .hbm, ⟨39, _⟩ => ⟨S4x1024x704, .f32⟩
  | _, _ => ⟨S8x4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ADown.lean ====
abbrev S8x4x352x1024 : Shape := ⟨4, ![8, 4, 352, 1024]⟩
abbrev S4x352x1024 : Shape := ⟨3, ![4, 352, 1024]⟩
abbrev S8x1x32x1024 : Shape := ⟨4, ![8, 1, 32, 1024]⟩
abbrev S1x32x1024 : Shape := ⟨3, ![1, 32, 1024]⟩
abbrev S1x1x32x1024 : Shape := ⟨4, ![1, 1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S8x1x32x1024, .bf16⟩
  | .local _ .vmem, ⟨1, _⟩ => ⟨S8x1x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ADownRefIdeal.lean ====
abbrev S8x4x352x1024 : Shape := ⟨4, ![8, 4, 352, 1024]⟩
abbrev S4x352x1024 : Shape := ⟨3, ![4, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S8x4x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | _, _ => ⟨S8x4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AConv.lean ====
abbrev S8x1x16x384 : Shape := ⟨4, ![8, 1, 16, 384]⟩
abbrev S1x16x384 : Shape := ⟨3, ![1, 16, 384]⟩
abbrev S1x1x16x384 : Shape := ⟨4, ![1, 1, 16, 384]⟩
abbrev S16x384 : Shape := ⟨2, ![16, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x1x16x384, .f32⟩
  | .hbm, ⟨1, _⟩ => ⟨S1x16x384, .f32⟩
  | .hbm, ⟨2, _⟩ => ⟨S1x16x384, .f32⟩
  | .hbm, ⟨3, _⟩ => ⟨S1x16x384, .f32⟩
  | .hbm, ⟨4, _⟩ => ⟨S1x16x384, .f32⟩
  | .hbm, ⟨5, _⟩ => ⟨S1x16x384, .f32⟩
  | .hbm, ⟨6, _⟩ => ⟨S1x16x384, .f32⟩
  | .hbm, ⟨7, _⟩ => ⟨S1x16x384, .f32⟩
  | .local _ .vmem, ⟨0, _⟩ => ⟨S8x1x16x384, .f32⟩
  | .local _ .vmem, ⟨1, _⟩ => ⟨S1x16x384, .f32⟩
  | .local _ .vmem, ⟨2, _⟩ => ⟨S1x16x384, .f32⟩
  | .local _ .vmem, ⟨3, _⟩ => ⟨S1x16x384, .f32⟩
  | .local _ .vmem, ⟨4, _⟩ => ⟨S1x16x384, .f32⟩
  | .local _ .vmem, ⟨5, _⟩ => ⟨S1x16x384, .f32⟩
  | .local _ .vmem, ⟨6, _⟩ => ⟨S1x16x384, .f32⟩
  | .local _ .vmem, ⟨7, _⟩ => ⟨S1x16x384, .f32⟩
  | _, _ => ⟨S8x1x16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AConvRefIdeal.lean ====
abbrev S8x1x16x384 : Shape := ⟨4, ![8, 1, 16, 384]⟩
abbrev S1x16x384 : Shape := ⟨3, ![1, 16, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x16x384, .f32⟩
  | .hbm, ⟨1, _⟩ => ⟨S1x16x384, .f32⟩
  | .hbm, ⟨2, _⟩ => ⟨S1x16x384, .f32⟩
  | .hbm, ⟨3, _⟩ => ⟨S1x16x384, .f32⟩
  | .hbm, ⟨4, _⟩ => ⟨S_, .f32⟩
  | .hbm, ⟨5, _⟩ => ⟨S1x16x384, .f32⟩
  | .hbm, ⟨6, _⟩ => ⟨S_, .f32⟩
  | .hbm, ⟨7, _⟩ => ⟨S1x16x384, .f32⟩
  | .hbm, ⟨8, _⟩ => ⟨S1x16x384, .f32⟩
  | .hbm, ⟨9, _⟩ => ⟨S_, .f32⟩
  | .hbm, ⟨10, _⟩ => ⟨S1x16x384, .f32⟩
  | .hbm, ⟨11, _⟩ => ⟨S1x16x384, .f32⟩
  | .hbm, ⟨12, _⟩ => ⟨S1x16x384, .f32⟩
  | .hbm, ⟨13, _⟩ => ⟨S_, .f32⟩
  | .hbm, ⟨14, _⟩ => ⟨S1x16x384, .f32⟩
  | .hbm, ⟨15, _⟩ => ⟨S1x16x384, .f32⟩
  | .hbm, ⟨16, _⟩ => ⟨S1x16x384, .f32⟩
  | .hbm, ⟨17, _⟩ => ⟨S_, .f32⟩
  | .hbm, ⟨18, _⟩ => ⟨S1x16x384, .f32⟩
  | .hbm, ⟨19, _⟩ => ⟨S1x16x384, .f32⟩
  | .hbm, ⟨20, _⟩ => ⟨S1x16x384, .f32⟩
  | .hbm, ⟨21, _⟩ => ⟨S_, .f32⟩
  | .hbm, ⟨22, _⟩ => ⟨S1x16x384, .f32⟩
  | .hbm, ⟨23, _⟩ => ⟨S1x16x384, .f32⟩
  | .hbm, ⟨24, _⟩ => ⟨S_, .f32⟩
  | .hbm, ⟨25, _⟩ => ⟨S1x16x384, .f32⟩
  | .hbm, ⟨26, _⟩ => ⟨S1x16x384, .f32⟩
  | .hbm, ⟨27, _⟩ => ⟨S1x16x384, .f32⟩
  | .hbm, ⟨28, _⟩ => ⟨S_, .f32⟩
  | .hbm, ⟨29, _⟩ => ⟨S1x16x384, .f32⟩
  | .hbm, ⟨30, _⟩ => ⟨S1x16x384, .f32⟩
  | .hbm, ⟨31, _⟩ => ⟨S1x16x384, .f32⟩
  | .hbm, ⟨32, _⟩ => ⟨S_, .f32⟩
  | .hbm, ⟨33, _⟩ => ⟨S1x16x384, .f32⟩
  | .hbm, ⟨34, _⟩ => ⟨S1x16x384, .f32⟩
  | .hbm, ⟨35, _⟩ => ⟨S1x16x384, .f32⟩
  | .hbm, ⟨36, _⟩ => ⟨S_, .f32⟩
  | .hbm, ⟨37, _⟩ => ⟨S1x16x384, .f32⟩
  | .hbm, ⟨38, _⟩ => ⟨S1x16x384, .f32⟩
  | _, _ => ⟨S8x1x16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ASmall.lean ====
abbrev S8x1x56x1024 : Shape := ⟨4, ![8, 1, 56, 1024]⟩
abbrev S1x56x1024 : Shape := ⟨3, ![1, 56, 1024]⟩
abbrev S1x1x56x1024 : Shape := ⟨4, ![1, 1, 56, 1024]⟩
abbrev S56x1024 : Shape := ⟨2, ![56, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x56x1024, .f32⟩
  | .hbm, ⟨1, _⟩ => ⟨S1x56x1024, .f32⟩
  | .hbm, ⟨2, _⟩ => ⟨S1x56x1024, .f32⟩
  | .hbm, ⟨3, _⟩ => ⟨S1x56x1024, .f32⟩
  | .hbm, ⟨4, _⟩ => ⟨S1x56x1024, .f32⟩
  | .hbm, ⟨5, _⟩ => ⟨S1x56x1024, .f32⟩
  | .hbm, ⟨6, _⟩ => ⟨S1x56x1024, .f32⟩
  | .hbm, ⟨7, _⟩ => ⟨S1x56x1024, .f32⟩
  | .local _ .vmem, ⟨0, _⟩ => ⟨S8x1x56x1024, .f32⟩
  | .local _ .vmem, ⟨1, _⟩ => ⟨S1x56x1024, .f32⟩
  | .local _ .vmem, ⟨2, _⟩ => ⟨S1x56x1024, .f32⟩
  | .local _ .vmem, ⟨3, _⟩ => ⟨S1x56x1024, .f32⟩
  | .local _ .vmem, ⟨4, _⟩ => ⟨S1x56x1024, .f32⟩
  | .local _ .vmem, ⟨5, _⟩ => ⟨S1x56x1024, .f32⟩
  | .local _ .vmem, ⟨6, _⟩ => ⟨S1x56x1024, .f32⟩
  | .local _ .vmem, ⟨7, _⟩ => ⟨S1x56x1024, .f32⟩
  | _, _ => ⟨S8x1x56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x56x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x56x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x56x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x56x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x56x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x56x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ASmallRefIdeal.lean ====
abbrev S8x1x56x1024 : Shape := ⟨4, ![8, 1, 56, 1024]⟩
abbrev S1x56x1024 : Shape := ⟨3, ![1, 56, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x56x1024, .f32⟩
  | .hbm, ⟨1, _⟩ => ⟨S1x56x1024, .f32⟩
  | .hbm, ⟨2, _⟩ => ⟨S1x56x1024, .f32⟩
  | .hbm, ⟨3, _⟩ => ⟨S1x56x1024, .f32⟩
  | .hbm, ⟨4, _⟩ => ⟨S_, .f32⟩
  | .hbm, ⟨5, _⟩ => ⟨S1x56x1024, .f32⟩
  | .hbm, ⟨6, _⟩ => ⟨S_, .f32⟩
  | .hbm, ⟨7, _⟩ => ⟨S1x56x1024, .f32⟩
  | .hbm, ⟨8, _⟩ => ⟨S1x56x1024, .f32⟩
  | .hbm, ⟨9, _⟩ => ⟨S_, .f32⟩
  | .hbm, ⟨10, _⟩ => ⟨S1x56x1024, .f32⟩
  | .hbm, ⟨11, _⟩ => ⟨S1x56x1024, .f32⟩
  | .hbm, ⟨12, _⟩ => ⟨S1x56x1024, .f32⟩
  | .hbm, ⟨13, _⟩ => ⟨S_, .f32⟩
  | .hbm, ⟨14, _⟩ => ⟨S1x56x1024, .f32⟩
  | .hbm, ⟨15, _⟩ => ⟨S1x56x1024, .f32⟩
  | .hbm, ⟨16, _⟩ => ⟨S1x56x1024, .f32⟩
  | .hbm, ⟨17, _⟩ => ⟨S_, .f32⟩
  | .hbm, ⟨18, _⟩ => ⟨S1x56x1024, .f32⟩
  | .hbm, ⟨19, _⟩ => ⟨S1x56x1024, .f32⟩
  | .hbm, ⟨20, _⟩ => ⟨S1x56x1024, .f32⟩
  | .hbm, ⟨21, _⟩ => ⟨S_, .f32⟩
  | .hbm, ⟨22, _⟩ => ⟨S1x56x1024, .f32⟩
  | .hbm, ⟨23, _⟩ => ⟨S1x56x1024, .f32⟩
  | .hbm, ⟨24, _⟩ => ⟨S_, .f32⟩
  | .hbm, ⟨25, _⟩ => ⟨S1x56x1024, .f32⟩
  | .hbm, ⟨26, _⟩ => ⟨S1x56x1024, .f32⟩
  | .hbm, ⟨27, _⟩ => ⟨S1x56x1024, .f32⟩
  | .hbm, ⟨28, _⟩ => ⟨S_, .f32⟩
  | .hbm, ⟨29, _⟩ => ⟨S1x56x1024, .f32⟩
  | .hbm, ⟨30, _⟩ => ⟨S1x56x1024, .f32⟩
  | .hbm, ⟨31, _⟩ => ⟨S1x56x1024, .f32⟩
  | .hbm, ⟨32, _⟩ => ⟨S_, .f32⟩
  | .hbm, ⟨33, _⟩ => ⟨S1x56x1024, .f32⟩
  | .hbm, ⟨34, _⟩ => ⟨S1x56x1024, .f32⟩
  | .hbm, ⟨35, _⟩ => ⟨S1x56x1024, .f32⟩
  | .hbm, ⟨36, _⟩ => ⟨S_, .f32⟩
  | .hbm, ⟨37, _⟩ => ⟨S1x56x1024, .f32⟩
  | .hbm, ⟨38, _⟩ => ⟨S1x56x1024, .f32⟩
  | _, _ => ⟨S8x1x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== EPre.lean ====
abbrev S4096x1024 : Shape := ⟨2, ![4096, 1024]⟩
abbrev S4x1x1024 : Shape := ⟨3, ![4, 1, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_15 : BitVec 32 := 0#32
  let v34 : BitVec 1 := Scalar.cmpi .ne v33 c0_i32_15
  v34

def k0_cond2 (i : grid0.Coords) : BitVec 1 :=
  let arg0 : BitVec 32 := BitVec.ofNat 32 (i 0).val
  let c0_i32_16 : BitVec 32 := 0#32
  let v35 : BitVec 1 := Scalar.cmpi .sgt arg0 c0_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== EPreRefIdeal.lean ====
abbrev S4096x1024 : Shape := ⟨2, ![4096, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1x1024, .f32⟩
  | .hbm, ⟨4, _⟩ => ⟨S1x1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Offsets.lean ====
/- The places of the left sweep's accesses in closed form.  The left sweep of query block `i 2` visits the key
   blocks `4 (i 2) - 1, 4 (i 2) - 2, …, 0`, four of them per trip. -/
module
public import proofs.«01_k».proof.Proof.Gen.KernelIdeal.Loops

@[expose] public section

set_option maxRecDepth 16384

noncomputable section

namespace Cert.KernelIdeal.Hand

open Idealize.ShloMosaic Cert.KernelIdeal Cert.KernelIdeal.Gen

theorem off10_eq : ∀ (i : grid0.Coords) (k : Fin (k0_t1_loop i).trips) (r : Fin 4),
    k0_off10 i k (BitVec.ofNat 32 r.val) = ![128 * (4 * (i 2).val - 1 - (4 * k.val + r.val)), 0] := by decide +kernel
theorem off11_eq : ∀ (i : grid0.Coords) (k : Fin (k0_t1_loop i).trips) (r : Fin 4),
    k0_off11 i k (BitVec.ofNat 32 r.val) = ![0, 4 * (i 2).val - 1 - (4 * k.val + r.val), 0, 0] := by decide +kernel
theorem off12_eq : ∀ (i : grid0.Coords) (k : Fin (k0_t1_loop i).trips) (r : Fin 4),
    k0_off12 i k (BitVec.ofNat 32 r.val) = ![1, 4 * (i 2).val - 1 - (4 * k.val + r.val), 0, 0] := by decide +kernel

/-- The left sweep makes as many trips as there are query blocks before this one. -/
theorem trips1 : ∀ i : grid0.Coords, (k0_t1_loop i).trips = (i 2).val := by decide +kernel
theorem trips2 : ∀ i : grid0.Coords, (k0_t2_loop i).trips = 0 := by decide +kernel
theorem trips3 : ∀ i : grid0.Coords, (k0_t3_loop i).trips = (i 2).val := by decide +kernel
theorem trips4 : ∀ i : grid0.Coords, (k0_t4_loop i).trips = 0 := by decide +kernel

instance closed10_0 (i : grid0.Coords) (k : Fin (k0_t1_loop i).trips) : ClosedOff (k0_off10 i k (BitVec.ofNat 32 0)) := ⟨![128 * (4 * (i 2).val - 1 - (4 * k.val + 0)), 0], off10_eq i k ⟨0, by decide⟩⟩
instance closed10_1 (i : grid0.Coords) (k : Fin (k0_t1_loop i).trips) : ClosedOff (k0_off10 i k (BitVec.ofNat 32 1)) := ⟨![128 * (4 * (i 2).val - 1 - (4 * k.val + 1)), 0], off10_eq i k ⟨1, by decide⟩⟩
instance closed10_2 (i : grid0.Coords) (k : Fin (k0_t1_loop i).trips) : ClosedOff (k0_off10 i k (BitVec.ofNat 32 2)) := ⟨![128 * (4 * (i 2).val - 1 - (4 * k.val + 2)), 0], off10_eq i k ⟨2, by decide⟩⟩
instance closed10_3 (i : grid0.Coords) (k : Fin (k0_t1_loop i).trips) : ClosedOff (k0_off10 i k (BitVec.ofNat 32 3)) := ⟨![128 * (4 * (i 2).val - 1 - (4 * k.val + 3)), 0], off10_eq i k ⟨3, by decide⟩⟩
instance closed11_0 (i : grid0.Coords) (k : Fin (k0_t1_loop i).trips) : ClosedOff (k0_off11 i k (BitVec.ofNat 32 0)) := ⟨![0, 4 * (i 2).val - 1 - (4 * k.val + 0), 0, 0], off11_eq i k ⟨0, by decide⟩⟩
instance closed11_1 (i : grid0.Coords) (k : Fin (k0_t1_loop i).trips) : ClosedOff (k0_off11 i k (BitVec.ofNat 32 1)) := ⟨![0, 4 * (i 2).val - 1 - (4 * k.val + 1), 0, 0], off11_eq i k ⟨1, by decide⟩⟩
instance closed11_2 (i : grid0.Coords) (k : Fin (k0_t1_loop i).trips) : ClosedOff (k0_off11 i k (BitVec.ofNat 32 2)) := ⟨![0, 4 * (i 2).val - 1 - (4 * k.val + 2), 0, 0], off11_eq i k ⟨2, by decide⟩⟩
instance closed11_3 (i : grid0.Coords) (k : Fin (k0_t1_loop i).trips) : ClosedOff (k0_off11 i k (BitVec.ofNat 32 3)) := ⟨![0, 4 * (i 2).val - 1 - (4 * k.val + 3), 0, 0], off11_eq i k ⟨3, by decide⟩⟩
instance closed12_0 (i : grid0.Coords) (k : Fin (k0_t1_loop i).trips) : ClosedOff (k0_off12 i k (BitVec.ofNat 32 0)) := ⟨![1, 4 * (i 2).val - 1 - (4 * k.val + 0), 0, 0], off12_eq i k ⟨0, by decide⟩⟩
instance closed12_1 (i : grid0.Coords) (k : Fin (k0_t1_loop i).trips) : ClosedOff (k0_off12 i k (BitVec.ofNat 32 1)) := ⟨![1, 4 * (i 2).val - 1 - (4 * k.val + 1), 0, 0], off12_eq i k ⟨1, by decide⟩⟩
instance closed12_2 (i : grid0.Coords) (k : Fin (k0_t1_loop i).trips) : ClosedOff (k0_off12 i k (BitVec.ofNat 32 2)) := ⟨![1, 4 * (i 2).val - 1 - (4 * k.val + 2), 0, 0], off12_eq i k ⟨2, by decide⟩⟩
instance closed12_3 (i : grid0.Coords) (k : Fin (k0_t1_loop i).trips) : ClosedOff (k0_off12 i k (BitVec.ofNat 32 3)) := ⟨![1, 4 * (i 2).val - 1 - (4 * k.val + 3), 0, 0], off12_eq i k ⟨3, by decide⟩⟩

end Cert.KernelIdeal.Hand
end
-- ==== Proof.Loops.lean ====
/- The left sweep: one trip of its loop, run once over any float values, and the loop's invariant. A trip reads
   four blocks of the keys and the values, stores the blocks of the two scratch arrays at its four key blocks, and adds
   to the four row blocks of the values' gradient. -/
module
public import proofs.«01_k».proof.Proof.Offsets
public import Idealize.ShloMosaic.Lib.Exec
public import Idealize.ShloMosaic.Lib.Tactic
public import Idealize.ShloMosaic.Lib.Pipeline.Kit

@[expose] public section

set_option maxRecDepth 8192
-- the recursions below apply the loop body's thirty parameters around the recursive call
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The two running sums a sweep carries, one per head of the pair. -/
abbrev Runs (F : FTy → Type) [FloatOps F] := FVec F S512x1 .f32 × FVec F S512x1 .f32
/-- What one buffer of rows, or one scratch array, is written with. -/
abbrev PR (F : FTy → Type) [FloatOps F] := List (View.Piece (Elt F) S2048x128 .f32)
abbrev PS (F : FTy → Type) [FloatOps F] := List (View.Piece (Elt F) S2x16x512x128 .f32)

/-- What a trip of the left sweep holds: the keys and the values to read, the three buffers it writes. -/
abbrev HeldL (c : Dev nD) (arg4 arg5 : Memref sig .tc .vmem S2048x128 .f32) (arg9 : Memref sig .tc .vmem S2048x128 .f32) (arg10 arg11 : Memref sig .tc .vmem S2x16x512x128 .f32)
    (K : BufTy.Contents (Elt F) arg4.view.ty) (W : BufTy.Contents (Elt F) arg5.view.ty) (f9 : BufTy.Contents (Elt F) arg9.view.ty) (f10 : BufTy.Contents (Elt F) arg10.view.ty) (f11 : BufTy.Contents (Elt F) arg11.view.ty) : sProp 𝕄G :=
  iprop((arg4.view.loc (c : Thread nD τ) ↦[arg4.view.set]{fullShare} K) ∗ (arg5.view.loc (c : Thread nD τ) ↦[arg5.view.set]{fullShare} W)
    ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

/-- ONE TRIP of the left sweep, at a symbolic trip `k`: what it yields and the pieces it writes are found by the run,
    as functions of the carried sums and of the values' gradient it finds. -/
@[irreducible] def tripL (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (k : Fin (k0_t1_loop i).trips) :
    Σ' (R : Runs F → Runs F) (L10 : Runs F → PS F) (L11 : Runs F → PS F), { L9 : Runs F → BufTy.Contents (Elt F) arg9.view.ty → PR F //
      ∀ (E : Set ℕ) (acc : Runs F) (f9 : BufTy.Contents (Elt F) arg9.view.ty) (f10 : BufTy.Contents (Elt F) arg10.view.ty) (f11 : BufTy.Contents (Elt F) arg11.view.ty),
        HeldL (F := F) c arg4 arg5 arg9 arg10 arg11 K W f9 f10 f11
        ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 k acc)
            (fun yld => iprop(⌜yld = R acc⌝ ∗ HeldL (F := F) c arg4 arg5 arg9 arg10 arg11 K W (arg9.view.writes (Elt F) f9 (L9 acc f9)) (arg10.view.writes (Elt F) f10 (L10 acc)) (arg11.view.writes (Elt F) f11 (L11 acc)))) } := by
  refine ⟨?_, ?_, ?_, ?_, fun E acc f9 f10 f11 => ?run⟩
  case run =>
    unfold k0_t1_body
    iintro ⟨HK, HW, H9, H10, H11⟩
    sl_exec
    sl_step
    sl_close

/-- The state before trip `k`: the sums carried, and the pieces written so far, the last first. -/
structure StL (F : FTy → Type) [FloatOps F] where
  runs : Runs F
  p9 : PR F
  p10 : PS F
  p11 : PS F

/-- Trip `k` from the state before it. -/
@[irreducible] def stepL (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (k : ℕ) (s : StL F) : StL F :=
  if h : k < (k0_t1_loop i).trips then
    let T := tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W ⟨k, h⟩
    ⟨T.1 s.runs, T.2.2.2.1 s.runs (arg9.view.writes (Elt F) G9 s.p9) ++ s.p9, T.2.1 s.runs ++ s.p10, T.2.2.1 s.runs ++ s.p11⟩
  else s

def stL (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (init : Runs F) : ℕ → StL F
  | 0 => ⟨init, [], [], []⟩
  | k + 1 => stepL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 k (stL 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k)

theorem stL_zero (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (init : Runs F) :
    (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init 0).runs = init := rfl

theorem stL_succ (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (init : Runs F) (k : Fin (k0_t1_loop i).trips) :
    stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init (k.val + 1)
      = ⟨(tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).1 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).runs,
         (tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.2.1 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).runs (arg9.view.writes (Elt F) G9 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).p9) ++ (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).p9,
         (tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.1 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).runs ++ (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).p10,
         (tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.1 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).runs ++ (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k.val).p11⟩ := by
  rw [stL.eq_2]; unfold stepL; exact dif_pos k.isLt

/-- Before trip `k`: the keys and the values as they were, the three written buffers with the pieces of the trips
    before, the sums carried. -/
abbrev invL (𝒱 : Variants) (c : Dev nD) (bd : Option 𝒱.V) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (G10 : BufTy.Contents (Elt F) arg10.view.ty) (G11 : BufTy.Contents (Elt F) arg11.view.ty) (init : Runs F) (k : ℕ) (acc : Runs F) : sProp 𝕄G :=
  iprop((arg4.view.loc (c : Thread nD τ) ↦[arg4.view.set]{fullShare} K) ∗ (arg5.view.loc (c : Thread nD τ) ↦[arg5.view.set]{fullShare} W)
    ∗ (∃ f, (arg9.view.loc (c : Thread nD τ) ↦[arg9.view.set]{fullShare} f) ∗ ⌜f = arg9.view.writes (Elt F) G9 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p9⌝)
    ∗ (∃ f, (arg10.view.loc (c : Thread nD τ) ↦[arg10.view.set]{fullShare} f) ∗ ⌜f = arg10.view.writes (Elt F) G10 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p10⌝)
    ∗ (∃ f, (arg11.view.loc (c : Thread nD τ) ↦[arg11.view.set]{fullShare} f) ∗ ⌜f = arg11.view.writes (Elt F) G11 (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p11⌝)
    ∗ ⌜acc = (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).runs⌝)

set_option warn.classDefReducibility false in
/-- The left sweep by its invariant. -/
@[sl_loop] def loopInvL (𝒱 : Variants) (c : Dev nD) (bd : Option 𝒱.V) (E : Set ℕ) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (G9 : BufTy.Contents (Elt F) arg9.view.ty) (G10 : BufTy.Contents (Elt F) arg10.view.ty) (G11 : BufTy.Contents (Elt F) arg11.view.ty) (init : Runs F) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 init where
  inv := invL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 G10 G11 init
  step k acc := by
    iintro ⟨HK, HW, ⟨%f9, H9, %h9⟩, ⟨%f10, H10, %h10⟩, ⟨%f11, H11, %h11⟩, %hacc⟩
    subst hacc
    iapply (wp_wand_r Idealize.ShloMosaic.frame (wpE (defs₀ (F := F)) 𝒱 (c : Thread nD τ) bd) E)
    isplitl [HK HW H9 H10 H11]
    · iapply ((tripL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.2.2 E (stL (F := F) 𝒱 c bd i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).runs f9 f10 f11)
      isplitl [HK]; · iexact HK
      isplitl [HW]; · iexact HW
      isplitl [H9]; · iexact H9
      isplitl [H10]; · iexact H10
      iexact H11
    · iintro %yld ⟨%hres, HK, HW, H9, H10, H11⟩
      isplitl [HK]; · iexact HK
      isplitl [HW]; · iexact HW
      simp only [stL_succ]
      isplitl [H9]
      · iexists _; isplitl [H9]; · iexact H9
        ipureintro; rw [h9, ← View.writes_append]
      isplitl [H10]
      · iexists _; isplitl [H10]; · iexact H10
        ipureintro; rw [h10, ← View.writes_append]
      isplitl [H11]
      · iexists _; isplitl [H11]; · iexact H11
        ipureintro; rw [h11, ← View.writes_append]
      ipureintro; rw [hres]

set_option warn.classDefReducibility false in
/-- The printed remainder of the left sweep makes no trip. -/
@[sl_loop] def loopInvL' (𝒱 : Variants) (c : Dev nD) (bd : Option 𝒱.V) (E : Set ℕ) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (v547 : BitVec 32) (init : Runs F) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 v547 init where
  inv _ acc := iprop(⌜acc = init⌝)
  step k acc := absurd (Nat.lt_of_lt_of_eq k.isLt (trips2 i)) (Nat.not_lt_zero _)

end Cert.KernelIdeal.Hand
end
-- ==== Proof.PartsA.lean ====
/-  Statements of the body, run from any contents of the buffers.  -/
module
public import proofs.«01_k».proof.Proof.Loops
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether the point begins a block row: the condition of the body's one branch. -/
abbrev begins (i : grid0.Coords) : Prop := (Scalar.cmpi .ne (Scalar.extui (Scalar.cmpi .eq (BitVec.ofNat 32 (i 2).val) 0#32)) 0#32) = 1#1

set_option maxHeartbeats 4000000 in
/-- Statements of the body, run from any contents: what they return and what they leave are found by the run. -/
@[irreducible] def part35 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (hc : begins i) (K3 : BufTy.Contents (Elt F) arg3.view.ty) (K4 : BufTy.Contents (Elt F) arg4.view.ty) (K5 : BufTy.Contents (Elt F) arg5.view.ty) (K6 : BufTy.Contents (Elt F) arg6.view.ty)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part35 (F := F) i arg3 harg3 arg4 harg4 arg5 harg5 arg6 harg6 arg7 harg7 arg8 harg8 arg9 harg9 arg10 harg10 arg11 harg11 ) K } := by
  refine ⟨?_, ?_, ?_, ?_, ?_, ?_, fun E K => ?run⟩
  case run =>
    simp only [k0_part35_eq_skeleton]; unfold k0_part35_skel
    iintro ⟨⟨H3, H4, H5, H6, H7, H8, H9, H10, H11⟩, Hk⟩
    sl_exec (disch := first | sl_exact hc)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part35b (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (hc : ¬ begins i) (K3 : BufTy.Contents (Elt F) arg3.view.ty) (K4 : BufTy.Contents (Elt F) arg4.view.ty) (K5 : BufTy.Contents (Elt F) arg5.view.ty) (K6 : BufTy.Contents (Elt F) arg6.view.ty)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part35 (F := F) i arg3 harg3 arg4 harg4 arg5 harg5 arg6 harg6 arg7 harg7 arg8 harg8 arg9 harg9 arg10 harg10 arg11 harg11 ) K } := by
  refine ⟨?_, ?_, ?_, ?_, ?_, ?_, fun E K => ?run⟩
  case run =>
    simp only [k0_part35_eq_skeleton]; unfold k0_part35_skel
    iintro ⟨⟨H3, H4, H5, H6, H7, H8, H9, H10, H11⟩, Hk⟩
    sl_exec (disch := first | sl_exact hc)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part36 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v13 : IVec S1x128 1) (v21 : FVec F S512x128 .bf16) (v31 : IVec S512x128 32) (v40 : Vec F S512x128 .f32) (cst_8 : F .f32) (v41 : IVec S1x128 1)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v45 : FVec F S512x128 .bf16) (v50 : FVec F S512x128 .bf16) (v51 : FVec F S512x1 .f32) (v52 : FVec F S512x1 .f32) (v54 : BitVec 32) (v56 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16), FVec F S128x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v45 : FVec F S512x128 .bf16) (v50 : FVec F S512x128 .bf16) (v51 : FVec F S512x1 .f32) (v52 : FVec F S512x1 .f32) (v54 : BitVec 32) (v56 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16), FVec F S128x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part36 (F := F) i arg3 harg3 arg4 harg4 arg5 harg5 arg6 harg6 arg7 harg7 arg8 harg8 arg9 harg9 arg10 harg10 arg11 harg11 arg2 v13 v21 v31 v40 cst_8 v41) K } := by
  refine ⟨?_, ?_, ?_, ?_, ?_, ?_, fun E K => ?run⟩
  case run =>
    simp only [k0_part36_eq_skeleton]; unfold k0_part36_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part37 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v26 : FVec F S512x128 .bf16) (v35 : FVec F S128x128 .bf16) (v45 : FVec F S512x128 .bf16) (v51 : FVec F S512x1 .f32) (v54 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16) (v85 : FVec F S128x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v102 : FVec F S128x128 .f32) (v119 : FVec F S512x1 .f32) (v121 : FVec F S128x128 .f32) (v123 : FVec F S128x128 .f32) (v127 : FVec F S128x128 .f32), F .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v102 : FVec F S128x128 .f32) (v119 : FVec F S512x1 .f32) (v121 : FVec F S128x128 .f32) (v123 : FVec F S128x128 .f32) (v127 : FVec F S128x128 .f32), F .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part37 (F := F) i arg3 harg3 arg4 harg4 arg5 harg5 arg6 harg6 arg7 harg7 arg8 harg8 arg9 harg9 arg10 harg10 arg11 harg11 v26 v35 v45 v51 v54 v59 v62 v65 v66 v68 v82 v83 v85) K } := by
  refine ⟨?_, ?_, ?_, ?_, ?_, ?_, fun E K => ?run⟩
  case run =>
    simp only [k0_part37_eq_skeleton]; unfold k0_part37_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part38 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v35 : FVec F S128x128 .bf16) (v50 : FVec F S512x128 .bf16) (v52 : FVec F S512x1 .f32) (v54 : BitVec 32) (v62 : FVec F S128x128 .bf16) (v65 : IVec S128x128 1) (v102 : FVec F S128x128 .f32) (v121 : FVec F S128x128 .f32) (v123 : FVec F S128x128 .f32) (v127 : FVec F S128x128 .f32) (cst_37 : F .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v155 : FVec F S128x128 .f32) (v169 : FVec F S384x1 .f32), FVec F S128x1 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v155 : FVec F S128x128 .f32) (v169 : FVec F S384x1 .f32), FVec F S128x1 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part38 (F := F) i arg3 harg3 arg4 harg4 arg5 harg5 arg6 harg6 arg7 harg7 arg8 harg8 arg9 harg9 arg10 harg10 arg11 harg11 v35 v50 v52 v54 v62 v65 v102 v121 v123 v127 cst_37) K } := by
  refine ⟨?_, ?_, ?_, ?_, ?_, ?_, fun E K => ?run⟩
  case run =>
    simp only [k0_part38_eq_skeleton]; unfold k0_part38_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part39 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v21 : FVec F S512x128 .bf16) (v31 : IVec S512x128 32) (v35 : FVec F S128x128 .bf16) (v56 : BitVec 32) (v155 : FVec F S128x128 .f32) (v169 : FVec F S384x1 .f32) (v171 : FVec F S128x1 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v172 : FVec F S512x1 .f32) (v180 : BitVec 32) (v182 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32), FVec F S256x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v172 : FVec F S512x1 .f32) (v180 : BitVec 32) (v182 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32), FVec F S256x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part39 (F := F) i arg3 harg3 arg4 harg4 arg5 harg5 arg6 harg6 arg7 harg7 arg8 harg8 arg9 harg9 arg10 harg10 arg11 harg11 arg2 v21 v31 v35 v56 v155 v169 v171) K } := by
  refine ⟨?_, ?_, ?_, ?_, ?_, ?_, fun E K => ?run⟩
  case run =>
    simp only [k0_part39_eq_skeleton]; unfold k0_part39_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part40 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v26 : FVec F S512x128 .bf16) (v35 : FVec F S128x128 .bf16) (v45 : FVec F S512x128 .bf16) (v119 : FVec F S512x1 .f32) (v180 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32) (cst_66 : FVec F S256x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v228 : FVec F S128x128 .f32) (v245 : FVec F S512x1 .f32) (v247 : FVec F S256x128 .f32), FVec F S256x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v228 : FVec F S128x128 .f32) (v245 : FVec F S512x1 .f32) (v247 : FVec F S256x128 .f32), FVec F S256x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part40 (F := F) i arg3 harg3 arg4 harg4 arg5 harg5 arg6 harg6 arg7 harg7 arg8 harg8 arg9 harg9 arg10 harg10 arg11 harg11 v26 v35 v45 v119 v180 v185 v188 v191 v192 v194 v208 v212 v213 cst_66) K } := by
  refine ⟨?_, ?_, ?_, ?_, ?_, ?_, fun E K => ?run⟩
  case run =>
    simp only [k0_part40_eq_skeleton]; unfold k0_part40_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part41 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v35 : FVec F S128x128 .bf16) (v50 : FVec F S512x128 .bf16) (v172 : FVec F S512x1 .f32) (v180 : BitVec 32) (v182 : BitVec 32) (v188 : FVec F S128x128 .bf16) (v191 : IVec S256x128 1) (v228 : FVec F S128x128 .f32) (v247 : FVec F S256x128 .f32) (v257 : FVec F S256x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v281 : FVec F S128x128 .f32) (v298 : FVec F S512x1 .f32), Vec F S128x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v281 : FVec F S128x128 .f32) (v298 : FVec F S512x1 .f32), Vec F S128x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part41 (F := F) i arg3 harg3 arg4 harg4 arg5 harg5 arg6 harg6 arg7 harg7 arg8 harg8 arg9 harg9 arg10 harg10 arg11 harg11 v35 v50 v172 v180 v182 v188 v191 v228 v247 v257) K } := by
  refine ⟨?_, ?_, ?_, ?_, ?_, ?_, fun E K => ?run⟩
  case run =>
    simp only [k0_part41_eq_skeleton]; unfold k0_part41_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand
end
-- ==== Proof.PartsB.lean ====
/-  Statements of the body, run from any contents of the buffers.  -/
module
public import proofs.«01_k».proof.Proof.PartsA
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- Statements of the body, run from any contents: what they return and what they leave are found by the run. -/
@[irreducible] def part42 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v21 : FVec F S512x128 .bf16) (v31 : IVec S512x128 32) (v35 : FVec F S128x128 .bf16) (v182 : BitVec 32) (v245 : FVec F S512x1 .f32) (v281 : FVec F S128x128 .f32) (v300 : Vec F S128x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v306 : BitVec 32) (v308 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32), FVec F S384x1 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v306 : BitVec 32) (v308 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32), FVec F S384x1 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part42 (F := F) i arg3 harg3 arg4 harg4 arg5 harg5 arg6 harg6 arg7 harg7 arg8 harg8 arg9 harg9 arg10 harg10 arg11 harg11 arg2 v21 v31 v35 v182 v245 v281 v300) K } := by
  refine ⟨?_, ?_, ?_, ?_, ?_, ?_, fun E K => ?run⟩
  case run =>
    simp only [k0_part42_eq_skeleton]; unfold k0_part42_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part43 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v26 : FVec F S512x128 .bf16) (v45 : FVec F S512x128 .bf16) (v245 : FVec F S512x1 .f32) (v306 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32) (v343 : FVec F S384x1 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v354 : FVec F S128x128 .f32) (v371 : FVec F S512x1 .f32) (v373 : FVec F S384x128 .f32) (v385 : FVec F S384x128 .f32), F .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v354 : FVec F S128x128 .f32) (v371 : FVec F S512x1 .f32) (v373 : FVec F S384x128 .f32) (v385 : FVec F S384x128 .f32), F .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part43 (F := F) i arg3 harg3 arg4 harg4 arg5 harg5 arg6 harg6 arg7 harg7 arg8 harg8 arg9 harg9 arg10 harg10 arg11 harg11 v26 v45 v245 v306 v311 v314 v317 v318 v334 v341 v342 v343) K } := by
  refine ⟨?_, ?_, ?_, ?_, ?_, ?_, fun E K => ?run⟩
  case run =>
    simp only [k0_part43_eq_skeleton]; unfold k0_part43_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part44 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v35 : FVec F S128x128 .bf16) (v50 : FVec F S512x128 .bf16) (v298 : FVec F S512x1 .f32) (v306 : BitVec 32) (v308 : BitVec 32) (v314 : FVec F S128x128 .bf16) (v317 : IVec S384x128 1) (v354 : FVec F S128x128 .f32) (v373 : FVec F S384x128 .f32) (v385 : FVec F S384x128 .f32) (cst_124 : F .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v424 : FVec F S512x1 .f32), FVec F S128x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v424 : FVec F S512x1 .f32), FVec F S128x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part44 (F := F) i arg3 harg3 arg4 harg4 arg5 harg5 arg6 harg6 arg7 harg7 arg8 harg8 arg9 harg9 arg10 harg10 arg11 harg11 v35 v50 v298 v306 v308 v314 v317 v354 v373 v385 cst_124) K } := by
  refine ⟨?_, ?_, ?_, ?_, ?_, ?_, fun E K => ?run⟩
  case run =>
    simp only [k0_part44_eq_skeleton]; unfold k0_part44_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part45 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v21 : FVec F S512x128 .bf16) (v31 : IVec S512x128 32) (v35 : FVec F S128x128 .bf16) (v371 : FVec F S512x1 .f32) (v428 : FVec F S128x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v432 : BitVec 32) (v434 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32), FVec F S512x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v432 : BitVec 32) (v434 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32), FVec F S512x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part45 (F := F) i arg3 harg3 arg4 harg4 arg5 harg5 arg6 harg6 arg7 harg7 arg8 harg8 arg9 harg9 arg10 harg10 arg11 harg11 arg2 v21 v31 v35 v371 v428) K } := by
  refine ⟨?_, ?_, ?_, ?_, ?_, ?_, fun E K => ?run⟩
  case run =>
    simp only [k0_part45_eq_skeleton]; unfold k0_part45_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part46 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v26 : FVec F S512x128 .bf16) (v35 : FVec F S128x128 .bf16) (v45 : FVec F S512x128 .bf16) (v371 : FVec F S512x1 .f32) (v424 : FVec F S512x1 .f32) (v432 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32) (cst_155 : FVec F S512x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v475 : FVec F S128x128 .f32) (v489 : FVec F S512x1 .f32) (v504 : FVec F S512x128 .f32) (v511 : FVec F S512x128 .f32) (v512 : FVec F S512x128 .f32), FVec F S512x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v475 : FVec F S128x128 .f32) (v489 : FVec F S512x1 .f32) (v504 : FVec F S512x128 .f32) (v511 : FVec F S512x128 .f32) (v512 : FVec F S512x128 .f32), FVec F S512x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part46 (F := F) i arg3 harg3 arg4 harg4 arg5 harg5 arg6 harg6 arg7 harg7 arg8 harg8 arg9 harg9 arg10 harg10 arg11 harg11 v26 v35 v45 v371 v424 v432 v437 v440 v442 v443 v458 v465 v471 cst_155) K } := by
  refine ⟨?_, ?_, ?_, ?_, ?_, ?_, fun E K => ?run⟩
  case run =>
    simp only [k0_part46_eq_skeleton]; unfold k0_part46_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part47 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v542 : BitVec 32) (v550 : FVec F S512x128 .f32), FVec F S512x1 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v542 : BitVec 32) (v550 : FVec F S512x128 .f32), FVec F S512x1 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part47 (F := F) i arg3 harg3 arg4 harg4 arg5 harg5 arg6 harg6 arg7 harg7 arg8 harg8 arg9 harg9 arg10 harg10 arg11 harg11 arg2 v21 v26 v35 v45 v50 v424 v432 v434 v440 v442 v475 v489 v504 v511 v512 v513) K } := by
  refine ⟨?_, ?_, ?_, ?_, ?_, ?_, fun E K => ?run⟩
  case run =>
    simp only [k0_part47_eq_skeleton]; unfold k0_part47_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand
end
-- ==== Proof.PartsC.lean ====
/-  Statements of the body, run from any contents of the buffers.  -/
module
public import proofs.«01_k».proof.Proof.PartsA
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- Statements of the body, run from any contents: what they return and what they leave are found by the run. -/
@[irreducible] def part48 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v559_0 : FVec F S512x128 .f32) (v559_1 : FVec F S512x1 .f32) (v559_2 : FVec F S512x1 .f32) (v561 : BitVec 32) (v563 : BitVec 32) (v566 : FVec F S128x128 .bf16) (v567 : FVec F S128x128 .f32) (v570 : FVec F S512x128 .f32) (v589 : FVec F S512x128 .bf16), F .bf16)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v559_0 : FVec F S512x128 .f32) (v559_1 : FVec F S512x1 .f32) (v559_2 : FVec F S512x1 .f32) (v561 : BitVec 32) (v563 : BitVec 32) (v566 : FVec F S128x128 .bf16) (v567 : FVec F S128x128 .f32) (v570 : FVec F S512x128 .f32) (v589 : FVec F S512x128 .bf16), F .bf16) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part48 (F := F) i arg3 harg3 arg4 harg4 arg5 harg5 arg6 harg6 arg7 harg7 arg8 harg8 arg9 harg9 arg10 harg10 arg11 harg11 arg2 v8 v13 v21 v26 v31 v39 v542 v550 v551) K } := by
  refine ⟨?_, ?_, ?_, ?_, ?_, ?_, fun E K => ?run⟩
  case run =>
    simp only [k0_part48_eq_skeleton]; unfold k0_part48_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part49 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v8 : IVec S1x128 1) (v13 : IVec S1x128 1) (v21 : FVec F S512x128 .bf16) (v26 : FVec F S512x128 .bf16) (v31 : IVec S512x128 32) (v39 : FVec F S128x128 .bf16) (v559_0 : FVec F S512x128 .f32) (v559_1 : FVec F S512x1 .f32) (v559_2 : FVec F S512x1 .f32) (v561 : BitVec 32) (v566 : FVec F S128x128 .bf16) (v567 : FVec F S128x128 .f32) (v570 : FVec F S512x128 .f32) (v589 : FVec F S512x128 .bf16) (v590 : F .bf16)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v601 : FVec F S512x1 .f32) (v630 : FVec F S512x128 .f32) (v632 : FVec F S128x128 .f32), FVec F S512 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v601 : FVec F S512x1 .f32) (v630 : FVec F S512x128 .f32) (v632 : FVec F S128x128 .f32), FVec F S512 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part49 (F := F) i arg3 harg3 arg4 harg4 arg5 harg5 arg6 harg6 arg7 harg7 arg8 harg8 arg9 harg9 arg10 harg10 arg11 harg11 v8 v13 v21 v26 v31 v39 v559_0 v559_1 v559_2 v561 v566 v567 v570 v589 v590) K } := by
  refine ⟨?_, ?_, ?_, ?_, ?_, ?_, fun E K => ?run⟩
  case run =>
    simp only [k0_part49_eq_skeleton]; unfold k0_part49_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part50 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v31 : IVec S512x128 32) (v39 : FVec F S128x128 .bf16) (v559_2 : FVec F S512x1 .f32) (v563 : BitVec 32) (v601 : FVec F S512x1 .f32) (v632 : FVec F S128x128 .f32) (v633 : FVec F S512 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v635 : FVec F S512x1 .f32) (v643 : BitVec 32) (v645 : BitVec 32) (v648 : FVec F S128x128 .bf16) (v649 : FVec F S128x128 .f32) (v652 : FVec F S384x128 .f32) (v673 : FVec F S384x128 .bf16), F .bf16)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v635 : FVec F S512x1 .f32) (v643 : BitVec 32) (v645 : BitVec 32) (v648 : FVec F S128x128 .bf16) (v649 : FVec F S128x128 .f32) (v652 : FVec F S384x128 .f32) (v673 : FVec F S384x128 .bf16), F .bf16) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part50 (F := F) i arg3 harg3 arg4 harg4 arg5 harg5 arg6 harg6 arg7 harg7 arg8 harg8 arg9 harg9 arg10 harg10 arg11 harg11 arg2 v31 v39 v559_2 v563 v601 v632 v633) K } := by
  refine ⟨?_, ?_, ?_, ?_, ?_, ?_, fun E K => ?run⟩
  case run =>
    simp only [k0_part50_eq_skeleton]; unfold k0_part50_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part51 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v8 : IVec S1x128 1) (v13 : IVec S1x128 1) (v21 : FVec F S512x128 .bf16) (v31 : IVec S512x128 32) (v39 : FVec F S128x128 .bf16) (v601 : FVec F S512x1 .f32) (v630 : FVec F S512x128 .f32) (v635 : FVec F S512x1 .f32) (v643 : BitVec 32) (v648 : FVec F S128x128 .bf16) (v649 : FVec F S128x128 .f32) (v652 : FVec F S384x128 .f32) (v673 : FVec F S384x128 .bf16) (v674 : F .bf16)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v683 : FVec F S512x128 .f32) (v686 : FVec F S128x128 .f32) (v692 : FVec F S512x1 .f32) (v695 : FVec F S384x128 .f32) (v716 : FVec F S384x128 .bf16) (v719 : IVec S128x128 1), FVec F S128x128 .bf16)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v683 : FVec F S512x128 .f32) (v686 : FVec F S128x128 .f32) (v692 : FVec F S512x1 .f32) (v695 : FVec F S384x128 .f32) (v716 : FVec F S384x128 .bf16) (v719 : IVec S128x128 1), FVec F S128x128 .bf16) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part51 (F := F) i arg3 harg3 arg4 harg4 arg5 harg5 arg6 harg6 arg7 harg7 arg8 harg8 arg9 harg9 arg10 harg10 arg11 harg11 v8 v13 v21 v31 v39 v601 v630 v635 v643 v648 v649 v652 v673 v674) K } := by
  refine ⟨?_, ?_, ?_, ?_, ?_, ?_, fun E K => ?run⟩
  case run =>
    simp only [k0_part51_eq_skeleton]; unfold k0_part51_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part52 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v26 : FVec F S512x128 .bf16) (v39 : FVec F S128x128 .bf16) (v635 : FVec F S512x1 .f32) (v645 : BitVec 32) (v648 : FVec F S128x128 .bf16) (v683 : FVec F S512x128 .f32) (v686 : FVec F S128x128 .f32) (v692 : FVec F S512x1 .f32) (v695 : FVec F S384x128 .f32) (v716 : FVec F S384x128 .bf16) (v719 : IVec S128x128 1) (v720 : FVec F S128x128 .bf16)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v726 : FVec F S512x128 .f32) (v735 : FVec F S512x1 .f32) (v743 : BitVec 32) (v745 : BitVec 32) (v748 : FVec F S128x128 .bf16) (v749 : FVec F S128x128 .f32) (v752 : FVec F S256x128 .f32), FVec F S256x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v726 : FVec F S512x128 .f32) (v735 : FVec F S512x1 .f32) (v743 : BitVec 32) (v745 : BitVec 32) (v748 : FVec F S128x128 .bf16) (v749 : FVec F S128x128 .f32) (v752 : FVec F S256x128 .f32), FVec F S256x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part52 (F := F) i arg3 harg3 arg4 harg4 arg5 harg5 arg6 harg6 arg7 harg7 arg8 harg8 arg9 harg9 arg10 harg10 arg11 harg11 arg2 v26 v39 v635 v645 v648 v683 v686 v692 v695 v716 v719 v720) K } := by
  refine ⟨?_, ?_, ?_, ?_, ?_, ?_, fun E K => ?run⟩
  case run =>
    simp only [k0_part52_eq_skeleton]; unfold k0_part52_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part53 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v8 : IVec S1x128 1) (v21 : FVec F S512x128 .bf16) (v31 : IVec S512x128 32) (v39 : FVec F S128x128 .bf16) (v692 : FVec F S512x1 .f32) (v726 : FVec F S512x128 .f32) (v735 : FVec F S512x1 .f32) (v743 : BitVec 32) (v748 : FVec F S128x128 .bf16) (v749 : FVec F S128x128 .f32) (v752 : FVec F S256x128 .f32) (v762 : FVec F S256x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v783 : FVec F S512x128 .f32) (v786 : FVec F S128x128 .f32) (v792 : FVec F S512x1 .f32) (v795 : FVec F S256x128 .f32) (v805 : FVec F S256x128 .f32), Vec F S1x1x256x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v783 : FVec F S512x128 .f32) (v786 : FVec F S128x128 .f32) (v792 : FVec F S512x1 .f32) (v795 : FVec F S256x128 .f32) (v805 : FVec F S256x128 .f32), Vec F S1x1x256x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part53 (F := F) i arg3 harg3 arg4 harg4 arg5 harg5 arg6 harg6 arg7 harg7 arg8 harg8 arg9 harg9 arg10 harg10 arg11 harg11 v8 v21 v31 v39 v692 v726 v735 v743 v748 v749 v752 v762) K } := by
  refine ⟨?_, ?_, ?_, ?_, ?_, ?_, fun E K => ?run⟩
  case run =>
    simp only [k0_part53_eq_skeleton]; unfold k0_part53_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part54 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (arg2 : BitVec 32) (v13 : IVec S1x128 1) (v26 : FVec F S512x128 .bf16) (v31 : IVec S512x128 32) (v735 : FVec F S512x1 .f32) (v745 : BitVec 32) (v748 : FVec F S128x128 .bf16) (v783 : FVec F S512x128 .f32) (v786 : FVec F S128x128 .f32) (v795 : FVec F S256x128 .f32) (v805 : FVec F S256x128 .f32) (v807 : Vec F S1x1x256x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v826 : FVec F S512x128 .f32) (v835 : FVec F S512x1 .f32) (v843 : BitVec 32) (v845 : BitVec 32) (v848 : FVec F S128x128 .bf16), FVec F S128x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v826 : FVec F S512x128 .f32) (v835 : FVec F S512x1 .f32) (v843 : BitVec 32) (v845 : BitVec 32) (v848 : FVec F S128x128 .bf16), FVec F S128x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part54 (F := F) i arg3 harg3 arg4 harg4 arg5 harg5 arg6 harg6 arg7 harg7 arg8 harg8 arg9 harg9 arg10 harg10 arg11 harg11 arg2 v13 v26 v31 v735 v745 v748 v783 v786 v795 v805 v807) K } := by
  refine ⟨?_, ?_, ?_, ?_, ?_, ?_, fun E K => ?run⟩
  case run =>
    simp only [k0_part54_eq_skeleton]; unfold k0_part54_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- Statements of the body, run from any contents: what they return and what they leave are found by the run. -/
@[irreducible] def part55 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole)  (K3 : BufTy.Contents (Elt F) arg3.view.ty) (K4 : BufTy.Contents (Elt F) arg4.view.ty) (K5 : BufTy.Contents (Elt F) arg5.view.ty) (K6 : BufTy.Contents (Elt F) arg6.view.ty) (v8 : IVec S1x128 1) (v21 : FVec F S512x128 .bf16) (v31 : IVec S512x128 32) (v39 : FVec F S128x128 .bf16) (v792 : FVec F S512x1 .f32) (v826 : FVec F S512x128 .f32) (v843 : BitVec 32) (v848 : FVec F S128x128 .bf16) (v849 : FVec F S128x128 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (R : (Σ' (v883 : FVec F S512x128 .f32) (v886 : FVec F S128x128 .f32) (v889 : FVec F S128x128 .f32) (v894 : FVec F S128x128 .f32), FVec F S128x128 .f32)) (g7 : BufTy.Contents (Elt F) arg7.view.ty) (g8 : BufTy.Contents (Elt F) arg8.view.ty) (g9 : BufTy.Contents (Elt F) arg9.view.ty) (g10 : BufTy.Contents (Elt F) arg10.view.ty), { g11 : BufTy.Contents (Elt F) arg11.view.ty //
      ∀ (E : Set ℕ) (K : (Σ' (v883 : FVec F S512x128 .f32) (v886 : FVec F S128x128 .f32) (v889 : FVec F S128x128 .f32) (v894 : FVec F S128x128 .f32), FVec F S128x128 .f32) → sProp 𝕄),
        iprop(((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (((arg3.view.loc (c : Thread nD τ) ↦[arg3.view.set]{fullShare} K3) ∗ (arg4.view.loc (c : Thread nD τ) ↦[arg4.view.set]{fullShare} K4) ∗ (arg5.view.loc (c : Thread nD τ) ↦[arg5.view.set]{fullShare} K5) ∗ (arg6.view.loc (c : Thread nD τ) ↦[arg6.view.set]{fullShare} K6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (k0_part55 (F := F) i arg3 harg3 arg4 harg4 arg5 harg5 arg6 harg6 arg7 harg7 arg8 harg8 arg9 harg9 arg10 harg10 arg11 harg11 v8 v21 v31 v39 v792 v826 v843 v848 v849) K } := by
  refine ⟨?_, ?_, ?_, ?_, ?_, ?_, fun E K => ?run⟩
  case run =>
    simp only [k0_part55_eq_skeleton]; unfold k0_part55_skel
    iintro ⟨⟨H3, H4, H5, H6, H7, H8, H9, H10, H11⟩, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand
end
-- ==== Proof.Outs.lean ====
/-  The parts of the body, each with what it returns and what it leaves in the five written buffers.  -/
module
public import proofs.«01_k».proof.Proof.PartsB
public import proofs.«01_k».proof.Proof.PartsC
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Where a point's body runs: its core, its coordinates, its buffers, and what its four inputs hold. -/
structure Env (F : FTy → Type) [FloatOps F] where
  c : Dev nD
  i : grid0.Coords
  arg3 : Memref sig .tc .vmem S512x128 .f32
  harg3 : arg3.IsWhole
  arg4 : Memref sig .tc .vmem S2048x128 .f32
  harg4 : arg4.IsWhole
  arg5 : Memref sig .tc .vmem S2048x128 .f32
  harg5 : arg5.IsWhole
  arg6 : Memref sig .tc .vmem S512x128 .f32
  harg6 : arg6.IsWhole
  arg7 : Memref sig .tc .vmem S512x128 .bf16
  harg7 : arg7.IsWhole
  arg8 : Memref sig .tc .vmem S2048x128 .f32
  harg8 : arg8.IsWhole
  arg9 : Memref sig .tc .vmem S2048x128 .f32
  harg9 : arg9.IsWhole
  arg10 : Memref sig .tc .vmem S2x16x512x128 .f32
  harg10 : arg10.IsWhole
  arg11 : Memref sig .tc .vmem S2x16x512x128 .f32
  harg11 : arg11.IsWhole
  K3 : BufTy.Contents (Elt F) arg3.view.ty
  K4 : BufTy.Contents (Elt F) arg4.view.ty
  K5 : BufTy.Contents (Elt F) arg5.view.ty
  K6 : BufTy.Contents (Elt F) arg6.view.ty

/-- What the five written buffers hold. -/
structure Bufs (e : Env F) where
  f7 : BufTy.Contents (Elt F) e.arg7.view.ty
  f8 : BufTy.Contents (Elt F) e.arg8.view.ty
  f9 : BufTy.Contents (Elt F) e.arg9.view.ty
  f10 : BufTy.Contents (Elt F) e.arg10.view.ty
  f11 : BufTy.Contents (Elt F) e.arg11.view.ty

/-- What a stretch of the body returns, and what the five buffers hold after it. -/
structure Out (e : Env F) (R : Type) where
  r : R
  b : Bufs e

/-- What a point holds while its body runs. -/
abbrev Held (e : Env F) (b : Bufs e) : sProp 𝕄 :=
  iprop((e.arg3.view.loc (e.c : Thread nD τ) ↦[e.arg3.view.set]{fullShare} e.K3) ∗ (e.arg4.view.loc (e.c : Thread nD τ) ↦[e.arg4.view.set]{fullShare} e.K4) ∗ (e.arg5.view.loc (e.c : Thread nD τ) ↦[e.arg5.view.set]{fullShare} e.K5) ∗ (e.arg6.view.loc (e.c : Thread nD τ) ↦[e.arg6.view.set]{fullShare} e.K6) ∗ (e.arg7.view.loc (e.c : Thread nD τ) ↦[e.arg7.view.set]{fullShare} b.f7) ∗ (e.arg8.view.loc (e.c : Thread nD τ) ↦[e.arg8.view.set]{fullShare} b.f8) ∗ (e.arg9.view.loc (e.c : Thread nD τ) ↦[e.arg9.view.set]{fullShare} b.f9) ∗ (e.arg10.view.loc (e.c : Thread nD τ) ↦[e.arg10.view.set]{fullShare} b.f10) ∗ (e.arg11.view.loc (e.c : Thread nD τ) ↦[e.arg11.view.set]{fullShare} b.f11))

/-- A program that, from these contents, returns this and leaves that. -/
abbrev Runs1 (e : Env F) {R : Type} (b : Bufs e) (p : Prog (TpuEff nD τ sig (Elt F) Λ₀ .tc) R) (o : Out e R) : Prop :=
  ∀ (E : Set ℕ) (K : R → sProp 𝕄), iprop(Held e b ∗ (Held e o.b -∗ K o.r)) ⊢ wp frame (wpE (defs₀ (F := F)) Variants.none e.c none) E p K

@[irreducible] def o35 (e : Env F) (hc : begins e.i)  (b : Bufs e) : Out e ((Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1)) :=
  let p := part35 (F := F) e.c e.i e.arg3 e.harg3 e.arg4 e.harg4 e.arg5 e.harg5 e.arg6 e.harg6 e.arg7 e.harg7 e.arg8 e.harg8 e.arg9 e.harg9 e.arg10 e.harg10 e.arg11 e.harg11 hc e.K3 e.K4 e.K5 e.K6  b.f7 b.f8 b.f9 b.f10 b.f11
  ⟨p.1, p.2.1, p.2.2.1, p.2.2.2.1, p.2.2.2.2.1, p.2.2.2.2.2.1⟩

abbrev p35 (e : Env F)  := k0_part35 (F := F) e.i e.arg3 e.harg3 e.arg4 e.harg4 e.arg5 e.harg5 e.arg6 e.harg6 e.arg7 e.harg7 e.arg8 e.harg8 e.arg9 e.harg9 e.arg10 e.harg10 e.arg11 e.harg11

theorem o35_runs (e : Env F) (hc : begins e.i)  (b : Bufs e) : Runs1 e b (p35 e ) (o35 e hc  b) := by
  unfold o35
  exact fun E K => (part35 (F := F) e.c e.i e.arg3 e.harg3 e.arg4 e.harg4 e.arg5 e.harg5 e.arg6 e.harg6 e.arg7 e.harg7 e.arg8 e.harg8 e.arg9 e.harg9 e.arg10 e.harg10 e.arg11 e.harg11 hc e.K3 e.K4 e.K5 e.K6  b.f7 b.f8 b.f9 b.f10 b.f11).2.2.2.2.2.2 E K

@[irreducible] def o35b (e : Env F) (hc : ¬ begins e.i)  (b : Bufs e) : Out e ((Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1)) :=
  let p := part35b (F := F) e.c e.i e.arg3 e.harg3 e.arg4 e.harg4 e.arg5 e.harg5 e.arg6 e.harg6 e.arg7 e.harg7 e.arg8 e.harg8 e.arg9 e.harg9 e.arg10 e.harg10 e.arg11 e.harg11 hc e.K3 e.K4 e.K5 e.K6  b.f7 b.f8 b.f9 b.f10 b.f11
  ⟨p.1, p.2.1, p.2.2.1, p.2.2.2.1, p.2.2.2.2.1, p.2.2.2.2.2.1⟩

abbrev p35b (e : Env F)  := k0_part35 (F := F) e.i e.arg3 e.harg3 e.arg4 e.harg4 e.arg5 e.harg5 e.arg6 e.harg6 e.arg7 e.harg7 e.arg8 e.harg8 e.arg9 e.harg9 e.arg10 e.harg10 e.arg11 e.harg11

theorem o35b_runs (e : Env F) (hc : ¬ begins e.i)  (b : Bufs e) : Runs1 e b (p35b e ) (o35b e hc  b) := by
  unfold o35b
  exact fun E K => (part35b (F := F) e.c e.i e.arg3 e.harg3 e.arg4 e.harg4 e.arg5 e.harg5 e.arg6 e.harg6 e.arg7 e.harg7 e.arg8 e.harg8 e.arg9 e.harg9 e.arg10 e.harg10 e.arg11 e.harg11 hc e.K3 e.K4 e.K5 e.K6  b.f7 b.f8 b.f9 b.f10 b.f11).2.2.2.2.2.2 E K

@[irreducible] def o36 (e : Env F) (arg2 : BitVec 32) (v13 : IVec S1x128 1) (v21 : FVec F S512x128 .bf16) (v31 : IVec S512x128 32) (v40 : Vec F S512x128 .f32) (cst_8 : F .f32) (v41 : IVec S1x128 1) (b : Bufs e) : Out e ((Σ' (v45 : FVec F S512x128 .bf16) (v50 : FVec F S512x128 .bf16) (v51 : FVec F S512x1 .f32) (v52 : FVec F S512x1 .f32) (v54 : BitVec 32) (v56 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16), FVec F S128x128 .f32)) :=
  let p := part36 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v13 v21 v31 v40 cst_8 v41 b.f7 b.f8 b.f9 b.f10 b.f11
  ⟨p.1, p.2.1, p.2.2.1, p.2.2.2.1, p.2.2.2.2.1, p.2.2.2.2.2.1⟩

abbrev p36 (e : Env F) (arg2 : BitVec 32) (v13 : IVec S1x128 1) (v21 : FVec F S512x128 .bf16) (v31 : IVec S512x128 32) (v40 : Vec F S512x128 .f32) (cst_8 : F .f32) (v41 : IVec S1x128 1) := k0_part36 (F := F) e.i e.arg3 e.harg3 e.arg4 e.harg4 e.arg5 e.harg5 e.arg6 e.harg6 e.arg7 e.harg7 e.arg8 e.harg8 e.arg9 e.harg9 e.arg10 e.harg10 e.arg11 e.harg11 arg2 v13 v21 v31 v40 cst_8 v41

theorem o36_runs (e : Env F) (arg2 : BitVec 32) (v13 : IVec S1x128 1) (v21 : FVec F S512x128 .bf16) (v31 : IVec S512x128 32) (v40 : Vec F S512x128 .f32) (cst_8 : F .f32) (v41 : IVec S1x128 1) (b : Bufs e) : Runs1 e b (p36 e arg2 v13 v21 v31 v40 cst_8 v41) (o36 e arg2 v13 v21 v31 v40 cst_8 v41 b) := by
  unfold o36
  exact fun E K => (part36 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v13 v21 v31 v40 cst_8 v41 b.f7 b.f8 b.f9 b.f10 b.f11).2.2.2.2.2.2 E K

@[irreducible] def o37 (e : Env F) (v26 : FVec F S512x128 .bf16) (v35 : FVec F S128x128 .bf16) (v45 : FVec F S512x128 .bf16) (v51 : FVec F S512x1 .f32) (v54 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16) (v85 : FVec F S128x128 .f32) (b : Bufs e) : Out e ((Σ' (v102 : FVec F S128x128 .f32) (v119 : FVec F S512x1 .f32) (v121 : FVec F S128x128 .f32) (v123 : FVec F S128x128 .f32) (v127 : FVec F S128x128 .f32), F .f32)) :=
  let p := part37 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v51 v54 v59 v62 v65 v66 v68 v82 v83 v85 b.f7 b.f8 b.f9 b.f10 b.f11
  ⟨p.1, p.2.1, p.2.2.1, p.2.2.2.1, p.2.2.2.2.1, p.2.2.2.2.2.1⟩

abbrev p37 (e : Env F) (v26 : FVec F S512x128 .bf16) (v35 : FVec F S128x128 .bf16) (v45 : FVec F S512x128 .bf16) (v51 : FVec F S512x1 .f32) (v54 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16) (v85 : FVec F S128x128 .f32) := k0_part37 (F := F) e.i e.arg3 e.harg3 e.arg4 e.harg4 e.arg5 e.harg5 e.arg6 e.harg6 e.arg7 e.harg7 e.arg8 e.harg8 e.arg9 e.harg9 e.arg10 e.harg10 e.arg11 e.harg11 v26 v35 v45 v51 v54 v59 v62 v65 v66 v68 v82 v83 v85

theorem o37_runs (e : Env F) (v26 : FVec F S512x128 .bf16) (v35 : FVec F S128x128 .bf16) (v45 : FVec F S512x128 .bf16) (v51 : FVec F S512x1 .f32) (v54 : BitVec 32) (v59 : FVec F S128x128 .bf16) (v62 : FVec F S128x128 .bf16) (v65 : IVec S128x128 1) (v66 : FVec F S128x128 .f32) (v68 : FVec F S128x128 .f32) (v82 : FVec F S128x128 .f32) (v83 : FVec F S128x128 .bf16) (v85 : FVec F S128x128 .f32) (b : Bufs e) : Runs1 e b (p37 e v26 v35 v45 v51 v54 v59 v62 v65 v66 v68 v82 v83 v85) (o37 e v26 v35 v45 v51 v54 v59 v62 v65 v66 v68 v82 v83 v85 b) := by
  unfold o37
  exact fun E K => (part37 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v51 v54 v59 v62 v65 v66 v68 v82 v83 v85 b.f7 b.f8 b.f9 b.f10 b.f11).2.2.2.2.2.2 E K

@[irreducible] def o38 (e : Env F) (v35 : FVec F S128x128 .bf16) (v50 : FVec F S512x128 .bf16) (v52 : FVec F S512x1 .f32) (v54 : BitVec 32) (v62 : FVec F S128x128 .bf16) (v65 : IVec S128x128 1) (v102 : FVec F S128x128 .f32) (v121 : FVec F S128x128 .f32) (v123 : FVec F S128x128 .f32) (v127 : FVec F S128x128 .f32) (cst_37 : F .f32) (b : Bufs e) : Out e ((Σ' (v155 : FVec F S128x128 .f32) (v169 : FVec F S384x1 .f32), FVec F S128x1 .f32)) :=
  let p := part38 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v52 v54 v62 v65 v102 v121 v123 v127 cst_37 b.f7 b.f8 b.f9 b.f10 b.f11
  ⟨p.1, p.2.1, p.2.2.1, p.2.2.2.1, p.2.2.2.2.1, p.2.2.2.2.2.1⟩

abbrev p38 (e : Env F) (v35 : FVec F S128x128 .bf16) (v50 : FVec F S512x128 .bf16) (v52 : FVec F S512x1 .f32) (v54 : BitVec 32) (v62 : FVec F S128x128 .bf16) (v65 : IVec S128x128 1) (v102 : FVec F S128x128 .f32) (v121 : FVec F S128x128 .f32) (v123 : FVec F S128x128 .f32) (v127 : FVec F S128x128 .f32) (cst_37 : F .f32) := k0_part38 (F := F) e.i e.arg3 e.harg3 e.arg4 e.harg4 e.arg5 e.harg5 e.arg6 e.harg6 e.arg7 e.harg7 e.arg8 e.harg8 e.arg9 e.harg9 e.arg10 e.harg10 e.arg11 e.harg11 v35 v50 v52 v54 v62 v65 v102 v121 v123 v127 cst_37

theorem o38_runs (e : Env F) (v35 : FVec F S128x128 .bf16) (v50 : FVec F S512x128 .bf16) (v52 : FVec F S512x1 .f32) (v54 : BitVec 32) (v62 : FVec F S128x128 .bf16) (v65 : IVec S128x128 1) (v102 : FVec F S128x128 .f32) (v121 : FVec F S128x128 .f32) (v123 : FVec F S128x128 .f32) (v127 : FVec F S128x128 .f32) (cst_37 : F .f32) (b : Bufs e) : Runs1 e b (p38 e v35 v50 v52 v54 v62 v65 v102 v121 v123 v127 cst_37) (o38 e v35 v50 v52 v54 v62 v65 v102 v121 v123 v127 cst_37 b) := by
  unfold o38
  exact fun E K => (part38 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v52 v54 v62 v65 v102 v121 v123 v127 cst_37 b.f7 b.f8 b.f9 b.f10 b.f11).2.2.2.2.2.2 E K

@[irreducible] def o39 (e : Env F) (arg2 : BitVec 32) (v21 : FVec F S512x128 .bf16) (v31 : IVec S512x128 32) (v35 : FVec F S128x128 .bf16) (v56 : BitVec 32) (v155 : FVec F S128x128 .f32) (v169 : FVec F S384x1 .f32) (v171 : FVec F S128x1 .f32) (b : Bufs e) : Out e ((Σ' (v172 : FVec F S512x1 .f32) (v180 : BitVec 32) (v182 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32), FVec F S256x128 .f32)) :=
  let p := part39 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v56 v155 v169 v171 b.f7 b.f8 b.f9 b.f10 b.f11
  ⟨p.1, p.2.1, p.2.2.1, p.2.2.2.1, p.2.2.2.2.1, p.2.2.2.2.2.1⟩

abbrev p39 (e : Env F) (arg2 : BitVec 32) (v21 : FVec F S512x128 .bf16) (v31 : IVec S512x128 32) (v35 : FVec F S128x128 .bf16) (v56 : BitVec 32) (v155 : FVec F S128x128 .f32) (v169 : FVec F S384x1 .f32) (v171 : FVec F S128x1 .f32) := k0_part39 (F := F) e.i e.arg3 e.harg3 e.arg4 e.harg4 e.arg5 e.harg5 e.arg6 e.harg6 e.arg7 e.harg7 e.arg8 e.harg8 e.arg9 e.harg9 e.arg10 e.harg10 e.arg11 e.harg11 arg2 v21 v31 v35 v56 v155 v169 v171

theorem o39_runs (e : Env F) (arg2 : BitVec 32) (v21 : FVec F S512x128 .bf16) (v31 : IVec S512x128 32) (v35 : FVec F S128x128 .bf16) (v56 : BitVec 32) (v155 : FVec F S128x128 .f32) (v169 : FVec F S384x1 .f32) (v171 : FVec F S128x1 .f32) (b : Bufs e) : Runs1 e b (p39 e arg2 v21 v31 v35 v56 v155 v169 v171) (o39 e arg2 v21 v31 v35 v56 v155 v169 v171 b) := by
  unfold o39
  exact fun E K => (part39 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v56 v155 v169 v171 b.f7 b.f8 b.f9 b.f10 b.f11).2.2.2.2.2.2 E K

@[irreducible] def o40 (e : Env F) (v26 : FVec F S512x128 .bf16) (v35 : FVec F S128x128 .bf16) (v45 : FVec F S512x128 .bf16) (v119 : FVec F S512x1 .f32) (v180 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32) (cst_66 : FVec F S256x128 .f32) (b : Bufs e) : Out e ((Σ' (v228 : FVec F S128x128 .f32) (v245 : FVec F S512x1 .f32) (v247 : FVec F S256x128 .f32), FVec F S256x128 .f32)) :=
  let p := part40 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v119 v180 v185 v188 v191 v192 v194 v208 v212 v213 cst_66 b.f7 b.f8 b.f9 b.f10 b.f11
  ⟨p.1, p.2.1, p.2.2.1, p.2.2.2.1, p.2.2.2.2.1, p.2.2.2.2.2.1⟩

abbrev p40 (e : Env F) (v26 : FVec F S512x128 .bf16) (v35 : FVec F S128x128 .bf16) (v45 : FVec F S512x128 .bf16) (v119 : FVec F S512x1 .f32) (v180 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32) (cst_66 : FVec F S256x128 .f32) := k0_part40 (F := F) e.i e.arg3 e.harg3 e.arg4 e.harg4 e.arg5 e.harg5 e.arg6 e.harg6 e.arg7 e.harg7 e.arg8 e.harg8 e.arg9 e.harg9 e.arg10 e.harg10 e.arg11 e.harg11 v26 v35 v45 v119 v180 v185 v188 v191 v192 v194 v208 v212 v213 cst_66

theorem o40_runs (e : Env F) (v26 : FVec F S512x128 .bf16) (v35 : FVec F S128x128 .bf16) (v45 : FVec F S512x128 .bf16) (v119 : FVec F S512x1 .f32) (v180 : BitVec 32) (v185 : FVec F S128x128 .bf16) (v188 : FVec F S128x128 .bf16) (v191 : IVec S256x128 1) (v192 : FVec F S128x128 .f32) (v194 : FVec F S256x128 .f32) (v208 : FVec F S256x128 .f32) (v212 : FVec F S256x128 .bf16) (v213 : FVec F S256x128 .f32) (cst_66 : FVec F S256x128 .f32) (b : Bufs e) : Runs1 e b (p40 e v26 v35 v45 v119 v180 v185 v188 v191 v192 v194 v208 v212 v213 cst_66) (o40 e v26 v35 v45 v119 v180 v185 v188 v191 v192 v194 v208 v212 v213 cst_66 b) := by
  unfold o40
  exact fun E K => (part40 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v119 v180 v185 v188 v191 v192 v194 v208 v212 v213 cst_66 b.f7 b.f8 b.f9 b.f10 b.f11).2.2.2.2.2.2 E K

@[irreducible] def o41 (e : Env F) (v35 : FVec F S128x128 .bf16) (v50 : FVec F S512x128 .bf16) (v172 : FVec F S512x1 .f32) (v180 : BitVec 32) (v182 : BitVec 32) (v188 : FVec F S128x128 .bf16) (v191 : IVec S256x128 1) (v228 : FVec F S128x128 .f32) (v247 : FVec F S256x128 .f32) (v257 : FVec F S256x128 .f32) (b : Bufs e) : Out e ((Σ' (v281 : FVec F S128x128 .f32) (v298 : FVec F S512x1 .f32), Vec F S128x128 .f32)) :=
  let p := part41 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v172 v180 v182 v188 v191 v228 v247 v257 b.f7 b.f8 b.f9 b.f10 b.f11
  ⟨p.1, p.2.1, p.2.2.1, p.2.2.2.1, p.2.2.2.2.1, p.2.2.2.2.2.1⟩

abbrev p41 (e : Env F) (v35 : FVec F S128x128 .bf16) (v50 : FVec F S512x128 .bf16) (v172 : FVec F S512x1 .f32) (v180 : BitVec 32) (v182 : BitVec 32) (v188 : FVec F S128x128 .bf16) (v191 : IVec S256x128 1) (v228 : FVec F S128x128 .f32) (v247 : FVec F S256x128 .f32) (v257 : FVec F S256x128 .f32) := k0_part41 (F := F) e.i e.arg3 e.harg3 e.arg4 e.harg4 e.arg5 e.harg5 e.arg6 e.harg6 e.arg7 e.harg7 e.arg8 e.harg8 e.arg9 e.harg9 e.arg10 e.harg10 e.arg11 e.harg11 v35 v50 v172 v180 v182 v188 v191 v228 v247 v257

theorem o41_runs (e : Env F) (v35 : FVec F S128x128 .bf16) (v50 : FVec F S512x128 .bf16) (v172 : FVec F S512x1 .f32) (v180 : BitVec 32) (v182 : BitVec 32) (v188 : FVec F S128x128 .bf16) (v191 : IVec S256x128 1) (v228 : FVec F S128x128 .f32) (v247 : FVec F S256x128 .f32) (v257 : FVec F S256x128 .f32) (b : Bufs e) : Runs1 e b (p41 e v35 v50 v172 v180 v182 v188 v191 v228 v247 v257) (o41 e v35 v50 v172 v180 v182 v188 v191 v228 v247 v257 b) := by
  unfold o41
  exact fun E K => (part41 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v172 v180 v182 v188 v191 v228 v247 v257 b.f7 b.f8 b.f9 b.f10 b.f11).2.2.2.2.2.2 E K

@[irreducible] def o42 (e : Env F) (arg2 : BitVec 32) (v21 : FVec F S512x128 .bf16) (v31 : IVec S512x128 32) (v35 : FVec F S128x128 .bf16) (v182 : BitVec 32) (v245 : FVec F S512x1 .f32) (v281 : FVec F S128x128 .f32) (v300 : Vec F S128x128 .f32) (b : Bufs e) : Out e ((Σ' (v306 : BitVec 32) (v308 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32), FVec F S384x1 .f32)) :=
  let p := part42 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v182 v245 v281 v300 b.f7 b.f8 b.f9 b.f10 b.f11
  ⟨p.1, p.2.1, p.2.2.1, p.2.2.2.1, p.2.2.2.2.1, p.2.2.2.2.2.1⟩

abbrev p42 (e : Env F) (arg2 : BitVec 32) (v21 : FVec F S512x128 .bf16) (v31 : IVec S512x128 32) (v35 : FVec F S128x128 .bf16) (v182 : BitVec 32) (v245 : FVec F S512x1 .f32) (v281 : FVec F S128x128 .f32) (v300 : Vec F S128x128 .f32) := k0_part42 (F := F) e.i e.arg3 e.harg3 e.arg4 e.harg4 e.arg5 e.harg5 e.arg6 e.harg6 e.arg7 e.harg7 e.arg8 e.harg8 e.arg9 e.harg9 e.arg10 e.harg10 e.arg11 e.harg11 arg2 v21 v31 v35 v182 v245 v281 v300

theorem o42_runs (e : Env F) (arg2 : BitVec 32) (v21 : FVec F S512x128 .bf16) (v31 : IVec S512x128 32) (v35 : FVec F S128x128 .bf16) (v182 : BitVec 32) (v245 : FVec F S512x1 .f32) (v281 : FVec F S128x128 .f32) (v300 : Vec F S128x128 .f32) (b : Bufs e) : Runs1 e b (p42 e arg2 v21 v31 v35 v182 v245 v281 v300) (o42 e arg2 v21 v31 v35 v182 v245 v281 v300 b) := by
  unfold o42
  exact fun E K => (part42 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v182 v245 v281 v300 b.f7 b.f8 b.f9 b.f10 b.f11).2.2.2.2.2.2 E K

@[irreducible] def o43 (e : Env F) (v26 : FVec F S512x128 .bf16) (v45 : FVec F S512x128 .bf16) (v245 : FVec F S512x1 .f32) (v306 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32) (v343 : FVec F S384x1 .f32) (b : Bufs e) : Out e ((Σ' (v354 : FVec F S128x128 .f32) (v371 : FVec F S512x1 .f32) (v373 : FVec F S384x128 .f32) (v385 : FVec F S384x128 .f32), F .f32)) :=
  let p := part43 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v45 v245 v306 v311 v314 v317 v318 v334 v341 v342 v343 b.f7 b.f8 b.f9 b.f10 b.f11
  ⟨p.1, p.2.1, p.2.2.1, p.2.2.2.1, p.2.2.2.2.1, p.2.2.2.2.2.1⟩

abbrev p43 (e : Env F) (v26 : FVec F S512x128 .bf16) (v45 : FVec F S512x128 .bf16) (v245 : FVec F S512x1 .f32) (v306 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32) (v343 : FVec F S384x1 .f32) := k0_part43 (F := F) e.i e.arg3 e.harg3 e.arg4 e.harg4 e.arg5 e.harg5 e.arg6 e.harg6 e.arg7 e.harg7 e.arg8 e.harg8 e.arg9 e.harg9 e.arg10 e.harg10 e.arg11 e.harg11 v26 v45 v245 v306 v311 v314 v317 v318 v334 v341 v342 v343

theorem o43_runs (e : Env F) (v26 : FVec F S512x128 .bf16) (v45 : FVec F S512x128 .bf16) (v245 : FVec F S512x1 .f32) (v306 : BitVec 32) (v311 : FVec F S128x128 .bf16) (v314 : FVec F S128x128 .bf16) (v317 : IVec S384x128 1) (v318 : FVec F S128x128 .f32) (v334 : FVec F S384x128 .f32) (v341 : FVec F S384x128 .f32) (v342 : FVec F S384x128 .f32) (v343 : FVec F S384x1 .f32) (b : Bufs e) : Runs1 e b (p43 e v26 v45 v245 v306 v311 v314 v317 v318 v334 v341 v342 v343) (o43 e v26 v45 v245 v306 v311 v314 v317 v318 v334 v341 v342 v343 b) := by
  unfold o43
  exact fun E K => (part43 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v45 v245 v306 v311 v314 v317 v318 v334 v341 v342 v343 b.f7 b.f8 b.f9 b.f10 b.f11).2.2.2.2.2.2 E K

@[irreducible] def o44 (e : Env F) (v35 : FVec F S128x128 .bf16) (v50 : FVec F S512x128 .bf16) (v298 : FVec F S512x1 .f32) (v306 : BitVec 32) (v308 : BitVec 32) (v314 : FVec F S128x128 .bf16) (v317 : IVec S384x128 1) (v354 : FVec F S128x128 .f32) (v373 : FVec F S384x128 .f32) (v385 : FVec F S384x128 .f32) (cst_124 : F .f32) (b : Bufs e) : Out e ((Σ' (v424 : FVec F S512x1 .f32), FVec F S128x128 .f32)) :=
  let p := part44 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v298 v306 v308 v314 v317 v354 v373 v385 cst_124 b.f7 b.f8 b.f9 b.f10 b.f11
  ⟨p.1, p.2.1, p.2.2.1, p.2.2.2.1, p.2.2.2.2.1, p.2.2.2.2.2.1⟩

abbrev p44 (e : Env F) (v35 : FVec F S128x128 .bf16) (v50 : FVec F S512x128 .bf16) (v298 : FVec F S512x1 .f32) (v306 : BitVec 32) (v308 : BitVec 32) (v314 : FVec F S128x128 .bf16) (v317 : IVec S384x128 1) (v354 : FVec F S128x128 .f32) (v373 : FVec F S384x128 .f32) (v385 : FVec F S384x128 .f32) (cst_124 : F .f32) := k0_part44 (F := F) e.i e.arg3 e.harg3 e.arg4 e.harg4 e.arg5 e.harg5 e.arg6 e.harg6 e.arg7 e.harg7 e.arg8 e.harg8 e.arg9 e.harg9 e.arg10 e.harg10 e.arg11 e.harg11 v35 v50 v298 v306 v308 v314 v317 v354 v373 v385 cst_124

theorem o44_runs (e : Env F) (v35 : FVec F S128x128 .bf16) (v50 : FVec F S512x128 .bf16) (v298 : FVec F S512x1 .f32) (v306 : BitVec 32) (v308 : BitVec 32) (v314 : FVec F S128x128 .bf16) (v317 : IVec S384x128 1) (v354 : FVec F S128x128 .f32) (v373 : FVec F S384x128 .f32) (v385 : FVec F S384x128 .f32) (cst_124 : F .f32) (b : Bufs e) : Runs1 e b (p44 e v35 v50 v298 v306 v308 v314 v317 v354 v373 v385 cst_124) (o44 e v35 v50 v298 v306 v308 v314 v317 v354 v373 v385 cst_124 b) := by
  unfold o44
  exact fun E K => (part44 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v35 v50 v298 v306 v308 v314 v317 v354 v373 v385 cst_124 b.f7 b.f8 b.f9 b.f10 b.f11).2.2.2.2.2.2 E K

@[irreducible] def o45 (e : Env F) (arg2 : BitVec 32) (v21 : FVec F S512x128 .bf16) (v31 : IVec S512x128 32) (v35 : FVec F S128x128 .bf16) (v371 : FVec F S512x1 .f32) (v428 : FVec F S128x128 .f32) (b : Bufs e) : Out e ((Σ' (v432 : BitVec 32) (v434 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32), FVec F S512x128 .f32)) :=
  let p := part45 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v371 v428 b.f7 b.f8 b.f9 b.f10 b.f11
  ⟨p.1, p.2.1, p.2.2.1, p.2.2.2.1, p.2.2.2.2.1, p.2.2.2.2.2.1⟩

abbrev p45 (e : Env F) (arg2 : BitVec 32) (v21 : FVec F S512x128 .bf16) (v31 : IVec S512x128 32) (v35 : FVec F S128x128 .bf16) (v371 : FVec F S512x1 .f32) (v428 : FVec F S128x128 .f32) := k0_part45 (F := F) e.i e.arg3 e.harg3 e.arg4 e.harg4 e.arg5 e.harg5 e.arg6 e.harg6 e.arg7 e.harg7 e.arg8 e.harg8 e.arg9 e.harg9 e.arg10 e.harg10 e.arg11 e.harg11 arg2 v21 v31 v35 v371 v428

theorem o45_runs (e : Env F) (arg2 : BitVec 32) (v21 : FVec F S512x128 .bf16) (v31 : IVec S512x128 32) (v35 : FVec F S128x128 .bf16) (v371 : FVec F S512x1 .f32) (v428 : FVec F S128x128 .f32) (b : Bufs e) : Runs1 e b (p45 e arg2 v21 v31 v35 v371 v428) (o45 e arg2 v21 v31 v35 v371 v428 b) := by
  unfold o45
  exact fun E K => (part45 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v31 v35 v371 v428 b.f7 b.f8 b.f9 b.f10 b.f11).2.2.2.2.2.2 E K

@[irreducible] def o46 (e : Env F) (v26 : FVec F S512x128 .bf16) (v35 : FVec F S128x128 .bf16) (v45 : FVec F S512x128 .bf16) (v371 : FVec F S512x1 .f32) (v424 : FVec F S512x1 .f32) (v432 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32) (cst_155 : FVec F S512x128 .f32) (b : Bufs e) : Out e ((Σ' (v475 : FVec F S128x128 .f32) (v489 : FVec F S512x1 .f32) (v504 : FVec F S512x128 .f32) (v511 : FVec F S512x128 .f32) (v512 : FVec F S512x128 .f32), FVec F S512x128 .f32)) :=
  let p := part46 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v371 v424 v432 v437 v440 v442 v443 v458 v465 v471 cst_155 b.f7 b.f8 b.f9 b.f10 b.f11
  ⟨p.1, p.2.1, p.2.2.1, p.2.2.2.1, p.2.2.2.2.1, p.2.2.2.2.2.1⟩

abbrev p46 (e : Env F) (v26 : FVec F S512x128 .bf16) (v35 : FVec F S128x128 .bf16) (v45 : FVec F S512x128 .bf16) (v371 : FVec F S512x1 .f32) (v424 : FVec F S512x1 .f32) (v432 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32) (cst_155 : FVec F S512x128 .f32) := k0_part46 (F := F) e.i e.arg3 e.harg3 e.arg4 e.harg4 e.arg5 e.harg5 e.arg6 e.harg6 e.arg7 e.harg7 e.arg8 e.harg8 e.arg9 e.harg9 e.arg10 e.harg10 e.arg11 e.harg11 v26 v35 v45 v371 v424 v432 v437 v440 v442 v443 v458 v465 v471 cst_155

theorem o46_runs (e : Env F) (v26 : FVec F S512x128 .bf16) (v35 : FVec F S128x128 .bf16) (v45 : FVec F S512x128 .bf16) (v371 : FVec F S512x1 .f32) (v424 : FVec F S512x1 .f32) (v432 : BitVec 32) (v437 : FVec F S128x128 .bf16) (v440 : FVec F S128x128 .bf16) (v442 : IVec S512x128 1) (v443 : FVec F S128x128 .f32) (v458 : FVec F S512x128 .f32) (v465 : FVec F S512x128 .f32) (v471 : FVec F S512x128 .f32) (cst_155 : FVec F S512x128 .f32) (b : Bufs e) : Runs1 e b (p46 e v26 v35 v45 v371 v424 v432 v437 v440 v442 v443 v458 v465 v471 cst_155) (o46 e v26 v35 v45 v371 v424 v432 v437 v440 v442 v443 v458 v465 v471 cst_155 b) := by
  unfold o46
  exact fun E K => (part46 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v26 v35 v45 v371 v424 v432 v437 v440 v442 v443 v458 v465 v471 cst_155 b.f7 b.f8 b.f9 b.f10 b.f11).2.2.2.2.2.2 E K

@[irreducible] def o47 (e : Env F) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (b : Bufs e) : Out e ((Σ' (v542 : BitVec 32) (v550 : FVec F S512x128 .f32), FVec F S512x1 .f32)) :=
  let p := part47 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v26 v35 v45 v50 v424 v432 v434 v440 v442 v475 v489 v504 v511 v512 v513 b.f7 b.f8 b.f9 b.f10 b.f11
  ⟨p.1, p.2.1, p.2.2.1, p.2.2.2.1, p.2.2.2.2.1, p.2.2.2.2.2.1⟩

abbrev p47 (e : Env F) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) := k0_part47 (F := F) e.i e.arg3 e.harg3 e.arg4 e.harg4 e.arg5 e.harg5 e.arg6 e.harg6 e.arg7 e.harg7 e.arg8 e.harg8 e.arg9 e.harg9 e.arg10 e.harg10 e.arg11 e.harg11 arg2 v21 v26 v35 v45 v50 v424 v432 v434 v440 v442 v475 v489 v504 v511 v512 v513

theorem o47_runs (e : Env F) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (b : Bufs e) : Runs1 e b (p47 e arg2 v21 v26 v35 v45 v50 v424 v432 v434 v440 v442 v475 v489 v504 v511 v512 v513) (o47 e arg2 v21 v26 v35 v45 v50 v424 v432 v434 v440 v442 v475 v489 v504 v511 v512 v513 b) := by
  unfold o47
  exact fun E K => (part47 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v21 v26 v35 v45 v50 v424 v432 v434 v440 v442 v475 v489 v504 v511 v512 v513 b.f7 b.f8 b.f9 b.f10 b.f11).2.2.2.2.2.2 E K

@[irreducible] def o48 (e : Env F) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (b : Bufs e) : Out e ((Σ' (v559_0 : FVec F S512x128 .f32) (v559_1 : FVec F S512x1 .f32) (v559_2 : FVec F S512x1 .f32) (v561 : BitVec 32) (v563 : BitVec 32) (v566 : FVec F S128x128 .bf16) (v567 : FVec F S128x128 .f32) (v570 : FVec F S512x128 .f32) (v589 : FVec F S512x128 .bf16), F .bf16)) :=
  let p := part48 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v8 v13 v21 v26 v31 v39 v542 v550 v551 b.f7 b.f8 b.f9 b.f10 b.f11
  ⟨p.1, p.2.1, p.2.2.1, p.2.2.2.1, p.2.2.2.2.1, p.2.2.2.2.2.1⟩

abbrev p48 (e : Env F) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) := k0_part48 (F := F) e.i e.arg3 e.harg3 e.arg4 e.harg4 e.arg5 e.harg5 e.arg6 e.harg6 e.arg7 e.harg7 e.arg8 e.harg8 e.arg9 e.harg9 e.arg10 e.harg10 e.arg11 e.harg11 arg2 v8 v13 v21 v26 v31 v39 v542 v550 v551

theorem o48_runs (e : Env F) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (b : Bufs e) : Runs1 e b (p48 e arg2 v8 v13 v21 v26 v31 v39 v542 v550 v551) (o48 e arg2 v8 v13 v21 v26 v31 v39 v542 v550 v551 b) := by
  unfold o48
  exact fun E K => (part48 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v8 v13 v21 v26 v31 v39 v542 v550 v551 b.f7 b.f8 b.f9 b.f10 b.f11).2.2.2.2.2.2 E K

@[irreducible] def o49 (e : Env F) (v8 : IVec S1x128 1) (v13 : IVec S1x128 1) (v21 : FVec F S512x128 .bf16) (v26 : FVec F S512x128 .bf16) (v31 : IVec S512x128 32) (v39 : FVec F S128x128 .bf16) (v559_0 : FVec F S512x128 .f32) (v559_1 : FVec F S512x1 .f32) (v559_2 : FVec F S512x1 .f32) (v561 : BitVec 32) (v566 : FVec F S128x128 .bf16) (v567 : FVec F S128x128 .f32) (v570 : FVec F S512x128 .f32) (v589 : FVec F S512x128 .bf16) (v590 : F .bf16) (b : Bufs e) : Out e ((Σ' (v601 : FVec F S512x1 .f32) (v630 : FVec F S512x128 .f32) (v632 : FVec F S128x128 .f32), FVec F S512 .f32)) :=
  let p := part49 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v13 v21 v26 v31 v39 v559_0 v559_1 v559_2 v561 v566 v567 v570 v589 v590 b.f7 b.f8 b.f9 b.f10 b.f11
  ⟨p.1, p.2.1, p.2.2.1, p.2.2.2.1, p.2.2.2.2.1, p.2.2.2.2.2.1⟩

abbrev p49 (e : Env F) (v8 : IVec S1x128 1) (v13 : IVec S1x128 1) (v21 : FVec F S512x128 .bf16) (v26 : FVec F S512x128 .bf16) (v31 : IVec S512x128 32) (v39 : FVec F S128x128 .bf16) (v559_0 : FVec F S512x128 .f32) (v559_1 : FVec F S512x1 .f32) (v559_2 : FVec F S512x1 .f32) (v561 : BitVec 32) (v566 : FVec F S128x128 .bf16) (v567 : FVec F S128x128 .f32) (v570 : FVec F S512x128 .f32) (v589 : FVec F S512x128 .bf16) (v590 : F .bf16) := k0_part49 (F := F) e.i e.arg3 e.harg3 e.arg4 e.harg4 e.arg5 e.harg5 e.arg6 e.harg6 e.arg7 e.harg7 e.arg8 e.harg8 e.arg9 e.harg9 e.arg10 e.harg10 e.arg11 e.harg11 v8 v13 v21 v26 v31 v39 v559_0 v559_1 v559_2 v561 v566 v567 v570 v589 v590

theorem o49_runs (e : Env F) (v8 : IVec S1x128 1) (v13 : IVec S1x128 1) (v21 : FVec F S512x128 .bf16) (v26 : FVec F S512x128 .bf16) (v31 : IVec S512x128 32) (v39 : FVec F S128x128 .bf16) (v559_0 : FVec F S512x128 .f32) (v559_1 : FVec F S512x1 .f32) (v559_2 : FVec F S512x1 .f32) (v561 : BitVec 32) (v566 : FVec F S128x128 .bf16) (v567 : FVec F S128x128 .f32) (v570 : FVec F S512x128 .f32) (v589 : FVec F S512x128 .bf16) (v590 : F .bf16) (b : Bufs e) : Runs1 e b (p49 e v8 v13 v21 v26 v31 v39 v559_0 v559_1 v559_2 v561 v566 v567 v570 v589 v590) (o49 e v8 v13 v21 v26 v31 v39 v559_0 v559_1 v559_2 v561 v566 v567 v570 v589 v590 b) := by
  unfold o49
  exact fun E K => (part49 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v13 v21 v26 v31 v39 v559_0 v559_1 v559_2 v561 v566 v567 v570 v589 v590 b.f7 b.f8 b.f9 b.f10 b.f11).2.2.2.2.2.2 E K

@[irreducible] def o50 (e : Env F) (arg2 : BitVec 32) (v31 : IVec S512x128 32) (v39 : FVec F S128x128 .bf16) (v559_2 : FVec F S512x1 .f32) (v563 : BitVec 32) (v601 : FVec F S512x1 .f32) (v632 : FVec F S128x128 .f32) (v633 : FVec F S512 .f32) (b : Bufs e) : Out e ((Σ' (v635 : FVec F S512x1 .f32) (v643 : BitVec 32) (v645 : BitVec 32) (v648 : FVec F S128x128 .bf16) (v649 : FVec F S128x128 .f32) (v652 : FVec F S384x128 .f32) (v673 : FVec F S384x128 .bf16), F .bf16)) :=
  let p := part50 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v31 v39 v559_2 v563 v601 v632 v633 b.f7 b.f8 b.f9 b.f10 b.f11
  ⟨p.1, p.2.1, p.2.2.1, p.2.2.2.1, p.2.2.2.2.1, p.2.2.2.2.2.1⟩

abbrev p50 (e : Env F) (arg2 : BitVec 32) (v31 : IVec S512x128 32) (v39 : FVec F S128x128 .bf16) (v559_2 : FVec F S512x1 .f32) (v563 : BitVec 32) (v601 : FVec F S512x1 .f32) (v632 : FVec F S128x128 .f32) (v633 : FVec F S512 .f32) := k0_part50 (F := F) e.i e.arg3 e.harg3 e.arg4 e.harg4 e.arg5 e.harg5 e.arg6 e.harg6 e.arg7 e.harg7 e.arg8 e.harg8 e.arg9 e.harg9 e.arg10 e.harg10 e.arg11 e.harg11 arg2 v31 v39 v559_2 v563 v601 v632 v633

theorem o50_runs (e : Env F) (arg2 : BitVec 32) (v31 : IVec S512x128 32) (v39 : FVec F S128x128 .bf16) (v559_2 : FVec F S512x1 .f32) (v563 : BitVec 32) (v601 : FVec F S512x1 .f32) (v632 : FVec F S128x128 .f32) (v633 : FVec F S512 .f32) (b : Bufs e) : Runs1 e b (p50 e arg2 v31 v39 v559_2 v563 v601 v632 v633) (o50 e arg2 v31 v39 v559_2 v563 v601 v632 v633 b) := by
  unfold o50
  exact fun E K => (part50 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v31 v39 v559_2 v563 v601 v632 v633 b.f7 b.f8 b.f9 b.f10 b.f11).2.2.2.2.2.2 E K

@[irreducible] def o51 (e : Env F) (v8 : IVec S1x128 1) (v13 : IVec S1x128 1) (v21 : FVec F S512x128 .bf16) (v31 : IVec S512x128 32) (v39 : FVec F S128x128 .bf16) (v601 : FVec F S512x1 .f32) (v630 : FVec F S512x128 .f32) (v635 : FVec F S512x1 .f32) (v643 : BitVec 32) (v648 : FVec F S128x128 .bf16) (v649 : FVec F S128x128 .f32) (v652 : FVec F S384x128 .f32) (v673 : FVec F S384x128 .bf16) (v674 : F .bf16) (b : Bufs e) : Out e ((Σ' (v683 : FVec F S512x128 .f32) (v686 : FVec F S128x128 .f32) (v692 : FVec F S512x1 .f32) (v695 : FVec F S384x128 .f32) (v716 : FVec F S384x128 .bf16) (v719 : IVec S128x128 1), FVec F S128x128 .bf16)) :=
  let p := part51 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v13 v21 v31 v39 v601 v630 v635 v643 v648 v649 v652 v673 v674 b.f7 b.f8 b.f9 b.f10 b.f11
  ⟨p.1, p.2.1, p.2.2.1, p.2.2.2.1, p.2.2.2.2.1, p.2.2.2.2.2.1⟩

abbrev p51 (e : Env F) (v8 : IVec S1x128 1) (v13 : IVec S1x128 1) (v21 : FVec F S512x128 .bf16) (v31 : IVec S512x128 32) (v39 : FVec F S128x128 .bf16) (v601 : FVec F S512x1 .f32) (v630 : FVec F S512x128 .f32) (v635 : FVec F S512x1 .f32) (v643 : BitVec 32) (v648 : FVec F S128x128 .bf16) (v649 : FVec F S128x128 .f32) (v652 : FVec F S384x128 .f32) (v673 : FVec F S384x128 .bf16) (v674 : F .bf16) := k0_part51 (F := F) e.i e.arg3 e.harg3 e.arg4 e.harg4 e.arg5 e.harg5 e.arg6 e.harg6 e.arg7 e.harg7 e.arg8 e.harg8 e.arg9 e.harg9 e.arg10 e.harg10 e.arg11 e.harg11 v8 v13 v21 v31 v39 v601 v630 v635 v643 v648 v649 v652 v673 v674

theorem o51_runs (e : Env F) (v8 : IVec S1x128 1) (v13 : IVec S1x128 1) (v21 : FVec F S512x128 .bf16) (v31 : IVec S512x128 32) (v39 : FVec F S128x128 .bf16) (v601 : FVec F S512x1 .f32) (v630 : FVec F S512x128 .f32) (v635 : FVec F S512x1 .f32) (v643 : BitVec 32) (v648 : FVec F S128x128 .bf16) (v649 : FVec F S128x128 .f32) (v652 : FVec F S384x128 .f32) (v673 : FVec F S384x128 .bf16) (v674 : F .bf16) (b : Bufs e) : Runs1 e b (p51 e v8 v13 v21 v31 v39 v601 v630 v635 v643 v648 v649 v652 v673 v674) (o51 e v8 v13 v21 v31 v39 v601 v630 v635 v643 v648 v649 v652 v673 v674 b) := by
  unfold o51
  exact fun E K => (part51 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v13 v21 v31 v39 v601 v630 v635 v643 v648 v649 v652 v673 v674 b.f7 b.f8 b.f9 b.f10 b.f11).2.2.2.2.2.2 E K

@[irreducible] def o52 (e : Env F) (arg2 : BitVec 32) (v26 : FVec F S512x128 .bf16) (v39 : FVec F S128x128 .bf16) (v635 : FVec F S512x1 .f32) (v645 : BitVec 32) (v648 : FVec F S128x128 .bf16) (v683 : FVec F S512x128 .f32) (v686 : FVec F S128x128 .f32) (v692 : FVec F S512x1 .f32) (v695 : FVec F S384x128 .f32) (v716 : FVec F S384x128 .bf16) (v719 : IVec S128x128 1) (v720 : FVec F S128x128 .bf16) (b : Bufs e) : Out e ((Σ' (v726 : FVec F S512x128 .f32) (v735 : FVec F S512x1 .f32) (v743 : BitVec 32) (v745 : BitVec 32) (v748 : FVec F S128x128 .bf16) (v749 : FVec F S128x128 .f32) (v752 : FVec F S256x128 .f32), FVec F S256x128 .f32)) :=
  let p := part52 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v26 v39 v635 v645 v648 v683 v686 v692 v695 v716 v719 v720 b.f7 b.f8 b.f9 b.f10 b.f11
  ⟨p.1, p.2.1, p.2.2.1, p.2.2.2.1, p.2.2.2.2.1, p.2.2.2.2.2.1⟩

abbrev p52 (e : Env F) (arg2 : BitVec 32) (v26 : FVec F S512x128 .bf16) (v39 : FVec F S128x128 .bf16) (v635 : FVec F S512x1 .f32) (v645 : BitVec 32) (v648 : FVec F S128x128 .bf16) (v683 : FVec F S512x128 .f32) (v686 : FVec F S128x128 .f32) (v692 : FVec F S512x1 .f32) (v695 : FVec F S384x128 .f32) (v716 : FVec F S384x128 .bf16) (v719 : IVec S128x128 1) (v720 : FVec F S128x128 .bf16) := k0_part52 (F := F) e.i e.arg3 e.harg3 e.arg4 e.harg4 e.arg5 e.harg5 e.arg6 e.harg6 e.arg7 e.harg7 e.arg8 e.harg8 e.arg9 e.harg9 e.arg10 e.harg10 e.arg11 e.harg11 arg2 v26 v39 v635 v645 v648 v683 v686 v692 v695 v716 v719 v720

theorem o52_runs (e : Env F) (arg2 : BitVec 32) (v26 : FVec F S512x128 .bf16) (v39 : FVec F S128x128 .bf16) (v635 : FVec F S512x1 .f32) (v645 : BitVec 32) (v648 : FVec F S128x128 .bf16) (v683 : FVec F S512x128 .f32) (v686 : FVec F S128x128 .f32) (v692 : FVec F S512x1 .f32) (v695 : FVec F S384x128 .f32) (v716 : FVec F S384x128 .bf16) (v719 : IVec S128x128 1) (v720 : FVec F S128x128 .bf16) (b : Bufs e) : Runs1 e b (p52 e arg2 v26 v39 v635 v645 v648 v683 v686 v692 v695 v716 v719 v720) (o52 e arg2 v26 v39 v635 v645 v648 v683 v686 v692 v695 v716 v719 v720 b) := by
  unfold o52
  exact fun E K => (part52 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v26 v39 v635 v645 v648 v683 v686 v692 v695 v716 v719 v720 b.f7 b.f8 b.f9 b.f10 b.f11).2.2.2.2.2.2 E K

@[irreducible] def o53 (e : Env F) (v8 : IVec S1x128 1) (v21 : FVec F S512x128 .bf16) (v31 : IVec S512x128 32) (v39 : FVec F S128x128 .bf16) (v692 : FVec F S512x1 .f32) (v726 : FVec F S512x128 .f32) (v735 : FVec F S512x1 .f32) (v743 : BitVec 32) (v748 : FVec F S128x128 .bf16) (v749 : FVec F S128x128 .f32) (v752 : FVec F S256x128 .f32) (v762 : FVec F S256x128 .f32) (b : Bufs e) : Out e ((Σ' (v783 : FVec F S512x128 .f32) (v786 : FVec F S128x128 .f32) (v792 : FVec F S512x1 .f32) (v795 : FVec F S256x128 .f32) (v805 : FVec F S256x128 .f32), Vec F S1x1x256x128 .f32)) :=
  let p := part53 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v21 v31 v39 v692 v726 v735 v743 v748 v749 v752 v762 b.f7 b.f8 b.f9 b.f10 b.f11
  ⟨p.1, p.2.1, p.2.2.1, p.2.2.2.1, p.2.2.2.2.1, p.2.2.2.2.2.1⟩

abbrev p53 (e : Env F) (v8 : IVec S1x128 1) (v21 : FVec F S512x128 .bf16) (v31 : IVec S512x128 32) (v39 : FVec F S128x128 .bf16) (v692 : FVec F S512x1 .f32) (v726 : FVec F S512x128 .f32) (v735 : FVec F S512x1 .f32) (v743 : BitVec 32) (v748 : FVec F S128x128 .bf16) (v749 : FVec F S128x128 .f32) (v752 : FVec F S256x128 .f32) (v762 : FVec F S256x128 .f32) := k0_part53 (F := F) e.i e.arg3 e.harg3 e.arg4 e.harg4 e.arg5 e.harg5 e.arg6 e.harg6 e.arg7 e.harg7 e.arg8 e.harg8 e.arg9 e.harg9 e.arg10 e.harg10 e.arg11 e.harg11 v8 v21 v31 v39 v692 v726 v735 v743 v748 v749 v752 v762

theorem o53_runs (e : Env F) (v8 : IVec S1x128 1) (v21 : FVec F S512x128 .bf16) (v31 : IVec S512x128 32) (v39 : FVec F S128x128 .bf16) (v692 : FVec F S512x1 .f32) (v726 : FVec F S512x128 .f32) (v735 : FVec F S512x1 .f32) (v743 : BitVec 32) (v748 : FVec F S128x128 .bf16) (v749 : FVec F S128x128 .f32) (v752 : FVec F S256x128 .f32) (v762 : FVec F S256x128 .f32) (b : Bufs e) : Runs1 e b (p53 e v8 v21 v31 v39 v692 v726 v735 v743 v748 v749 v752 v762) (o53 e v8 v21 v31 v39 v692 v726 v735 v743 v748 v749 v752 v762 b) := by
  unfold o53
  exact fun E K => (part53 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v21 v31 v39 v692 v726 v735 v743 v748 v749 v752 v762 b.f7 b.f8 b.f9 b.f10 b.f11).2.2.2.2.2.2 E K

@[irreducible] def o54 (e : Env F) (arg2 : BitVec 32) (v13 : IVec S1x128 1) (v26 : FVec F S512x128 .bf16) (v31 : IVec S512x128 32) (v735 : FVec F S512x1 .f32) (v745 : BitVec 32) (v748 : FVec F S128x128 .bf16) (v783 : FVec F S512x128 .f32) (v786 : FVec F S128x128 .f32) (v795 : FVec F S256x128 .f32) (v805 : FVec F S256x128 .f32) (v807 : Vec F S1x1x256x128 .f32) (b : Bufs e) : Out e ((Σ' (v826 : FVec F S512x128 .f32) (v835 : FVec F S512x1 .f32) (v843 : BitVec 32) (v845 : BitVec 32) (v848 : FVec F S128x128 .bf16), FVec F S128x128 .f32)) :=
  let p := part54 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v13 v26 v31 v735 v745 v748 v783 v786 v795 v805 v807 b.f7 b.f8 b.f9 b.f10 b.f11
  ⟨p.1, p.2.1, p.2.2.1, p.2.2.2.1, p.2.2.2.2.1, p.2.2.2.2.2.1⟩

abbrev p54 (e : Env F) (arg2 : BitVec 32) (v13 : IVec S1x128 1) (v26 : FVec F S512x128 .bf16) (v31 : IVec S512x128 32) (v735 : FVec F S512x1 .f32) (v745 : BitVec 32) (v748 : FVec F S128x128 .bf16) (v783 : FVec F S512x128 .f32) (v786 : FVec F S128x128 .f32) (v795 : FVec F S256x128 .f32) (v805 : FVec F S256x128 .f32) (v807 : Vec F S1x1x256x128 .f32) := k0_part54 (F := F) e.i e.arg3 e.harg3 e.arg4 e.harg4 e.arg5 e.harg5 e.arg6 e.harg6 e.arg7 e.harg7 e.arg8 e.harg8 e.arg9 e.harg9 e.arg10 e.harg10 e.arg11 e.harg11 arg2 v13 v26 v31 v735 v745 v748 v783 v786 v795 v805 v807

theorem o54_runs (e : Env F) (arg2 : BitVec 32) (v13 : IVec S1x128 1) (v26 : FVec F S512x128 .bf16) (v31 : IVec S512x128 32) (v735 : FVec F S512x1 .f32) (v745 : BitVec 32) (v748 : FVec F S128x128 .bf16) (v783 : FVec F S512x128 .f32) (v786 : FVec F S128x128 .f32) (v795 : FVec F S256x128 .f32) (v805 : FVec F S256x128 .f32) (v807 : Vec F S1x1x256x128 .f32) (b : Bufs e) : Runs1 e b (p54 e arg2 v13 v26 v31 v735 v745 v748 v783 v786 v795 v805 v807) (o54 e arg2 v13 v26 v31 v735 v745 v748 v783 v786 v795 v805 v807 b) := by
  unfold o54
  exact fun E K => (part54 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 arg2 v13 v26 v31 v735 v745 v748 v783 v786 v795 v805 v807 b.f7 b.f8 b.f9 b.f10 b.f11).2.2.2.2.2.2 E K

@[irreducible] def o55 (e : Env F) (v8 : IVec S1x128 1) (v21 : FVec F S512x128 .bf16) (v31 : IVec S512x128 32) (v39 : FVec F S128x128 .bf16) (v792 : FVec F S512x1 .f32) (v826 : FVec F S512x128 .f32) (v843 : BitVec 32) (v848 : FVec F S128x128 .bf16) (v849 : FVec F S128x128 .f32) (b : Bufs e) : Out e ((Σ' (v883 : FVec F S512x128 .f32) (v886 : FVec F S128x128 .f32) (v889 : FVec F S128x128 .f32) (v894 : FVec F S128x128 .f32), FVec F S128x128 .f32)) :=
  let p := part55 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v21 v31 v39 v792 v826 v843 v848 v849 b.f7 b.f8 b.f9 b.f10 b.f11
  ⟨p.1, p.2.1, p.2.2.1, p.2.2.2.1, p.2.2.2.2.1, p.2.2.2.2.2.1⟩

abbrev p55 (e : Env F) (v8 : IVec S1x128 1) (v21 : FVec F S512x128 .bf16) (v31 : IVec S512x128 32) (v39 : FVec F S128x128 .bf16) (v792 : FVec F S512x1 .f32) (v826 : FVec F S512x128 .f32) (v843 : BitVec 32) (v848 : FVec F S128x128 .bf16) (v849 : FVec F S128x128 .f32) := k0_part55 (F := F) e.i e.arg3 e.harg3 e.arg4 e.harg4 e.arg5 e.harg5 e.arg6 e.harg6 e.arg7 e.harg7 e.arg8 e.harg8 e.arg9 e.harg9 e.arg10 e.harg10 e.arg11 e.harg11 v8 v21 v31 v39 v792 v826 v843 v848 v849

theorem o55_runs (e : Env F) (v8 : IVec S1x128 1) (v21 : FVec F S512x128 .bf16) (v31 : IVec S512x128 32) (v39 : FVec F S128x128 .bf16) (v792 : FVec F S512x1 .f32) (v826 : FVec F S512x128 .f32) (v843 : BitVec 32) (v848 : FVec F S128x128 .bf16) (v849 : FVec F S128x128 .f32) (b : Bufs e) : Runs1 e b (p55 e v8 v21 v31 v39 v792 v826 v843 v848 v849) (o55 e v8 v21 v31 v39 v792 v826 v843 v848 v849 b) := by
  unfold o55
  exact fun E K => (part55 (F := F) e.c e.i e.arg3 e.harg3 e.arg4 e.harg4 e.arg5 e.harg5 e.arg6 e.harg6 e.arg7 e.harg7 e.arg8 e.harg8 e.arg9 e.harg9 e.arg10 e.harg10 e.arg11 e.harg11 e.K3 e.K4 e.K5 e.K6 v8 v21 v31 v39 v792 v826 v843 v848 v849 b.f7 b.f8 b.f9 b.f10 b.f11).2.2.2.2.2.2 E K

end Cert.KernelIdeal.Hand
end
-- ==== Proof.Chain.lean ====
/-  The parts of the body one after another.  -/
module
public import proofs.«01_k».proof.Proof.Outs
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the first stretch returned and left. -/
abbrev First (e : Env F) : Type := Out e ((Σ' (arg2 : BitVec 32) (v8 : IVec S1x128 1) (v13 : IVec S1x128 1) (v21 : FVec F S512x128 .bf16) (v26 : FVec F S512x128 .bf16) (v31 : IVec S512x128 32) (v35 : FVec F S128x128 .bf16) (v39 : FVec F S128x128 .bf16) (v40 : Vec F S512x128 .f32) (cst_8 : F .f32), IVec S1x128 1))

@[irreducible] def c36 (e : Env F) (o : First e) := o36 e o.r.1 o.r.2.2.1 o.r.2.2.2.1 o.r.2.2.2.2.2.1 o.r.2.2.2.2.2.2.2.2.1 o.r.2.2.2.2.2.2.2.2.2.1 o.r.2.2.2.2.2.2.2.2.2.2 o.b

theorem c36_runs (e : Env F) (o : First e) : Runs1 e o.b (p36 e o.r.1 o.r.2.2.1 o.r.2.2.2.1 o.r.2.2.2.2.2.1 o.r.2.2.2.2.2.2.2.2.1 o.r.2.2.2.2.2.2.2.2.2.1 o.r.2.2.2.2.2.2.2.2.2.2) (c36 e o) := by
  unfold c36; exact o36_runs e _ _ _ _ _ _ _ _

@[irreducible] def c37 (e : Env F) (o : First e) := o37 e o.r.2.2.2.2.1 o.r.2.2.2.2.2.2.1 ((c36 e o).r.1) ((c36 e o).r.2.2.1) ((c36 e o).r.2.2.2.2.1) ((c36 e o).r.2.2.2.2.2.2.1) ((c36 e o).r.2.2.2.2.2.2.2.1) ((c36 e o).r.2.2.2.2.2.2.2.2.1) ((c36 e o).r.2.2.2.2.2.2.2.2.2.1) ((c36 e o).r.2.2.2.2.2.2.2.2.2.2.1) ((c36 e o).r.2.2.2.2.2.2.2.2.2.2.2.1) ((c36 e o).r.2.2.2.2.2.2.2.2.2.2.2.2.1) ((c36 e o).r.2.2.2.2.2.2.2.2.2.2.2.2.2) (c36 e o).b

theorem c37_runs (e : Env F) (o : First e) : Runs1 e (c36 e o).b (p37 e o.r.2.2.2.2.1 o.r.2.2.2.2.2.2.1 ((c36 e o).r.1) ((c36 e o).r.2.2.1) ((c36 e o).r.2.2.2.2.1) ((c36 e o).r.2.2.2.2.2.2.1) ((c36 e o).r.2.2.2.2.2.2.2.1) ((c36 e o).r.2.2.2.2.2.2.2.2.1) ((c36 e o).r.2.2.2.2.2.2.2.2.2.1) ((c36 e o).r.2.2.2.2.2.2.2.2.2.2.1) ((c36 e o).r.2.2.2.2.2.2.2.2.2.2.2.1) ((c36 e o).r.2.2.2.2.2.2.2.2.2.2.2.2.1) ((c36 e o).r.2.2.2.2.2.2.2.2.2.2.2.2.2)) (c37 e o) := by
  unfold c37; exact o37_runs e _ _ _ _ _ _ _ _ _ _ _ _ _ _

@[irreducible] def c38 (e : Env F) (o : First e) := o38 e o.r.2.2.2.2.2.2.1 ((c36 e o).r.2.1) ((c36 e o).r.2.2.2.1) ((c36 e o).r.2.2.2.2.1) ((c36 e o).r.2.2.2.2.2.2.2.1) ((c36 e o).r.2.2.2.2.2.2.2.2.1) ((c37 e o).r.1) ((c37 e o).r.2.2.1) ((c37 e o).r.2.2.2.1) ((c37 e o).r.2.2.2.2.1) ((c37 e o).r.2.2.2.2.2) (c37 e o).b

theorem c38_runs (e : Env F) (o : First e) : Runs1 e (c37 e o).b (p38 e o.r.2.2.2.2.2.2.1 ((c36 e o).r.2.1) ((c36 e o).r.2.2.2.1) ((c36 e o).r.2.2.2.2.1) ((c36 e o).r.2.2.2.2.2.2.2.1) ((c36 e o).r.2.2.2.2.2.2.2.2.1) ((c37 e o).r.1) ((c37 e o).r.2.2.1) ((c37 e o).r.2.2.2.1) ((c37 e o).r.2.2.2.2.1) ((c37 e o).r.2.2.2.2.2)) (c38 e o) := by
  unfold c38; exact o38_runs e _ _ _ _ _ _ _ _ _ _ _ _

@[irreducible] def c39 (e : Env F) (o : First e) := o39 e o.r.1 o.r.2.2.2.1 o.r.2.2.2.2.2.1 o.r.2.2.2.2.2.2.1 ((c36 e o).r.2.2.2.2.2.1) ((c38 e o).r.1) ((c38 e o).r.2.1) ((c38 e o).r.2.2) (c38 e o).b

theorem c39_runs (e : Env F) (o : First e) : Runs1 e (c38 e o).b (p39 e o.r.1 o.r.2.2.2.1 o.r.2.2.2.2.2.1 o.r.2.2.2.2.2.2.1 ((c36 e o).r.2.2.2.2.2.1) ((c38 e o).r.1) ((c38 e o).r.2.1) ((c38 e o).r.2.2)) (c39 e o) := by
  unfold c39; exact o39_runs e _ _ _ _ _ _ _ _ _

@[irreducible] def c40 (e : Env F) (o : First e) := o40 e o.r.2.2.2.2.1 o.r.2.2.2.2.2.2.1 ((c36 e o).r.1) ((c37 e o).r.2.1) ((c39 e o).r.2.1) ((c39 e o).r.2.2.2.1) ((c39 e o).r.2.2.2.2.1) ((c39 e o).r.2.2.2.2.2.1) ((c39 e o).r.2.2.2.2.2.2.1) ((c39 e o).r.2.2.2.2.2.2.2.1) ((c39 e o).r.2.2.2.2.2.2.2.2.1) ((c39 e o).r.2.2.2.2.2.2.2.2.2.1) ((c39 e o).r.2.2.2.2.2.2.2.2.2.2.1) ((c39 e o).r.2.2.2.2.2.2.2.2.2.2.2) (c39 e o).b

theorem c40_runs (e : Env F) (o : First e) : Runs1 e (c39 e o).b (p40 e o.r.2.2.2.2.1 o.r.2.2.2.2.2.2.1 ((c36 e o).r.1) ((c37 e o).r.2.1) ((c39 e o).r.2.1) ((c39 e o).r.2.2.2.1) ((c39 e o).r.2.2.2.2.1) ((c39 e o).r.2.2.2.2.2.1) ((c39 e o).r.2.2.2.2.2.2.1) ((c39 e o).r.2.2.2.2.2.2.2.1) ((c39 e o).r.2.2.2.2.2.2.2.2.1) ((c39 e o).r.2.2.2.2.2.2.2.2.2.1) ((c39 e o).r.2.2.2.2.2.2.2.2.2.2.1) ((c39 e o).r.2.2.2.2.2.2.2.2.2.2.2)) (c40 e o) := by
  unfold c40; exact o40_runs e _ _ _ _ _ _ _ _ _ _ _ _ _ _ _

@[irreducible] def c41 (e : Env F) (o : First e) := o41 e o.r.2.2.2.2.2.2.1 ((c36 e o).r.2.1) ((c39 e o).r.1) ((c39 e o).r.2.1) ((c39 e o).r.2.2.1) ((c39 e o).r.2.2.2.2.1) ((c39 e o).r.2.2.2.2.2.1) ((c40 e o).r.1) ((c40 e o).r.2.2.1) ((c40 e o).r.2.2.2) (c40 e o).b

theorem c41_runs (e : Env F) (o : First e) : Runs1 e (c40 e o).b (p41 e o.r.2.2.2.2.2.2.1 ((c36 e o).r.2.1) ((c39 e o).r.1) ((c39 e o).r.2.1) ((c39 e o).r.2.2.1) ((c39 e o).r.2.2.2.2.1) ((c39 e o).r.2.2.2.2.2.1) ((c40 e o).r.1) ((c40 e o).r.2.2.1) ((c40 e o).r.2.2.2)) (c41 e o) := by
  unfold c41; exact o41_runs e _ _ _ _ _ _ _ _ _ _ _

@[irreducible] def c42 (e : Env F) (o : First e) := o42 e o.r.1 o.r.2.2.2.1 o.r.2.2.2.2.2.1 o.r.2.2.2.2.2.2.1 ((c39 e o).r.2.2.1) ((c40 e o).r.2.1) ((c41 e o).r.1) ((c41 e o).r.2.2) (c41 e o).b

theorem c42_runs (e : Env F) (o : First e) : Runs1 e (c41 e o).b (p42 e o.r.1 o.r.2.2.2.1 o.r.2.2.2.2.2.1 o.r.2.2.2.2.2.2.1 ((c39 e o).r.2.2.1) ((c40 e o).r.2.1) ((c41 e o).r.1) ((c41 e o).r.2.2)) (c42 e o) := by
  unfold c42; exact o42_runs e _ _ _ _ _ _ _ _ _

@[irreducible] def c43 (e : Env F) (o : First e) := o43 e o.r.2.2.2.2.1 ((c36 e o).r.1) ((c40 e o).r.2.1) ((c42 e o).r.1) ((c42 e o).r.2.2.1) ((c42 e o).r.2.2.2.1) ((c42 e o).r.2.2.2.2.1) ((c42 e o).r.2.2.2.2.2.1) ((c42 e o).r.2.2.2.2.2.2.1) ((c42 e o).r.2.2.2.2.2.2.2.1) ((c42 e o).r.2.2.2.2.2.2.2.2.1) ((c42 e o).r.2.2.2.2.2.2.2.2.2) (c42 e o).b

theorem c43_runs (e : Env F) (o : First e) : Runs1 e (c42 e o).b (p43 e o.r.2.2.2.2.1 ((c36 e o).r.1) ((c40 e o).r.2.1) ((c42 e o).r.1) ((c42 e o).r.2.2.1) ((c42 e o).r.2.2.2.1) ((c42 e o).r.2.2.2.2.1) ((c42 e o).r.2.2.2.2.2.1) ((c42 e o).r.2.2.2.2.2.2.1) ((c42 e o).r.2.2.2.2.2.2.2.1) ((c42 e o).r.2.2.2.2.2.2.2.2.1) ((c42 e o).r.2.2.2.2.2.2.2.2.2)) (c43 e o) := by
  unfold c43; exact o43_runs e _ _ _ _ _ _ _ _ _ _ _ _ _

@[irreducible] def c44 (e : Env F) (o : First e) := o44 e o.r.2.2.2.2.2.2.1 ((c36 e o).r.2.1) ((c41 e o).r.2.1) ((c42 e o).r.1) ((c42 e o).r.2.1) ((c42 e o).r.2.2.2.1) ((c42 e o).r.2.2.2.2.1) ((c43 e o).r.1) ((c43 e o).r.2.2.1) ((c43 e o).r.2.2.2.1) ((c43 e o).r.2.2.2.2) (c43 e o).b

theorem c44_runs (e : Env F) (o : First e) : Runs1 e (c43 e o).b (p44 e o.r.2.2.2.2.2.2.1 ((c36 e o).r.2.1) ((c41 e o).r.2.1) ((c42 e o).r.1) ((c42 e o).r.2.1) ((c42 e o).r.2.2.2.1) ((c42 e o).r.2.2.2.2.1) ((c43 e o).r.1) ((c43 e o).r.2.2.1) ((c43 e o).r.2.2.2.1) ((c43 e o).r.2.2.2.2)) (c44 e o) := by
  unfold c44; exact o44_runs e _ _ _ _ _ _ _ _ _ _ _ _

@[irreducible] def c45 (e : Env F) (o : First e) := o45 e o.r.1 o.r.2.2.2.1 o.r.2.2.2.2.2.1 o.r.2.2.2.2.2.2.1 ((c43 e o).r.2.1) ((c44 e o).r.2) (c44 e o).b

theorem c45_runs (e : Env F) (o : First e) : Runs1 e (c44 e o).b (p45 e o.r.1 o.r.2.2.2.1 o.r.2.2.2.2.2.1 o.r.2.2.2.2.2.2.1 ((c43 e o).r.2.1) ((c44 e o).r.2)) (c45 e o) := by
  unfold c45; exact o45_runs e _ _ _ _ _ _ _

@[irreducible] def c46 (e : Env F) (o : First e) := o46 e o.r.2.2.2.2.1 o.r.2.2.2.2.2.2.1 ((c36 e o).r.1) ((c43 e o).r.2.1) ((c44 e o).r.1) ((c45 e o).r.1) ((c45 e o).r.2.2.1) ((c45 e o).r.2.2.2.1) ((c45 e o).r.2.2.2.2.1) ((c45 e o).r.2.2.2.2.2.1) ((c45 e o).r.2.2.2.2.2.2.1) ((c45 e o).r.2.2.2.2.2.2.2.1) ((c45 e o).r.2.2.2.2.2.2.2.2.1) ((c45 e o).r.2.2.2.2.2.2.2.2.2) (c45 e o).b

theorem c46_runs (e : Env F) (o : First e) : Runs1 e (c45 e o).b (p46 e o.r.2.2.2.2.1 o.r.2.2.2.2.2.2.1 ((c36 e o).r.1) ((c43 e o).r.2.1) ((c44 e o).r.1) ((c45 e o).r.1) ((c45 e o).r.2.2.1) ((c45 e o).r.2.2.2.1) ((c45 e o).r.2.2.2.2.1) ((c45 e o).r.2.2.2.2.2.1) ((c45 e o).r.2.2.2.2.2.2.1) ((c45 e o).r.2.2.2.2.2.2.2.1) ((c45 e o).r.2.2.2.2.2.2.2.2.1) ((c45 e o).r.2.2.2.2.2.2.2.2.2)) (c46 e o) := by
  unfold c46; exact o46_runs e _ _ _ _ _ _ _ _ _ _ _ _ _ _ _

@[irreducible] def c47 (e : Env F) (o : First e) := o47 e o.r.1 o.r.2.2.2.1 o.r.2.2.2.2.1 o.r.2.2.2.2.2.2.1 ((c36 e o).r.1) ((c36 e o).r.2.1) ((c44 e o).r.1) ((c45 e o).r.1) ((c45 e o).r.2.1) ((c45 e o).r.2.2.2.1) ((c45 e o).r.2.2.2.2.1) ((c46 e o).r.1) ((c46 e o).r.2.1) ((c46 e o).r.2.2.1) ((c46 e o).r.2.2.2.1) ((c46 e o).r.2.2.2.2.1) ((c46 e o).r.2.2.2.2.2) (c46 e o).b

theorem c47_runs (e : Env F) (o : First e) : Runs1 e (c46 e o).b (p47 e o.r.1 o.r.2.2.2.1 o.r.2.2.2.2.1 o.r.2.2.2.2.2.2.1 ((c36 e o).r.1) ((c36 e o).r.2.1) ((c44 e o).r.1) ((c45 e o).r.1) ((c45 e o).r.2.1) ((c45 e o).r.2.2.2.1) ((c45 e o).r.2.2.2.2.1) ((c46 e o).r.1) ((c46 e o).r.2.1) ((c46 e o).r.2.2.1) ((c46 e o).r.2.2.2.1) ((c46 e o).r.2.2.2.2.1) ((c46 e o).r.2.2.2.2.2)) (c47 e o) := by
  unfold c47; exact o47_runs e _ _ _ _ _ _ _ _ _ _ _ _ _ _ _ _ _ _

@[irreducible] def c48 (e : Env F) (o : First e) := o48 e o.r.1 o.r.2.1 o.r.2.2.1 o.r.2.2.2.1 o.r.2.2.2.2.1 o.r.2.2.2.2.2.1 o.r.2.2.2.2.2.2.2.1 ((c47 e o).r.1) ((c47 e o).r.2.1) ((c47 e o).r.2.2) (c47 e o).b

theorem c48_runs (e : Env F) (o : First e) : Runs1 e (c47 e o).b (p48 e o.r.1 o.r.2.1 o.r.2.2.1 o.r.2.2.2.1 o.r.2.2.2.2.1 o.r.2.2.2.2.2.1 o.r.2.2.2.2.2.2.2.1 ((c47 e o).r.1) ((c47 e o).r.2.1) ((c47 e o).r.2.2)) (c48 e o) := by
  unfold c48; exact o48_runs e _ _ _ _ _ _ _ _ _ _ _

@[irreducible] def c49 (e : Env F) (o : First e) := o49 e o.r.2.1 o.r.2.2.1 o.r.2.2.2.1 o.r.2.2.2.2.1 o.r.2.2.2.2.2.1 o.r.2.2.2.2.2.2.2.1 ((c48 e o).r.1) ((c48 e o).r.2.1) ((c48 e o).r.2.2.1) ((c48 e o).r.2.2.2.1) ((c48 e o).r.2.2.2.2.2.1) ((c48 e o).r.2.2.2.2.2.2.1) ((c48 e o).r.2.2.2.2.2.2.2.1) ((c48 e o).r.2.2.2.2.2.2.2.2.1) ((c48 e o).r.2.2.2.2.2.2.2.2.2) (c48 e o).b

theorem c49_runs (e : Env F) (o : First e) : Runs1 e (c48 e o).b (p49 e o.r.2.1 o.r.2.2.1 o.r.2.2.2.1 o.r.2.2.2.2.1 o.r.2.2.2.2.2.1 o.r.2.2.2.2.2.2.2.1 ((c48 e o).r.1) ((c48 e o).r.2.1) ((c48 e o).r.2.2.1) ((c48 e o).r.2.2.2.1) ((c48 e o).r.2.2.2.2.2.1) ((c48 e o).r.2.2.2.2.2.2.1) ((c48 e o).r.2.2.2.2.2.2.2.1) ((c48 e o).r.2.2.2.2.2.2.2.2.1) ((c48 e o).r.2.2.2.2.2.2.2.2.2)) (c49 e o) := by
  unfold c49; exact o49_runs e _ _ _ _ _ _ _ _ _ _ _ _ _ _ _ _

@[irreducible] def c50 (e : Env F) (o : First e) := o50 e o.r.1 o.r.2.2.2.2.2.1 o.r.2.2.2.2.2.2.2.1 ((c48 e o).r.2.2.1) ((c48 e o).r.2.2.2.2.1) ((c49 e o).r.1) ((c49 e o).r.2.2.1) ((c49 e o).r.2.2.2) (c49 e o).b

theorem c50_runs (e : Env F) (o : First e) : Runs1 e (c49 e o).b (p50 e o.r.1 o.r.2.2.2.2.2.1 o.r.2.2.2.2.2.2.2.1 ((c48 e o).r.2.2.1) ((c48 e o).r.2.2.2.2.1) ((c49 e o).r.1) ((c49 e o).r.2.2.1) ((c49 e o).r.2.2.2)) (c50 e o) := by
  unfold c50; exact o50_runs e _ _ _ _ _ _ _ _ _

@[irreducible] def c51 (e : Env F) (o : First e) := o51 e o.r.2.1 o.r.2.2.1 o.r.2.2.2.1 o.r.2.2.2.2.2.1 o.r.2.2.2.2.2.2.2.1 ((c49 e o).r.1) ((c49 e o).r.2.1) ((c50 e o).r.1) ((c50 e o).r.2.1) ((c50 e o).r.2.2.2.1) ((c50 e o).r.2.2.2.2.1) ((c50 e o).r.2.2.2.2.2.1) ((c50 e o).r.2.2.2.2.2.2.1) ((c50 e o).r.2.2.2.2.2.2.2) (c50 e o).b

theorem c51_runs (e : Env F) (o : First e) : Runs1 e (c50 e o).b (p51 e o.r.2.1 o.r.2.2.1 o.r.2.2.2.1 o.r.2.2.2.2.2.1 o.r.2.2.2.2.2.2.2.1 ((c49 e o).r.1) ((c49 e o).r.2.1) ((c50 e o).r.1) ((c50 e o).r.2.1) ((c50 e o).r.2.2.2.1) ((c50 e o).r.2.2.2.2.1) ((c50 e o).r.2.2.2.2.2.1) ((c50 e o).r.2.2.2.2.2.2.1) ((c50 e o).r.2.2.2.2.2.2.2)) (c51 e o) := by
  unfold c51; exact o51_runs e _ _ _ _ _ _ _ _ _ _ _ _ _ _ _

@[irreducible] def c52 (e : Env F) (o : First e) := o52 e o.r.1 o.r.2.2.2.2.1 o.r.2.2.2.2.2.2.2.1 ((c50 e o).r.1) ((c50 e o).r.2.2.1) ((c50 e o).r.2.2.2.1) ((c51 e o).r.1) ((c51 e o).r.2.1) ((c51 e o).r.2.2.1) ((c51 e o).r.2.2.2.1) ((c51 e o).r.2.2.2.2.1) ((c51 e o).r.2.2.2.2.2.1) ((c51 e o).r.2.2.2.2.2.2) (c51 e o).b

theorem c52_runs (e : Env F) (o : First e) : Runs1 e (c51 e o).b (p52 e o.r.1 o.r.2.2.2.2.1 o.r.2.2.2.2.2.2.2.1 ((c50 e o).r.1) ((c50 e o).r.2.2.1) ((c50 e o).r.2.2.2.1) ((c51 e o).r.1) ((c51 e o).r.2.1) ((c51 e o).r.2.2.1) ((c51 e o).r.2.2.2.1) ((c51 e o).r.2.2.2.2.1) ((c51 e o).r.2.2.2.2.2.1) ((c51 e o).r.2.2.2.2.2.2)) (c52 e o) := by
  unfold c52; exact o52_runs e _ _ _ _ _ _ _ _ _ _ _ _ _ _

@[irreducible] def c53 (e : Env F) (o : First e) := o53 e o.r.2.1 o.r.2.2.2.1 o.r.2.2.2.2.2.1 o.r.2.2.2.2.2.2.2.1 ((c51 e o).r.2.2.1) ((c52 e o).r.1) ((c52 e o).r.2.1) ((c52 e o).r.2.2.1) ((c52 e o).r.2.2.2.2.1) ((c52 e o).r.2.2.2.2.2.1) ((c52 e o).r.2.2.2.2.2.2.1) ((c52 e o).r.2.2.2.2.2.2.2) (c52 e o).b

theorem c53_runs (e : Env F) (o : First e) : Runs1 e (c52 e o).b (p53 e o.r.2.1 o.r.2.2.2.1 o.r.2.2.2.2.2.1 o.r.2.2.2.2.2.2.2.1 ((c51 e o).r.2.2.1) ((c52 e o).r.1) ((c52 e o).r.2.1) ((c52 e o).r.2.2.1) ((c52 e o).r.2.2.2.2.1) ((c52 e o).r.2.2.2.2.2.1) ((c52 e o).r.2.2.2.2.2.2.1) ((c52 e o).r.2.2.2.2.2.2.2)) (c53 e o) := by
  unfold c53; exact o53_runs e _ _ _ _ _ _ _ _ _ _ _ _ _

@[irreducible] def c54 (e : Env F) (o : First e) := o54 e o.r.1 o.r.2.2.1 o.r.2.2.2.2.1 o.r.2.2.2.2.2.1 ((c52 e o).r.2.1) ((c52 e o).r.2.2.2.1) ((c52 e o).r.2.2.2.2.1) ((c53 e o).r.1) ((c53 e o).r.2.1) ((c53 e o).r.2.2.2.1) ((c53 e o).r.2.2.2.2.1) ((c53 e o).r.2.2.2.2.2) (c53 e o).b

theorem c54_runs (e : Env F) (o : First e) : Runs1 e (c53 e o).b (p54 e o.r.1 o.r.2.2.1 o.r.2.2.2.2.1 o.r.2.2.2.2.2.1 ((c52 e o).r.2.1) ((c52 e o).r.2.2.2.1) ((c52 e o).r.2.2.2.2.1) ((c53 e o).r.1) ((c53 e o).r.2.1) ((c53 e o).r.2.2.2.1) ((c53 e o).r.2.2.2.2.1) ((c53 e o).r.2.2.2.2.2)) (c54 e o) := by
  unfold c54; exact o54_runs e _ _ _ _ _ _ _ _ _ _ _ _ _

@[irreducible] def c55 (e : Env F) (o : First e) := o55 e o.r.2.1 o.r.2.2.2.1 o.r.2.2.2.2.2.1 o.r.2.2.2.2.2.2.2.1 ((c53 e o).r.2.2.1) ((c54 e o).r.1) ((c54 e o).r.2.2.1) ((c54 e o).r.2.2.2.2.1) ((c54 e o).r.2.2.2.2.2) (c54 e o).b

theorem c55_runs (e : Env F) (o : First e) : Runs1 e (c54 e o).b (p55 e o.r.2.1 o.r.2.2.2.1 o.r.2.2.2.2.2.1 o.r.2.2.2.2.2.2.2.1 ((c53 e o).r.2.2.1) ((c54 e o).r.1) ((c54 e o).r.2.2.1) ((c54 e o).r.2.2.2.2.1) ((c54 e o).r.2.2.2.2.2)) (c55 e o) := by
  unfold c55; exact o55_runs e _ _ _ _ _ _ _ _ _ _

end Cert.KernelIdeal.Hand
end
-- ==== Proof.Body.lean ====
/-  The whole body from any contents of the buffers.  -/
module
public import proofs.«01_k».proof.Proof.Chain
public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The whole body from any contents, at a point that begins a block row. -/
@[irreducible] def bodyA (e : Env F) (hc : begins e.i) (b : Bufs e) :
    Σ' (g7 : BufTy.Contents (Elt F) e.arg7.view.ty), { g8 : BufTy.Contents (Elt F) e.arg8.view.ty //
      ∀ (E : Set ℕ) (K : PUnit → sProp 𝕄),
        iprop(Held e b ∗ (((e.arg3.view.loc (e.c : Thread nD τ) ↦[e.arg3.view.set]{fullShare} e.K3) ∗ (e.arg4.view.loc (e.c : Thread nD τ) ↦[e.arg4.view.set]{fullShare} e.K4) ∗ (e.arg5.view.loc (e.c : Thread nD τ) ↦[e.arg5.view.set]{fullShare} e.K5) ∗ (e.arg6.view.loc (e.c : Thread nD τ) ↦[e.arg6.view.set]{fullShare} e.K6) ∗ (e.arg7.view.loc (e.c : Thread nD τ) ↦[e.arg7.view.set]{fullShare} g7) ∗ (e.arg8.view.loc (e.c : Thread nD τ) ↦[e.arg8.view.set]{fullShare} g8) ∗ (e.arg9.view.loc (e.c : Thread nD τ) ↦[e.arg9.view.set]{fullShare} (c55 e (o35 e hc b)).b.f9) ∗ (e.arg10.view.loc (e.c : Thread nD τ) ↦[e.arg10.view.set]{fullShare} (c55 e (o35 e hc b)).b.f10) ∗ (e.arg11.view.loc (e.c : Thread nD τ) ↦[e.arg11.view.set]{fullShare} (c55 e (o35 e hc b)).b.f11)) -∗ K ⟨⟩))
          ⊢ wp frame (wpE (defs₀ (F := F)) Variants.none e.c none) E (cc0_sb_bwd (F := F) e.i e.arg3 e.harg3 e.arg4 e.harg4 e.arg5 e.harg5 e.arg6 e.harg6 e.arg7 e.harg7 e.arg8 e.harg8 e.arg9 e.harg9 e.arg10 e.harg10 e.arg11 e.harg11) K } := by
  refine ⟨?_, ?_, fun E K => ?run⟩
  case run =>
    simp only [cc0_sb_bwd_eq_skeleton]; unfold cc0_sb_bwd_skel
    rw [wp_bind]
    simp only [k0_part56_eq_skeleton]; unfold k0_part56_skel
    iintro ⟨⟨H3, H4, H5, H6, H7, H8, H9, H10, H11⟩, Hk⟩
    rw [wp_bind]
    iapply (o35_runs e hc b)
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c36_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c37_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c38_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c39_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c40_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c41_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c42_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c43_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c44_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c45_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c46_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c47_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c48_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c49_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c50_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c51_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c52_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c53_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c54_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c55_runs e (o35 e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 4000000 in
/-- The whole body from any contents, at a point that does not begin a block row. -/
@[irreducible] def bodyB (e : Env F) (hc : ¬ begins e.i) (b : Bufs e) :
    Σ' (g7 : BufTy.Contents (Elt F) e.arg7.view.ty), { g8 : BufTy.Contents (Elt F) e.arg8.view.ty //
      ∀ (E : Set ℕ) (K : PUnit → sProp 𝕄),
        iprop(Held e b ∗ (((e.arg3.view.loc (e.c : Thread nD τ) ↦[e.arg3.view.set]{fullShare} e.K3) ∗ (e.arg4.view.loc (e.c : Thread nD τ) ↦[e.arg4.view.set]{fullShare} e.K4) ∗ (e.arg5.view.loc (e.c : Thread nD τ) ↦[e.arg5.view.set]{fullShare} e.K5) ∗ (e.arg6.view.loc (e.c : Thread nD τ) ↦[e.arg6.view.set]{fullShare} e.K6) ∗ (e.arg7.view.loc (e.c : Thread nD τ) ↦[e.arg7.view.set]{fullShare} g7) ∗ (e.arg8.view.loc (e.c : Thread nD τ) ↦[e.arg8.view.set]{fullShare} g8) ∗ (e.arg9.view.loc (e.c : Thread nD τ) ↦[e.arg9.view.set]{fullShare} (c55 e (o35b e hc b)).b.f9) ∗ (e.arg10.view.loc (e.c : Thread nD τ) ↦[e.arg10.view.set]{fullShare} (c55 e (o35b e hc b)).b.f10) ∗ (e.arg11.view.loc (e.c : Thread nD τ) ↦[e.arg11.view.set]{fullShare} (c55 e (o35b e hc b)).b.f11)) -∗ K ⟨⟩))
          ⊢ wp frame (wpE (defs₀ (F := F)) Variants.none e.c none) E (cc0_sb_bwd (F := F) e.i e.arg3 e.harg3 e.arg4 e.harg4 e.arg5 e.harg5 e.arg6 e.harg6 e.arg7 e.harg7 e.arg8 e.harg8 e.arg9 e.harg9 e.arg10 e.harg10 e.arg11 e.harg11) K } := by
  refine ⟨?_, ?_, fun E K => ?run⟩
  case run =>
    simp only [cc0_sb_bwd_eq_skeleton]; unfold cc0_sb_bwd_skel
    rw [wp_bind]
    simp only [k0_part56_eq_skeleton]; unfold k0_part56_skel
    iintro ⟨⟨H3, H4, H5, H6, H7, H8, H9, H10, H11⟩, Hk⟩
    rw [wp_bind]
    iapply (o35b_runs e hc b)
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c36_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c37_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c38_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c39_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c40_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c41_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c42_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c43_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c44_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c45_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c46_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c47_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c48_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c49_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c50_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c51_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c52_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c53_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c54_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    rw [wp_bind]
    iapply (c55_runs e (o35b e hc b))
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    beta_reduce
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand
end
-- ==== Proof.Region.lean ====
/- The frame: the pipeline's proof data with the three outputs and the scratch arrays at anything, the body's triple at
   every point from the run of its parts, and the run of the whole program, over any float values. -/
module
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window by window, the staging buffer the body is handed at point `t`, and that it is whole. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .f32 := win0_6.stage (cfg0.slots t 6)
abbrev hs6 (t : Fin cfg0.N) : (ms6 t).IsWhole := hstage0_6 ((cfg0.slots t 6).cast nbuf0_6)
/-- The two scratch arrays. -/
abbrev sc0 : Memref sig .tc .vmem S2x16x512x128 .f32 := Memref.whole cc0_scratch0
abbrev sc1 : Memref sig .tc .vmem S2x16x512x128 .f32 := Memref.whole cc0_scratch1

/-- Where the body runs at point `t`, its inputs holding these blocks. -/
abbrev env (c : Dev nD) (t : Fin cfg0.N) (x3 : Vec F S512x128 .f32) (x4 x5 : Vec F S2048x128 .f32) (x6 : Vec F S512x128 .f32) : Env F where
  c := c
  i := grid0.coords t
  arg3 := ms0 t
  harg3 := hs0 t
  arg4 := ms1 t
  harg4 := hs1 t
  arg5 := ms2 t
  harg5 := hs2 t
  arg6 := ms3 t
  harg6 := hs3 t
  arg7 := ms4 t
  harg7 := hs4 t
  arg8 := ms5 t
  harg8 := hs5 t
  arg9 := ms6 t
  harg9 := hs6 t
  arg10 := sc0
  harg10 := Memref.isWhole_whole _
  arg11 := sc1
  harg11 := Memref.isWhole_whole _
  K3 := (hs0 t).unread x3
  K4 := (hs1 t).unread x4
  K5 := (hs2 t).unread x5
  K6 := (hs3 t).unread x6

/-- What the body leaves in its three outputs, from what it finds in the written buffers. -/
def left7 (e : Env F) (b : Bufs e) : BufTy.Contents (Elt F) e.arg7.view.ty :=
  if hc : begins e.i then (bodyA e hc b).1 else (bodyB e hc b).1
def left8 (e : Env F) (b : Bufs e) : BufTy.Contents (Elt F) e.arg8.view.ty :=
  if hc : begins e.i then (bodyA e hc b).2.1 else (bodyB e hc b).2.1
def left9 (e : Env F) (b : Bufs e) : BufTy.Contents (Elt F) e.arg9.view.ty :=
  if hc : begins e.i then (c55 e (o35 e hc b)).b.f9 else (c55 e (o35b e hc b)).b.f9

/-- The two scratch arrays and the generator register, at anything. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

set_option maxHeartbeats 1600000 in
/-- The body at a point, its inputs at their blocks, what it writes at anything. -/
theorem point (c : Dev nD) (t : Fin cfg0.N) (x3 : Vec F S512x128 .f32) (x4 x5 : Vec F S2048x128 .f32) (x6 : Vec F S512x128 .f32)
    (b : Bufs (env c t x3 x4 x5 x6)) (E : Set ℕ) (K : PUnit → sProp 𝕄) :
    iprop((owns (c : Thread nD τ) (ms0 t) fullShare x3 ∗ owns (c : Thread nD τ) (ms1 t) fullShare x4 ∗ owns (c : Thread nD τ) (ms2 t) fullShare x5 ∗ owns (c : Thread nD τ) (ms3 t) fullShare x6
        ∗ ((ms4 t).view.loc (c : Thread nD τ) ↦[(ms4 t).view.set]{fullShare} b.f7) ∗ ((ms5 t).view.loc (c : Thread nD τ) ↦[(ms5 t).view.set]{fullShare} b.f8) ∗ ((ms6 t).view.loc (c : Thread nD τ) ↦[(ms6 t).view.set]{fullShare} b.f9)
        ∗ (sc0.view.loc (c : Thread nD τ) ↦[sc0.view.set]{fullShare} b.f10) ∗ (sc1.view.loc (c : Thread nD τ) ↦[sc1.view.set]{fullShare} b.f11))
      ∗ ((owns (c : Thread nD τ) (ms0 t) fullShare x3 ∗ owns (c : Thread nD τ) (ms1 t) fullShare x4 ∗ owns (c : Thread nD τ) (ms2 t) fullShare x5 ∗ owns (c : Thread nD τ) (ms3 t) fullShare x6
        ∗ owns (c : Thread nD τ) (ms4 t) fullShare ((ms4 t).view.read (Elt F) (left7 _ b)) ∗ owns (c : Thread nD τ) (ms5 t) fullShare ((ms5 t).view.read (Elt F) (left8 _ b)) ∗ owns (c : Thread nD τ) (ms6 t) fullShare ((ms6 t).view.read (Elt F) (left9 _ b))
        ∗ (∃ d, owns (c : Thread nD τ) sc0 fullShare d) ∗ (∃ d, owns (c : Thread nD τ) sc1 fullShare d)) -∗ K ⟨⟩))
      ⊢ wp frame (wpE (defs₀ (F := F)) Variants.none c none) E (bodyAt0 t) K := by
  unfold bodyAt0 left7 left8 left9
  unfold owns
  iintro ⟨⟨⟨%f0, %hf0, H3⟩, ⟨%f1, %hf1, H4⟩, ⟨%f2, %hf2, H5⟩, ⟨%f3, %hf3, H6⟩, H7, H8, H9, H10, H11⟩, Hk⟩
  obtain rfl := (hs0 t).eq_unread hf0; obtain rfl := (hs1 t).eq_unread hf1; obtain rfl := (hs2 t).eq_unread hf2; obtain rfl := (hs3 t).eq_unread hf3
  by_cases hc : begins (grid0.coords t)
  · rw [dif_pos hc, dif_pos hc, dif_pos hc]
    iapply ((bodyA (env c t _ _ _ _) hc b).2.2 E K)
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    iapply Hk
    isplitl [H3]
    · iexists _; isplitr; · ipureintro; exact (hs0 t).read_unread _
      iexact H3
    isplitl [H4]
    · iexists _; isplitr; · ipureintro; exact (hs1 t).read_unread _
      iexact H4
    isplitl [H5]
    · iexists _; isplitr; · ipureintro; exact (hs2 t).read_unread _
      iexact H5
    isplitl [H6]
    · iexists _; isplitr; · ipureintro; exact (hs3 t).read_unread _
      iexact H6
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _, _; isplitr; swap; · iexact H10
      ipureintro; rfl
    iexists _, _; isplitr; swap; · iexact H11
    ipureintro; rfl
  · rw [dif_neg hc, dif_neg hc, dif_neg hc]
    iapply ((bodyB (env c t _ _ _ _) hc b).2.2 E K)
    isplitl [H3 H4 H5 H6 H7 H8 H9 H10 H11]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro ⟨H3, H4, H5, H6, H7, H8, H9, H10, H11⟩
    iapply Hk
    isplitl [H3]
    · iexists _; isplitr; · ipureintro; exact (hs0 t).read_unread _
      iexact H3
    isplitl [H4]
    · iexists _; isplitr; · ipureintro; exact (hs1 t).read_unread _
      iexact H4
    isplitl [H5]
    · iexists _; isplitr; · ipureintro; exact (hs2 t).read_unread _
      iexact H5
    isplitl [H6]
    · iexists _; isplitr; · ipureintro; exact (hs3 t).read_unread _
      iexact H6
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _, _; isplitr; swap; · iexact H10
      ipureintro; rfl
    iexists _, _; isplitr; swap; · iexact H11
    ipureintro; rfl

/-- The windows whose contents the frame does not name: the outputs. -/
def forgets0 : Fin 7 → Bool := fun w => w.val == 4 || w.val == 5 || w.val == 6

/-- The proof data of the pipeline: each input's buffer at its block, the outputs and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d)
    ∗ (∃ d, owns (c : Thread nD τ) (ms5 t) fullShare d)
    ∗ (∃ d, owns (c : Thread nD τ) (ms6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare d)
    ∗ (∃ d, owns (c : Thread nD τ) (ms5 t) fullShare d)
    ∗ (∃ d, owns (c : Thread nD τ) (ms6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, after0, after1, after2, after3]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  unfold owns
  iintro ⟨⟨⟨⟨%d10, %f10, -, H10⟩, ⟨%d11, %f11, -, H11⟩⟩, Hg⟩, Ho, ⟨%d0, H0⟩, ⟨%d1, H1⟩, ⟨%d2, H2⟩, ⟨%d3, H3⟩, ⟨%d4, %f4, -, H4⟩, ⟨%d5, %f5, -, H5⟩, ⟨%d6, %f6, -, H6⟩⟩
  iapply (point c t (iblk m c 0 t) (iblk m c 1 t) (iblk m c 2 t) (iblk m c 3 t) ⟨f4, f5, f6, f10, f11⟩ Set.univ _)
  unfold owns
  isplitl [H0 H1 H2 H3 H4 H5 H6 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexact H10
    iexact H11
  iintro ⟨H0, H1, H2, H3, H4, H5, H6, H10, H11⟩
  isplitl [H10 H11 Hg]
  · isplitl [H10 H11]
    · isplitl [H10]; · iexact H10
      iexact H11
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every final state has the inputs' arrays unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The argument arrays end unchanged, and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 2 rfl).trans ((A_eq m c 2).trans (V_main_arg0 m c)),
      (Pipeline.RDat.FramePost.arr_in h.1 c 3 rfl).trans ((A_eq m c 3).trans (V_main_arg1 m c))⟩, h.2⟩) (run_main_quiescent m ρ)

end Cert.KernelIdeal.Hand
end
-- ==== Proof.Same.lean ====
/- The kernel's program and its ideal form have the same text: one body table is the other. -/
module
public import proofs.«01_k».proof.Defs
public import proofs.«01_k».proof.Proof.Gen.Kernel
public import proofs.«01_k».proof.Proof.Gen.KernelIdeal
@[expose] public section
noncomputable section
open Idealize.ShloMosaic Idealize.ShloMosaic.TcCoe Idealize.SL.Sem
variable {F : FTy → Type} [FloatOps F]
attribute [local instance] Cert.Kernel.Gen.facts Cert.KernelIdeal.Gen.facts
namespace Cert.KernelIdeal.Hand

/-- The two tables of bodies are one. -/
theorem bodies_eq : (Cert.Kernel.defs₀ (F := F) : Defs Cert.KernelIdeal.nD Cert.KernelIdeal.τ Cert.KernelIdeal.sig (Elt F) Cert.KernelIdeal.Λ₀) = Cert.KernelIdeal.defs₀ := by
  unfold Cert.Kernel.defs₀ Cert.KernelIdeal.defs₀
  refine congrArg Defs.onTc ?_
  funext l x
  match l, x with
  | ⟨0, _⟩, (t, s) => exact rfl
  | ⟨_ + 1, h⟩, _ => exact absurd h (Nat.not_lt.2 (Nat.le_add_left _ _))

/-- The two tables with the pipelines' regions are one. -/
theorem defs_eq : (Cert.Kernel.defs (F := F) : Defs Cert.KernelIdeal.nD Cert.KernelIdeal.τ Cert.KernelIdeal.sig (Elt F) (Pipeline.Sig Cert.KernelIdeal.Λ₀ (Fin 1) fun p => (Cert.KernelIdeal.pcfgs (F := F) p).Adm)) = Cert.KernelIdeal.defs :=
  congrArg (Pipeline.defs Cert.KernelIdeal.pcfgs) bodies_eq

end Cert.KernelIdeal.Hand

end
-- ==== Proof.Blocks.lean ====
/- What one block of keys and one head compute, over any float values: the left sweep's score, its softplus, the sums
   within the block, the weights, what is kept for the right sweep, and what the block adds to the values' gradient.
   The blocks on the diagonal take the last 128, 256, 384 or 512 rows and a mask, the blocks left of it all rows. -/
module
public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Which of the block's keys come before the row's position. -/
def mk128 (v31 : IVec S512x128 32) : IVec S128x128 1 := cmpi .slt (extractStridedSlice S128x128 ![0, 0] v31 slices_S512x128_o0_0_S128x128) (broadcast S128x128 0#32)

/-- The scores. -/
def z128 (q : FVec F S512x128 .bf16) (k : FVec F S128x128 .bf16) : FVec F S128x128 .f32 :=
  matmul dot_S128x128_S128x128_S128x128_1_1_0_0_n_n none (extractStridedSlice S128x128 ![384, 0] q slices_S512x128_o384_0_S128x128) k (constant S128x128 .f32 0x00000000#32)

/-- Minus the softplus of the scores, the keys allowed. -/
def lm128 (v31 : IVec S512x128 32) (z : FVec F S128x128 .f32) : FVec F S128x128 .f32 :=
  select (mk128 v31) (subf (broadcast S128x128 (Scalar.ofBits (F := F) .f32 0x00000000#32)) (addf (maximumf z (broadcast S128x128 (Scalar.ofBits (F := F) .f32 0x00000000#32))) (log (addf (broadcast S128x128 (Scalar.ofBits (F := F) .f32 0x3F800000#32)) (exp (subf (broadcast S128x128 (Scalar.ofBits (F := F) .f32 0x00000000#32)) (absf z))))))) (broadcast S128x128 (Scalar.ofBits .f32 0x00000000#32))

/-- Sums within the block: a row's entries against the columns of a matrix of ones and zeros, the entry in two halves. -/
def cs128 (x : FVec F S128x128 .f32) (u : FVec F S128x128 .bf16) : FVec F S128x128 .f32 :=
  addf (matmul dot_S128x128_S128x128_S128x128_1_0_0_1_n_n none (truncf .bf16 x bitsLt_bf16_f32) u (constant S128x128 .f32 0x00000000#32))
    (matmul dot_S128x128_S128x128_S128x128_1_0_0_1_n_n none (truncf .bf16 (subf x (extf .f32 (truncf .bf16 x bitsLt_bf16_f32) bitsLt_bf16_f32)) bitsLt_bf16_f32) u (constant S128x128 .f32 0x00000000#32))

/-- The weights. -/
def a128 (v31 : IVec S512x128 32) (z cs : FVec F S128x128 .f32) (run : FVec F S512x1 .f32) : FVec F S128x128 .f32 :=
  select (mk128 v31) (exp (addf (addf z cs) (broadcastTo S128x128 (extractStridedSlice S128x1 ![384, 0] run slices_S512x1_o384_0_S128x1) broadcasts_S128x1_S128x128))) (broadcast S128x128 (Scalar.ofBits .f32 0x00000000#32))

/-- What is kept of the weights' gradient. -/
def g128 (a : FVec F S128x128 .f32) (d : FVec F S512x128 .bf16) (v : FVec F S128x128 .bf16) : FVec F S1x1x128x128 .f32 :=
  shapeCast S1x1x128x128 (mulf a (matmul dot_S128x128_S128x128_S128x128_1_1_0_0_n_n none (extractStridedSlice S128x128 ![384, 0] d slices_S512x128_o384_0_S128x128) v (constant S128x128 .f32 0x00000000#32))) shapeCasts_S128x128_S1x1x128x128

/-- One minus the exponential of the softplus's negative. -/
def w128 (lm : FVec F S128x128 .f32) : FVec F S1x1x128x128 .f32 :=
  shapeCast S1x1x128x128 (subf (broadcast S128x128 (Scalar.ofBits (F := F) .f32 0x3F800000#32)) (exp lm)) shapeCasts_S128x128_S1x1x128x128

/-- What the block adds to the values' gradient. -/
def dv128 (acc : FVec F S128x128 .f32) (a : FVec F S128x128 .f32) (d : FVec F S512x128 .bf16) : FVec F S128x128 .f32 :=
  addf acc (matmul dot_S128x128_S128x128_S128x128_0_0_1_1_n_n none (truncf .bf16 a bitsLt_bf16_f32) (extractStridedSlice S128x128 ![384, 0] d slices_S512x128_o384_0_S128x128) (constant S128x128 .f32 0x00000000#32))

/-- The running sum after the block. -/
def run128 (run : FVec F S512x1 .f32) (cs : FVec F S128x128 .f32) : FVec F S512x1 .f32 :=
  concatenate S512x1 0 [⟨S384x1, extractStridedSlice S384x1 ![0, 0] run slices_S512x1_o0_0_S384x1⟩, ⟨S128x1, addf (extractStridedSlice S128x1 ![384, 0] run slices_S512x1_o384_0_S128x1) (extractStridedSlice S128x1 ![0, 0] cs slices_S128x128_o0_0_S128x1)⟩] concatenates_S384x1_S128x1_S512x1_d0

/-- Which of the block's keys come before the row's position. -/
def mk256 (v31 : IVec S512x128 32) : IVec S256x128 1 := cmpi .slt (extractStridedSlice S256x128 ![0, 0] v31 slices_S512x128_o0_0_S256x128) (broadcast S256x128 0#32)

/-- The scores. -/
def z256 (q : FVec F S512x128 .bf16) (k : FVec F S128x128 .bf16) : FVec F S256x128 .f32 :=
  matmul dot_S256x128_S128x128_S256x128_1_1_0_0_n_n none (extractStridedSlice S256x128 ![256, 0] q slices_S512x128_o256_0_S256x128) k (constant S256x128 .f32 0x00000000#32)

/-- Minus the softplus of the scores, the keys allowed. -/
def lm256 (v31 : IVec S512x128 32) (z : FVec F S256x128 .f32) : FVec F S256x128 .f32 :=
  select (mk256 v31) (subf (broadcast S256x128 (Scalar.ofBits (F := F) .f32 0x00000000#32)) (addf (maximumf z (broadcast S256x128 (Scalar.ofBits (F := F) .f32 0x00000000#32))) (log (addf (broadcast S256x128 (Scalar.ofBits (F := F) .f32 0x3F800000#32)) (exp (subf (broadcast S256x128 (Scalar.ofBits (F := F) .f32 0x00000000#32)) (absf z))))))) (broadcast S256x128 (Scalar.ofBits .f32 0x00000000#32))

/-- Sums within the block: a row's entries against the columns of a matrix of ones and zeros, the entry in two halves. -/
def cs256 (x : FVec F S256x128 .f32) (u : FVec F S128x128 .bf16) : FVec F S256x128 .f32 :=
  addf (matmul dot_S256x128_S128x128_S256x128_1_0_0_1_n_n none (truncf .bf16 x bitsLt_bf16_f32) u (constant S256x128 .f32 0x00000000#32))
    (matmul dot_S256x128_S128x128_S256x128_1_0_0_1_n_n none (truncf .bf16 (subf x (extf .f32 (truncf .bf16 x bitsLt_bf16_f32) bitsLt_bf16_f32)) bitsLt_bf16_f32) u (constant S256x128 .f32 0x00000000#32))

/-- The weights. -/
def a256 (v31 : IVec S512x128 32) (z cs : FVec F S256x128 .f32) (run : FVec F S512x1 .f32) : FVec F S256x128 .f32 :=
  select (mk256 v31) (exp (addf (addf z cs) (broadcastTo S256x128 (extractStridedSlice S256x1 ![256, 0] run slices_S512x1_o256_0_S256x1) broadcasts_S256x1_S256x128))) (broadcast S256x128 (Scalar.ofBits .f32 0x00000000#32))

/-- What is kept of the weights' gradient. -/
def g256 (a : FVec F S256x128 .f32) (d : FVec F S512x128 .bf16) (v : FVec F S128x128 .bf16) : FVec F S1x1x256x128 .f32 :=
  shapeCast S1x1x256x128 (mulf a (matmul dot_S256x128_S128x128_S256x128_1_1_0_0_n_n none (extractStridedSlice S256x128 ![256, 0] d slices_S512x128_o256_0_S256x128) v (constant S256x128 .f32 0x00000000#32))) shapeCasts_S256x128_S1x1x256x128

/-- One minus the exponential of the softplus's negative. -/
def w256 (lm : FVec F S256x128 .f32) : FVec F S1x1x256x128 .f32 :=
  shapeCast S1x1x256x128 (subf (broadcast S256x128 (Scalar.ofBits (F := F) .f32 0x3F800000#32)) (exp lm)) shapeCasts_S256x128_S1x1x256x128

/-- What the block adds to the values' gradient. -/
def dv256 (acc : FVec F S128x128 .f32) (a : FVec F S256x128 .f32) (d : FVec F S512x128 .bf16) : FVec F S128x128 .f32 :=
  addf acc (matmul dot_S256x128_S256x128_S128x128_0_0_1_1_n_n none (truncf .bf16 a bitsLt_bf16_f32) (extractStridedSlice S256x128 ![256, 0] d slices_S512x128_o256_0_S256x128) (constant S128x128 .f32 0x00000000#32))

/-- The running sum after the block. -/
def run256 (run : FVec F S512x1 .f32) (cs : FVec F S256x128 .f32) : FVec F S512x1 .f32 :=
  concatenate S512x1 0 [⟨S256x1, extractStridedSlice S256x1 ![0, 0] run slices_S512x1_o0_0_S256x1⟩, ⟨S256x1, addf (extractStridedSlice S256x1 ![256, 0] run slices_S512x1_o256_0_S256x1) (extractStridedSlice S256x1 ![0, 0] cs slices_S256x128_o0_0_S256x1)⟩] concatenates_S256x1_S256x1_S512x1_d0

/-- Which of the block's keys come before the row's position. -/
def mk384 (v31 : IVec S512x128 32) : IVec S384x128 1 := cmpi .slt (extractStridedSlice S384x128 ![0, 0] v31 slices_S512x128_o0_0_S384x128) (broadcast S384x128 0#32)

/-- The scores. -/
def z384 (q : FVec F S512x128 .bf16) (k : FVec F S128x128 .bf16) : FVec F S384x128 .f32 :=
  matmul dot_S384x128_S128x128_S384x128_1_1_0_0_n_n none (extractStridedSlice S384x128 ![128, 0] q slices_S512x128_o128_0_S384x128) k (constant S384x128 .f32 0x00000000#32)

/-- Minus the softplus of the scores, the keys allowed. -/
def lm384 (v31 : IVec S512x128 32) (z : FVec F S384x128 .f32) : FVec F S384x128 .f32 :=
  select (mk384 v31) (subf (broadcast S384x128 (Scalar.ofBits (F := F) .f32 0x00000000#32)) (addf (maximumf z (broadcast S384x128 (Scalar.ofBits (F := F) .f32 0x00000000#32))) (log (addf (broadcast S384x128 (Scalar.ofBits (F := F) .f32 0x3F800000#32)) (exp (subf (broadcast S384x128 (Scalar.ofBits (F := F) .f32 0x00000000#32)) (absf z))))))) (broadcast S384x128 (Scalar.ofBits .f32 0x00000000#32))

/-- Sums within the block: a row's entries against the columns of a matrix of ones and zeros, the entry in two halves. -/
def cs384 (x : FVec F S384x128 .f32) (u : FVec F S128x128 .bf16) : FVec F S384x128 .f32 :=
  addf (matmul dot_S384x128_S128x128_S384x128_1_0_0_1_n_n none (truncf .bf16 x bitsLt_bf16_f32) u (constant S384x128 .f32 0x00000000#32))
    (matmul dot_S384x128_S128x128_S384x128_1_0_0_1_n_n none (truncf .bf16 (subf x (extf .f32 (truncf .bf16 x bitsLt_bf16_f32) bitsLt_bf16_f32)) bitsLt_bf16_f32) u (constant S384x128 .f32 0x00000000#32))

/-- The weights. -/
def a384 (v31 : IVec S512x128 32) (z cs : FVec F S384x128 .f32) (run : FVec F S512x1 .f32) : FVec F S384x128 .f32 :=
  select (mk384 v31) (exp (addf (addf z cs) (broadcastTo S384x128 (extractStridedSlice S384x1 ![128, 0] run slices_S512x1_o128_0_S384x1) broadcasts_S384x1_S384x128))) (broadcast S384x128 (Scalar.ofBits .f32 0x00000000#32))

/-- What is kept of the weights' gradient. -/
def g384 (a : FVec F S384x128 .f32) (d : FVec F S512x128 .bf16) (v : FVec F S128x128 .bf16) : FVec F S1x1x384x128 .f32 :=
  shapeCast S1x1x384x128 (mulf a (matmul dot_S384x128_S128x128_S384x128_1_1_0_0_n_n none (extractStridedSlice S384x128 ![128, 0] d slices_S512x128_o128_0_S384x128) v (constant S384x128 .f32 0x00000000#32))) shapeCasts_S384x128_S1x1x384x128

/-- One minus the exponential of the softplus's negative. -/
def w384 (lm : FVec F S384x128 .f32) : FVec F S1x1x384x128 .f32 :=
  shapeCast S1x1x384x128 (subf (broadcast S384x128 (Scalar.ofBits (F := F) .f32 0x3F800000#32)) (exp lm)) shapeCasts_S384x128_S1x1x384x128

/-- What the block adds to the values' gradient. -/
def dv384 (acc : FVec F S128x128 .f32) (a : FVec F S384x128 .f32) (d : FVec F S512x128 .bf16) : FVec F S128x128 .f32 :=
  addf acc (matmul dot_S384x128_S384x128_S128x128_0_0_1_1_n_n none (truncf .bf16 a bitsLt_bf16_f32) (extractStridedSlice S384x128 ![128, 0] d slices_S512x128_o128_0_S384x128) (constant S128x128 .f32 0x00000000#32))

/-- The running sum after the block. -/
def run384 (run : FVec F S512x1 .f32) (cs : FVec F S384x128 .f32) : FVec F S512x1 .f32 :=
  concatenate S512x1 0 [⟨S128x1, extractStridedSlice S128x1 ![0, 0] run slices_S512x1_o0_0_S128x1⟩, ⟨S384x1, addf (extractStridedSlice S384x1 ![128, 0] run slices_S512x1_o128_0_S384x1) (extractStridedSlice S384x1 ![0, 0] cs slices_S384x128_o0_0_S384x1)⟩] concatenates_S128x1_S384x1_S512x1_d0

/-- Which of the block's keys come before the row's position. -/
def mk512 (v31 : IVec S512x128 32) : IVec S512x128 1 := cmpi .slt v31 (broadcast S512x128 0#32)

/-- The scores. -/
def z512 (q : FVec F S512x128 .bf16) (k : FVec F S128x128 .bf16) : FVec F S512x128 .f32 :=
  matmul dot_S512x128_S128x128_S512x128_1_1_0_0_n_n none q k (constant S512x128 .f32 0x00000000#32)

/-- Minus the softplus of the scores, the keys allowed. -/
def lm512 (v31 : IVec S512x128 32) (z : FVec F S512x128 .f32) : FVec F S512x128 .f32 :=
  select (mk512 v31) (subf (broadcast S512x128 (Scalar.ofBits (F := F) .f32 0x00000000#32)) (addf (maximumf z (broadcast S512x128 (Scalar.ofBits (F := F) .f32 0x00000000#32))) (log (addf (broadcast S512x128 (Scalar.ofBits (F := F) .f32 0x3F800000#32)) (exp (subf (broadcast S512x128 (Scalar.ofBits (F := F) .f32 0x00000000#32)) (absf z))))))) (broadcast S512x128 (Scalar.ofBits .f32 0x00000000#32))

/-- Sums within the block: a row's entries against the columns of a matrix of ones and zeros, the entry in two halves. -/
def cs512 (x : FVec F S512x128 .f32) (u : FVec F S128x128 .bf16) : FVec F S512x128 .f32 :=
  addf (matmul dot_S512x128_S128x128_S512x128_1_0_0_1_n_n none (truncf .bf16 x bitsLt_bf16_f32) u (constant S512x128 .f32 0x00000000#32))
    (matmul dot_S512x128_S128x128_S512x128_1_0_0_1_n_n none (truncf .bf16 (subf x (extf .f32 (truncf .bf16 x bitsLt_bf16_f32) bitsLt_bf16_f32)) bitsLt_bf16_f32) u (constant S512x128 .f32 0x00000000#32))

/-- The weights. -/
def a512 (v31 : IVec S512x128 32) (z cs : FVec F S512x128 .f32) (run : FVec F S512x1 .f32) : FVec F S512x128 .f32 :=
  select (mk512 v31) (exp (addf (addf z cs) (broadcastTo S512x128 run broadcasts_S512x1_S512x128))) (broadcast S512x128 (Scalar.ofBits .f32 0x00000000#32))

/-- What is kept of the weights' gradient. -/
def g512 (a : FVec F S512x128 .f32) (d : FVec F S512x128 .bf16) (v : FVec F S128x128 .bf16) : FVec F S1x1x512x128 .f32 :=
  shapeCast S1x1x512x128 (mulf a (matmul dot_S512x128_S128x128_S512x128_1_1_0_0_n_n none d v (constant S512x128 .f32 0x00000000#32))) shapeCasts_S512x128_S1x1x512x128

/-- One minus the exponential of the softplus's negative. -/
def w512 (lm : FVec F S512x128 .f32) : FVec F S1x1x512x128 .f32 :=
  shapeCast S1x1x512x128 (subf (broadcast S512x128 (Scalar.ofBits (F := F) .f32 0x3F800000#32)) (exp lm)) shapeCasts_S512x128_S1x1x512x128

/-- What the block adds to the values' gradient. -/
def dv512 (acc : FVec F S128x128 .f32) (a : FVec F S512x128 .f32) (d : FVec F S512x128 .bf16) : FVec F S128x128 .f32 :=
  addf acc (matmul dot_S512x128_S512x128_S128x128_0_0_1_1_n_n none (truncf .bf16 a bitsLt_bf16_f32) d (constant S128x128 .f32 0x00000000#32))

/-- The running sum after the block. -/
def run512 (run : FVec F S512x1 .f32) (cs : FVec F S512x128 .f32) : FVec F S512x1 .f32 :=
  addf run (extractStridedSlice S512x1 ![0, 0] cs slices_S512x128_o0_0_S512x1)

/-- Minus the softplus of the scores, the keys allowed. -/
def lmU (z : FVec F S512x128 .f32) : FVec F S512x128 .f32 :=
  subf (broadcast S512x128 (Scalar.ofBits (F := F) .f32 0x00000000#32)) (addf (maximumf z (broadcast S512x128 (Scalar.ofBits (F := F) .f32 0x00000000#32))) (log (addf (broadcast S512x128 (Scalar.ofBits (F := F) .f32 0x3F800000#32)) (exp (subf (broadcast S512x128 (Scalar.ofBits (F := F) .f32 0x00000000#32)) (absf z))))))

/-- The weights. -/
def aU (z cs : FVec F S512x128 .f32) (run : FVec F S512x1 .f32) : FVec F S512x128 .f32 :=
  exp (addf (addf z cs) (broadcastTo S512x128 run broadcasts_S512x1_S512x128))

end Cert.KernelIdeal.Hand
end
-- ==== Proof.EqL.lean ====
/- What each stretch of the left sweep's diagonal blocks returns and writes, as the functions of one block and one
   head, over any float values. -/
module
public import proofs.«01_k».proof.Proof.Chain
public import proofs.«01_k».proof.Proof.Blocks

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The point's own block 0 of the keys and of the values. -/
abbrev k0 (e : Env F) : FVec F S128x128 .bf16 := truncf .bf16 (e.arg4.view.readAt (Elt F) (Rect.unit (s := S2048x128) (k0_off1 e.i 0#32) S128x128.size (k0_off1_inb e.i 0)).toLoadRect e.K4) bitsLt_bf16_f32
abbrev vv0 (e : Env F) : FVec F S128x128 .bf16 := truncf .bf16 (e.arg5.view.readAt (Elt F) (Rect.unit (s := S2048x128) (k0_off1 e.i 0#32) S128x128.size (k0_off1_inb e.i 0)).toLoadRect e.K5) bitsLt_bf16_f32
/-- The point's own block 1 of the keys and of the values. -/
abbrev k1 (e : Env F) : FVec F S128x128 .bf16 := truncf .bf16 (e.arg4.view.readAt (Elt F) (Rect.unit (s := S2048x128) (k0_off1 e.i 1#32) S128x128.size (k0_off1_inb e.i 1)).toLoadRect e.K4) bitsLt_bf16_f32
abbrev vv1 (e : Env F) : FVec F S128x128 .bf16 := truncf .bf16 (e.arg5.view.readAt (Elt F) (Rect.unit (s := S2048x128) (k0_off1 e.i 1#32) S128x128.size (k0_off1_inb e.i 1)).toLoadRect e.K5) bitsLt_bf16_f32
/-- The point's own block 2 of the keys and of the values. -/
abbrev k2 (e : Env F) : FVec F S128x128 .bf16 := truncf .bf16 (e.arg4.view.readAt (Elt F) (Rect.unit (s := S2048x128) (k0_off1 e.i 2#32) S128x128.size (k0_off1_inb e.i 2)).toLoadRect e.K4) bitsLt_bf16_f32
abbrev vv2 (e : Env F) : FVec F S128x128 .bf16 := truncf .bf16 (e.arg5.view.readAt (Elt F) (Rect.unit (s := S2048x128) (k0_off1 e.i 2#32) S128x128.size (k0_off1_inb e.i 2)).toLoadRect e.K5) bitsLt_bf16_f32
/-- The point's own block 3 of the keys and of the values. -/
abbrev k3 (e : Env F) : FVec F S128x128 .bf16 := truncf .bf16 (e.arg4.view.readAt (Elt F) (Rect.unit (s := S2048x128) (k0_off1 e.i 3#32) S128x128.size (k0_off1_inb e.i 3)).toLoadRect e.K4) bitsLt_bf16_f32
abbrev vv3 (e : Env F) : FVec F S128x128 .bf16 := truncf .bf16 (e.arg5.view.readAt (Elt F) (Rect.unit (s := S2048x128) (k0_off1 e.i 3#32) S128x128.size (k0_off1_inb e.i 3)).toLoadRect e.K5) bitsLt_bf16_f32

/-- What the first stretch returned: the two heads' queries, the positions, the matrix of the sums, the two heads' gradients. -/
abbrev q0 {e : Env F} (o : First e) := o.r.2.2.2.1
abbrev q1 {e : Env F} (o : First e) := o.r.2.2.2.2.1
abbrev io {e : Env F} (o : First e) := o.r.2.2.2.2.2.1
abbrev uu {e : Env F} (o : First e) := o.r.2.2.2.2.2.2.1
abbrev d0 {e : Env F} (o : First e) := (c36 e o).r.1
abbrev d1 {e : Env F} (o : First e) := (c36 e o).r.2.1

theorem e36 (e : Env F) (o : First e) :
    (c36 e o).r.2.2.2.2.2.2.1 = k3 e
    ∧ (c36 e o).r.2.2.2.2.2.2.2.1 = vv3 e
    ∧ (c36 e o).r.2.2.2.2.2.2.2.2.1 = mk128 (io o)
    ∧ (c36 e o).r.2.2.2.2.2.2.2.2.2.1 = (broadcast S128x128 (Scalar.ofBits .f32 0x00000000#32) : FVec F S128x128 .f32)
    ∧ (c36 e o).r.2.2.2.2.2.2.2.2.2.2.1 = (z128 (q0 o) (k3 e))
    ∧ (c36 e o).r.2.2.2.2.2.2.2.2.2.2.2.1 = (lm128 (io o) (z128 (q0 o) (k3 e)))
    ∧ (c36 e o).r.2.2.2.2.2.2.2.2.2.2.2.2.1 = (truncf .bf16 (lm128 (io o) (z128 (q0 o) (k3 e))) bitsLt_bf16_f32)
    ∧ (c36 e o).r.2.2.2.2.2.2.2.2.2.2.2.2.2 = (subf (lm128 (io o) (z128 (q0 o) (k3 e))) (extf .f32 (truncf .bf16 (lm128 (io o) (z128 (q0 o) (k3 e))) bitsLt_bf16_f32) bitsLt_bf16_f32))
    ∧ (c36 e o).b.f9 = o.b.f9
    ∧ (c36 e o).b.f10 = o.b.f10
    ∧ (c36 e o).b.f11 = o.b.f11 := by
  unfold c36
  unfold o36 part36
  dsimp only
  exact ⟨rfl, rfl, rfl, rfl, rfl, rfl, rfl, rfl, rfl, rfl, rfl⟩

theorem e37 (e : Env F) (o : First e) :
    (c37 e o).r.1 = (dv128 (broadcast S128x128 (Scalar.ofBits .f32 0x00000000#32) : FVec F S128x128 .f32) (a128 (io o) (z128 (q0 o) (k3 e)) (cs128 (lm128 (io o) (z128 (q0 o) (k3 e))) (uu o)) ((c36 e o).r.2.2.1)) (d0 o))
    ∧ (c37 e o).r.2.1 = run128 ((c36 e o).r.2.2.1) (cs128 (lm128 (io o) (z128 (q0 o) (k3 e))) (uu o))
    ∧ (c37 e o).r.2.2.1 = (z128 (q1 o) (k3 e))
    ∧ (c37 e o).r.2.2.2.1 = (maximumf (z128 (q1 o) (k3 e)) (broadcast S128x128 (Scalar.ofBits .f32 0x00000000#32)))
    ∧ (c37 e o).r.2.2.2.2.1 = (exp (subf (broadcast S128x128 (Scalar.ofBits .f32 0x00000000#32)) (absf (z128 (q1 o) (k3 e)))))
    ∧ (c37 e o).r.2.2.2.2.2 = (Scalar.ofBits .f32 0x3F800000#32 : F .f32)
    ∧ (c37 e o).b.f9 = (c36 e o).b.f9
    ∧ (c37 e o).b.f10 = e.arg10.view.writes (Elt F) (c36 e o).b.f10 [⟨Rect.unit (s := S2x16x512x128) (k0_off2 e.i) S1x1x128x128.size (k0_off2_inb e.i), g128 (a128 (io o) (z128 (q0 o) (k3 e)) (cs128 (lm128 (io o) (z128 (q0 o) (k3 e))) (uu o)) ((c36 e o).r.2.2.1)) (d0 o) (vv3 e)⟩]
    ∧ (c37 e o).b.f11 = e.arg11.view.writes (Elt F) (c36 e o).b.f11 [⟨Rect.unit (s := S2x16x512x128) (k0_off2 e.i) S1x1x128x128.size (k0_off2_inb e.i), w128 (lm128 (io o) (z128 (q0 o) (k3 e)))⟩] := by
  obtain ⟨h36_0, h36_1, h36_2, h36_3, h36_4, h36_5, h36_6, h36_7, -, -, -⟩ := e36 e o
  unfold c37
  simp only [h36_0, h36_1, h36_2, h36_3, h36_4, h36_5, h36_6, h36_7]
  unfold o37 part37
  dsimp only
  exact ⟨rfl, rfl, rfl, rfl, rfl, rfl, rfl, rfl, rfl⟩

theorem e38 (e : Env F) (o : First e) :
    (c38 e o).r.1 = (dv128 (dv128 (broadcast S128x128 (Scalar.ofBits .f32 0x00000000#32) : FVec F S128x128 .f32) (a128 (io o) (z128 (q0 o) (k3 e)) (cs128 (lm128 (io o) (z128 (q0 o) (k3 e))) (uu o)) ((c36 e o).r.2.2.1)) (d0 o)) (a128 (io o) (z128 (q1 o) (k3 e)) (cs128 (lm128 (io o) (z128 (q1 o) (k3 e))) (uu o)) ((c36 e o).r.2.2.2.1)) (d1 o))
    ∧ (c38 e o).r.2.1 = extractStridedSlice S384x1 ![0, 0] ((c36 e o).r.2.2.2.1) slices_S512x1_o0_0_S384x1
    ∧ (c38 e o).r.2.2 = addf (extractStridedSlice S128x1 ![384, 0] ((c36 e o).r.2.2.2.1) slices_S512x1_o384_0_S128x1) (extractStridedSlice S128x1 ![0, 0] (cs128 (lm128 (io o) (z128 (q1 o) (k3 e))) (uu o)) slices_S128x128_o0_0_S128x1)
    ∧ (c38 e o).b.f9 = (c37 e o).b.f9
    ∧ (c38 e o).b.f10 = e.arg10.view.writes (Elt F) (c37 e o).b.f10 [⟨Rect.unit (s := S2x16x512x128) (k0_off3 e.i) S1x1x128x128.size (k0_off3_inb e.i), g128 (a128 (io o) (z128 (q1 o) (k3 e)) (cs128 (lm128 (io o) (z128 (q1 o) (k3 e))) (uu o)) ((c36 e o).r.2.2.2.1)) (d1 o) (vv3 e)⟩]
    ∧ (c38 e o).b.f11 = e.arg11.view.writes (Elt F) (c37 e o).b.f11 [⟨Rect.unit (s := S2x16x512x128) (k0_off3 e.i) S1x1x128x128.size (k0_off3_inb e.i), w128 (lm128 (io o) (z128 (q1 o) (k3 e)))⟩] := by
  obtain ⟨h36_0, h36_1, h36_2, h36_3, h36_4, h36_5, h36_6, h36_7, -, -, -⟩ := e36 e o
  obtain ⟨h37_0, -, h37_2, h37_3, h37_4, h37_5, -, -, -⟩ := e37 e o
  unfold c38
  simp only [h36_0, h36_1, h36_2, h36_3, h36_4, h36_5, h36_6, h36_7, h37_0, h37_2, h37_3, h37_4, h37_5]
  unfold o38 part38
  dsimp only
  exact ⟨rfl, rfl, rfl, rfl, rfl, rfl⟩

theorem e39 (e : Env F) (o : First e) :
    (c39 e o).r.1 = run128 ((c36 e o).r.2.2.2.1) (cs128 (lm128 (io o) (z128 (q1 o) (k3 e))) (uu o))
    ∧ (c39 e o).r.2.2.2.1 = k2 e
    ∧ (c39 e o).r.2.2.2.2.1 = vv2 e
    ∧ (c39 e o).r.2.2.2.2.2.1 = mk256 (io o)
    ∧ (c39 e o).r.2.2.2.2.2.2.1 = (broadcast S128x128 (Scalar.ofBits .f32 0x00000000#32) : FVec F S128x128 .f32)
    ∧ (c39 e o).r.2.2.2.2.2.2.2.1 = (z256 (q0 o) (k2 e))
    ∧ (c39 e o).r.2.2.2.2.2.2.2.2.1 = (lm256 (io o) (z256 (q0 o) (k2 e)))
    ∧ (c39 e o).r.2.2.2.2.2.2.2.2.2.1 = truncf .bf16 (subf (lm256 (io o) (z256 (q0 o) (k2 e))) (extf .f32 (truncf .bf16 (lm256 (io o) (z256 (q0 o) (k2 e))) bitsLt_bf16_f32) bitsLt_bf16_f32)) bitsLt_bf16_f32
    ∧ (c39 e o).r.2.2.2.2.2.2.2.2.2.2.1 = matmul dot_S256x128_S128x128_S256x128_1_0_0_1_n_n none (truncf .bf16 (lm256 (io o) (z256 (q0 o) (k2 e))) bitsLt_bf16_f32) (uu o) (constant S256x128 .f32 0x00000000#32)
    ∧ (c39 e o).r.2.2.2.2.2.2.2.2.2.2.2 = constant S256x128 .f32 0x00000000#32
    ∧ (c39 e o).b.f9 = e.arg9.view.writes (Elt F) (c38 e o).b.f9 [⟨(Rect.unit (s := S2048x128) (k0_off1 e.i 3#32) S128x128.size (k0_off1_inb e.i 3)), addf (shapeCast S128x128 (e.arg9.view.readAt (Elt F) (Rect.unit (s := S2048x128) (k0_off1 e.i 3#32) S128x128.size (k0_off1_inb e.i 3)).toLoadRect (c38 e o).b.f9) shapeCasts_S128x128_S128x128) (dv128 (dv128 (broadcast S128x128 (Scalar.ofBits .f32 0x00000000#32) : FVec F S128x128 .f32) (a128 (io o) (z128 (q0 o) (k3 e)) (cs128 (lm128 (io o) (z128 (q0 o) (k3 e))) (uu o)) ((c36 e o).r.2.2.1)) (d0 o)) (a128 (io o) (z128 (q1 o) (k3 e)) (cs128 (lm128 (io o) (z128 (q1 o) (k3 e))) (uu o)) ((c36 e o).r.2.2.2.1)) (d1 o))⟩]
    ∧ (c39 e o).b.f10 = (c38 e o).b.f10
    ∧ (c39 e o).b.f11 = (c38 e o).b.f11 := by
  obtain ⟨h36_0, h36_1, h36_2, h36_3, h36_4, h36_5, h36_6, h36_7, -, -, -⟩ := e36 e o
  obtain ⟨h37_0, -, h37_2, h37_3, h37_4, h37_5, -, -, -⟩ := e37 e o
  obtain ⟨h38_0, h38_1, h38_2, -, -, -⟩ := e38 e o
  unfold c39
  simp only [h36_0, h36_1, h36_2, h36_3, h36_4, h36_5, h36_6, h36_7, h37_0, h37_2, h37_3, h37_4, h37_5, h38_0, h38_1, h38_2]
  unfold o39 part39
  dsimp only
  exact ⟨rfl, rfl, rfl, rfl, rfl, rfl, rfl, rfl, rfl, rfl, rfl, rfl, rfl⟩

theorem e40 (e : Env F) (o : First e) :
    (c40 e o).r.1 = (dv256 (broadcast S128x128 (Scalar.ofBits .f32 0x00000000#32) : FVec F S128x128 .f32) (a256 (io o) (z256 (q0 o) (k2 e)) (cs256 (lm256 (io o) (z256 (q0 o) (k2 e))) (uu o)) ((c37 e o).r.2.1)) (d0 o))
    ∧ (c40 e o).r.2.1 = run256 ((c37 e o).r.2.1) (cs256 (lm256 (io o) (z256 (q0 o) (k2 e))) (uu o))
    ∧ (c40 e o).r.2.2.1 = (z256 (q1 o) (k2 e))
    ∧ (c40 e o).r.2.2.2 = (addf (maximumf (z256 (q1 o) (k2 e)) (broadcast S256x128 (Scalar.ofBits .f32 0x00000000#32))) (log (addf (broadcast S256x128 (Scalar.ofBits .f32 0x3F800000#32)) (exp (subf (broadcast S256x128 (Scalar.ofBits .f32 0x00000000#32)) (absf (z256 (q1 o) (k2 e))))))))
    ∧ (c40 e o).b.f9 = (c39 e o).b.f9
    ∧ (c40 e o).b.f10 = e.arg10.view.writes (Elt F) (c39 e o).b.f10 [⟨Rect.unit (s := S2x16x512x128) (k0_off4 e.i) S1x1x256x128.size (k0_off4_inb e.i), g256 (a256 (io o) (z256 (q0 o) (k2 e)) (cs256 (lm256 (io o) (z256 (q0 o) (k2 e))) (uu o)) ((c37 e o).r.2.1)) (d0 o) (vv2 e)⟩]
    ∧ (c40 e o).b.f11 = e.arg11.view.writes (Elt F) (c39 e o).b.f11 [⟨Rect.unit (s := S2x16x512x128) (k0_off4 e.i) S1x1x256x128.size (k0_off4_inb e.i), w256 (lm256 (io o) (z256 (q0 o) (k2 e)))⟩] := by
  obtain ⟨-, h39_1, h39_2, h39_3, h39_4, h39_5, h39_6, h39_7, h39_8, h39_9, -, -, -⟩ := e39 e o
  unfold c40
  simp only [h39_1, h39_2, h39_3, h39_4, h39_5, h39_6, h39_7, h39_8, h39_9]
  unfold o40 part40
  dsimp only
  exact ⟨rfl, rfl, rfl, rfl, rfl, rfl, rfl⟩

theorem e41 (e : Env F) (o : First e) :
    (c41 e o).r.1 = (dv256 (dv256 (broadcast S128x128 (Scalar.ofBits .f32 0x00000000#32) : FVec F S128x128 .f32) (a256 (io o) (z256 (q0 o) (k2 e)) (cs256 (lm256 (io o) (z256 (q0 o) (k2 e))) (uu o)) ((c37 e o).r.2.1)) (d0 o)) (a256 (io o) (z256 (q1 o) (k2 e)) (cs256 (lm256 (io o) (z256 (q1 o) (k2 e))) (uu o)) ((c39 e o).r.1)) (d1 o))
    ∧ (c41 e o).r.2.1 = run256 ((c39 e o).r.1) (cs256 (lm256 (io o) (z256 (q1 o) (k2 e))) (uu o))
    ∧ (c41 e o).r.2.2 = (e.arg9.view.readAt (Elt F) (Rect.unit (s := S2048x128) (k0_off1 e.i 2#32) S128x128.size (k0_off1_inb e.i 2)).toLoadRect (c40 e o).b.f9)
    ∧ (c41 e o).b.f9 = (c40 e o).b.f9
    ∧ (c41 e o).b.f10 = e.arg10.view.writes (Elt F) (c40 e o).b.f10 [⟨Rect.unit (s := S2x16x512x128) (k0_off5 e.i) S1x1x256x128.size (k0_off5_inb e.i), g256 (a256 (io o) (z256 (q1 o) (k2 e)) (cs256 (lm256 (io o) (z256 (q1 o) (k2 e))) (uu o)) ((c39 e o).r.1)) (d1 o) (vv2 e)⟩]
    ∧ (c41 e o).b.f11 = e.arg11.view.writes (Elt F) (c40 e o).b.f11 [⟨Rect.unit (s := S2x16x512x128) (k0_off5 e.i) S1x1x256x128.size (k0_off5_inb e.i), w256 (lm256 (io o) (z256 (q1 o) (k2 e)))⟩] := by
  obtain ⟨-, h39_1, h39_2, h39_3, h39_4, h39_5, h39_6, h39_7, h39_8, h39_9, -, -, -⟩ := e39 e o
  obtain ⟨h40_0, -, h40_2, h40_3, -, -, -⟩ := e40 e o
  unfold c41
  simp only [h39_1, h39_2, h39_3, h39_4, h39_5, h39_6, h39_7, h39_8, h39_9, h40_0, h40_2, h40_3]
  unfold o41 part41
  dsimp only
  exact ⟨rfl, rfl, rfl, rfl, rfl, rfl⟩

theorem e42 (e : Env F) (o : First e) :
    (c42 e o).r.2.2.1 = k1 e
    ∧ (c42 e o).r.2.2.2.1 = vv1 e
    ∧ (c42 e o).r.2.2.2.2.1 = mk384 (io o)
    ∧ (c42 e o).r.2.2.2.2.2.1 = (broadcast S128x128 (Scalar.ofBits .f32 0x00000000#32) : FVec F S128x128 .f32)
    ∧ (c42 e o).r.2.2.2.2.2.2.1 = (lm384 (io o) (z384 (q0 o) (k1 e)))
    ∧ (c42 e o).r.2.2.2.2.2.2.2.1 = (cs384 (lm384 (io o) (z384 (q0 o) (k1 e))) (uu o))
    ∧ (c42 e o).r.2.2.2.2.2.2.2.2.1 = addf (z384 (q0 o) (k1 e)) (cs384 (lm384 (io o) (z384 (q0 o) (k1 e))) (uu o))
    ∧ (c42 e o).r.2.2.2.2.2.2.2.2.2 = (extractStridedSlice S384x1 ![128, 0] ((c40 e o).r.2.1) slices_S512x1_o128_0_S384x1)
    ∧ (c42 e o).b.f9 = e.arg9.view.writes (Elt F) (c41 e o).b.f9 [⟨(Rect.unit (s := S2048x128) (k0_off1 e.i 2#32) S128x128.size (k0_off1_inb e.i 2)), addf (shapeCast S128x128 (e.arg9.view.readAt (Elt F) (Rect.unit (s := S2048x128) (k0_off1 e.i 2#32) S128x128.size (k0_off1_inb e.i 2)).toLoadRect (c40 e o).b.f9) shapeCasts_S128x128_S128x128) (dv256 (dv256 (broadcast S128x128 (Scalar.ofBits .f32 0x00000000#32) : FVec F S128x128 .f32) (a256 (io o) (z256 (q0 o) (k2 e)) (cs256 (lm256 (io o) (z256 (q0 o) (k2 e))) (uu o)) ((c37 e o).r.2.1)) (d0 o)) (a256 (io o) (z256 (q1 o) (k2 e)) (cs256 (lm256 (io o) (z256 (q1 o) (k2 e))) (uu o)) ((c39 e o).r.1)) (d1 o))⟩]
    ∧ (c42 e o).b.f10 = (c41 e o).b.f10
    ∧ (c42 e o).b.f11 = (c41 e o).b.f11 := by
  obtain ⟨h40_0, -, h40_2, h40_3, -, -, -⟩ := e40 e o
  obtain ⟨h41_0, -, h41_2, -, -, -⟩ := e41 e o
  unfold c42
  simp only [h40_0, h40_2, h40_3, h41_0, h41_2]
  unfold o42 part42
  dsimp only
  exact ⟨rfl, rfl, rfl, rfl, rfl, rfl, rfl, rfl, rfl, rfl, rfl⟩

theorem e43 (e : Env F) (o : First e) :
    (c43 e o).r.1 = (dv384 (broadcast S128x128 (Scalar.ofBits .f32 0x00000000#32) : FVec F S128x128 .f32) (a384 (io o) (z384 (q0 o) (k1 e)) (cs384 (lm384 (io o) (z384 (q0 o) (k1 e))) (uu o)) ((c40 e o).r.2.1)) (d0 o))
    ∧ (c43 e o).r.2.1 = run384 ((c40 e o).r.2.1) (cs384 (lm384 (io o) (z384 (q0 o) (k1 e))) (uu o))
    ∧ (c43 e o).r.2.2.1 = (z384 (q1 o) (k1 e))
    ∧ (c43 e o).r.2.2.2.1 = subf (broadcast S384x128 (Scalar.ofBits .f32 0x00000000#32)) (addf (maximumf (z384 (q1 o) (k1 e)) (broadcast S384x128 (Scalar.ofBits .f32 0x00000000#32))) (log (addf (broadcast S384x128 (Scalar.ofBits .f32 0x3F800000#32)) (exp (subf (broadcast S384x128 (Scalar.ofBits .f32 0x00000000#32)) (absf (z384 (q1 o) (k1 e))))))))
    ∧ (c43 e o).r.2.2.2.2 = (Scalar.ofBits .f32 0x00000000#32 : F .f32)
    ∧ (c43 e o).b.f9 = (c42 e o).b.f9
    ∧ (c43 e o).b.f10 = e.arg10.view.writes (Elt F) (c42 e o).b.f10 [⟨Rect.unit (s := S2x16x512x128) (k0_off6 e.i) S1x1x384x128.size (k0_off6_inb e.i), g384 (a384 (io o) (z384 (q0 o) (k1 e)) (cs384 (lm384 (io o) (z384 (q0 o) (k1 e))) (uu o)) ((c40 e o).r.2.1)) (d0 o) (vv1 e)⟩]
    ∧ (c43 e o).b.f11 = e.arg11.view.writes (Elt F) (c42 e o).b.f11 [⟨Rect.unit (s := S2x16x512x128) (k0_off6 e.i) S1x1x384x128.size (k0_off6_inb e.i), w384 (lm384 (io o) (z384 (q0 o) (k1 e)))⟩] := by
  obtain ⟨h42_0, h42_1, h42_2, h42_3, h42_4, h42_5, h42_6, h42_7, -, -, -⟩ := e42 e o
  unfold c43
  simp only [h42_0, h42_1, h42_2, h42_3, h42_4, h42_5, h42_6, h42_7]
  unfold o43 part43
  dsimp only
  exact ⟨rfl, rfl, rfl, rfl, rfl, rfl, rfl, rfl⟩

theorem e44 (e : Env F) (o : First e) :
    (c44 e o).r.1 = run384 ((c41 e o).r.2.1) (cs384 (lm384 (io o) (z384 (q1 o) (k1 e))) (uu o))
    ∧ (c44 e o).r.2 = addf (shapeCast S128x128 (e.arg9.view.readAt (Elt F) (Rect.unit (s := S2048x128) (k0_off1 e.i 1#32) S128x128.size (k0_off1_inb e.i 1)).toLoadRect (c43 e o).b.f9) shapeCasts_S128x128_S128x128) (dv384 (dv384 (broadcast S128x128 (Scalar.ofBits .f32 0x00000000#32) : FVec F S128x128 .f32) (a384 (io o) (z384 (q0 o) (k1 e)) (cs384 (lm384 (io o) (z384 (q0 o) (k1 e))) (uu o)) ((c40 e o).r.2.1)) (d0 o)) (a384 (io o) (z384 (q1 o) (k1 e)) (cs384 (lm384 (io o) (z384 (q1 o) (k1 e))) (uu o)) ((c41 e o).r.2.1)) (d1 o))
    ∧ (c44 e o).b.f9 = (c43 e o).b.f9
    ∧ (c44 e o).b.f10 = e.arg10.view.writes (Elt F) (c43 e o).b.f10 [⟨Rect.unit (s := S2x16x512x128) (k0_off7 e.i) S1x1x384x128.size (k0_off7_inb e.i), g384 (a384 (io o) (z384 (q1 o) (k1 e)) (cs384 (lm384 (io o) (z384 (q1 o) (k1 e))) (uu o)) ((c41 e o).r.2.1)) (d1 o) (vv1 e)⟩]
    ∧ (c44 e o).b.f11 = e.arg11.view.writes (Elt F) (c43 e o).b.f11 [⟨Rect.unit (s := S2x16x512x128) (k0_off7 e.i) S1x1x384x128.size (k0_off7_inb e.i), w384 (lm384 (io o) (z384 (q1 o) (k1 e)))⟩] := by
  obtain ⟨h42_0, h42_1, h42_2, h42_3, h42_4, h42_5, h42_6, h42_7, -, -, -⟩ := e42 e o
  obtain ⟨h43_0, -, h43_2, h43_3, h43_4, -, -, -⟩ := e43 e o
  unfold c44
  simp only [h42_0, h42_1, h42_2, h42_3, h42_4, h42_5, h42_6, h42_7, h43_0, h43_2, h43_3, h43_4]
  unfold o44 part44
  dsimp only
  exact ⟨rfl, rfl, rfl, rfl, rfl⟩

theorem e45 (e : Env F) (o : First e) :
    (c45 e o).r.2.2.1 = k0 e
    ∧ (c45 e o).r.2.2.2.1 = vv0 e
    ∧ (c45 e o).r.2.2.2.2.1 = mk512 (io o)
    ∧ (c45 e o).r.2.2.2.2.2.1 = (broadcast S128x128 (Scalar.ofBits .f32 0x00000000#32) : FVec F S128x128 .f32)
    ∧ (c45 e o).r.2.2.2.2.2.2.1 = (lm512 (io o) (z512 (q0 o) (k0 e)))
    ∧ (c45 e o).r.2.2.2.2.2.2.2.1 = (cs512 (lm512 (io o) (z512 (q0 o) (k0 e))) (uu o))
    ∧ (c45 e o).r.2.2.2.2.2.2.2.2.1 = (a512 (io o) (z512 (q0 o) (k0 e)) (cs512 (lm512 (io o) (z512 (q0 o) (k0 e))) (uu o)) ((c43 e o).r.2.1))
    ∧ (c45 e o).r.2.2.2.2.2.2.2.2.2 = constant S512x128 .f32 0x00000000#32
    ∧ (c45 e o).b.f9 = e.arg9.view.writes (Elt F) (c44 e o).b.f9 [⟨(Rect.unit (s := S2048x128) (k0_off1 e.i 1#32) S128x128.size (k0_off1_inb e.i 1)), addf (shapeCast S128x128 (e.arg9.view.readAt (Elt F) (Rect.unit (s := S2048x128) (k0_off1 e.i 1#32) S128x128.size (k0_off1_inb e.i 1)).toLoadRect (c43 e o).b.f9) shapeCasts_S128x128_S128x128) (dv384 (dv384 (broadcast S128x128 (Scalar.ofBits .f32 0x00000000#32) : FVec F S128x128 .f32) (a384 (io o) (z384 (q0 o) (k1 e)) (cs384 (lm384 (io o) (z384 (q0 o) (k1 e))) (uu o)) ((c40 e o).r.2.1)) (d0 o)) (a384 (io o) (z384 (q1 o) (k1 e)) (cs384 (lm384 (io o) (z384 (q1 o) (k1 e))) (uu o)) ((c41 e o).r.2.1)) (d1 o))⟩]
    ∧ (c45 e o).b.f10 = (c44 e o).b.f10
    ∧ (c45 e o).b.f11 = (c44 e o).b.f11 := by
  obtain ⟨-, h44_1, -, -, -⟩ := e44 e o
  unfold c45
  simp only [h44_1]
  unfold o45 part45
  dsimp only
  exact ⟨rfl, rfl, rfl, rfl, rfl, rfl, rfl, rfl, rfl, rfl, rfl⟩

theorem e46 (e : Env F) (o : First e) :
    (c46 e o).r.1 = (dv512 (broadcast S128x128 (Scalar.ofBits .f32 0x00000000#32) : FVec F S128x128 .f32) (a512 (io o) (z512 (q0 o) (k0 e)) (cs512 (lm512 (io o) (z512 (q0 o) (k0 e))) (uu o)) ((c43 e o).r.2.1)) (d0 o))
    ∧ (c46 e o).r.2.1 = run512 ((c43 e o).r.2.1) (cs512 (lm512 (io o) (z512 (q0 o) (k0 e))) (uu o))
    ∧ (c46 e o).r.2.2.1 = (lm512 (io o) (z512 (q1 o) (k0 e)))
    ∧ (c46 e o).r.2.2.2.1 = (cs512 (lm512 (io o) (z512 (q1 o) (k0 e))) (uu o))
    ∧ (c46 e o).r.2.2.2.2.1 = addf (z512 (q1 o) (k0 e)) (cs512 (lm512 (io o) (z512 (q1 o) (k0 e))) (uu o))
    ∧ (c46 e o).r.2.2.2.2.2 = broadcastTo S512x128 ((c44 e o).r.1) broadcasts_S512x1_S512x128
    ∧ (c46 e o).b.f9 = (c45 e o).b.f9
    ∧ (c46 e o).b.f10 = e.arg10.view.writes (Elt F) (c45 e o).b.f10 [⟨Rect.unit (s := S2x16x512x128) (k0_off8 e.i) S1x1x512x128.size (k0_off8_inb e.i), g512 (a512 (io o) (z512 (q0 o) (k0 e)) (cs512 (lm512 (io o) (z512 (q0 o) (k0 e))) (uu o)) ((c43 e o).r.2.1)) (d0 o) (vv0 e)⟩]
    ∧ (c46 e o).b.f11 = e.arg11.view.writes (Elt F) (c45 e o).b.f11 [⟨Rect.unit (s := S2x16x512x128) (k0_off8 e.i) S1x1x512x128.size (k0_off8_inb e.i), w512 (lm512 (io o) (z512 (q0 o) (k0 e)))⟩] := by
  obtain ⟨h45_0, h45_1, h45_2, h45_3, h45_4, h45_5, h45_6, h45_7, -, -, -⟩ := e45 e o
  unfold c46
  simp only [h45_0, h45_1, h45_2, h45_3, h45_4, h45_5, h45_6, h45_7]
  unfold o46 part46
  dsimp only
  exact ⟨rfl, rfl, rfl, rfl, rfl, rfl, rfl, rfl, rfl⟩

end Cert.KernelIdeal.Hand
end
-- ==== Proof.BlocksR.lean ====
/- What one block of keys and one head compute in the right sweep, over any float values: the sums over the earlier keys,
   the scores' gradient, what it adds to the queries' and the keys' gradients, and the running sum. -/
module
public import proofs.«01_k».proof.Proof.Gen.KernelIdeal
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The lanes of one head of a key block. -/
def kh (m : IVec S1x128 1) (k : FVec F S128x128 .bf16) : FVec F S128x128 .bf16 :=
  select (broadcastTo S128x128 (shapeCast S1x128 m shapeCasts_S1x128_S1x128) broadcasts_S1x128_S128x128) k (broadcast S128x128 (Scalar.sitofp .bf16 0#32))

/-- A block kept by the left sweep. -/
def gg128 (x : FVec F S1x1x128x128 .f32) : FVec F S128x128 .f32 := shapeCast S128x128 x shapeCasts_S1x1x128x128_S128x128

/-- The sums over the earlier keys. -/
def up128 (g : FVec F S128x128 .f32) (u : FVec F S128x128 .bf16) (run : FVec F S512x1 .f32) : FVec F S128x128 .f32 :=
  addf (cs128 g u) (broadcastTo S128x128 (extractStridedSlice S128x1 ![384, 0] run slices_S512x1_o384_0_S128x1) broadcasts_S128x1_S128x128)

/-- The scores' gradient. -/
def dz128 (v31 : IVec S512x128 32) (g w up : FVec F S128x128 .f32) : FVec F S128x128 .bf16 :=
  truncf .bf16 (select (mk128 v31) (subf g (mulf w up)) (broadcast S128x128 (Scalar.ofBits .f32 0x00000000#32))) bitsLt_bf16_f32

/-- The queries' gradient after the block, not yet scaled. -/
def dq128 (dq : FVec F S512x128 .f32) (dz : FVec F S128x128 .bf16) (k : FVec F S128x128 .bf16) : FVec F S512x128 .f32 :=
  concatenate S512x128 0 [⟨S384x128, (extractStridedSlice S384x128 ![0, 0] dq slices_S512x128_o0_0_S384x128)⟩, ⟨S128x128, addf (extractStridedSlice S128x128 ![384, 0] dq slices_S512x128_o384_0_S128x128) (matmul dot_S128x128_S128x128_S128x128_1_0_0_1_n_n none dz k (constant S128x128 .f32 0x00000000#32))⟩] concatenates_S384x128_S128x128_S512x128_d0

/-- What the block adds to the keys' gradient. -/
def dk128 (acc : FVec F S128x128 .f32) (dz : FVec F S128x128 .bf16) (q : FVec F S512x128 .bf16) : FVec F S128x128 .f32 :=
  addf acc (matmul dot_S128x128_S128x128_S128x128_0_0_1_1_n_n none dz (extractStridedSlice S128x128 ![384, 0] q slices_S512x128_o384_0_S128x128) (constant S128x128 .f32 0x00000000#32))

/-- A block kept by the left sweep. -/
def gg256 (x : FVec F S1x1x256x128 .f32) : FVec F S256x128 .f32 := shapeCast S256x128 x shapeCasts_S1x1x256x128_S256x128

/-- The sums over the earlier keys. -/
def up256 (g : FVec F S256x128 .f32) (u : FVec F S128x128 .bf16) (run : FVec F S512x1 .f32) : FVec F S256x128 .f32 :=
  addf (cs256 g u) (broadcastTo S256x128 (extractStridedSlice S256x1 ![256, 0] run slices_S512x1_o256_0_S256x1) broadcasts_S256x1_S256x128)

/-- The scores' gradient. -/
def dz256 (v31 : IVec S512x128 32) (g w up : FVec F S256x128 .f32) : FVec F S256x128 .bf16 :=
  truncf .bf16 (select (mk256 v31) (subf g (mulf w up)) (broadcast S256x128 (Scalar.ofBits .f32 0x00000000#32))) bitsLt_bf16_f32

/-- The queries' gradient after the block, not yet scaled. -/
def dq256 (dq : FVec F S512x128 .f32) (dz : FVec F S256x128 .bf16) (k : FVec F S128x128 .bf16) : FVec F S512x128 .f32 :=
  concatenate S512x128 0 [⟨S256x128, (extractStridedSlice S256x128 ![0, 0] dq slices_S512x128_o0_0_S256x128)⟩, ⟨S256x128, addf (extractStridedSlice S256x128 ![256, 0] dq slices_S512x128_o256_0_S256x128) (matmul dot_S256x128_S128x128_S256x128_1_0_0_1_n_n none dz k (constant S256x128 .f32 0x00000000#32))⟩] concatenates_S256x128_S256x128_S512x128_d0

/-- What the block adds to the keys' gradient. -/
def dk256 (acc : FVec F S128x128 .f32) (dz : FVec F S256x128 .bf16) (q : FVec F S512x128 .bf16) : FVec F S128x128 .f32 :=
  addf acc (matmul dot_S256x128_S256x128_S128x128_0_0_1_1_n_n none dz (extractStridedSlice S256x128 ![256, 0] q slices_S512x128_o256_0_S256x128) (constant S128x128 .f32 0x00000000#32))

/-- The running sum after the block. -/
def ru256 (run : FVec F S512x1 .f32) (g : FVec F S256x128 .f32) : FVec F S512x1 .f32 :=
  concatenate S512x1 0 [⟨S256x1, (extractStridedSlice S256x1 ![0, 0] run slices_S512x1_o0_0_S256x1)⟩, ⟨S256x1, addf (extractStridedSlice S256x1 ![256, 0] run slices_S512x1_o256_0_S256x1) (shapeCast S256x1 (multiReduction .add [1] S256 g 0x00000000#32 reduces_S256x128_S256 (.inl rfl) rfl) shapeCasts_S256_S256x1)⟩] concatenates_S256x1_S256x1_S512x1_d0

/-- A block kept by the left sweep. -/
def gg384 (x : FVec F S1x1x384x128 .f32) : FVec F S384x128 .f32 := shapeCast S384x128 x shapeCasts_S1x1x384x128_S384x128

/-- The sums over the earlier keys. -/
def up384 (g : FVec F S384x128 .f32) (u : FVec F S128x128 .bf16) (run : FVec F S512x1 .f32) : FVec F S384x128 .f32 :=
  addf (cs384 g u) (broadcastTo S384x128 (extractStridedSlice S384x1 ![128, 0] run slices_S512x1_o128_0_S384x1) broadcasts_S384x1_S384x128)

/-- The scores' gradient. -/
def dz384 (v31 : IVec S512x128 32) (g w up : FVec F S384x128 .f32) : FVec F S384x128 .bf16 :=
  truncf .bf16 (select (mk384 v31) (subf g (mulf w up)) (broadcast S384x128 (Scalar.ofBits .f32 0x00000000#32))) bitsLt_bf16_f32

/-- The queries' gradient after the block, not yet scaled. -/
def dq384 (dq : FVec F S512x128 .f32) (dz : FVec F S384x128 .bf16) (k : FVec F S128x128 .bf16) : FVec F S512x128 .f32 :=
  concatenate S512x128 0 [⟨S128x128, (extractStridedSlice S128x128 ![0, 0] dq slices_S512x128_o0_0_S128x128)⟩, ⟨S384x128, addf (extractStridedSlice S384x128 ![128, 0] dq slices_S512x128_o128_0_S384x128) (matmul dot_S384x128_S128x128_S384x128_1_0_0_1_n_n none dz k (constant S384x128 .f32 0x00000000#32))⟩] concatenates_S128x128_S384x128_S512x128_d0

/-- What the block adds to the keys' gradient. -/
def dk384 (acc : FVec F S128x128 .f32) (dz : FVec F S384x128 .bf16) (q : FVec F S512x128 .bf16) : FVec F S128x128 .f32 :=
  addf acc (matmul dot_S384x128_S384x128_S128x128_0_0_1_1_n_n none dz (extractStridedSlice S384x128 ![128, 0] q slices_S512x128_o128_0_S384x128) (constant S128x128 .f32 0x00000000#32))

/-- The running sum after the block. -/
def ru384 (run : FVec F S512x1 .f32) (g : FVec F S384x128 .f32) : FVec F S512x1 .f32 :=
  concatenate S512x1 0 [⟨S128x1, (extractStridedSlice S128x1 ![0, 0] run slices_S512x1_o0_0_S128x1)⟩, ⟨S384x1, addf (extractStridedSlice S384x1 ![128, 0] run slices_S512x1_o128_0_S384x1) (shapeCast S384x1 (multiReduction .add [1] S384 g 0x00000000#32 reduces_S384x128_S384 (.inl rfl) rfl) shapeCasts_S384_S384x1)⟩] concatenates_S128x1_S384x1_S512x1_d0

/-- A block kept by the left sweep. -/
def gg512 (x : FVec F S1x1x512x128 .f32) : FVec F S512x128 .f32 := shapeCast S512x128 x shapeCasts_S1x1x512x128_S512x128

/-- The sums over the earlier keys. -/
def up512 (g : FVec F S512x128 .f32) (u : FVec F S128x128 .bf16) (run : FVec F S512x1 .f32) : FVec F S512x128 .f32 :=
  addf (cs512 g u) (broadcastTo S512x128 run broadcasts_S512x1_S512x128)

/-- The scores' gradient. -/
def dz512 (v31 : IVec S512x128 32) (g w up : FVec F S512x128 .f32) : FVec F S512x128 .bf16 :=
  truncf .bf16 (select (mk512 v31) (subf g (mulf w up)) (broadcast S512x128 (Scalar.ofBits .f32 0x00000000#32))) bitsLt_bf16_f32

/-- The queries' gradient after the block, not yet scaled. -/
def dq512 (dq : FVec F S512x128 .f32) (dz : FVec F S512x128 .bf16) (k : FVec F S128x128 .bf16) : FVec F S512x128 .f32 :=
  addf dq (matmul dot_S512x128_S128x128_S512x128_1_0_0_1_n_n none dz k (constant S512x128 .f32 0x00000000#32))

/-- What the block adds to the keys' gradient. -/
def dk512 (acc : FVec F S128x128 .f32) (dz : FVec F S512x128 .bf16) (q : FVec F S512x128 .bf16) : FVec F S128x128 .f32 :=
  addf acc (matmul dot_S512x128_S512x128_S128x128_0_0_1_1_n_n none dz q (constant S128x128 .f32 0x00000000#32))

/-- The running sum after the block. -/
def ru512 (run : FVec F S512x1 .f32) (g : FVec F S512x128 .f32) : FVec F S512x1 .f32 :=
  addf run (shapeCast S512x1 (multiReduction .add [1] S512 g 0x00000000#32 reduces_S512x128_S512 (.inl rfl) rfl) shapeCasts_S512_S512x1)

/-- The scores' gradient left of the diagonal. -/
def dzU (g w up : FVec F S512x128 .f32) : FVec F S512x128 .bf16 := truncf .bf16 (subf g (mulf w up)) bitsLt_bf16_f32

end Cert.KernelIdeal.Hand
end
-- ==== Proof.EqR.lean ====
/- What each stretch of the right sweep's diagonal blocks returns and writes, as the functions of one block and one
   head, over any float values. -/
module
public import proofs.«01_k».proof.Proof.EqL
public import proofs.«01_k».proof.Proof.BlocksR
public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The two heads' lanes, and the matrix of the sums over earlier keys. -/
abbrev m0 {e : Env F} (o : First e) := o.r.2.1
abbrev m1 {e : Env F} (o : First e) := o.r.2.2.1
abbrev uf {e : Env F} (o : First e) := o.r.2.2.2.2.2.2.2.1

theorem e48 (e : Env F) (o : First e) :
    (c48 e o).r.2.2.2.2.2.1 = k0 e
    ∧ (c48 e o).r.2.2.2.2.2.2.1 = (broadcast S128x128 (Scalar.ofBits .f32 0x00000000#32) : FVec F S128x128 .f32)
    ∧ (c48 e o).r.2.2.2.2.2.2.2.1 = (gg512 (e.arg10.view.readAt (Elt F) (Rect.unit (s := S2x16x512x128) (k0_off8 e.i) S1x1x512x128.size (k0_off8_inb e.i)).toLoadRect (c47 e o).b.f10))
    ∧ (c48 e o).r.2.2.2.2.2.2.2.2.1 = (dz512 (io o) (gg512 (e.arg10.view.readAt (Elt F) (Rect.unit (s := S2x16x512x128) (k0_off8 e.i) S1x1x512x128.size (k0_off8_inb e.i)).toLoadRect (c47 e o).b.f10)) (gg512 (e.arg11.view.readAt (Elt F) (Rect.unit (s := S2x16x512x128) (k0_off8 e.i) S1x1x512x128.size (k0_off8_inb e.i)).toLoadRect (c47 e o).b.f11)) (up512 (gg512 (e.arg10.view.readAt (Elt F) (Rect.unit (s := S2x16x512x128) (k0_off8 e.i) S1x1x512x128.size (k0_off8_inb e.i)).toLoadRect (c47 e o).b.f10)) (uf o) ((c48 e o).r.2.1)))
    ∧ (c48 e o).r.2.2.2.2.2.2.2.2.2 = (Scalar.sitofp .bf16 0#32 : F .bf16)
    ∧ (c48 e o).b.f9 = (c47 e o).b.f9
    ∧ (c48 e o).b.f10 = (c47 e o).b.f10
    ∧ (c48 e o).b.f11 = (c47 e o).b.f11
    ∧ True := by
  unfold c48
  unfold o48 part48
  dsimp only
  exact ⟨rfl, rfl, rfl, rfl, rfl, rfl, rfl, rfl, trivial⟩

theorem e49 (e : Env F) (o : First e) :
    (c49 e o).r.1 = ru512 ((c48 e o).r.2.1) (gg512 (e.arg10.view.readAt (Elt F) (Rect.unit (s := S2x16x512x128) (k0_off8 e.i) S1x1x512x128.size (k0_off8_inb e.i)).toLoadRect (c47 e o).b.f10))
    ∧ (c49 e o).r.2.1 = dq512 (dq512 ((c48 e o).r.1) (dz512 (io o) (gg512 (e.arg10.view.readAt (Elt F) (Rect.unit (s := S2x16x512x128) (k0_off8 e.i) S1x1x512x128.size (k0_off8_inb e.i)).toLoadRect (c47 e o).b.f10)) (gg512 (e.arg11.view.readAt (Elt F) (Rect.unit (s := S2x16x512x128) (k0_off8 e.i) S1x1x512x128.size (k0_off8_inb e.i)).toLoadRect (c47 e o).b.f11)) (up512 (gg512 (e.arg10.view.readAt (Elt F) (Rect.unit (s := S2x16x512x128) (k0_off8 e.i) S1x1x512x128.size (k0_off8_inb e.i)).toLoadRect (c47 e o).b.f10)) (uf o) ((c48 e o).r.2.1))) (kh (m0 o) (k0 e))) (dz512 (io o) (gg512 (e.arg10.view.readAt (Elt F) (Rect.unit (s := S2x16x512x128) (k0_off9 e.i) S1x1x512x128.size (k0_off9_inb e.i)).toLoadRect (c48 e o).b.f10)) (gg512 (e.arg11.view.readAt (Elt F) (Rect.unit (s := S2x16x512x128) (k0_off9 e.i) S1x1x512x128.size (k0_off9_inb e.i)).toLoadRect (c48 e o).b.f11)) (up512 (gg512 (e.arg10.view.readAt (Elt F) (Rect.unit (s := S2x16x512x128) (k0_off9 e.i) S1x1x512x128.size (k0_off9_inb e.i)).toLoadRect (c48 e o).b.f10)) (uf o) ((c48 e o).r.2.2.1))) (kh (m1 o) (k0 e))
    ∧ (c49 e o).r.2.2.1 = (dk512 (dk512 (broadcast S128x128 (Scalar.ofBits .f32 0x00000000#32) : FVec F S128x128 .f32) (dz512 (io o) (gg512 (e.arg10.view.readAt (Elt F) (Rect.unit (s := S2x16x512x128) (k0_off8 e.i) S1x1x512x128.size (k0_off8_inb e.i)).toLoadRect (c47 e o).b.f10)) (gg512 (e.arg11.view.readAt (Elt F) (Rect.unit (s := S2x16x512x128) (k0_off8 e.i) S1x1x512x128.size (k0_off8_inb e.i)).toLoadRect (c47 e o).b.f11)) (up512 (gg512 (e.arg10.view.readAt (Elt F) (Rect.unit (s := S2x16x512x128) (k0_off8 e.i) S1x1x512x128.size (k0_off8_inb e.i)).toLoadRect (c47 e o).b.f10)) (uf o) ((c48 e o).r.2.1))) (q0 o)) (dz512 (io o) (gg512 (e.arg10.view.readAt (Elt F) (Rect.unit (s := S2x16x512x128) (k0_off9 e.i) S1x1x512x128.size (k0_off9_inb e.i)).toLoadRect (c48 e o).b.f10)) (gg512 (e.arg11.view.readAt (Elt F) (Rect.unit (s := S2x16x512x128) (k0_off9 e.i) S1x1x512x128.size (k0_off9_inb e.i)).toLoadRect (c48 e o).b.f11)) (up512 (gg512 (e.arg10.view.readAt (Elt F) (Rect.unit (s := S2x16x512x128) (k0_off9 e.i) S1x1x512x128.size (k0_off9_inb e.i)).toLoadRect (c48 e o).b.f10)) (uf o) ((c48 e o).r.2.2.1))) (q1 o))
    ∧ (c49 e o).r.2.2.2 = multiReduction .add [1] S512 (gg512 (e.arg10.view.readAt (Elt F) (Rect.unit (s := S2x16x512x128) (k0_off9 e.i) S1x1x512x128.size (k0_off9_inb e.i)).toLoadRect (c48 e o).b.f10)) 0x00000000#32 reduces_S512x128_S512 (.inl rfl) rfl
    ∧ (c49 e o).b.f8 = (c48 e o).b.f8
    ∧ (c49 e o).b.f9 = (c47 e o).b.f9
    ∧ (c49 e o).b.f10 = (c47 e o).b.f10
    ∧ (c49 e o).b.f11 = (c47 e o).b.f11
    ∧ True := by
  obtain ⟨h48_0, h48_1, h48_2, h48_3, h48_4, h48_f9, h48_f10, h48_f11, -⟩ := e48 e o
  unfold c49
  simp only [h48_0, h48_1, h48_2, h48_3, h48_4]
  unfold o49 part49
  dsimp only
  exact ⟨rfl, rfl, rfl, rfl, rfl, h48_f9, h48_f10, h48_f11, trivial⟩

theorem e50 (e : Env F) (o : First e) :
    (c50 e o).r.1 = ru512 ((c48 e o).r.2.2.1) (gg512 (e.arg10.view.readAt (Elt F) (Rect.unit (s := S2x16x512x128) (k0_off9 e.i) S1x1x512x128.size (k0_off9_inb e.i)).toLoadRect (c48 e o).b.f10))
    ∧ (c50 e o).r.2.2.2.1 = k1 e
    ∧ (c50 e o).r.2.2.2.2.1 = (broadcast S128x128 (Scalar.ofBits .f32 0x00000000#32) : FVec F S128x128 .f32)
    ∧ (c50 e o).r.2.2.2.2.2.1 = (gg384 (e.arg10.view.readAt (Elt F) (Rect.unit (s := S2x16x512x128) (k0_off6 e.i) S1x1x384x128.size (k0_off6_inb e.i)).toLoadRect (c49 e o).b.f10))
    ∧ (c50 e o).r.2.2.2.2.2.2.1 = (dz384 (io o) (gg384 (e.arg10.view.readAt (Elt F) (Rect.unit (s := S2x16x512x128) (k0_off6 e.i) S1x1x384x128.size (k0_off6_inb e.i)).toLoadRect (c49 e o).b.f10)) (gg384 (e.arg11.view.readAt (Elt F) (Rect.unit (s := S2x16x512x128) (k0_off6 e.i) S1x1x384x128.size (k0_off6_inb e.i)).toLoadRect (c49 e o).b.f11)) (up384 (gg384 (e.arg10.view.readAt (Elt F) (Rect.unit (s := S2x16x512x128) (k0_off6 e.i) S1x1x384x128.size (k0_off6_inb e.i)).toLoadRect (c49 e o).b.f10)) (uf o) ((c49 e o).r.1)))
    ∧ (c50 e o).r.2.2.2.2.2.2.2 = (Scalar.sitofp .bf16 0#32 : F .bf16)
    ∧ (c50 e o).b.f8 = e.arg8.view.writes (Elt F) (c49 e o).b.f8 [⟨(Rect.unit (s := S2048x128) (k0_off1 e.i 0#32) S128x128.size (k0_off1_inb e.i 0)), addf (shapeCast S128x128 (e.arg8.view.readAt (Elt F) (Rect.unit (s := S2048x128) (k0_off1 e.i 0#32) S128x128.size (k0_off1_inb e.i 0)).toLoadRect (c49 e o).b.f8) shapeCasts_S128x128_S128x128) (dk512 (dk512 (broadcast S128x128 (Scalar.ofBits .f32 0x00000000#32) : FVec F S128x128 .f32) (dz512 (io o) (gg512 (e.arg10.view.readAt (Elt F) (Rect.unit (s := S2x16x512x128) (k0_off8 e.i) S1x1x512x128.size (k0_off8_inb e.i)).toLoadRect (c47 e o).b.f10)) (gg512 (e.arg11.view.readAt (Elt F) (Rect.unit (s := S2x16x512x128) (k0_off8 e.i) S1x1x512x128.size (k0_off8_inb e.i)).toLoadRect (c47 e o).b.f11)) (up512 (gg512 (e.arg10.view.readAt (Elt F) (Rect.unit (s := S2x16x512x128) (k0_off8 e.i) S1x1x512x128.size (k0_off8_inb e.i)).toLoadRect (c47 e o).b.f10)) (uf o) ((c48 e o).r.2.1))) (q0 o)) (dz512 (io o) (gg512 (e.arg10.view.readAt (Elt F) (Rect.unit (s := S2x16x512x128) (k0_off9 e.i) S1x1x512x128.size (k0_off9_inb e.i)).toLoadRect (c48 e o).b.f10)) (gg512 (e.arg11.view.readAt (Elt F) (Rect.unit (s := S2x16x512x128) (k0_off9 e.i) S1x1x512x128.size (k0_off9_inb e.i)).toLoadRect (c48 e o).b.f11)) (up512 (gg512 (e.arg10.view.readAt (Elt F) (Rect.unit (s := S2x16x512x128) (k0_off9 e.i) S1x1x512x128.size (k0_off9_inb e.i)).toLoadRect (c48 e o).b.f10)) (uf o) ((c48 e o).r.2.2.1))) (q1 o))⟩]
    ∧ (c50 e o).b.f9 = (c47 e o).b.f9
    ∧ (c50 e o).b.f10 = (c47 e o).b.f10
    ∧ (c50 e o).b.f11 = (c47 e o).b.f11
    ∧ True := by
  obtain ⟨-, -, h49_2, h49_3, -, h49_f9, h49_f10, h49_f11, -⟩ := e49 e o
  unfold c50
  simp only [h49_2, h49_3]
  unfold o50 part50
  dsimp only
  exact ⟨rfl, rfl, rfl, rfl, rfl, rfl, rfl, h49_f9, h49_f10, h49_f11, trivial⟩

theorem e51 (e : Env F) (o : First e) :
    (c51 e o).r.1 = dq384 ((c49 e o).r.2.1) (dz384 (io o) (gg384 (e.arg10.view.readAt (Elt F) (Rect.unit (s := S2x16x512x128) (k0_off6 e.i) S1x1x384x128.size (k0_off6_inb e.i)).toLoadRect (c49 e o).b.f10)) (gg384 (e.arg11.view.readAt (Elt F) (Rect.unit (s := S2x16x512x128) (k0_off6 e.i) S1x1x384x128.size (k0_off6_inb e.i)).toLoadRect (c49 e o).b.f11)) (up384 (gg384 (e.arg10.view.readAt (Elt F) (Rect.unit (s := S2x16x512x128) (k0_off6 e.i) S1x1x384x128.size (k0_off6_inb e.i)).toLoadRect (c49 e o).b.f10)) (uf o) ((c49 e o).r.1))) (kh (m0 o) (k1 e))
    ∧ (c51 e o).r.2.1 = (dk384 (broadcast S128x128 (Scalar.ofBits .f32 0x00000000#32) : FVec F S128x128 .f32) (dz384 (io o) (gg384 (e.arg10.view.readAt (Elt F) (Rect.unit (s := S2x16x512x128) (k0_off6 e.i) S1x1x384x128.size (k0_off6_inb e.i)).toLoadRect (c49 e o).b.f10)) (gg384 (e.arg11.view.readAt (Elt F) (Rect.unit (s := S2x16x512x128) (k0_off6 e.i) S1x1x384x128.size (k0_off6_inb e.i)).toLoadRect (c49 e o).b.f11)) (up384 (gg384 (e.arg10.view.readAt (Elt F) (Rect.unit (s := S2x16x512x128) (k0_off6 e.i) S1x1x384x128.size (k0_off6_inb e.i)).toLoadRect (c49 e o).b.f10)) (uf o) ((c49 e o).r.1))) (q0 o))
    ∧ (c51 e o).r.2.2.1 = ru384 ((c49 e o).r.1) (gg384 (e.arg10.view.readAt (Elt F) (Rect.unit (s := S2x16x512x128) (k0_off6 e.i) S1x1x384x128.size (k0_off6_inb e.i)).toLoadRect (c49 e o).b.f10))
    ∧ (c51 e o).r.2.2.2.1 = (gg384 (e.arg10.view.readAt (Elt F) (Rect.unit (s := S2x16x512x128) (k0_off7 e.i) S1x1x384x128.size (k0_off7_inb e.i)).toLoadRect (c50 e o).b.f10))
    ∧ (c51 e o).r.2.2.2.2.1 = (dz384 (io o) (gg384 (e.arg10.view.readAt (Elt F) (Rect.unit (s := S2x16x512x128) (k0_off7 e.i) S1x1x384x128.size (k0_off7_inb e.i)).toLoadRect (c50 e o).b.f10)) (gg384 (e.arg11.view.readAt (Elt F) (Rect.unit (s := S2x16x512x128) (k0_off7 e.i) S1x1x384x128.size (k0_off7_inb e.i)).toLoadRect (c50 e o).b.f11)) (up384 (gg384 (e.arg10.view.readAt (Elt F) (Rect.unit (s := S2x16x512x128) (k0_off7 e.i) S1x1x384x128.size (k0_off7_inb e.i)).toLoadRect (c50 e o).b.f10)) (uf o) ((c50 e o).r.1)))
    ∧ (c51 e o).r.2.2.2.2.2.1 = broadcastTo S128x128 (shapeCast S1x128 (m1 o) shapeCasts_S1x128_S1x128) broadcasts_S1x128_S128x128
    ∧ (c51 e o).r.2.2.2.2.2.2 = broadcast S128x128 (Scalar.sitofp .bf16 0#32 : F .bf16)
    ∧ (c51 e o).b.f8 = (c50 e o).b.f8
    ∧ (c51 e o).b.f9 = (c47 e o).b.f9
    ∧ (c51 e o).b.f10 = (c47 e o).b.f10
    ∧ (c51 e o).b.f11 = (c47 e o).b.f11
    ∧ True := by
  obtain ⟨-, h50_1, h50_2, h50_3, h50_4, h50_5, -, h50_f9, h50_f10, h50_f11, -⟩ := e50 e o
  unfold c51
  simp only [h50_1, h50_2, h50_3, h50_4, h50_5]
  unfold o51 part51
  dsimp only
  exact ⟨rfl, rfl, rfl, rfl, rfl, rfl, rfl, rfl, h50_f9, h50_f10, h50_f11, trivial⟩

theorem e52 (e : Env F) (o : First e) :
    (c52 e o).r.1 = dq384 ((c51 e o).r.1) (dz384 (io o) (gg384 (e.arg10.view.readAt (Elt F) (Rect.unit (s := S2x16x512x128) (k0_off7 e.i) S1x1x384x128.size (k0_off7_inb e.i)).toLoadRect (c50 e o).b.f10)) (gg384 (e.arg11.view.readAt (Elt F) (Rect.unit (s := S2x16x512x128) (k0_off7 e.i) S1x1x384x128.size (k0_off7_inb e.i)).toLoadRect (c50 e o).b.f11)) (up384 (gg384 (e.arg10.view.readAt (Elt F) (Rect.unit (s := S2x16x512x128) (k0_off7 e.i) S1x1x384x128.size (k0_off7_inb e.i)).toLoadRect (c50 e o).b.f10)) (uf o) ((c50 e o).r.1))) (kh (m1 o) (k1 e))
    ∧ (c52 e o).r.2.1 = ru384 ((c50 e o).r.1) (gg384 (e.arg10.view.readAt (Elt F) (Rect.unit (s := S2x16x512x128) (k0_off7 e.i) S1x1x384x128.size (k0_off7_inb e.i)).toLoadRect (c50 e o).b.f10))
    ∧ (c52 e o).r.2.2.2.2.1 = k2 e
    ∧ (c52 e o).r.2.2.2.2.2.1 = (broadcast S128x128 (Scalar.ofBits .f32 0x00000000#32) : FVec F S128x128 .f32)
    ∧ (c52 e o).r.2.2.2.2.2.2.1 = (gg256 (e.arg10.view.readAt (Elt F) (Rect.unit (s := S2x16x512x128) (k0_off4 e.i) S1x1x256x128.size (k0_off4_inb e.i)).toLoadRect (c51 e o).b.f10))
    ∧ (c52 e o).r.2.2.2.2.2.2.2 = (up256 (gg256 (e.arg10.view.readAt (Elt F) (Rect.unit (s := S2x16x512x128) (k0_off4 e.i) S1x1x256x128.size (k0_off4_inb e.i)).toLoadRect (c51 e o).b.f10)) (uf o) ((c51 e o).r.2.2.1))
    ∧ (c52 e o).b.f8 = e.arg8.view.writes (Elt F) (c51 e o).b.f8 [⟨(Rect.unit (s := S2048x128) (k0_off1 e.i 1#32) S128x128.size (k0_off1_inb e.i 1)), addf (shapeCast S128x128 (e.arg8.view.readAt (Elt F) (Rect.unit (s := S2048x128) (k0_off1 e.i 1#32) S128x128.size (k0_off1_inb e.i 1)).toLoadRect (c51 e o).b.f8) shapeCasts_S128x128_S128x128) (dk384 (dk384 (broadcast S128x128 (Scalar.ofBits .f32 0x00000000#32) : FVec F S128x128 .f32) (dz384 (io o) (gg384 (e.arg10.view.readAt (Elt F) (Rect.unit (s := S2x16x512x128) (k0_off6 e.i) S1x1x384x128.size (k0_off6_inb e.i)).toLoadRect (c49 e o).b.f10)) (gg384 (e.arg11.view.readAt (Elt F) (Rect.unit (s := S2x16x512x128) (k0_off6 e.i) S1x1x384x128.size (k0_off6_inb e.i)).toLoadRect (c49 e o).b.f11)) (up384 (gg384 (e.arg10.view.readAt (Elt F) (Rect.unit (s := S2x16x512x128) (k0_off6 e.i) S1x1x384x128.size (k0_off6_inb e.i)).toLoadRect (c49 e o).b.f10)) (uf o) ((c49 e o).r.1))) (q0 o)) (dz384 (io o) (gg384 (e.arg10.view.readAt (Elt F) (Rect.unit (s := S2x16x512x128) (k0_off7 e.i) S1x1x384x128.size (k0_off7_inb e.i)).toLoadRect (c50 e o).b.f10)) (gg384 (e.arg11.view.readAt (Elt F) (Rect.unit (s := S2x16x512x128) (k0_off7 e.i) S1x1x384x128.size (k0_off7_inb e.i)).toLoadRect (c50 e o).b.f11)) (up384 (gg384 (e.arg10.view.readAt (Elt F) (Rect.unit (s := S2x16x512x128) (k0_off7 e.i) S1x1x384x128.size (k0_off7_inb e.i)).toLoadRect (c50 e o).b.f10)) (uf o) ((c50 e o).r.1))) (q1 o))⟩]
    ∧ (c52 e o).b.f9 = (c47 e o).b.f9
    ∧ (c52 e o).b.f10 = (c47 e o).b.f10
    ∧ (c52 e o).b.f11 = (c47 e o).b.f11
    ∧ True := by
  obtain ⟨-, h51_1, -, h51_3, h51_4, h51_5, h51_6, -, h51_f9, h51_f10, h51_f11, -⟩ := e51 e o
  obtain ⟨-, h50_1, h50_2, h50_3, h50_4, h50_5, -, h50_f9, h50_f10, h50_f11, -⟩ := e50 e o
  unfold c52
  simp only [h51_1, h51_3, h51_4, h51_5, h51_6, h50_1, h50_2, h50_3, h50_4, h50_5]
  unfold o52 part52
  dsimp only
  exact ⟨rfl, rfl, rfl, rfl, rfl, rfl, rfl, h51_f9, h51_f10, h51_f11, trivial⟩

theorem e53 (e : Env F) (o : First e) :
    (c53 e o).r.1 = dq256 ((c52 e o).r.1) (dz256 (io o) (gg256 (e.arg10.view.readAt (Elt F) (Rect.unit (s := S2x16x512x128) (k0_off4 e.i) S1x1x256x128.size (k0_off4_inb e.i)).toLoadRect (c51 e o).b.f10)) (gg256 (e.arg11.view.readAt (Elt F) (Rect.unit (s := S2x16x512x128) (k0_off4 e.i) S1x1x256x128.size (k0_off4_inb e.i)).toLoadRect (c52 e o).b.f11)) (up256 (gg256 (e.arg10.view.readAt (Elt F) (Rect.unit (s := S2x16x512x128) (k0_off4 e.i) S1x1x256x128.size (k0_off4_inb e.i)).toLoadRect (c51 e o).b.f10)) (uf o) ((c51 e o).r.2.2.1))) (kh (m0 o) (k2 e))
    ∧ (c53 e o).r.2.1 = (dk256 (broadcast S128x128 (Scalar.ofBits .f32 0x00000000#32) : FVec F S128x128 .f32) (dz256 (io o) (gg256 (e.arg10.view.readAt (Elt F) (Rect.unit (s := S2x16x512x128) (k0_off4 e.i) S1x1x256x128.size (k0_off4_inb e.i)).toLoadRect (c51 e o).b.f10)) (gg256 (e.arg11.view.readAt (Elt F) (Rect.unit (s := S2x16x512x128) (k0_off4 e.i) S1x1x256x128.size (k0_off4_inb e.i)).toLoadRect (c52 e o).b.f11)) (up256 (gg256 (e.arg10.view.readAt (Elt F) (Rect.unit (s := S2x16x512x128) (k0_off4 e.i) S1x1x256x128.size (k0_off4_inb e.i)).toLoadRect (c51 e o).b.f10)) (uf o) ((c51 e o).r.2.2.1))) (q0 o))
    ∧ (c53 e o).r.2.2.1 = ru256 ((c51 e o).r.2.2.1) (gg256 (e.arg10.view.readAt (Elt F) (Rect.unit (s := S2x16x512x128) (k0_off4 e.i) S1x1x256x128.size (k0_off4_inb e.i)).toLoadRect (c51 e o).b.f10))
    ∧ (c53 e o).r.2.2.2.1 = (gg256 (e.arg10.view.readAt (Elt F) (Rect.unit (s := S2x16x512x128) (k0_off5 e.i) S1x1x256x128.size (k0_off5_inb e.i)).toLoadRect (c52 e o).b.f10))
    ∧ (c53 e o).r.2.2.2.2.1 = (up256 (gg256 (e.arg10.view.readAt (Elt F) (Rect.unit (s := S2x16x512x128) (k0_off5 e.i) S1x1x256x128.size (k0_off5_inb e.i)).toLoadRect (c52 e o).b.f10)) (uf o) ((c52 e o).r.2.1))
    ∧ (c53 e o).r.2.2.2.2.2 = (e.arg11.view.readAt (Elt F) (Rect.unit (s := S2x16x512x128) (k0_off5 e.i) S1x1x256x128.size (k0_off5_inb e.i)).toLoadRect (c52 e o).b.f11)
    ∧ (c53 e o).b.f8 = (c52 e o).b.f8
    ∧ (c53 e o).b.f9 = (c47 e o).b.f9
    ∧ (c53 e o).b.f10 = (c47 e o).b.f10
    ∧ (c53 e o).b.f11 = (c47 e o).b.f11
    ∧ True := by
  obtain ⟨-, -, h52_2, h52_3, h52_4, h52_5, -, h52_f9, h52_f10, h52_f11, -⟩ := e52 e o
  unfold c53
  simp only [h52_2, h52_3, h52_4, h52_5]
  unfold o53 part53
  dsimp only
  exact ⟨rfl, rfl, rfl, rfl, rfl, rfl, rfl, h52_f9, h52_f10, h52_f11, trivial⟩

theorem e54 (e : Env F) (o : First e) :
    (c54 e o).r.1 = dq256 ((c53 e o).r.1) (dz256 (io o) (gg256 (e.arg10.view.readAt (Elt F) (Rect.unit (s := S2x16x512x128) (k0_off5 e.i) S1x1x256x128.size (k0_off5_inb e.i)).toLoadRect (c52 e o).b.f10)) (gg256 (e.arg11.view.readAt (Elt F) (Rect.unit (s := S2x16x512x128) (k0_off5 e.i) S1x1x256x128.size (k0_off5_inb e.i)).toLoadRect (c52 e o).b.f11)) (up256 (gg256 (e.arg10.view.readAt (Elt F) (Rect.unit (s := S2x16x512x128) (k0_off5 e.i) S1x1x256x128.size (k0_off5_inb e.i)).toLoadRect (c52 e o).b.f10)) (uf o) ((c52 e o).r.2.1))) (kh (m1 o) (k2 e))
    ∧ (c54 e o).r.2.1 = ru256 ((c52 e o).r.2.1) (gg256 (e.arg10.view.readAt (Elt F) (Rect.unit (s := S2x16x512x128) (k0_off5 e.i) S1x1x256x128.size (k0_off5_inb e.i)).toLoadRect (c52 e o).b.f10))
    ∧ (c54 e o).r.2.2.2.2.1 = k3 e
    ∧ (c54 e o).r.2.2.2.2.2 = (broadcast S128x128 (Scalar.ofBits .f32 0x00000000#32) : FVec F S128x128 .f32)
    ∧ (c54 e o).b.f8 = e.arg8.view.writes (Elt F) (c53 e o).b.f8 [⟨(Rect.unit (s := S2048x128) (k0_off1 e.i 2#32) S128x128.size (k0_off1_inb e.i 2)), addf (shapeCast S128x128 (e.arg8.view.readAt (Elt F) (Rect.unit (s := S2048x128) (k0_off1 e.i 2#32) S128x128.size (k0_off1_inb e.i 2)).toLoadRect (c53 e o).b.f8) shapeCasts_S128x128_S128x128) (dk256 (dk256 (broadcast S128x128 (Scalar.ofBits .f32 0x00000000#32) : FVec F S128x128 .f32) (dz256 (io o) (gg256 (e.arg10.view.readAt (Elt F) (Rect.unit (s := S2x16x512x128) (k0_off4 e.i) S1x1x256x128.size (k0_off4_inb e.i)).toLoadRect (c51 e o).b.f10)) (gg256 (e.arg11.view.readAt (Elt F) (Rect.unit (s := S2x16x512x128) (k0_off4 e.i) S1x1x256x128.size (k0_off4_inb e.i)).toLoadRect (c52 e o).b.f11)) (up256 (gg256 (e.arg10.view.readAt (Elt F) (Rect.unit (s := S2x16x512x128) (k0_off4 e.i) S1x1x256x128.size (k0_off4_inb e.i)).toLoadRect (c51 e o).b.f10)) (uf o) ((c51 e o).r.2.2.1))) (q0 o)) (dz256 (io o) (gg256 (e.arg10.view.readAt (Elt F) (Rect.unit (s := S2x16x512x128) (k0_off5 e.i) S1x1x256x128.size (k0_off5_inb e.i)).toLoadRect (c52 e o).b.f10)) (gg256 (e.arg11.view.readAt (Elt F) (Rect.unit (s := S2x16x512x128) (k0_off5 e.i) S1x1x256x128.size (k0_off5_inb e.i)).toLoadRect (c52 e o).b.f11)) (up256 (gg256 (e.arg10.view.readAt (Elt F) (Rect.unit (s := S2x16x512x128) (k0_off5 e.i) S1x1x256x128.size (k0_off5_inb e.i)).toLoadRect (c52 e o).b.f10)) (uf o) ((c52 e o).r.2.1))) (q1 o))⟩]
    ∧ (c54 e o).b.f9 = (c47 e o).b.f9
    ∧ (c54 e o).b.f10 = (c47 e o).b.f10
    ∧ (c54 e o).b.f11 = (c47 e o).b.f11
    ∧ True := by
  obtain ⟨-, h53_1, -, h53_3, h53_4, h53_5, -, h53_f9, h53_f10, h53_f11, -⟩ := e53 e o
  obtain ⟨-, -, h52_2, h52_3, h52_4, h52_5, -, h52_f9, h52_f10, h52_f11, -⟩ := e52 e o
  unfold c54
  simp only [h53_1, h53_3, h53_4, h53_5, h52_2, h52_3, h52_4, h52_5]
  unfold o54 part54
  dsimp only
  exact ⟨rfl, rfl, rfl, rfl, rfl, h53_f9, h53_f10, h53_f11, trivial⟩

theorem e55 (e : Env F) (o : First e) :
    (c55 e o).r.1 = dq128 ((c54 e o).r.1) (dz128 (io o) (gg128 (e.arg10.view.readAt (Elt F) (Rect.unit (s := S2x16x512x128) (k0_off2 e.i) S1x1x128x128.size (k0_off2_inb e.i)).toLoadRect (c54 e o).b.f10)) (gg128 (e.arg11.view.readAt (Elt F) (Rect.unit (s := S2x16x512x128) (k0_off2 e.i) S1x1x128x128.size (k0_off2_inb e.i)).toLoadRect (c54 e o).b.f11)) (up128 (gg128 (e.arg10.view.readAt (Elt F) (Rect.unit (s := S2x16x512x128) (k0_off2 e.i) S1x1x128x128.size (k0_off2_inb e.i)).toLoadRect (c54 e o).b.f10)) (uf o) ((c53 e o).r.2.2.1))) (kh (m0 o) (k3 e))
    ∧ (c55 e o).r.2.1 = (dk128 (broadcast S128x128 (Scalar.ofBits .f32 0x00000000#32) : FVec F S128x128 .f32) (dz128 (io o) (gg128 (e.arg10.view.readAt (Elt F) (Rect.unit (s := S2x16x512x128) (k0_off2 e.i) S1x1x128x128.size (k0_off2_inb e.i)).toLoadRect (c54 e o).b.f10)) (gg128 (e.arg11.view.readAt (Elt F) (Rect.unit (s := S2x16x512x128) (k0_off2 e.i) S1x1x128x128.size (k0_off2_inb e.i)).toLoadRect (c54 e o).b.f11)) (up128 (gg128 (e.arg10.view.readAt (Elt F) (Rect.unit (s := S2x16x512x128) (k0_off2 e.i) S1x1x128x128.size (k0_off2_inb e.i)).toLoadRect (c54 e o).b.f10)) (uf o) ((c53 e o).r.2.2.1))) (q0 o))
    ∧ (c55 e o).r.2.2.1 = (gg128 (e.arg10.view.readAt (Elt F) (Rect.unit (s := S2x16x512x128) (k0_off3 e.i) S1x1x128x128.size (k0_off3_inb e.i)).toLoadRect (c54 e o).b.f10))
    ∧ (c55 e o).r.2.2.2.1 = matmul dot_S128x128_S128x128_S128x128_1_0_0_1_n_n none (truncf .bf16 (gg128 (e.arg10.view.readAt (Elt F) (Rect.unit (s := S2x16x512x128) (k0_off3 e.i) S1x1x128x128.size (k0_off3_inb e.i)).toLoadRect (c54 e o).b.f10)) bitsLt_bf16_f32) (uf o) (constant S128x128 .f32 0x00000000#32)
    ∧ (c55 e o).r.2.2.2.2 = matmul dot_S128x128_S128x128_S128x128_1_0_0_1_n_n none (truncf .bf16 (subf (gg128 (e.arg10.view.readAt (Elt F) (Rect.unit (s := S2x16x512x128) (k0_off3 e.i) S1x1x128x128.size (k0_off3_inb e.i)).toLoadRect (c54 e o).b.f10)) (extf .f32 (truncf .bf16 (gg128 (e.arg10.view.readAt (Elt F) (Rect.unit (s := S2x16x512x128) (k0_off3 e.i) S1x1x128x128.size (k0_off3_inb e.i)).toLoadRect (c54 e o).b.f10)) bitsLt_bf16_f32) bitsLt_bf16_f32)) bitsLt_bf16_f32) (uf o) (constant S128x128 .f32 0x00000000#32)
    ∧ (c55 e o).b.f8 = (c54 e o).b.f8
    ∧ (c55 e o).b.f9 = (c47 e o).b.f9
    ∧ (c55 e o).b.f10 = (c47 e o).b.f10
    ∧ (c55 e o).b.f11 = (c47 e o).b.f11
    ∧ True := by
  obtain ⟨-, -, h54_2, h54_3, -, h54_f9, h54_f10, h54_f11, -⟩ := e54 e o
  unfold c55
  simp only [h54_2, h54_3]
  unfold o55 part55
  dsimp only
  exact ⟨rfl, rfl, rfl, rfl, rfl, rfl, h54_f9, h54_f10, h54_f11, trivial⟩

end Cert.KernelIdeal.Hand
end
-- ==== Proof.TailR.lean ====
/- What the body leaves in the queries' and the keys' gradients, as the functions of one block and one head, over any
   float values. -/
module
public import proofs.«01_k».proof.Proof.EqR
public import Idealize.ShloMosaic.Lib.VecWindow

@[expose] public section

set_option maxRecDepth 16384
set_option maxHeartbeats 4000000

noncomputable section

namespace Cert.KernelIdeal.Hand

open Cert.KernelIdeal Cert.KernelIdeal.Gen
open Idealize.ShloMosaic

variable {F : FTy → Type} [FloatOps F]

/-- The queries' gradient with all the keys done, and the keys' gradient with the last block stored. -/
def lastQ {e : Env F} (o : First e) : FVec F S512x128 .f32 := dq128 ((c55 e o).r.1) (dz128 (io o) (gg128 (e.arg10.view.readAt (Elt F) (Rect.unit (s := S2x16x512x128) (k0_off3 e.i) S1x1x128x128.size (k0_off3_inb e.i)).toLoadRect (c54 e o).b.f10)) (gg128 (e.arg11.view.readAt (Elt F) (Rect.unit (s := S2x16x512x128) (k0_off3 e.i) S1x1x128x128.size (k0_off3_inb e.i)).toLoadRect (c55 e o).b.f11)) (up128 (gg128 (e.arg10.view.readAt (Elt F) (Rect.unit (s := S2x16x512x128) (k0_off3 e.i) S1x1x128x128.size (k0_off3_inb e.i)).toLoadRect (c54 e o).b.f10)) (uf o) ((c54 e o).r.2.1))) (kh (m1 o) (k3 e))
def lastK {e : Env F} (o : First e) : BufTy.Contents (Elt F) e.arg8.view.ty := e.arg8.view.writes (Elt F) (c55 e o).b.f8 [⟨(Rect.unit (s := S2048x128) (k0_off1 e.i 3#32) S128x128.size (k0_off1_inb e.i 3)), addf (shapeCast S128x128 (e.arg8.view.readAt (Elt F) (Rect.unit (s := S2048x128) (k0_off1 e.i 3#32) S128x128.size (k0_off1_inb e.i 3)).toLoadRect (c55 e o).b.f8) shapeCasts_S128x128_S128x128) (dk128 (dk128 (broadcast S128x128 (Scalar.ofBits .f32 0x00000000#32) : FVec F S128x128 .f32) (dz128 (io o) (gg128 (e.arg10.view.readAt (Elt F) (Rect.unit (s := S2x16x512x128) (k0_off2 e.i) S1x1x128x128.size (k0_off2_inb e.i)).toLoadRect (c54 e o).b.f10)) (gg128 (e.arg11.view.readAt (Elt F) (Rect.unit (s := S2x16x512x128) (k0_off2 e.i) S1x1x128x128.size (k0_off2_inb e.i)).toLoadRect (c54 e o).b.f11)) (up128 (gg128 (e.arg10.view.readAt (Elt F) (Rect.unit (s := S2x16x512x128) (k0_off2 e.i) S1x1x128x128.size (k0_off2_inb e.i)).toLoadRect (c54 e o).b.f10)) (uf o) ((c53 e o).r.2.2.1))) (q0 o)) (dz128 (io o) (gg128 (e.arg10.view.readAt (Elt F) (Rect.unit (s := S2x16x512x128) (k0_off3 e.i) S1x1x128x128.size (k0_off3_inb e.i)).toLoadRect (c54 e o).b.f10)) (gg128 (e.arg11.view.readAt (Elt F) (Rect.unit (s := S2x16x512x128) (k0_off3 e.i) S1x1x128x128.size (k0_off3_inb e.i)).toLoadRect (c55 e o).b.f11)) (up128 (gg128 (e.arg10.view.readAt (Elt F) (Rect.unit (s := S2x16x512x128) (k0_off3 e.i) S1x1x128x128.size (k0_off3_inb e.i)).toLoadRect (c54 e o).b.f10)) (uf o) ((c54 e o).r.2.1))) (q1 o))⟩]

theorem bodyA_read (e : Env F) (hc : begins e.i) (b : Bufs e) :
    e.arg7.view.read (Elt F) (bodyA e hc b).1 = truncf .bf16 (mulf (lastQ (o35 e hc b)) (broadcast S512x128 (Scalar.ofBits .f32 0x3E000000#32))) bitsLt_bf16_f32
    ∧ (bodyA e hc b).2.1 = lastK (o35 e hc b) := by
  obtain ⟨-, h1, h2, h3, h4, -⟩ := e55 e (o35 e hc b)
  obtain ⟨-, -, h5, h6, -⟩ := e54 e (o35 e hc b)
  constructor
  · unfold bodyA
    dsimp only
    refine (View.read_writes_full _ _ _ _ _).trans ?_
    unfold bodyA.sl.r_1 lastQ
    simp only [h1, h2, h3, h4, h5, h6]
    rfl
  · unfold bodyA lastK
    dsimp only
    unfold bodyA.sl.r_2 bodyA.sl.r_3
    simp only [h1, h2, h3, h4, h5, h6]
    rfl

theorem bodyB_read (e : Env F) (hc : ¬ begins e.i) (b : Bufs e) :
    e.arg7.view.read (Elt F) (bodyB e hc b).1 = truncf .bf16 (mulf (lastQ (o35b e hc b)) (broadcast S512x128 (Scalar.ofBits .f32 0x3E000000#32))) bitsLt_bf16_f32
    ∧ (bodyB e hc b).2.1 = lastK (o35b e hc b) := by
  obtain ⟨-, h1, h2, h3, h4, -⟩ := e55 e (o35b e hc b)
  obtain ⟨-, -, h5, h6, -⟩ := e54 e (o35b e hc b)
  constructor
  · unfold bodyB
    dsimp only
    refine (View.read_writes_full _ _ _ _ _).trans ?_
    unfold bodyB.sl.r_1 lastQ
    simp only [h1, h2, h3, h4, h5, h6]
    rfl
  · unfold bodyB lastK
    dsimp only
    unfold bodyB.sl.r_2 bodyB.sl.r_3
    simp only [h1, h2, h3, h4, h5, h6]
    rfl

end Cert.KernelIdeal.Hand
end
-- ==== Proof.SpecL.lean ====
/- The real functions the left sweep computes at a row block: scores, the negative softplus, its sums over the later
   keys, the weights, their gradient, and lemmas on sums of reals inside the extended reals. -/
module
public import proofs.«01_k».proof.Proof.Gen.KernelIdeal
public import Idealize.ShloMosaic.Lib.Pointwise

@[expose] public section

noncomputable section

namespace Cert.KernelIdeal.Hand

open Cert.KernelIdeal Cert.KernelIdeal.Gen
open Idealize.ShloMosaic

/-- An array of two axes holds these real numbers. -/
def Is2 {a b : ℕ} {φ : FTy} (x : FVec Ideal ⟨2, ![a, b]⟩ φ) (f : ℕ → ℕ → ℝ) : Prop :=
  ∀ (p : Fin a) (l : Fin b), x (ix2 p l) = ((f p l : ℝ) : EReal)

/-- A block of one head and one key block of a scratch array holds these. -/
def Is4 {a b : ℕ} {φ : FTy} (x : FVec Ideal ⟨4, ![1, 1, a, b]⟩ φ) (f : ℕ → ℕ → ℝ) : Prop :=
  ∀ (p : Fin a) (l : Fin b), x (ix4 0 0 p l) = ((f p l : ℝ) : EReal)

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

theorem sum_mul_coe {n : ℕ} (f g : Fin n → ℝ) :
    ∑ x, ((f x : ℝ) : EReal) * ((g x : ℝ) : EReal) = ((∑ x, f x * g x : ℝ) : EReal) := by
  rw [← coe_sum]; exact Finset.sum_congr rfl fun x _ => (EReal.coe_mul _ _).symm

theorem coe_sub_self (a : ℝ) : ((a : ℝ) : EReal) - ((a : ℝ) : EReal) = ((0 : ℝ) : EReal) := by
  rw [← EReal.coe_sub, sub_self]

/-- Minus the softplus. -/
def lmR (z : ℝ) : ℝ := 0 - (max z 0 + Real.log (1 + Real.exp (0 - |z|)))

theorem coe_max (a b : ℝ) : ((max a b : ℝ) : EReal) = max (a : EReal) (b : EReal) := EReal.coe_strictMono.monotone.map_max

theorem lm_coe (z : ℝ) :
    (0 : EReal) - (max (z : EReal) 0 + Ideal.log (1 + Ideal.exp (0 - FloatOps.absf (F := Ideal) (φ := .f32) (z : EReal)))) = ((lmR z : ℝ) : EReal) := by
  have habs : FloatOps.absf (F := Ideal) (φ := .f32) (z : EReal) = ((|z| : ℝ) : EReal) := by
    show max (z : EReal) (-(z : EReal)) = _
    rw [← EReal.coe_neg, ← coe_max]; rfl
  have hlog : Ideal.log (((1 + Real.exp (0 - |z|) : ℝ)) : EReal) = ((Real.log (1 + Real.exp (0 - |z|)) : ℝ) : EReal) := by
    show (if (1 + Real.exp (0 - |z|)) ≤ 0 then _ else _) = _
    exact if_neg (by have := Real.exp_pos (0 - |z|); linarith)
  rw [habs]
  have h0 : ((0 : ℝ) : EReal) = 0 := rfl
  have h1 : ((1 : ℝ) : EReal) = 1 := rfl
  rw [← h0, ← h1, ← EReal.coe_sub]
  show ((0 : ℝ) : EReal) - (max (z : EReal) ((0 : ℝ) : EReal) + Ideal.log (((1 : ℝ) : EReal) + ((Real.exp (0 - |z|) : ℝ) : EReal))) = _
  rw [← EReal.coe_add, hlog, ← coe_max, ← EReal.coe_add, ← EReal.coe_sub]
  rfl

theorem exp_coe (z : ℝ) : Ideal.exp ((z : ℝ) : EReal) = ((Real.exp z : ℝ) : EReal) := rfl

section Row

variable (Q K V D : ℕ → ℕ → ℝ) (t0 : ℕ)

def Zs (p s : ℕ) : ℝ := ∑ l : Fin 128, Q p l * K s l
def Ls (p s : ℕ) : ℝ := if s < t0 + p then lmR (Zs Q K p s) else 0
def Ts (p s : ℕ) : ℝ := ∑ s' ∈ Finset.Ico s (t0 + 512), Ls Q K t0 p s'
def As (p s : ℕ) : ℝ := if s < t0 + p then Real.exp (Zs Q K p s + Ts Q K t0 p s) else 0
def Gs (p s : ℕ) : ℝ := As Q K t0 p s * ∑ l : Fin 128, D p l * V s l
def Ws (p s : ℕ) : ℝ := 1 - Real.exp (Ls Q K t0 p s)

theorem Ts_split (p b c : ℕ) (hc : c ≤ 128) (hb : b + 128 ≤ t0 + 512) :
    Ts Q K t0 p (b + c) = (∑ s ∈ Finset.Ico (b + c) (b + 128), Ls Q K t0 p s) + Ts Q K t0 p (b + 128) := by
  unfold Ts; exact (Finset.sum_Ico_consecutive _ (by omega) hb).symm

theorem Ts_split0 (p b : ℕ) (hb : b + 128 ≤ t0 + 512) :
    Ts Q K t0 p b = (∑ s ∈ Finset.Ico b (b + 128), Ls Q K t0 p s) + Ts Q K t0 p (b + 128) := by
  have := Ts_split Q K t0 p b 0 (by omega) hb; simpa using this

/-- Rows before the block's first position take nothing from it. -/
theorem Ts_skip (p b : ℕ) (hb : b + 128 ≤ t0 + 512) (hp : t0 + p ≤ b) : Ts Q K t0 p b = Ts Q K t0 p (b + 128) := by
  rw [Ts_split0 Q K t0 p b hb, Finset.sum_eq_zero, zero_add]
  intro s hs
  rw [Finset.mem_Ico] at hs
  exact if_neg (by omega)

theorem sum_tail (f : ℕ → ℝ) (b c : ℕ) (hc : c < 128) :
    ∑ x : Fin 128, f (b + x) * (if c ≤ (x : ℕ) then 1 else 0) = ∑ s ∈ Finset.Ico (b + c) (b + 128), f s := by
  rw [Finset.sum_Ico_eq_sum_range, show b + 128 - (b + c) = 128 - c by omega]
  rw [Fin.sum_univ_eq_sum_range (fun x => f (b + x) * (if c ≤ x then 1 else 0)) 128]
  rw [← Finset.sum_range_add_sum_Ico _ hc.le, Finset.sum_eq_zero, zero_add, Finset.sum_Ico_eq_sum_range]
  · refine Finset.sum_congr rfl fun x _ => ?_
    rw [if_pos (by omega), mul_one, add_assoc]
  · intro x hx
    rw [Finset.mem_range] at hx
    rw [if_neg (by omega), mul_zero]

/-- A sum over the last rows is the sum over all, the others being zero. -/
theorem sum_rows (f : ℕ → ℝ) (n r0 : ℕ) (h : r0 + n = 512) (h0 : ∀ p < r0, f p = 0) :
    ∑ x : Fin n, f (r0 + x) = ∑ p ∈ Finset.range 512, f p := by
  rw [← h, Finset.sum_range_add, Finset.sum_eq_zero (fun p hp => h0 p (Finset.mem_range.mp hp)), zero_add,
    Fin.sum_univ_eq_sum_range (fun x => f (r0 + x)) n]

end Row

end Cert.KernelIdeal.Hand
end
-- ==== Proof.Mask.lean ====
/- The mask of a block on the diagonal, read off the difference of the two positions. -/
module
public import proofs.«01_k».proof.Proof.Gen.KernelIdeal
public import Idealize.ShloMosaic.Lib.Pointwise

@[expose] public section

noncomputable section

namespace Cert.KernelIdeal.Hand

open Cert.KernelIdeal Cert.KernelIdeal.Gen
open Idealize.ShloMosaic

/-- The mask of a block: a key's column is below the row's position. -/
theorem mask_select (p : Fin 512) (c : Fin 128) (x y : EReal) :
    Scalar.select (IntOp.cmpi CmpIPredicate.slt (BitVec.ofNat 32 c.val - BitVec.ofNat 32 p.val) 0#32) x y = if c.val < p.val then x else y := by
  have h : ∀ (p : Fin 512) (c : Fin 128), IntOp.cmpi CmpIPredicate.slt (BitVec.ofNat 32 c.val - BitVec.ofNat 32 p.val) 0#32 = if c.val < p.val then 1#1 else 0#1 := by decide +kernel
  rw [h]
  by_cases hc : c.val < p.val
  · rw [if_pos hc, if_pos hc]; rfl
  · rw [if_neg hc, if_neg hc]; rfl

end Cert.KernelIdeal.Hand
end
-- ==== Proof.EqT.lean ====
/- What one trip of the left sweep's loop carries and writes, as the functions of one block and one head, over any
   float values: four blocks of keys, from the later to the earlier. -/
module
public import proofs.«01_k».proof.Proof.Loops
public import proofs.«01_k».proof.Proof.Blocks

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The running sum after a block left of the diagonal. -/
def runT (u : FVec F S128x128 .bf16) (q : FVec F S512x128 .bf16) (run : FVec F S512x1 .f32) (k : FVec F S128x128 .bf16) : FVec F S512x1 .f32 :=
  run512 run (cs512 (lmU (z512 q k)) u)
/-- The weights of such a block. -/
def aT (u : FVec F S128x128 .bf16) (q : FVec F S512x128 .bf16) (run : FVec F S512x1 .f32) (k : FVec F S128x128 .bf16) : FVec F S512x128 .f32 :=
  aU (z512 q k) (cs512 (lmU (z512 q k)) u) run
/-- What the two heads add to the values' gradient at such a block. -/
def dvT (u : FVec F S128x128 .bf16) (q0 q1 d0 d1 : FVec F S512x128 .bf16) (run0 run1 : FVec F S512x1 .f32) (k : FVec F S128x128 .bf16) : FVec F S128x128 .f32 :=
  dv512 (dv512 (broadcast S128x128 (Scalar.ofBits .f32 0x00000000#32)) (aT u q0 run0 k) d0) (aT u q1 run1 k) d1
/-- What such a block keeps for the right sweep. -/
def gT (u : FVec F S128x128 .bf16) (q d : FVec F S512x128 .bf16) (run : FVec F S512x1 .f32) (k v : FVec F S128x128 .bf16) : FVec F S1x1x512x128 .f32 :=
  g512 (aT u q run k) d v
def wT (q : FVec F S512x128 .bf16) (k : FVec F S128x128 .bf16) : FVec F S1x1x512x128 .f32 := w512 (lmU (z512 q k))

theorem tripL_runs (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (k : Fin (k0_t1_loop i).trips) (acc : Runs F) :
    (tripL (F := F) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).1 acc = ((runT v35 v21 (runT v35 v21 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (truncf .bf16 (arg4.view.readAt (Elt F) (Rect.unit (s := S2048x128) (k0_off10 i k 3#32) S128x128.size (k0_off10_inb i k 3)).toLoadRect K) bitsLt_bf16_f32)), (runT v35 v26 (runT v35 v26 (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (truncf .bf16 (arg4.view.readAt (Elt F) (Rect.unit (s := S2048x128) (k0_off10 i k 3#32) S128x128.size (k0_off10_inb i k 3)).toLoadRect K) bitsLt_bf16_f32))) := by
  unfold tripL
  rfl

theorem tripL_p9 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (k : Fin (k0_t1_loop i).trips) (acc : Runs F) (f9 : BufTy.Contents (Elt F) arg9.view.ty) :
    (tripL (F := F) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.2.1 acc f9 = [⟨(Rect.unit (s := S2048x128) (k0_off10 i k 3#32) S128x128.size (k0_off10_inb i k 3)), addf (shapeCast S128x128 (arg9.view.readAt (Elt F) (Rect.unit (s := S2048x128) (k0_off10 i k 3#32) S128x128.size (k0_off10_inb i k 3)).toLoadRect (arg9.view.writes (Elt F) f9 [⟨(Rect.unit (s := S2048x128) (k0_off10 i k 2#32) S128x128.size (k0_off10_inb i k 2)), addf (shapeCast S128x128 (arg9.view.readAt (Elt F) (Rect.unit (s := S2048x128) (k0_off10 i k 2#32) S128x128.size (k0_off10_inb i k 2)).toLoadRect (arg9.view.writes (Elt F) f9 [⟨(Rect.unit (s := S2048x128) (k0_off10 i k 1#32) S128x128.size (k0_off10_inb i k 1)), addf (shapeCast S128x128 (arg9.view.readAt (Elt F) (Rect.unit (s := S2048x128) (k0_off10 i k 1#32) S128x128.size (k0_off10_inb i k 1)).toLoadRect (arg9.view.writes (Elt F) f9 [⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 acc.1 (truncf .bf16 (arg4.view.readAt (Elt F) (Rect.unit (s := S2048x128) (k0_off10 i k 0#32) S128x128.size (k0_off10_inb i k 0)).toLoadRect K) bitsLt_bf16_f32)) (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32))⟩, ⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32))⟩, ⟨(Rect.unit (s := S2048x128) (k0_off10 i k 1#32) S128x128.size (k0_off10_inb i k 1)), addf (shapeCast S128x128 (arg9.view.readAt (Elt F) (Rect.unit (s := S2048x128) (k0_off10 i k 1#32) S128x128.size (k0_off10_inb i k 1)).toLoadRect (arg9.view.writes (Elt F) f9 [⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 acc.1 (truncf .bf16 (arg4.view.readAt (Elt F) (Rect.unit (s := S2048x128) (k0_off10 i k 0#32) S128x128.size (k0_off10_inb i k 0)).toLoadRect K) bitsLt_bf16_f32)) (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32))⟩, ⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (runT v35 v26 (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (truncf .bf16 (arg4.view.readAt (Elt F) (Rect.unit (s := S2048x128) (k0_off10 i k 3#32) S128x128.size (k0_off10_inb i k 3)).toLoadRect K) bitsLt_bf16_f32))⟩, ⟨(Rect.unit (s := S2048x128) (k0_off10 i k 2#32) S128x128.size (k0_off10_inb i k 2)), addf (shapeCast S128x128 (arg9.view.readAt (Elt F) (Rect.unit (s := S2048x128) (k0_off10 i k 2#32) S128x128.size (k0_off10_inb i k 2)).toLoadRect (arg9.view.writes (Elt F) f9 [⟨(Rect.unit (s := S2048x128) (k0_off10 i k 1#32) S128x128.size (k0_off10_inb i k 1)), addf (shapeCast S128x128 (arg9.view.readAt (Elt F) (Rect.unit (s := S2048x128) (k0_off10 i k 1#32) S128x128.size (k0_off10_inb i k 1)).toLoadRect (arg9.view.writes (Elt F) f9 [⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 acc.1 (truncf .bf16 (arg4.view.readAt (Elt F) (Rect.unit (s := S2048x128) (k0_off10 i k 0#32) S128x128.size (k0_off10_inb i k 0)).toLoadRect K) bitsLt_bf16_f32)) (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32))⟩, ⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32))⟩, ⟨(Rect.unit (s := S2048x128) (k0_off10 i k 1#32) S128x128.size (k0_off10_inb i k 1)), addf (shapeCast S128x128 (arg9.view.readAt (Elt F) (Rect.unit (s := S2048x128) (k0_off10 i k 1#32) S128x128.size (k0_off10_inb i k 1)).toLoadRect (arg9.view.writes (Elt F) f9 [⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩])) shapeCasts_S128x128_S128x128) (dvT v35 v21 v26 v45 v50 (runT v35 v21 acc.1 (truncf .bf16 (arg4.view.readAt (Elt F) (Rect.unit (s := S2048x128) (k0_off10 i k 0#32) S128x128.size (k0_off10_inb i k 0)).toLoadRect K) bitsLt_bf16_f32)) (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32))⟩, ⟨(Rect.unit (s := S2048x128) (k0_off10 i k 0#32) S128x128.size (k0_off10_inb i k 0)), addf (shapeCast S128x128 (arg9.view.readAt (Elt F) (Rect.unit (s := S2048x128) (k0_off10 i k 0#32) S128x128.size (k0_off10_inb i k 0)).toLoadRect f9) shapeCasts_S128x128_S128x128) (dvT v35 v21 v26 v45 v50 acc.1 acc.2 (truncf .bf16 (arg4.view.readAt (Elt F) (Rect.unit (s := S2048x128) (k0_off10 i k 0#32) S128x128.size (k0_off10_inb i k 0)).toLoadRect K) bitsLt_bf16_f32))⟩] := by
  unfold tripL
  rfl

theorem tripL_p10 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (k : Fin (k0_t1_loop i).trips) (acc : Runs F) :
    (tripL (F := F) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.1 acc = [⟨(Rect.unit (s := S2x16x512x128) (k0_off12 i k 3#32) S1x1x512x128.size (k0_off12_inb i k 3)), gT v35 v26 v50 (runT v35 v26 (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (truncf .bf16 (arg4.view.readAt (Elt F) (Rect.unit (s := S2048x128) (k0_off10 i k 3#32) S128x128.size (k0_off10_inb i k 3)).toLoadRect K) bitsLt_bf16_f32) (truncf .bf16 (arg5.view.readAt (Elt F) (Rect.unit (s := S2048x128) (k0_off10 i k 3#32) S128x128.size (k0_off10_inb i k 3)).toLoadRect W) bitsLt_bf16_f32)⟩, ⟨(Rect.unit (s := S2x16x512x128) (k0_off11 i k 3#32) S1x1x512x128.size (k0_off11_inb i k 3)), gT v35 v21 v45 (runT v35 v21 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32)) (truncf .bf16 (arg4.view.readAt (Elt F) (Rect.unit (s := S2048x128) (k0_off10 i k 3#32) S128x128.size (k0_off10_inb i k 3)).toLoadRect K) bitsLt_bf16_f32) (truncf .bf16 (arg5.view.readAt (Elt F) (Rect.unit (s := S2048x128) (k0_off10 i k 3#32) S128x128.size (k0_off10_inb i k 3)).toLoadRect W) bitsLt_bf16_f32)⟩, ⟨(Rect.unit (s := S2x16x512x128) (k0_off12 i k 2#32) S1x1x512x128.size (k0_off12_inb i k 2)), gT v35 v26 v50 (runT v35 v26 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32) (truncf .bf16 (arg5.view.readAt (Elt F) (Rect.unit (s := S2048x128) (k0_off10 i k 2#32) S128x128.size (k0_off10_inb i k 2)).toLoadRect W) bitsLt_bf16_f32)⟩, ⟨(Rect.unit (s := S2x16x512x128) (k0_off11 i k 2#32) S1x1x512x128.size (k0_off11_inb i k 2)), gT v35 v21 v45 (runT v35 v21 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32)) (truncf .bf16 (arg4.view.readAt (Elt F) (Rect.unit (s := S2048x128) (k0_off10 i k 2#32) S128x128.size (k0_off10_inb i k 2)).toLoadRect K) bitsLt_bf16_f32) (truncf .bf16 (arg5.view.readAt (Elt F) (Rect.unit (s := S2048x128) (k0_off10 i k 2#32) S128x128.size (k0_off10_inb i k 2)).toLoadRect W) bitsLt_bf16_f32)⟩, ⟨(Rect.unit (s := S2x16x512x128) (k0_off12 i k 1#32) S1x1x512x128.size (k0_off12_inb i k 1)), gT v35 v26 v50 (runT v35 v26 acc.2 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32) (truncf .bf16 (arg5.view.readAt (Elt F) (Rect.unit (s := S2048x128) (k0_off10 i k 1#32) S128x128.size (k0_off10_inb i k 1)).toLoadRect W) bitsLt_bf16_f32)⟩, ⟨(Rect.unit (s := S2x16x512x128) (k0_off11 i k 1#32) S1x1x512x128.size (k0_off11_inb i k 1)), gT v35 v21 v45 (runT v35 v21 acc.1 (truncf .bf16 (arg4.view.readAt (Elt F) (Rect.unit (s := S2048x128) (k0_off10 i k 0#32) S128x128.size (k0_off10_inb i k 0)).toLoadRect K) bitsLt_bf16_f32)) (truncf .bf16 (arg4.view.readAt (Elt F) (Rect.unit (s := S2048x128) (k0_off10 i k 1#32) S128x128.size (k0_off10_inb i k 1)).toLoadRect K) bitsLt_bf16_f32) (truncf .bf16 (arg5.view.readAt (Elt F) (Rect.unit (s := S2048x128) (k0_off10 i k 1#32) S128x128.size (k0_off10_inb i k 1)).toLoadRect W) bitsLt_bf16_f32)⟩, ⟨(Rect.unit (s := S2x16x512x128) (k0_off12 i k 0#32) S1x1x512x128.size (k0_off12_inb i k 0)), gT v35 v26 v50 acc.2 (truncf .bf16 (arg4.view.readAt (Elt F) (Rect.unit (s := S2048x128) (k0_off10 i k 0#32) S128x128.size (k0_off10_inb i k 0)).toLoadRect K) bitsLt_bf16_f32) (truncf .bf16 (arg5.view.readAt (Elt F) (Rect.unit (s := S2048x128) (k0_off10 i k 0#32) S128x128.size (k0_off10_inb i k 0)).toLoadRect W) bitsLt_bf16_f32)⟩, ⟨(Rect.unit (s := S2x16x512x128) (k0_off11 i k 0#32) S1x1x512x128.size (k0_off11_inb i k 0)), gT v35 v21 v45 acc.1 (truncf .bf16 (arg4.view.readAt (Elt F) (Rect.unit (s := S2048x128) (k0_off10 i k 0#32) S128x128.size (k0_off10_inb i k 0)).toLoadRect K) bitsLt_bf16_f32) (truncf .bf16 (arg5.view.readAt (Elt F) (Rect.unit (s := S2048x128) (k0_off10 i k 0#32) S128x128.size (k0_off10_inb i k 0)).toLoadRect W) bitsLt_bf16_f32)⟩] := by
  unfold tripL
  rfl

theorem tripL_p11 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec F S512x128 .bf16) (v26 : FVec F S512x128 .bf16) (v35 : FVec F S128x128 .bf16) (v45 : FVec F S512x128 .bf16) (v50 : FVec F S512x128 .bf16) (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32) (K : BufTy.Contents (Elt F) arg4.view.ty) (W : BufTy.Contents (Elt F) arg5.view.ty) (k : Fin (k0_t1_loop i).trips) (acc : Runs F) :
    (tripL (F := F) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.1 acc = [⟨(Rect.unit (s := S2x16x512x128) (k0_off12 i k 3#32) S1x1x512x128.size (k0_off12_inb i k 3)), wT v26 (truncf .bf16 (arg4.view.readAt (Elt F) (Rect.unit (s := S2048x128) (k0_off10 i k 3#32) S128x128.size (k0_off10_inb i k 3)).toLoadRect K) bitsLt_bf16_f32)⟩, ⟨(Rect.unit (s := S2x16x512x128) (k0_off11 i k 3#32) S1x1x512x128.size (k0_off11_inb i k 3)), wT v21 (truncf .bf16 (arg4.view.readAt (Elt F) (Rect.unit (s := S2048x128) (k0_off10 i k 3#32) S128x128.size (k0_off10_inb i k 3)).toLoadRect K) bitsLt_bf16_f32)⟩, ⟨(Rect.unit (s := S2x16x512x128) (k0_off12 i k 2#32) S1x1x512x128.size (k0_off12_inb i k 2)), wT v26 (truncf .bf16 (arg4.view.readAt (Elt F) (Rect.unit (s := S2048x128) (k0_off10 i k 2#32) S128x128.size (k0_off10_inb i k 2)).toLoadRect K) bitsLt_bf16_f32)⟩, ⟨(Rect.unit (s := S2x16x512x128) (k0_off11 i k 2#32) S1x1x512x128.size (k0_off11_inb i k 2)), wT v21 (truncf .bf16 (arg4.view.readAt (Elt F) (Rect.unit (s := S2048x128) (k0_off10 i k 2#32) S128x128.size (k0_off10_inb i k 2)).toLoadRect K) bitsLt_bf16_f32)⟩, ⟨(Rect.unit (s := S2x16x512x128) (k0_off12 i k 1#32) S1x1x512x128.size (k0_off12_inb i k 1)), wT v26 (truncf .bf16 (arg4.view.readAt (Elt F) (Rect.unit (s := S2048x128) (k0_off10 i k 1#32) S128x128.size (k0_off10_inb i k 1)).toLoadRect K) bitsLt_bf16_f32)⟩, ⟨(Rect.unit (s := S2x16x512x128) (k0_off11 i k 1#32) S1x1x512x128.size (k0_off11_inb i k 1)), wT v21 (truncf .bf16 (arg4.view.readAt (Elt F) (Rect.unit (s := S2048x128) (k0_off10 i k 1#32) S128x128.size (k0_off10_inb i k 1)).toLoadRect K) bitsLt_bf16_f32)⟩, ⟨(Rect.unit (s := S2x16x512x128) (k0_off12 i k 0#32) S1x1x512x128.size (k0_off12_inb i k 0)), wT v26 (truncf .bf16 (arg4.view.readAt (Elt F) (Rect.unit (s := S2048x128) (k0_off10 i k 0#32) S128x128.size (k0_off10_inb i k 0)).toLoadRect K) bitsLt_bf16_f32)⟩, ⟨(Rect.unit (s := S2x16x512x128) (k0_off11 i k 0#32) S1x1x512x128.size (k0_off11_inb i k 0)), wT v21 (truncf .bf16 (arg4.view.readAt (Elt F) (Rect.unit (s := S2048x128) (k0_off10 i k 0#32) S128x128.size (k0_off10_inb i k 0)).toLoadRect K) bitsLt_bf16_f32)⟩] := by
  unfold tripL
  rfl

end Cert.KernelIdeal.Hand
end
-- ==== Proof.IdealL.lean ====
/- The functions of one block and one head of the left sweep at ideal values: real numbers in, the real functions of the
   specification out. -/
module
public import proofs.«01_k».proof.Proof.SpecL
public import proofs.«01_k».proof.Proof.Mask
public import proofs.«01_k».proof.Proof.EqT
public import Idealize.ShloMosaic.Lib.Pointwise

@[expose] public section

set_option maxRecDepth 16384
set_option maxHeartbeats 1000000

noncomputable section

namespace Cert.KernelIdeal.Hand

open Cert.KernelIdeal Cert.KernelIdeal.Gen
open Idealize.ShloMosaic

/-- The matrix of the sums over later keys. -/
def IsTail (u : FVec Ideal S128x128 .bf16) : Prop := Is2 u (fun r c => if c ≤ r then 1 else 0)
/-- The difference of the positions. -/
def IsPos (v31 : IVec S512x128 32) : Prop := ∀ (p : Fin 512) (c : Fin 128), v31 (ix2 p c) = BitVec.ofNat 32 c.val - BitVec.ofNat 32 p.val

variable {Q K V D : ℕ → ℕ → ℝ} {t0 b : ℕ} {v31 : IVec S512x128 32} {q d : FVec Ideal S512x128 .bf16} {k v u : FVec Ideal S128x128 .bf16}

theorem z128_is (hq : Is2 q Q) (hk : Is2 k (fun c l => K (b + c) l)) : Is2 (z128 q k) (fun p c => Zs Q K (384 + p) (b + c)) := by
  intro p c
  pointwise [z128]
  simp only [hq _ _, hk _ _]
  exact sum_mul_coe (fun l => Q (384 + p.val) l) (fun l => K (b + c) l)

theorem lm128_is (hq : Is2 q Q) (hk : Is2 k (fun c l => K (b + c) l)) (hv : IsPos v31) (hb : b = t0 + 384) : Is2 (lm128 v31 (z128 q k)) (fun p c => Ls Q K t0 (384 + p) (b + c)) := by
  intro p c
  have hz := z128_is hq hk p c
  pointwise [lm128, mk128]
  rw [hz, lm_coe]
  rw [hv ⟨p.val, by omega⟩ c, mask_select ⟨p.val, by omega⟩ c]
  unfold Ls
  by_cases h : c.val < p.val
  · rw [if_pos h, if_pos (by omega)]
  · rw [if_neg h, if_neg (by omega)]; rfl

theorem cs128_is {f : ℕ → ℕ → ℝ} {x : FVec Ideal S128x128 .f32} (hx : Is2 x (fun p c => f (384 + p) (b + c))) (hu : IsTail u) :
    Is2 (cs128 x u) (fun p c => ∑ s ∈ Finset.Ico (b + c) (b + 128), f (384 + p) s) := by
  intro p c
  pointwise [cs128]
  simp only [hx _ _, hu _ _, coe_sub_self, sum_mul_coe, zero_mul, Finset.sum_const_zero]
  rw [← EReal.coe_add, add_zero]
  rw [← sum_tail (f (384 + p.val)) b c c.isLt]

theorem a128_is (hq : Is2 q Q) (hk : Is2 k (fun c l => K (b + c) l)) (hu : IsTail u) (hv : IsPos v31) (hb : b = t0 + 384) {run : FVec Ideal S512x1 .f32}
    (hr : Is2 run (fun p _ => Ts Q K t0 p (b + 128))) : Is2 (a128 v31 (z128 q k) (cs128 (lm128 v31 (z128 q k)) u) run) (fun p c => As Q K t0 (384 + p) (b + c)) := by
  intro p c
  have hz := z128_is hq hk p c
  have hc := cs128_is (f := Ls Q K t0) (lm128_is hq hk hv hb) hu p c
  have hrun := hr ⟨384 + p.val, by omega⟩ 0
  have hT := Ts_split Q K t0 (384 + p.val) b c (by omega) (by omega)
  pointwise [a128, mk128]
  rw [hz, hc, hrun, ← EReal.coe_add, ← EReal.coe_add, exp_coe]
  rw [hv ⟨p.val, by omega⟩ c, mask_select ⟨p.val, by omega⟩ c]
  unfold As
  by_cases h : c.val < p.val
  · rw [if_pos h, if_pos (by omega), hT, ← add_assoc]
  · rw [if_neg h, if_neg (by omega)]; rfl

theorem dv128_is {a : FVec Ideal S128x128 .f32} {f X : ℕ → ℕ → ℝ} (ha : Is2 a (fun p c => f (384 + p) (b + c))) (hd : Is2 d D) {acc : FVec Ideal S128x128 .f32} (hacc : Is2 acc X)
    (h0 : ∀ p < 384, ∀ c < 128, f p (b + c) = 0) :
    Is2 (dv128 acc a d) (fun c l => X c l + ∑ p ∈ Finset.range 512, f p (b + c) * D p l) := by
  intro c l
  pointwise [dv128]
  simp only [ha _ _, hd _ _, hacc _ _, sum_mul_coe]
  rw [← EReal.coe_add]
  rw [← sum_rows (fun p => f p (b + c) * D p l) 128 384 (by omega) (fun p hp => by rw [h0 p hp c c.isLt, zero_mul])]

theorem g128_is {a : FVec Ideal S128x128 .f32} {f : ℕ → ℕ → ℝ} (ha : Is2 a (fun p c => f (384 + p) (b + c))) (hd : Is2 d D) (hv : Is2 v (fun c l => V (b + c) l)) :
    Is4 (g128 a d v) (fun p c => f (384 + p) (b + c) * ∑ l : Fin 128, D (384 + p) l * V (b + c) l) := by
  intro p c
  pointwise [g128]
  simp only [ha _ _, hd _ _, hv _ _, sum_mul_coe]
  rw [← EReal.coe_mul]

theorem w128_is {x : FVec Ideal S128x128 .f32} {f : ℕ → ℕ → ℝ} (hx : Is2 x (fun p c => f (384 + p) (b + c))) :
    Is4 (w128 x) (fun p c => 1 - Real.exp (f (384 + p) (b + c))) := by
  intro p c
  pointwise [w128]
  simp only [hx _ _, exp_coe]
  rw [EReal.coe_sub]; rfl

theorem run128_is (hq : Is2 q Q) (hk : Is2 k (fun c l => K (b + c) l)) (hu : IsTail u) (hv : IsPos v31) (hb : b = t0 + 384) {run : FVec Ideal S512x1 .f32}
    (hr : Is2 run (fun p _ => Ts Q K t0 p (b + 128))) : Is2 (run128 run (cs128 (lm128 v31 (z128 q k)) u)) (fun p _ => Ts Q K t0 p b) := by
  intro p l
  have e1 := Ts_skip Q K t0 p.val b (by omega)
  have e2 := Ts_split0 Q K t0 p.val b (by omega)
  by_cases h : p.val < 384
  · show _ = ((Ts Q K t0 p.val b : ℝ) : EReal)
    have hrp := hr p 0
    rw [e1 (by omega)]
    pointwise [run128]
    rw [dif_pos h]
    exact hrp
  · have hc := cs128_is (f := Ls Q K t0) (lm128_is hq hk hv hb) hu ⟨p.val - 384, by omega⟩ 0
    have hrp := hr p 0
    have hp : 384 + (p.val - 384) = p.val := by omega
    pointwise [run128]
    rw [dif_neg h]
    simp only [hp, Fin.eta] at hc ⊢
    rw [hrp, hc, ← EReal.coe_add, e2, add_comm]
    rfl

theorem z256_is (hq : Is2 q Q) (hk : Is2 k (fun c l => K (b + c) l)) : Is2 (z256 q k) (fun p c => Zs Q K (256 + p) (b + c)) := by
  intro p c
  pointwise [z256]
  simp only [hq _ _, hk _ _]
  exact sum_mul_coe (fun l => Q (256 + p.val) l) (fun l => K (b + c) l)

theorem lm256_is (hq : Is2 q Q) (hk : Is2 k (fun c l => K (b + c) l)) (hv : IsPos v31) (hb : b = t0 + 256) : Is2 (lm256 v31 (z256 q k)) (fun p c => Ls Q K t0 (256 + p) (b + c)) := by
  intro p c
  have hz := z256_is hq hk p c
  pointwise [lm256, mk256]
  rw [hz, lm_coe]
  rw [hv ⟨p.val, by omega⟩ c, mask_select ⟨p.val, by omega⟩ c]
  unfold Ls
  by_cases h : c.val < p.val
  · rw [if_pos h, if_pos (by omega)]
  · rw [if_neg h, if_neg (by omega)]; rfl

theorem cs256_is {f : ℕ → ℕ → ℝ} {x : FVec Ideal S256x128 .f32} (hx : Is2 x (fun p c => f (256 + p) (b + c))) (hu : IsTail u) :
    Is2 (cs256 x u) (fun p c => ∑ s ∈ Finset.Ico (b + c) (b + 128), f (256 + p) s) := by
  intro p c
  pointwise [cs256]
  simp only [hx _ _, hu _ _, coe_sub_self, sum_mul_coe, zero_mul, Finset.sum_const_zero]
  rw [← EReal.coe_add, add_zero]
  rw [← sum_tail (f (256 + p.val)) b c c.isLt]

theorem a256_is (hq : Is2 q Q) (hk : Is2 k (fun c l => K (b + c) l)) (hu : IsTail u) (hv : IsPos v31) (hb : b = t0 + 256) {run : FVec Ideal S512x1 .f32}
    (hr : Is2 run (fun p _ => Ts Q K t0 p (b + 128))) : Is2 (a256 v31 (z256 q k) (cs256 (lm256 v31 (z256 q k)) u) run) (fun p c => As Q K t0 (256 + p) (b + c)) := by
  intro p c
  have hz := z256_is hq hk p c
  have hc := cs256_is (f := Ls Q K t0) (lm256_is hq hk hv hb) hu p c
  have hrun := hr ⟨256 + p.val, by omega⟩ 0
  have hT := Ts_split Q K t0 (256 + p.val) b c (by omega) (by omega)
  pointwise [a256, mk256]
  rw [hz, hc, hrun, ← EReal.coe_add, ← EReal.coe_add, exp_coe]
  rw [hv ⟨p.val, by omega⟩ c, mask_select ⟨p.val, by omega⟩ c]
  unfold As
  by_cases h : c.val < p.val
  · rw [if_pos h, if_pos (by omega), hT, ← add_assoc]
  · rw [if_neg h, if_neg (by omega)]; rfl

theorem dv256_is {a : FVec Ideal S256x128 .f32} {f X : ℕ → ℕ → ℝ} (ha : Is2 a (fun p c => f (256 + p) (b + c))) (hd : Is2 d D) {acc : FVec Ideal S128x128 .f32} (hacc : Is2 acc X)
    (h0 : ∀ p < 256, ∀ c < 128, f p (b + c) = 0) :
    Is2 (dv256 acc a d) (fun c l => X c l + ∑ p ∈ Finset.range 512, f p (b + c) * D p l) := by
  intro c l
  pointwise [dv256]
  simp only [ha _ _, hd _ _, hacc _ _, sum_mul_coe]
  rw [← EReal.coe_add]
  rw [← sum_rows (fun p => f p (b + c) * D p l) 256 256 (by omega) (fun p hp => by rw [h0 p hp c c.isLt, zero_mul])]

theorem g256_is {a : FVec Ideal S256x128 .f32} {f : ℕ → ℕ → ℝ} (ha : Is2 a (fun p c => f (256 + p) (b + c))) (hd : Is2 d D) (hv : Is2 v (fun c l => V (b + c) l)) :
    Is4 (g256 a d v) (fun p c => f (256 + p) (b + c) * ∑ l : Fin 128, D (256 + p) l * V (b + c) l) := by
  intro p c
  pointwise [g256]
  simp only [ha _ _, hd _ _, hv _ _, sum_mul_coe]
  rw [← EReal.coe_mul]

theorem w256_is {x : FVec Ideal S256x128 .f32} {f : ℕ → ℕ → ℝ} (hx : Is2 x (fun p c => f (256 + p) (b + c))) :
    Is4 (w256 x) (fun p c => 1 - Real.exp (f (256 + p) (b + c))) := by
  intro p c
  pointwise [w256]
  simp only [hx _ _, exp_coe]
  rw [EReal.coe_sub]; rfl

theorem run256_is (hq : Is2 q Q) (hk : Is2 k (fun c l => K (b + c) l)) (hu : IsTail u) (hv : IsPos v31) (hb : b = t0 + 256) {run : FVec Ideal S512x1 .f32}
    (hr : Is2 run (fun p _ => Ts Q K t0 p (b + 128))) : Is2 (run256 run (cs256 (lm256 v31 (z256 q k)) u)) (fun p _ => Ts Q K t0 p b) := by
  intro p l
  have e1 := Ts_skip Q K t0 p.val b (by omega)
  have e2 := Ts_split0 Q K t0 p.val b (by omega)
  by_cases h : p.val < 256
  · show _ = ((Ts Q K t0 p.val b : ℝ) : EReal)
    have hrp := hr p 0
    rw [e1 (by omega)]
    pointwise [run256]
    rw [dif_pos h]
    exact hrp
  · have hc := cs256_is (f := Ls Q K t0) (lm256_is hq hk hv hb) hu ⟨p.val - 256, by omega⟩ 0
    have hrp := hr p 0
    have hp : 256 + (p.val - 256) = p.val := by omega
    pointwise [run256]
    rw [dif_neg h]
    simp only [hp, Fin.eta] at hc ⊢
    rw [hrp, hc, ← EReal.coe_add, e2, add_comm]
    rfl

theorem z384_is (hq : Is2 q Q) (hk : Is2 k (fun c l => K (b + c) l)) : Is2 (z384 q k) (fun p c => Zs Q K (128 + p) (b + c)) := by
  intro p c
  pointwise [z384]
  simp only [hq _ _, hk _ _]
  exact sum_mul_coe (fun l => Q (128 + p.val) l) (fun l => K (b + c) l)

theorem lm384_is (hq : Is2 q Q) (hk : Is2 k (fun c l => K (b + c) l)) (hv : IsPos v31) (hb : b = t0 + 128) : Is2 (lm384 v31 (z384 q k)) (fun p c => Ls Q K t0 (128 + p) (b + c)) := by
  intro p c
  have hz := z384_is hq hk p c
  pointwise [lm384, mk384]
  rw [hz, lm_coe]
  rw [hv ⟨p.val, by omega⟩ c, mask_select ⟨p.val, by omega⟩ c]
  unfold Ls
  by_cases h : c.val < p.val
  · rw [if_pos h, if_pos (by omega)]
  · rw [if_neg h, if_neg (by omega)]; rfl

theorem cs384_is {f : ℕ → ℕ → ℝ} {x : FVec Ideal S384x128 .f32} (hx : Is2 x (fun p c => f (128 + p) (b + c))) (hu : IsTail u) :
    Is2 (cs384 x u) (fun p c => ∑ s ∈ Finset.Ico (b + c) (b + 128), f (128 + p) s) := by
  intro p c
  pointwise [cs384]
  simp only [hx _ _, hu _ _, coe_sub_self, sum_mul_coe, zero_mul, Finset.sum_const_zero]
  rw [← EReal.coe_add, add_zero]
  rw [← sum_tail (f (128 + p.val)) b c c.isLt]

theorem a384_is (hq : Is2 q Q) (hk : Is2 k (fun c l => K (b + c) l)) (hu : IsTail u) (hv : IsPos v31) (hb : b = t0 + 128) {run : FVec Ideal S512x1 .f32}
    (hr : Is2 run (fun p _ => Ts Q K t0 p (b + 128))) : Is2 (a384 v31 (z384 q k) (cs384 (lm384 v31 (z384 q k)) u) run) (fun p c => As Q K t0 (128 + p) (b + c)) := by
  intro p c
  have hz := z384_is hq hk p c
  have hc := cs384_is (f := Ls Q K t0) (lm384_is hq hk hv hb) hu p c
  have hrun := hr ⟨128 + p.val, by omega⟩ 0
  have hT := Ts_split Q K t0 (128 + p.val) b c (by omega) (by omega)
  pointwise [a384, mk384]
  rw [hz, hc, hrun, ← EReal.coe_add, ← EReal.coe_add, exp_coe]
  rw [hv ⟨p.val, by omega⟩ c, mask_select ⟨p.val, by omega⟩ c]
  unfold As
  by_cases h : c.val < p.val
  · rw [if_pos h, if_pos (by omega), hT, ← add_assoc]
  · rw [if_neg h, if_neg (by omega)]; rfl

theorem dv384_is {a : FVec Ideal S384x128 .f32} {f X : ℕ → ℕ → ℝ} (ha : Is2 a (fun p c => f (128 + p) (b + c))) (hd : Is2 d D) {acc : FVec Ideal S128x128 .f32} (hacc : Is2 acc X)
    (h0 : ∀ p < 128, ∀ c < 128, f p (b + c) = 0) :
    Is2 (dv384 acc a d) (fun c l => X c l + ∑ p ∈ Finset.range 512, f p (b + c) * D p l) := by
  intro c l
  pointwise [dv384]
  simp only [ha _ _, hd _ _, hacc _ _, sum_mul_coe]
  rw [← EReal.coe_add]
  rw [← sum_rows (fun p => f p (b + c) * D p l) 384 128 (by omega) (fun p hp => by rw [h0 p hp c c.isLt, zero_mul])]

theorem g384_is {a : FVec Ideal S384x128 .f32} {f : ℕ → ℕ → ℝ} (ha : Is2 a (fun p c => f (128 + p) (b + c))) (hd : Is2 d D) (hv : Is2 v (fun c l => V (b + c) l)) :
    Is4 (g384 a d v) (fun p c => f (128 + p) (b + c) * ∑ l : Fin 128, D (128 + p) l * V (b + c) l) := by
  intro p c
  pointwise [g384]
  simp only [ha _ _, hd _ _, hv _ _, sum_mul_coe]
  rw [← EReal.coe_mul]

theorem w384_is {x : FVec Ideal S384x128 .f32} {f : ℕ → ℕ → ℝ} (hx : Is2 x (fun p c => f (128 + p) (b + c))) :
    Is4 (w384 x) (fun p c => 1 - Real.exp (f (128 + p) (b + c))) := by
  intro p c
  pointwise [w384]
  simp only [hx _ _, exp_coe]
  rw [EReal.coe_sub]; rfl

theorem run384_is (hq : Is2 q Q) (hk : Is2 k (fun c l => K (b + c) l)) (hu : IsTail u) (hv : IsPos v31) (hb : b = t0 + 128) {run : FVec Ideal S512x1 .f32}
    (hr : Is2 run (fun p _ => Ts Q K t0 p (b + 128))) : Is2 (run384 run (cs384 (lm384 v31 (z384 q k)) u)) (fun p _ => Ts Q K t0 p b) := by
  intro p l
  have e1 := Ts_skip Q K t0 p.val b (by omega)
  have e2 := Ts_split0 Q K t0 p.val b (by omega)
  by_cases h : p.val < 128
  · show _ = ((Ts Q K t0 p.val b : ℝ) : EReal)
    have hrp := hr p 0
    rw [e1 (by omega)]
    pointwise [run384]
    rw [dif_pos h]
    exact hrp
  · have hc := cs384_is (f := Ls Q K t0) (lm384_is hq hk hv hb) hu ⟨p.val - 128, by omega⟩ 0
    have hrp := hr p 0
    have hp : 128 + (p.val - 128) = p.val := by omega
    pointwise [run384]
    rw [dif_neg h]
    simp only [hp, Fin.eta] at hc ⊢
    rw [hrp, hc, ← EReal.coe_add, e2, add_comm]
    rfl

theorem z512_is (hq : Is2 q Q) (hk : Is2 k (fun c l => K (b + c) l)) : Is2 (z512 q k) (fun p c => Zs Q K (p : ℕ) (b + c)) := by
  intro p c
  pointwise [z512]
  simp only [hq _ _, hk _ _]
  exact sum_mul_coe (fun l => Q p.val l) (fun l => K (b + c) l)

theorem lm512_is (hq : Is2 q Q) (hk : Is2 k (fun c l => K (b + c) l)) (hv : IsPos v31) (hb : b = t0 + 0) : Is2 (lm512 v31 (z512 q k)) (fun p c => Ls Q K t0 (p : ℕ) (b + c)) := by
  intro p c
  have hz := z512_is hq hk p c
  pointwise [lm512, mk512]
  rw [hz, lm_coe]
  rw [hv p c, mask_select p c]
  unfold Ls
  by_cases h : c.val < p.val
  · rw [if_pos h, if_pos (by omega)]
  · rw [if_neg h, if_neg (by omega)]; rfl

theorem cs512_is {f : ℕ → ℕ → ℝ} {x : FVec Ideal S512x128 .f32} (hx : Is2 x (fun p c => f (p : ℕ) (b + c))) (hu : IsTail u) :
    Is2 (cs512 x u) (fun p c => ∑ s ∈ Finset.Ico (b + c) (b + 128), f (p : ℕ) s) := by
  intro p c
  pointwise [cs512]
  simp only [hx _ _, hu _ _, coe_sub_self, sum_mul_coe, zero_mul, Finset.sum_const_zero]
  rw [← EReal.coe_add, add_zero]
  rw [← sum_tail (f p.val) b c c.isLt]

theorem a512_is (hq : Is2 q Q) (hk : Is2 k (fun c l => K (b + c) l)) (hu : IsTail u) (hv : IsPos v31) (hb : b = t0 + 0) {run : FVec Ideal S512x1 .f32}
    (hr : Is2 run (fun p _ => Ts Q K t0 p (b + 128))) : Is2 (a512 v31 (z512 q k) (cs512 (lm512 v31 (z512 q k)) u) run) (fun p c => As Q K t0 (p : ℕ) (b + c)) := by
  intro p c
  have hz := z512_is hq hk p c
  have hc := cs512_is (f := Ls Q K t0) (lm512_is hq hk hv hb) hu p c
  have hrun := hr p 0
  have hT := Ts_split Q K t0 p.val b c (by omega) (by omega)
  pointwise [a512, mk512]
  rw [hz, hc, hrun, ← EReal.coe_add, ← EReal.coe_add, exp_coe]
  rw [hv p c, mask_select p c]
  unfold As
  by_cases h : c.val < p.val
  · rw [if_pos h, if_pos (by omega), hT, ← add_assoc]
  · rw [if_neg h, if_neg (by omega)]; rfl

theorem dv512_is {a : FVec Ideal S512x128 .f32} {f X : ℕ → ℕ → ℝ} (ha : Is2 a (fun p c => f (p : ℕ) (b + c))) (hd : Is2 d D) {acc : FVec Ideal S128x128 .f32} (hacc : Is2 acc X)
    (h0 : ∀ p < 0, ∀ c < 128, f p (b + c) = 0) :
    Is2 (dv512 acc a d) (fun c l => X c l + ∑ p ∈ Finset.range 512, f p (b + c) * D p l) := by
  intro c l
  pointwise [dv512]
  simp only [ha _ _, hd _ _, hacc _ _, sum_mul_coe]
  rw [← EReal.coe_add]
  rw [← sum_rows (fun p => f p (b + c) * D p l) 512 0 (by omega) (fun p hp => by rw [h0 p hp c c.isLt, zero_mul])]
  simp only [Nat.zero_add]

theorem g512_is {a : FVec Ideal S512x128 .f32} {f : ℕ → ℕ → ℝ} (ha : Is2 a (fun p c => f (p : ℕ) (b + c))) (hd : Is2 d D) (hv : Is2 v (fun c l => V (b + c) l)) :
    Is4 (g512 a d v) (fun p c => f (p : ℕ) (b + c) * ∑ l : Fin 128, D (p : ℕ) l * V (b + c) l) := by
  intro p c
  pointwise [g512]
  simp only [ha _ _, hd _ _, hv _ _, sum_mul_coe]
  rw [← EReal.coe_mul]

theorem w512_is {x : FVec Ideal S512x128 .f32} {f : ℕ → ℕ → ℝ} (hx : Is2 x (fun p c => f (p : ℕ) (b + c))) :
    Is4 (w512 x) (fun p c => 1 - Real.exp (f (p : ℕ) (b + c))) := by
  intro p c
  pointwise [w512]
  simp only [hx _ _, exp_coe]
  rw [EReal.coe_sub]; rfl

theorem run512_is (hq : Is2 q Q) (hk : Is2 k (fun c l => K (b + c) l)) (hu : IsTail u) (hv : IsPos v31) (hb : b = t0 + 0) {run : FVec Ideal S512x1 .f32}
    (hr : Is2 run (fun p _ => Ts Q K t0 p (b + 128))) : Is2 (run512 run (cs512 (lm512 v31 (z512 q k)) u)) (fun p _ => Ts Q K t0 p b) := by
  intro p l
  have e2 := Ts_split0 Q K t0 p.val b (by omega)
  have hc := cs512_is (f := Ls Q K t0) (lm512_is hq hk hv hb) hu p 0
  have hrp := hr p l
  pointwise [run512]
  rw [hc]
  first | rw [hrp] | rw [hr p 0]
  rw [← EReal.coe_add, e2, add_comm]
  rfl

theorem lmU_is (hq : Is2 q Q) (hk : Is2 k (fun c l => K (b + c) l)) (hb : b + 128 ≤ t0) : Is2 (lmU (z512 q k)) (fun p c => Ls Q K t0 (p : ℕ) (b + c)) := by
  intro p c
  have hz := z512_is hq hk p c
  pointwise [lmU]
  rw [hz, lm_coe]
  unfold Ls
  rw [if_pos (by omega)]

theorem aU_is (hq : Is2 q Q) (hk : Is2 k (fun c l => K (b + c) l)) (hu : IsTail u) (hb : b + 128 ≤ t0) {run : FVec Ideal S512x1 .f32}
    (hr : Is2 run (fun p _ => Ts Q K t0 p (b + 128))) : Is2 (aU (z512 q k) (cs512 (lmU (z512 q k)) u) run) (fun p c => As Q K t0 (p : ℕ) (b + c)) := by
  intro p c
  have hz := z512_is hq hk p c
  have hc := cs512_is (f := Ls Q K t0) (lmU_is hq hk hb) hu p c
  have hrun := hr p 0
  have hT := Ts_split Q K t0 p.val b c (by omega) (by omega)
  pointwise [aU]
  rw [hz, hc, hrun, ← EReal.coe_add, ← EReal.coe_add, exp_coe]
  unfold As
  rw [if_pos (by omega), hT, ← add_assoc]

theorem runU_is (hq : Is2 q Q) (hk : Is2 k (fun c l => K (b + c) l)) (hu : IsTail u) (hb : b + 128 ≤ t0) {run : FVec Ideal S512x1 .f32}
    (hr : Is2 run (fun p _ => Ts Q K t0 p (b + 128))) : Is2 (run512 run (cs512 (lmU (z512 q k)) u)) (fun p _ => Ts Q K t0 p b) := by
  intro p l
  have e2 := Ts_split0 Q K t0 p.val b (by omega)
  have hc := cs512_is (f := Ls Q K t0) (lmU_is hq hk hb) hu p 0
  have hrp := hr p l
  pointwise [run512]
  rw [hc]
  first | rw [hrp] | rw [hr p 0]
  rw [← EReal.coe_add, e2, add_comm]
  rfl

end Cert.KernelIdeal.Hand
end
-- ==== Proof.Store.lean ====
/- Loads and stores of the blocks at ideal values: a block of rows read, a block of rows added to, a block of a scratch
   array written. -/
module
public import proofs.«01_k».proof.Proof.SpecL
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic

/-- A buffer of rows holds these numbers. -/
abbrev Rows (m : Memref sig .tc .vmem S2048x128 .f32) (f : BufTy.Contents (Elt Ideal) m.view.ty) (X : ℕ → ℕ → ℝ) : Prop :=
  Is2 (φ := .f32) (m.view.read (Elt Ideal) f) X

theorem readAt_rows {m : Memref sig .tc .vmem S2048x128 .f32} {f : BufTy.Contents (Elt Ideal) m.view.ty} {X : ℕ → ℕ → ℝ} (h : Rows m f X)
    {off : Fin 2 → ℕ} (inb : ∀ a, off a + S128x128.size a ≤ S2048x128.size a) {o : ℕ} (ho : off = ![o, 0]) :
    Is2 (φ := .f32) (m.view.readAt (Elt Ideal) (Rect.unit (s := S2048x128) off S128x128.size inb).toLoadRect f) (fun c l => X (o + c) l) := by
  subst ho
  intro c l
  have hb : o + 128 ≤ 2048 := inb 0
  have := h ⟨o + c.val, by omega⟩ l
  refine Eq.trans ?_ this
  refine congrArg (m.view.read (Elt Ideal) f) (funext fun a => Fin.ext ?_)
  match a with
  | ⟨0, _⟩ => show o + 1 * c.val = o + c.val; omega
  | ⟨1, _⟩ => show 0 + 1 * l.val = l.val; omega

theorem readAt_blk {m : Memref sig .tc .vmem S2048x128 .f32} {f : BufTy.Contents (Elt Ideal) m.view.ty} {X : ℕ → ℕ → ℝ} (h : Rows m f X)
    {off : Fin 2 → ℕ} (inb : ∀ a, off a + S128x128.size a ≤ S2048x128.size a) {o : ℕ} (ho : off = ![o, 0]) :
    Is2 (truncf .bf16 (m.view.readAt (Elt Ideal) (Rect.unit (s := S2048x128) off S128x128.size inb).toLoadRect f : FVec Ideal S128x128 .f32) bitsLt_bf16_f32) (fun c l => X (o + c) l) := by
  intro c l
  have := readAt_rows h inb ho c l
  pointwise
  exact this

/-- A block of rows added to: the rows of the block gain the block's, the others stay. -/
theorem add_rows {m : Memref sig .tc .vmem S2048x128 .f32} {f : BufTy.Contents (Elt Ideal) m.view.ty} {L : List (View.Piece (Elt Ideal) S2048x128 .f32)}
    {X Y Z : ℕ → ℕ → ℝ} (h : Rows m (m.view.writes (Elt Ideal) f L) X)
    {off : Fin 2 → ℕ} (inb : ∀ a, off a + S128x128.size a ≤ S2048x128.size a) {o : ℕ} (ho : off = ![o, 0])
    {y : FVec Ideal S128x128 .f32} (hy : Is2 y (fun c l => Y (o + c) l))
    (hin : ∀ s l, o ≤ s → s < o + 128 → l < 128 → Z s l = X s l + Y s l) (hout : ∀ s l, s < 2048 → l < 128 → (s < o ∨ o + 128 ≤ s) → Z s l = X s l) :
    Rows m (m.view.writes (Elt Ideal) f (⟨Rect.unit (s := S2048x128) off S128x128.size inb,
      addf (shapeCast S128x128 (m.view.readAt (Elt Ideal) (Rect.unit (s := S2048x128) off S128x128.size inb).toLoadRect (m.view.writes (Elt Ideal) f L) : FVec Ideal S128x128 .f32) shapeCasts_S128x128_S128x128) y⟩ :: L)) Z := by
  have hr := readAt_rows h inb ho
  intro s l
  have hb : o + 128 ≤ 2048 := by have := inb 0; rw [ho] at this; exact this
  by_cases hs : o ≤ s.val ∧ s.val < o + 128
  · have e := View.read_writes_cons_rows_of_mem m.view f inb (addf (shapeCast S128x128 (m.view.readAt (Elt Ideal) (Rect.unit (s := S2048x128) off S128x128.size inb).toLoadRect (m.view.writes (Elt Ideal) f L) : FVec Ideal S128x128 .f32) shapeCasts_S128x128_S128x128) y) L (ix2 s l) (ix2 (⟨s.val - o, by omega⟩ : Fin 128) l) ho
      (show s.val = o + (s.val - o) by omega) rfl
    refine e.trans ?_
    have hr' := hr ⟨s.val - o, by omega⟩ l
    have hy' := hy ⟨s.val - o, by omega⟩ l
    simp only [show o + (s.val - o) = s.val by omega] at hr' hy'
    generalize (m.view.readAt (Elt Ideal) (Rect.unit (s := S2048x128) off S128x128.size inb).toLoadRect (m.view.writes (Elt Ideal) f L) : FVec Ideal S128x128 .f32) = x at hr' ⊢
    pointwise
    rw [hr', hy', hin _ _ hs.1 hs.2 l.isLt, EReal.coe_add]
  · have e := View.read_writes_cons_rows_of_not_mem m.view f inb (addf (shapeCast S128x128 (m.view.readAt (Elt Ideal) (Rect.unit (s := S2048x128) off S128x128.size inb).toLoadRect (m.view.writes (Elt Ideal) f L) : FVec Ideal S128x128 .f32) shapeCasts_S128x128_S128x128) y) L (ix2 s l) ho (W := 128) rfl
      (show s.val < o ∨ o + 128 ≤ s.val by omega)
    refine e.trans ((h s l).trans ?_)
    rw [hout _ _ s.isLt l.isLt (by omega)]

/-- The blocks of a scratch array that hold what they should: `P` says which, by head and key block; of a block the rows
    at or after the block's first position. -/
def Scr (t0 : ℕ) (m : Memref sig .tc .vmem S2x16x512x128 .f32) (f : BufTy.Contents (Elt Ideal) m.view.ty) (G : ℕ → ℕ → ℕ → ℝ) (P : ℕ → ℕ → Prop) : Prop :=
  ∀ (h : Fin 2) (j : Fin 16) (p : Fin 512) (c : Fin 128), P h j → 128 * j.val ≤ t0 + p.val →
    m.view.read (Elt Ideal) f (ix4 h j p c) = ((G h p (128 * j + c) : ℝ) : EReal)

theorem put_scr {n : ℕ} {t0 : ℕ} {m : Memref sig .tc .vmem S2x16x512x128 .f32} {f : BufTy.Contents (Elt Ideal) m.view.ty} {L : List (View.Piece (Elt Ideal) S2x16x512x128 .f32)}
    {G : ℕ → ℕ → ℕ → ℝ} {P P' : ℕ → ℕ → Prop} (h : Scr t0 m (m.view.writes (Elt Ideal) f L) G P)
    {off : Fin 4 → ℕ} (inb : ∀ a, off a + (![1, 1, n, 128] : Fin 4 → ℕ) a ≤ S2x16x512x128.size a) {h0 j0 r0 : ℕ} (ho : off = ![h0, j0, r0, 0])
    (w : (⟨4, ![1, 1, n, 128]⟩ : Shape).Idx → Elt Ideal .f32) (hw : Is4 (φ := .f32) w (fun p c => G h0 (r0 + p) (128 * j0 + c)))
    (hn : r0 + n = 512) (hr0 : ∀ p < r0, ¬ 128 * j0 ≤ t0 + p) (hP : ∀ h j, h < 2 → P' h j → P h j ∨ (h = h0 ∧ j = j0)) :
    Scr t0 m (m.view.writes (Elt Ideal) f (⟨Rect.unit (s := S2x16x512x128) off ![1, 1, n, 128] inb, w⟩ :: L)) G P' := by
  intro hh j p c hp hle
  by_cases hm : (hh.val = h0 ∧ j.val = j0)
  · have hpr : r0 ≤ p.val := by
      by_contra hc
      exact hr0 p.val (by omega) (by rw [← hm.2]; exact hle)
    have e := View.read_writes_cons_unit_of_mem m.view f inb w L (ix4 hh j p c) (ix4 (0 : Fin 1) (0 : Fin 1) (⟨p.val - r0, by omega⟩ : Fin n) c) ho (fun a => by
      match a with
      | ⟨0, _⟩ => show hh.val = h0 + 0; omega
      | ⟨1, _⟩ => show j.val = j0 + 0; omega
      | ⟨2, _⟩ => show p.val = r0 + (p.val - r0); omega
      | ⟨3, _⟩ => show c.val = 0 + c.val; omega)
    refine e.trans ((hw ⟨p.val - r0, by omega⟩ c).trans ?_)
    show ((G h0 (r0 + (p.val - r0)) (128 * j0 + c.val) : ℝ) : EReal) = _
    rw [show r0 + (p.val - r0) = p.val by omega, hm.1, hm.2]
  · have hP' := (hP _ _ hh.isLt hp).resolve_right hm
    have e : m.view.read (Elt Ideal) (m.view.writes (Elt Ideal) f (⟨Rect.unit (s := S2x16x512x128) off ![1, 1, n, 128] inb, w⟩ :: L)) (ix4 hh j p c) = m.view.read (Elt Ideal) (m.view.writes (Elt Ideal) f L) (ix4 hh j p c) := by
      by_cases hh0 : hh.val = h0
      · exact View.read_writes_cons_unit_of_not_mem m.view f inb w L (ix4 hh j p c) ho 1
          (show j.val < j0 ∨ j0 + 1 ≤ j.val by omega)
      · exact View.read_writes_cons_unit_of_not_mem m.view f inb w L (ix4 hh j p c) ho 0
          (show hh.val < h0 ∨ h0 + 1 ≤ hh.val by omega)
    exact e.trans (h hh j p c hP' hle)

end Cert.KernelIdeal.Hand
end
-- ==== Proof.DiagL.lean ====
/- The left sweep's diagonal blocks at ideal values: what the running sums, the values' gradient and the two scratch
   arrays hold after each of the four. -/
module
public import proofs.«01_k».proof.Proof.EqL
public import proofs.«01_k».proof.Proof.IdealL
public import proofs.«01_k».proof.Proof.Store

@[expose] public section

set_option maxRecDepth 16384
set_option maxHeartbeats 1000000

noncomputable section

namespace Cert.KernelIdeal.Hand

open Cert.KernelIdeal Cert.KernelIdeal.Gen
open Idealize.ShloMosaic

theorem off1_eq : ∀ (i : grid0.Coords) (r : Fin 4), k0_off1 i (BitVec.ofNat 32 r.val) = ![512 * (i 2).val + 128 * r.val, 0] := by decide +kernel
theorem off2_eq : ∀ (i : grid0.Coords), k0_off2 i = ![0, 4 * (i 2).val + 3, 384, 0] := by decide +kernel
theorem off3_eq : ∀ (i : grid0.Coords), k0_off3 i = ![1, 4 * (i 2).val + 3, 384, 0] := by decide +kernel
theorem off4_eq : ∀ (i : grid0.Coords), k0_off4 i = ![0, 4 * (i 2).val + 2, 256, 0] := by decide +kernel
theorem off5_eq : ∀ (i : grid0.Coords), k0_off5 i = ![1, 4 * (i 2).val + 2, 256, 0] := by decide +kernel
theorem off6_eq : ∀ (i : grid0.Coords), k0_off6 i = ![0, 4 * (i 2).val + 1, 128, 0] := by decide +kernel
theorem off7_eq : ∀ (i : grid0.Coords), k0_off7 i = ![1, 4 * (i 2).val + 1, 128, 0] := by decide +kernel
theorem off8_eq : ∀ (i : grid0.Coords), k0_off8 i = ![0, 4 * (i 2).val + 0, 0, 0] := by decide +kernel
theorem off9_eq : ∀ (i : grid0.Coords), k0_off9 i = ![1, 4 * (i 2).val + 0, 0, 0] := by decide +kernel

/-- What the first stretch hands on, as real numbers: the two heads' queries and gradients, the keys and the values, the
    point's first row. -/
structure Setup (e : Env Ideal) (o : First e) (Q0 Q1 D0 D1 K V : ℕ → ℕ → ℝ) (t0 : ℕ) : Prop where
  hq0 : Is2 (q0 o) Q0
  hq1 : Is2 (q1 o) Q1
  hd0 : Is2 (d0 o) D0
  hd1 : Is2 (d1 o) D1
  hu : IsTail (uu o)
  pos : IsPos (io o)
  hK : Rows e.arg4 e.K4 K
  hV : Rows e.arg5 e.K5 V
  ht : t0 = 512 * (e.i 2).val
  i0 : Is2 ((c36 e o).r.2.2.1) (fun _ _ => 0)
  i1 : Is2 ((c36 e o).r.2.2.2.1) (fun _ _ => 0)

/-- What the point adds to the values' gradient at a key. -/
def Cv (Q0 Q1 D0 D1 K : ℕ → ℕ → ℝ) (t0 : ℕ) (s l : ℕ) : ℝ :=
  ∑ p ∈ Finset.range 512, As Q0 K t0 p s * D0 p l + ∑ p ∈ Finset.range 512, As Q1 K t0 p s * D1 p l
/-- What the scratch arrays hold, head by head. -/
def Gh (Q0 Q1 D0 D1 K V : ℕ → ℕ → ℝ) (t0 : ℕ) (h p s : ℕ) : ℝ := if h = 0 then Gs Q0 K V D0 t0 p s else Gs Q1 K V D1 t0 p s
def Wh (Q0 Q1 K : ℕ → ℕ → ℝ) (t0 : ℕ) (h p s : ℕ) : ℝ := if h = 0 then Ws Q0 K t0 p s else Ws Q1 K t0 p s

theorem As_skip (Q K : ℕ → ℕ → ℝ) (t0 p s : ℕ) (h : t0 + p ≤ s) : As Q K t0 p s = 0 := if_neg (by omega)

theorem Cv_skip (Q0 Q1 D0 D1 K : ℕ → ℕ → ℝ) (t0 s l : ℕ) (h : t0 + 512 ≤ s) : Cv Q0 Q1 D0 D1 K t0 s l = 0 := by
  unfold Cv
  rw [Finset.sum_eq_zero, Finset.sum_eq_zero, add_zero]
  all_goals
    intro p hp
    rw [Finset.mem_range] at hp
    rw [As_skip _ _ _ _ _ (by omega), zero_mul]

theorem zero_is2 {a b : ℕ} {φ : FTy} : Is2 (a := a) (b := b) (φ := .f32) (broadcast ⟨2, ![a, b]⟩ (Scalar.ofBits (F := Ideal) .f32 0x00000000#32)) (fun _ _ => 0) := by
  intro p l
  pointwise
  rfl

/-- The values' gradient and the running sums with the key blocks from `B` on done. -/
def after (Q0 Q1 D0 D1 K : ℕ → ℕ → ℝ) (t0 : ℕ) (X : ℕ → ℕ → ℝ) (B s l : ℕ) : ℝ := X s l + if B ≤ s then Cv Q0 Q1 D0 D1 K t0 s l else 0

section

variable {e : Env Ideal} {o : First e} {Q0 Q1 D0 D1 K V X : ℕ → ℕ → ℝ} {t0 : ℕ} (S : Setup e o Q0 Q1 D0 D1 K V t0)
include S

theorem k0_is : Is2 (k0 e) (fun c l => K (t0 + c) l) := readAt_blk S.hK _ (by rw [S.ht]; exact off1_eq e.i 0)
theorem vv0_is : Is2 (vv0 e) (fun c l => V (t0 + c) l) := readAt_blk S.hV _ (by rw [S.ht]; exact off1_eq e.i 0)

theorem k1_is : Is2 (k1 e) (fun c l => K (t0 + 128 + c) l) := readAt_blk S.hK _ (by rw [S.ht]; exact off1_eq e.i 1)
theorem vv1_is : Is2 (vv1 e) (fun c l => V (t0 + 128 + c) l) := readAt_blk S.hV _ (by rw [S.ht]; exact off1_eq e.i 1)

theorem k2_is : Is2 (k2 e) (fun c l => K (t0 + 256 + c) l) := readAt_blk S.hK _ (by rw [S.ht]; exact off1_eq e.i 2)
theorem vv2_is : Is2 (vv2 e) (fun c l => V (t0 + 256 + c) l) := readAt_blk S.hV _ (by rw [S.ht]; exact off1_eq e.i 2)

theorem k3_is : Is2 (k3 e) (fun c l => K (t0 + 384 + c) l) := readAt_blk S.hK _ (by rw [S.ht]; exact off1_eq e.i 3)
theorem vv3_is : Is2 (vv3 e) (fun c l => V (t0 + 384 + c) l) := readAt_blk S.hV _ (by rw [S.ht]; exact off1_eq e.i 3)

theorem run3_0_is : Is2 ((c36 e o).r.2.2.1) (fun p _ => Ts Q0 K t0 p (t0 + 384 + 128)) := by
  intro p l
  rw [S.i0 p l]
  unfold Ts
  simp

theorem run3_1_is : Is2 ((c36 e o).r.2.2.2.1) (fun p _ => Ts Q1 K t0 p (t0 + 384 + 128)) := by
  intro p l
  rw [S.i1 p l]
  unfold Ts
  simp

theorem run2_0_is : Is2 ((c37 e o).r.2.1) (fun p _ => Ts Q0 K t0 p (t0 + 384)) := by
  rw [(e37 e o).2.1]
  exact run128_is (b := t0 + 384) S.hq0 (k3_is S) S.hu S.pos rfl (run3_0_is S)

theorem run2_1_is : Is2 ((c39 e o).r.1) (fun p _ => Ts Q1 K t0 p (t0 + 384)) := by
  rw [(e39 e o).1]
  exact run128_is (b := t0 + 384) S.hq1 (k3_is S) S.hu S.pos rfl (run3_1_is S)

theorem a3_0_is : Is2 (a128 (io o) (z128 (q0 o) (k3 e)) (cs128 (lm128 (io o) (z128 (q0 o) (k3 e))) (uu o)) ((c36 e o).r.2.2.1)) (fun p c => As Q0 K t0 (384 + p) (t0 + 384 + c)) :=
  a128_is S.hq0 (k3_is S) S.hu S.pos rfl (run3_0_is S)
theorem g3_0_is : Is4 (g128 (a128 (io o) (z128 (q0 o) (k3 e)) (cs128 (lm128 (io o) (z128 (q0 o) (k3 e))) (uu o)) ((c36 e o).r.2.2.1)) (d0 o) (vv3 e)) (fun p c => Gh Q0 Q1 D0 D1 K V t0 0 (384 + p) (128 * (4 * (e.i 2).val + 3) + c)) := by
  intro p c
  refine (g128_is (b := t0 + 384) (V := V) (a3_0_is S) S.hd0 (vv3_is S) p c).trans ?_
  unfold Gh
  beta_reduce
  rw [if_pos rfl, show 128 * (4 * (e.i 2).val + 3) + c.val = t0 + 384 + c.val by rw [S.ht]; omega]
  rfl
theorem w3_0_is : Is4 (w128 (lm128 (io o) (z128 (q0 o) (k3 e)))) (fun p c => Wh Q0 Q1 K t0 0 (384 + p) (128 * (4 * (e.i 2).val + 3) + c)) := by
  intro p c
  refine (w128_is (b := t0 + 384) (f := Ls Q0 K t0) (lm128_is (b := t0 + 384) S.hq0 (k3_is S) S.pos rfl) p c).trans ?_
  unfold Wh
  beta_reduce
  rw [if_pos rfl, show 128 * (4 * (e.i 2).val + 3) + c.val = t0 + 384 + c.val by rw [S.ht]; omega]
  rfl

theorem a3_1_is : Is2 (a128 (io o) (z128 (q1 o) (k3 e)) (cs128 (lm128 (io o) (z128 (q1 o) (k3 e))) (uu o)) ((c36 e o).r.2.2.2.1)) (fun p c => As Q1 K t0 (384 + p) (t0 + 384 + c)) :=
  a128_is S.hq1 (k3_is S) S.hu S.pos rfl (run3_1_is S)
theorem g3_1_is : Is4 (g128 (a128 (io o) (z128 (q1 o) (k3 e)) (cs128 (lm128 (io o) (z128 (q1 o) (k3 e))) (uu o)) ((c36 e o).r.2.2.2.1)) (d1 o) (vv3 e)) (fun p c => Gh Q0 Q1 D0 D1 K V t0 1 (384 + p) (128 * (4 * (e.i 2).val + 3) + c)) := by
  intro p c
  refine (g128_is (b := t0 + 384) (V := V) (a3_1_is S) S.hd1 (vv3_is S) p c).trans ?_
  unfold Gh
  beta_reduce
  rw [if_neg (by decide), show 128 * (4 * (e.i 2).val + 3) + c.val = t0 + 384 + c.val by rw [S.ht]; omega]
  rfl
theorem w3_1_is : Is4 (w128 (lm128 (io o) (z128 (q1 o) (k3 e)))) (fun p c => Wh Q0 Q1 K t0 1 (384 + p) (128 * (4 * (e.i 2).val + 3) + c)) := by
  intro p c
  refine (w128_is (b := t0 + 384) (f := Ls Q1 K t0) (lm128_is (b := t0 + 384) S.hq1 (k3_is S) S.pos rfl) p c).trans ?_
  unfold Wh
  beta_reduce
  rw [if_neg (by decide), show 128 * (4 * (e.i 2).val + 3) + c.val = t0 + 384 + c.val by rw [S.ht]; omega]
  rfl

theorem dv3_is : Is2 (dv128 (dv128 (broadcast S128x128 (Scalar.ofBits .f32 0x00000000#32) : FVec Ideal S128x128 .f32) (a128 (io o) (z128 (q0 o) (k3 e)) (cs128 (lm128 (io o) (z128 (q0 o) (k3 e))) (uu o)) ((c36 e o).r.2.2.1)) (d0 o)) (a128 (io o) (z128 (q1 o) (k3 e)) (cs128 (lm128 (io o) (z128 (q1 o) (k3 e))) (uu o)) ((c36 e o).r.2.2.2.1)) (d1 o)) (fun c l => Cv Q0 Q1 D0 D1 K t0 (t0 + 384 + c) l) := by
  intro c l
  refine (dv128_is (b := t0 + 384) (f := As Q1 K t0) (a3_1_is S) S.hd1 (dv128_is (b := t0 + 384) (f := As Q0 K t0) (a3_0_is S) S.hd0 (zero_is2 (φ := .f32))
    (fun p hp c hc => As_skip _ _ _ _ _ (by omega))) (fun p hp c hc => As_skip _ _ _ _ _ (by omega)) c l).trans ?_
  unfold Cv
  beta_reduce
  rw [zero_add]

theorem run1_0_is : Is2 ((c40 e o).r.2.1) (fun p _ => Ts Q0 K t0 p (t0 + 256)) := by
  rw [(e40 e o).2.1]
  exact run256_is (b := t0 + 256) S.hq0 (k2_is S) S.hu S.pos rfl (run2_0_is S)

theorem run1_1_is : Is2 ((c41 e o).r.2.1) (fun p _ => Ts Q1 K t0 p (t0 + 256)) := by
  rw [(e41 e o).2.1]
  exact run256_is (b := t0 + 256) S.hq1 (k2_is S) S.hu S.pos rfl (run2_1_is S)

theorem a2_0_is : Is2 (a256 (io o) (z256 (q0 o) (k2 e)) (cs256 (lm256 (io o) (z256 (q0 o) (k2 e))) (uu o)) ((c37 e o).r.2.1)) (fun p c => As Q0 K t0 (256 + p) (t0 + 256 + c)) :=
  a256_is S.hq0 (k2_is S) S.hu S.pos rfl (run2_0_is S)
theorem g2_0_is : Is4 (g256 (a256 (io o) (z256 (q0 o) (k2 e)) (cs256 (lm256 (io o) (z256 (q0 o) (k2 e))) (uu o)) ((c37 e o).r.2.1)) (d0 o) (vv2 e)) (fun p c => Gh Q0 Q1 D0 D1 K V t0 0 (256 + p) (128 * (4 * (e.i 2).val + 2) + c)) := by
  intro p c
  refine (g256_is (b := t0 + 256) (V := V) (a2_0_is S) S.hd0 (vv2_is S) p c).trans ?_
  unfold Gh
  beta_reduce
  rw [if_pos rfl, show 128 * (4 * (e.i 2).val + 2) + c.val = t0 + 256 + c.val by rw [S.ht]; omega]
  rfl
theorem w2_0_is : Is4 (w256 (lm256 (io o) (z256 (q0 o) (k2 e)))) (fun p c => Wh Q0 Q1 K t0 0 (256 + p) (128 * (4 * (e.i 2).val + 2) + c)) := by
  intro p c
  refine (w256_is (b := t0 + 256) (f := Ls Q0 K t0) (lm256_is (b := t0 + 256) S.hq0 (k2_is S) S.pos rfl) p c).trans ?_
  unfold Wh
  beta_reduce
  rw [if_pos rfl, show 128 * (4 * (e.i 2).val + 2) + c.val = t0 + 256 + c.val by rw [S.ht]; omega]
  rfl

theorem a2_1_is : Is2 (a256 (io o) (z256 (q1 o) (k2 e)) (cs256 (lm256 (io o) (z256 (q1 o) (k2 e))) (uu o)) ((c39 e o).r.1)) (fun p c => As Q1 K t0 (256 + p) (t0 + 256 + c)) :=
  a256_is S.hq1 (k2_is S) S.hu S.pos rfl (run2_1_is S)
theorem g2_1_is : Is4 (g256 (a256 (io o) (z256 (q1 o) (k2 e)) (cs256 (lm256 (io o) (z256 (q1 o) (k2 e))) (uu o)) ((c39 e o).r.1)) (d1 o) (vv2 e)) (fun p c => Gh Q0 Q1 D0 D1 K V t0 1 (256 + p) (128 * (4 * (e.i 2).val + 2) + c)) := by
  intro p c
  refine (g256_is (b := t0 + 256) (V := V) (a2_1_is S) S.hd1 (vv2_is S) p c).trans ?_
  unfold Gh
  beta_reduce
  rw [if_neg (by decide), show 128 * (4 * (e.i 2).val + 2) + c.val = t0 + 256 + c.val by rw [S.ht]; omega]
  rfl
theorem w2_1_is : Is4 (w256 (lm256 (io o) (z256 (q1 o) (k2 e)))) (fun p c => Wh Q0 Q1 K t0 1 (256 + p) (128 * (4 * (e.i 2).val + 2) + c)) := by
  intro p c
  refine (w256_is (b := t0 + 256) (f := Ls Q1 K t0) (lm256_is (b := t0 + 256) S.hq1 (k2_is S) S.pos rfl) p c).trans ?_
  unfold Wh
  beta_reduce
  rw [if_neg (by decide), show 128 * (4 * (e.i 2).val + 2) + c.val = t0 + 256 + c.val by rw [S.ht]; omega]
  rfl

theorem dv2_is : Is2 (dv256 (dv256 (broadcast S128x128 (Scalar.ofBits .f32 0x00000000#32) : FVec Ideal S128x128 .f32) (a256 (io o) (z256 (q0 o) (k2 e)) (cs256 (lm256 (io o) (z256 (q0 o) (k2 e))) (uu o)) ((c37 e o).r.2.1)) (d0 o)) (a256 (io o) (z256 (q1 o) (k2 e)) (cs256 (lm256 (io o) (z256 (q1 o) (k2 e))) (uu o)) ((c39 e o).r.1)) (d1 o)) (fun c l => Cv Q0 Q1 D0 D1 K t0 (t0 + 256 + c) l) := by
  intro c l
  refine (dv256_is (b := t0 + 256) (f := As Q1 K t0) (a2_1_is S) S.hd1 (dv256_is (b := t0 + 256) (f := As Q0 K t0) (a2_0_is S) S.hd0 (zero_is2 (φ := .f32))
    (fun p hp c hc => As_skip _ _ _ _ _ (by omega))) (fun p hp c hc => As_skip _ _ _ _ _ (by omega)) c l).trans ?_
  unfold Cv
  beta_reduce
  rw [zero_add]

theorem run0_0_is : Is2 ((c43 e o).r.2.1) (fun p _ => Ts Q0 K t0 p (t0 + 128)) := by
  rw [(e43 e o).2.1]
  exact run384_is (b := t0 + 128) S.hq0 (k1_is S) S.hu S.pos rfl (run1_0_is S)

theorem run0_1_is : Is2 ((c44 e o).r.1) (fun p _ => Ts Q1 K t0 p (t0 + 128)) := by
  rw [(e44 e o).1]
  exact run384_is (b := t0 + 128) S.hq1 (k1_is S) S.hu S.pos rfl (run1_1_is S)

theorem a1_0_is : Is2 (a384 (io o) (z384 (q0 o) (k1 e)) (cs384 (lm384 (io o) (z384 (q0 o) (k1 e))) (uu o)) ((c40 e o).r.2.1)) (fun p c => As Q0 K t0 (128 + p) (t0 + 128 + c)) :=
  a384_is S.hq0 (k1_is S) S.hu S.pos rfl (run1_0_is S)
theorem g1_0_is : Is4 (g384 (a384 (io o) (z384 (q0 o) (k1 e)) (cs384 (lm384 (io o) (z384 (q0 o) (k1 e))) (uu o)) ((c40 e o).r.2.1)) (d0 o) (vv1 e)) (fun p c => Gh Q0 Q1 D0 D1 K V t0 0 (128 + p) (128 * (4 * (e.i 2).val + 1) + c)) := by
  intro p c
  refine (g384_is (b := t0 + 128) (V := V) (a1_0_is S) S.hd0 (vv1_is S) p c).trans ?_
  unfold Gh
  beta_reduce
  rw [if_pos rfl, show 128 * (4 * (e.i 2).val + 1) + c.val = t0 + 128 + c.val by rw [S.ht]; omega]
  rfl
theorem w1_0_is : Is4 (w384 (lm384 (io o) (z384 (q0 o) (k1 e)))) (fun p c => Wh Q0 Q1 K t0 0 (128 + p) (128 * (4 * (e.i 2).val + 1) + c)) := by
  intro p c
  refine (w384_is (b := t0 + 128) (f := Ls Q0 K t0) (lm384_is (b := t0 + 128) S.hq0 (k1_is S) S.pos rfl) p c).trans ?_
  unfold Wh
  beta_reduce
  rw [if_pos rfl, show 128 * (4 * (e.i 2).val + 1) + c.val = t0 + 128 + c.val by rw [S.ht]; omega]
  rfl

theorem a1_1_is : Is2 (a384 (io o) (z384 (q1 o) (k1 e)) (cs384 (lm384 (io o) (z384 (q1 o) (k1 e))) (uu o)) ((c41 e o).r.2.1)) (fun p c => As Q1 K t0 (128 + p) (t0 + 128 + c)) :=
  a384_is S.hq1 (k1_is S) S.hu S.pos rfl (run1_1_is S)
theorem g1_1_is : Is4 (g384 (a384 (io o) (z384 (q1 o) (k1 e)) (cs384 (lm384 (io o) (z384 (q1 o) (k1 e))) (uu o)) ((c41 e o).r.2.1)) (d1 o) (vv1 e)) (fun p c => Gh Q0 Q1 D0 D1 K V t0 1 (128 + p) (128 * (4 * (e.i 2).val + 1) + c)) := by
  intro p c
  refine (g384_is (b := t0 + 128) (V := V) (a1_1_is S) S.hd1 (vv1_is S) p c).trans ?_
  unfold Gh
  beta_reduce
  rw [if_neg (by decide), show 128 * (4 * (e.i 2).val + 1) + c.val = t0 + 128 + c.val by rw [S.ht]; omega]
  rfl
theorem w1_1_is : Is4 (w384 (lm384 (io o) (z384 (q1 o) (k1 e)))) (fun p c => Wh Q0 Q1 K t0 1 (128 + p) (128 * (4 * (e.i 2).val + 1) + c)) := by
  intro p c
  refine (w384_is (b := t0 + 128) (f := Ls Q1 K t0) (lm384_is (b := t0 + 128) S.hq1 (k1_is S) S.pos rfl) p c).trans ?_
  unfold Wh
  beta_reduce
  rw [if_neg (by decide), show 128 * (4 * (e.i 2).val + 1) + c.val = t0 + 128 + c.val by rw [S.ht]; omega]
  rfl

theorem dv1_is : Is2 (dv384 (dv384 (broadcast S128x128 (Scalar.ofBits .f32 0x00000000#32) : FVec Ideal S128x128 .f32) (a384 (io o) (z384 (q0 o) (k1 e)) (cs384 (lm384 (io o) (z384 (q0 o) (k1 e))) (uu o)) ((c40 e o).r.2.1)) (d0 o)) (a384 (io o) (z384 (q1 o) (k1 e)) (cs384 (lm384 (io o) (z384 (q1 o) (k1 e))) (uu o)) ((c41 e o).r.2.1)) (d1 o)) (fun c l => Cv Q0 Q1 D0 D1 K t0 (t0 + 128 + c) l) := by
  intro c l
  refine (dv384_is (b := t0 + 128) (f := As Q1 K t0) (a1_1_is S) S.hd1 (dv384_is (b := t0 + 128) (f := As Q0 K t0) (a1_0_is S) S.hd0 (zero_is2 (φ := .f32))
    (fun p hp c hc => As_skip _ _ _ _ _ (by omega))) (fun p hp c hc => As_skip _ _ _ _ _ (by omega)) c l).trans ?_
  unfold Cv
  beta_reduce
  rw [zero_add]

theorem runD_0_is : Is2 ((c46 e o).r.2.1) (fun p _ => Ts Q0 K t0 p (t0)) := by
  rw [(e46 e o).2.1]
  exact run512_is (b := t0) S.hq0 (k0_is S) S.hu S.pos (Nat.add_zero _).symm (run0_0_is S)

theorem a0_0_is : Is2 (a512 (io o) (z512 (q0 o) (k0 e)) (cs512 (lm512 (io o) (z512 (q0 o) (k0 e))) (uu o)) ((c43 e o).r.2.1)) (fun p c => As Q0 K t0 p (t0 + c)) :=
  a512_is S.hq0 (k0_is S) S.hu S.pos (Nat.add_zero _).symm (run0_0_is S)
theorem g0_0_is : Is4 (g512 (a512 (io o) (z512 (q0 o) (k0 e)) (cs512 (lm512 (io o) (z512 (q0 o) (k0 e))) (uu o)) ((c43 e o).r.2.1)) (d0 o) (vv0 e)) (fun p c => Gh Q0 Q1 D0 D1 K V t0 0 (0 + p) (128 * (4 * (e.i 2).val + 0) + c)) := by
  intro p c
  refine (g512_is (b := t0) (V := V) (a0_0_is S) S.hd0 (vv0_is S) p c).trans ?_
  unfold Gh
  beta_reduce
  rw [if_pos rfl, show 128 * (4 * (e.i 2).val + 0) + c.val = t0 + c.val by rw [S.ht]; omega]
  rw [Nat.zero_add]; rfl
theorem w0_0_is : Is4 (w512 (lm512 (io o) (z512 (q0 o) (k0 e)))) (fun p c => Wh Q0 Q1 K t0 0 (0 + p) (128 * (4 * (e.i 2).val + 0) + c)) := by
  intro p c
  refine (w512_is (b := t0) (f := Ls Q0 K t0) (lm512_is (b := t0) S.hq0 (k0_is S) S.pos (Nat.add_zero _).symm) p c).trans ?_
  unfold Wh
  beta_reduce
  rw [if_pos rfl, show 128 * (4 * (e.i 2).val + 0) + c.val = t0 + c.val by rw [S.ht]; omega]
  rw [Nat.zero_add]; rfl

theorem a0_1_is : Is2 (a512 (io o) (z512 (q1 o) (k0 e)) (cs512 (lm512 (io o) (z512 (q1 o) (k0 e))) (uu o)) ((c44 e o).r.1)) (fun p c => As Q1 K t0 p (t0 + c)) :=
  a512_is S.hq1 (k0_is S) S.hu S.pos (Nat.add_zero _).symm (run0_1_is S)
theorem g0_1_is : Is4 (g512 (a512 (io o) (z512 (q1 o) (k0 e)) (cs512 (lm512 (io o) (z512 (q1 o) (k0 e))) (uu o)) ((c44 e o).r.1)) (d1 o) (vv0 e)) (fun p c => Gh Q0 Q1 D0 D1 K V t0 1 (0 + p) (128 * (4 * (e.i 2).val + 0) + c)) := by
  intro p c
  refine (g512_is (b := t0) (V := V) (a0_1_is S) S.hd1 (vv0_is S) p c).trans ?_
  unfold Gh
  beta_reduce
  rw [if_neg (by decide), show 128 * (4 * (e.i 2).val + 0) + c.val = t0 + c.val by rw [S.ht]; omega]
  rw [Nat.zero_add]; rfl
theorem w0_1_is : Is4 (w512 (lm512 (io o) (z512 (q1 o) (k0 e)))) (fun p c => Wh Q0 Q1 K t0 1 (0 + p) (128 * (4 * (e.i 2).val + 0) + c)) := by
  intro p c
  refine (w512_is (b := t0) (f := Ls Q1 K t0) (lm512_is (b := t0) S.hq1 (k0_is S) S.pos (Nat.add_zero _).symm) p c).trans ?_
  unfold Wh
  beta_reduce
  rw [if_neg (by decide), show 128 * (4 * (e.i 2).val + 0) + c.val = t0 + c.val by rw [S.ht]; omega]
  rw [Nat.zero_add]; rfl

theorem dv0_is : Is2 (dv512 (dv512 (broadcast S128x128 (Scalar.ofBits .f32 0x00000000#32) : FVec Ideal S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o)) (fun c l => Cv Q0 Q1 D0 D1 K t0 (t0 + c) l) := by
  intro c l
  refine (dv512_is (b := t0) (f := As Q1 K t0) (a0_1_is S) S.hd1 (dv512_is (b := t0) (f := As Q0 K t0) (a0_0_is S) S.hd0 (zero_is2 (φ := .f32))
    (fun p hp c hc => As_skip _ _ _ _ _ (by omega))) (fun p hp c hc => As_skip _ _ _ _ _ (by omega)) c l).trans ?_
  unfold Cv
  beta_reduce
  rw [zero_add]

theorem rows3_is (h : Rows e.arg9 o.b.f9 X) : Rows e.arg9 (c38 e o).b.f9 (after Q0 Q1 D0 D1 K t0 X (t0 + 512)) := by
  rw [(e38 e o).2.2.2.1, (e37 e o).2.2.2.2.2.2.1, (e36 e o).2.2.2.2.2.2.2.2.1]
  intro s l
  rw [h s l]
  unfold after
  by_cases hs : t0 + 512 ≤ s.val
  · rw [if_pos hs, Cv_skip _ _ _ _ _ _ _ _ hs, add_zero]
  · rw [if_neg hs, add_zero]

theorem rows2_is (h : Rows e.arg9 o.b.f9 X) : Rows e.arg9 (c40 e o).b.f9 (after Q0 Q1 D0 D1 K t0 X (t0 + 384)) := by
  rw [(e40 e o).2.2.2.2.1, (e39 e o).2.2.2.2.2.2.2.2.2.2.1]
  exact add_rows (L := []) (Y := Cv Q0 Q1 D0 D1 K t0) (o := t0 + 384) (rows3_is S h) _ (by rw [S.ht]; exact off1_eq e.i 3) (dv3_is S)
    (fun s l h1 h2 _ => by unfold after; rw [if_pos h1, if_neg (by omega), add_zero])
    (fun s l _ _ h1 => by
      unfold after
      by_cases h2 : s < t0 + 384
      · rw [if_neg (by omega), if_neg (by omega)]
      · rw [if_pos (by omega), if_pos (by omega)])

theorem rows1_is (h : Rows e.arg9 o.b.f9 X) : Rows e.arg9 (c43 e o).b.f9 (after Q0 Q1 D0 D1 K t0 X (t0 + 256)) := by
  rw [(e43 e o).2.2.2.2.2.1, (e42 e o).2.2.2.2.2.2.2.2.1, (e41 e o).2.2.2.1]
  exact add_rows (L := []) (Y := Cv Q0 Q1 D0 D1 K t0) (o := t0 + 256) (rows2_is S h) _ (by rw [S.ht]; exact off1_eq e.i 2) (dv2_is S)
    (fun s l h1 h2 _ => by unfold after; rw [if_pos h1, if_neg (by omega), add_zero])
    (fun s l _ _ h1 => by
      unfold after
      by_cases h2 : s < t0 + 256
      · rw [if_neg (by omega), if_neg (by omega)]
      · rw [if_pos (by omega), if_pos (by omega)])

theorem rows0_is (h : Rows e.arg9 o.b.f9 X) : Rows e.arg9 (c46 e o).b.f9 (after Q0 Q1 D0 D1 K t0 X (t0 + 128)) := by
  rw [(e46 e o).2.2.2.2.2.2.1, (e45 e o).2.2.2.2.2.2.2.2.1, (e44 e o).2.2.1]
  exact add_rows (L := []) (Y := Cv Q0 Q1 D0 D1 K t0) (o := t0 + 128) (rows1_is S h) _ (by rw [S.ht]; exact off1_eq e.i 1) (dv1_is S)
    (fun s l h1 h2 _ => by unfold after; rw [if_pos h1, if_neg (by omega), add_zero])
    (fun s l _ _ h1 => by
      unfold after
      by_cases h2 : s < t0 + 128
      · rw [if_neg (by omega), if_neg (by omega)]
      · rw [if_pos (by omega), if_pos (by omega)])

theorem f10_36 : Scr t0 e.arg10 (c36 e o).b.f10 (Gh Q0 Q1 D0 D1 K V t0) (fun h j => t0 + 512 ≤ 128 * j) := by
  intro h j p c h1 h2
  omega

theorem f10_37 : Scr t0 e.arg10 (c37 e o).b.f10 (Gh Q0 Q1 D0 D1 K V t0) (fun h j => t0 + 512 ≤ 128 * j ∨ (h = 0 ∧ t0 + 384 ≤ 128 * j)) := by
  rw [(e37 e o).2.2.2.2.2.2.2.1]
  have ht := S.ht
  exact put_scr (L := []) (n := 128) (h0 := 0) (j0 := 4 * (e.i 2).val + 3) (r0 := 384) (f10_36 S) _ (off2_eq e.i) _ (g3_0_is S) (by omega) (by omega) (by omega)

theorem f10_38 : Scr t0 e.arg10 (c38 e o).b.f10 (Gh Q0 Q1 D0 D1 K V t0) (fun h j => t0 + 384 ≤ 128 * j) := by
  rw [(e38 e o).2.2.2.2.1]
  have ht := S.ht
  exact put_scr (L := []) (n := 128) (h0 := 1) (j0 := 4 * (e.i 2).val + 3) (r0 := 384) (f10_37 S) _ (off3_eq e.i) _ (g3_1_is S) (by omega) (by omega) (by omega)

theorem f10_40 : Scr t0 e.arg10 (c40 e o).b.f10 (Gh Q0 Q1 D0 D1 K V t0) (fun h j => t0 + 384 ≤ 128 * j ∨ (h = 0 ∧ t0 + 256 ≤ 128 * j)) := by
  rw [(e40 e o).2.2.2.2.2.1, (e39 e o).2.2.2.2.2.2.2.2.2.2.2.1]
  have ht := S.ht
  exact put_scr (L := []) (n := 256) (h0 := 0) (j0 := 4 * (e.i 2).val + 2) (r0 := 256) (f10_38 S) _ (off4_eq e.i) _ (g2_0_is S) (by omega) (by omega) (by omega)

theorem f10_41 : Scr t0 e.arg10 (c41 e o).b.f10 (Gh Q0 Q1 D0 D1 K V t0) (fun h j => t0 + 256 ≤ 128 * j) := by
  rw [(e41 e o).2.2.2.2.1]
  have ht := S.ht
  exact put_scr (L := []) (n := 256) (h0 := 1) (j0 := 4 * (e.i 2).val + 2) (r0 := 256) (f10_40 S) _ (off5_eq e.i) _ (g2_1_is S) (by omega) (by omega) (by omega)

theorem f10_43 : Scr t0 e.arg10 (c43 e o).b.f10 (Gh Q0 Q1 D0 D1 K V t0) (fun h j => t0 + 256 ≤ 128 * j ∨ (h = 0 ∧ t0 + 128 ≤ 128 * j)) := by
  rw [(e43 e o).2.2.2.2.2.2.1, (e42 e o).2.2.2.2.2.2.2.2.2.1]
  have ht := S.ht
  exact put_scr (L := []) (n := 384) (h0 := 0) (j0 := 4 * (e.i 2).val + 1) (r0 := 128) (f10_41 S) _ (off6_eq e.i) _ (g1_0_is S) (by omega) (by omega) (by omega)

theorem f10_44 : Scr t0 e.arg10 (c44 e o).b.f10 (Gh Q0 Q1 D0 D1 K V t0) (fun h j => t0 + 128 ≤ 128 * j) := by
  rw [(e44 e o).2.2.2.1]
  have ht := S.ht
  exact put_scr (L := []) (n := 384) (h0 := 1) (j0 := 4 * (e.i 2).val + 1) (r0 := 128) (f10_43 S) _ (off7_eq e.i) _ (g1_1_is S) (by omega) (by omega) (by omega)

theorem f10_46 : Scr t0 e.arg10 (c46 e o).b.f10 (Gh Q0 Q1 D0 D1 K V t0) (fun h j => t0 + 128 ≤ 128 * j ∨ (h = 0 ∧ t0 ≤ 128 * j)) := by
  rw [(e46 e o).2.2.2.2.2.2.2.1, (e45 e o).2.2.2.2.2.2.2.2.2.1]
  have ht := S.ht
  exact put_scr (L := []) (n := 512) (h0 := 0) (j0 := 4 * (e.i 2).val + 0) (r0 := 0) (f10_44 S) _ (off8_eq e.i) _ (g0_0_is S) (by omega) (by omega) (by omega)

theorem f11_36 : Scr t0 e.arg11 (c36 e o).b.f11 (Wh Q0 Q1 K t0) (fun h j => t0 + 512 ≤ 128 * j) := by
  intro h j p c h1 h2
  omega

theorem f11_37 : Scr t0 e.arg11 (c37 e o).b.f11 (Wh Q0 Q1 K t0) (fun h j => t0 + 512 ≤ 128 * j ∨ (h = 0 ∧ t0 + 384 ≤ 128 * j)) := by
  rw [(e37 e o).2.2.2.2.2.2.2.2]
  have ht := S.ht
  exact put_scr (L := []) (n := 128) (h0 := 0) (j0 := 4 * (e.i 2).val + 3) (r0 := 384) (f11_36 S) _ (off2_eq e.i) _ (w3_0_is S) (by omega) (by omega) (by omega)

theorem f11_38 : Scr t0 e.arg11 (c38 e o).b.f11 (Wh Q0 Q1 K t0) (fun h j => t0 + 384 ≤ 128 * j) := by
  rw [(e38 e o).2.2.2.2.2]
  have ht := S.ht
  exact put_scr (L := []) (n := 128) (h0 := 1) (j0 := 4 * (e.i 2).val + 3) (r0 := 384) (f11_37 S) _ (off3_eq e.i) _ (w3_1_is S) (by omega) (by omega) (by omega)

theorem f11_40 : Scr t0 e.arg11 (c40 e o).b.f11 (Wh Q0 Q1 K t0) (fun h j => t0 + 384 ≤ 128 * j ∨ (h = 0 ∧ t0 + 256 ≤ 128 * j)) := by
  rw [(e40 e o).2.2.2.2.2.2, (e39 e o).2.2.2.2.2.2.2.2.2.2.2.2]
  have ht := S.ht
  exact put_scr (L := []) (n := 256) (h0 := 0) (j0 := 4 * (e.i 2).val + 2) (r0 := 256) (f11_38 S) _ (off4_eq e.i) _ (w2_0_is S) (by omega) (by omega) (by omega)

theorem f11_41 : Scr t0 e.arg11 (c41 e o).b.f11 (Wh Q0 Q1 K t0) (fun h j => t0 + 256 ≤ 128 * j) := by
  rw [(e41 e o).2.2.2.2.2]
  have ht := S.ht
  exact put_scr (L := []) (n := 256) (h0 := 1) (j0 := 4 * (e.i 2).val + 2) (r0 := 256) (f11_40 S) _ (off5_eq e.i) _ (w2_1_is S) (by omega) (by omega) (by omega)

theorem f11_43 : Scr t0 e.arg11 (c43 e o).b.f11 (Wh Q0 Q1 K t0) (fun h j => t0 + 256 ≤ 128 * j ∨ (h = 0 ∧ t0 + 128 ≤ 128 * j)) := by
  rw [(e43 e o).2.2.2.2.2.2.2, (e42 e o).2.2.2.2.2.2.2.2.2.2]
  have ht := S.ht
  exact put_scr (L := []) (n := 384) (h0 := 0) (j0 := 4 * (e.i 2).val + 1) (r0 := 128) (f11_41 S) _ (off6_eq e.i) _ (w1_0_is S) (by omega) (by omega) (by omega)

theorem f11_44 : Scr t0 e.arg11 (c44 e o).b.f11 (Wh Q0 Q1 K t0) (fun h j => t0 + 128 ≤ 128 * j) := by
  rw [(e44 e o).2.2.2.2]
  have ht := S.ht
  exact put_scr (L := []) (n := 384) (h0 := 1) (j0 := 4 * (e.i 2).val + 1) (r0 := 128) (f11_43 S) _ (off7_eq e.i) _ (w1_1_is S) (by omega) (by omega) (by omega)

theorem f11_46 : Scr t0 e.arg11 (c46 e o).b.f11 (Wh Q0 Q1 K t0) (fun h j => t0 + 128 ≤ 128 * j ∨ (h = 0 ∧ t0 ≤ 128 * j)) := by
  rw [(e46 e o).2.2.2.2.2.2.2.2, (e45 e o).2.2.2.2.2.2.2.2.2.2]
  have ht := S.ht
  exact put_scr (L := []) (n := 512) (h0 := 0) (j0 := 4 * (e.i 2).val + 0) (r0 := 0) (f11_44 S) _ (off8_eq e.i) _ (w0_0_is S) (by omega) (by omega) (by omega)

end

end Cert.KernelIdeal.Hand
end
-- ==== Proof.IdealR.lean ====
/- The functions of one block and one head of the right sweep at ideal values: real numbers in, the real functions of the
   specification out. -/
module
public import proofs.«01_k».proof.Proof.IdealL
public import proofs.«01_k».proof.Proof.BlocksR

@[expose] public section

set_option maxRecDepth 16384
set_option maxHeartbeats 1000000

noncomputable section

namespace Cert.KernelIdeal.Hand

open Cert.KernelIdeal Cert.KernelIdeal.Gen
open Idealize.ShloMosaic

/-- The matrix of the sums over earlier keys, the key itself included. -/
def IsHead (u : FVec Ideal S128x128 .bf16) : Prop := Is2 u (fun r c => if r ≤ c then 1 else 0)
/-- The lanes of head `h` of the pair. -/
def IsMask (m : IVec S1x128 1) (h : ℕ) : Prop := ∀ l : Fin 128, m (ix2 0 l) = if l.val / 64 = h then 1#1 else 0#1
/-- The lanes of one head, the others zero. -/
def lanes (h : ℕ) (K : ℕ → ℕ → ℝ) (s l : ℕ) : ℝ := if l / 64 = h then K s l else 0
/-- The running sum over the keys before `s`. -/
def RG (G : ℕ → ℕ → ℝ) (p s : ℕ) : ℝ := ∑ s' ∈ Finset.range s, G p s'
/-- The scores' gradient. -/
def DZ (G W : ℕ → ℕ → ℝ) (t0 p s : ℕ) : ℝ := if s < t0 + p then G p s - W p s * RG G p (s + 1) else 0

theorem DZ_skip (G W : ℕ → ℕ → ℝ) (t0 p s : ℕ) (h : t0 + p ≤ s) : DZ G W t0 p s = 0 := if_neg (by omega)

theorem sum_head (f : ℕ → ℝ) (b c : ℕ) (hc : c < 128) :
    ∑ x : Fin 128, f (b + x) * (if (x : ℕ) ≤ c then 1 else 0) = ∑ s ∈ Finset.Ico b (b + c + 1), f s := by
  rw [Fin.sum_univ_eq_sum_range (fun x => f (b + x) * (if x ≤ c then 1 else 0)) 128]
  rw [← Finset.sum_range_add_sum_Ico _ (show c + 1 ≤ 128 by omega), Finset.sum_Ico_eq_sum_range f, show b + c + 1 - b = c + 1 by omega]
  rw [Finset.sum_eq_zero (s := Finset.Ico (c + 1) 128), add_zero]
  · refine Finset.sum_congr rfl fun x hx => ?_
    rw [Finset.mem_range] at hx
    rw [if_pos (by omega), mul_one]
  · intro x hx
    rw [Finset.mem_Ico] at hx
    rw [if_neg (by omega), mul_zero]

theorem RG_split (G : ℕ → ℕ → ℝ) (p b c : ℕ) : RG G p (b + c + 1) = (∑ s ∈ Finset.Ico b (b + c + 1), G p s) + RG G p b := by
  unfold RG
  rw [add_comm (∑ s ∈ Finset.Ico b (b + c + 1), G p s), Finset.sum_range_add_sum_Ico _ (show b ≤ b + c + 1 by omega)]

theorem RG_block (G : ℕ → ℕ → ℝ) (p b : ℕ) : RG G p (b + 128) = RG G p b + ∑ c : Fin 128, G p (b + c) := by
  unfold RG
  rw [Finset.sum_range_add, Fin.sum_univ_eq_sum_range (fun c => G p (b + c)) 128]

theorem RG_skip (G : ℕ → ℕ → ℝ) (p b : ℕ) (h : ∀ c < 128, G p (b + c) = 0) : RG G p (b + 128) = RG G p b := by
  rw [RG_block, Finset.sum_eq_zero (fun (c : Fin 128) _ => h c c.isLt), add_zero]

variable {G W A X Q K : ℕ → ℕ → ℝ} {t0 b : ℕ} {v31 : IVec S512x128 32} {k u : FVec Ideal S128x128 .bf16} {q : FVec Ideal S512x128 .bf16}

theorem kh_is {m : IVec S1x128 1} {h : ℕ} (hm : IsMask m h) (hk : Is2 k (fun c l => K (b + c) l)) : Is2 (kh m k) (fun c l => lanes h K (b + c) l) := by
  intro c l
  have h1 := hm l
  have h2 := hk c l
  pointwise [kh]
  rw [h1, h2]
  unfold lanes
  by_cases hl : l.val / 64 = h
  · rw [if_pos hl, if_pos hl]; rfl
  · rw [if_neg hl, if_neg hl]
    show ((((0#32 : BitVec 32).toInt : ℤ) : ℝ) : EReal) = _
    simp

theorem gg128_is {x : FVec Ideal S1x1x128x128 .f32} {f : ℕ → ℕ → ℝ} (hx : Is4 x f) : Is2 (gg128 x) f := by
  intro p c
  have := hx p c
  pointwise [gg128]
  exact this

theorem up128_is {g : FVec Ideal S128x128 .f32} (hg : Is2 g (fun p c => G (384 + p) (b + c))) (hu : IsHead u) {run : FVec Ideal S512x1 .f32} (hr : Is2 run (fun p _ => RG G p b)) :
    Is2 (up128 g u run) (fun p c => RG G (384 + p) (b + c + 1)) := by
  intro p c
  have hrun := hr ⟨384 + p.val, by omega⟩ 0
  pointwise [up128, cs128]
  simp only [hg _ _, hu _ _, coe_sub_self, sum_mul_coe, zero_mul, Finset.sum_const_zero]
  rw [hrun, ← EReal.coe_add, ← EReal.coe_add, add_zero, sum_head (G (384 + p.val)) b c c.isLt, RG_split]

theorem dz128_is {g w up : FVec Ideal S128x128 .f32} (hg : Is2 g (fun p c => G (384 + p) (b + c))) (hw : Is2 w (fun p c => W (384 + p) (b + c)))
    (hup : Is2 up (fun p c => RG G (384 + p) (b + c + 1))) (hv : IsPos v31) (hb : b = t0 + 384) : Is2 (dz128 v31 g w up) (fun p c => DZ G W t0 (384 + p) (b + c)) := by
  intro p c
  have h1 := hg p c
  have h2 := hw p c
  have h3 := hup p c
  pointwise [dz128, mk128]
  rw [h1, h2, h3, ← EReal.coe_mul, ← EReal.coe_sub]
  rw [hv ⟨p.val, by omega⟩ c, mask_select ⟨p.val, by omega⟩ c]
  unfold DZ
  by_cases h : c.val < p.val
  · rw [if_pos h, if_pos (by omega)]
  · rw [if_neg h, if_neg (by omega)]; rfl

theorem dk128_is {f : ℕ → ℕ → ℝ} {z : FVec Ideal S128x128 .bf16} (hz : Is2 z (fun p c => f (384 + p) (b + c))) (hq : Is2 q Q) {acc : FVec Ideal S128x128 .f32} (hacc : Is2 acc X)
    (h0 : ∀ p < 384, ∀ c < 128, f p (b + c) = 0) :
    Is2 (dk128 acc z q) (fun c l => X c l + ∑ p ∈ Finset.range 512, f p (b + c) * Q p l) := by
  intro c l
  pointwise [dk128]
  simp only [hz _ _, hq _ _, hacc _ _, sum_mul_coe]
  rw [← EReal.coe_add]
  rw [← sum_rows (fun p => f p (b + c) * Q p l) 128 384 (by omega) (fun p hp => by rw [h0 p hp c c.isLt, zero_mul])]

theorem dq128_is {f : ℕ → ℕ → ℝ} {z : FVec Ideal S128x128 .bf16} (hz : Is2 z (fun p c => f (384 + p) (b + c))) (hk : Is2 k (fun c l => K (b + c) l)) {acc : FVec Ideal S512x128 .f32} (hacc : Is2 acc A)
    (h0 : ∀ p < 384, ∀ c < 128, f p (b + c) = 0) :
    Is2 (dq128 acc z k) (fun p l => A p l + ∑ c : Fin 128, f p (b + c) * K (b + c) l) := by
  intro p l
  have ha := hacc p l
  by_cases h : p.val < 384
  · beta_reduce
    rw [Finset.sum_eq_zero (fun c _ => by rw [h0 p h c c.isLt, zero_mul]), add_zero]
    pointwise [dq128]
    rw [dif_pos h]
    exact ha
  · have hp : 384 + (p.val - 384) = p.val := by omega
    pointwise [dq128]
    rw [dif_neg h]
    simp only [hz _ _, hk _ _, sum_mul_coe, hp, Fin.eta]
    rw [ha, ← EReal.coe_add]

theorem gg256_is {x : FVec Ideal S1x1x256x128 .f32} {f : ℕ → ℕ → ℝ} (hx : Is4 x f) : Is2 (gg256 x) f := by
  intro p c
  have := hx p c
  pointwise [gg256]
  exact this

theorem up256_is {g : FVec Ideal S256x128 .f32} (hg : Is2 g (fun p c => G (256 + p) (b + c))) (hu : IsHead u) {run : FVec Ideal S512x1 .f32} (hr : Is2 run (fun p _ => RG G p b)) :
    Is2 (up256 g u run) (fun p c => RG G (256 + p) (b + c + 1)) := by
  intro p c
  have hrun := hr ⟨256 + p.val, by omega⟩ 0
  pointwise [up256, cs256]
  simp only [hg _ _, hu _ _, coe_sub_self, sum_mul_coe, zero_mul, Finset.sum_const_zero]
  rw [hrun, ← EReal.coe_add, ← EReal.coe_add, add_zero, sum_head (G (256 + p.val)) b c c.isLt, RG_split]

theorem dz256_is {g w up : FVec Ideal S256x128 .f32} (hg : Is2 g (fun p c => G (256 + p) (b + c))) (hw : Is2 w (fun p c => W (256 + p) (b + c)))
    (hup : Is2 up (fun p c => RG G (256 + p) (b + c + 1))) (hv : IsPos v31) (hb : b = t0 + 256) : Is2 (dz256 v31 g w up) (fun p c => DZ G W t0 (256 + p) (b + c)) := by
  intro p c
  have h1 := hg p c
  have h2 := hw p c
  have h3 := hup p c
  pointwise [dz256, mk256]
  rw [h1, h2, h3, ← EReal.coe_mul, ← EReal.coe_sub]
  rw [hv ⟨p.val, by omega⟩ c, mask_select ⟨p.val, by omega⟩ c]
  unfold DZ
  by_cases h : c.val < p.val
  · rw [if_pos h, if_pos (by omega)]
  · rw [if_neg h, if_neg (by omega)]; rfl

theorem dk256_is {f : ℕ → ℕ → ℝ} {z : FVec Ideal S256x128 .bf16} (hz : Is2 z (fun p c => f (256 + p) (b + c))) (hq : Is2 q Q) {acc : FVec Ideal S128x128 .f32} (hacc : Is2 acc X)
    (h0 : ∀ p < 256, ∀ c < 128, f p (b + c) = 0) :
    Is2 (dk256 acc z q) (fun c l => X c l + ∑ p ∈ Finset.range 512, f p (b + c) * Q p l) := by
  intro c l
  pointwise [dk256]
  simp only [hz _ _, hq _ _, hacc _ _, sum_mul_coe]
  rw [← EReal.coe_add]
  rw [← sum_rows (fun p => f p (b + c) * Q p l) 256 256 (by omega) (fun p hp => by rw [h0 p hp c c.isLt, zero_mul])]

theorem dq256_is {f : ℕ → ℕ → ℝ} {z : FVec Ideal S256x128 .bf16} (hz : Is2 z (fun p c => f (256 + p) (b + c))) (hk : Is2 k (fun c l => K (b + c) l)) {acc : FVec Ideal S512x128 .f32} (hacc : Is2 acc A)
    (h0 : ∀ p < 256, ∀ c < 128, f p (b + c) = 0) :
    Is2 (dq256 acc z k) (fun p l => A p l + ∑ c : Fin 128, f p (b + c) * K (b + c) l) := by
  intro p l
  have ha := hacc p l
  by_cases h : p.val < 256
  · beta_reduce
    rw [Finset.sum_eq_zero (fun c _ => by rw [h0 p h c c.isLt, zero_mul]), add_zero]
    pointwise [dq256]
    rw [dif_pos h]
    exact ha
  · have hp : 256 + (p.val - 256) = p.val := by omega
    pointwise [dq256]
    rw [dif_neg h]
    simp only [hz _ _, hk _ _, sum_mul_coe, hp, Fin.eta]
    rw [ha, ← EReal.coe_add]

theorem ru256_is {g : FVec Ideal S256x128 .f32} (hg : Is2 g (fun p c => G (256 + p) (b + c))) {run : FVec Ideal S512x1 .f32} (hr : Is2 run (fun p _ => RG G p b))
    (h0 : ∀ p < 256, ∀ c < 128, G p (b + c) = 0) : Is2 (ru256 run g) (fun p _ => RG G p (b + 128)) := by
  intro p l
  have ha := hr p 0
  by_cases h : p.val < 256
  · beta_reduce
    rw [RG_skip G p b (fun c hc => h0 p h c hc)]
    pointwise [ru256]
    rw [dif_pos h]
    exact ha
  · have hp : 256 + (p.val - 256) = p.val := by omega
    pointwise [ru256]
    rw [dif_neg h]
    simp only [hg _ _, coe_sum, hp, Fin.eta]
    rw [ha, ← EReal.coe_add, RG_block]

theorem gg384_is {x : FVec Ideal S1x1x384x128 .f32} {f : ℕ → ℕ → ℝ} (hx : Is4 x f) : Is2 (gg384 x) f := by
  intro p c
  have := hx p c
  pointwise [gg384]
  exact this

theorem up384_is {g : FVec Ideal S384x128 .f32} (hg : Is2 g (fun p c => G (128 + p) (b + c))) (hu : IsHead u) {run : FVec Ideal S512x1 .f32} (hr : Is2 run (fun p _ => RG G p b)) :
    Is2 (up384 g u run) (fun p c => RG G (128 + p) (b + c + 1)) := by
  intro p c
  have hrun := hr ⟨128 + p.val, by omega⟩ 0
  pointwise [up384, cs384]
  simp only [hg _ _, hu _ _, coe_sub_self, sum_mul_coe, zero_mul, Finset.sum_const_zero]
  rw [hrun, ← EReal.coe_add, ← EReal.coe_add, add_zero, sum_head (G (128 + p.val)) b c c.isLt, RG_split]

theorem dz384_is {g w up : FVec Ideal S384x128 .f32} (hg : Is2 g (fun p c => G (128 + p) (b + c))) (hw : Is2 w (fun p c => W (128 + p) (b + c)))
    (hup : Is2 up (fun p c => RG G (128 + p) (b + c + 1))) (hv : IsPos v31) (hb : b = t0 + 128) : Is2 (dz384 v31 g w up) (fun p c => DZ G W t0 (128 + p) (b + c)) := by
  intro p c
  have h1 := hg p c
  have h2 := hw p c
  have h3 := hup p c
  pointwise [dz384, mk384]
  rw [h1, h2, h3, ← EReal.coe_mul, ← EReal.coe_sub]
  rw [hv ⟨p.val, by omega⟩ c, mask_select ⟨p.val, by omega⟩ c]
  unfold DZ
  by_cases h : c.val < p.val
  · rw [if_pos h, if_pos (by omega)]
  · rw [if_neg h, if_neg (by omega)]; rfl

theorem dk384_is {f : ℕ → ℕ → ℝ} {z : FVec Ideal S384x128 .bf16} (hz : Is2 z (fun p c => f (128 + p) (b + c))) (hq : Is2 q Q) {acc : FVec Ideal S128x128 .f32} (hacc : Is2 acc X)
    (h0 : ∀ p < 128, ∀ c < 128, f p (b + c) = 0) :
    Is2 (dk384 acc z q) (fun c l => X c l + ∑ p ∈ Finset.range 512, f p (b + c) * Q p l) := by
  intro c l
  pointwise [dk384]
  simp only [hz _ _, hq _ _, hacc _ _, sum_mul_coe]
  rw [← EReal.coe_add]
  rw [← sum_rows (fun p => f p (b + c) * Q p l) 384 128 (by omega) (fun p hp => by rw [h0 p hp c c.isLt, zero_mul])]

theorem dq384_is {f : ℕ → ℕ → ℝ} {z : FVec Ideal S384x128 .bf16} (hz : Is2 z (fun p c => f (128 + p) (b + c))) (hk : Is2 k (fun c l => K (b + c) l)) {acc : FVec Ideal S512x128 .f32} (hacc : Is2 acc A)
    (h0 : ∀ p < 128, ∀ c < 128, f p (b + c) = 0) :
    Is2 (dq384 acc z k) (fun p l => A p l + ∑ c : Fin 128, f p (b + c) * K (b + c) l) := by
  intro p l
  have ha := hacc p l
  by_cases h : p.val < 128
  · beta_reduce
    rw [Finset.sum_eq_zero (fun c _ => by rw [h0 p h c c.isLt, zero_mul]), add_zero]
    pointwise [dq384]
    rw [dif_pos h]
    exact ha
  · have hp : 128 + (p.val - 128) = p.val := by omega
    pointwise [dq384]
    rw [dif_neg h]
    simp only [hz _ _, hk _ _, sum_mul_coe, hp, Fin.eta]
    rw [ha, ← EReal.coe_add]

theorem ru384_is {g : FVec Ideal S384x128 .f32} (hg : Is2 g (fun p c => G (128 + p) (b + c))) {run : FVec Ideal S512x1 .f32} (hr : Is2 run (fun p _ => RG G p b))
    (h0 : ∀ p < 128, ∀ c < 128, G p (b + c) = 0) : Is2 (ru384 run g) (fun p _ => RG G p (b + 128)) := by
  intro p l
  have ha := hr p 0
  by_cases h : p.val < 128
  · beta_reduce
    rw [RG_skip G p b (fun c hc => h0 p h c hc)]
    pointwise [ru384]
    rw [dif_pos h]
    exact ha
  · have hp : 128 + (p.val - 128) = p.val := by omega
    pointwise [ru384]
    rw [dif_neg h]
    simp only [hg _ _, coe_sum, hp, Fin.eta]
    rw [ha, ← EReal.coe_add, RG_block]

theorem gg512_is {x : FVec Ideal S1x1x512x128 .f32} {f : ℕ → ℕ → ℝ} (hx : Is4 x f) : Is2 (gg512 x) f := by
  intro p c
  have := hx p c
  pointwise [gg512]
  exact this

theorem up512_is {g : FVec Ideal S512x128 .f32} (hg : Is2 g (fun p c => G p (b + c))) (hu : IsHead u) {run : FVec Ideal S512x1 .f32} (hr : Is2 run (fun p _ => RG G p b)) :
    Is2 (up512 g u run) (fun p c => RG G p (b + c + 1)) := by
  intro p c
  have hrun := hr p 0
  pointwise [up512, cs512]
  simp only [hg _ _, hu _ _, coe_sub_self, sum_mul_coe, zero_mul, Finset.sum_const_zero]
  rw [hrun, ← EReal.coe_add, ← EReal.coe_add, add_zero, sum_head (G p) b c c.isLt, RG_split]

theorem dz512_is {g w up : FVec Ideal S512x128 .f32} (hg : Is2 g (fun p c => G p (b + c))) (hw : Is2 w (fun p c => W p (b + c)))
    (hup : Is2 up (fun p c => RG G p (b + c + 1))) (hv : IsPos v31) (hb : b = t0) : Is2 (dz512 v31 g w up) (fun p c => DZ G W t0 p (b + c)) := by
  intro p c
  have h1 := hg p c
  have h2 := hw p c
  have h3 := hup p c
  pointwise [dz512, mk512]
  rw [h1, h2, h3, ← EReal.coe_mul, ← EReal.coe_sub]
  rw [hv p c, mask_select p c]
  unfold DZ
  by_cases h : c.val < p.val
  · rw [if_pos h, if_pos (by omega)]
  · rw [if_neg h, if_neg (by omega)]; rfl

theorem dk512_is {f : ℕ → ℕ → ℝ} {z : FVec Ideal S512x128 .bf16} (hz : Is2 z (fun p c => f p (b + c))) (hq : Is2 q Q) {acc : FVec Ideal S128x128 .f32} (hacc : Is2 acc X)
    (h0 : ∀ p < 0, ∀ c < 128, f p (b + c) = 0) :
    Is2 (dk512 acc z q) (fun c l => X c l + ∑ p ∈ Finset.range 512, f p (b + c) * Q p l) := by
  intro c l
  pointwise [dk512]
  simp only [hz _ _, hq _ _, hacc _ _, sum_mul_coe]
  rw [← EReal.coe_add]
  rw [← Fin.sum_univ_eq_sum_range (fun p => f p (b + c) * Q p l) 512]

theorem dq512_is {f : ℕ → ℕ → ℝ} {z : FVec Ideal S512x128 .bf16} (hz : Is2 z (fun p c => f p (b + c))) (hk : Is2 k (fun c l => K (b + c) l)) {acc : FVec Ideal S512x128 .f32} (hacc : Is2 acc A) :
    Is2 (dq512 acc z k) (fun p l => A p l + ∑ c : Fin 128, f p (b + c) * K (b + c) l) := by
  intro p l
  pointwise [dq512]
  simp only [hz _ _, hk _ _, hacc _ _, sum_mul_coe]
  rw [← EReal.coe_add]

theorem ru512_is {g : FVec Ideal S512x128 .f32} (hg : Is2 g (fun p c => G p (b + c))) {run : FVec Ideal S512x1 .f32} (hr : Is2 run (fun p _ => RG G p b)) :
    Is2 (ru512 run g) (fun p _ => RG G p (b + 128)) := by
  intro p l
  have ha := hr p l
  pointwise [ru512]
  simp only [hg _ _, coe_sum]
  rw [ha, ← EReal.coe_add, RG_block]

theorem dzU_is {g w up : FVec Ideal S512x128 .f32} (hg : Is2 g (fun p c => G p (b + c))) (hw : Is2 w (fun p c => W p (b + c)))
    (hup : Is2 up (fun p c => RG G p (b + c + 1))) (hb : b + 128 ≤ t0) : Is2 (dzU g w up) (fun p c => DZ G W t0 p (b + c)) := by
  intro p c
  have h1 := hg p c
  have h2 := hw p c
  have h3 := hup p c
  pointwise [dzU]
  rw [h1, h2, h3, ← EReal.coe_mul, ← EReal.coe_sub]
  unfold DZ
  rw [if_pos (by omega)]

end Cert.KernelIdeal.Hand
end
-- ==== Proof.StoreR.lean ====
/- The right sweep's reads of the scratch arrays and its additions to the keys' gradient at ideal values, and the real
   functions it computes from the left sweep's. -/
module
public import proofs.«01_k».proof.Proof.DiagL
public import proofs.«01_k».proof.Proof.IdealR

@[expose] public section

set_option maxRecDepth 16384
set_option maxHeartbeats 1000000

noncomputable section

namespace Cert.KernelIdeal.Hand

open Cert.KernelIdeal Cert.KernelIdeal.Gen
open Idealize.ShloMosaic

/-- A block read of a scratch array, all its rows at or after the block's first position. -/
theorem readAt_scr {n t0 : ℕ} {m : Memref sig .tc .vmem S2x16x512x128 .f32} {f : BufTy.Contents (Elt Ideal) m.view.ty}
    {G : ℕ → ℕ → ℕ → ℝ} {P : ℕ → ℕ → Prop} (h : Scr t0 m f G P)
    {off : Fin 4 → ℕ} (inb : ∀ a, off a + (![1, 1, n, 128] : Fin 4 → ℕ) a ≤ S2x16x512x128.size a) {h0 j0 r0 b : ℕ} (ho : off = ![h0, j0, r0, 0])
    (hP : P h0 j0) (hle : 128 * j0 ≤ t0 + r0) (hb : 128 * j0 = b) :
    Is4 (φ := .f32) (m.view.readAt (Elt Ideal) (Rect.unit (s := S2x16x512x128) off ![1, 1, n, 128] inb).toLoadRect f) (fun p c => G h0 (r0 + p) (b + c)) := by
  subst ho
  intro p c
  have i0 : h0 + 1 ≤ 2 := inb 0
  have i1 : j0 + 1 ≤ 16 := inb 1
  have i2 : r0 + n ≤ 512 := inb 2
  have := h ⟨h0, by omega⟩ ⟨j0, by omega⟩ ⟨r0 + p.val, by omega⟩ c hP (by show 128 * j0 ≤ t0 + (r0 + p.val); omega)
  beta_reduce
  rw [← hb]
  refine Eq.trans ?_ this
  refine congrArg (m.view.read (Elt Ideal) f) (funext fun a => Fin.ext ?_)
  match a with
  | ⟨0, _⟩ => show h0 + 1 * 0 = h0; omega
  | ⟨1, _⟩ => show j0 + 1 * 0 = j0; omega
  | ⟨2, _⟩ => show r0 + 1 * p.val = r0 + p.val; omega
  | ⟨3, _⟩ => show 0 + 1 * c.val = c.val; omega

/-- A block of rows stored, its rows and a block's added: the rows of the block gain the block's, the others stay. -/
theorem put_rows {m : Memref sig .tc .vmem S2048x128 .f32} {f : BufTy.Contents (Elt Ideal) m.view.ty} {L : List (View.Piece (Elt Ideal) S2048x128 .f32)}
    {X Y Z : ℕ → ℕ → ℝ} (h : Rows m (m.view.writes (Elt Ideal) f L) X)
    {off : Fin 2 → ℕ} (inb : ∀ a, off a + S128x128.size a ≤ S2048x128.size a) {o : ℕ} (ho : off = ![o, 0])
    {x y : FVec Ideal S128x128 .f32} (hx : Is2 x (fun c l => X (o + c) l)) (hy : Is2 y (fun c l => Y (o + c) l))
    (hin : ∀ s l, o ≤ s → s < o + 128 → l < 128 → Z s l = X s l + Y s l) (hout : ∀ s l, s < 2048 → l < 128 → (s < o ∨ o + 128 ≤ s) → Z s l = X s l) :
    Rows m (m.view.writes (Elt Ideal) f (⟨Rect.unit (s := S2048x128) off S128x128.size inb,
      addf (shapeCast S128x128 x shapeCasts_S128x128_S128x128) y⟩ :: L)) Z := by
  intro s l
  have hb : o + 128 ≤ 2048 := by have := inb 0; rw [ho] at this; exact this
  by_cases hs : o ≤ s.val ∧ s.val < o + 128
  · have e := View.read_writes_cons_rows_of_mem m.view f inb (addf (shapeCast S128x128 x shapeCasts_S128x128_S128x128) y) L (ix2 s l) (ix2 (⟨s.val - o, by omega⟩ : Fin 128) l) ho
      (show s.val = o + (s.val - o) by omega) rfl
    refine e.trans ?_
    have hr' := hx ⟨s.val - o, by omega⟩ l
    have hy' := hy ⟨s.val - o, by omega⟩ l
    simp only [show o + (s.val - o) = s.val by omega] at hr' hy'
    pointwise
    rw [hr', hy', hin _ _ hs.1 hs.2 l.isLt, EReal.coe_add]
  · have e := View.read_writes_cons_rows_of_not_mem m.view f inb (addf (shapeCast S128x128 x shapeCasts_S128x128_S128x128) y) L (ix2 s l) ho (W := 128) rfl
      (show s.val < o ∨ o + 128 ≤ s.val by omega)
    refine e.trans ((h s l).trans ?_)
    rw [hout _ _ s.isLt l.isLt (by omega)]

section

variable (Q0 Q1 D0 D1 K V : ℕ → ℕ → ℝ) (t0 : ℕ)

/-- The scores' gradient of head `h`. -/
def Zh (h p s : ℕ) : ℝ := DZ (Gh Q0 Q1 D0 D1 K V t0 h) (Wh Q0 Q1 K t0 h) t0 p s
/-- What the point adds to the keys' gradient at a key. -/
def Ck (s l : ℕ) : ℝ :=
  ∑ p ∈ Finset.range 512, Zh Q0 Q1 D0 D1 K V t0 0 p s * Q0 p l + ∑ p ∈ Finset.range 512, Zh Q0 Q1 D0 D1 K V t0 1 p s * Q1 p l
/-- The queries' gradient from the keys before `B`. -/
def Qa (B p l : ℕ) : ℝ := ∑ s ∈ Finset.range B, (Zh Q0 Q1 D0 D1 K V t0 0 p s * lanes 0 K s l + Zh Q0 Q1 D0 D1 K V t0 1 p s * lanes 1 K s l)
/-- The keys' gradient with the key blocks before `B` done. -/
def before (X : ℕ → ℕ → ℝ) (B s l : ℕ) : ℝ := X s l + if s < B then Ck Q0 Q1 D0 D1 K V t0 s l else 0

theorem Gh_skip (h p s : ℕ) (hp : t0 + p ≤ s) : Gh Q0 Q1 D0 D1 K V t0 h p s = 0 := by
  unfold Gh Gs
  rw [As_skip _ _ _ _ _ hp, As_skip _ _ _ _ _ hp, zero_mul, zero_mul, ite_self]

theorem Zh_skip (h p s : ℕ) (hp : t0 + p ≤ s) : Zh Q0 Q1 D0 D1 K V t0 h p s = 0 := DZ_skip _ _ _ _ _ hp

theorem Ck_skip (s l : ℕ) (h : t0 + 512 ≤ s) : Ck Q0 Q1 D0 D1 K V t0 s l = 0 := by
  unfold Ck
  rw [Finset.sum_eq_zero, Finset.sum_eq_zero, add_zero]
  all_goals
    intro p hp
    rw [Finset.mem_range] at hp
    rw [Zh_skip _ _ _ _ _ _ _ _ _ _ (by omega), zero_mul]

theorem Qa_block (b p l : ℕ) : Qa Q0 Q1 D0 D1 K V t0 (b + 128) p l
    = Qa Q0 Q1 D0 D1 K V t0 b p l + ∑ c : Fin 128, Zh Q0 Q1 D0 D1 K V t0 0 p (b + c) * lanes 0 K (b + c) l + ∑ c : Fin 128, Zh Q0 Q1 D0 D1 K V t0 1 p (b + c) * lanes 1 K (b + c) l := by
  unfold Qa
  rw [Finset.sum_range_add, ← Fin.sum_univ_eq_sum_range (fun c => Zh Q0 Q1 D0 D1 K V t0 0 p (b + c) * lanes 0 K (b + c) l + Zh Q0 Q1 D0 D1 K V t0 1 p (b + c) * lanes 1 K (b + c) l) 128]
  simp only [Finset.sum_add_distrib]
  ring

end

/-- What the right sweep has done, every key before `B`: the queries' gradient, the two running sums, the keys' gradient. -/
structure SweptR (Q0 Q1 D0 D1 K V X : ℕ → ℕ → ℝ) (t0 : ℕ) (m8 : Memref sig .tc .vmem S2048x128 .f32)
    (dq : FVec Ideal S512x128 .f32) (run0 run1 : FVec Ideal S512x1 .f32) (f8 : BufTy.Contents (Elt Ideal) m8.view.ty) (B : ℕ) : Prop where
  dq : Is2 dq (Qa Q0 Q1 D0 D1 K V t0 B)
  r0 : Is2 run0 (fun p _ => RG (Gh Q0 Q1 D0 D1 K V t0 0) p B)
  r1 : Is2 run1 (fun p _ => RG (Gh Q0 Q1 D0 D1 K V t0 1) p B)
  rows : Rows m8 f8 (before Q0 Q1 D0 D1 K V t0 X B)

end Cert.KernelIdeal.Hand
end
-- ==== Proof.EqTR.lean ====
/- What one trip of the right sweep's loop carries and writes, as the functions of one block and one head, over any
   float values: four blocks of keys, from the earlier to the later. -/
module
public import proofs.«01_k».proof.Proof.Gen.KernelIdeal.Loops
public import proofs.«01_k».proof.Proof.BlocksR

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The scores' gradient of a block left of the diagonal. -/
def dzT (u : FVec F S128x128 .bf16) (run : FVec F S512x1 .f32) (g w : FVec F S512x128 .f32) : FVec F S512x128 .bf16 := dzU g w (up512 g u run)

theorem tripR_r0 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (X_arg4 : BufTy.Contents (Elt F) arg4.view.ty) (X_arg10 : BufTy.Contents (Elt F) arg10.view.ty) (X_arg11 : BufTy.Contents (Elt F) arg11.view.ty) (k : Fin (k0_t3_loop i).trips) (acc : FVec F S512x128 .f32 × FVec F S512x1 .f32 × FVec F S512x1 .f32) (f8 : BufTy.Contents (Elt F) arg8.view.ty) :
    ((trip_k0_t3 (F := F) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).2.1 = (ru512 (ru512 (ru512 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10))) (gg512 (arg10.view.readAt (Elt F) (Rect.unit (s := S2x16x512x128) (k0_off17 i k 2#32) S1x1x512x128.size (k0_off17_inb i k 2)).toLoadRect X_arg10))) (gg512 (arg10.view.readAt (Elt F) (Rect.unit (s := S2x16x512x128) (k0_off17 i k 3#32) S1x1x512x128.size (k0_off17_inb i k 3)).toLoadRect X_arg10))) := by unfold trip_k0_t3; rfl

theorem tripR_r1 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (X_arg4 : BufTy.Contents (Elt F) arg4.view.ty) (X_arg10 : BufTy.Contents (Elt F) arg10.view.ty) (X_arg11 : BufTy.Contents (Elt F) arg11.view.ty) (k : Fin (k0_t3_loop i).trips) (acc : FVec F S512x128 .f32 × FVec F S512x1 .f32 × FVec F S512x1 .f32) (f8 : BufTy.Contents (Elt F) arg8.view.ty) :
    ((trip_k0_t3 (F := F) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).2.2 = (ru512 (ru512 (ru512 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10))) (gg512 (arg10.view.readAt (Elt F) (Rect.unit (s := S2x16x512x128) (k0_off18 i k 2#32) S1x1x512x128.size (k0_off18_inb i k 2)).toLoadRect X_arg10))) (gg512 (arg10.view.readAt (Elt F) (Rect.unit (s := S2x16x512x128) (k0_off18 i k 3#32) S1x1x512x128.size (k0_off18_inb i k 3)).toLoadRect X_arg10))) := by unfold trip_k0_t3; rfl

theorem tripR_dq (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (X_arg4 : BufTy.Contents (Elt F) arg4.view.ty) (X_arg10 : BufTy.Contents (Elt F) arg10.view.ty) (X_arg11 : BufTy.Contents (Elt F) arg11.view.ty) (k : Fin (k0_t3_loop i).trips) (acc : FVec F S512x128 .f32 × FVec F S512x1 .f32 × FVec F S512x1 .f32) (f8 : BufTy.Contents (Elt F) arg8.view.ty) :
    ((trip_k0_t3 (F := F) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).1 = (dq512 (dq512 (dq512 (dq512 (dq512 (dq512 (dq512 (dq512 acc.1 (dzT v39 acc.2.1 (gg512 (arg10.view.readAt (Elt F) (Rect.unit (s := S2x16x512x128) (k0_off17 i k 0#32) S1x1x512x128.size (k0_off17_inb i k 0)).toLoadRect X_arg10)) (gg512 (arg11.view.readAt (Elt F) (Rect.unit (s := S2x16x512x128) (k0_off17 i k 0#32) S1x1x512x128.size (k0_off17_inb i k 0)).toLoadRect X_arg11))) (kh v8 (truncf .bf16 (arg4.view.readAt (Elt F) (Rect.unit (s := S2048x128) (k0_off16 i k 0#32) S128x128.size (k0_off16_inb i k 0)).toLoadRect X_arg4) bitsLt_bf16_f32))) (dzT v39 acc.2.2 (gg512 (arg10.view.readAt (Elt F) (Rect.unit (s := S2x16x512x128) (k0_off18 i k 0#32) S1x1x512x128.size (k0_off18_inb i k 0)).toLoadRect X_arg10)) (gg512 (arg11.view.readAt (Elt F) (Rect.unit (s := S2x16x512x128) (k0_off18 i k 0#32) S1x1x512x128.size (k0_off18_inb i k 0)).toLoadRect X_arg11))) (kh v13 (truncf .bf16 (arg4.view.readAt (Elt F) (Rect.unit (s := S2048x128) (k0_off16 i k 0#32) S128x128.size (k0_off16_inb i k 0)).toLoadRect X_arg4) bitsLt_bf16_f32))) (dzT v39 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10)) (gg512 (arg11.view.readAt (Elt F) (Rect.unit (s := S2x16x512x128) (k0_off17 i k 1#32) S1x1x512x128.size (k0_off17_inb i k 1)).toLoadRect X_arg11))) (kh v8 (truncf .bf16 (arg4.view.readAt (Elt F) (Rect.unit (s := S2048x128) (k0_off16 i k 1#32) S128x128.size (k0_off16_inb i k 1)).toLoadRect X_arg4) bitsLt_bf16_f32))) (dzT v39 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10)) (gg512 (arg11.view.readAt (Elt F) (Rect.unit (s := S2x16x512x128) (k0_off18 i k 1#32) S1x1x512x128.size (k0_off18_inb i k 1)).toLoadRect X_arg11))) (kh v13 (truncf .bf16 (arg4.view.readAt (Elt F) (Rect.unit (s := S2048x128) (k0_off16 i k 1#32) S128x128.size (k0_off16_inb i k 1)).toLoadRect X_arg4) bitsLt_bf16_f32))) (dzT v39 (ru512 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10))) (gg512 (arg10.view.readAt (Elt F) (Rect.unit (s := S2x16x512x128) (k0_off17 i k 2#32) S1x1x512x128.size (k0_off17_inb i k 2)).toLoadRect X_arg10)) (gg512 (arg11.view.readAt (Elt F) (Rect.unit (s := S2x16x512x128) (k0_off17 i k 2#32) S1x1x512x128.size (k0_off17_inb i k 2)).toLoadRect X_arg11))) (kh v8 (truncf .bf16 (arg4.view.readAt (Elt F) (Rect.unit (s := S2048x128) (k0_off16 i k 2#32) S128x128.size (k0_off16_inb i k 2)).toLoadRect X_arg4) bitsLt_bf16_f32))) (dzT v39 (ru512 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10))) (gg512 (arg10.view.readAt (Elt F) (Rect.unit (s := S2x16x512x128) (k0_off18 i k 2#32) S1x1x512x128.size (k0_off18_inb i k 2)).toLoadRect X_arg10)) (gg512 (arg11.view.readAt (Elt F) (Rect.unit (s := S2x16x512x128) (k0_off18 i k 2#32) S1x1x512x128.size (k0_off18_inb i k 2)).toLoadRect X_arg11))) (kh v13 (truncf .bf16 (arg4.view.readAt (Elt F) (Rect.unit (s := S2048x128) (k0_off16 i k 2#32) S128x128.size (k0_off16_inb i k 2)).toLoadRect X_arg4) bitsLt_bf16_f32))) (dzT v39 (ru512 (ru512 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10))) (gg512 (arg10.view.readAt (Elt F) (Rect.unit (s := S2x16x512x128) (k0_off17 i k 2#32) S1x1x512x128.size (k0_off17_inb i k 2)).toLoadRect X_arg10))) (gg512 (arg10.view.readAt (Elt F) (Rect.unit (s := S2x16x512x128) (k0_off17 i k 3#32) S1x1x512x128.size (k0_off17_inb i k 3)).toLoadRect X_arg10)) (gg512 (arg11.view.readAt (Elt F) (Rect.unit (s := S2x16x512x128) (k0_off17 i k 3#32) S1x1x512x128.size (k0_off17_inb i k 3)).toLoadRect X_arg11))) (kh v8 (truncf .bf16 (arg4.view.readAt (Elt F) (Rect.unit (s := S2048x128) (k0_off16 i k 3#32) S128x128.size (k0_off16_inb i k 3)).toLoadRect X_arg4) bitsLt_bf16_f32))) (dzT v39 (ru512 (ru512 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10))) (gg512 (arg10.view.readAt (Elt F) (Rect.unit (s := S2x16x512x128) (k0_off18 i k 2#32) S1x1x512x128.size (k0_off18_inb i k 2)).toLoadRect X_arg10))) (gg512 (arg10.view.readAt (Elt F) (Rect.unit (s := S2x16x512x128) (k0_off18 i k 3#32) S1x1x512x128.size (k0_off18_inb i k 3)).toLoadRect X_arg10)) (gg512 (arg11.view.readAt (Elt F) (Rect.unit (s := S2x16x512x128) (k0_off18 i k 3#32) S1x1x512x128.size (k0_off18_inb i k 3)).toLoadRect X_arg11))) (kh v13 (truncf .bf16 (arg4.view.readAt (Elt F) (Rect.unit (s := S2048x128) (k0_off16 i k 3#32) S128x128.size (k0_off16_inb i k 3)).toLoadRect X_arg4) bitsLt_bf16_f32))) := by unfold trip_k0_t3; rfl

theorem tripR_p8 (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec F S512x128 .bf16) (v26 : FVec F S512x128 .bf16) (v31 : IVec S512x128 32) (v39 : FVec F S128x128 .bf16) (v542 : BitVec 32) (v550 : FVec F S512x128 .f32) (v551 : FVec F S512x1 .f32) (X_arg4 : BufTy.Contents (Elt F) arg4.view.ty) (X_arg10 : BufTy.Contents (Elt F) arg10.view.ty) (X_arg11 : BufTy.Contents (Elt F) arg11.view.ty) (k : Fin (k0_t3_loop i).trips) (acc : FVec F S512x128 .f32 × FVec F S512x1 .f32 × FVec F S512x1 .f32) (f8 : BufTy.Contents (Elt F) arg8.view.ty) :
    (trip_k0_t3 (F := F) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).2.1 acc f8 = [⟨(Rect.unit (s := S2048x128) (k0_off16 i k 3#32) S128x128.size (k0_off16_inb i k 3)), addf (shapeCast S128x128 (arg8.view.readAt (Elt F) (Rect.unit (s := S2048x128) (k0_off16 i k 3#32) S128x128.size (k0_off16_inb i k 3)).toLoadRect f8) shapeCasts_S128x128_S128x128) (dk512 (dk512 (broadcast S128x128 (Scalar.ofBits .f32 0x00000000#32)) (dzT v39 (ru512 (ru512 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10))) (gg512 (arg10.view.readAt (Elt F) (Rect.unit (s := S2x16x512x128) (k0_off17 i k 2#32) S1x1x512x128.size (k0_off17_inb i k 2)).toLoadRect X_arg10))) (gg512 (arg10.view.readAt (Elt F) (Rect.unit (s := S2x16x512x128) (k0_off17 i k 3#32) S1x1x512x128.size (k0_off17_inb i k 3)).toLoadRect X_arg10)) (gg512 (arg11.view.readAt (Elt F) (Rect.unit (s := S2x16x512x128) (k0_off17 i k 3#32) S1x1x512x128.size (k0_off17_inb i k 3)).toLoadRect X_arg11))) v21) (dzT v39 (ru512 (ru512 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10))) (gg512 (arg10.view.readAt (Elt F) (Rect.unit (s := S2x16x512x128) (k0_off18 i k 2#32) S1x1x512x128.size (k0_off18_inb i k 2)).toLoadRect X_arg10))) (gg512 (arg10.view.readAt (Elt F) (Rect.unit (s := S2x16x512x128) (k0_off18 i k 3#32) S1x1x512x128.size (k0_off18_inb i k 3)).toLoadRect X_arg10)) (gg512 (arg11.view.readAt (Elt F) (Rect.unit (s := S2x16x512x128) (k0_off18 i k 3#32) S1x1x512x128.size (k0_off18_inb i k 3)).toLoadRect X_arg11))) v26)⟩, ⟨(Rect.unit (s := S2048x128) (k0_off16 i k 2#32) S128x128.size (k0_off16_inb i k 2)), addf (shapeCast S128x128 (arg8.view.readAt (Elt F) (Rect.unit (s := S2048x128) (k0_off16 i k 2#32) S128x128.size (k0_off16_inb i k 2)).toLoadRect f8) shapeCasts_S128x128_S128x128) (dk512 (dk512 (broadcast S128x128 (Scalar.ofBits .f32 0x00000000#32)) (dzT v39 (ru512 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10))) (gg512 (arg10.view.readAt (Elt F) (Rect.unit (s := S2x16x512x128) (k0_off17 i k 2#32) S1x1x512x128.size (k0_off17_inb i k 2)).toLoadRect X_arg10)) (gg512 (arg11.view.readAt (Elt F) (Rect.unit (s := S2x16x512x128) (k0_off17 i k 2#32) S1x1x512x128.size (k0_off17_inb i k 2)).toLoadRect X_arg11))) v21) (dzT v39 (ru512 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10))) (gg512 (arg10.view.readAt (Elt F) (Rect.unit (s := S2x16x512x128) (k0_off18 i k 2#32) S1x1x512x128.size (k0_off18_inb i k 2)).toLoadRect X_arg10)) (gg512 (arg11.view.readAt (Elt F) (Rect.unit (s := S2x16x512x128) (k0_off18 i k 2#32) S1x1x512x128.size (k0_off18_inb i k 2)).toLoadRect X_arg11))) v26)⟩, ⟨(Rect.unit (s := S2048x128) (k0_off16 i k 1#32) S128x128.size (k0_off16_inb i k 1)), addf (shapeCast S128x128 (arg8.view.readAt (Elt F) (Rect.unit (s := S2048x128) (k0_off16 i k 1#32) S128x128.size (k0_off16_inb i k 1)).toLoadRect f8) shapeCasts_S128x128_S128x128) (dk512 (dk512 (broadcast S128x128 (Scalar.ofBits .f32 0x00000000#32)) (dzT v39 (ru512 acc.2.1 (gg512 (arg10.view.readAt (Elt F) (Rect.unit (s := S2x16x512x128) (k0_off17 i k 0#32) S1x1x512x128.size (k0_off17_inb i k 0)).toLoadRect X_arg10))) (gg512 (arg10.view.readAt (Elt F) (Rect.unit (s := S2x16x512x128) (k0_off17 i k 1#32) S1x1x512x128.size (k0_off17_inb i k 1)).toLoadRect X_arg10)) (gg512 (arg11.view.readAt (Elt F) (Rect.unit (s := S2x16x512x128) (k0_off17 i k 1#32) S1x1x512x128.size (k0_off17_inb i k 1)).toLoadRect X_arg11))) v21) (dzT v39 (ru512 acc.2.2 (gg512 (arg10.view.readAt (Elt F) (Rect.unit (s := S2x16x512x128) (k0_off18 i k 0#32) S1x1x512x128.size (k0_off18_inb i k 0)).toLoadRect X_arg10))) (gg512 (arg10.view.readAt (Elt F) (Rect.unit (s := S2x16x512x128) (k0_off18 i k 1#32) S1x1x512x128.size (k0_off18_inb i k 1)).toLoadRect X_arg10)) (gg512 (arg11.view.readAt (Elt F) (Rect.unit (s := S2x16x512x128) (k0_off18 i k 1#32) S1x1x512x128.size (k0_off18_inb i k 1)).toLoadRect X_arg11))) v26)⟩, ⟨(Rect.unit (s := S2048x128) (k0_off16 i k 0#32) S128x128.size (k0_off16_inb i k 0)), addf (shapeCast S128x128 (arg8.view.readAt (Elt F) (Rect.unit (s := S2048x128) (k0_off16 i k 0#32) S128x128.size (k0_off16_inb i k 0)).toLoadRect f8) shapeCasts_S128x128_S128x128) (dk512 (dk512 (broadcast S128x128 (Scalar.ofBits .f32 0x00000000#32)) (dzT v39 acc.2.1 (gg512 (arg10.view.readAt (Elt F) (Rect.unit (s := S2x16x512x128) (k0_off17 i k 0#32) S1x1x512x128.size (k0_off17_inb i k 0)).toLoadRect X_arg10)) (gg512 (arg11.view.readAt (Elt F) (Rect.unit (s := S2x16x512x128) (k0_off17 i k 0#32) S1x1x512x128.size (k0_off17_inb i k 0)).toLoadRect X_arg11))) v21) (dzT v39 acc.2.2 (gg512 (arg10.view.readAt (Elt F) (Rect.unit (s := S2x16x512x128) (k0_off18 i k 0#32) S1x1x512x128.size (k0_off18_inb i k 0)).toLoadRect X_arg10)) (gg512 (arg11.view.readAt (Elt F) (Rect.unit (s := S2x16x512x128) (k0_off18 i k 0#32) S1x1x512x128.size (k0_off18_inb i k 0)).toLoadRect X_arg11))) v26)⟩] := by unfold trip_k0_t3; rfl

end Cert.KernelIdeal.Hand
end
-- ==== Proof.TripR.lean ====
/- One trip of the right sweep's loop at ideal values, and the loop: every key before the trip's last is done. -/
module
public import proofs.«01_k».proof.Proof.StoreR
public import proofs.«01_k».proof.Proof.EqTR

@[expose] public section

set_option maxRecDepth 16384
set_option maxHeartbeats 2000000

noncomputable section

namespace Cert.KernelIdeal.Hand

open Cert.KernelIdeal Cert.KernelIdeal.Gen
open Idealize.ShloMosaic

theorem off16_eq : ∀ (i : grid0.Coords) (k : Fin (k0_t3_loop i).trips) (r : Fin 4),
    k0_off16 i k (BitVec.ofNat 32 r.val) = ![128 * (4 * k.val + r.val), 0] := by decide +kernel
theorem off17_eq : ∀ (i : grid0.Coords) (k : Fin (k0_t3_loop i).trips) (r : Fin 4),
    k0_off17 i k (BitVec.ofNat 32 r.val) = ![0, 4 * k.val + r.val, 0, 0] := by decide +kernel
theorem off18_eq : ∀ (i : grid0.Coords) (k : Fin (k0_t3_loop i).trips) (r : Fin 4),
    k0_off18 i k (BitVec.ofNat 32 r.val) = ![1, 4 * k.val + r.val, 0, 0] := by decide +kernel

theorem g_blk {n t0 : ℕ} {m : Memref sig .tc .vmem S2x16x512x128 .f32} {f : BufTy.Contents (Elt Ideal) m.view.ty}
    {G : ℕ → ℕ → ℕ → ℝ} {P : ℕ → ℕ → Prop} (h : Scr t0 m f G P)
    {off : Fin 4 → ℕ} (inb : ∀ a, off a + (![1, 1, 512, 128] : Fin 4 → ℕ) a ≤ S2x16x512x128.size a) {h0 j0 b : ℕ} (ho : off = ![h0, j0, 0, 0])
    (hP : P h0 j0) (hle : 128 * j0 ≤ t0) (hb : 128 * j0 = b) :
    Is2 (gg512 (m.view.readAt (Elt Ideal) (Rect.unit (s := S2x16x512x128) off ![1, 1, 512, 128] inb).toLoadRect f)) (fun p c => G h0 p (b + c)) := by
  have := gg512_is (readAt_scr (n := 512) (r0 := 0) (b := b) h inb ho hP hle hb)
  simpa only [Nat.zero_add] using this

theorem tripR_step (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec Ideal S512x128 .bf16) (v26 : FVec Ideal S512x128 .bf16) (v31 : IVec S512x128 32) (v39 : FVec Ideal S128x128 .bf16) (v542 : BitVec 32) (v550 : FVec Ideal S512x128 .f32) (v551 : FVec Ideal S512x1 .f32) (X_arg4 : BufTy.Contents (Elt Ideal) arg4.view.ty) (X_arg10 : BufTy.Contents (Elt Ideal) arg10.view.ty) (X_arg11 : BufTy.Contents (Elt Ideal) arg11.view.ty) (k : Fin (k0_t3_loop i).trips) (acc : FVec Ideal S512x128 .f32 × FVec Ideal S512x1 .f32 × FVec Ideal S512x1 .f32) (f8 : BufTy.Contents (Elt Ideal) arg8.view.ty)
    {Q0 Q1 D0 D1 Kk V X : ℕ → ℕ → ℝ} {t0 : ℕ} (hq0 : Is2 v21 Q0) (hq1 : Is2 v26 Q1) (hm0 : IsMask v8 0) (hm1 : IsMask v13 1) (hu : IsHead v39)
    (hK : Rows arg4 X_arg4 Kk) (s10 : Scr t0 arg10 X_arg10 (Gh Q0 Q1 D0 D1 Kk V t0) (fun h j => 0 ≤ 128 * j)) (s11 : Scr t0 arg11 X_arg11 (Wh Q0 Q1 Kk t0) (fun h j => 0 ≤ 128 * j))
    (ht : t0 = 512 * (i 2).val) (hk : k.val < (i 2).val)
    (h : SweptR Q0 Q1 D0 D1 Kk V X t0 arg8 acc.1 acc.2.1 acc.2.2 f8 (512 * k.val)) :
    SweptR Q0 Q1 D0 D1 Kk V X t0 arg8 ((trip_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).1 ((trip_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).2.1 ((trip_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).1 acc f8).2.2 (arg8.view.writes (Elt Ideal) f8 ((trip_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 k).2.1 acc f8)) (512 * (k.val + 1)) := by
  rw [tripR_r0, tripR_r1, tripR_dq, tripR_p8]
  obtain ⟨b0, hb0⟩ : ∃ b, b = 128 * (4 * k.val + 0) := ⟨_, rfl⟩
  have ho0 : k0_off16 i k 0#32 = ![b0, 0] := hb0 ▸ off16_eq i k 0
  have hl0 : b0 + 128 ≤ t0 := by omega
  have hk0 := readAt_blk hK (k0_off16_inb i k 0) ho0
  have g0_0 := g_blk (n := 512) (b := b0) s10 (k0_off17_inb i k 0) (off17_eq i k 0) (Nat.zero_le _) (by omega) hb0.symm
  have w0_0 := g_blk (n := 512) (b := b0) s11 (k0_off17_inb i k 0) (off17_eq i k 0) (Nat.zero_le _) (by omega) hb0.symm
  have g1_0 := g_blk (n := 512) (b := b0) s10 (k0_off18_inb i k 0) (off18_eq i k 0) (Nat.zero_le _) (by omega) hb0.symm
  have w1_0 := g_blk (n := 512) (b := b0) s11 (k0_off18_inb i k 0) (off18_eq i k 0) (Nat.zero_le _) (by omega) hb0.symm
  obtain ⟨b1, hb1⟩ : ∃ b, b = 128 * (4 * k.val + 1) := ⟨_, rfl⟩
  have ho1 : k0_off16 i k 1#32 = ![b1, 0] := hb1 ▸ off16_eq i k 1
  have hl1 : b1 + 128 ≤ t0 := by omega
  have hk1 := readAt_blk hK (k0_off16_inb i k 1) ho1
  have g0_1 := g_blk (n := 512) (b := b1) s10 (k0_off17_inb i k 1) (off17_eq i k 1) (Nat.zero_le _) (by omega) hb1.symm
  have w0_1 := g_blk (n := 512) (b := b1) s11 (k0_off17_inb i k 1) (off17_eq i k 1) (Nat.zero_le _) (by omega) hb1.symm
  have g1_1 := g_blk (n := 512) (b := b1) s10 (k0_off18_inb i k 1) (off18_eq i k 1) (Nat.zero_le _) (by omega) hb1.symm
  have w1_1 := g_blk (n := 512) (b := b1) s11 (k0_off18_inb i k 1) (off18_eq i k 1) (Nat.zero_le _) (by omega) hb1.symm
  obtain ⟨b2, hb2⟩ : ∃ b, b = 128 * (4 * k.val + 2) := ⟨_, rfl⟩
  have ho2 : k0_off16 i k 2#32 = ![b2, 0] := hb2 ▸ off16_eq i k 2
  have hl2 : b2 + 128 ≤ t0 := by omega
  have hk2 := readAt_blk hK (k0_off16_inb i k 2) ho2
  have g0_2 := g_blk (n := 512) (b := b2) s10 (k0_off17_inb i k 2) (off17_eq i k 2) (Nat.zero_le _) (by omega) hb2.symm
  have w0_2 := g_blk (n := 512) (b := b2) s11 (k0_off17_inb i k 2) (off17_eq i k 2) (Nat.zero_le _) (by omega) hb2.symm
  have g1_2 := g_blk (n := 512) (b := b2) s10 (k0_off18_inb i k 2) (off18_eq i k 2) (Nat.zero_le _) (by omega) hb2.symm
  have w1_2 := g_blk (n := 512) (b := b2) s11 (k0_off18_inb i k 2) (off18_eq i k 2) (Nat.zero_le _) (by omega) hb2.symm
  obtain ⟨b3, hb3⟩ : ∃ b, b = 128 * (4 * k.val + 3) := ⟨_, rfl⟩
  have ho3 : k0_off16 i k 3#32 = ![b3, 0] := hb3 ▸ off16_eq i k 3
  have hl3 : b3 + 128 ≤ t0 := by omega
  have hk3 := readAt_blk hK (k0_off16_inb i k 3) ho3
  have g0_3 := g_blk (n := 512) (b := b3) s10 (k0_off17_inb i k 3) (off17_eq i k 3) (Nat.zero_le _) (by omega) hb3.symm
  have w0_3 := g_blk (n := 512) (b := b3) s11 (k0_off17_inb i k 3) (off17_eq i k 3) (Nat.zero_le _) (by omega) hb3.symm
  have g1_3 := g_blk (n := 512) (b := b3) s10 (k0_off18_inb i k 3) (off18_eq i k 3) (Nat.zero_le _) (by omega) hb3.symm
  have w1_3 := g_blk (n := 512) (b := b3) s11 (k0_off18_inb i k 3) (off18_eq i k 3) (Nat.zero_le _) (by omega) hb3.symm
  rw [show 512 * k.val = b0 by omega] at h
  rw [show 512 * (k.val + 1) = b3 + 128 by omega]
  have q_0 := h.dq
  have r0_0 := h.r0
  have r0_1 := ru512_is (G := Gh Q0 Q1 D0 D1 Kk V t0 0) g0_0 r0_0
  have z0_0 : Is2 (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) (fun p c => Zh Q0 Q1 D0 D1 Kk V t0 0 p (b0 + c)) := dzU_is g0_0 w0_0 (up512_is (G := Gh Q0 Q1 D0 D1 Kk V t0 0) g0_0 hu r0_0) hl0
  have r1_0 := h.r1
  have r1_1 := ru512_is (G := Gh Q0 Q1 D0 D1 Kk V t0 1) g1_0 r1_0
  have z1_0 : Is2 (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) (fun p c => Zh Q0 Q1 D0 D1 Kk V t0 1 p (b0 + c)) := dzU_is g1_0 w1_0 (up512_is (G := Gh Q0 Q1 D0 D1 Kk V t0 1) g1_0 hu r1_0) hl0
  rw [show b0 + 128 = b1 by omega] at r0_1
  rw [show b0 + 128 = b1 by omega] at r1_1
  have q_1 : Is2 (dq512 (dq512 acc.1 (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) (kh v8 (truncf .bf16 (arg4.view.readAt (Elt Ideal) (Rect.unit (s := S2048x128) (k0_off16 i k 0#32) S128x128.size (k0_off16_inb i k 0)).toLoadRect X_arg4) bitsLt_bf16_f32))) (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) (kh v13 (truncf .bf16 (arg4.view.readAt (Elt Ideal) (Rect.unit (s := S2048x128) (k0_off16 i k 0#32) S128x128.size (k0_off16_inb i k 0)).toLoadRect X_arg4) bitsLt_bf16_f32))) (Qa Q0 Q1 D0 D1 Kk V t0 (b0 + 128)) := by
    intro p l
    refine (dq512_is (f := Zh Q0 Q1 D0 D1 Kk V t0 1) (K := lanes 1 Kk) z1_0 (kh_is hm1 hk0) (dq512_is (f := Zh Q0 Q1 D0 D1 Kk V t0 0) (K := lanes 0 Kk) z0_0 (kh_is hm0 hk0) q_0) p l).trans ?_
    rw [Qa_block]
  have k_0 : Is2 (dk512 (dk512 (broadcast S128x128 (Scalar.ofBits .f32 0x00000000#32)) (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) v21) (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) v26) (fun c l => Ck Q0 Q1 D0 D1 Kk V t0 (b0 + c) l) := by
    intro c l
    refine (dk512_is (f := Zh Q0 Q1 D0 D1 Kk V t0 1) z1_0 hq1 (dk512_is (f := Zh Q0 Q1 D0 D1 Kk V t0 0) z0_0 hq0 (zero_is2 (φ := .f32))
      (fun p hp c hc => absurd hp (by omega))) (fun p hp c hc => absurd hp (by omega)) c l).trans ?_
    unfold Ck
    beta_reduce
    rw [zero_add]
  rw [show b0 + 128 = b1 by omega] at q_1
  have r0_2 := ru512_is (G := Gh Q0 Q1 D0 D1 Kk V t0 0) g0_1 r0_1
  have z0_1 : Is2 (dzT v39 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10)) (gg512 (arg11.view.readAt (Elt Ideal) (Rect.unit (s := S2x16x512x128) (k0_off17 i k 1#32) S1x1x512x128.size (k0_off17_inb i k 1)).toLoadRect X_arg11))) (fun p c => Zh Q0 Q1 D0 D1 Kk V t0 0 p (b1 + c)) := dzU_is g0_1 w0_1 (up512_is (G := Gh Q0 Q1 D0 D1 Kk V t0 0) g0_1 hu r0_1) hl1
  have r1_2 := ru512_is (G := Gh Q0 Q1 D0 D1 Kk V t0 1) g1_1 r1_1
  have z1_1 : Is2 (dzT v39 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10)) (gg512 (arg11.view.readAt (Elt Ideal) (Rect.unit (s := S2x16x512x128) (k0_off18 i k 1#32) S1x1x512x128.size (k0_off18_inb i k 1)).toLoadRect X_arg11))) (fun p c => Zh Q0 Q1 D0 D1 Kk V t0 1 p (b1 + c)) := dzU_is g1_1 w1_1 (up512_is (G := Gh Q0 Q1 D0 D1 Kk V t0 1) g1_1 hu r1_1) hl1
  rw [show b1 + 128 = b2 by omega] at r0_2
  rw [show b1 + 128 = b2 by omega] at r1_2
  have q_2 : Is2 (dq512 (dq512 (dq512 (dq512 acc.1 (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) (kh v8 (truncf .bf16 (arg4.view.readAt (Elt Ideal) (Rect.unit (s := S2048x128) (k0_off16 i k 0#32) S128x128.size (k0_off16_inb i k 0)).toLoadRect X_arg4) bitsLt_bf16_f32))) (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) (kh v13 (truncf .bf16 (arg4.view.readAt (Elt Ideal) (Rect.unit (s := S2048x128) (k0_off16 i k 0#32) S128x128.size (k0_off16_inb i k 0)).toLoadRect X_arg4) bitsLt_bf16_f32))) (dzT v39 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10)) (gg512 (arg11.view.readAt (Elt Ideal) (Rect.unit (s := S2x16x512x128) (k0_off17 i k 1#32) S1x1x512x128.size (k0_off17_inb i k 1)).toLoadRect X_arg11))) (kh v8 (truncf .bf16 (arg4.view.readAt (Elt Ideal) (Rect.unit (s := S2048x128) (k0_off16 i k 1#32) S128x128.size (k0_off16_inb i k 1)).toLoadRect X_arg4) bitsLt_bf16_f32))) (dzT v39 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10)) (gg512 (arg11.view.readAt (Elt Ideal) (Rect.unit (s := S2x16x512x128) (k0_off18 i k 1#32) S1x1x512x128.size (k0_off18_inb i k 1)).toLoadRect X_arg11))) (kh v13 (truncf .bf16 (arg4.view.readAt (Elt Ideal) (Rect.unit (s := S2048x128) (k0_off16 i k 1#32) S128x128.size (k0_off16_inb i k 1)).toLoadRect X_arg4) bitsLt_bf16_f32))) (Qa Q0 Q1 D0 D1 Kk V t0 (b1 + 128)) := by
    intro p l
    refine (dq512_is (f := Zh Q0 Q1 D0 D1 Kk V t0 1) (K := lanes 1 Kk) z1_1 (kh_is hm1 hk1) (dq512_is (f := Zh Q0 Q1 D0 D1 Kk V t0 0) (K := lanes 0 Kk) z0_1 (kh_is hm0 hk1) q_1) p l).trans ?_
    rw [Qa_block]
  have k_1 : Is2 (dk512 (dk512 (broadcast S128x128 (Scalar.ofBits .f32 0x00000000#32)) (dzT v39 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10)) (gg512 (arg11.view.readAt (Elt Ideal) (Rect.unit (s := S2x16x512x128) (k0_off17 i k 1#32) S1x1x512x128.size (k0_off17_inb i k 1)).toLoadRect X_arg11))) v21) (dzT v39 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10)) (gg512 (arg11.view.readAt (Elt Ideal) (Rect.unit (s := S2x16x512x128) (k0_off18 i k 1#32) S1x1x512x128.size (k0_off18_inb i k 1)).toLoadRect X_arg11))) v26) (fun c l => Ck Q0 Q1 D0 D1 Kk V t0 (b1 + c) l) := by
    intro c l
    refine (dk512_is (f := Zh Q0 Q1 D0 D1 Kk V t0 1) z1_1 hq1 (dk512_is (f := Zh Q0 Q1 D0 D1 Kk V t0 0) z0_1 hq0 (zero_is2 (φ := .f32))
      (fun p hp c hc => absurd hp (by omega))) (fun p hp c hc => absurd hp (by omega)) c l).trans ?_
    unfold Ck
    beta_reduce
    rw [zero_add]
  rw [show b1 + 128 = b2 by omega] at q_2
  have r0_3 := ru512_is (G := Gh Q0 Q1 D0 D1 Kk V t0 0) g0_2 r0_2
  have z0_2 : Is2 (dzT v39 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10)) (gg512 (arg11.view.readAt (Elt Ideal) (Rect.unit (s := S2x16x512x128) (k0_off17 i k 2#32) S1x1x512x128.size (k0_off17_inb i k 2)).toLoadRect X_arg11))) (fun p c => Zh Q0 Q1 D0 D1 Kk V t0 0 p (b2 + c)) := dzU_is g0_2 w0_2 (up512_is (G := Gh Q0 Q1 D0 D1 Kk V t0 0) g0_2 hu r0_2) hl2
  have r1_3 := ru512_is (G := Gh Q0 Q1 D0 D1 Kk V t0 1) g1_2 r1_2
  have z1_2 : Is2 (dzT v39 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10)) (gg512 (arg11.view.readAt (Elt Ideal) (Rect.unit (s := S2x16x512x128) (k0_off18 i k 2#32) S1x1x512x128.size (k0_off18_inb i k 2)).toLoadRect X_arg11))) (fun p c => Zh Q0 Q1 D0 D1 Kk V t0 1 p (b2 + c)) := dzU_is g1_2 w1_2 (up512_is (G := Gh Q0 Q1 D0 D1 Kk V t0 1) g1_2 hu r1_2) hl2
  rw [show b2 + 128 = b3 by omega] at r0_3
  rw [show b2 + 128 = b3 by omega] at r1_3
  have q_3 : Is2 (dq512 (dq512 (dq512 (dq512 (dq512 (dq512 acc.1 (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) (kh v8 (truncf .bf16 (arg4.view.readAt (Elt Ideal) (Rect.unit (s := S2048x128) (k0_off16 i k 0#32) S128x128.size (k0_off16_inb i k 0)).toLoadRect X_arg4) bitsLt_bf16_f32))) (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) (kh v13 (truncf .bf16 (arg4.view.readAt (Elt Ideal) (Rect.unit (s := S2048x128) (k0_off16 i k 0#32) S128x128.size (k0_off16_inb i k 0)).toLoadRect X_arg4) bitsLt_bf16_f32))) (dzT v39 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10)) (gg512 (arg11.view.readAt (Elt Ideal) (Rect.unit (s := S2x16x512x128) (k0_off17 i k 1#32) S1x1x512x128.size (k0_off17_inb i k 1)).toLoadRect X_arg11))) (kh v8 (truncf .bf16 (arg4.view.readAt (Elt Ideal) (Rect.unit (s := S2048x128) (k0_off16 i k 1#32) S128x128.size (k0_off16_inb i k 1)).toLoadRect X_arg4) bitsLt_bf16_f32))) (dzT v39 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10)) (gg512 (arg11.view.readAt (Elt Ideal) (Rect.unit (s := S2x16x512x128) (k0_off18 i k 1#32) S1x1x512x128.size (k0_off18_inb i k 1)).toLoadRect X_arg11))) (kh v13 (truncf .bf16 (arg4.view.readAt (Elt Ideal) (Rect.unit (s := S2048x128) (k0_off16 i k 1#32) S128x128.size (k0_off16_inb i k 1)).toLoadRect X_arg4) bitsLt_bf16_f32))) (dzT v39 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10)) (gg512 (arg11.view.readAt (Elt Ideal) (Rect.unit (s := S2x16x512x128) (k0_off17 i k 2#32) S1x1x512x128.size (k0_off17_inb i k 2)).toLoadRect X_arg11))) (kh v8 (truncf .bf16 (arg4.view.readAt (Elt Ideal) (Rect.unit (s := S2048x128) (k0_off16 i k 2#32) S128x128.size (k0_off16_inb i k 2)).toLoadRect X_arg4) bitsLt_bf16_f32))) (dzT v39 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10)) (gg512 (arg11.view.readAt (Elt Ideal) (Rect.unit (s := S2x16x512x128) (k0_off18 i k 2#32) S1x1x512x128.size (k0_off18_inb i k 2)).toLoadRect X_arg11))) (kh v13 (truncf .bf16 (arg4.view.readAt (Elt Ideal) (Rect.unit (s := S2048x128) (k0_off16 i k 2#32) S128x128.size (k0_off16_inb i k 2)).toLoadRect X_arg4) bitsLt_bf16_f32))) (Qa Q0 Q1 D0 D1 Kk V t0 (b2 + 128)) := by
    intro p l
    refine (dq512_is (f := Zh Q0 Q1 D0 D1 Kk V t0 1) (K := lanes 1 Kk) z1_2 (kh_is hm1 hk2) (dq512_is (f := Zh Q0 Q1 D0 D1 Kk V t0 0) (K := lanes 0 Kk) z0_2 (kh_is hm0 hk2) q_2) p l).trans ?_
    rw [Qa_block]
  have k_2 : Is2 (dk512 (dk512 (broadcast S128x128 (Scalar.ofBits .f32 0x00000000#32)) (dzT v39 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10)) (gg512 (arg11.view.readAt (Elt Ideal) (Rect.unit (s := S2x16x512x128) (k0_off17 i k 2#32) S1x1x512x128.size (k0_off17_inb i k 2)).toLoadRect X_arg11))) v21) (dzT v39 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10)) (gg512 (arg11.view.readAt (Elt Ideal) (Rect.unit (s := S2x16x512x128) (k0_off18 i k 2#32) S1x1x512x128.size (k0_off18_inb i k 2)).toLoadRect X_arg11))) v26) (fun c l => Ck Q0 Q1 D0 D1 Kk V t0 (b2 + c) l) := by
    intro c l
    refine (dk512_is (f := Zh Q0 Q1 D0 D1 Kk V t0 1) z1_2 hq1 (dk512_is (f := Zh Q0 Q1 D0 D1 Kk V t0 0) z0_2 hq0 (zero_is2 (φ := .f32))
      (fun p hp c hc => absurd hp (by omega))) (fun p hp c hc => absurd hp (by omega)) c l).trans ?_
    unfold Ck
    beta_reduce
    rw [zero_add]
  rw [show b2 + 128 = b3 by omega] at q_3
  have r0_4 := ru512_is (G := Gh Q0 Q1 D0 D1 Kk V t0 0) g0_3 r0_3
  have z0_3 : Is2 (dzT v39 (ru512 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10))) (gg512 (arg10.view.readAt (Elt Ideal) (Rect.unit (s := S2x16x512x128) (k0_off17 i k 3#32) S1x1x512x128.size (k0_off17_inb i k 3)).toLoadRect X_arg10)) (gg512 (arg11.view.readAt (Elt Ideal) (Rect.unit (s := S2x16x512x128) (k0_off17 i k 3#32) S1x1x512x128.size (k0_off17_inb i k 3)).toLoadRect X_arg11))) (fun p c => Zh Q0 Q1 D0 D1 Kk V t0 0 p (b3 + c)) := dzU_is g0_3 w0_3 (up512_is (G := Gh Q0 Q1 D0 D1 Kk V t0 0) g0_3 hu r0_3) hl3
  have r1_4 := ru512_is (G := Gh Q0 Q1 D0 D1 Kk V t0 1) g1_3 r1_3
  have z1_3 : Is2 (dzT v39 (ru512 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10))) (gg512 (arg10.view.readAt (Elt Ideal) (Rect.unit (s := S2x16x512x128) (k0_off18 i k 3#32) S1x1x512x128.size (k0_off18_inb i k 3)).toLoadRect X_arg10)) (gg512 (arg11.view.readAt (Elt Ideal) (Rect.unit (s := S2x16x512x128) (k0_off18 i k 3#32) S1x1x512x128.size (k0_off18_inb i k 3)).toLoadRect X_arg11))) (fun p c => Zh Q0 Q1 D0 D1 Kk V t0 1 p (b3 + c)) := dzU_is g1_3 w1_3 (up512_is (G := Gh Q0 Q1 D0 D1 Kk V t0 1) g1_3 hu r1_3) hl3
  have q_4 : Is2 (dq512 (dq512 (dq512 (dq512 (dq512 (dq512 (dq512 (dq512 acc.1 (dzT v39 acc.2.1 (gg512 (arg10.view.readAt (Elt Ideal) (Rect.unit (s := S2x16x512x128) (k0_off17 i k 0#32) S1x1x512x128.size (k0_off17_inb i k 0)).toLoadRect X_arg10)) (gg512 (arg11.view.readAt (Elt Ideal) (Rect.unit (s := S2x16x512x128) (k0_off17 i k 0#32) S1x1x512x128.size (k0_off17_inb i k 0)).toLoadRect X_arg11))) (kh v8 (truncf .bf16 (arg4.view.readAt (Elt Ideal) (Rect.unit (s := S2048x128) (k0_off16 i k 0#32) S128x128.size (k0_off16_inb i k 0)).toLoadRect X_arg4) bitsLt_bf16_f32))) (dzT v39 acc.2.2 (gg512 (arg10.view.readAt (Elt Ideal) (Rect.unit (s := S2x16x512x128) (k0_off18 i k 0#32) S1x1x512x128.size (k0_off18_inb i k 0)).toLoadRect X_arg10)) (gg512 (arg11.view.readAt (Elt Ideal) (Rect.unit (s := S2x16x512x128) (k0_off18 i k 0#32) S1x1x512x128.size (k0_off18_inb i k 0)).toLoadRect X_arg11))) (kh v13 (truncf .bf16 (arg4.view.readAt (Elt Ideal) (Rect.unit (s := S2048x128) (k0_off16 i k 0#32) S128x128.size (k0_off16_inb i k 0)).toLoadRect X_arg4) bitsLt_bf16_f32))) (dzT v39 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10)) (gg512 (arg11.view.readAt (Elt Ideal) (Rect.unit (s := S2x16x512x128) (k0_off17 i k 1#32) S1x1x512x128.size (k0_off17_inb i k 1)).toLoadRect X_arg11))) (kh v8 (truncf .bf16 (arg4.view.readAt (Elt Ideal) (Rect.unit (s := S2048x128) (k0_off16 i k 1#32) S128x128.size (k0_off16_inb i k 1)).toLoadRect X_arg4) bitsLt_bf16_f32))) (dzT v39 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10)) (gg512 (arg11.view.readAt (Elt Ideal) (Rect.unit (s := S2x16x512x128) (k0_off18 i k 1#32) S1x1x512x128.size (k0_off18_inb i k 1)).toLoadRect X_arg11))) (kh v13 (truncf .bf16 (arg4.view.readAt (Elt Ideal) (Rect.unit (s := S2048x128) (k0_off16 i k 1#32) S128x128.size (k0_off16_inb i k 1)).toLoadRect X_arg4) bitsLt_bf16_f32))) (dzT v39 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10)) (gg512 (arg11.view.readAt (Elt Ideal) (Rect.unit (s := S2x16x512x128) (k0_off17 i k 2#32) S1x1x512x128.size (k0_off17_inb i k 2)).toLoadRect X_arg11))) (kh v8 (truncf .bf16 (arg4.view.readAt (Elt Ideal) (Rect.unit (s := S2048x128) (k0_off16 i k 2#32) S128x128.size (k0_off16_inb i k 2)).toLoadRect X_arg4) bitsLt_bf16_f32))) (dzT v39 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10)) (gg512 (arg11.view.readAt (Elt Ideal) (Rect.unit (s := S2x16x512x128) (k0_off18 i k 2#32) S1x1x512x128.size (k0_off18_inb i k 2)).toLoadRect X_arg11))) (kh v13 (truncf .bf16 (arg4.view.readAt (Elt Ideal) (Rect.unit (s := S2048x128) (k0_off16 i k 2#32) S128x128.size (k0_off16_inb i k 2)).toLoadRect X_arg4) bitsLt_bf16_f32))) (dzT v39 (ru512 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10))) (gg512 (arg10.view.readAt (Elt Ideal) (Rect.unit (s := S2x16x512x128) (k0_off17 i k 3#32) S1x1x512x128.size (k0_off17_inb i k 3)).toLoadRect X_arg10)) (gg512 (arg11.view.readAt (Elt Ideal) (Rect.unit (s := S2x16x512x128) (k0_off17 i k 3#32) S1x1x512x128.size (k0_off17_inb i k 3)).toLoadRect X_arg11))) (kh v8 (truncf .bf16 (arg4.view.readAt (Elt Ideal) (Rect.unit (s := S2048x128) (k0_off16 i k 3#32) S128x128.size (k0_off16_inb i k 3)).toLoadRect X_arg4) bitsLt_bf16_f32))) (dzT v39 (ru512 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10))) (gg512 (arg10.view.readAt (Elt Ideal) (Rect.unit (s := S2x16x512x128) (k0_off18 i k 3#32) S1x1x512x128.size (k0_off18_inb i k 3)).toLoadRect X_arg10)) (gg512 (arg11.view.readAt (Elt Ideal) (Rect.unit (s := S2x16x512x128) (k0_off18 i k 3#32) S1x1x512x128.size (k0_off18_inb i k 3)).toLoadRect X_arg11))) (kh v13 (truncf .bf16 (arg4.view.readAt (Elt Ideal) (Rect.unit (s := S2048x128) (k0_off16 i k 3#32) S128x128.size (k0_off16_inb i k 3)).toLoadRect X_arg4) bitsLt_bf16_f32))) (Qa Q0 Q1 D0 D1 Kk V t0 (b3 + 128)) := by
    intro p l
    refine (dq512_is (f := Zh Q0 Q1 D0 D1 Kk V t0 1) (K := lanes 1 Kk) z1_3 (kh_is hm1 hk3) (dq512_is (f := Zh Q0 Q1 D0 D1 Kk V t0 0) (K := lanes 0 Kk) z0_3 (kh_is hm0 hk3) q_3) p l).trans ?_
    rw [Qa_block]
  have k_3 : Is2 (dk512 (dk512 (broadcast S128x128 (Scalar.ofBits .f32 0x00000000#32)) (dzT v39 (ru512 (ru512 (ru512 acc.2.1 (gg512 (arg10.view.readAt (Elt Ideal) (Rect.unit (s := S2x16x512x128) (k0_off17 i k 0#32) S1x1x512x128.size (k0_off17_inb i k 0)).toLoadRect X_arg10))) (gg512 (arg10.view.readAt (Elt Ideal) (Rect.unit (s := S2x16x512x128) (k0_off17 i k 1#32) S1x1x512x128.size (k0_off17_inb i k 1)).toLoadRect X_arg10))) (gg512 (arg10.view.readAt (Elt Ideal) (Rect.unit (s := S2x16x512x128) (k0_off17 i k 2#32) S1x1x512x128.size (k0_off17_inb i k 2)).toLoadRect X_arg10))) (gg512 (arg10.view.readAt (Elt Ideal) (Rect.unit (s := S2x16x512x128) (k0_off17 i k 3#32) S1x1x512x128.size (k0_off17_inb i k 3)).toLoadRect X_arg10)) (gg512 (arg11.view.readAt (Elt Ideal) (Rect.unit (s := S2x16x512x128) (k0_off17 i k 3#32) S1x1x512x128.size (k0_off17_inb i k 3)).toLoadRect X_arg11))) v21) (dzT v39 (ru512 (ru512 (ru512 acc.2.2 (gg512 (arg10.view.readAt (Elt Ideal) (Rect.unit (s := S2x16x512x128) (k0_off18 i k 0#32) S1x1x512x128.size (k0_off18_inb i k 0)).toLoadRect X_arg10))) (gg512 (arg10.view.readAt (Elt Ideal) (Rect.unit (s := S2x16x512x128) (k0_off18 i k 1#32) S1x1x512x128.size (k0_off18_inb i k 1)).toLoadRect X_arg10))) (gg512 (arg10.view.readAt (Elt Ideal) (Rect.unit (s := S2x16x512x128) (k0_off18 i k 2#32) S1x1x512x128.size (k0_off18_inb i k 2)).toLoadRect X_arg10))) (gg512 (arg10.view.readAt (Elt Ideal) (Rect.unit (s := S2x16x512x128) (k0_off18 i k 3#32) S1x1x512x128.size (k0_off18_inb i k 3)).toLoadRect X_arg10)) (gg512 (arg11.view.readAt (Elt Ideal) (Rect.unit (s := S2x16x512x128) (k0_off18 i k 3#32) S1x1x512x128.size (k0_off18_inb i k 3)).toLoadRect X_arg11))) v26) (fun c l => Ck Q0 Q1 D0 D1 Kk V t0 (b3 + c) l) := by
    intro c l
    refine (dk512_is (f := Zh Q0 Q1 D0 D1 Kk V t0 1) z1_3 hq1 (dk512_is (f := Zh Q0 Q1 D0 D1 Kk V t0 0) z0_3 hq0 (zero_is2 (φ := .f32))
      (fun p hp c hc => absurd hp (by omega))) (fun p hp c hc => absurd hp (by omega)) c l).trans ?_
    unfold Ck
    beta_reduce
    rw [zero_add]
  refine ⟨q_4, r0_4, r1_4, ?_⟩
  have x0 : Rows arg8 (arg8.view.writes (Elt Ideal) f8 []) (before Q0 Q1 D0 D1 Kk V t0 X b0) := h.rows
  have x1 := put_rows (Z := before Q0 Q1 D0 D1 Kk V t0 X (b0 + 128)) (Y := Ck Q0 Q1 D0 D1 Kk V t0) (X := before Q0 Q1 D0 D1 Kk V t0 X b0) x0 (k0_off16_inb i k 0) ho0
    (x := (arg8.view.readAt (Elt Ideal) (Rect.unit (s := S2048x128) (k0_off16 i k 0#32) S128x128.size (k0_off16_inb i k 0)).toLoadRect f8 : FVec Ideal S128x128 .f32))
    (fun c l => (readAt_rows h.rows (k0_off16_inb i k 0) ho0 c l).trans (by
      show ((before Q0 Q1 D0 D1 Kk V t0 X b0 (b0 + c.val) l.val : ℝ) : EReal) = ((before Q0 Q1 D0 D1 Kk V t0 X b0 (b0 + c.val) l.val : ℝ) : EReal)
      unfold before; simp only [if_neg (show ¬ b0 + c.val < b0 by omega), if_neg (show ¬ b0 + c.val < b0 by omega)])) k_0
    (fun s l h1 h2 _ => by unfold before; rw [if_pos (by omega), if_neg (by omega), add_zero])
    (fun s l _ _ h1 => by
      unfold before
      by_cases h2 : s < b0
      · rw [if_pos (by omega), if_pos (by omega)]
      · rw [if_neg (by omega), if_neg (by omega)])
  rw [show before Q0 Q1 D0 D1 Kk V t0 X (b0 + 128) = before Q0 Q1 D0 D1 Kk V t0 X b1 by rw [show b0 + 128 = b1 by omega]] at x1
  have x2 := put_rows (Z := before Q0 Q1 D0 D1 Kk V t0 X (b1 + 128)) (Y := Ck Q0 Q1 D0 D1 Kk V t0) (X := before Q0 Q1 D0 D1 Kk V t0 X b1) x1 (k0_off16_inb i k 1) ho1
    (x := (arg8.view.readAt (Elt Ideal) (Rect.unit (s := S2048x128) (k0_off16 i k 1#32) S128x128.size (k0_off16_inb i k 1)).toLoadRect f8 : FVec Ideal S128x128 .f32))
    (fun c l => (readAt_rows h.rows (k0_off16_inb i k 1) ho1 c l).trans (by
      show ((before Q0 Q1 D0 D1 Kk V t0 X b0 (b1 + c.val) l.val : ℝ) : EReal) = ((before Q0 Q1 D0 D1 Kk V t0 X b1 (b1 + c.val) l.val : ℝ) : EReal)
      unfold before; simp only [if_neg (show ¬ b1 + c.val < b0 by omega), if_neg (show ¬ b1 + c.val < b1 by omega)])) k_1
    (fun s l h1 h2 _ => by unfold before; rw [if_pos (by omega), if_neg (by omega), add_zero])
    (fun s l _ _ h1 => by
      unfold before
      by_cases h2 : s < b1
      · rw [if_pos (by omega), if_pos (by omega)]
      · rw [if_neg (by omega), if_neg (by omega)])
  rw [show before Q0 Q1 D0 D1 Kk V t0 X (b1 + 128) = before Q0 Q1 D0 D1 Kk V t0 X b2 by rw [show b1 + 128 = b2 by omega]] at x2
  have x3 := put_rows (Z := before Q0 Q1 D0 D1 Kk V t0 X (b2 + 128)) (Y := Ck Q0 Q1 D0 D1 Kk V t0) (X := before Q0 Q1 D0 D1 Kk V t0 X b2) x2 (k0_off16_inb i k 2) ho2
    (x := (arg8.view.readAt (Elt Ideal) (Rect.unit (s := S2048x128) (k0_off16 i k 2#32) S128x128.size (k0_off16_inb i k 2)).toLoadRect f8 : FVec Ideal S128x128 .f32))
    (fun c l => (readAt_rows h.rows (k0_off16_inb i k 2) ho2 c l).trans (by
      show ((before Q0 Q1 D0 D1 Kk V t0 X b0 (b2 + c.val) l.val : ℝ) : EReal) = ((before Q0 Q1 D0 D1 Kk V t0 X b2 (b2 + c.val) l.val : ℝ) : EReal)
      unfold before; simp only [if_neg (show ¬ b2 + c.val < b0 by omega), if_neg (show ¬ b2 + c.val < b2 by omega)])) k_2
    (fun s l h1 h2 _ => by unfold before; rw [if_pos (by omega), if_neg (by omega), add_zero])
    (fun s l _ _ h1 => by
      unfold before
      by_cases h2 : s < b2
      · rw [if_pos (by omega), if_pos (by omega)]
      · rw [if_neg (by omega), if_neg (by omega)])
  rw [show before Q0 Q1 D0 D1 Kk V t0 X (b2 + 128) = before Q0 Q1 D0 D1 Kk V t0 X b3 by rw [show b2 + 128 = b3 by omega]] at x3
  have x4 := put_rows (Z := before Q0 Q1 D0 D1 Kk V t0 X (b3 + 128)) (Y := Ck Q0 Q1 D0 D1 Kk V t0) (X := before Q0 Q1 D0 D1 Kk V t0 X b3) x3 (k0_off16_inb i k 3) ho3
    (x := (arg8.view.readAt (Elt Ideal) (Rect.unit (s := S2048x128) (k0_off16 i k 3#32) S128x128.size (k0_off16_inb i k 3)).toLoadRect f8 : FVec Ideal S128x128 .f32))
    (fun c l => (readAt_rows h.rows (k0_off16_inb i k 3) ho3 c l).trans (by
      show ((before Q0 Q1 D0 D1 Kk V t0 X b0 (b3 + c.val) l.val : ℝ) : EReal) = ((before Q0 Q1 D0 D1 Kk V t0 X b3 (b3 + c.val) l.val : ℝ) : EReal)
      unfold before; simp only [if_neg (show ¬ b3 + c.val < b0 by omega), if_neg (show ¬ b3 + c.val < b3 by omega)])) k_3
    (fun s l h1 h2 _ => by unfold before; rw [if_pos (by omega), if_neg (by omega), add_zero])
    (fun s l _ _ h1 => by
      unfold before
      by_cases h2 : s < b3
      · rw [if_pos (by omega), if_pos (by omega)]
      · rw [if_neg (by omega), if_neg (by omega)])
  exact x4

theorem loopR_swept (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v8 : IVec S1x128 1) (v13 : IVec S1x128 1) (v21 : FVec Ideal S512x128 .bf16) (v26 : FVec Ideal S512x128 .bf16) (v31 : IVec S512x128 32) (v39 : FVec Ideal S128x128 .bf16) (v542 : BitVec 32) (v550 : FVec Ideal S512x128 .f32) (v551 : FVec Ideal S512x1 .f32) (X_arg4 : BufTy.Contents (Elt Ideal) arg4.view.ty) (X_arg10 : BufTy.Contents (Elt Ideal) arg10.view.ty) (X_arg11 : BufTy.Contents (Elt Ideal) arg11.view.ty)  (G8 : BufTy.Contents (Elt Ideal) arg8.view.ty) (init : FVec Ideal S512x128 .f32 × FVec Ideal S512x1 .f32 × FVec Ideal S512x1 .f32)
    {Q0 Q1 D0 D1 Kk V X : ℕ → ℕ → ℝ} {t0 : ℕ} (hq0 : Is2 v21 Q0) (hq1 : Is2 v26 Q1) (hm0 : IsMask v8 0) (hm1 : IsMask v13 1) (hu : IsHead v39)
    (hK : Rows arg4 X_arg4 Kk) (s10 : Scr t0 arg10 X_arg10 (Gh Q0 Q1 D0 D1 Kk V t0) (fun h j => 0 ≤ 128 * j)) (s11 : Scr t0 arg11 X_arg11 (Wh Q0 Q1 Kk t0) (fun h j => 0 ≤ 128 * j))
    (ht : t0 = 512 * (i 2).val)
    (h : SweptR Q0 Q1 D0 D1 Kk V X t0 arg8 init.1 init.2.1 init.2.2 G8 (512 * 0)) (k : ℕ) (hk : k ≤ (i 2).val) :
    SweptR Q0 Q1 D0 D1 Kk V X t0 arg8 (st_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 G8 init k).1.1 (st_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 G8 init k).1.2.1 (st_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 G8 init k).1.2.2 (arg8.view.writes (Elt Ideal) G8 (st_k0_t3 (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 G8 init k).2) (512 * k) := by
  induction k with
  | zero => exact h
  | succ k ih =>
    have hlt : k < (k0_t3_loop i).trips := by rw [trips3]; omega
    rw [st_k0_t3_succ (F := Ideal) Variants.none c none i arg3 harg3 arg4 harg4 arg5 harg5 arg6 harg6 arg7 harg7 arg8 harg8 arg9 harg9 arg10 harg10 arg11 harg11 arg2 v8 v13 v21 v26 v31 v39 v542 v550 v551 X_arg4 X_arg10 X_arg11 G8 init ⟨k, hlt⟩]
    dsimp only
    rw [View.writes_append]
    exact tripR_step c i arg3 harg3 arg4 harg4 arg5 harg5 arg6 harg6 arg7 harg7 arg8 harg8 arg9 harg9 arg10 harg10 arg11 harg11 arg2 v8 v13 v21 v26 v31 v39 v542 v550 v551 X_arg4 X_arg10 X_arg11 ⟨k, hlt⟩ _ _ hq0 hq1 hm0 hm1 hu hK s10 s11 ht hk (ih (by omega))

end Cert.KernelIdeal.Hand
end
-- ==== Proof.TripL.lean ====
/- One trip of the left sweep's loop at ideal values: four blocks of keys, each leaving the running sums, the values'
   gradient and the scratch arrays as if every key from its first on were done. -/
module
public import proofs.«01_k».proof.Proof.DiagL

@[expose] public section

set_option maxRecDepth 16384
set_option maxHeartbeats 2000000

noncomputable section

namespace Cert.KernelIdeal.Hand

open Cert.KernelIdeal Cert.KernelIdeal.Gen
open Idealize.ShloMosaic

/-- What a sweep of blocks has done, every key from `B` on: the two running sums, the values' gradient, the two scratch arrays. -/
structure Swept (Q0 Q1 D0 D1 K V X : ℕ → ℕ → ℝ) (t0 : ℕ) (m9 : Memref sig .tc .vmem S2048x128 .f32) (m10 m11 : Memref sig .tc .vmem S2x16x512x128 .f32)
    (run : Runs Ideal) (f9 : BufTy.Contents (Elt Ideal) m9.view.ty) (f10 : BufTy.Contents (Elt Ideal) m10.view.ty) (f11 : BufTy.Contents (Elt Ideal) m11.view.ty) (B : ℕ) : Prop where
  r0 : Is2 run.1 (fun p _ => Ts Q0 K t0 p B)
  r1 : Is2 run.2 (fun p _ => Ts Q1 K t0 p B)
  rows : Rows m9 f9 (after Q0 Q1 D0 D1 K t0 X B)
  s10 : Scr t0 m10 f10 (Gh Q0 Q1 D0 D1 K V t0) (fun h j => B ≤ 128 * j)
  s11 : Scr t0 m11 f11 (Wh Q0 Q1 K t0) (fun h j => B ≤ 128 * j)

theorem trip_step (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec Ideal S512x128 .bf16) (v26 : FVec Ideal S512x128 .bf16) (v35 : FVec Ideal S128x128 .bf16) (v45 : FVec Ideal S512x128 .bf16) (v50 : FVec Ideal S512x128 .bf16) (v424 : FVec Ideal S512x1 .f32) (v432 : BitVec 32) (v434 : BitVec 32) (v440 : FVec Ideal S128x128 .bf16) (v442 : IVec S512x128 1) (v475 : FVec Ideal S128x128 .f32) (v489 : FVec Ideal S512x1 .f32) (v504 : FVec Ideal S512x128 .f32) (v511 : FVec Ideal S512x128 .f32) (v512 : FVec Ideal S512x128 .f32) (v513 : FVec Ideal S512x128 .f32) (K : BufTy.Contents (Elt Ideal) arg4.view.ty) (W : BufTy.Contents (Elt Ideal) arg5.view.ty) (k : Fin (k0_t1_loop i).trips) (acc : Runs Ideal)
    (f9 : BufTy.Contents (Elt Ideal) arg9.view.ty) (f10 : BufTy.Contents (Elt Ideal) arg10.view.ty) (f11 : BufTy.Contents (Elt Ideal) arg11.view.ty)
    {Q0 Q1 D0 D1 Kk V X : ℕ → ℕ → ℝ} {t0 : ℕ} (hq0 : Is2 v21 Q0) (hq1 : Is2 v26 Q1) (hd0 : Is2 v45 D0) (hd1 : Is2 v50 D1) (hu : IsTail v35)
    (hK : Rows arg4 K Kk) (hV : Rows arg5 W V) (ht : t0 = 512 * (i 2).val) (hk : k.val < (i 2).val)
    (h : Swept Q0 Q1 D0 D1 Kk V X t0 arg9 arg10 arg11 acc f9 f10 f11 (512 * ((i 2).val - k.val))) :
    Swept Q0 Q1 D0 D1 Kk V X t0 arg9 arg10 arg11 ((tripL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).1 acc) (arg9.view.writes (Elt Ideal) f9 ((tripL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.2.1 acc f9))
      (arg10.view.writes (Elt Ideal) f10 ((tripL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.1 acc)) (arg11.view.writes (Elt Ideal) f11 ((tripL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W k).2.2.1 acc)) (512 * ((i 2).val - (k.val + 1))) := by
  rw [tripL_runs, tripL_p9, tripL_p10, tripL_p11]
  obtain ⟨b0, hb0⟩ : ∃ b, b = 128 * (4 * (i 2).val - 1 - (4 * k.val + 0)) := ⟨_, rfl⟩
  have ho0 : k0_off10 i k 0#32 = ![b0, 0] := hb0 ▸ off10_eq i k 0
  have hl0 : b0 + 128 ≤ t0 := by omega
  have hk0 := readAt_blk hK (k0_off10_inb i k 0) ho0
  have hv0 := readAt_blk hV (k0_off10_inb i k 0) ho0
  obtain ⟨b1, hb1⟩ : ∃ b, b = 128 * (4 * (i 2).val - 1 - (4 * k.val + 1)) := ⟨_, rfl⟩
  have ho1 : k0_off10 i k 1#32 = ![b1, 0] := hb1 ▸ off10_eq i k 1
  have hl1 : b1 + 128 ≤ t0 := by omega
  have hk1 := readAt_blk hK (k0_off10_inb i k 1) ho1
  have hv1 := readAt_blk hV (k0_off10_inb i k 1) ho1
  obtain ⟨b2, hb2⟩ : ∃ b, b = 128 * (4 * (i 2).val - 1 - (4 * k.val + 2)) := ⟨_, rfl⟩
  have ho2 : k0_off10 i k 2#32 = ![b2, 0] := hb2 ▸ off10_eq i k 2
  have hl2 : b2 + 128 ≤ t0 := by omega
  have hk2 := readAt_blk hK (k0_off10_inb i k 2) ho2
  have hv2 := readAt_blk hV (k0_off10_inb i k 2) ho2
  obtain ⟨b3, hb3⟩ : ∃ b, b = 128 * (4 * (i 2).val - 1 - (4 * k.val + 3)) := ⟨_, rfl⟩
  have ho3 : k0_off10 i k 3#32 = ![b3, 0] := hb3 ▸ off10_eq i k 3
  have hl3 : b3 + 128 ≤ t0 := by omega
  have hk3 := readAt_blk hK (k0_off10_inb i k 3) ho3
  have hv3 := readAt_blk hV (k0_off10_inb i k 3) ho3
  have hB : 512 * ((i 2).val - k.val) = b0 + 128 := by omega
  rw [hB] at h
  have hE : 512 * ((i 2).val - (k.val + 1)) = b3 := by omega
  rw [hE]
  have r0_0 := h.r0
  have r0_1 : Is2 (runT v35 v21 acc.1 (truncf .bf16 (arg4.view.readAt (Elt Ideal) (Rect.unit (s := S2048x128) (k0_off10 i k 0#32) S128x128.size (k0_off10_inb i k 0)).toLoadRect K) bitsLt_bf16_f32)) (fun p _ => Ts Q0 Kk t0 p b0) := runU_is hq0 hk0 hu hl0 r0_0
  have a0_0 : Is2 (aT v35 v21 acc.1 (truncf .bf16 (arg4.view.readAt (Elt Ideal) (Rect.unit (s := S2048x128) (k0_off10 i k 0#32) S128x128.size (k0_off10_inb i k 0)).toLoadRect K) bitsLt_bf16_f32)) (fun p c => As Q0 Kk t0 p (b0 + c)) := aU_is hq0 hk0 hu hl0 r0_0
  have r1_0 := h.r1
  have r1_1 : Is2 (runT v35 v26 acc.2 (truncf .bf16 (arg4.view.readAt (Elt Ideal) (Rect.unit (s := S2048x128) (k0_off10 i k 0#32) S128x128.size (k0_off10_inb i k 0)).toLoadRect K) bitsLt_bf16_f32)) (fun p _ => Ts Q1 Kk t0 p b0) := runU_is hq1 hk0 hu hl0 r1_0
  have a1_0 : Is2 (aT v35 v26 acc.2 (truncf .bf16 (arg4.view.readAt (Elt Ideal) (Rect.unit (s := S2048x128) (k0_off10 i k 0#32) S128x128.size (k0_off10_inb i k 0)).toLoadRect K) bitsLt_bf16_f32)) (fun p c => As Q1 Kk t0 p (b0 + c)) := aU_is hq1 hk0 hu hl0 r1_0
  rw [show b0 = b1 + 128 by omega] at r0_1
  rw [show b0 = b1 + 128 by omega] at r1_1
  have dv0 : Is2 (dvT v35 v21 v26 v45 v50 acc.1 acc.2 (truncf .bf16 (arg4.view.readAt (Elt Ideal) (Rect.unit (s := S2048x128) (k0_off10 i k 0#32) S128x128.size (k0_off10_inb i k 0)).toLoadRect K) bitsLt_bf16_f32)) (fun c l => Cv Q0 Q1 D0 D1 Kk t0 (b0 + c) l) := by
    intro c l
    refine (dv512_is (f := As Q1 Kk t0) a1_0 hd1 (dv512_is (f := As Q0 Kk t0) a0_0 hd0 (zero_is2 (φ := .f32))
      (fun p hp c hc => absurd hp (by omega))) (fun p hp c hc => absurd hp (by omega)) c l).trans ?_
    unfold Cv
    beta_reduce
    rw [zero_add]
  have r0_2 : Is2 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (fun p _ => Ts Q0 Kk t0 p b1) := runU_is hq0 hk1 hu hl1 r0_1
  have a0_1 : Is2 (aT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (fun p c => As Q0 Kk t0 p (b1 + c)) := aU_is hq0 hk1 hu hl1 r0_1
  have r1_2 : Is2 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (fun p _ => Ts Q1 Kk t0 p b1) := runU_is hq1 hk1 hu hl1 r1_1
  have a1_1 : Is2 (aT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (fun p c => As Q1 Kk t0 p (b1 + c)) := aU_is hq1 hk1 hu hl1 r1_1
  rw [show b1 = b2 + 128 by omega] at r0_2
  rw [show b1 = b2 + 128 by omega] at r1_2
  have dv1 : Is2 (dvT v35 v21 v26 v45 v50 (runT v35 v21 acc.1 (truncf .bf16 (arg4.view.readAt (Elt Ideal) (Rect.unit (s := S2048x128) (k0_off10 i k 0#32) S128x128.size (k0_off10_inb i k 0)).toLoadRect K) bitsLt_bf16_f32)) (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (fun c l => Cv Q0 Q1 D0 D1 Kk t0 (b1 + c) l) := by
    intro c l
    refine (dv512_is (f := As Q1 Kk t0) a1_1 hd1 (dv512_is (f := As Q0 Kk t0) a0_1 hd0 (zero_is2 (φ := .f32))
      (fun p hp c hc => absurd hp (by omega))) (fun p hp c hc => absurd hp (by omega)) c l).trans ?_
    unfold Cv
    beta_reduce
    rw [zero_add]
  have r0_3 : Is2 (runT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (fun p _ => Ts Q0 Kk t0 p b2) := runU_is hq0 hk2 hu hl2 r0_2
  have a0_2 : Is2 (aT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (fun p c => As Q0 Kk t0 p (b2 + c)) := aU_is hq0 hk2 hu hl2 r0_2
  have r1_3 : Is2 (runT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (fun p _ => Ts Q1 Kk t0 p b2) := runU_is hq1 hk2 hu hl2 r1_2
  have a1_2 : Is2 (aT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (fun p c => As Q1 Kk t0 p (b2 + c)) := aU_is hq1 hk2 hu hl2 r1_2
  rw [show b2 = b3 + 128 by omega] at r0_3
  rw [show b2 = b3 + 128 by omega] at r1_3
  have dv2 : Is2 (dvT v35 v21 v26 v45 v50 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (fun c l => Cv Q0 Q1 D0 D1 Kk t0 (b2 + c) l) := by
    intro c l
    refine (dv512_is (f := As Q1 Kk t0) a1_2 hd1 (dv512_is (f := As Q0 Kk t0) a0_2 hd0 (zero_is2 (φ := .f32))
      (fun p hp c hc => absurd hp (by omega))) (fun p hp c hc => absurd hp (by omega)) c l).trans ?_
    unfold Cv
    beta_reduce
    rw [zero_add]
  have r0_4 : Is2 (runT v35 v21 (runT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32)) (fun p _ => Ts Q0 Kk t0 p b3) := runU_is hq0 hk3 hu hl3 r0_3
  have a0_3 : Is2 (aT v35 v21 (runT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32)) (fun p c => As Q0 Kk t0 p (b3 + c)) := aU_is hq0 hk3 hu hl3 r0_3
  have r1_4 : Is2 (runT v35 v26 (runT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32)) (fun p _ => Ts Q1 Kk t0 p b3) := runU_is hq1 hk3 hu hl3 r1_3
  have a1_3 : Is2 (aT v35 v26 (runT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32)) (fun p c => As Q1 Kk t0 p (b3 + c)) := aU_is hq1 hk3 hu hl3 r1_3
  have dv3 : Is2 (dvT v35 v21 v26 v45 v50 (runT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (runT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32)) (fun c l => Cv Q0 Q1 D0 D1 Kk t0 (b3 + c) l) := by
    intro c l
    refine (dv512_is (f := As Q1 Kk t0) a1_3 hd1 (dv512_is (f := As Q0 Kk t0) a0_3 hd0 (zero_is2 (φ := .f32))
      (fun p hp c hc => absurd hp (by omega))) (fun p hp c hc => absurd hp (by omega)) c l).trans ?_
    unfold Cv
    beta_reduce
    rw [zero_add]
  refine ⟨r0_4, r1_4, ?_, ?_, ?_⟩
  · have x0 : Rows arg9 (arg9.view.writes (Elt Ideal) f9 []) (after Q0 Q1 D0 D1 Kk t0 X (b0 + 128)) := h.rows
    have x1 := add_rows (Z := after Q0 Q1 D0 D1 Kk t0 X b0) (Y := Cv Q0 Q1 D0 D1 Kk t0) x0 (k0_off10_inb i k 0) ho0 dv0
      (fun s l h1 h2 _ => by unfold after; rw [if_pos h1, if_neg (by omega), add_zero])
      (fun s l _ _ h1 => by
        unfold after
        by_cases h2 : s < b0
        · rw [if_neg (by omega), if_neg (by omega)]
        · rw [if_pos (by omega), if_pos (by omega)])
    rw [show after Q0 Q1 D0 D1 Kk t0 X b0 = after Q0 Q1 D0 D1 Kk t0 X (b1 + 128) by rw [show b0 = b1 + 128 by omega]] at x1
    have x2 := add_rows (Z := after Q0 Q1 D0 D1 Kk t0 X b1) (Y := Cv Q0 Q1 D0 D1 Kk t0) x1 (k0_off10_inb i k 1) ho1 dv1
      (fun s l h1 h2 _ => by unfold after; rw [if_pos h1, if_neg (by omega), add_zero])
      (fun s l _ _ h1 => by
        unfold after
        by_cases h2 : s < b1
        · rw [if_neg (by omega), if_neg (by omega)]
        · rw [if_pos (by omega), if_pos (by omega)])
    rw [show after Q0 Q1 D0 D1 Kk t0 X b1 = after Q0 Q1 D0 D1 Kk t0 X (b2 + 128) by rw [show b1 = b2 + 128 by omega]] at x2
    have x3 := add_rows (Z := after Q0 Q1 D0 D1 Kk t0 X b2) (Y := Cv Q0 Q1 D0 D1 Kk t0) x2 (k0_off10_inb i k 2) ho2 dv2
      (fun s l h1 h2 _ => by unfold after; rw [if_pos h1, if_neg (by omega), add_zero])
      (fun s l _ _ h1 => by
        unfold after
        by_cases h2 : s < b2
        · rw [if_neg (by omega), if_neg (by omega)]
        · rw [if_pos (by omega), if_pos (by omega)])
    rw [show after Q0 Q1 D0 D1 Kk t0 X b2 = after Q0 Q1 D0 D1 Kk t0 X (b3 + 128) by rw [show b2 = b3 + 128 by omega]] at x3
    have x4 := add_rows (Z := after Q0 Q1 D0 D1 Kk t0 X b3) (Y := Cv Q0 Q1 D0 D1 Kk t0) x3 (k0_off10_inb i k 3) ho3 dv3
      (fun s l h1 h2 _ => by unfold after; rw [if_pos h1, if_neg (by omega), add_zero])
      (fun s l _ _ h1 => by
        unfold after
        by_cases h2 : s < b3
        · rw [if_neg (by omega), if_neg (by omega)]
        · rw [if_pos (by omega), if_pos (by omega)])
    exact x4
  · have y0 : Scr t0 arg10 (arg10.view.writes (Elt Ideal) f10 []) (Gh Q0 Q1 D0 D1 Kk V t0) (fun h j => b0 + 128 ≤ 128 * j) := h.s10
    have y1 := put_scr (n := 512) (h0 := 0) (j0 := 4 * (i 2).val - 1 - (4 * k.val + 0)) (r0 := 0) (P' := fun h j => b0 + 128 ≤ 128 * j ∨ (h = 0 ∧ b0 ≤ 128 * j)) y0 (k0_off11_inb i k 0) (off11_eq i k 0) (gT v35 v21 v45 acc.1 (truncf .bf16 (arg4.view.readAt (Elt Ideal) (Rect.unit (s := S2048x128) (k0_off10 i k 0#32) S128x128.size (k0_off10_inb i k 0)).toLoadRect K) bitsLt_bf16_f32) (truncf .bf16 (arg5.view.readAt (Elt Ideal) (Rect.unit (s := S2048x128) (k0_off10 i k 0#32) S128x128.size (k0_off10_inb i k 0)).toLoadRect W) bitsLt_bf16_f32))
      (fun p c => by
        refine (g512_is (V := V) a0_0 hd0 hv0 p c).trans ?_
        unfold Gh
        beta_reduce
        rw [if_pos rfl, Nat.zero_add, ← hb0]
        rfl) (by omega) (by omega) (by omega)
    have y2 := put_scr (n := 512) (h0 := 1) (j0 := 4 * (i 2).val - 1 - (4 * k.val + 0)) (r0 := 0) (P' := fun h j => b0 ≤ 128 * j) y1 (k0_off12_inb i k 0) (off12_eq i k 0) (gT v35 v26 v50 acc.2 (truncf .bf16 (arg4.view.readAt (Elt Ideal) (Rect.unit (s := S2048x128) (k0_off10 i k 0#32) S128x128.size (k0_off10_inb i k 0)).toLoadRect K) bitsLt_bf16_f32) (truncf .bf16 (arg5.view.readAt (Elt Ideal) (Rect.unit (s := S2048x128) (k0_off10 i k 0#32) S128x128.size (k0_off10_inb i k 0)).toLoadRect W) bitsLt_bf16_f32))
      (fun p c => by
        refine (g512_is (V := V) a1_0 hd1 hv0 p c).trans ?_
        unfold Gh
        beta_reduce
        rw [if_neg (by decide), Nat.zero_add, ← hb0]
        rfl) (by omega) (by omega) (by omega)
    rw [show (fun (h j : ℕ) => b0 ≤ 128 * j) = fun h j => b1 + 128 ≤ 128 * j by rw [show b0 = b1 + 128 by omega]] at y2
    have y3 := put_scr (n := 512) (h0 := 0) (j0 := 4 * (i 2).val - 1 - (4 * k.val + 1)) (r0 := 0) (P' := fun h j => b1 + 128 ≤ 128 * j ∨ (h = 0 ∧ b1 ≤ 128 * j)) y2 (k0_off11_inb i k 1) (off11_eq i k 1) (gT v35 v21 v45 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32) (truncf .bf16 (arg5.view.readAt (Elt Ideal) (Rect.unit (s := S2048x128) (k0_off10 i k 1#32) S128x128.size (k0_off10_inb i k 1)).toLoadRect W) bitsLt_bf16_f32))
      (fun p c => by
        refine (g512_is (V := V) a0_1 hd0 hv1 p c).trans ?_
        unfold Gh
        beta_reduce
        rw [if_pos rfl, Nat.zero_add, ← hb1]
        rfl) (by omega) (by omega) (by omega)
    have y4 := put_scr (n := 512) (h0 := 1) (j0 := 4 * (i 2).val - 1 - (4 * k.val + 1)) (r0 := 0) (P' := fun h j => b1 ≤ 128 * j) y3 (k0_off12_inb i k 1) (off12_eq i k 1) (gT v35 v26 v50 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32) (truncf .bf16 (arg5.view.readAt (Elt Ideal) (Rect.unit (s := S2048x128) (k0_off10 i k 1#32) S128x128.size (k0_off10_inb i k 1)).toLoadRect W) bitsLt_bf16_f32))
      (fun p c => by
        refine (g512_is (V := V) a1_1 hd1 hv1 p c).trans ?_
        unfold Gh
        beta_reduce
        rw [if_neg (by decide), Nat.zero_add, ← hb1]
        rfl) (by omega) (by omega) (by omega)
    rw [show (fun (h j : ℕ) => b1 ≤ 128 * j) = fun h j => b2 + 128 ≤ 128 * j by rw [show b1 = b2 + 128 by omega]] at y4
    have y5 := put_scr (n := 512) (h0 := 0) (j0 := 4 * (i 2).val - 1 - (4 * k.val + 2)) (r0 := 0) (P' := fun h j => b2 + 128 ≤ 128 * j ∨ (h = 0 ∧ b2 ≤ 128 * j)) y4 (k0_off11_inb i k 2) (off11_eq i k 2) (gT v35 v21 v45 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32) (truncf .bf16 (arg5.view.readAt (Elt Ideal) (Rect.unit (s := S2048x128) (k0_off10 i k 2#32) S128x128.size (k0_off10_inb i k 2)).toLoadRect W) bitsLt_bf16_f32))
      (fun p c => by
        refine (g512_is (V := V) a0_2 hd0 hv2 p c).trans ?_
        unfold Gh
        beta_reduce
        rw [if_pos rfl, Nat.zero_add, ← hb2]
        rfl) (by omega) (by omega) (by omega)
    have y6 := put_scr (n := 512) (h0 := 1) (j0 := 4 * (i 2).val - 1 - (4 * k.val + 2)) (r0 := 0) (P' := fun h j => b2 ≤ 128 * j) y5 (k0_off12_inb i k 2) (off12_eq i k 2) (gT v35 v26 v50 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32) (truncf .bf16 (arg5.view.readAt (Elt Ideal) (Rect.unit (s := S2048x128) (k0_off10 i k 2#32) S128x128.size (k0_off10_inb i k 2)).toLoadRect W) bitsLt_bf16_f32))
      (fun p c => by
        refine (g512_is (V := V) a1_2 hd1 hv2 p c).trans ?_
        unfold Gh
        beta_reduce
        rw [if_neg (by decide), Nat.zero_add, ← hb2]
        rfl) (by omega) (by omega) (by omega)
    rw [show (fun (h j : ℕ) => b2 ≤ 128 * j) = fun h j => b3 + 128 ≤ 128 * j by rw [show b2 = b3 + 128 by omega]] at y6
    have y7 := put_scr (n := 512) (h0 := 0) (j0 := 4 * (i 2).val - 1 - (4 * k.val + 3)) (r0 := 0) (P' := fun h j => b3 + 128 ≤ 128 * j ∨ (h = 0 ∧ b3 ≤ 128 * j)) y6 (k0_off11_inb i k 3) (off11_eq i k 3) (gT v35 v21 v45 (runT v35 v21 (runT v35 v21 (runT v35 v21 acc.1 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32) (truncf .bf16 (arg5.view.readAt (Elt Ideal) (Rect.unit (s := S2048x128) (k0_off10 i k 3#32) S128x128.size (k0_off10_inb i k 3)).toLoadRect W) bitsLt_bf16_f32))
      (fun p c => by
        refine (g512_is (V := V) a0_3 hd0 hv3 p c).trans ?_
        unfold Gh
        beta_reduce
        rw [if_pos rfl, Nat.zero_add, ← hb3]
        rfl) (by omega) (by omega) (by omega)
    have y8 := put_scr (n := 512) (h0 := 1) (j0 := 4 * (i 2).val - 1 - (4 * k.val + 3)) (r0 := 0) (P' := fun h j => b3 ≤ 128 * j) y7 (k0_off12_inb i k 3) (off12_eq i k 3) (gT v35 v26 v50 (runT v35 v26 (runT v35 v26 (runT v35 v26 acc.2 (truncf .bf16 (arg4.view.readAt (Elt Ideal) (Rect.unit (s := S2048x128) (k0_off10 i k 0#32) S128x128.size (k0_off10_inb i k 0)).toLoadRect K) bitsLt_bf16_f32)) (truncf .bf16 (arg4.view.readAt (Elt Ideal) (Rect.unit (s := S2048x128) (k0_off10 i k 1#32) S128x128.size (k0_off10_inb i k 1)).toLoadRect K) bitsLt_bf16_f32)) (truncf .bf16 (arg4.view.readAt (Elt Ideal) (Rect.unit (s := S2048x128) (k0_off10 i k 2#32) S128x128.size (k0_off10_inb i k 2)).toLoadRect K) bitsLt_bf16_f32)) (truncf .bf16 (arg4.view.readAt (Elt Ideal) (Rect.unit (s := S2048x128) (k0_off10 i k 3#32) S128x128.size (k0_off10_inb i k 3)).toLoadRect K) bitsLt_bf16_f32) (truncf .bf16 (arg5.view.readAt (Elt Ideal) (Rect.unit (s := S2048x128) (k0_off10 i k 3#32) S128x128.size (k0_off10_inb i k 3)).toLoadRect W) bitsLt_bf16_f32))
      (fun p c => by
        refine (g512_is (V := V) a1_3 hd1 hv3 p c).trans ?_
        unfold Gh
        beta_reduce
        rw [if_neg (by decide), Nat.zero_add, ← hb3]
        rfl) (by omega) (by omega) (by omega)
    exact y8
  · have y0 : Scr t0 arg11 (arg11.view.writes (Elt Ideal) f11 []) (Wh Q0 Q1 Kk t0) (fun h j => b0 + 128 ≤ 128 * j) := h.s11
    have y1 := put_scr (n := 512) (h0 := 0) (j0 := 4 * (i 2).val - 1 - (4 * k.val + 0)) (r0 := 0) (P' := fun h j => b0 + 128 ≤ 128 * j ∨ (h = 0 ∧ b0 ≤ 128 * j)) y0 (k0_off11_inb i k 0) (off11_eq i k 0) (wT v21 (truncf .bf16 (arg4.view.readAt (Elt Ideal) (Rect.unit (s := S2048x128) (k0_off10 i k 0#32) S128x128.size (k0_off10_inb i k 0)).toLoadRect K) bitsLt_bf16_f32))
      (fun p c => by
        refine (w512_is (f := Ls Q0 Kk t0) (lmU_is hq0 hk0 hl0) p c).trans ?_
        unfold Wh
        beta_reduce
        rw [if_pos rfl, Nat.zero_add, ← hb0]
        rfl) (by omega) (by omega) (by omega)
    have y2 := put_scr (n := 512) (h0 := 1) (j0 := 4 * (i 2).val - 1 - (4 * k.val + 0)) (r0 := 0) (P' := fun h j => b0 ≤ 128 * j) y1 (k0_off12_inb i k 0) (off12_eq i k 0) (wT v26 (truncf .bf16 (arg4.view.readAt (Elt Ideal) (Rect.unit (s := S2048x128) (k0_off10 i k 0#32) S128x128.size (k0_off10_inb i k 0)).toLoadRect K) bitsLt_bf16_f32))
      (fun p c => by
        refine (w512_is (f := Ls Q1 Kk t0) (lmU_is hq1 hk0 hl0) p c).trans ?_
        unfold Wh
        beta_reduce
        rw [if_neg (by decide), Nat.zero_add, ← hb0]
        rfl) (by omega) (by omega) (by omega)
    rw [show (fun (h j : ℕ) => b0 ≤ 128 * j) = fun h j => b1 + 128 ≤ 128 * j by rw [show b0 = b1 + 128 by omega]] at y2
    have y3 := put_scr (n := 512) (h0 := 0) (j0 := 4 * (i 2).val - 1 - (4 * k.val + 1)) (r0 := 0) (P' := fun h j => b1 + 128 ≤ 128 * j ∨ (h = 0 ∧ b1 ≤ 128 * j)) y2 (k0_off11_inb i k 1) (off11_eq i k 1) (wT v21 (truncf .bf16 (arg4.view.readAt (Elt Ideal) (Rect.unit (s := S2048x128) (k0_off10 i k 1#32) S128x128.size (k0_off10_inb i k 1)).toLoadRect K) bitsLt_bf16_f32))
      (fun p c => by
        refine (w512_is (f := Ls Q0 Kk t0) (lmU_is hq0 hk1 hl1) p c).trans ?_
        unfold Wh
        beta_reduce
        rw [if_pos rfl, Nat.zero_add, ← hb1]
        rfl) (by omega) (by omega) (by omega)
    have y4 := put_scr (n := 512) (h0 := 1) (j0 := 4 * (i 2).val - 1 - (4 * k.val + 1)) (r0 := 0) (P' := fun h j => b1 ≤ 128 * j) y3 (k0_off12_inb i k 1) (off12_eq i k 1) (wT v26 (truncf .bf16 (arg4.view.readAt (Elt Ideal) (Rect.unit (s := S2048x128) (k0_off10 i k 1#32) S128x128.size (k0_off10_inb i k 1)).toLoadRect K) bitsLt_bf16_f32))
      (fun p c => by
        refine (w512_is (f := Ls Q1 Kk t0) (lmU_is hq1 hk1 hl1) p c).trans ?_
        unfold Wh
        beta_reduce
        rw [if_neg (by decide), Nat.zero_add, ← hb1]
        rfl) (by omega) (by omega) (by omega)
    rw [show (fun (h j : ℕ) => b1 ≤ 128 * j) = fun h j => b2 + 128 ≤ 128 * j by rw [show b1 = b2 + 128 by omega]] at y4
    have y5 := put_scr (n := 512) (h0 := 0) (j0 := 4 * (i 2).val - 1 - (4 * k.val + 2)) (r0 := 0) (P' := fun h j => b2 + 128 ≤ 128 * j ∨ (h = 0 ∧ b2 ≤ 128 * j)) y4 (k0_off11_inb i k 2) (off11_eq i k 2) (wT v21 (truncf .bf16 (arg4.view.readAt (Elt Ideal) (Rect.unit (s := S2048x128) (k0_off10 i k 2#32) S128x128.size (k0_off10_inb i k 2)).toLoadRect K) bitsLt_bf16_f32))
      (fun p c => by
        refine (w512_is (f := Ls Q0 Kk t0) (lmU_is hq0 hk2 hl2) p c).trans ?_
        unfold Wh
        beta_reduce
        rw [if_pos rfl, Nat.zero_add, ← hb2]
        rfl) (by omega) (by omega) (by omega)
    have y6 := put_scr (n := 512) (h0 := 1) (j0 := 4 * (i 2).val - 1 - (4 * k.val + 2)) (r0 := 0) (P' := fun h j => b2 ≤ 128 * j) y5 (k0_off12_inb i k 2) (off12_eq i k 2) (wT v26 (truncf .bf16 (arg4.view.readAt (Elt Ideal) (Rect.unit (s := S2048x128) (k0_off10 i k 2#32) S128x128.size (k0_off10_inb i k 2)).toLoadRect K) bitsLt_bf16_f32))
      (fun p c => by
        refine (w512_is (f := Ls Q1 Kk t0) (lmU_is hq1 hk2 hl2) p c).trans ?_
        unfold Wh
        beta_reduce
        rw [if_neg (by decide), Nat.zero_add, ← hb2]
        rfl) (by omega) (by omega) (by omega)
    rw [show (fun (h j : ℕ) => b2 ≤ 128 * j) = fun h j => b3 + 128 ≤ 128 * j by rw [show b2 = b3 + 128 by omega]] at y6
    have y7 := put_scr (n := 512) (h0 := 0) (j0 := 4 * (i 2).val - 1 - (4 * k.val + 3)) (r0 := 0) (P' := fun h j => b3 + 128 ≤ 128 * j ∨ (h = 0 ∧ b3 ≤ 128 * j)) y6 (k0_off11_inb i k 3) (off11_eq i k 3) (wT v21 (truncf .bf16 (arg4.view.readAt (Elt Ideal) (Rect.unit (s := S2048x128) (k0_off10 i k 3#32) S128x128.size (k0_off10_inb i k 3)).toLoadRect K) bitsLt_bf16_f32))
      (fun p c => by
        refine (w512_is (f := Ls Q0 Kk t0) (lmU_is hq0 hk3 hl3) p c).trans ?_
        unfold Wh
        beta_reduce
        rw [if_pos rfl, Nat.zero_add, ← hb3]
        rfl) (by omega) (by omega) (by omega)
    have y8 := put_scr (n := 512) (h0 := 1) (j0 := 4 * (i 2).val - 1 - (4 * k.val + 3)) (r0 := 0) (P' := fun h j => b3 ≤ 128 * j) y7 (k0_off12_inb i k 3) (off12_eq i k 3) (wT v26 (truncf .bf16 (arg4.view.readAt (Elt Ideal) (Rect.unit (s := S2048x128) (k0_off10 i k 3#32) S128x128.size (k0_off10_inb i k 3)).toLoadRect K) bitsLt_bf16_f32))
      (fun p c => by
        refine (w512_is (f := Ls Q1 Kk t0) (lmU_is hq1 hk3 hl3) p c).trans ?_
        unfold Wh
        beta_reduce
        rw [if_neg (by decide), Nat.zero_add, ← hb3]
        rfl) (by omega) (by omega) (by omega)
    exact y8

end Cert.KernelIdeal.Hand
end
-- ==== Proof.Left.lean ====
/- The left sweep as a whole: its last diagonal block, its loop, and what it leaves. -/
module
public import proofs.«01_k».proof.Proof.TripL

@[expose] public section

set_option maxRecDepth 16384
set_option maxHeartbeats 2000000

noncomputable section

namespace Cert.KernelIdeal.Hand

open Cert.KernelIdeal Cert.KernelIdeal.Gen
open Idealize.ShloMosaic

theorem loop_swept (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x16x512x128 .f32) (harg10 : arg10.IsWhole) (arg11 : Memref sig .tc .vmem S2x16x512x128 .f32) (harg11 : arg11.IsWhole) (arg2 : BitVec 32) (v21 : FVec Ideal S512x128 .bf16) (v26 : FVec Ideal S512x128 .bf16) (v35 : FVec Ideal S128x128 .bf16) (v45 : FVec Ideal S512x128 .bf16) (v50 : FVec Ideal S512x128 .bf16) (v424 : FVec Ideal S512x1 .f32) (v432 : BitVec 32) (v434 : BitVec 32) (v440 : FVec Ideal S128x128 .bf16) (v442 : IVec S512x128 1) (v475 : FVec Ideal S128x128 .f32) (v489 : FVec Ideal S512x1 .f32) (v504 : FVec Ideal S512x128 .f32) (v511 : FVec Ideal S512x128 .f32) (v512 : FVec Ideal S512x128 .f32) (v513 : FVec Ideal S512x128 .f32) (K : BufTy.Contents (Elt Ideal) arg4.view.ty) (W : BufTy.Contents (Elt Ideal) arg5.view.ty)
    (G9 : BufTy.Contents (Elt Ideal) arg9.view.ty) (G10 : BufTy.Contents (Elt Ideal) arg10.view.ty) (G11 : BufTy.Contents (Elt Ideal) arg11.view.ty) (init : Runs Ideal)
    {Q0 Q1 D0 D1 Kk V X : ℕ → ℕ → ℝ} {t0 : ℕ} (hq0 : Is2 v21 Q0) (hq1 : Is2 v26 Q1) (hd0 : Is2 v45 D0) (hd1 : Is2 v50 D1) (hu : IsTail v35)
    (hK : Rows arg4 K Kk) (hV : Rows arg5 W V) (ht : t0 = 512 * (i 2).val)
    (h : Swept Q0 Q1 D0 D1 Kk V X t0 arg9 arg10 arg11 init G9 G10 G11 (512 * ((i 2).val - 0))) (k : ℕ) (hk : k ≤ (i 2).val) :
    Swept Q0 Q1 D0 D1 Kk V X t0 arg9 arg10 arg11 (stL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).runs (arg9.view.writes (Elt Ideal) G9 (stL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p9) (arg10.view.writes (Elt Ideal) G10 (stL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p10) (arg11.view.writes (Elt Ideal) G11 (stL (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init k).p11) (512 * ((i 2).val - k)) := by
  induction k with
  | zero => exact h
  | succ k ih =>
    have hlt : k < (k0_t1_loop i).trips := by rw [trips1]; omega
    rw [stL_succ (F := Ideal) Variants.none c none i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W G9 init ⟨k, hlt⟩]
    dsimp only
    rw [View.writes_append, View.writes_append, View.writes_append]
    exact trip_step c i arg3 harg3 arg4 harg4 arg5 harg5 arg6 harg6 arg7 harg7 arg8 harg8 arg9 harg9 arg10 harg10 arg11 harg11 arg2 v21 v26 v35 v45 v50 v424 v432 v434 v440 v442 v475 v489 v504 v511 v512 v513 K W ⟨k, hlt⟩ _ _ _ _ hq0 hq1 hd0 hd1 hu hK hV ht hk (ih (by omega))

theorem e47 {F : FTy → Type} [FloatOps F] (e : Env F) (o : First e) : ∃ (v424 : FVec F S512x1 .f32) (v432 : BitVec 32) (v434 : BitVec 32) (v440 : FVec F S128x128 .bf16) (v442 : IVec S512x128 1) (v475 : FVec F S128x128 .f32) (v489 : FVec F S512x1 .f32) (v504 : FVec F S512x128 .f32) (v511 : FVec F S512x128 .f32) (v512 : FVec F S512x128 .f32) (v513 : FVec F S512x128 .f32),
    (c47 e o).b.f9 = e.arg9.view.writes (Elt F) (e.arg9.view.writes (Elt F) (c46 e o).b.f9 [⟨(Rect.unit (s := S2048x128) (k0_off1 e.i 0#32) S128x128.size (k0_off1_inb e.i 0)), addf (shapeCast S128x128 (e.arg9.view.readAt (Elt F) (Rect.unit (s := S2048x128) (k0_off1 e.i 0#32) S128x128.size (k0_off1_inb e.i 0)).toLoadRect (c46 e o).b.f9) shapeCasts_S128x128_S128x128) (dv512 (dv512 (broadcast S128x128 (Scalar.ofBits .f32 0x00000000#32) : FVec F S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o))⟩]) (stL (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (q0 o) (q1 o) (uu o) (d0 o) (d1 o) v424 v432 v434 v440 v442 v475 v489 v504 v511 v512 v513 e.K4 e.K5 (e.arg9.view.writes (Elt F) (c46 e o).b.f9 [⟨(Rect.unit (s := S2048x128) (k0_off1 e.i 0#32) S128x128.size (k0_off1_inb e.i 0)), addf (shapeCast S128x128 (e.arg9.view.readAt (Elt F) (Rect.unit (s := S2048x128) (k0_off1 e.i 0#32) S128x128.size (k0_off1_inb e.i 0)).toLoadRect (c46 e o).b.f9) shapeCasts_S128x128_S128x128) (dv512 (dv512 (broadcast S128x128 (Scalar.ofBits .f32 0x00000000#32) : FVec F S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o))⟩]) ((c46 e o).r.2.1, run512 ((c44 e o).r.1) (cs512 (lm512 (io o) (z512 (q1 o) (k0 e))) (uu o))) (k0_t1_loop e.i).trips).p9
    ∧ (c47 e o).b.f10 = e.arg10.view.writes (Elt F) (e.arg10.view.writes (Elt F) (c46 e o).b.f10 [⟨Rect.unit (s := S2x16x512x128) (k0_off9 e.i) S1x1x512x128.size (k0_off9_inb e.i), g512 (a512 (io o) (z512 (q1 o) (k0 e)) (cs512 (lm512 (io o) (z512 (q1 o) (k0 e))) (uu o)) ((c44 e o).r.1)) (d1 o) (vv0 e)⟩]) (stL (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (q0 o) (q1 o) (uu o) (d0 o) (d1 o) v424 v432 v434 v440 v442 v475 v489 v504 v511 v512 v513 e.K4 e.K5 (e.arg9.view.writes (Elt F) (c46 e o).b.f9 [⟨(Rect.unit (s := S2048x128) (k0_off1 e.i 0#32) S128x128.size (k0_off1_inb e.i 0)), addf (shapeCast S128x128 (e.arg9.view.readAt (Elt F) (Rect.unit (s := S2048x128) (k0_off1 e.i 0#32) S128x128.size (k0_off1_inb e.i 0)).toLoadRect (c46 e o).b.f9) shapeCasts_S128x128_S128x128) (dv512 (dv512 (broadcast S128x128 (Scalar.ofBits .f32 0x00000000#32) : FVec F S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o))⟩]) ((c46 e o).r.2.1, run512 ((c44 e o).r.1) (cs512 (lm512 (io o) (z512 (q1 o) (k0 e))) (uu o))) (k0_t1_loop e.i).trips).p10
    ∧ (c47 e o).b.f11 = e.arg11.view.writes (Elt F) (e.arg11.view.writes (Elt F) (c46 e o).b.f11 [⟨Rect.unit (s := S2x16x512x128) (k0_off9 e.i) S1x1x512x128.size (k0_off9_inb e.i), w512 (lm512 (io o) (z512 (q1 o) (k0 e)))⟩]) (stL (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (q0 o) (q1 o) (uu o) (d0 o) (d1 o) v424 v432 v434 v440 v442 v475 v489 v504 v511 v512 v513 e.K4 e.K5 (e.arg9.view.writes (Elt F) (c46 e o).b.f9 [⟨(Rect.unit (s := S2048x128) (k0_off1 e.i 0#32) S128x128.size (k0_off1_inb e.i 0)), addf (shapeCast S128x128 (e.arg9.view.readAt (Elt F) (Rect.unit (s := S2048x128) (k0_off1 e.i 0#32) S128x128.size (k0_off1_inb e.i 0)).toLoadRect (c46 e o).b.f9) shapeCasts_S128x128_S128x128) (dv512 (dv512 (broadcast S128x128 (Scalar.ofBits .f32 0x00000000#32) : FVec F S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o))⟩]) ((c46 e o).r.2.1, run512 ((c44 e o).r.1) (cs512 (lm512 (io o) (z512 (q1 o) (k0 e))) (uu o))) (k0_t1_loop e.i).trips).p11 := by
  obtain ⟨-, h44_1, -, -, -⟩ := e44 e o
  obtain ⟨h45_0, h45_1, h45_2, h45_3, h45_4, h45_5, h45_6, h45_7, -, -, -⟩ := e45 e o
  obtain ⟨h46_0, -, h46_2, h46_3, h46_4, h46_5, -, -, -⟩ := e46 e o
  unfold c47
  simp only [h44_1, h45_0, h45_1, h45_2, h45_3, h45_4, h45_5, h45_6, h45_7, h46_0, h46_2, h46_3, h46_4, h46_5]
  unfold o47 part47
  dsimp only
  rw [View.writes_append, View.writes_append, View.writes_append]
  exact ⟨_, _, _, _, _, _, _, _, _, _, _, rfl, rfl, rfl⟩

/-- After the left sweep: every key's part is in the values' gradient, and the two scratch arrays hold all they should. -/
theorem left_swept {e : Env Ideal} {o : First e} {Q0 Q1 D0 D1 K V X : ℕ → ℕ → ℝ} {t0 : ℕ} (S : Setup e o Q0 Q1 D0 D1 K V t0) (h : Rows e.arg9 o.b.f9 X) :
    Rows e.arg9 (c47 e o).b.f9 (after Q0 Q1 D0 D1 K t0 X 0)
    ∧ Scr t0 e.arg10 (c47 e o).b.f10 (Gh Q0 Q1 D0 D1 K V t0) (fun h j => 0 ≤ 128 * j)
    ∧ Scr t0 e.arg11 (c47 e o).b.f11 (Wh Q0 Q1 K t0) (fun h j => 0 ≤ 128 * j) := by
  obtain ⟨v424, v432, v434, v440, v442, v475, v489, v504, v511, v512, v513, h9, h10, h11⟩ := e47 e o
  rw [h9, h10, h11]
  have ht := S.ht
  have x := add_rows (L := []) (Z := after Q0 Q1 D0 D1 K t0 X t0) (Y := Cv Q0 Q1 D0 D1 K t0) (o := t0) (rows0_is S h) (k0_off1_inb e.i 0) (by rw [S.ht]; exact off1_eq e.i 0) (dv0_is S)
    (fun s l h1 h2 _ => by unfold after; rw [if_pos h1, if_neg (by omega), add_zero])
    (fun s l _ _ h1 => by
      unfold after
      by_cases h2 : s < t0
      · rw [if_neg (by omega), if_neg (by omega)]
      · rw [if_pos (by omega), if_pos (by omega)])
  have y := put_scr (L := []) (n := 512) (h0 := 1) (j0 := 4 * (e.i 2).val + 0) (r0 := 0) (P' := fun h j => t0 ≤ 128 * j) (f10_46 S) (k0_off9_inb e.i) (off9_eq e.i) _ (g0_1_is S) (by omega) (by omega) (by omega)
  have z := put_scr (L := []) (n := 512) (h0 := 1) (j0 := 4 * (e.i 2).val + 0) (r0 := 0) (P' := fun h j => t0 ≤ 128 * j) (f11_46 S) (k0_off9_inb e.i) (off9_eq e.i) _ (w0_1_is S) (by omega) (by omega) (by omega)
  have r1 := run512_is (b := t0) S.hq1 (k0_is S) S.hu S.pos (Nat.add_zero _).symm (run0_1_is S)
  have hE : 512 * ((e.i 2).val - 0) = t0 := by omega
  have sw : Swept Q0 Q1 D0 D1 K V X t0 e.arg9 e.arg10 e.arg11 ((c46 e o).r.2.1, run512 ((c44 e o).r.1) (cs512 (lm512 (io o) (z512 (q1 o) (k0 e))) (uu o))) (e.arg9.view.writes (Elt Ideal) (c46 e o).b.f9 [⟨(Rect.unit (s := S2048x128) (k0_off1 e.i 0#32) S128x128.size (k0_off1_inb e.i 0)), addf (shapeCast S128x128 (e.arg9.view.readAt (Elt Ideal) (Rect.unit (s := S2048x128) (k0_off1 e.i 0#32) S128x128.size (k0_off1_inb e.i 0)).toLoadRect (c46 e o).b.f9) shapeCasts_S128x128_S128x128) (dv512 (dv512 (broadcast S128x128 (Scalar.ofBits .f32 0x00000000#32) : FVec Ideal S128x128 .f32) (a512 (io o) (z512 (q0 o) (k0 e)) (cs512 (lm512 (io o) (z512 (q0 o) (k0 e))) (uu o)) ((c43 e o).r.2.1)) (d0 o)) (a512 (io o) (z512 (q1 o) (k0 e)) (cs512 (lm512 (io o) (z512 (q1 o) (k0 e))) (uu o)) ((c44 e o).r.1)) (d1 o))⟩]) (e.arg10.view.writes (Elt Ideal) (c46 e o).b.f10 [⟨Rect.unit (s := S2x16x512x128) (k0_off9 e.i) S1x1x512x128.size (k0_off9_inb e.i), g512 (a512 (io o) (z512 (q1 o) (k0 e)) (cs512 (lm512 (io o) (z512 (q1 o) (k0 e))) (uu o)) ((c44 e o).r.1)) (d1 o) (vv0 e)⟩]) (e.arg11.view.writes (Elt Ideal) (c46 e o).b.f11 [⟨Rect.unit (s := S2x16x512x128) (k0_off9 e.i) S1x1x512x128.size (k0_off9_inb e.i), w512 (lm512 (io o) (z512 (q1 o) (k0 e)))⟩]) (512 * ((e.i 2).val - 0)) := by
    rw [hE]; exact ⟨runD_0_is S, r1, x, y, z⟩
  have hS := loop_swept e.c e.i e.arg3 e.harg3 e.arg4 e.harg4 e.arg5 e.harg5 e.arg6 e.harg6 e.arg7 e.harg7 e.arg8 e.harg8 e.arg9 e.harg9 e.arg10 e.harg10 e.arg11 e.harg11 o.r.1 (q0 o) (q1 o) (uu o) (d0 o) (d1 o) v424 v432 v434 v440 v442 v475 v489 v504 v511 v512 v513 e.K4 e.K5 _ _ _ _
    S.hq0 S.hq1 S.hd0 S.hd1 S.hu S.hK S.hV ht sw (k0_t1_loop e.i).trips (by rw [trips1])
  rw [show 512 * ((e.i 2).val - (k0_t1_loop e.i).trips) = 0 by rw [trips1]; omega] at hS
  exact ⟨hS.rows, hS.s10, hS.s11⟩

end Cert.KernelIdeal.Hand
end
-- ==== Proof.DiagR.lean ====
/- The right sweep at ideal values: its loop, its four diagonal blocks, and what the point leaves of the queries' and the
   keys' gradients. -/
module
public import proofs.«01_k».proof.Proof.TripR
public import proofs.«01_k».proof.Proof.EqR
public import proofs.«01_k».proof.Proof.Left

@[expose] public section

set_option maxRecDepth 16384
set_option maxHeartbeats 2000000

noncomputable section

namespace Cert.KernelIdeal.Hand

open Cert.KernelIdeal Cert.KernelIdeal.Gen
open Idealize.ShloMosaic

/-- What the right sweep needs of the first stretch besides: the heads' lanes and the matrix of its sums. -/
structure SetupR (e : Env Ideal) (o : First e) : Prop where
  hm0 : IsMask (m0 o) 0
  hm1 : IsMask (m1 o) 1
  hf : IsHead (uf o)

section
variable {F : FTy → Type} [FloatOps F]

theorem e48_0 (e : Env F) (o : First e) : (c48 e o).r.1 = (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.1 := by
  have h : (c48 e o).r.1 = (st_k0_t4 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) (part48.sl.v557 (c47 e o).r.1) e.K4 (c47 e o).b.f10 (c47 e o).b.f11 (e.arg8.view.writes (Elt F) (c47 e o).b.f8 (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2) ((st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.2) (k0_t4_loop e.i).trips).1.1 := by unfold c48 o48 part48; rfl
  rw [h, trips4]; rfl
theorem e48_1 (e : Env F) (o : First e) : (c48 e o).r.2.1 = (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.1 := by
  have h : (c48 e o).r.2.1 = (st_k0_t4 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) (part48.sl.v557 (c47 e o).r.1) e.K4 (c47 e o).b.f10 (c47 e o).b.f11 (e.arg8.view.writes (Elt F) (c47 e o).b.f8 (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2) ((st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.2) (k0_t4_loop e.i).trips).1.2.1 := by unfold c48 o48 part48; rfl
  rw [h, trips4]; rfl
theorem e48_2 (e : Env F) (o : First e) : (c48 e o).r.2.2.1 = (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.2 := by
  have h : (c48 e o).r.2.2.1 = (st_k0_t4 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) (part48.sl.v557 (c47 e o).r.1) e.K4 (c47 e o).b.f10 (c47 e o).b.f11 (e.arg8.view.writes (Elt F) (c47 e o).b.f8 (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2) ((st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.2) (k0_t4_loop e.i).trips).1.2.2 := by unfold c48 o48 part48; rfl
  rw [h, trips4]; rfl
theorem e48_8 (e : Env F) (o : First e) : (c48 e o).b.f8 = e.arg8.view.writes (Elt F) (c47 e o).b.f8 (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2 := by
  have h : (c48 e o).b.f8 = e.arg8.view.writes (Elt F) (c47 e o).b.f8 ((st_k0_t4 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) (part48.sl.v557 (c47 e o).r.1) e.K4 (c47 e o).b.f10 (c47 e o).b.f11 (e.arg8.view.writes (Elt F) (c47 e o).b.f8 (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2) ((st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.1, (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).1.2.2) (k0_t4_loop e.i).trips).2 ++ (st_k0_t3 (F := F) Variants.none e.c none e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11 (c47 e o).b.f8 ((c47 e o).r.2.1, (c47 e o).r.2.2, k0_pay401) (k0_t3_loop e.i).trips).2) := by unfold c48 o48 part48; rfl
  rw [h, trips4]; rfl
theorem e47_r1 (e : Env F) (o : First e) : (c47 e o).r.2.1 = broadcast S512x128 (Scalar.ofBits .f32 0x00000000#32) := by unfold c47 o47 part47; rfl
theorem e47_r2 (e : Env F) (o : First e) : (c47 e o).r.2.2 = broadcast S512x1 (Scalar.ofBits .f32 0x00000000#32) := by unfold c47 o47 part47; rfl
theorem f8_36 (e : Env F) (o : First e) : (c36 e o).b.f8 = o.b.f8 := by unfold c36 o36 part36; rfl
theorem f8_37 (e : Env F) (o : First e) : (c37 e o).b.f8 = (c36 e o).b.f8 := by unfold c37 o37 part37; rfl
theorem f8_38 (e : Env F) (o : First e) : (c38 e o).b.f8 = (c37 e o).b.f8 := by unfold c38 o38 part38; rfl
theorem f8_39 (e : Env F) (o : First e) : (c39 e o).b.f8 = (c38 e o).b.f8 := by unfold c39 o39 part39; rfl
theorem f8_40 (e : Env F) (o : First e) : (c40 e o).b.f8 = (c39 e o).b.f8 := by unfold c40 o40 part40; rfl
theorem f8_41 (e : Env F) (o : First e) : (c41 e o).b.f8 = (c40 e o).b.f8 := by unfold c41 o41 part41; rfl
theorem f8_42 (e : Env F) (o : First e) : (c42 e o).b.f8 = (c41 e o).b.f8 := by unfold c42 o42 part42; rfl
theorem f8_43 (e : Env F) (o : First e) : (c43 e o).b.f8 = (c42 e o).b.f8 := by unfold c43 o43 part43; rfl
theorem f8_44 (e : Env F) (o : First e) : (c44 e o).b.f8 = (c43 e o).b.f8 := by unfold c44 o44 part44; rfl
theorem f8_45 (e : Env F) (o : First e) : (c45 e o).b.f8 = (c44 e o).b.f8 := by unfold c45 o45 part45; rfl
theorem f8_46 (e : Env F) (o : First e) : (c46 e o).b.f8 = (c45 e o).b.f8 := by unfold c46 o46 part46; rfl
theorem f8_47 (e : Env F) (o : First e) : (c47 e o).b.f8 = (c46 e o).b.f8 := by unfold c47 o47 part47; rfl
theorem f8_left (e : Env F) (o : First e) : (c47 e o).b.f8 = o.b.f8 := by
  rw [f8_47, f8_46, f8_45, f8_44, f8_43, f8_42, f8_41, f8_40, f8_39, f8_38, f8_37, f8_36]
theorem f9_48 (e : Env F) (o : First e) : (c48 e o).b.f9 = (c47 e o).b.f9 := (e48 e o).2.2.2.2.2.1
theorem f9_49 (e : Env F) (o : First e) : (c49 e o).b.f9 = (c47 e o).b.f9 := (e49 e o).2.2.2.2.2.1
theorem f9_50 (e : Env F) (o : First e) : (c50 e o).b.f9 = (c47 e o).b.f9 := (e50 e o).2.2.2.2.2.2.2.1
theorem f9_51 (e : Env F) (o : First e) : (c51 e o).b.f9 = (c47 e o).b.f9 := (e51 e o).2.2.2.2.2.2.2.2.1
theorem f9_52 (e : Env F) (o : First e) : (c52 e o).b.f9 = (c47 e o).b.f9 := (e52 e o).2.2.2.2.2.2.2.1
theorem f9_53 (e : Env F) (o : First e) : (c53 e o).b.f9 = (c47 e o).b.f9 := (e53 e o).2.2.2.2.2.2.2.1
theorem f9_54 (e : Env F) (o : First e) : (c54 e o).b.f9 = (c47 e o).b.f9 := (e54 e o).2.2.2.2.2.1
theorem f9_55 (e : Env F) (o : First e) : (c55 e o).b.f9 = (c47 e o).b.f9 := (e55 e o).2.2.2.2.2.2.1
theorem f10_48 (e : Env F) (o : First e) : (c48 e o).b.f10 = (c47 e o).b.f10 := (e48 e o).2.2.2.2.2.2.1
theorem f10_49 (e : Env F) (o : First e) : (c49 e o).b.f10 = (c47 e o).b.f10 := (e49 e o).2.2.2.2.2.2.1
theorem f10_50 (e : Env F) (o : First e) : (c50 e o).b.f10 = (c47 e o).b.f10 := (e50 e o).2.2.2.2.2.2.2.2.1
theorem f10_51 (e : Env F) (o : First e) : (c51 e o).b.f10 = (c47 e o).b.f10 := (e51 e o).2.2.2.2.2.2.2.2.2.1
theorem f10_52 (e : Env F) (o : First e) : (c52 e o).b.f10 = (c47 e o).b.f10 := (e52 e o).2.2.2.2.2.2.2.2.1
theorem f10_53 (e : Env F) (o : First e) : (c53 e o).b.f10 = (c47 e o).b.f10 := (e53 e o).2.2.2.2.2.2.2.2.1
theorem f10_54 (e : Env F) (o : First e) : (c54 e o).b.f10 = (c47 e o).b.f10 := (e54 e o).2.2.2.2.2.2.1
theorem f10_55 (e : Env F) (o : First e) : (c55 e o).b.f10 = (c47 e o).b.f10 := (e55 e o).2.2.2.2.2.2.2.1
theorem f11_48 (e : Env F) (o : First e) : (c48 e o).b.f11 = (c47 e o).b.f11 := (e48 e o).2.2.2.2.2.2.2.1
theorem f11_49 (e : Env F) (o : First e) : (c49 e o).b.f11 = (c47 e o).b.f11 := (e49 e o).2.2.2.2.2.2.2.1
theorem f11_50 (e : Env F) (o : First e) : (c50 e o).b.f11 = (c47 e o).b.f11 := (e50 e o).2.2.2.2.2.2.2.2.2.1
theorem f11_51 (e : Env F) (o : First e) : (c51 e o).b.f11 = (c47 e o).b.f11 := (e51 e o).2.2.2.2.2.2.2.2.2.2.1
theorem f11_52 (e : Env F) (o : First e) : (c52 e o).b.f11 = (c47 e o).b.f11 := (e52 e o).2.2.2.2.2.2.2.2.2.1
theorem f11_53 (e : Env F) (o : First e) : (c53 e o).b.f11 = (c47 e o).b.f11 := (e53 e o).2.2.2.2.2.2.2.2.2.1
theorem f11_54 (e : Env F) (o : First e) : (c54 e o).b.f11 = (c47 e o).b.f11 := (e54 e o).2.2.2.2.2.2.2.1
theorem f11_55 (e : Env F) (o : First e) : (c55 e o).b.f11 = (c47 e o).b.f11 := (e55 e o).2.2.2.2.2.2.2.2.1
end

section

variable {e : Env Ideal} {o : First e} {Q0 Q1 D0 D1 K V X : ℕ → ℕ → ℝ} {t0 : ℕ} (S : Setup e o Q0 Q1 D0 D1 K V t0) (R : SetupR e o)
  (s10 : Scr t0 e.arg10 (c47 e o).b.f10 (Gh Q0 Q1 D0 D1 K V t0) (fun h j => 0 ≤ 128 * j)) (s11 : Scr t0 e.arg11 (c47 e o).b.f11 (Wh Q0 Q1 K t0) (fun h j => 0 ≤ 128 * j))
  (h8 : Rows e.arg8 o.b.f8 X)
include S R s10 s11 h8

theorem swept48 : SweptR Q0 Q1 D0 D1 K V X t0 e.arg8 ((c48 e o).r.1) ((c48 e o).r.2.1) ((c48 e o).r.2.2.1) (c48 e o).b.f8 t0 := by
  rw [e48_0, e48_1, e48_2, e48_8]
  have hz : SweptR Q0 Q1 D0 D1 K V X t0 e.arg8 ((c47 e o).r.2.1) ((c47 e o).r.2.2) (k0_pay401 (F := Ideal)) (c47 e o).b.f8 (512 * 0) := by
    rw [e47_r1, e47_r2, f8_left]
    refine ⟨?_, ?_, ?_, ?_⟩
    · intro p l; refine (zero_is2 (φ := .f32) p l).trans ?_; unfold Qa; simp
    · intro p l; refine (zero_is2 (φ := .f32) p l).trans ?_; unfold RG; simp
    · intro p l; refine (zero_is2 (a := 512) (b := 1) (φ := .f32) p l).trans ?_; unfold RG; simp
    · intro s l; refine (h8 s l).trans ?_; unfold before; simp
  have := loopR_swept e.c e.i e.arg3 e.harg3 e.arg4 e.harg4 e.arg5 e.harg5 e.arg6 e.harg6 e.arg7 e.harg7 e.arg8 e.harg8 e.arg9 e.harg9 e.arg10 e.harg10 e.arg11 e.harg11 o.r.1 (m0 o) (m1 o) (q0 o) (q1 o) (io o) (uf o) ((c47 e o).r.1) ((c47 e o).r.2.1) ((c47 e o).r.2.2) e.K4 (c47 e o).b.f10 (c47 e o).b.f11
    (c47 e o).b.f8 ((c47 e o).r.2.1, (c47 e o).r.2.2, k0_pay401) S.hq0 S.hq1 R.hm0 R.hm1 R.hf S.hK s10 s11 S.ht hz (k0_t3_loop e.i).trips (by rw [trips3])
  have ht : 512 * (k0_t3_loop e.i).trips = t0 := by rw [trips3]; exact S.ht.symm
  rwa [ht] at this

theorem gR0_0 : Is2 (gg512 (e.arg10.view.readAt (Elt Ideal) (Rect.unit (s := S2x16x512x128) (k0_off8 e.i) S1x1x512x128.size (k0_off8_inb e.i)).toLoadRect (c47 e o).b.f10)) (fun p c => Gh Q0 Q1 D0 D1 K V t0 0 p (t0 + c)) := by
  have := gg512_is (readAt_scr (n := 512) (r0 := 0) (b := t0) s10 (k0_off8_inb e.i) (off8_eq e.i) (Nat.zero_le _) (by rw [S.ht]; omega) (by rw [S.ht]; omega))
  simpa only [Nat.zero_add] using this
theorem wR0_0 : Is2 (gg512 (e.arg11.view.readAt (Elt Ideal) (Rect.unit (s := S2x16x512x128) (k0_off8 e.i) S1x1x512x128.size (k0_off8_inb e.i)).toLoadRect (c47 e o).b.f11)) (fun p c => Wh Q0 Q1 K t0 0 p (t0 + c)) := by
  have := gg512_is (readAt_scr (n := 512) (r0 := 0) (b := t0) s11 (k0_off8_inb e.i) (off8_eq e.i) (Nat.zero_le _) (by rw [S.ht]; omega) (by rw [S.ht]; omega))
  simpa only [Nat.zero_add] using this
theorem rR0_0 : Is2 ((c48 e o).r.2.1) (fun p _ => RG (Gh Q0 Q1 D0 D1 K V t0 0) p t0) := (swept48 S R s10 s11 h8).r0
theorem zR0_0 : Is2 (dz512 (io o) (gg512 (e.arg10.view.readAt (Elt Ideal) (Rect.unit (s := S2x16x512x128) (k0_off8 e.i) S1x1x512x128.size (k0_off8_inb e.i)).toLoadRect (c47 e o).b.f10)) (gg512 (e.arg11.view.readAt (Elt Ideal) (Rect.unit (s := S2x16x512x128) (k0_off8 e.i) S1x1x512x128.size (k0_off8_inb e.i)).toLoadRect (c47 e o).b.f11)) (up512 (gg512 (e.arg10.view.readAt (Elt Ideal) (Rect.unit (s := S2x16x512x128) (k0_off8 e.i) S1x1x512x128.size (k0_off8_inb e.i)).toLoadRect (c47 e o).b.f10)) (uf o) ((c48 e o).r.2.1))) (fun p c => Zh Q0 Q1 D0 D1 K V t0 0 p (t0 + c)) :=
  dz512_is (gR0_0 S R s10 s11 h8) (wR0_0 S R s10 s11 h8) (up512_is (G := Gh Q0 Q1 D0 D1 K V t0 0) (gR0_0 S R s10 s11 h8) R.hf (rR0_0 S R s10 s11 h8)) S.pos rfl
theorem gR0_1 : Is2 (gg512 (e.arg10.view.readAt (Elt Ideal) (Rect.unit (s := S2x16x512x128) (k0_off9 e.i) S1x1x512x128.size (k0_off9_inb e.i)).toLoadRect (c48 e o).b.f10)) (fun p c => Gh Q0 Q1 D0 D1 K V t0 1 p (t0 + c)) := by
  rw [f10_48]
  have := gg512_is (readAt_scr (n := 512) (r0 := 0) (b := t0) s10 (k0_off9_inb e.i) (off9_eq e.i) (Nat.zero_le _) (by rw [S.ht]; omega) (by rw [S.ht]; omega))
  simpa only [Nat.zero_add] using this
theorem wR0_1 : Is2 (gg512 (e.arg11.view.readAt (Elt Ideal) (Rect.unit (s := S2x16x512x128) (k0_off9 e.i) S1x1x512x128.size (k0_off9_inb e.i)).toLoadRect (c48 e o).b.f11)) (fun p c => Wh Q0 Q1 K t0 1 p (t0 + c)) := by
  rw [f11_48]
  have := gg512_is (readAt_scr (n := 512) (r0 := 0) (b := t0) s11 (k0_off9_inb e.i) (off9_eq e.i) (Nat.zero_le _) (by rw [S.ht]; omega) (by rw [S.ht]; omega))
  simpa only [Nat.zero_add] using this
theorem rR0_1 : Is2 ((c48 e o).r.2.2.1) (fun p _ => RG (Gh Q0 Q1 D0 D1 K V t0 1) p t0) := (swept48 S R s10 s11 h8).r1
theorem zR0_1 : Is2 (dz512 (io o) (gg512 (e.arg10.view.readAt (Elt Ideal) (Rect.unit (s := S2x16x512x128) (k0_off9 e.i) S1x1x512x128.size (k0_off9_inb e.i)).toLoadRect (c48 e o).b.f10)) (gg512 (e.arg11.view.readAt (Elt Ideal) (Rect.unit (s := S2x16x512x128) (k0_off9 e.i) S1x1x512x128.size (k0_off9_inb e.i)).toLoadRect (c48 e o).b.f11)) (up512 (gg512 (e.arg10.view.readAt (Elt Ideal) (Rect.unit (s := S2x16x512x128) (k0_off9 e.i) S1x1x512x128.size (k0_off9_inb e.i)).toLoadRect (c48 e o).b.f10)) (uf o) ((c48 e o).r.2.2.1))) (fun p c => Zh Q0 Q1 D0 D1 K V t0 1 p (t0 + c)) :=
  dz512_is (gR0_1 S R s10 s11 h8) (wR0_1 S R s10 s11 h8) (up512_is (G := Gh Q0 Q1 D0 D1 K V t0 1) (gR0_1 S R s10 s11 h8) R.hf (rR0_1 S R s10 s11 h8)) S.pos rfl
theorem qR0 : Is2 ((c49 e o).r.2.1) (Qa Q0 Q1 D0 D1 K V t0 (t0 + 128)) := by
  rw [(e49 e o).2.1]
  intro p l
  refine (dq512_is (f := Zh Q0 Q1 D0 D1 K V t0 1) (K := lanes 1 K) (zR0_1 S R s10 s11 h8) (kh_is R.hm1 (k0_is S)) (dq512_is (f := Zh Q0 Q1 D0 D1 K V t0 0) (K := lanes 0 K) (zR0_0 S R s10 s11 h8) (kh_is R.hm0 (k0_is S)) (swept48 S R s10 s11 h8).dq) p l).trans ?_
  rw [Qa_block]
theorem kR0 : Is2 (dk512 (dk512 (broadcast S128x128 (Scalar.ofBits .f32 0x00000000#32) : FVec Ideal S128x128 .f32) (dz512 (io o) (gg512 (e.arg10.view.readAt (Elt Ideal) (Rect.unit (s := S2x16x512x128) (k0_off8 e.i) S1x1x512x128.size (k0_off8_inb e.i)).toLoadRect (c47 e o).b.f10)) (gg512 (e.arg11.view.readAt (Elt Ideal) (Rect.unit (s := S2x16x512x128) (k0_off8 e.i) S1x1x512x128.size (k0_off8_inb e.i)).toLoadRect (c47 e o).b.f11)) (up512 (gg512 (e.arg10.view.readAt (Elt Ideal) (Rect.unit (s := S2x16x512x128) (k0_off8 e.i) S1x1x512x128.size (k0_off8_inb e.i)).toLoadRect (c47 e o).b.f10)) (uf o) ((c48 e o).r.2.1))) (q0 o)) (dz512 (io o) (gg512 (e.arg10.view.readAt (Elt Ideal) (Rect.unit (s := S2x16x512x128) (k0_off9 e.i) S1x1x512x128.size (k0_off9_inb e.i)).toLoadRect (c48 e o).b.f10)) (gg512 (e.arg11.view.readAt (Elt Ideal) (Rect.unit (s := S2x16x512x128) (k0_off9 e.i) S1x1x512x128.size (k0_off9_inb e.i)).toLoadRect (c48 e o).b.f11)) (up512 (gg512 (e.arg10.view.readAt (Elt Ideal) (Rect.unit (s := S2x16x512x128) (k0_off9 e.i) S1x1x512x128.size (k0_off9_inb e.i)).toLoadRect (c48 e o).b.f10)) (uf o) ((c48 e o).r.2.2.1))) (q1 o)) (fun c l => Ck Q0 Q1 D0 D1 K V t0 (t0 + c) l) := by
  intro c l
  refine (dk512_is (f := Zh Q0 Q1 D0 D1 K V t0 1) (zR0_1 S R s10 s11 h8) S.hq1 (dk512_is (f := Zh Q0 Q1 D0 D1 K V t0 0) (zR0_0 S R s10 s11 h8) S.hq0 (zero_is2 (φ := .f32)) (fun p hp c hc => absurd hp (by omega))) (fun p hp c hc => absurd hp (by omega)) c l).trans ?_
  unfold Ck
  beta_reduce
  rw [zero_add]
theorem xI0 : Rows e.arg8 (c49 e o).b.f8 (before Q0 Q1 D0 D1 K V t0 X (t0)) := by
  rw [(e49 e o).2.2.2.2.1]
  exact (swept48 S R s10 s11 h8).rows
theorem xO0 : Rows e.arg8 ((c50 e o).b.f8) (before Q0 Q1 D0 D1 K V t0 X (t0 + 128)) := by
  rw [(e50 e o).2.2.2.2.2.2.1]
  exact put_rows (L := []) (Z := before Q0 Q1 D0 D1 K V t0 X (t0 + 128)) (Y := Ck Q0 Q1 D0 D1 K V t0) (X := before Q0 Q1 D0 D1 K V t0 X (t0)) (o := t0) (xI0 S R s10 s11 h8) (k0_off1_inb e.i 0) (by rw [S.ht]; exact off1_eq e.i 0)
    (readAt_rows (xI0 S R s10 s11 h8) (k0_off1_inb e.i 0) (by rw [S.ht]; exact off1_eq e.i 0)) (kR0 S R s10 s11 h8)
    (fun s l h1 h2 _ => by unfold before; rw [if_pos (by omega), if_neg (by omega), add_zero])
    (fun s l _ _ h1 => by
      unfold before
      by_cases h2 : s < t0
      · rw [if_pos (by omega), if_pos (by omega)]
      · rw [if_neg (by omega), if_neg (by omega)])
theorem gR1_0 : Is2 (gg384 (e.arg10.view.readAt (Elt Ideal) (Rect.unit (s := S2x16x512x128) (k0_off6 e.i) S1x1x384x128.size (k0_off6_inb e.i)).toLoadRect (c49 e o).b.f10)) (fun p c => Gh Q0 Q1 D0 D1 K V t0 0 (128 + p) (t0 + 128 + c)) := by
  rw [f10_49]
  have := gg384_is (readAt_scr (n := 384) (r0 := 128) (b := t0 + 128) s10 (k0_off6_inb e.i) (off6_eq e.i) (Nat.zero_le _) (by rw [S.ht]; omega) (by rw [S.ht]; omega))
  exact this
theorem wR1_0 : Is2 (gg384 (e.arg11.view.readAt (Elt Ideal) (Rect.unit (s := S2x16x512x128) (k0_off6 e.i) S1x1x384x128.size (k0_off6_inb e.i)).toLoadRect (c49 e o).b.f11)) (fun p c => Wh Q0 Q1 K t0 0 (128 + p) (t0 + 128 + c)) := by
  rw [f11_49]
  have := gg384_is (readAt_scr (n := 384) (r0 := 128) (b := t0 + 128) s11 (k0_off6_inb e.i) (off6_eq e.i) (Nat.zero_le _) (by rw [S.ht]; omega) (by rw [S.ht]; omega))
  exact this
theorem rR1_0 : Is2 ((c49 e o).r.1) (fun p _ => RG (Gh Q0 Q1 D0 D1 K V t0 0) p (t0 + 128)) := by
  rw [(e49 e o).1]
  exact ru512_is (G := Gh Q0 Q1 D0 D1 K V t0 0) (gR0_0 S R s10 s11 h8) (rR0_0 S R s10 s11 h8)
theorem zR1_0 : Is2 (dz384 (io o) (gg384 (e.arg10.view.readAt (Elt Ideal) (Rect.unit (s := S2x16x512x128) (k0_off6 e.i) S1x1x384x128.size (k0_off6_inb e.i)).toLoadRect (c49 e o).b.f10)) (gg384 (e.arg11.view.readAt (Elt Ideal) (Rect.unit (s := S2x16x512x128) (k0_off6 e.i) S1x1x384x128.size (k0_off6_inb e.i)).toLoadRect (c49 e o).b.f11)) (up384 (gg384 (e.arg10.view.readAt (Elt Ideal) (Rect.unit (s := S2x16x512x128) (k0_off6 e.i) S1x1x384x128.size (k0_off6_inb e.i)).toLoadRect (c49 e o).b.f10)) (uf o) ((c49 e o).r.1))) (fun p c => Zh Q0 Q1 D0 D1 K V t0 0 (128 + p) (t0 + 128 + c)) :=
  dz384_is (gR1_0 S R s10 s11 h8) (wR1_0 S R s10 s11 h8) (up384_is (G := Gh Q0 Q1 D0 D1 K V t0 0) (gR1_0 S R s10 s11 h8) R.hf (rR1_0 S R s10 s11 h8)) S.pos rfl
theorem gR1_1 : Is2 (gg384 (e.arg10.view.readAt (Elt Ideal) (Rect.unit (s := S2x16x512x128) (k0_off7 e.i) S1x1x384x128.size (k0_off7_inb e.i)).toLoadRect (c50 e o).b.f10)) (fun p c => Gh Q0 Q1 D0 D1 K V t0 1 (128 + p) (t0 + 128 + c)) := by
  rw [f10_50]
  have := gg384_is (readAt_scr (n := 384) (r0 := 128) (b := t0 + 128) s10 (k0_off7_inb e.i) (off7_eq e.i) (Nat.zero_le _) (by rw [S.ht]; omega) (by rw [S.ht]; omega))
  exact this
theorem wR1_1 : Is2 (gg384 (e.arg11.view.readAt (Elt Ideal) (Rect.unit (s := S2x16x512x128) (k0_off7 e.i) S1x1x384x128.size (k0_off7_inb e.i)).toLoadRect (c50 e o).b.f11)) (fun p c => Wh Q0 Q1 K t0 1 (128 + p) (t0 + 128 + c)) := by
  rw [f11_50]
  have := gg384_is (readAt_scr (n := 384) (r0 := 128) (b := t0 + 128) s11 (k0_off7_inb e.i) (off7_eq e.i) (Nat.zero_le _) (by rw [S.ht]; omega) (by rw [S.ht]; omega))
  exact this
theorem rR1_1 : Is2 ((c50 e o).r.1) (fun p _ => RG (Gh Q0 Q1 D0 D1 K V t0 1) p (t0 + 128)) := by
  rw [(e50 e o).1]
  exact ru512_is (G := Gh Q0 Q1 D0 D1 K V t0 1) (gR0_1 S R s10 s11 h8) (rR0_1 S R s10 s11 h8)
theorem zR1_1 : Is2 (dz384 (io o) (gg384 (e.arg10.view.readAt (Elt Ideal) (Rect.unit (s := S2x16x512x128) (k0_off7 e.i) S1x1x384x128.size (k0_off7_inb e.i)).toLoadRect (c50 e o).b.f10)) (gg384 (e.arg11.view.readAt (Elt Ideal) (Rect.unit (s := S2x16x512x128) (k0_off7 e.i) S1x1x384x128.size (k0_off7_inb e.i)).toLoadRect (c50 e o).b.f11)) (up384 (gg384 (e.arg10.view.readAt (Elt Ideal) (Rect.unit (s := S2x16x512x128) (k0_off7 e.i) S1x1x384x128.size (k0_off7_inb e.i)).toLoadRect (c50 e o).b.f10)) (uf o) ((c50 e o).r.1))) (fun p c => Zh Q0 Q1 D0 D1 K V t0 1 (128 + p) (t0 + 128 + c)) :=
  dz384_is (gR1_1 S R s10 s11 h8) (wR1_1 S R s10 s11 h8) (up384_is (G := Gh Q0 Q1 D0 D1 K V t0 1) (gR1_1 S R s10 s11 h8) R.hf (rR1_1 S R s10 s11 h8)) S.pos rfl
theorem qM1 : Is2 ((c51 e o).r.1) (fun p l => Qa Q0 Q1 D0 D1 K V t0 (t0 + 128) p l + ∑ c : Fin 128, Zh Q0 Q1 D0 D1 K V t0 0 p (t0 + 128 + c) * lanes 0 K (t0 + 128 + c) l) := by
  rw [(e51 e o).1]
  exact dq384_is (f := Zh Q0 Q1 D0 D1 K V t0 0) (K := lanes 0 K) (zR1_0 S R s10 s11 h8) (kh_is R.hm0 (k1_is S)) (qR0 S R s10 s11 h8) (fun p hp c hc => Zh_skip _ _ _ _ _ _ _ _ _ _ (by omega))
theorem qR1 : Is2 ((c52 e o).r.1) (Qa Q0 Q1 D0 D1 K V t0 (t0 + 128 + 128)) := by
  rw [(e52 e o).1]
  intro p l
  refine (dq384_is (f := Zh Q0 Q1 D0 D1 K V t0 1) (K := lanes 1 K) (zR1_1 S R s10 s11 h8) (kh_is R.hm1 (k1_is S)) (qM1 S R s10 s11 h8) (fun p hp c hc => Zh_skip _ _ _ _ _ _ _ _ _ _ (by omega)) p l).trans ?_
  rw [Qa_block]
theorem kR1 : Is2 (dk384 (dk384 (broadcast S128x128 (Scalar.ofBits .f32 0x00000000#32) : FVec Ideal S128x128 .f32) (dz384 (io o) (gg384 (e.arg10.view.readAt (Elt Ideal) (Rect.unit (s := S2x16x512x128) (k0_off6 e.i) S1x1x384x128.size (k0_off6_inb e.i)).toLoadRect (c49 e o).b.f10)) (gg384 (e.arg11.view.readAt (Elt Ideal) (Rect.unit (s := S2x16x512x128) (k0_off6 e.i) S1x1x384x128.size (k0_off6_inb e.i)).toLoadRect (c49 e o).b.f11)) (up384 (gg384 (e.arg10.view.readAt (Elt Ideal) (Rect.unit (s := S2x16x512x128) (k0_off6 e.i) S1x1x384x128.size (k0_off6_inb e.i)).toLoadRect (c49 e o).b.f10)) (uf o) ((c49 e o).r.1))) (q0 o)) (dz384 (io o) (gg384 (e.arg10.view.readAt (Elt Ideal) (Rect.unit (s := S2x16x512x128) (k0_off7 e.i) S1x1x384x128.size (k0_off7_inb e.i)).toLoadRect (c50 e o).b.f10)) (gg384 (e.arg11.view.readAt (Elt Ideal) (Rect.unit (s := S2x16x512x128) (k0_off7 e.i) S1x1x384x128.size (k0_off7_inb e.i)).toLoadRect (c50 e o).b.f11)) (up384 (gg384 (e.arg10.view.readAt (Elt Ideal) (Rect.unit (s := S2x16x512x128) (k0_off7 e.i) S1x1x384x128.size (k0_off7_inb e.i)).toLoadRect (c50 e o).b.f10)) (uf o) ((c50 e o).r.1))) (q1 o)) (fun c l => Ck Q0 Q1 D0 D1 K V t0 (t0 + 128 + c) l) := by
  intro c l
  refine (dk384_is (f := Zh Q0 Q1 D0 D1 K V t0 1) (zR1_1 S R s10 s11 h8) S.hq1 (dk384_is (f := Zh Q0 Q1 D0 D1 K V t0 0) (zR1_0 S R s10 s11 h8) S.hq0 (zero_is2 (φ := .f32)) (fun p hp c hc => Zh_skip _ _ _ _ _ _ _ _ _ _ (by omega))) (fun p hp c hc => Zh_skip _ _ _ _ _ _ _ _ _ _ (by omega)) c l).trans ?_
  unfold Ck
  beta_reduce
  rw [zero_add]
theorem xI1 : Rows e.arg8 (c51 e o).b.f8 (before Q0 Q1 D0 D1 K V t0 X (t0 + 128)) := by
  rw [(e51 e o).2.2.2.2.2.2.2.1]
  exact xO0 S R s10 s11 h8
theorem xO1 : Rows e.arg8 ((c52 e o).b.f8) (before Q0 Q1 D0 D1 K V t0 X (t0 + 128 + 128)) := by
  rw [(e52 e o).2.2.2.2.2.2.1]
  exact put_rows (L := []) (Z := before Q0 Q1 D0 D1 K V t0 X (t0 + 128 + 128)) (Y := Ck Q0 Q1 D0 D1 K V t0) (X := before Q0 Q1 D0 D1 K V t0 X (t0 + 128)) (o := t0 + 128) (xI1 S R s10 s11 h8) (k0_off1_inb e.i 1) (by rw [S.ht]; exact off1_eq e.i 1)
    (readAt_rows (xI1 S R s10 s11 h8) (k0_off1_inb e.i 1) (by rw [S.ht]; exact off1_eq e.i 1)) (kR1 S R s10 s11 h8)
    (fun s l h1 h2 _ => by unfold before; rw [if_pos (by omega), if_neg (by omega), add_zero])
    (fun s l _ _ h1 => by
      unfold before
      by_cases h2 : s < t0 + 128
      · rw [if_pos (by omega), if_pos (by omega)]
      · rw [if_neg (by omega), if_neg (by omega)])
theorem gR2_0 : Is2 (gg256 (e.arg10.view.readAt (Elt Ideal) (Rect.unit (s := S2x16x512x128) (k0_off4 e.i) S1x1x256x128.size (k0_off4_inb e.i)).toLoadRect (c51 e o).b.f10)) (fun p c => Gh Q0 Q1 D0 D1 K V t0 0 (256 + p) (t0 + 256 + c)) := by
  rw [f10_51]
  have := gg256_is (readAt_scr (n := 256) (r0 := 256) (b := t0 + 256) s10 (k0_off4_inb e.i) (off4_eq e.i) (Nat.zero_le _) (by rw [S.ht]; omega) (by rw [S.ht]; omega))
  exact this
theorem wR2_0 : Is2 (gg256 (e.arg11.view.readAt (Elt Ideal) (Rect.unit (s := S2x16x512x128) (k0_off4 e.i) S1x1x256x128.size (k0_off4_inb e.i)).toLoadRect (c52 e o).b.f11)) (fun p c => Wh Q0 Q1 K t0 0 (256 + p) (t0 + 256 + c)) := by
  rw [f11_52]
  have := gg256_is (readAt_scr (n := 256) (r0 := 256) (b := t0 + 256) s11 (k0_off4_inb e.i) (off4_eq e.i) (Nat.zero_le _) (by rw [S.ht]; omega) (by rw [S.ht]; omega))
  exact this
theorem rR2_0 : Is2 ((c51 e o).r.2.2.1) (fun p _ => RG (Gh Q0 Q1 D0 D1 K V t0 0) p (t0 + 256)) := by
  rw [(e51 e o).2.2.1]
  exact ru384_is (G := Gh Q0 Q1 D0 D1 K V t0 0) (gR1_0 S R s10 s11 h8) (rR1_0 S R s10 s11 h8) (fun p hp c hc => Gh_skip _ _ _ _ _ _ _ _ _ _ (by omega))
theorem zR2_0 : Is2 (dz256 (io o) (gg256 (e.arg10.view.readAt (Elt Ideal) (Rect.unit (s := S2x16x512x128) (k0_off4 e.i) S1x1x256x128.size (k0_off4_inb e.i)).toLoadRect (c51 e o).b.f10)) (gg256 (e.arg11.view.readAt (Elt Ideal) (Rect.unit (s := S2x16x512x128) (k0_off4 e.i) S1x1x256x128.size (k0_off4_inb e.i)).toLoadRect (c52 e o).b.f11)) (up256 (gg256 (e.arg10.view.readAt (Elt Ideal) (Rect.unit (s := S2x16x512x128) (k0_off4 e.i) S1x1x256x128.size (k0_off4_inb e.i)).toLoadRect (c51 e o).b.f10)) (uf o) ((c51 e o).r.2.2.1))) (fun p c => Zh Q0 Q1 D0 D1 K V t0 0 (256 + p) (t0 + 256 + c)) :=
  dz256_is (gR2_0 S R s10 s11 h8) (wR2_0 S R s10 s11 h8) (up256_is (G := Gh Q0 Q1 D0 D1 K V t0 0) (gR2_0 S R s10 s11 h8) R.hf (rR2_0 S R s10 s11 h8)) S.pos rfl
theorem gR2_1 : Is2 (gg256 (e.arg10.view.readAt (Elt Ideal) (Rect.unit (s := S2x16x512x128) (k0_off5 e.i) S1x1x256x128.size (k0_off5_inb e.i)).toLoadRect (c52 e o).b.f10)) (fun p c => Gh Q0 Q1 D0 D1 K V t0 1 (256 + p) (t0 + 256 + c)) := by
  rw [f10_52]
  have := gg256_is (readAt_scr (n := 256) (r0 := 256) (b := t0 + 256) s10 (k0_off5_inb e.i) (off5_eq e.i) (Nat.zero_le _) (by rw [S.ht]; omega) (by rw [S.ht]; omega))
  exact this
theorem wR2_1 : Is2 (gg256 (e.arg11.view.readAt (Elt Ideal) (Rect.unit (s := S2x16x512x128) (k0_off5 e.i) S1x1x256x128.size (k0_off5_inb e.i)).toLoadRect (c52 e o).b.f11)) (fun p c => Wh Q0 Q1 K t0 1 (256 + p) (t0 + 256 + c)) := by
  rw [f11_52]
  have := gg256_is (readAt_scr (n := 256) (r0 := 256) (b := t0 + 256) s11 (k0_off5_inb e.i) (off5_eq e.i) (Nat.zero_le _) (by rw [S.ht]; omega) (by rw [S.ht]; omega))
  exact this
theorem rR2_1 : Is2 ((c52 e o).r.2.1) (fun p _ => RG (Gh Q0 Q1 D0 D1 K V t0 1) p (t0 + 256)) := by
  rw [(e52 e o).2.1]
  exact ru384_is (G := Gh Q0 Q1 D0 D1 K V t0 1) (gR1_1 S R s10 s11 h8) (rR1_1 S R s10 s11 h8) (fun p hp c hc => Gh_skip _ _ _ _ _ _ _ _ _ _ (by omega))
theorem zR2_1 : Is2 (dz256 (io o) (gg256 (e.arg10.view.readAt (Elt Ideal) (Rect.unit (s := S2x16x512x128) (k0_off5 e.i) S1x1x256x128.size (k0_off5_inb e.i)).toLoadRect (c52 e o).b.f10)) (gg256 (e.arg11.view.readAt (Elt Ideal) (Rect.unit (s := S2x16x512x128) (k0_off5 e.i) S1x1x256x128.size (k0_off5_inb e.i)).toLoadRect (c52 e o).b.f11)) (up256 (gg256 (e.arg10.view.readAt (Elt Ideal) (Rect.unit (s := S2x16x512x128) (k0_off5 e.i) S1x1x256x128.size (k0_off5_inb e.i)).toLoadRect (c52 e o).b.f10)) (uf o) ((c52 e o).r.2.1))) (fun p c => Zh Q0 Q1 D0 D1 K V t0 1 (256 + p) (t0 + 256 + c)) :=
  dz256_is (gR2_1 S R s10 s11 h8) (wR2_1 S R s10 s11 h8) (up256_is (G := Gh Q0 Q1 D0 D1 K V t0 1) (gR2_1 S R s10 s11 h8) R.hf (rR2_1 S R s10 s11 h8)) S.pos rfl
theorem qM2 : Is2 ((c53 e o).r.1) (fun p l => Qa Q0 Q1 D0 D1 K V t0 (t0 + 256) p l + ∑ c : Fin 128, Zh Q0 Q1 D0 D1 K V t0 0 p (t0 + 256 + c) * lanes 0 K (t0 + 256 + c) l) := by
  rw [(e53 e o).1]
  exact dq256_is (f := Zh Q0 Q1 D0 D1 K V t0 0) (K := lanes 0 K) (zR2_0 S R s10 s11 h8) (kh_is R.hm0 (k2_is S)) (qR1 S R s10 s11 h8) (fun p hp c hc => Zh_skip _ _ _ _ _ _ _ _ _ _ (by omega))
theorem qR2 : Is2 ((c54 e o).r.1) (Qa Q0 Q1 D0 D1 K V t0 (t0 + 256 + 128)) := by
  rw [(e54 e o).1]
  intro p l
  refine (dq256_is (f := Zh Q0 Q1 D0 D1 K V t0 1) (K := lanes 1 K) (zR2_1 S R s10 s11 h8) (kh_is R.hm1 (k2_is S)) (qM2 S R s10 s11 h8) (fun p hp c hc => Zh_skip _ _ _ _ _ _ _ _ _ _ (by omega)) p l).trans ?_
  rw [Qa_block]
theorem kR2 : Is2 (dk256 (dk256 (broadcast S128x128 (Scalar.ofBits .f32 0x00000000#32) : FVec Ideal S128x128 .f32) (dz256 (io o) (gg256 (e.arg10.view.readAt (Elt Ideal) (Rect.unit (s := S2x16x512x128) (k0_off4 e.i) S1x1x256x128.size (k0_off4_inb e.i)).toLoadRect (c51 e o).b.f10)) (gg256 (e.arg11.view.readAt (Elt Ideal) (Rect.unit (s := S2x16x512x128) (k0_off4 e.i) S1x1x256x128.size (k0_off4_inb e.i)).toLoadRect (c52 e o).b.f11)) (up256 (gg256 (e.arg10.view.readAt (Elt Ideal) (Rect.unit (s := S2x16x512x128) (k0_off4 e.i) S1x1x256x128.size (k0_off4_inb e.i)).toLoadRect (c51 e o).b.f10)) (uf o) ((c51 e o).r.2.2.1))) (q0 o)) (dz256 (io o) (gg256 (e.arg10.view.readAt (Elt Ideal) (Rect.unit (s := S2x16x512x128) (k0_off5 e.i) S1x1x256x128.size (k0_off5_inb e.i)).toLoadRect (c52 e o).b.f10)) (gg256 (e.arg11.view.readAt (Elt Ideal) (Rect.unit (s := S2x16x512x128) (k0_off5 e.i) S1x1x256x128.size (k0_off5_inb e.i)).toLoadRect (c52 e o).b.f11)) (up256 (gg256 (e.arg10.view.readAt (Elt Ideal) (Rect.unit (s := S2x16x512x128) (k0_off5 e.i) S1x1x256x128.size (k0_off5_inb e.i)).toLoadRect (c52 e o).b.f10)) (uf o) ((c52 e o).r.2.1))) (q1 o)) (fun c l => Ck Q0 Q1 D0 D1 K V t0 (t0 + 256 + c) l) := by
  intro c l
  refine (dk256_is (f := Zh Q0 Q1 D0 D1 K V t0 1) (zR2_1 S R s10 s11 h8) S.hq1 (dk256_is (f := Zh Q0 Q1 D0 D1 K V t0 0) (zR2_0 S R s10 s11 h8) S.hq0 (zero_is2 (φ := .f32)) (fun p hp c hc => Zh_skip _ _ _ _ _ _ _ _ _ _ (by omega))) (fun p hp c hc => Zh_skip _ _ _ _ _ _ _ _ _ _ (by omega)) c l).trans ?_
  unfold Ck
  beta_reduce
  rw [zero_add]
theorem xI2 : Rows e.arg8 (c53 e o).b.f8 (before Q0 Q1 D0 D1 K V t0 X (t0 + 256)) := by
  rw [(e53 e o).2.2.2.2.2.2.1]
  exact xO1 S R s10 s11 h8
theorem xO2 : Rows e.arg8 ((c54 e o).b.f8) (before Q0 Q1 D0 D1 K V t0 X (t0 + 256 + 128)) := by
  rw [(e54 e o).2.2.2.2.1]
  exact put_rows (L := []) (Z := before Q0 Q1 D0 D1 K V t0 X (t0 + 256 + 128)) (Y := Ck Q0 Q1 D0 D1 K V t0) (X := before Q0 Q1 D0 D1 K V t0 X (t0 + 256)) (o := t0 + 256) (xI2 S R s10 s11 h8) (k0_off1_inb e.i 2) (by rw [S.ht]; exact off1_eq e.i 2)
    (readAt_rows (xI2 S R s10 s11 h8) (k0_off1_inb e.i 2) (by rw [S.ht]; exact off1_eq e.i 2)) (kR2 S R s10 s11 h8)
    (fun s l h1 h2 _ => by unfold before; rw [if_pos (by omega), if_neg (by omega), add_zero])
    (fun s l _ _ h1 => by
      unfold before
      by_cases h2 : s < t0 + 256
      · rw [if_pos (by omega), if_pos (by omega)]
      · rw [if_neg (by omega), if_neg (by omega)])
theorem gR3_0 : Is2 (gg128 (e.arg10.view.readAt (Elt Ideal) (Rect.unit (s := S2x16x512x128) (k0_off2 e.i) S1x1x128x128.size (k0_off2_inb e.i)).toLoadRect (c54 e o).b.f10)) (fun p c => Gh Q0 Q1 D0 D1 K V t0 0 (384 + p) (t0 + 384 + c)) := by
  rw [f10_54]
  have := gg128_is (readAt_scr (n := 128) (r0 := 384) (b := t0 + 384) s10 (k0_off2_inb e.i) (off2_eq e.i) (Nat.zero_le _) (by rw [S.ht]; omega) (by rw [S.ht]; omega))
  exact this
theorem wR3_0 : Is2 (gg128 (e.arg11.view.readAt (Elt Ideal) (Rect.unit (s := S2x16x512x128) (k0_off2 e.i) S1x1x128x128.size (k0_off2_inb e.i)).toLoadRect (c54 e o).b.f11)) (fun p c => Wh Q0 Q1 K t0 0 (384 + p) (t0 + 384 + c)) := by
  rw [f11_54]
  have := gg128_is (readAt_scr (n := 128) (r0 := 384) (b := t0 + 384) s11 (k0_off2_inb e.i) (off2_eq e.i) (Nat.zero_le _) (by rw [S.ht]; omega) (by rw [S.ht]; omega))
  exact this
theorem rR3_0 : Is2 ((c53 e o).r.2.2.1) (fun p _ => RG (Gh Q0 Q1 D0 D1 K V t0 0) p (t0 + 384)) := by
  rw [(e53 e o).2.2.1]
  exact ru256_is (G := Gh Q0 Q1 D0 D1 K V t0 0) (gR2_0 S R s10 s11 h8) (rR2_0 S R s10 s11 h8) (fun p hp c hc => Gh_skip _ _ _ _ _ _ _ _ _ _ (by omega))
theorem zR3_0 : Is2 (dz128 (io o) (gg128 (e.arg10.view.readAt (Elt Ideal) (Rect.unit (s := S2x16x512x128) (k0_off2 e.i) S1x1x128x128.size (k0_off2_inb e.i)).toLoadRect (c54 e o).b.f10)) (gg128 (e.arg11.view.readAt (Elt Ideal) (Rect.unit (s := S2x16x512x128) (k0_off2 e.i) S1x1x128x128.size (k0_off2_inb e.i)).toLoadRect (c54 e o).b.f11)) (up128 (gg128 (e.arg10.view.readAt (Elt Ideal) (Rect.unit (s := S2x16x512x128) (k0_off2 e.i) S1x1x128x128.size (k0_off2_inb e.i)).toLoadRect (c54 e o).b.f10)) (uf o) ((c53 e o).r.2.2.1))) (fun p c => Zh Q0 Q1 D0 D1 K V t0 0 (384 + p) (t0 + 384 + c)) :=
  dz128_is (gR3_0 S R s10 s11 h8) (wR3_0 S R s10 s11 h8) (up128_is (G := Gh Q0 Q1 D0 D1 K V t0 0) (gR3_0 S R s10 s11 h8) R.hf (rR3_0 S R s10 s11 h8)) S.pos rfl
theorem gR3_1 : Is2 (gg128 (e.arg10.view.readAt (Elt Ideal) (Rect.unit (s := S2x16x512x128) (k0_off3 e.i) S1x1x128x128.size (k0_off3_inb e.i)).toLoadRect (c54 e o).b.f10)) (fun p c => Gh Q0 Q1 D0 D1 K V t0 1 (384 + p) (t0 + 384 + c)) := by
  rw [f10_54]
  have := gg128_is (readAt_scr (n := 128) (r0 := 384) (b := t0 + 384) s10 (k0_off3_inb e.i) (off3_eq e.i) (Nat.zero_le _) (by rw [S.ht]; omega) (by rw [S.ht]; omega))
  exact this
theorem wR3_1 : Is2 (gg128 (e.arg11.view.readAt (Elt Ideal) (Rect.unit (s := S2x16x512x128) (k0_off3 e.i) S1x1x128x128.size (k0_off3_inb e.i)).toLoadRect (c55 e o).b.f11)) (fun p c => Wh Q0 Q1 K t0 1 (384 + p) (t0 + 384 + c)) := by
  rw [f11_55]
  have := gg128_is (readAt_scr (n := 128) (r0 := 384) (b := t0 + 384) s11 (k0_off3_inb e.i) (off3_eq e.i) (Nat.zero_le _) (by rw [S.ht]; omega) (by rw [S.ht]; omega))
  exact this
theorem rR3_1 : Is2 ((c54 e o).r.2.1) (fun p _ => RG (Gh Q0 Q1 D0 D1 K V t0 1) p (t0 + 384)) := by
  rw [(e54 e o).2.1]
  exact ru256_is (G := Gh Q0 Q1 D0 D1 K V t0 1) (gR2_1 S R s10 s11 h8) (rR2_1 S R s10 s11 h8) (fun p hp c hc => Gh_skip _ _ _ _ _ _ _ _ _ _ (by omega))
theorem zR3_1 : Is2 (dz128 (io o) (gg128 (e.arg10.view.readAt (Elt Ideal) (Rect.unit (s := S2x16x512x128) (k0_off3 e.i) S1x1x128x128.size (k0_off3_inb e.i)).toLoadRect (c54 e o).b.f10)) (gg128 (e.arg11.view.readAt (Elt Ideal) (Rect.unit (s := S2x16x512x128) (k0_off3 e.i) S1x1x128x128.size (k0_off3_inb e.i)).toLoadRect (c55 e o).b.f11)) (up128 (gg128 (e.arg10.view.readAt (Elt Ideal) (Rect.unit (s := S2x16x512x128) (k0_off3 e.i) S1x1x128x128.size (k0_off3_inb e.i)).toLoadRect (c54 e o).b.f10)) (uf o) ((c54 e o).r.2.1))) (fun p c => Zh Q0 Q1 D0 D1 K V t0 1 (384 + p) (t0 + 384 + c)) :=
  dz128_is (gR3_1 S R s10 s11 h8) (wR3_1 S R s10 s11 h8) (up128_is (G := Gh Q0 Q1 D0 D1 K V t0 1) (gR3_1 S R s10 s11 h8) R.hf (rR3_1 S R s10 s11 h8)) S.pos rfl
theorem qM3 : Is2 ((c55 e o).r.1) (fun p l => Qa Q0 Q1 D0 D1 K V t0 (t0 + 384) p l + ∑ c : Fin 128, Zh Q0 Q1 D0 D1 K V t0 0 p (t0 + 384 + c) * lanes 0 K (t0 + 384 + c) l) := by
  rw [(e55 e o).1]
  exact dq128_is (f := Zh Q0 Q1 D0 D1 K V t0 0) (K := lanes 0 K) (zR3_0 S R s10 s11 h8) (kh_is R.hm0 (k3_is S)) (qR2 S R s10 s11 h8) (fun p hp c hc => Zh_skip _ _ _ _ _ _ _ _ _ _ (by omega))
theorem qR3 : Is2 (dq128 ((c55 e o).r.1) (dz128 (io o) (gg128 (e.arg10.view.readAt (Elt Ideal) (Rect.unit (s := S2x16x512x128) (k0_off3 e.i) S1x1x128x128.size (k0_off3_inb e.i)).toLoadRect (c54 e o).b.f10)) (gg128 (e.arg11.view.readAt (Elt Ideal) (Rect.unit (s := S2x16x512x128) (k0_off3 e.i) S1x1x128x128.size (k0_off3_inb e.i)).toLoadRect (c55 e o).b.f11)) (up128 (gg128 (e.arg10.view.readAt (Elt Ideal) (Rect.unit (s := S2x16x512x128) (k0_off3 e.i) S1x1x128x128.size (k0_off3_inb e.i)).toLoadRect (c54 e o).b.f10)) (uf o) ((c54 e o).r.2.1))) (kh (m1 o) (k3 e))) (Qa Q0 Q1 D0 D1 K V t0 (t0 + 384 + 128)) := by
  intro p l
  refine (dq128_is (f := Zh Q0 Q1 D0 D1 K V t0 1) (K := lanes 1 K) (zR3_1 S R s10 s11 h8) (kh_is R.hm1 (k3_is S)) (qM3 S R s10 s11 h8) (fun p hp c hc => Zh_skip _ _ _ _ _ _ _ _ _ _ (by omega)) p l).trans ?_
  rw [Qa_block]
theorem kR3 : Is2 (dk128 (dk128 (broadcast S128x128 (Scalar.ofBits .f32 0x00000000#32) : FVec Ideal S128x128 .f32) (dz128 (io o) (gg128 (e.arg10.view.readAt (Elt Ideal) (Rect.unit (s := S2x16x512x128) (k0_off2 e.i) S1x1x128x128.size (k0_off2_inb e.i)).toLoadRect (c54 e o).b.f10)) (gg128 (e.arg11.view.readAt (Elt Ideal) (Rect.unit (s := S2x16x512x128) (k0_off2 e.i) S1x1x128x128.size (k0_off2_inb e.i)).toLoadRect (c54 e o).b.f11)) (up128 (gg128 (e.arg10.view.readAt (Elt Ideal) (Rect.unit (s := S2x16x512x128) (k0_off2 e.i) S1x1x128x128.size (k0_off2_inb e.i)).toLoadRect (c54 e o).b.f10)) (uf o) ((c53 e o).r.2.2.1))) (q0 o)) (dz128 (io o) (gg128 (e.arg10.view.readAt (Elt Ideal) (Rect.unit (s := S2x16x512x128) (k0_off3 e.i) S1x1x128x128.size (k0_off3_inb e.i)).toLoadRect (c54 e o).b.f10)) (gg128 (e.arg11.view.readAt (Elt Ideal) (Rect.unit (s := S2x16x512x128) (k0_off3 e.i) S1x1x128x128.size (k0_off3_inb e.i)).toLoadRect (c55 e o).b.f11)) (up128 (gg128 (e.arg10.view.readAt (Elt Ideal) (Rect.unit (s := S2x16x512x128) (k0_off3 e.i) S1x1x128x128.size (k0_off3_inb e.i)).toLoadRect (c54 e o).b.f10)) (uf o) ((c54 e o).r.2.1))) (q1 o)) (fun c l => Ck Q0 Q1 D0 D1 K V t0 (t0 + 384 + c) l) := by
  intro c l
  refine (dk128_is (f := Zh Q0 Q1 D0 D1 K V t0 1) (zR3_1 S R s10 s11 h8) S.hq1 (dk128_is (f := Zh Q0 Q1 D0 D1 K V t0 0) (zR3_0 S R s10 s11 h8) S.hq0 (zero_is2 (φ := .f32)) (fun p hp c hc => Zh_skip _ _ _ _ _ _ _ _ _ _ (by omega))) (fun p hp c hc => Zh_skip _ _ _ _ _ _ _ _ _ _ (by omega)) c l).trans ?_
  unfold Ck
  beta_reduce
  rw [zero_add]
theorem xI3 : Rows e.arg8 (c55 e o).b.f8 (before Q0 Q1 D0 D1 K V t0 X (t0 + 384)) := by
  rw [(e55 e o).2.2.2.2.2.1]
  exact xO2 S R s10 s11 h8
theorem xO3 : Rows e.arg8 (e.arg8.view.writes (Elt Ideal) (c55 e o).b.f8 [⟨(Rect.unit (s := S2048x128) (k0_off1 e.i 3#32) S128x128.size (k0_off1_inb e.i 3)), addf (shapeCast S128x128 (e.arg8.view.readAt (Elt Ideal) (Rect.unit (s := S2048x128) (k0_off1 e.i 3#32) S128x128.size (k0_off1_inb e.i 3)).toLoadRect (c55 e o).b.f8) shapeCasts_S128x128_S128x128) (dk128 (dk128 (broadcast S128x128 (Scalar.ofBits .f32 0x00000000#32) : FVec Ideal S128x128 .f32) (dz128 (io o) (gg128 (e.arg10.view.readAt (Elt Ideal) (Rect.unit (s := S2x16x512x128) (k0_off2 e.i) S1x1x128x128.size (k0_off2_inb e.i)).toLoadRect (c54 e o).b.f10)) (gg128 (e.arg11.view.readAt (Elt Ideal) (Rect.unit (s := S2x16x512x128) (k0_off2 e.i) S1x1x128x128.size (k0_off2_inb e.i)).toLoadRect (c54 e o).b.f11)) (up128 (gg128 (e.arg10.view.readAt (Elt Ideal) (Rect.unit (s := S2x16x512x128) (k0_off2 e.i) S1x1x128x128.size (k0_off2_inb e.i)).toLoadRect (c54 e o).b.f10)) (uf o) ((c53 e o).r.2.2.1))) (q0 o)) (dz128 (io o) (gg128 (e.arg10.view.readAt (Elt Ideal) (Rect.unit (s := S2x16x512x128) (k0_off3 e.i) S1x1x128x128.size (k0_off3_inb e.i)).toLoadRect (c54 e o).b.f10)) (gg128 (e.arg11.view.readAt (Elt Ideal) (Rect.unit (s := S2x16x512x128) (k0_off3 e.i) S1x1x128x128.size (k0_off3_inb e.i)).toLoadRect (c55 e o).b.f11)) (up128 (gg128 (e.arg10.view.readAt (Elt Ideal) (Rect.unit (s := S2x16x512x128) (k0_off3 e.i) S1x1x128x128.size (k0_off3_inb e.i)).toLoadRect (c54 e o).b.f10)) (uf o) ((c54 e o).r.2.1))) (q1 o))⟩]) (before Q0 Q1 D0 D1 K V t0 X (t0 + 384 + 128)) := by
  exact put_rows (L := []) (Z := before Q0 Q1 D0 D1 K V t0 X (t0 + 384 + 128)) (Y := Ck Q0 Q1 D0 D1 K V t0) (X := before Q0 Q1 D0 D1 K V t0 X (t0 + 384)) (o := t0 + 384) (xI3 S R s10 s11 h8) (k0_off1_inb e.i 3) (by rw [S.ht]; exact off1_eq e.i 3)
    (readAt_rows (xI3 S R s10 s11 h8) (k0_off1_inb e.i 3) (by rw [S.ht]; exact off1_eq e.i 3)) (kR3 S R s10 s11 h8)
    (fun s l h1 h2 _ => by unfold before; rw [if_pos (by omega), if_neg (by omega), add_zero])
    (fun s l _ _ h1 => by
      unfold before
      by_cases h2 : s < t0 + 384
      · rw [if_pos (by omega), if_pos (by omega)]
      · rw [if_neg (by omega), if_neg (by omega)])

end

end Cert.KernelIdeal.Hand
end
-- ==== Proof.Setup.lean ====
/- What the body's first stretch prepares at ideal values: the two heads' queries and output gradients on their lanes, the
   positions and the two matrices of the sums. -/
module
public import proofs.«01_k».proof.Proof.TailR
public import proofs.«01_k».proof.Proof.DiagR

@[expose] public section

set_option maxRecDepth 16384
set_option maxHeartbeats 1000000

noncomputable section

namespace Cert.KernelIdeal.Hand

open Cert.KernelIdeal Cert.KernelIdeal.Gen
open Idealize.ShloMosaic

theorem eighth : Ideal.ofBits .f32 0x3E000000#32 = ((1 / 8 : ℝ) : EReal) := by
  simp [Ideal.ofBits, Ideal.ieee, -EReal.coe_mul]; norm_num

theorem mask0 : IsMask k0_pay287 0 := by
  intro l
  pointwise [k0_pay287]
  revert l
  decide +kernel
theorem mask1 : IsMask k0_pay288 1 := by
  intro l
  pointwise [k0_pay288]
  revert l
  decide +kernel
theorem pos_is : IsPos k0_pay292 := by
  intro l c
  pointwise [k0_pay292]
  rfl
theorem tri_bit (x : BitVec 1) : FloatOps.sitofp (F := Ideal) .f32 (BitVec.setWidth 32 x) = ((if x = 1#1 then 1 else 0 : ℝ) : EReal) := by
  have h : x = 0#1 ∨ x = 1#1 := by revert x; decide
  rcases h with rfl | rfl
  · show ((((BitVec.setWidth 32 0#1).toInt : ℤ) : ℝ) : EReal) = _
    norm_num
  · show ((((BitVec.setWidth 32 1#1).toInt : ℤ) : ℝ) : EReal) = _
    norm_num
theorem tail_is : IsTail (k0_pay293 (F := Ideal)) := by
  intro l c
  pointwise [k0_pay293]
  rw [tri_bit]
  have h : ∀ l c : Fin 128, (IntOp.cmpi CmpIPredicate.sge (BitVec.ofNat 32 l.val) (BitVec.ofNat 32 c.val) = 1#1) = (c.val ≤ l.val) := by decide +kernel
  simp only [h]
theorem head_is : IsHead (k0_pay294 (F := Ideal)) := by
  intro l c
  pointwise [k0_pay294]
  rw [tri_bit]
  have h : ∀ l c : Fin 128, (IntOp.cmpi CmpIPredicate.sle (BitVec.ofNat 32 l.val) (BitVec.ofNat 32 c.val) = 1#1) = (l.val ≤ c.val) := by decide +kernel
  simp only [h]

theorem on_lanes {m : IVec S1x128 1} {h : ℕ} (hm : IsMask m h) (Q : ℕ → ℕ → ℝ) (p : ℕ) (l : Fin 128) (x : EReal) (hx : x = ((Q p l : ℝ) : EReal)) :
    Scalar.select (m (ix2 0 l)) x 0 = ((lanes h Q p l : ℝ) : EReal) := by
  rw [hm l, hx]
  unfold lanes
  by_cases c : l.val / 64 = h
  · rw [if_pos c, if_pos c]; rfl
  · rw [if_neg c, if_neg c]; rfl

/-- The queries scaled. -/
def eight (Q : ℕ → ℕ → ℝ) (p l : ℕ) : ℝ := Q p l * (1 / 8)

section
variable {x : Vec Ideal S512x128 .f32} {Q : ℕ → ℕ → ℝ} (h : Is2 (φ := .f32) x Q)
include h
theorem scaled_is : Is2 (k0_pay289 x) (eight Q) := by
  intro p l
  pointwise [k0_pay289]
  rw [h p l, eighth, ← EReal.coe_mul]
  rfl
theorem q0_is : Is2 (k0_pay290 x) (lanes 0 (eight Q)) := by
  intro p l
  pointwise [k0_pay290]
  exact on_lanes mask0 (eight Q) p l _ (scaled_is h p l)
theorem q1_is : Is2 (k0_pay291 x) (lanes 1 (eight Q)) := by
  intro p l
  pointwise [k0_pay291]
  exact on_lanes mask1 (eight Q) p l _ (scaled_is h p l)
theorem d0_is {F0 : Ideal .f32} (hF : F0 = 0) : Is2 (k0_pay296 x F0 k0_pay295) (lanes 0 Q) := by
  intro p l
  subst hF
  pointwise [k0_pay296, k0_pay295]
  exact on_lanes mask0 Q p l _ (h p l)
theorem d1_is {m : IVec S1x128 1} (hm : IsMask m 1) : Is2 (k0_pay297 m x) (lanes 1 Q) := by
  intro p l
  pointwise [k0_pay297]
  exact on_lanes hm Q p l _ (h p l)
end

/-- What the first stretch returned, at either kind of point. -/
def Begun (e : Env Ideal) (o : First e) : Prop :=
  o.r.2.1 = k0_pay287 ∧ o.r.2.2.1 = k0_pay288 ∧ q0 o = k0_pay290 (e.arg3.view.read (Elt Ideal) e.K3) ∧ q1 o = k0_pay291 (e.arg3.view.read (Elt Ideal) e.K3)
    ∧ io o = k0_pay292 ∧ uu o = k0_pay293 ∧ uf o = k0_pay294 ∧ d0 o = k0_pay296 (e.arg6.view.read (Elt Ideal) e.K6) (Scalar.ofBits .f32 0x00000000#32) k0_pay295
    ∧ d1 o = k0_pay297 k0_pay288 (e.arg6.view.read (Elt Ideal) e.K6)

theorem begunA (e : Env Ideal) (hc : begins e.i) (b : Bufs e) : Begun e (o35 e hc b) := by
  have h3 := View.readAt_full e.arg3.view e.K3 (off := ![0, 0]) inb_S512x128_S512x128_0_0
  have h6 := View.readAt_full e.arg6.view e.K6 (off := ![0, 0]) inb_S512x128_S512x128_0_0
  unfold Begun d0 d1 c36 o36 part36
  dsimp only
  unfold q0 q1 io uu uf o35 part35
  dsimp only
  rw [← h3, ← h6]
  exact ⟨rfl, rfl, rfl, rfl, rfl, rfl, rfl, rfl, rfl⟩
theorem begunB (e : Env Ideal) (hc : ¬ begins e.i) (b : Bufs e) : Begun e (o35b e hc b) := by
  have h3 := View.readAt_full e.arg3.view e.K3 (off := ![0, 0]) inb_S512x128_S512x128_0_0
  have h6 := View.readAt_full e.arg6.view e.K6 (off := ![0, 0]) inb_S512x128_S512x128_0_0
  unfold Begun d0 d1 c36 o36 part36
  dsimp only
  unfold q0 q1 io uu uf o35b part35b
  dsimp only
  rw [← h3, ← h6]
  exact ⟨rfl, rfl, rfl, rfl, rfl, rfl, rfl, rfl, rfl⟩

theorem setup {e : Env Ideal} {o : First e} (H : Begun e o) {Q D K V : ℕ → ℕ → ℝ} (hQ : Is2 (φ := .f32) (e.arg3.view.read (Elt Ideal) e.K3) Q)
    (hD : Is2 (φ := .f32) (e.arg6.view.read (Elt Ideal) e.K6) D) (hK : Rows e.arg4 e.K4 K) (hV : Rows e.arg5 e.K5 V) :
    Setup e o (lanes 0 (eight Q)) (lanes 1 (eight Q)) (lanes 0 D) (lanes 1 D) K V (512 * (e.i 2).val) ∧ SetupR e o := by
  obtain ⟨h1, h2, h3, h4, h5, h6, h7, h8, h9⟩ := H
  refine ⟨⟨?_, ?_, ?_, ?_, ?_, ?_, hK, hV, rfl, ?_, ?_⟩, ⟨?_, ?_, ?_⟩⟩
  · rw [h3]; exact q0_is hQ
  · rw [h4]; exact q1_is hQ
  · rw [h8]; exact d0_is hD Ideal.ofBits_zero_f32
  · rw [h9]; exact d1_is hD mask1
  · rw [h6]; exact tail_is
  · rw [h5]; exact pos_is
  · unfold c36 o36 part36
    dsimp only
    intro p c
    pointwise [k0_pay298, k0_pay299]
    rfl
  · unfold c36 o36 part36
    dsimp only
    intro p c
    pointwise [k0_pay298, k0_pay299]
    rfl
  · show IsMask (o.r.2.1) 0
    rw [h1]; exact mask0
  · show IsMask (o.r.2.2.1) 1
    rw [h2]; exact mask1
  · rw [h7]; exact head_is

theorem zero_rows {m : Memref sig .tc .vmem S2048x128 .f32} {f : BufTy.Contents (Elt Ideal) m.view.ty} {w : Vec Ideal S2048x128 .f32} (hw : ∀ y, w y = 0) :
    Rows m (m.view.writes (Elt Ideal) f [⟨Rect.unit ![0, 0] ![2048, 128] inb_S2048x128_S2048x128_0_0, w⟩]) (fun _ _ => 0) := by
  intro s l
  exact (congrFun (View.read_writes_full m.view f inb_S2048x128_S2048x128_0_0 w []) (ix2 s l)).trans (hw _)

theorem clearedA (e : Env Ideal) (hc : begins e.i) (b : Bufs e) :
    Rows e.arg8 (o35 e hc b).b.f8 (fun _ _ => 0) ∧ Rows e.arg9 (o35 e hc b).b.f9 (fun _ _ => 0) := by
  unfold o35 part35
  dsimp only
  exact ⟨zero_rows fun y => by pointwise [k0_pay285], zero_rows fun y => by pointwise [k0_pay286]⟩
theorem keptB (e : Env Ideal) (hc : ¬ begins e.i) (b : Bufs e) : (o35b e hc b).b.f8 = b.f8 ∧ (o35b e hc b).b.f9 = b.f9 := by
  unfold o35b part35b
  dsimp only
  exact ⟨rfl, rfl⟩

end Cert.KernelIdeal.Hand
end
-- ==== Proof.Right.lean ====
/- What the body leaves in its three outputs at ideal values. -/
module
public import proofs.«01_k».proof.Proof.Setup
public import proofs.«01_k».proof.Proof.Region

@[expose] public section

set_option maxRecDepth 16384
set_option maxHeartbeats 1000000

noncomputable section

namespace Cert.KernelIdeal.Hand

open Cert.KernelIdeal Cert.KernelIdeal.Gen
open Idealize.ShloMosaic

/-- A point's gradient of its queries, and what it adds to the gradients of the keys and of the values. -/
def DQp (Q D K V : ℕ → ℕ → ℝ) (t0 p l : ℕ) : ℝ := eight (Qa (lanes 0 (eight Q)) (lanes 1 (eight Q)) (lanes 0 D) (lanes 1 D) K V t0 (t0 + 512)) p l
def DKp (Q D K V : ℕ → ℕ → ℝ) (t0 s l : ℕ) : ℝ := Ck (lanes 0 (eight Q)) (lanes 1 (eight Q)) (lanes 0 D) (lanes 1 D) K V t0 s l
def DVp (Q D K : ℕ → ℕ → ℝ) (t0 s l : ℕ) : ℝ := Cv (lanes 0 (eight Q)) (lanes 1 (eight Q)) (lanes 0 D) (lanes 1 D) K t0 s l

section
variable {e : Env Ideal} {o : First e} (H : Begun e o) {Q D K V X8 X9 : ℕ → ℕ → ℝ} (hQ : Is2 (φ := .f32) (e.arg3.view.read (Elt Ideal) e.K3) Q)
    (hD : Is2 (φ := .f32) (e.arg6.view.read (Elt Ideal) e.K6) D) (hK : Rows e.arg4 e.K4 K) (hV : Rows e.arg5 e.K5 V)
    (h8 : Rows e.arg8 o.b.f8 X8) (h9 : Rows e.arg9 o.b.f9 X9)
include H hQ hD hK hV h8 h9

theorem done : Is2 (φ := .f32) (lastQ o) (Qa (lanes 0 (eight Q)) (lanes 1 (eight Q)) (lanes 0 D) (lanes 1 D) K V (512 * (e.i 2).val) (512 * (e.i 2).val + 512))
    ∧ Rows e.arg8 (lastK o) (fun s l => X8 s l + DKp Q D K V (512 * (e.i 2).val) s l)
    ∧ Rows e.arg9 (c55 e o).b.f9 (fun s l => X9 s l + DVp Q D K (512 * (e.i 2).val) s l) := by
  obtain ⟨S, R⟩ := setup H hQ hD hK hV
  obtain ⟨s9, s10, s11⟩ := left_swept S h9
  refine ⟨qR3 S R s10 s11 h8, ?_, ?_⟩
  · have h := xO3 S R s10 s11 h8
    intro s l
    refine (h s l).trans ?_
    unfold before DKp
    by_cases c : s.val < 512 * (e.i 2).val + 384 + 128
    · simp only [if_pos c]
    · beta_reduce
      rw [if_neg c, Ck_skip _ _ _ _ _ _ _ _ _ (by omega)]
  · rw [f9_55]
    intro s l
    refine (s9 s l).trans ?_
    unfold after DVp
    rw [if_pos (Nat.zero_le _)]
end

theorem left_vals (e : Env Ideal) (b : Bufs e) {Q D K V X8 X9 : ℕ → ℕ → ℝ} (hQ : Is2 (φ := .f32) (e.arg3.view.read (Elt Ideal) e.K3) Q)
    (hD : Is2 (φ := .f32) (e.arg6.view.read (Elt Ideal) e.K6) D) (hK : Rows e.arg4 e.K4 K) (hV : Rows e.arg5 e.K5 V)
    (h8 : ¬ begins e.i → Rows e.arg8 b.f8 X8) (h9 : ¬ begins e.i → Rows e.arg9 b.f9 X9) :
    Is2 (φ := .bf16) (e.arg7.view.read (Elt Ideal) (left7 e b)) (DQp Q D K V (512 * (e.i 2).val))
    ∧ Rows e.arg8 (left8 e b) (fun s l => (if begins e.i then 0 else X8 s l) + DKp Q D K V (512 * (e.i 2).val) s l)
    ∧ Rows e.arg9 (left9 e b) (fun s l => (if begins e.i then 0 else X9 s l) + DVp Q D K (512 * (e.i 2).val) s l) := by
  unfold left7 left8 left9
  by_cases hc : begins e.i
  · simp only [dif_pos hc, if_pos hc]
    obtain ⟨r7, r8⟩ := bodyA_read e hc b
    obtain ⟨g7, g8, g9⟩ := done (begunA e hc b) hQ hD hK hV (clearedA e hc b).1 (clearedA e hc b).2
    rw [r8]
    refine ⟨?_, g8, g9⟩
    rw [r7]
    intro p l
    pointwise
    rw [g7 p l, eighth, ← EReal.coe_mul]
    rfl
  · simp only [dif_neg hc, if_neg hc]
    obtain ⟨r7, r8⟩ := bodyB_read e hc b
    obtain ⟨g7, g8, g9⟩ := done (begunB e hc b) hQ hD hK hV (X8 := X8) (X9 := X9) (by rw [(keptB e hc b).1]; exact h8 hc) (by rw [(keptB e hc b).2]; exact h9 hc)
    rw [r8]
    refine ⟨?_, g8, g9⟩
    rw [r7]
    intro p l
    pointwise
    rw [g7 p l, eighth, ← EReal.coe_mul]
    rfl

end Cert.KernelIdeal.Hand
end
-- ==== Proof.Named.lean ====
/- The run at ideal values with the three outputs named: each point's gradient of its queries, and the sums so far of the
   gradients of the keys and of the values. -/
module
public import proofs.«01_k».proof.Proof.Right
public import Idealize.ShloMosaic.Lib.Pipeline.ValueKit

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem

/-- The heads' arrays of a pair of heads: its queries (a block of them), keys, values and output gradients. -/
def rQ (P : ℕ → ℕ → ℝ) (b h i p l : ℕ) : ℝ := P (b * 2048 + i * 512 + p) (4096 + h * 128 + l)
def rK (P : ℕ → ℕ → ℝ) (b h s l : ℕ) : ℝ := P (b * 2048 + s) (5120 + h * 128 + l)
def rV (P : ℕ → ℕ → ℝ) (b h s l : ℕ) : ℝ := P (b * 2048 + s) (6144 + h * 128 + l)
def rD (G : ℕ → ℕ → ℝ) (b h i p l : ℕ) : ℝ := G (b * 2048 + i * 512 + p) (h * 128 + l)
/-- A point's three parts. -/
def dqS (P G : ℕ → ℕ → ℝ) (b h i p l : ℕ) : ℝ := DQp (rQ P b h i) (rD G b h i) (rK P b h) (rV P b h) (512 * i) p l
def dkS (P G : ℕ → ℕ → ℝ) (b h i s l : ℕ) : ℝ := DKp (rQ P b h i) (rD G b h i) (rK P b h) (rV P b h) (512 * i) s l
def dvS (P G : ℕ → ℕ → ℝ) (b h i s l : ℕ) : ℝ := DVp (rQ P b h i) (rD G b h i) (rK P b h) (512 * i) s l
/-- The three outputs' buffers after a point. -/
def blk4 (P G : ℕ → ℕ → ℝ) (i : grid0.Coords) : Vec Ideal S512x128 .bf16 := fun y => ((dqS P G (i 0).val (i 1).val (i 2).val (y 0).val (y 1).val : ℝ) : EReal)
def blk5 (P G : ℕ → ℕ → ℝ) (i : grid0.Coords) : Vec Ideal S2048x128 .f32 := fun y => ((∑ j ∈ Finset.range ((i 2).val + 1), dkS P G (i 0).val (i 1).val j (y 0).val (y 1).val : ℝ) : EReal)
def blk6 (P G : ℕ → ℕ → ℝ) (i : grid0.Coords) : Vec Ideal S2048x128 .f32 := fun y => ((∑ j ∈ Finset.range ((i 2).val + 1), dvS P G (i 0).val (i 1).val j (y 0).val (y 1).val : ℝ) : EReal)

variable (m : (ℓ : Loc nD τ sig) → Buf (Elt Ideal) ℓ) (ρ : Dev nD → PrngReg)

/-- The two argument arrays hold these real numbers, where the kernel reads them. -/
structure Reals (c : Dev nD) (P G : ℕ → ℕ → ℝ) : Prop where
  p : ∀ (r : Fin 4096) (k : Fin 10368), 4096 ≤ k.val → k.val < 7168 → (m ((c : Thread nD τ).loc main_arg0) : FVec Ideal S4096x10368 .f32) (ix2 r k) = ((P r.val k.val : ℝ) : EReal)
  g : ∀ (r : Fin 4096) (k : Fin 1024), (m ((c : Thread nD τ).loc main_arg1) : FVec Ideal S4096x1024 .f32) (ix2 r k) = ((G r.val k.val : ℝ) : EReal)

theorem idx0 : ∀ t : Fin cfg0.N, win0_0.index t = ![4 * (grid0.coords t 0).val + (grid0.coords t 2).val, 32 + (grid0.coords t 1).val]
    ∧ win0_1.index t = ![(grid0.coords t 0).val, 40 + (grid0.coords t 1).val] ∧ win0_2.index t = ![(grid0.coords t 0).val, 48 + (grid0.coords t 1).val]
    ∧ win0_3.index t = ![4 * (grid0.coords t 0).val + (grid0.coords t 2).val, (grid0.coords t 1).val]
    ∧ win0_4.index t = ![4 * (grid0.coords t 0).val + (grid0.coords t 2).val, (grid0.coords t 1).val]
    ∧ win0_5.index t = ![(grid0.coords t 0).val, (grid0.coords t 1).val] ∧ win0_6.index t = ![(grid0.coords t 0).val, (grid0.coords t 1).val] :=
  (by decide +kernel : ∀ t : Fin grid0.N, _)

theorem crd : ∀ t : Fin grid0.N, (grid0.coords t 0).val = t.val / 32 ∧ (grid0.coords t 1).val = t.val / 4 % 8 ∧ (grid0.coords t 2).val = t.val % 4 := by
  decide +kernel

theorem begins_iff (i : grid0.Coords) : begins i ↔ (i 2).val = 0 := by
  have h : ∀ k : Fin 4, (Scalar.cmpi .ne (Scalar.extui (Scalar.cmpi .eq (BitVec.ofNat 32 k.val) 0#32)) 0#32) = 1#1 ↔ k.val = 0 := by decide
  exact h (i 2)

section
variable {m} {c : Dev nD} {P G : ℕ → ℕ → ℝ} (H : Reals m c P G) (t : Fin cfg0.N)
include H

theorem in0 : Is2 (φ := .f32) (iblk m c 0 t : Vec Ideal S512x128 .f32) (rQ P (grid0.coords t 0).val (grid0.coords t 1).val (grid0.coords t 2).val) := by
  intro p l
  have b0 : (grid0.coords t 0).val < 2 := (grid0.coords t 0).isLt
  have b1 : (grid0.coords t 1).val < 8 := (grid0.coords t 1).isLt
  have b2 : (grid0.coords t 2).val < 4 := (grid0.coords t 2).isLt
  have e : ((win0_0.blk t).view.emb (ix2 p l)) = ix2 (⟨(grid0.coords t 0).val * 2048 + (grid0.coords t 2).val * 512 + p.val, by omega⟩ : Fin 4096) (⟨4096 + (grid0.coords t 1).val * 128 + l.val, by omega⟩ : Fin 10368) := by
    blk_ext [idx0 t]
  blk_simp [iblk, V]
  rw [e]
  exact H.p _ _ (by show 4096 ≤ _; dsimp only; omega) (by dsimp only; omega)
theorem in1 : Is2 (φ := .f32) (iblk m c 1 t : Vec Ideal S2048x128 .f32) (rK P (grid0.coords t 0).val (grid0.coords t 1).val) := by
  intro p l
  have b0 : (grid0.coords t 0).val < 2 := (grid0.coords t 0).isLt
  have b1 : (grid0.coords t 1).val < 8 := (grid0.coords t 1).isLt
  have b2 : (grid0.coords t 2).val < 4 := (grid0.coords t 2).isLt
  have e : ((win0_1.blk t).view.emb (ix2 p l)) = ix2 (⟨(grid0.coords t 0).val * 2048 + p.val, by omega⟩ : Fin 4096) (⟨5120 + (grid0.coords t 1).val * 128 + l.val, by omega⟩ : Fin 10368) := by
    blk_ext [idx0 t]
  blk_simp [iblk, V]
  rw [e]
  exact H.p _ _ (by show 4096 ≤ _; dsimp only; omega) (by dsimp only; omega)
theorem in2 : Is2 (φ := .f32) (iblk m c 2 t : Vec Ideal S2048x128 .f32) (rV P (grid0.coords t 0).val (grid0.coords t 1).val) := by
  intro p l
  have b0 : (grid0.coords t 0).val < 2 := (grid0.coords t 0).isLt
  have b1 : (grid0.coords t 1).val < 8 := (grid0.coords t 1).isLt
  have b2 : (grid0.coords t 2).val < 4 := (grid0.coords t 2).isLt
  have e : ((win0_2.blk t).view.emb (ix2 p l)) = ix2 (⟨(grid0.coords t 0).val * 2048 + p.val, by omega⟩ : Fin 4096) (⟨6144 + (grid0.coords t 1).val * 128 + l.val, by omega⟩ : Fin 10368) := by
    blk_ext [idx0 t]
  blk_simp [iblk, V]
  rw [e]
  exact H.p _ _ (by show 4096 ≤ _; dsimp only; omega) (by dsimp only; omega)
theorem in3 : Is2 (φ := .f32) (iblk m c 3 t : Vec Ideal S512x128 .f32) (rD G (grid0.coords t 0).val (grid0.coords t 1).val (grid0.coords t 2).val) := by
  intro p l
  have b0 : (grid0.coords t 0).val < 2 := (grid0.coords t 0).isLt
  have b1 : (grid0.coords t 1).val < 8 := (grid0.coords t 1).isLt
  have b2 : (grid0.coords t 2).val < 4 := (grid0.coords t 2).isLt
  have e : ((win0_3.blk t).view.emb (ix2 p l)) = ix2 (⟨(grid0.coords t 0).val * 2048 + (grid0.coords t 2).val * 512 + p.val, by omega⟩ : Fin 4096) (⟨(grid0.coords t 1).val * 128 + l.val, by omega⟩ : Fin 1024) := by
    blk_ext [idx0 t]
  blk_simp [iblk, V]
  rw [e]
  exact H.g _ _

/-- What the body leaves at a point, named. -/
theorem left_named (b : Bufs (env c t (iblk m c 0 t) (iblk m c 1 t) (iblk m c 2 t) (iblk m c 3 t)))
    (h5 : ¬ begins (grid0.coords t) → ∀ j : grid0.Coords, j 0 = grid0.coords t 0 → j 1 = grid0.coords t 1 → (j 2).val + 1 = (grid0.coords t 2).val → (ms5 t).view.read (Elt Ideal) b.f8 = blk5 P G j)
    (h6 : ¬ begins (grid0.coords t) → ∀ j : grid0.Coords, j 0 = grid0.coords t 0 → j 1 = grid0.coords t 1 → (j 2).val + 1 = (grid0.coords t 2).val → (ms6 t).view.read (Elt Ideal) b.f9 = blk6 P G j) :
    (ms4 t).view.read (Elt Ideal) (left7 _ b) = blk4 P G (grid0.coords t)
    ∧ (ms5 t).view.read (Elt Ideal) (left8 _ b) = blk5 P G (grid0.coords t)
    ∧ (ms6 t).view.read (Elt Ideal) (left9 _ b) = blk6 P G (grid0.coords t) := by
  have hp : ∀ k, k + 1 = (grid0.coords t 2).val → ∃ j : grid0.Coords, j 0 = grid0.coords t 0 ∧ j 1 = grid0.coords t 1 ∧ (j 2).val = k := fun k hk => by
    refine ⟨fun a => if ha : a = 2 then ⟨k, ?_⟩ else grid0.coords t a, ?_, ?_, ?_⟩
    · subst ha; exact Nat.lt_trans (by omega) (grid0.coords t 2).isLt
    · rfl
    · rfl
    · rfl
  obtain ⟨v4, v5, v6⟩ := left_vals (env c t (iblk m c 0 t) (iblk m c 1 t) (iblk m c 2 t) (iblk m c 3 t)) b
    (Q := rQ P (grid0.coords t 0).val (grid0.coords t 1).val (grid0.coords t 2).val) (D := rD G (grid0.coords t 0).val (grid0.coords t 1).val (grid0.coords t 2).val)
    (K := rK P (grid0.coords t 0).val (grid0.coords t 1).val) (V := rV P (grid0.coords t 0).val (grid0.coords t 1).val)
    (X8 := fun s l => ∑ j ∈ Finset.range (grid0.coords t 2).val, dkS P G (grid0.coords t 0).val (grid0.coords t 1).val j s l)
    (X9 := fun s l => ∑ j ∈ Finset.range (grid0.coords t 2).val, dvS P G (grid0.coords t 0).val (grid0.coords t 1).val j s l)
    (by show Is2 (φ := .f32) ((ms0 t).view.read (Elt Ideal) ((hs0 t).unread _)) _
        rw [(hs0 t).read_unread]; exact in0 H t)
    (by show Is2 (φ := .f32) ((ms3 t).view.read (Elt Ideal) ((hs3 t).unread _)) _
        rw [(hs3 t).read_unread]; exact in3 H t)
    (by intro s l
        show (ms1 t).view.read (Elt Ideal) ((hs1 t).unread _) _ = _
        rw [(hs1 t).read_unread]; exact in1 H t s l)
    (by intro s l
        show (ms2 t).view.read (Elt Ideal) ((hs2 t).unread _) _ = _
        rw [(hs2 t).read_unread]; exact in2 H t s l)
    (fun hb s l => by
        have hb0 : (grid0.coords t 2).val ≠ 0 := fun h0 => hb ((begins_iff (grid0.coords t)).2 h0)
        obtain ⟨j, e0, e1, e2⟩ := hp ((grid0.coords t 2).val - 1) (by omega)
        refine (congrFun (h5 hb j e0 e1 (by omega)) (ix2 s l)).trans ?_
        unfold blk5
        rw [e0, e1, e2, Nat.sub_add_cancel (by omega)]
        rfl)
    (fun hb s l => by
        have hb0 : (grid0.coords t 2).val ≠ 0 := fun h0 => hb ((begins_iff (grid0.coords t)).2 h0)
        obtain ⟨j, e0, e1, e2⟩ := hp ((grid0.coords t 2).val - 1) (by omega)
        refine (congrFun (h6 hb j e0 e1 (by omega)) (ix2 s l)).trans ?_
        unfold blk6
        rw [e0, e1, e2, Nat.sub_add_cancel (by omega)]
        rfl)
  have hs : ∀ f : ℕ → ℕ → ℕ → ℝ, ∀ s l : ℕ, (if begins (grid0.coords t) then 0 else ∑ j ∈ Finset.range (grid0.coords t 2).val, f j s l) + f (grid0.coords t 2).val s l
      = ∑ j ∈ Finset.range ((grid0.coords t 2).val + 1), f j s l := fun f s l => by
    rw [Finset.sum_range_succ]
    by_cases hb : begins (grid0.coords t)
    · rw [if_pos hb, (begins_iff _).1 hb, Finset.sum_range_zero]
    · rw [if_neg hb]
  refine ⟨?_, ?_, ?_⟩
  · funext y
    idx_vars y
    exact v4 _ _
  · funext y
    idx_vars y
    refine (v5 _ _).trans ?_
    exact congrArg Real.toEReal (hs (fun j s l => dkS P G (grid0.coords t 0).val (grid0.coords t 1).val j s l) _ _)
  · funext y
    idx_vars y
    refine (v6 _ _).trans ?_
    exact congrArg Real.toEReal (hs (fun j s l => dvS P G (grid0.coords t 0).val (grid0.coords t 1).val j s l) _ _)
end

end Cert.KernelIdeal.Hand
end
-- ==== Proof.Finite.lean ====
/- The precondition: every number the kernel reads is a real number. -/
module
public import proofs.«01_k».proof.Defs
public import proofs.«01_k».proof.Proof.Named

@[expose] public section

set_option maxRecDepth 16384

noncomputable section

namespace Cert.KernelIdeal.Hand

open Cert.KernelIdeal Cert.KernelIdeal.Gen
open Idealize.ShloMosaic Idealize.ShloMosaic.TcCoe Idealize.SL.Sem

/-- The precondition's side conditions. -/
theorem finite_facts : Cert.Pre_finite.Facts where
  slices_S4096x10368_S4096x3072_0_4096 := by decide
  bcast_S_S4096x3072 := by decide
  bcast_S_S4096x1024 := by decide

theorem infinity : Ideal.ofBits .f32 0x7F800000#32 = ⊤ := by
  simp [Ideal.ofBits, Ideal.ieee]

theorem real_of_lt (x : EReal) (h : FloatOps.absf (F := Ideal) (φ := .f32) x < Ideal.ofBits .f32 0x7F800000#32) : x = (x.toReal : EReal) := by
  rw [infinity] at h
  have h' : max x (-x) < ⊤ := h
  refine (EReal.coe_toReal ?_ ?_).symm
  · rintro rfl; simp at h'
  · rintro rfl; simp at h'

theorem of_bit {p : Prop} [Decidable p] (h : BitVec.ofBool (decide p) = 1#1) : p := by
  by_contra hn
  rw [decide_eq_false hn] at h
  exact absurd h (by decide)

variable (m : (ℓ : Loc nD τ sig) → Buf (Elt Ideal) ℓ)

/-- The arguments as real numbers. -/
def numP (c : Dev nD) (r k : ℕ) : ℝ := if h : r < 4096 ∧ k < 10368 then ((m ((c : Thread nD τ).loc main_arg0) : FVec Ideal S4096x10368 .f32) (ix2 ⟨r, h.1⟩ ⟨k, h.2⟩) : EReal).toReal else 0
def numG (c : Dev nD) (r k : ℕ) : ℝ := if h : r < 4096 ∧ k < 1024 then ((m ((c : Thread nD τ).loc main_arg1) : FVec Ideal S4096x1024 .f32) (ix2 ⟨r, h.1⟩ ⟨k, h.2⟩) : EReal).toReal else 0

theorem reals (hp : letI := finite_facts; Cert.Pre_KernelIdeal_finite m) (c : Dev nD) : Reals m c (numP m c) (numG m c) := by
  letI := finite_facts
  have h0 := (hp c).1
  have h1 := (hp c).2
  constructor
  · intro r k hk hk'
    have h := congrFun h0 (ix2 r (⟨k.val - 4096, by omega⟩ : Fin 3072))
    pointwise [Cert.Pre_finite.fn] at h
    have e : (ix2 r (⟨4096 + (k.val - 4096), by omega⟩ : Fin 10368)) = ix2 r k := (ix2_inj ..).2 ⟨rfl, Fin.ext (by show 4096 + (k.val - 4096) = k.val; omega)⟩
    rw [e] at h
    have h2 := real_of_lt _ (of_bit h)
    refine h2.trans (congrArg Real.toEReal ?_)
    rw [numP, dif_pos ⟨r.isLt, k.isLt⟩]
  · intro r k
    have h := congrFun h1 (ix2 r k)
    pointwise [Cert.Pre_finite.fn] at h
    have h2 := real_of_lt _ (of_bit h)
    refine h2.trans (congrArg Real.toEReal ?_)
    rw [numG, dif_pos ⟨r.isLt, k.isLt⟩]

end Cert.KernelIdeal.Hand

end
-- ==== Proof.NamedRun.lean ====
/- The run at ideal values with the three outputs named. -/
module
public import proofs.«01_k».proof.Proof.Named

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (P G : Dev nD → ℕ → ℕ → ℝ)

/-- The proof data of the pipeline: each input's buffer at its block, each output's at what the points so far make it. -/
def datsN (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk4 (P c) (G c) (grid0.coords t)
    | ⟨5, _⟩ => blk5 (P c) (G c) (grid0.coords t)
    | ⟨6, _⟩ => blk6 (P c) (G c) (grid0.coords t)
  Φ _ := Pipeline.ΦA spec0 c
  q w := Pipeline.shareOf spec0 w
  owed _ := 0

theorem AN_eq (c : Dev nD) (w : Fin cfg0.W) : (datsN m P G 0 c).A w = V m c (Pipeline.arrRef spec0 w) := by
  dsimp only [datsN]

theorem afterN0 (c : Dev nD) (t : Fin cfg0.N) : (datsN m P G 0 c).after 0 t = iblk m c 0 t := by dsimp only [datsN]
theorem afterN1 (c : Dev nD) (t : Fin cfg0.N) : (datsN m P G 0 c).after 1 t = iblk m c 1 t := by dsimp only [datsN]
theorem afterN2 (c : Dev nD) (t : Fin cfg0.N) : (datsN m P G 0 c).after 2 t = iblk m c 2 t := by dsimp only [datsN]
theorem afterN3 (c : Dev nD) (t : Fin cfg0.N) : (datsN m P G 0 c).after 3 t = iblk m c 3 t := by dsimp only [datsN]
theorem afterN4 (c : Dev nD) (t : Fin cfg0.N) : (datsN m P G 0 c).after 4 t = blk4 (P c) (G c) (grid0.coords t) := by dsimp only [datsN]
theorem afterN5 (c : Dev nD) (t : Fin cfg0.N) : (datsN m P G 0 c).after 5 t = blk5 (P c) (G c) (grid0.coords t) := by dsimp only [datsN]
theorem afterN6 (c : Dev nD) (t : Fin cfg0.N) : (datsN m P G 0 c).after 6 t = blk6 (P c) (G c) (grid0.coords t) := by dsimp only [datsN]
theorem beforeN0 (c : Dev nD) (t : Fin cfg0.N) (d) : (datsN m P G 0 c).before 0 t d = iblk m c 0 t :=
  before0_0_of m (datsN m P G 0 c) (AN_eq m P G c 0) (afterN0 m P G c) t d
theorem beforeN1 (c : Dev nD) (t : Fin cfg0.N) (d) : (datsN m P G 0 c).before 1 t d = iblk m c 1 t :=
  before0_1_of m (datsN m P G 0 c) (AN_eq m P G c 1) (afterN1 m P G c) t d
theorem beforeN2 (c : Dev nD) (t : Fin cfg0.N) (d) : (datsN m P G 0 c).before 2 t d = iblk m c 2 t :=
  before0_2_of m (datsN m P G 0 c) (AN_eq m P G c 2) (afterN2 m P G c) t d
theorem beforeN3 (c : Dev nD) (t : Fin cfg0.N) (d) : (datsN m P G 0 c).before 3 t d = iblk m c 3 t :=
  before0_3_of m (datsN m P G 0 c) (AN_eq m P G c 3) (afterN3 m P G c) t d
/-- A point that does not begin a block row finds the sums so far. -/
theorem beforeN5 (c : Dev nD) (t : Fin cfg0.N) (d) (hb : ¬ begins (grid0.coords t)) (j : grid0.Coords) (h0 : j 0 = grid0.coords t 0) (h1 : j 1 = grid0.coords t 1)
    (h2 : (j 2).val + 1 = (grid0.coords t 2).val) : (datsN m P G 0 c).before 5 t d = blk5 (P c) (G c) j := by
  have hm : t.val % 4 ≠ 0 := fun h => hb ((begins_iff _).2 ((crd t).2.2.trans h))
  have ht : t.val ≠ 0 := fun h => hm (by rw [h])
  rw [(datsN m P G 0 c).before_out_kept 5 rfl t ht (Bool.eq_false_iff.2 fun h => by have := (flush0_5 _).1 h; dsimp only at this; omega) (fun _ => rfl) (fun _ _ => rfl) d, afterN5]
  congr 1
  have e := crd t
  have e' := crd ⟨t.val - 1, Nat.lt_of_le_of_lt (Nat.sub_le _ _) t.isLt⟩
  dsimp only at e'
  have v0 : (j 0).val = (grid0.coords t 0).val := by rw [h0]
  have v1 : (j 1).val = (grid0.coords t 1).val := by rw [h1]
  funext a
  match a with
  | ⟨0, _⟩ => exact Fin.ext (e'.1.trans (by show _ = (j 0).val; omega))
  | ⟨1, _⟩ => exact Fin.ext (e'.2.1.trans (by show _ = (j 1).val; omega))
  | ⟨2, _⟩ => exact Fin.ext (e'.2.2.trans (by show _ = (j 2).val; omega))
theorem beforeN6 (c : Dev nD) (t : Fin cfg0.N) (d) (hb : ¬ begins (grid0.coords t)) (j : grid0.Coords) (h0 : j 0 = grid0.coords t 0) (h1 : j 1 = grid0.coords t 1)
    (h2 : (j 2).val + 1 = (grid0.coords t 2).val) : (datsN m P G 0 c).before 6 t d = blk6 (P c) (G c) j := by
  have hm : t.val % 4 ≠ 0 := fun h => hb ((begins_iff _).2 ((crd t).2.2.trans h))
  have ht : t.val ≠ 0 := fun h => hm (by rw [h])
  rw [(datsN m P G 0 c).before_out_kept 6 rfl t ht (Bool.eq_false_iff.2 fun h => by have := (flush0_6 _).1 h; dsimp only at this; omega) (fun _ => rfl) (fun _ _ => rfl) d, afterN6]
  congr 1
  have e := crd t
  have e' := crd ⟨t.val - 1, Nat.lt_of_le_of_lt (Nat.sub_le _ _) t.isLt⟩
  dsimp only at e'
  have v0 : (j 0).val = (grid0.coords t 0).val := by rw [h0]
  have v1 : (j 1).val = (grid0.coords t 1).val := by rw [h1]
  funext a
  match a with
  | ⟨0, _⟩ => exact Fin.ext (e'.1.trans (by show _ = (j 0).val; omega))
  | ⟨1, _⟩ => exact Fin.ext (e'.2.1.trans (by show _ = (j 1).val; omega))
  | ⟨2, _⟩ => exact Fin.ext (e'.2.2.trans (by show _ = (j 2).val; omega))

/-- What the body is called with at point `t`, and what it returns. -/
def preN (c : Dev nD) (t : Fin cfg0.N) : sProp 𝕄 :=
  iprop((datsN m P G 0 c).Φ t.castSucc ∗ (datsN m P G 0 c).owesAt () t.castSucc
    ∗ (∃ d, owns (c : Thread nD τ) (ms0 t) fullShare ((datsN m P G 0 c).before 0 t d))
    ∗ (∃ d, owns (c : Thread nD τ) (ms1 t) fullShare ((datsN m P G 0 c).before 1 t d))
    ∗ (∃ d, owns (c : Thread nD τ) (ms2 t) fullShare ((datsN m P G 0 c).before 2 t d))
    ∗ (∃ d, owns (c : Thread nD τ) (ms3 t) fullShare ((datsN m P G 0 c).before 3 t d))
    ∗ (∃ d, owns (c : Thread nD τ) (ms4 t) fullShare ((datsN m P G 0 c).before 4 t d))
    ∗ (∃ d, owns (c : Thread nD τ) (ms5 t) fullShare ((datsN m P G 0 c).before 5 t d))
    ∗ (∃ d, owns (c : Thread nD τ) (ms6 t) fullShare ((datsN m P G 0 c).before 6 t d)))
def postN (c : Dev nD) (t : Fin cfg0.N) : sProp 𝕄 :=
  iprop((datsN m P G 0 c).Φ t.succ ∗ (datsN m P G 0 c).owesAt () t.succ
    ∗ owns (c : Thread nD τ) (ms0 t) fullShare ((datsN m P G 0 c).after 0 t)
    ∗ owns (c : Thread nD τ) (ms1 t) fullShare ((datsN m P G 0 c).after 1 t)
    ∗ owns (c : Thread nD τ) (ms2 t) fullShare ((datsN m P G 0 c).after 2 t)
    ∗ owns (c : Thread nD τ) (ms3 t) fullShare ((datsN m P G 0 c).after 3 t)
    ∗ owns (c : Thread nD τ) (ms4 t) fullShare ((datsN m P G 0 c).after 4 t)
    ∗ owns (c : Thread nD τ) (ms5 t) fullShare ((datsN m P G 0 c).after 5 t)
    ∗ owns (c : Thread nD τ) (ms6 t) fullShare ((datsN m P G 0 c).after 6 t))

set_option maxHeartbeats 1600000 in
theorem soundN (c : Dev nD) (H : Reals m c (P c) (G c)) (t : Fin cfg0.N) :
    preN m P G c t ⊢ wp Idealize.ShloMosaic.frame (wpE (defs₀ (F := Ideal)) Variants.none c none) Set.univ (bodyAt0 t) (fun _ => postN m P G c t) := by
  unfold preN postN
  simp only [beforeN0, beforeN1, beforeN2, beforeN3, afterN0, afterN1, afterN2, afterN3, afterN4, afterN5, afterN6]
  rw [show (datsN m P G 0 c).owesAt () t.succ = (datsN m P G 0 c).owesAt () t.castSucc from rfl,
    show (datsN m P G 0 c).Φ t.castSucc = Pipeline.ΦA spec0 c from rfl, show (datsN m P G 0 c).Φ t.succ = Pipeline.ΦA spec0 c from rfl, PhiA0_eq]
  unfold owns
  iintro ⟨⟨⟨⟨%d10, %f10, -, H10⟩, ⟨%d11, %f11, -, H11⟩⟩, Hg⟩, Ho, ⟨%d0, H0⟩, ⟨%d1, H1⟩, ⟨%d2, H2⟩, ⟨%d3, H3⟩, ⟨%d4, %f4, -, H4⟩, ⟨%d5, %f5, %hf5, H5⟩, ⟨%d6, %f6, %hf6, H6⟩⟩
  obtain ⟨r4, r5, r6⟩ := left_named H t ⟨f4, f5, f6, f10, f11⟩ (fun hb j h0 h1 h2 => hf5.trans (beforeN5 m P G c t d5 hb j h0 h1 h2)) (fun hb j h0 h1 h2 => hf6.trans (beforeN6 m P G c t d6 hb j h0 h1 h2))
  rw [← r4, ← r5, ← r6]
  iapply (point c t (iblk m c 0 t) (iblk m c 1 t) (iblk m c 2 t) (iblk m c 3 t) ⟨f4, f5, f6, f10, f11⟩ Set.univ _)
  unfold owns
  isplitl [H0 H1 H2 H3 H4 H5 H6 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexact H10
    iexact H11
  iintro ⟨H0, H1, H2, H3, H4, H5, H6, H10, H11⟩
  isplitl [H10 H11 Hg]
  · isplitl [H10 H11]
    · isplitl [H10]; · iexact H10
      iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligationN (c : Dev nD) (H : Reals m c (P c) (G c)) : BodyObligation (datsN m P G 0 c) (defs₀ (F := Ideal)) Variants.none () Set.univ := fun t => by
  rw [bigSep_W0, bigSep_W0, defs₀_row]
  exact triple_restated (soundN m P G c H t) rfl .rfl fun _ => .rfl

set_option backward.isDefEq.respectTransparency.types false in
/-- The launch: every final state has the three outputs' arrays at what the points wrote back. -/
theorem run_named (H : ∀ c, Reals m c (P c) (G c)) :
    θ_run defs (onTc (τ := τ) (main (F := Ideal))) (s₀ m ρ) (fun r => Pipeline.FramePost cfgs (datsN m P G) 0 (V m) r ∧ r.2.sem = fun _ => 0) :=
  Pipeline.θ_run_frame_track_shared (Q' := _) cfgs (datsN m P G) (0 : Fin 1) launch₀0 defs₀ Variants.none m ρ main
    (hbody := fun c => (obligationN m P G c (H c)).loose) (hq := fun _ _ _ => rfl)
    (howed := fun _ _ => rfl) (V := V m) (hmain := hmain m Variants.none) (hA := AN_eq m P G) (hin := fun _ => .rfl) (hout := fun _ => .rfl)

end Cert.KernelIdeal.Hand
end
-- ==== Proof.Final.lean ====
/- The three result arrays after the run. -/
module
public import proofs.«01_k».proof.Proof.NamedRun

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg)

/-- The three arrays. -/
def arr4 (P G : ℕ → ℕ → ℝ) : FVec Ideal S4096x1024 .bf16 := fun y => ((dqS P G ((y 0).val / 2048) ((y 1).val / 128) ((y 0).val % 2048 / 512) ((y 0).val % 512) ((y 1).val % 128) : ℝ) : EReal)
def arr5 (P G : ℕ → ℕ → ℝ) : FVec Ideal S4096x1024 .f32 := fun y => ((∑ j ∈ Finset.range 4, dkS P G ((y 0).val / 2048) ((y 1).val / 128) j ((y 0).val % 2048) ((y 1).val % 128) : ℝ) : EReal)
def arr6 (P G : ℕ → ℕ → ℝ) : FVec Ideal S4096x1024 .f32 := fun y => ((∑ j ∈ Finset.range 4, dvS P G ((y 0).val / 2048) ((y 1).val / 128) j ((y 0).val % 2048) ((y 1).val % 128) : ℝ) : EReal)

variable (m : (ℓ : Loc nD τ sig) → Buf (Elt Ideal) ℓ) (P G : Dev nD → ℕ → ℕ → ℝ) (c : Dev nD)

theorem end4 : (datsN m P G 0 c).arrAt 4 cfg0.N = arr4 (P c) (G c) := by
  refine (datsN m P G 0 c).arrAt_eq_of_covers 4 (arr4 (P c) (G c)) (by decide +kernel) fun t hf y => ?_
  have b0 : (grid0.coords t 0).val < 2 := (grid0.coords t 0).isLt
  have b1 : (grid0.coords t 1).val < 8 := (grid0.coords t 1).isLt
  have b2 : (grid0.coords t 2).val < 4 := (grid0.coords t 2).isLt
  rw [afterN4]
  idx_vars y
  have e : ((win0_4.blk t).view.emb (ix2 y0 y1)) = ix2 (⟨(grid0.coords t 0).val * 2048 + (grid0.coords t 2).val * 512 + y0.val, by omega⟩ : Fin 4096) (⟨(grid0.coords t 1).val * 128 + y1.val, by omega⟩ : Fin 1024) := by
    blk_ext [idx0 t]
  blk_simp
  rw [e]
  have i0 : ((grid0.coords t 0).val * 2048 + (grid0.coords t 2).val * 512 + y0.val) / 2048 = (grid0.coords t 0).val := by omega
  have i1 : ((grid0.coords t 1).val * 128 + y1.val) / 128 = (grid0.coords t 1).val := by omega
  have i2 : ((grid0.coords t 0).val * 2048 + (grid0.coords t 2).val * 512 + y0.val) % 2048 / 512 = (grid0.coords t 2).val := by omega
  have i3 : ((grid0.coords t 0).val * 2048 + (grid0.coords t 2).val * 512 + y0.val) % 512 = y0.val := by omega
  have i4 : ((grid0.coords t 1).val * 128 + y1.val) % 128 = y1.val := by omega
  simp only [blk4, arr4, ix2_0, ix2_1, i0, i1, i2, i3, i4]

theorem end5 : (datsN m P G 0 c).arrAt 5 cfg0.N = arr5 (P c) (G c) := by
  refine (datsN m P G 0 c).arrAt_eq_of_covers 5 (arr5 (P c) (G c)) (by decide +kernel) fun t hf y => ?_
  have b0 : (grid0.coords t 0).val < 2 := (grid0.coords t 0).isLt
  have b1 : (grid0.coords t 1).val < 8 := (grid0.coords t 1).isLt
  have b2 : (grid0.coords t 2).val < 4 := (grid0.coords t 2).isLt
  have hc : (grid0.coords t 2).val = 3 := by
    have h := (flush0_5 t).1 hf
    rw [(crd t).2.2, h]
  rw [afterN5]
  idx_vars y
  have e : ((win0_5.blk t).view.emb (ix2 y0 y1)) = ix2 (⟨(grid0.coords t 0).val * 2048 + y0.val, by omega⟩ : Fin 4096) (⟨(grid0.coords t 1).val * 128 + y1.val, by omega⟩ : Fin 1024) := by
    blk_ext [idx0 t]
  blk_simp
  rw [e]
  have i0 : ((grid0.coords t 0).val * 2048 + y0.val) / 2048 = (grid0.coords t 0).val := by omega
  have i1 : ((grid0.coords t 1).val * 128 + y1.val) / 128 = (grid0.coords t 1).val := by omega
  have i3 : ((grid0.coords t 0).val * 2048 + y0.val) % 2048 = y0.val := by omega
  have i4 : ((grid0.coords t 1).val * 128 + y1.val) % 128 = y1.val := by omega
  simp only [blk5, arr5, ix2_0, ix2_1, i0, i1, i3, i4, hc]

theorem end6 : (datsN m P G 0 c).arrAt 6 cfg0.N = arr6 (P c) (G c) := by
  refine (datsN m P G 0 c).arrAt_eq_of_covers 6 (arr6 (P c) (G c)) (by decide +kernel) fun t hf y => ?_
  have b0 : (grid0.coords t 0).val < 2 := (grid0.coords t 0).isLt
  have b1 : (grid0.coords t 1).val < 8 := (grid0.coords t 1).isLt
  have b2 : (grid0.coords t 2).val < 4 := (grid0.coords t 2).isLt
  have hc : (grid0.coords t 2).val = 3 := by
    have h := (flush0_6 t).1 hf
    rw [(crd t).2.2, h]
  rw [afterN6]
  idx_vars y
  have e : ((win0_6.blk t).view.emb (ix2 y0 y1)) = ix2 (⟨(grid0.coords t 0).val * 2048 + y0.val, by omega⟩ : Fin 4096) (⟨(grid0.coords t 1).val * 128 + y1.val, by omega⟩ : Fin 1024) := by
    blk_ext [idx0 t]
  blk_simp
  rw [e]
  have i0 : ((grid0.coords t 0).val * 2048 + y0.val) / 2048 = (grid0.coords t 0).val := by omega
  have i1 : ((grid0.coords t 1).val * 128 + y1.val) / 128 = (grid0.coords t 1).val := by omega
  have i3 : ((grid0.coords t 0).val * 2048 + y0.val) % 2048 = y0.val := by omega
  have i4 : ((grid0.coords t 1).val * 128 + y1.val) % 128 = y1.val := by omega
  simp only [blk6, arr6, ix2_0, ix2_1, i0, i1, i3, i4, hc]

end Cert.KernelIdeal.Hand

end
-- ==== Proof.Steps.lean ====
/- The reference's run over the extended reals, cut into its steps: the heads, the scores, the masked logarithms, their running
   sums, the weights and the gradients. -/
module
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The scores' shape and the heads' shape. -/
abbrev T4 := FVec Ideal S2x16x2048x2048 .f32
abbrev H4 := FVec Ideal S2x16x2048x64 .f32

/-- The queries, scaled. -/
def qH (x : FVec Ideal S4096x10368 .f32) : H4 :=
  mulf (transpose S2x16x2048x64 [0, 2, 1, 3] (shapeCast S2x2048x16x64 (extractStridedSlice S4096x1024 ![0, 4096] x slices_S4096x10368_S4096x1024_0_4096) shapeCasts_S4096x1024_S2x2048x16x64) transposes_S2x2048x16x64_S2x16x2048x64_0_2_1_3)
    (broadcastInDim S2x16x2048x64 ![] bcast_S_S2x16x2048x64 (constant S_ .f32 0x3E000000#32))
def kH (x : FVec Ideal S4096x10368 .f32) : H4 :=
  transpose S2x16x2048x64 [0, 2, 1, 3] (shapeCast S2x2048x16x64 (extractStridedSlice S4096x1024 ![0, 5120] x slices_S4096x10368_S4096x1024_0_5120) shapeCasts_S4096x1024_S2x2048x16x64) transposes_S2x2048x16x64_S2x16x2048x64_0_2_1_3
def vH (x : FVec Ideal S4096x10368 .f32) : H4 :=
  transpose S2x16x2048x64 [0, 2, 1, 3] (shapeCast S2x2048x16x64 (extractStridedSlice S4096x1024 ![0, 6144] x slices_S4096x10368_S4096x1024_0_6144) shapeCasts_S4096x1024_S2x2048x16x64) transposes_S2x2048x16x64_S2x16x2048x64_0_2_1_3
def dH (x : FVec Ideal S4096x1024 .f32) : H4 :=
  transpose S2x16x2048x64 [0, 2, 1, 3] (shapeCast S2x2048x16x64 (shapeCast S2x2048x1024 x shapeCasts_S4096x1024_S2x2048x1024) shapeCasts_S2x2048x1024_S2x2048x16x64) transposes_S2x2048x16x64_S2x16x2048x64_0_2_1_3
/-- The product of two heads' rows. -/
def rows (q k : H4) : T4 := Host.dotGeneral dot_S2x16x2048x64_S2x16x2048x64_S2x16x2048x2048_3_3_2_2_01_01 none q k
/-- Where a position stands before a query. -/
def before : IVec S2x16x2048x2048 1 :=
  broadcastInDim S2x16x2048x2048 ![2, 3] bcast_S2048x2048_S2x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
def zeros : T4 := broadcastInDim S2x16x2048x2048 ![] bcast_S_S2x16x2048x2048 (constant S_ .f32 0x00000000#32)
def infs : T4 := broadcastInDim S2x16x2048x2048 ![] bcast_S_S2x16x2048x2048 (constant S_ .f32 0x7F800000#32)
/-- What is kept where a position stands before the query. -/
def kept (x : T4) : T4 := select before x zeros
/-- The logarithm of one plus the exponential. -/
def soft (x : T4) : T4 :=
  select (cmpf .une (subf x zeros) (subf x zeros)) (addf x zeros) (addf (maximumf x zeros) (Host.log1p (Host.exp (Host.negf (Host.absf (subf x zeros))))))
/-- Its derivative. -/
def rate (x y : T4) : T4 := Host.exp (subf (select (cmpf .oeq x infs) zeros x) (select (cmpf .oeq y infs) zeros y))
/-- The running sums from the end and from the start. -/
def fromEnd (x : T4) : T4 := Host.reduceWindowAdd ![1, 1, 1, 2048] ![1, 1, 1, 1] ![0, 0, 0, 0] ![0, 0, 0, 2047] x (broadcastInDim S_ ![] bcast_S_S_ (constant S_ .f32 0x00000000#32)) reduceWindows_S2x16x2048x2048_S2x16x2048x2048_w1s1p0_0_w1s1p0_0_w1s1p0_0_w2048s1p0_2047 h_S_
def fromStart (x : T4) : T4 := Host.reduceWindowAdd ![1, 1, 1, 2048] ![1, 1, 1, 1] ![0, 0, 0, 2047] ![0, 0, 0, 0] x (broadcastInDim S_ ![] bcast_S_S_ (constant S_ .f32 0x00000000#32)) reduceWindows_S2x16x2048x2048_S2x16x2048x2048_w1s1p0_0_w1s1p0_0_w1s1p0_0_w2048s1p2047_0 h_S_
/-- The weights before the mask, the weights' gradient times them, and the scores' gradient. -/
def stick (z : T4) : T4 := Host.exp (addf z (fromEnd (kept (Host.negf (soft (Host.negf (Host.negf z)))))))
def pull (z w : T4) : T4 := mulf (kept w) (stick z)
def push (z g : T4) : T4 :=
  addf g (Host.negf (Host.negf (mulf (Host.negf (kept (fromStart g))) (rate (Host.negf (Host.negf z)) (soft (Host.negf (Host.negf z)))))))
def dz (q k v d : H4) : T4 := push (rows q k) (pull (rows q k) (rows d v))
/-- The three results over the heads. -/
def dqH (z : T4) (k : H4) : H4 := mulf (Host.dotGeneral dot_S2x16x2048x2048_S2x16x2048x64_S2x16x2048x64_3_2_2_3_01_01 none z k) (broadcastInDim S2x16x2048x64 ![] bcast_S_S2x16x2048x64 (constant S_ .f32 0x3E000000#32))
def dkH (z : T4) (q : H4) : H4 := Host.dotGeneral dot_S2x16x2048x2048_S2x16x2048x64_S2x16x2048x64_2_2_3_3_01_01 none z q
def dvH (a : T4) (d : H4) : H4 := transpose S2x16x2048x64 [0, 1, 3, 2] (Host.dotGeneral dot_S2x16x2048x64_S2x16x2048x2048_S2x16x64x2048_2_2_3_3_01_01 none d a) transposes_S2x16x64x2048_S2x16x2048x64_0_1_3_2
/-- The heads side by side again. -/
def flat (x : H4) : FVec Ideal S4096x1024 .f32 := shapeCast S4096x1024 (transpose S2x2048x16x64 [0, 2, 1, 3] x transposes_S2x16x2048x64_S2x2048x16x64_0_2_1_3) shapeCasts_S2x2048x16x64_S4096x1024

variable (m : (ℓ : Loc nD τ sig) → Buf (Elt Ideal) ℓ) (c : Dev nD)

theorem out2 : Value.res_out2 m c = flat (dvH (kept (stick (rows (qH (m ((c.tc : Thread nD τ).loc main_arg0))) (kH (m ((c.tc : Thread nD τ).loc main_arg0)))))) (dH (m ((c.tc : Thread nD τ).loc main_arg1)))) := by
  unfold Value.res_out2 Value.res_main_v52
  rfl
theorem out1 : Value.res_out1 m c = flat (dkH (dz (qH (m ((c.tc : Thread nD τ).loc main_arg0))) (kH (m ((c.tc : Thread nD τ).loc main_arg0))) (vH (m ((c.tc : Thread nD τ).loc main_arg0))) (dH (m ((c.tc : Thread nD τ).loc main_arg1)))) (qH (m ((c.tc : Thread nD τ).loc main_arg0)))) := by
  unfold Value.res_out1 Value.res_main_v51
  rfl
theorem out0 : Value.res_out0 m c = truncf .bf16 (flat (dqH (dz (qH (m ((c.tc : Thread nD τ).loc main_arg0))) (kH (m ((c.tc : Thread nD τ).loc main_arg0))) (vH (m ((c.tc : Thread nD τ).loc main_arg0))) (dH (m ((c.tc : Thread nD τ).loc main_arg1)))) (kH (m ((c.tc : Thread nD τ).loc main_arg0))))) bitsLt_bf16_f32 := by
  unfold Value.res_out0 Value.res_main_v50
  rfl

end Cert.ReferenceIdeal.Hand

end
-- ==== Proof.Cumsum.lean ====
/- The reference's two running sums, of real numbers. -/
module
public import proofs.«01_k».proof.Proof.Steps

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The array of the real numbers a function of the four coordinates gives. -/
def tens (x : ℕ → ℕ → ℕ → ℕ → ℝ) : T4 := fun i => ((x (i 0).val (i 1).val (i 2).val (i 3).val : ℝ) : EReal)
def hten (x : ℕ → ℕ → ℕ → ℕ → ℝ) : H4 := fun i => ((x (i 0).val (i 1).val (i 2).val (i 3).val : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem foldl_finRange {N : ℕ} (g : Fin N → EReal) : (List.finRange N).foldl (fun r n => r + g n) 0 = ∑ n, g n := by
  rw [foldl_add, zero_add, Fin.sum_univ_def]

/-- A sum over each window, the padding adding nothing. -/
theorem window_sum {s t : Shape} (window strides lo hi : Fin s.rank → Nat) (x : s.Idx → EReal) (h : s.ReduceWindows window strides lo hi t) (j : t.Idx) :
    Ideal.hostReduceWindowAdd window strides lo hi h x 0 j
      = ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0) := by
  unfold Ideal.hostReduceWindowAdd Host.reduceWindow
  dsimp only
  rw [foldl_finRange]
  refine (Finset.sum_congr rfl fun n _ => ?_).trans (Equiv.sum_comp ((⟨s.rank, window⟩ : Shape).rowMajor.symm) (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  dsimp only
  congr

theorem zero_first : (broadcastInDim S_ ![] bcast_S_S_ (constant (F := Ideal) S_ .f32 0x00000000#32)) (Shape.Idx.first h_S_) = (0 : EReal) := by
  pointwise

/-- A window of the last axis' length, as a sum along it. -/
theorem last_sum (F : (⟨4, ![1, 1, 1, 2048]⟩ : Shape).Idx → EReal) : (∑ w, F w) = ∑ n : Fin 2048, F (ix4 0 0 0 n) := by
  rw [sum_idx4]
  simp only [Fin.sum_univ_one, Finset.univ_unique, Finset.sum_singleton, Fin.default_eq_zero]

theorem fromEnd_tens (x : ℕ → ℕ → ℕ → ℕ → ℝ) : fromEnd (tens x) = tens (fun b h t s => ∑ s' ∈ Finset.Ico s 2048, x b h t s') := by
  funext i
  have e : fromEnd (tens x) i = Ideal.hostReduceWindowAdd ![1, 1, 1, 2048] ![1, 1, 1, 1] ![0, 0, 0, 0] ![0, 0, 0, 2047] reduceWindows_S2x16x2048x2048_S2x16x2048x2048_w1s1p0_0_w1s1p0_0_w1s1p0_0_w2048s1p0_2047 (tens x) 0 i := by
    rw [← zero_first]; rfl
  rw [e, window_sum]
  refine (last_sum _).trans ?_
  idx_vars i
  refine (Finset.sum_congr rfl fun n _ => (?_ : _ = ((if i3.val + n.val < 2048 then x i0.val i1.val i2.val (i3.val + n.val) else 0 : ℝ) : EReal))).trans ?_
  · by_cases hn : i3.val + n.val < 2048
    · rw [if_pos hn]
      refine (dif_pos (fun a => ?_)).trans ?_
      · fin_cases a <;> simp <;> omega
      · simp [tens]
    · rw [if_neg hn, EReal.coe_zero]
      refine dif_neg (fun hh => hn ?_)
      have := hh 3
      simp at this
      omega
  rw [← coe_sum]
  refine congrArg Real.toEReal ?_
  show _ = ∑ s' ∈ Finset.Ico i3.val 2048, x i0.val i1.val i2.val s'
  rw [Finset.sum_Ico_eq_sum_range, Fin.sum_univ_eq_sum_range (fun n => if i3.val + n < 2048 then x i0.val i1.val i2.val (i3.val + n) else 0) 2048, ← Finset.sum_filter]
  refine Finset.sum_congr ?_ fun _ _ => rfl
  ext n
  simp only [Finset.mem_filter, Finset.mem_range]
  omega

theorem fromStart_tens (x : ℕ → ℕ → ℕ → ℕ → ℝ) : fromStart (tens x) = tens (fun b h t s => ∑ s' ∈ Finset.range (s + 1), x b h t s') := by
  funext i
  have e : fromStart (tens x) i = Ideal.hostReduceWindowAdd ![1, 1, 1, 2048] ![1, 1, 1, 1] ![0, 0, 0, 2047] ![0, 0, 0, 0] reduceWindows_S2x16x2048x2048_S2x16x2048x2048_w1s1p0_0_w1s1p0_0_w1s1p0_0_w2048s1p2047_0 (tens x) 0 i := by
    rw [← zero_first]; rfl
  rw [e, window_sum]
  refine (last_sum _).trans ?_
  idx_vars i
  refine (Finset.sum_congr rfl fun n _ => (?_ : _ = ((if 2047 ≤ i3.val + n.val then x i0.val i1.val i2.val (i3.val + n.val - 2047) else 0 : ℝ) : EReal))).trans ?_
  · by_cases hn : 2047 ≤ i3.val + n.val
    · rw [if_pos hn]
      refine (dif_pos (fun a => ?_)).trans ?_
      · fin_cases a <;> simp <;> omega
      · simp [tens]
    · rw [if_neg hn, EReal.coe_zero]
      refine dif_neg (fun hh => hn ?_)
      have := hh 3
      simp at this
      omega
  rw [← coe_sum]
  refine congrArg Real.toEReal ?_
  show _ = ∑ s' ∈ Finset.range (i3.val + 1), x i0.val i1.val i2.val s'
  rw [Fin.sum_univ_eq_sum_range (fun n => if 2047 ≤ i3.val + n then x i0.val i1.val i2.val (i3.val + n - 2047) else 0) 2048, ← Finset.sum_filter]
  have b3 := i3.isLt
  refine Finset.sum_nbij' (fun n => i3.val + n - 2047) (fun s => s + 2047 - i3.val) ?_ ?_ ?_ ?_ ?_ <;>
    simp only [Finset.mem_filter, Finset.mem_range] <;> intros <;> first | omega | trivial

end Cert.ReferenceIdeal.Hand

end
-- ==== Proof.Weigh.lean ====
/- The reference's steps on real numbers: the logarithms, their derivative, and the mask. -/
module
public import proofs.«01_k».proof.Proof.Cumsum

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The logarithm of one plus the exponential. -/
def softplus (z : ℝ) : ℝ := max z 0 + Real.log (1 + Real.exp (-|z|))

theorem infinity : Ideal.ofBits .f32 0x7F800000#32 = ⊤ := by
  simp [Ideal.ofBits, Ideal.ieee]
theorem eighth : Ideal.ofBits .f32 0x3E000000#32 = ((1 / 8 : ℝ) : EReal) := by
  simp [Ideal.ofBits, Ideal.ieee, -EReal.coe_mul]; norm_num
theorem coe_max (a b : ℝ) : ((max a b : ℝ) : EReal) = max (a : EReal) (b : EReal) := EReal.coe_strictMono.monotone.map_max

theorem sp_coe (z : ℝ) : max (z : EReal) 0 + Ideal.log1p (Ideal.exp (-FloatOps.absf (F := Ideal) (φ := .f32) (z : EReal))) = ((softplus z : ℝ) : EReal) := by
  have habs : FloatOps.absf (F := Ideal) (φ := .f32) (z : EReal) = ((|z| : ℝ) : EReal) := by
    show max (z : EReal) (-(z : EReal)) = _
    rw [← EReal.coe_neg, ← coe_max]; rfl
  have hlog : Ideal.log (((1 + Real.exp (-|z|) : ℝ)) : EReal) = ((Real.log (1 + Real.exp (-|z|)) : ℝ) : EReal) := by
    show (if (1 + Real.exp (-|z|)) ≤ 0 then _ else _) = _
    exact if_neg (by have := Real.exp_pos (-|z|); linarith)
  rw [habs, ← EReal.coe_neg]
  have h0 : ((0 : ℝ) : EReal) = 0 := rfl
  show max (z : EReal) 0 + Ideal.log (((1 : ℝ) : EReal) + ((Real.exp (-|z|) : ℝ) : EReal)) = _
  rw [← h0, ← EReal.coe_add, hlog, ← coe_max, ← EReal.coe_add]
  rfl

/-- Positions compared as words. -/
theorem slt_word : ∀ (a b : ℕ), a < 2048 → b < 2048 → (IntOp.cmpi .slt (BitVec.ofNat 32 a) (BitVec.ofNat 32 b) = if a < b then 1#1 else 0#1) := by
  intro a b ha hb
  have h : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, h]
  by_cases hab : a < b <;> simp [hab]

theorem kept_tens (x : ℕ → ℕ → ℕ → ℕ → ℝ) : kept (tens x) = tens (fun b h t s => if s < t then x b h t s else 0) := by
  funext i
  idx_vars i
  pointwise [kept, before, zeros, tens]
  rw [slt_word _ _ i3.isLt i2.isLt]
  by_cases hst : i3.val < i2.val
  · simp only [if_pos hst]; rfl
  · simp only [if_neg hst]; rfl
theorem soft_tens (x : ℕ → ℕ → ℕ → ℕ → ℝ) : soft (tens x) = tens (fun b h t s => softplus (x b h t s)) := by
  funext i
  idx_vars i
  pointwise [soft, zeros, tens]
  rw [if_neg (by simp)]
  exact sp_coe _
theorem neg_tens (x : ℕ → ℕ → ℕ → ℕ → ℝ) : Host.negf (tens x) = tens (fun b h t s => -x b h t s) := by
  funext i
  pointwise [tens]
  exact (EReal.coe_neg _).symm
theorem rate_tens (x y : ℕ → ℕ → ℕ → ℕ → ℝ) : rate (tens x) (tens y) = tens (fun b h t s => Real.exp (x b h t s - y b h t s)) := by
  funext i
  idx_vars i
  pointwise [rate, zeros, infs, tens]
  rw [infinity, if_neg (EReal.coe_ne_top _), if_neg (EReal.coe_ne_top _), ← EReal.coe_sub]
  rfl
theorem add_tens (x y : ℕ → ℕ → ℕ → ℕ → ℝ) : addf (tens x) (tens y) = tens (fun b h t s => x b h t s + y b h t s) := by
  funext i
  pointwise [tens]
  exact (EReal.coe_add _ _).symm
theorem mul_tens (x y : ℕ → ℕ → ℕ → ℕ → ℝ) : mulf (tens x) (tens y) = tens (fun b h t s => x b h t s * y b h t s) := by
  funext i
  pointwise [tens]
  exact (EReal.coe_mul _ _).symm
theorem exp_tens (x : ℕ → ℕ → ℕ → ℕ → ℝ) : Host.exp (tens x) = tens (fun b h t s => Real.exp (x b h t s)) := by
  funext i
  pointwise [tens]
  rfl
theorem rows_tens (q k : ℕ → ℕ → ℕ → ℕ → ℝ) : rows (hten q) (hten k) = tens (fun b h t s => ∑ d : Fin 64, q b h t d * k b h s d) := by
  funext i
  idx_vars i
  pointwise [rows, hten, tens]
  rw [coe_sum]
  exact Finset.sum_congr rfl fun _ _ => (EReal.coe_mul _ _).symm
theorem dqH_tens (z k : ℕ → ℕ → ℕ → ℕ → ℝ) : dqH (tens z) (hten k) = hten (fun b h t d => (∑ s : Fin 2048, z b h t s * k b h s d) * (1 / 8)) := by
  funext i
  idx_vars i
  pointwise [dqH, hten, tens]
  rw [eighth, EReal.coe_mul, coe_sum]
  simp only [EReal.coe_mul]
theorem dkH_tens (z q : ℕ → ℕ → ℕ → ℕ → ℝ) : dkH (tens z) (hten q) = hten (fun b h s d => ∑ t : Fin 2048, z b h t s * q b h t d) := by
  funext i
  idx_vars i
  pointwise [dkH, hten, tens]
  rw [coe_sum]
  exact Finset.sum_congr rfl fun _ _ => (EReal.coe_mul _ _).symm
theorem dvH_tens (a d : ℕ → ℕ → ℕ → ℕ → ℝ) : dvH (tens a) (hten d) = hten (fun b h s l => ∑ t : Fin 2048, d b h t l * a b h t s) := by
  funext i
  idx_vars i
  pointwise [dvH, hten, tens]
  rw [coe_sum]
  exact Finset.sum_congr rfl fun _ _ => (EReal.coe_mul _ _).symm

/-- The heads of an argument array that holds these real numbers. -/
theorem qH_is (x : FVec Ideal S4096x10368 .f32) (P : ℕ → ℕ → ℝ) (H : ∀ (r : Fin 4096) (k : Fin 10368), 4096 ≤ k.val → k.val < 7168 → x (ix2 r k) = ((P r.val k.val : ℝ) : EReal)) :
    qH x = hten (fun b h t d => P (b * 2048 + t) (4096 + (h * 64 + d)) * (1 / 8)) := by
  funext i
  idx_vars i
  pointwise [qH, hten]
  rw [H _ _ (by show 4096 ≤ 4096 + _; omega) (by show 4096 + _ < 7168; omega), eighth]
  exact (EReal.coe_mul _ _).symm
theorem kH_is (x : FVec Ideal S4096x10368 .f32) (P : ℕ → ℕ → ℝ) (H : ∀ (r : Fin 4096) (k : Fin 10368), 4096 ≤ k.val → k.val < 7168 → x (ix2 r k) = ((P r.val k.val : ℝ) : EReal)) :
    kH x = hten (fun b h t d => P (b * 2048 + t) (5120 + (h * 64 + d))) := by
  funext i
  idx_vars i
  pointwise [kH, hten]
  exact H _ _ (by show 4096 ≤ 5120 + _; omega) (by show 5120 + _ < 7168; omega)
theorem vH_is (x : FVec Ideal S4096x10368 .f32) (P : ℕ → ℕ → ℝ) (H : ∀ (r : Fin 4096) (k : Fin 10368), 4096 ≤ k.val → k.val < 7168 → x (ix2 r k) = ((P r.val k.val : ℝ) : EReal)) :
    vH x = hten (fun b h t d => P (b * 2048 + t) (6144 + (h * 64 + d))) := by
  funext i
  idx_vars i
  pointwise [vH, hten]
  exact H _ _ (by show 4096 ≤ 6144 + _; omega) (by show 6144 + _ < 7168; omega)
theorem dH_is (x : FVec Ideal S4096x1024 .f32) (G : ℕ → ℕ → ℝ) (H : ∀ (r : Fin 4096) (k : Fin 1024), x (ix2 r k) = ((G r.val k.val : ℝ) : EReal)) :
    dH x = hten (fun b h t d => G (b * 2048 + t) (h * 64 + d)) := by
  funext i
  idx_vars i
  pointwise [dH, hten]
  exact H _ _
theorem flat_is (x : ℕ → ℕ → ℕ → ℕ → ℝ) (y : S4096x1024.Idx) : flat (hten x) y = ((x ((y 0).val / 2048) ((y 1).val / 64) ((y 0).val % 2048) ((y 1).val % 64) : ℝ) : EReal) := by
  idx_vars y
  pointwise [flat, hten]

end Cert.ReferenceIdeal.Hand

end
-- ==== Proof.Rows.lean ====
/- One query's row of the reference, as real numbers, and the kernel's row equal to it. -/
module
public import proofs.«01_k».proof.Proof.Right
public import proofs.«01_k».proof.Proof.Weigh

@[expose] public section

set_option maxRecDepth 16384

noncomputable section

namespace Cert.KernelIdeal.Hand

open Cert.ReferenceIdeal.Hand (softplus)

/-- A row's weights before the mask, their gradient times them, and the scores' gradient. -/
def rowS (z : ℕ → ℝ) (t s : ℕ) : ℝ := Real.exp (z s + ∑ s' ∈ Finset.Ico s 2048, if s' < t then -softplus (- -z s') else 0)
def rowA (z : ℕ → ℝ) (t s : ℕ) : ℝ := if s < t then rowS z t s else 0
def rowG (z w : ℕ → ℝ) (t s : ℕ) : ℝ := (if s < t then w s else 0) * rowS z t s
def rowZ (z w : ℕ → ℝ) (t s : ℕ) : ℝ :=
  rowG z w t s + -(-(-(if s < t then ∑ s' ∈ Finset.range (s + 1), rowG z w t s' else 0) * Real.exp (- -z s - softplus (- -z s))))

theorem exp_softplus (z : ℝ) : Real.exp (softplus z) = 1 + Real.exp z := by
  have hp := Real.exp_pos (-|z|)
  rw [softplus, Real.exp_add, Real.exp_log (by linarith)]
  rcases le_total z 0 with h | h
  · rw [max_eq_right h, abs_of_nonpos h, neg_neg, Real.exp_zero, one_mul]
  · rw [max_eq_left h, abs_of_nonneg h, mul_add, mul_one, ← Real.exp_add, add_neg_cancel, Real.exp_zero, add_comm]

theorem lmR_eq (z : ℝ) : lmR z = -softplus z := by
  simp only [lmR, softplus, zero_sub]

/-- The derivative is what the weight leaves. -/
theorem rate_eq (z : ℝ) : Real.exp (z - softplus z) = 1 - Real.exp (lmR z) := by
  have h := Real.exp_pos z
  rw [lmR_eq, Real.exp_sub, Real.exp_neg, exp_softplus]
  field_simp
  ring_nf

/-- Past the query the row's gradient is zero. -/
theorem rowA_past (z : ℕ → ℝ) (t s : ℕ) (h : t ≤ s) : rowA z t s = 0 := if_neg (by omega)
theorem rowZ_past (z w : ℕ → ℝ) (t s : ℕ) (h : t ≤ s) : rowZ z w t s = 0 := by
  rw [rowZ, rowG, if_neg (by omega), if_neg (by omega)]; ring

section
variable {Q K V D : ℕ → ℕ → ℝ} {t0 p : ℕ} {z w : ℕ → ℝ} (ht : t0 + 512 ≤ 2048) (hp : p < 512) (hz : ∀ s, Zs Q K p s = z s) (hw : ∀ s, ∑ l : Fin 128, D p l * V s l = w s)
include ht hp hz

theorem Ts_row (s : ℕ) (hs : s < t0 + p) : Ts Q K t0 p s = ∑ s' ∈ Finset.Ico s 2048, if s' < t0 + p then -softplus (- -z s') else 0 := by
  rw [← Finset.sum_Ico_consecutive _ (show s ≤ t0 + 512 by omega) ht]
  rw [Finset.sum_eq_zero (s := Finset.Ico (t0 + 512) 2048) (fun s' hs' => by rw [Finset.mem_Ico] at hs'; exact if_neg (by omega)), add_zero]
  refine Finset.sum_congr rfl fun s' _ => ?_
  rw [Ls, hz, lmR_eq, neg_neg]

theorem As_row (s : ℕ) : As Q K t0 p s = rowA z (t0 + p) s := by
  unfold As rowA
  by_cases hs : s < t0 + p
  · rw [if_pos hs, if_pos hs, Ts_row ht hp hz s hs, hz]; rfl
  · rw [if_neg hs, if_neg hs]

include hw
theorem Gs_row (s : ℕ) : Gs Q K V D t0 p s = rowG z w (t0 + p) s := by
  rw [Gs, As_row ht hp hz, hw, rowA, rowG]
  by_cases hs : s < t0 + p
  · rw [if_pos hs, if_pos hs, mul_comm]
  · rw [if_neg hs, if_neg hs, zero_mul, zero_mul]

theorem DZ_row (G W : ℕ → ℕ → ℝ) (hG : ∀ s, G p s = Gs Q K V D t0 p s) (hW : ∀ s, W p s = Ws Q K t0 p s) (s : ℕ) : DZ G W t0 p s = rowZ z w (t0 + p) s := by
  by_cases hs : s < t0 + p
  · rw [DZ, if_pos hs, hG, Gs_row ht hp hz hw, hW, Ws, Ls, if_pos hs, hz, rowZ, if_pos hs, neg_neg, rate_eq, RG]
    rw [Finset.sum_congr rfl (fun s' _ => (hG s').trans (Gs_row ht hp hz hw s'))]
    ring
  · rw [DZ, if_neg hs, rowZ_past _ _ _ _ (by omega)]
end

/-- A sum over a pair of heads' lanes, of one head's. -/
theorem sum_lanes (e : ℕ) (he : e < 2) (f g : ℕ → ℕ → ℝ) (p s : ℕ) : ∑ l : Fin 128, lanes e f p l * g s l = ∑ d : Fin 64, f p (e * 64 + d) * g s (e * 64 + d) := by
  rw [Fin.sum_univ_eq_sum_range (fun l => lanes e f p l * g s l) 128, Fin.sum_univ_eq_sum_range (fun d => f p (e * 64 + d) * g s (e * 64 + d)) 64]
  rw [show 128 = 64 + 64 from rfl, Finset.sum_range_add]
  have h : e = 0 ∨ e = 1 := by omega
  rcases h with rfl | rfl
  · rw [Finset.sum_eq_zero (s := Finset.range 64) (f := fun x => lanes 0 f p (64 + x) * g s (64 + x)) (fun l hl => by
      rw [Finset.mem_range] at hl; rw [lanes, if_neg (by omega), zero_mul]), add_zero]
    refine Finset.sum_congr rfl fun l hl => ?_
    rw [Finset.mem_range] at hl
    rw [lanes, if_pos (by omega), Nat.zero_mul, Nat.zero_add]
  · rw [Finset.sum_eq_zero (s := Finset.range 64) (f := fun x => lanes 1 f p x * g s x) (fun l hl => by
      rw [Finset.mem_range] at hl; rw [lanes, if_neg (by omega), zero_mul]), zero_add]
    refine Finset.sum_congr rfl fun l hl => ?_
    rw [Finset.mem_range] at hl
    rw [lanes, if_pos (by omega), Nat.one_mul]

/-- Four blocks of rows are all rows. -/
theorem sum_blocks (f : ℕ → ℝ) : ∑ j ∈ Finset.range 4, ∑ p ∈ Finset.range 512, f (512 * j + p) = ∑ t ∈ Finset.range 2048, f t := by
  rw [show 2048 = 512 + 512 + 512 + 512 from rfl, Finset.sum_range_add, Finset.sum_range_add, Finset.sum_range_add]
  simp only [Finset.sum_range_succ, Finset.sum_range_zero, zero_add, Nat.mul_zero, Nat.zero_add]

end Cert.KernelIdeal.Hand

end
-- ==== Proof.Equal.lean ====
/- The kernel's three results, as real numbers, are the reference's. -/
module
public import proofs.«01_k».proof.Proof.Rows
public import proofs.«01_k».proof.Proof.Named

@[expose] public section

set_option maxRecDepth 16384

noncomputable section

namespace Cert.KernelIdeal.Hand

/-- The reference's heads, their scores and the weights' gradients. -/
def qR (P : ℕ → ℕ → ℝ) (b h t d : ℕ) : ℝ := P (b * 2048 + t) (4096 + (h * 64 + d)) * (1 / 8)
def kR (P : ℕ → ℕ → ℝ) (b h t d : ℕ) : ℝ := P (b * 2048 + t) (5120 + (h * 64 + d))
def vR (P : ℕ → ℕ → ℝ) (b h t d : ℕ) : ℝ := P (b * 2048 + t) (6144 + (h * 64 + d))
def dR (G : ℕ → ℕ → ℝ) (b h t d : ℕ) : ℝ := G (b * 2048 + t) (h * 64 + d)
def zR (P : ℕ → ℕ → ℝ) (b h t s : ℕ) : ℝ := ∑ d : Fin 64, qR P b h t d * kR P b h s d
def wR (P G : ℕ → ℕ → ℝ) (b h t s : ℕ) : ℝ := ∑ d : Fin 64, dR G b h t d * vR P b h s d
/-- The three results, head by head. -/
def dqR (P G : ℕ → ℕ → ℝ) (b h t d : ℕ) : ℝ := (∑ s : Fin 2048, rowZ (zR P b h t) (wR P G b h t) t s * kR P b h s d) * (1 / 8)
def dkR (P G : ℕ → ℕ → ℝ) (b h s d : ℕ) : ℝ := ∑ t : Fin 2048, rowZ (zR P b h t) (wR P G b h t) t s * qR P b h t d
def dvR (P G : ℕ → ℕ → ℝ) (b h s d : ℕ) : ℝ := ∑ t : Fin 2048, dR G b h t d * rowA (zR P b h t) t s

section
variable (P G : ℕ → ℕ → ℝ) (b h i : ℕ)

theorem eight_at (e p d : ℕ) : eight (rQ P b h i) p (e * 64 + d) = qR P b (2 * h + e) (512 * i + p) d := by
  rw [eight, rQ, qR, show b * 2048 + i * 512 + p = b * 2048 + (512 * i + p) by omega, show 4096 + h * 128 + (e * 64 + d) = 4096 + ((2 * h + e) * 64 + d) by omega]
theorem k_at (e s d : ℕ) : rK P b h s (e * 64 + d) = kR P b (2 * h + e) s d := by
  rw [rK, kR, show 5120 + h * 128 + (e * 64 + d) = 5120 + ((2 * h + e) * 64 + d) by omega]
theorem v_at (e s d : ℕ) : rV P b h s (e * 64 + d) = vR P b (2 * h + e) s d := by
  rw [rV, vR, show 6144 + h * 128 + (e * 64 + d) = 6144 + ((2 * h + e) * 64 + d) by omega]
theorem d_at (e p d : ℕ) : rD G b h i p (e * 64 + d) = dR G b (2 * h + e) (512 * i + p) d := by
  rw [rD, dR, show b * 2048 + i * 512 + p = b * 2048 + (512 * i + p) by omega, show h * 128 + (e * 64 + d) = (2 * h + e) * 64 + d by omega]

theorem z_at (e : ℕ) (he : e < 2) (p s : ℕ) : Zs (lanes e (eight (rQ P b h i))) (rK P b h) p s = zR P b (2 * h + e) (512 * i + p) s := by
  rw [Zs, sum_lanes e he, zR]
  exact Finset.sum_congr rfl fun d _ => by rw [eight_at, k_at]
theorem w_at (e : ℕ) (he : e < 2) (p s : ℕ) : ∑ l : Fin 128, lanes e (rD G b h i) p l * rV P b h s l = wR P G b (2 * h + e) (512 * i + p) s := by
  rw [sum_lanes e he, wR]
  exact Finset.sum_congr rfl fun d _ => by rw [d_at, v_at]

variable (hi : i < 4)
include hi

theorem A_at (e : ℕ) (he : e < 2) (p s : ℕ) (hp : p < 512) :
    As (lanes e (eight (rQ P b h i))) (rK P b h) (512 * i) p s = rowA (zR P b (2 * h + e) (512 * i + p)) (512 * i + p) s :=
  As_row (by omega) hp (z_at P b h i e he p) s

theorem Z_at (e : ℕ) (he : e < 2) (p s : ℕ) (hp : p < 512) :
    Zh (lanes 0 (eight (rQ P b h i))) (lanes 1 (eight (rQ P b h i))) (lanes 0 (rD G b h i)) (lanes 1 (rD G b h i)) (rK P b h) (rV P b h) (512 * i) e p s
      = rowZ (zR P b (2 * h + e) (512 * i + p)) (wR P G b (2 * h + e) (512 * i + p)) (512 * i + p) s := by
  have h2 : e = 0 ∨ e = 1 := by omega
  rcases h2 with rfl | rfl
  · exact DZ_row (by omega) hp (z_at P b h i 0 he p) (w_at P G b h i 0 he p) _ _ (fun _ => rfl) (fun _ => rfl) s
  · exact DZ_row (by omega) hp (z_at P b h i 1 he p) (w_at P G b h i 1 he p) _ _ (fun _ => rfl) (fun _ => rfl) s

/-- Of the two heads' parts at a lane, that lane's head's. -/
theorem pick (e l : ℕ) (he : e < 2) (hl : l / 64 = e) (x : ℕ → ℝ) (f : ℕ → ℕ → ℝ) (p : ℕ) : x 0 * lanes 0 f p l + x 1 * lanes 1 f p l = x e * f p l := by
  have h2 : e = 0 ∨ e = 1 := by omega
  rcases h2 with rfl | rfl
  · rw [lanes, lanes, if_pos hl, if_neg (by omega), mul_zero, add_zero]
  · rw [lanes, lanes, if_neg (by omega), if_pos hl, mul_zero, zero_add]

theorem dq_equal (p l : ℕ) (hp : p < 512) (hl : l < 128) : dqS P G b h i p l = dqR P G b (2 * h + l / 64) (512 * i + p) (l % 64) := by
  have he : l / 64 < 2 := by omega
  have hl' : l = l / 64 * 64 + l % 64 := by omega
  rw [dqS, DQp, eight, dqR, Qa]
  refine congrArg (· * (1 / 8 : ℝ)) ?_
  rw [Fin.sum_univ_eq_sum_range (fun s => rowZ (zR P b (2 * h + l / 64) (512 * i + p)) (wR P G b (2 * h + l / 64) (512 * i + p)) (512 * i + p) s * kR P b (2 * h + l / 64) s (l % 64)) 2048]
  rw [← Finset.sum_range_add_sum_Ico _ (show 512 * i + 512 ≤ 2048 by omega)]
  rw [Finset.sum_eq_zero (s := Finset.Ico _ _) (fun s hs => by rw [Finset.mem_Ico] at hs; rw [rowZ_past _ _ _ _ (by omega), zero_mul]), add_zero]
  refine Finset.sum_congr rfl fun s _ => ?_
  refine (pick i hi (l / 64) l he rfl (fun e => Zh _ _ _ _ _ _ _ e p s) (rK P b h) s).trans ?_
  rw [Z_at P G b h i hi _ he p s hp, ← k_at, ← hl']

theorem dk_part (s l : ℕ) (hl : l < 128) : dkS P G b h i s l = ∑ p ∈ Finset.range 512, rowZ (zR P b (2 * h + l / 64) (512 * i + p)) (wR P G b (2 * h + l / 64) (512 * i + p)) (512 * i + p) s * qR P b (2 * h + l / 64) (512 * i + p) (l % 64) := by
  have he : l / 64 < 2 := by omega
  have hl' : l = l / 64 * 64 + l % 64 := by omega
  rw [dkS, DKp, Ck, ← Finset.sum_add_distrib]
  refine Finset.sum_congr rfl fun p hp => ?_
  rw [Finset.mem_range] at hp
  refine (pick i hi (l / 64) l he rfl (fun e => Zh _ _ _ _ _ _ _ e p s) (eight (rQ P b h i)) p).trans ?_
  rw [Z_at P G b h i hi _ he p s hp, ← eight_at, ← hl']

theorem dv_part (s l : ℕ) (hl : l < 128) : dvS P G b h i s l = ∑ p ∈ Finset.range 512, dR G b (2 * h + l / 64) (512 * i + p) (l % 64) * rowA (zR P b (2 * h + l / 64) (512 * i + p)) (512 * i + p) s := by
  have he : l / 64 < 2 := by omega
  have hl' : l = l / 64 * 64 + l % 64 := by omega
  rw [dvS, DVp, Cv, ← Finset.sum_add_distrib]
  refine Finset.sum_congr rfl fun p hp => ?_
  rw [Finset.mem_range] at hp
  refine (pick i hi (l / 64) l he rfl (fun e => As (lanes e (eight (rQ P b h i))) (rK P b h) (512 * i) p s) (rD G b h i) p).trans ?_
  rw [A_at P b h i hi _ he p s hp, mul_comm, ← d_at, ← hl']
end

variable (P G : ℕ → ℕ → ℝ) (b h : ℕ)
theorem dk_equal (s l : ℕ) (hl : l < 128) : ∑ j ∈ Finset.range 4, dkS P G b h j s l = dkR P G b (2 * h + l / 64) s (l % 64) := by
  rw [dkR, Fin.sum_univ_eq_sum_range (fun t => rowZ (zR P b (2 * h + l / 64) t) (wR P G b (2 * h + l / 64) t) t s * qR P b (2 * h + l / 64) t (l % 64)) 2048, ← sum_blocks]
  exact Finset.sum_congr rfl fun j hj => dk_part P G b h j (Finset.mem_range.mp hj) s l hl
theorem dv_equal (s l : ℕ) (hl : l < 128) : ∑ j ∈ Finset.range 4, dvS P G b h j s l = dvR P G b (2 * h + l / 64) s (l % 64) := by
  rw [dvR, Fin.sum_univ_eq_sum_range (fun t => dR G b (2 * h + l / 64) t (l % 64) * rowA (zR P b (2 * h + l / 64) t) t s) 2048, ← sum_blocks]
  exact Finset.sum_congr rfl fun j hj => dv_part P G b h j (Finset.mem_range.mp hj) s l hl

end Cert.KernelIdeal.Hand

end
-- ==== Proof.Agree.lean ====
/- The reference's three results are the kernel's three arrays. -/
module
public import proofs.«01_k».proof.Proof.Final
public import proofs.«01_k».proof.Proof.Equal

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.KernelIdeal.Hand (rowS rowA rowG rowZ qR kR vR dR zR wR dqR dkR dvR arr4 arr5 arr6 dq_equal dk_equal dv_equal)

theorem stick_tens (z : ℕ → ℕ → ℕ → ℕ → ℝ) : stick (tens z) = tens (fun b h t s => rowS (z b h t) t s) := by
  rw [stick, neg_tens, neg_tens, soft_tens, neg_tens, kept_tens, fromEnd_tens, add_tens, exp_tens]
  rfl
theorem pull_tens (z w : ℕ → ℕ → ℕ → ℕ → ℝ) : pull (tens z) (tens w) = tens (fun b h t s => rowG (z b h t) (w b h t) t s) := by
  rw [pull, stick_tens, kept_tens, mul_tens]
  rfl
theorem push_tens (z w : ℕ → ℕ → ℕ → ℕ → ℝ) : push (tens z) (pull (tens z) (tens w)) = tens (fun b h t s => rowZ (z b h t) (w b h t) t s) := by
  rw [pull_tens, push, fromStart_tens, kept_tens, neg_tens, neg_tens, neg_tens, soft_tens, rate_tens, mul_tens, neg_tens, neg_tens, add_tens]
  rfl

section
variable {x : FVec Ideal S4096x10368 .f32} {y : FVec Ideal S4096x1024 .f32} {P G : ℕ → ℕ → ℝ}
  (HP : ∀ (r : Fin 4096) (k : Fin 10368), 4096 ≤ k.val → k.val < 7168 → x (ix2 r k) = ((P r.val k.val : ℝ) : EReal))
  (HG : ∀ (r : Fin 4096) (k : Fin 1024), y (ix2 r k) = ((G r.val k.val : ℝ) : EReal))
include HP

theorem rows_is : rows (qH x) (kH x) = tens (zR P) := by
  rw [qH_is x P HP, kH_is x P HP, rows_tens]
  rfl
include HG
theorem dz_is : dz (qH x) (kH x) (vH x) (dH y) = tens (fun b h t s => rowZ (zR P b h t) (wR P G b h t) t s) := by
  have hw : rows (dH y) (vH x) = tens (wR P G) := by
    rw [dH_is y G HG, vH_is x P HP, rows_tens]
    rfl
  rw [dz, rows_is HP, hw, push_tens]

theorem dq_is : flat (dqH (dz (qH x) (kH x) (vH x) (dH y)) (kH x)) = arr4 P G := by
  rw [dz_is HP HG, kH_is x P HP, dqH_tens]
  funext i
  rw [flat_is]
  idx_vars i
  simp only [arr4, ix2_0, ix2_1]
  refine congrArg Real.toEReal ?_
  rw [dq_equal P G _ _ _ (by omega) _ _ (by omega) (by omega)]
  rw [show 2 * (i1.val / 128) + i1.val % 128 / 64 = i1.val / 64 by omega, show 512 * (i0.val % 2048 / 512) + i0.val % 512 = i0.val % 2048 by omega, show i1.val % 128 % 64 = i1.val % 64 by omega]
  rfl
theorem dk_is : flat (dkH (dz (qH x) (kH x) (vH x) (dH y)) (qH x)) = arr5 P G := by
  rw [dz_is HP HG, qH_is x P HP, dkH_tens]
  funext i
  rw [flat_is]
  idx_vars i
  simp only [arr5, ix2_0, ix2_1]
  refine congrArg Real.toEReal ?_
  rw [dk_equal P G _ _ _ _ (by omega)]
  rw [show 2 * (i1.val / 128) + i1.val % 128 / 64 = i1.val / 64 by omega, show i1.val % 128 % 64 = i1.val % 64 by omega]
  rfl
theorem dv_is : flat (dvH (kept (stick (rows (qH x) (kH x)))) (dH y)) = arr6 P G := by
  rw [rows_is HP, stick_tens, kept_tens, dH_is y G HG, dvH_tens]
  funext i
  rw [flat_is]
  idx_vars i
  simp only [arr6, ix2_0, ix2_1]
  refine congrArg Real.toEReal ?_
  rw [dv_equal P G _ _ _ _ (by omega)]
  rw [show 2 * (i1.val / 128) + i1.val % 128 / 64 = i1.val / 64 by omega, show i1.val % 128 % 64 = i1.val % 64 by omega]
  rfl
end

end Cert.ReferenceIdeal.Hand

end
-- ==== Proof.InputProducts.lean ====
module

public import proofs.«01_k».proof.Proof.Gen.DH1Ideal.Value
public import proofs.«01_k».proof.Proof.Gen.DH1RefIdeal.Read
public import proofs.«01_k».proof.Proof.Gen.DH3Ideal.Value
public import proofs.«01_k».proof.Proof.Gen.DH3RefIdeal.Read
public import proofs.«01_k».proof.Proof.Gen.DActIdeal.Value
public import proofs.«01_k».proof.Proof.Gen.DActRefIdeal.Read
public import proofs.«01_k».proof.Proof.Gen.DOxaIdeal.Value
public import proofs.«01_k».proof.Proof.Gen.DOxaRefIdeal.Read
public import proofs.«01_k».proof.Proof.Gen.DH2Ideal.Value
public import proofs.«01_k».proof.Proof.Gen.DH2RefIdeal.Read
public import proofs.«01_k».proof.Proof.Gen.DMemIdeal.Value
public import proofs.«01_k».proof.Proof.Gen.DMemRefIdeal.Read
public import proofs.«01_k».proof.Proof.Gen.DOssmIdeal.Value
public import proofs.«01_k».proof.Proof.Gen.DOssmRefIdeal.Read
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The backward products by the transposed weight: each kernel's tiles, summed over its grid, are the reference's product. `idx` says which blocks a result's
    block is computed of, `tile` what one point's product is, `ref` what the reference's is, `sum` that the scratch is
    the sum over a run of points, `final` that the array is the reference's, `equal` the claim. -/

@[expose] public section

noncomputable section

open Idealize.ShloMosaic Idealize.ShloMosaic.TcCoe Idealize.SL.Sem

/-! ## The gradient of the projection's input. -/

namespace Cert.DH1Ideal.Hand
open Cert.DH1Ideal Cert.DH1Ideal.Gen

variable (m : (ℓ : Loc nD τ sig) → Buf (Elt Ideal) ℓ)

theorem idx : ∀ (t : Fin cfg0.N) (s : Fin 9) (h : 9 * (t.val / 9) + s.val < cfg0.N), win0_0.index ⟨_, h⟩ = ![win0_2.index t 0, s.val] ∧ win0_1.index ⟨_, h⟩ = ![win0_2.index t 1, s.val] :=
  (by decide +kernel : ∀ (t : Fin grid0.N) (s : Fin 9) (h : 9 * (t.val / 9) + s.val < grid0.N), _)

theorem tile (x0 : Vec Ideal S1024x1152 .bf16) (x1 : Vec Ideal S1024x1152 .bf16) (y : S1024x1024.Idx) :
    k0_pay2 x0 x1 y = ∑ k : Fin 1152, x0 (ix2 (y 0) k) * x1 (ix2 (y 1) k) := by
  idx_vars y; pointwise [k0_pay2, k0_pay1]

theorem ref (x0 : Vec Ideal S4096x10368 .bf16) (x1 : Vec Ideal S1024x10368 .bf16) (y : S4096x1024.Idx) :
    Cert.DH1RefIdeal.Read.val_main_v4 (F := Ideal) x0 x1 y = ∑ k : Fin 10368, x0 (ix2 (y 0) k) * x1 (ix2 (y 1) k) :=
  (Cert.DH1RefIdeal.Read.val_main_v4_apply _ _ _).trans (Finset.sum_congr rfl fun k _ => by congr 1 <;> blk_ext [])

theorem add (x0 : Vec Ideal S1024x1152 .bf16) (x1 : Vec Ideal S1024x1152 .bf16) (x2 : Vec Ideal S1024x1024 .f32) (y : S1024x1024.Idx) :
    k0_pay3 x0 x1 x2 y = x2 y + k0_pay2 x0 x1 y := by pointwise [k0_pay2, k0_pay3]

theorem out (c : Dev nD) (t : Fin cfg0.N) (h : t.val % 9 = 8) : (outsAt0 m c t.val t.isLt).1 = (outsAt0 m c t.val t.isLt).2 := by
  rw [outsAt0_C m c t (by omega) (by omega) h]; frame_out

theorem sum (c : Dev nD) (t : Fin cfg0.N) (h : t.val % 9 = 8) (y : S1024x1024.Idx) : (outsAt0 m c t.val t.isLt).2 y = 0 + ∑ s : Fin 9,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 9 (fun _ => 0) (fun t => k0_pay2 (iblk m c 0 t) (iblk m c 1 t))
    (fun t h y => by rw [outsAt0_A m c t h (by omega) (by omega)]; frame_out; exact (zero_add _).symm)
    (fun t h y => by
      by_cases h' : t.val % 9 = 8
      · rw [outsAt0_C m c t h (by omega) h']; frame_out; rw [add, (Memref.isWhole_whole _).read_unread]
      · rw [outsAt0_B m c t h (by omega) h']; frame_out; rw [add, (Memref.isWhole_whole _).read_unread]) t h y

theorem final (c : Dev nD) : (dats m 0 c).arrAt 2 cfg0.N = Cert.DH1RefIdeal.Read.val_main_v4 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DH1Ideal_DH1RefIdeal (hDH1Ideal := facts) (hDH1RefIdeal := Cert.DH1RefIdeal.Gen.facts) := by
  refine fun m g m' g' hp ha => ⟨fun c => Cert.DH1RefIdeal.Read.val_main_v4 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DH1RefIdeal.defs _ _).mono (fun r h c => ⟨(h c).1.trans ?_, (h c).2⟩) (Cert.DH1RefIdeal.Value.run m' g')⟩
  rw [(ha c).1, (ha c).2]; rfl

end Cert.DH1Ideal.Hand

/-! ## The gradient of the feed-forward's input. -/

namespace Cert.DH3Ideal.Hand
open Cert.DH3Ideal Cert.DH3Ideal.Gen

variable (m : (ℓ : Loc nD τ sig) → Buf (Elt Ideal) ℓ)

theorem idx : ∀ (t : Fin cfg0.N) (s : Fin 4) (h : 4 * (t.val / 4) + s.val < cfg0.N), win0_0.index ⟨_, h⟩ = ![win0_2.index t 0, s.val] ∧ win0_1.index ⟨_, h⟩ = ![win0_2.index t 1, s.val] :=
  (by decide +kernel : ∀ (t : Fin grid0.N) (s : Fin 4) (h : 4 * (t.val / 4) + s.val < grid0.N), _)

theorem tile (x0 : Vec Ideal S1024x1408 .bf16) (x1 : Vec Ideal S1024x1408 .bf16) (y : S1024x1024.Idx) :
    k0_pay2 x0 x1 y = ∑ k : Fin 1408, x0 (ix2 (y 0) k) * x1 (ix2 (y 1) k) := by
  idx_vars y; pointwise [k0_pay2, k0_pay1]

theorem ref (x0 : Vec Ideal S4096x5632 .bf16) (x1 : Vec Ideal S1024x5632 .bf16) (y : S4096x1024.Idx) :
    Cert.DH3RefIdeal.Read.val_main_v4 (F := Ideal) x0 x1 y = ∑ k : Fin 5632, x0 (ix2 (y 0) k) * x1 (ix2 (y 1) k) :=
  (Cert.DH3RefIdeal.Read.val_main_v4_apply _ _ _).trans (Finset.sum_congr rfl fun k _ => by congr 1 <;> blk_ext [])

theorem add (x0 : Vec Ideal S1024x1408 .bf16) (x1 : Vec Ideal S1024x1408 .bf16) (x2 : Vec Ideal S1024x1024 .f32) (y : S1024x1024.Idx) :
    k0_pay3 x0 x1 x2 y = x2 y + k0_pay2 x0 x1 y := by pointwise [k0_pay2, k0_pay3]

theorem out (c : Dev nD) (t : Fin cfg0.N) (h : t.val % 4 = 3) : (outsAt0 m c t.val t.isLt).1 = (outsAt0 m c t.val t.isLt).2 := by
  rw [outsAt0_C m c t (by omega) (by omega) h]; frame_out

theorem sum (c : Dev nD) (t : Fin cfg0.N) (h : t.val % 4 = 3) (y : S1024x1024.Idx) : (outsAt0 m c t.val t.isLt).2 y = 0 + ∑ s : Fin 4,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 4 (fun _ => 0) (fun t => k0_pay2 (iblk m c 0 t) (iblk m c 1 t))
    (fun t h y => by rw [outsAt0_A m c t h (by omega) (by omega)]; frame_out; exact (zero_add _).symm)
    (fun t h y => by
      by_cases h' : t.val % 4 = 3
      · rw [outsAt0_C m c t h (by omega) h']; frame_out; rw [add, (Memref.isWhole_whole _).read_unread]
      · rw [outsAt0_B m c t h (by omega) h']; frame_out; rw [add, (Memref.isWhole_whole _).read_unread]) t h y

theorem final (c : Dev nD) : (dats m 0 c).arrAt 2 cfg0.N = Cert.DH3RefIdeal.Read.val_main_v4 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DH3Ideal_DH3RefIdeal (hDH3Ideal := facts) (hDH3RefIdeal := Cert.DH3RefIdeal.Gen.facts) := by
  refine fun m g m' g' hp ha => ⟨fun c => Cert.DH3RefIdeal.Read.val_main_v4 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DH3RefIdeal.defs _ _).mono (fun r h c => ⟨(h c).1.trans ?_, (h c).2⟩) (Cert.DH3RefIdeal.Value.run m' g')⟩
  rw [(ha c).1, (ha c).2]; rfl

end Cert.DH3Ideal.Hand

/-! ## The gradient of the feed-forward's activation. -/

namespace Cert.DActIdeal.Hand
open Cert.DActIdeal Cert.DActIdeal.Gen

variable (m : (ℓ : Loc nD τ sig) → Buf (Elt Ideal) ℓ)

theorem idx : ∀ t : Fin cfg0.N, win0_0.index t = ![win0_2.index t 0, 0] ∧ win0_1.index t = ![win0_2.index t 1, 0] :=
  (by decide +kernel : ∀ t : Fin grid0.N, _)

theorem tile (x0 : Vec Ideal S1024x1024 .bf16) (x1 : Vec Ideal S1408x1024 .bf16) (y : S1024x1408.Idx) :
    out0_2 x0 x1 y = ∑ k : Fin 1024, x0 (ix2 (y 0) k) * x1 (ix2 (y 1) k) := by
  rw [show out0_2 x0 x1 = k0_pay1 x0 x1 by unfold out0_2; frame_out]; idx_vars y; pointwise [k0_pay1]

theorem ref (x0 : Vec Ideal S4096x1024 .bf16) (x1 : Vec Ideal S2816x1024 .bf16) (y : S4096x2816.Idx) :
    Cert.DActRefIdeal.Read.val_main_v5 (F := Ideal) x0 x1 y = ∑ k : Fin 1024, x0 (ix2 (y 0) k) * x1 (ix2 (y 1) k) :=
  (Cert.DActRefIdeal.Read.val_main_v4_apply _ _ _).trans (Finset.sum_congr rfl fun k _ => by congr 1 <;> blk_ext [])

theorem final (c : Dev nD) : (dats m 0 c).arrAt 2 cfg0.N = Cert.DActRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DActIdeal_DActRefIdeal (hDActIdeal := facts) (hDActRefIdeal := Cert.DActRefIdeal.Gen.facts) := by
  refine fun m g m' g' hp ha => ⟨fun c => Cert.DActRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DActRefIdeal.defs _ _).mono (fun r h c => ⟨(h c).1.trans ?_, (h c).2⟩) (Cert.DActRefIdeal.Value.run m' g')⟩
  rw [(ha c).1, (ha c).2]; rfl

end Cert.DActIdeal.Hand

/-! ## The gradient of the cross attention's output. -/

namespace Cert.DOxaIdeal.Hand
open Cert.DOxaIdeal Cert.DOxaIdeal.Gen

variable (m : (ℓ : Loc nD τ sig) → Buf (Elt Ideal) ℓ)

theorem idx : ∀ t : Fin cfg0.N, win0_0.index t = ![win0_2.index t 0, 0] ∧ win0_1.index t = ![win0_2.index t 1, 0] :=
  (by decide +kernel : ∀ t : Fin grid0.N, _)

theorem tile (x0 : Vec Ideal S1024x1024 .bf16) (x1 : Vec Ideal S1024x1024 .bf16) (y : S1024x1024.Idx) :
    out0_2 x0 x1 y = ∑ k : Fin 1024, x0 (ix2 (y 0) k) * x1 (ix2 (y 1) k) := by
  rw [show out0_2 x0 x1 = k0_pay1 x0 x1 by unfold out0_2; frame_out]; idx_vars y; pointwise [k0_pay1]

theorem ref (x0 : Vec Ideal S4096x1024 .bf16) (x1 : Vec Ideal S1024x1024 .bf16) (y : S4096x1024.Idx) :
    Cert.DOxaRefIdeal.Read.val_main_v5 (F := Ideal) x0 x1 y = ∑ k : Fin 1024, x0 (ix2 (y 0) k) * x1 (ix2 (y 1) k) :=
  (Cert.DOxaRefIdeal.Read.val_main_v4_apply _ _ _).trans (Finset.sum_congr rfl fun k _ => by congr 1 <;> blk_ext [])

theorem final (c : Dev nD) : (dats m 0 c).arrAt 2 cfg0.N = Cert.DOxaRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DOxaIdeal_DOxaRefIdeal (hDOxaIdeal := facts) (hDOxaRefIdeal := Cert.DOxaRefIdeal.Gen.facts) := by
  refine fun m g m' g' hp ha => ⟨fun c => Cert.DOxaRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DOxaRefIdeal.defs _ _).mono (fun r h c => ⟨(h c).1.trans ?_, (h c).2⟩) (Cert.DOxaRefIdeal.Value.run m' g')⟩
  rw [(ha c).1, (ha c).2]; rfl

end Cert.DOxaIdeal.Hand

/-! ## The gradient of the cross attention's input. -/

namespace Cert.DH2Ideal.Hand
open Cert.DH2Ideal Cert.DH2Ideal.Gen

variable (m : (ℓ : Loc nD τ sig) → Buf (Elt Ideal) ℓ)

theorem idx : ∀ t : Fin cfg0.N, win0_0.index t = ![win0_2.index t 0, 0] ∧ win0_1.index t = ![win0_2.index t 1, 0] :=
  (by decide +kernel : ∀ t : Fin grid0.N, _)

theorem tile (x0 : Vec Ideal S1024x1024 .bf16) (x1 : Vec Ideal S1024x1024 .bf16) (y : S1024x1024.Idx) :
    out0_2 x0 x1 y = ∑ k : Fin 1024, x0 (ix2 (y 0) k) * x1 (ix2 (y 1) k) := by
  rw [show out0_2 x0 x1 = k0_pay1 x0 x1 by unfold out0_2; frame_out]; idx_vars y; pointwise [k0_pay1]

theorem ref (x0 : Vec Ideal S4096x1024 .bf16) (x1 : Vec Ideal S1024x1024 .bf16) (y : S4096x1024.Idx) :
    Cert.DH2RefIdeal.Read.val_main_v4 (F := Ideal) x0 x1 y = ∑ k : Fin 1024, x0 (ix2 (y 0) k) * x1 (ix2 (y 1) k) :=
  (Cert.DH2RefIdeal.Read.val_main_v4_apply _ _ _).trans (Finset.sum_congr rfl fun k _ => by congr 1 <;> blk_ext [])

theorem final (c : Dev nD) : (dats m 0 c).arrAt 2 cfg0.N = Cert.DH2RefIdeal.Read.val_main_v4 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DH2Ideal_DH2RefIdeal (hDH2Ideal := facts) (hDH2RefIdeal := Cert.DH2RefIdeal.Gen.facts) := by
  refine fun m g m' g' hp ha => ⟨fun c => Cert.DH2RefIdeal.Read.val_main_v4 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DH2RefIdeal.defs _ _).mono (fun r h c => ⟨(h c).1.trans ?_, (h c).2⟩) (Cert.DH2RefIdeal.Value.run m' g')⟩
  rw [(ha c).1, (ha c).2]; rfl

end Cert.DH2Ideal.Hand

/-! ## The gradient of the normalised memory. -/

namespace Cert.DMemIdeal.Hand
open Cert.DMemIdeal Cert.DMemIdeal.Gen

variable (m : (ℓ : Loc nD τ sig) → Buf (Elt Ideal) ℓ)

theorem idx : ∀ t : Fin cfg0.N, win0_0.index t = ![win0_2.index t 0, 0] ∧ win0_1.index t = ![win0_2.index t 1, 0] :=
  (by decide +kernel : ∀ t : Fin grid0.N, _)

theorem tile (x0 : Vec Ideal S512x2048 .bf16) (x1 : Vec Ideal S1024x2048 .bf16) (y : S512x1024.Idx) :
    out0_2 x0 x1 y = ∑ k : Fin 2048, x0 (ix2 (y 0) k) * x1 (ix2 (y 1) k) := by
  rw [show out0_2 x0 x1 = k0_pay1 x0 x1 by unfold out0_2; frame_out]; idx_vars y; pointwise [k0_pay1]

theorem ref (x0 : Vec Ideal S512x2048 .bf16) (x1 : Vec Ideal S1024x2048 .bf16) (y : S512x1024.Idx) :
    Cert.DMemRefIdeal.Read.val_main_v4 (F := Ideal) x0 x1 y = ∑ k : Fin 2048, x0 (ix2 (y 0) k) * x1 (ix2 (y 1) k) :=
  (Cert.DMemRefIdeal.Read.val_main_v4_apply _ _ _).trans (Finset.sum_congr rfl fun k _ => by congr 1 <;> blk_ext [])

theorem final (c : Dev nD) : (dats m 0 c).arrAt 2 cfg0.N = Cert.DMemRefIdeal.Read.val_main_v4 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DMemIdeal_DMemRefIdeal (hDMemIdeal := facts) (hDMemRefIdeal := Cert.DMemRefIdeal.Gen.facts) := by
  refine fun m g m' g' hp ha => ⟨fun c => Cert.DMemRefIdeal.Read.val_main_v4 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DMemRefIdeal.defs _ _).mono (fun r h c => ⟨(h c).1.trans ?_, (h c).2⟩) (Cert.DMemRefIdeal.Value.run m' g')⟩
  rw [(ha c).1, (ha c).2]; rfl

end Cert.DMemIdeal.Hand

/-! ## The gradient of the state-space branch's output. -/

namespace Cert.DOssmIdeal.Hand
open Cert.DOssmIdeal Cert.DOssmIdeal.Gen

variable (m : (ℓ : Loc nD τ sig) → Buf (Elt Ideal) ℓ)

theorem idx : ∀ t : Fin cfg0.N, win0_0.index t = ![win0_2.index t 0, 0] ∧ win0_1.index t = ![win0_2.index t 1, 0] :=
  (by decide +kernel : ∀ t : Fin grid0.N, _)

theorem tile (x0 : Vec Ideal S1024x1024 .bf16) (x1 : Vec Ideal S1024x1024 .bf16) (y : S1024x1024.Idx) :
    out0_2 x0 x1 y = ∑ k : Fin 1024, x0 (ix2 (y 0) k) * x1 (ix2 (y 1) k) := by
  rw [show out0_2 x0 x1 = k0_pay1 x0 x1 by unfold out0_2; frame_out]; idx_vars y; pointwise [k0_pay1]

theorem ref (x0 : Vec Ideal S4096x1024 .bf16) (x1 : Vec Ideal S2048x1024 .bf16) (y : S4096x2048.Idx) :
    Cert.DOssmRefIdeal.Read.val_main_v5 (F := Ideal) x0 x1 y = ∑ k : Fin 1024, x0 (ix2 (y 0) k) * x1 (ix2 (y 1) k) :=
  (Cert.DOssmRefIdeal.Read.val_main_v4_apply _ _ _).trans (Finset.sum_congr rfl fun k _ => by congr 1 <;> blk_ext [])

theorem final (c : Dev nD) : (dats m 0 c).arrAt 2 cfg0.N = Cert.DOssmRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DOssmIdeal_DOssmRefIdeal (hDOssmIdeal := facts) (hDOssmRefIdeal := Cert.DOssmRefIdeal.Gen.facts) := by
  refine fun m g m' g' hp ha => ⟨fun c => Cert.DOssmRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DOssmRefIdeal.defs _ _).mono (fun r h c => ⟨(h c).1.trans ?_, (h c).2⟩) (Cert.DOssmRefIdeal.Value.run m' g')⟩
  rw [(ha c).1, (ha c).2]; rfl

end Cert.DOssmIdeal.Hand
-- ==== Proof.WeightProducts.lean ====
module

public import proofs.«01_k».proof.Proof.Gen.DWInIdeal.Value
public import proofs.«01_k».proof.Proof.Gen.DWInRefIdeal.Read
public import proofs.«01_k».proof.Proof.Gen.DWDownIdeal.Value
public import proofs.«01_k».proof.Proof.Gen.DWDownRefIdeal.Read
public import proofs.«01_k».proof.Proof.Gen.DWGuIdeal.Value
public import proofs.«01_k».proof.Proof.Gen.DWGuRefIdeal.Read
public import proofs.«01_k».proof.Proof.Gen.DWXoIdeal.Value
public import proofs.«01_k».proof.Proof.Gen.DWXoRefIdeal.Read
public import proofs.«01_k».proof.Proof.Gen.DWXkvIdeal.Value
public import proofs.«01_k».proof.Proof.Gen.DWXkvRefIdeal.Read
public import proofs.«01_k».proof.Proof.Gen.DWAttIdeal.Value
public import proofs.«01_k».proof.Proof.Gen.DWAttRefIdeal.Read
public import proofs.«01_k».proof.Proof.Gen.DWSsmIdeal.Value
public import proofs.«01_k».proof.Proof.Gen.DWSsmRefIdeal.Read
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The backward products that give the weights' gradients: each kernel's tiles, summed over its grid, are the reference's product. `idx` says which blocks a result's
    block is computed of, `tile` what one point's product is, `ref` what the reference's is, `sum` that the scratch is
    the sum over a run of points, `final` that the array is the reference's, `equal` the claim. -/

@[expose] public section

noncomputable section

open Idealize.ShloMosaic Idealize.ShloMosaic.TcCoe Idealize.SL.Sem

/-! ## The gradient of the projection's weight. -/

namespace Cert.DWInIdeal.Hand
open Cert.DWInIdeal Cert.DWInIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x512 .bf16) (x1 : Vec Ideal S2048x1152 .bf16) (y : S512x1152.Idx) :
    k0_pay2 x0 x1 y = ∑ k : Fin 2048, x0 (ix2 k (y 0)) * x1 (ix2 k (y 1)) := by
  idx_vars y; pointwise [k0_pay2, k0_pay1]

theorem ref (x0 : Vec Ideal S4096x1024 .bf16) (x1 : Vec Ideal S4096x10368 .bf16) (y : S1024x10368.Idx) :
    Cert.DWInRefIdeal.Read.val_main_v5 (F := Ideal) x0 x1 y = ∑ k : Fin 4096, x0 (ix2 k (y 0)) * x1 (ix2 k (y 1)) :=
  (Cert.DWInRefIdeal.Read.val_main_v5_apply _ _ _).trans ((Cert.DWInRefIdeal.Read.val_main_v4_apply _ _ _).trans (Finset.sum_congr rfl fun k _ => (mul_comm _ _).trans (by congr 1 <;> blk_ext [])))

theorem add (x0 : Vec Ideal S2048x512 .bf16) (x1 : Vec Ideal S2048x1152 .bf16) (x2 : Vec Ideal S512x1152 .f32) (y : S512x1152.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S512x1152.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWInRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWInIdeal_DWInRefIdeal (hDWInIdeal := facts) (hDWInRefIdeal := Cert.DWInRefIdeal.Gen.facts) := by
  refine fun m g m' g' hp ha => ⟨fun c => Cert.DWInRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWInRefIdeal.defs _ _).mono (fun r h c => ⟨(h c).1.trans ?_, (h c).2⟩) (Cert.DWInRefIdeal.Value.run m' g')⟩
  rw [(ha c).1, (ha c).2]; rfl

end Cert.DWInIdeal.Hand

/-! ## The gradient of the feed-forward's second weight. -/

namespace Cert.DWDownIdeal.Hand
open Cert.DWDownIdeal Cert.DWDownIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x256 .bf16) (x1 : Vec Ideal S2048x1024 .bf16) (y : S256x1024.Idx) :
    k0_pay2 x0 x1 y = ∑ k : Fin 2048, x0 (ix2 k (y 0)) * x1 (ix2 k (y 1)) := by
  idx_vars y; pointwise [k0_pay2, k0_pay1]

theorem ref (x0 : Vec Ideal S4096x2816 .bf16) (x1 : Vec Ideal S4096x1024 .bf16) (y : S2816x1024.Idx) :
    Cert.DWDownRefIdeal.Read.val_main_v5 (F := Ideal) x0 x1 y = ∑ k : Fin 4096, x0 (ix2 k (y 0)) * x1 (ix2 k (y 1)) :=
  (Cert.DWDownRefIdeal.Read.val_main_v5_apply _ _ _).trans ((Cert.DWDownRefIdeal.Read.val_main_v4_apply _ _ _).trans (Finset.sum_congr rfl fun k _ => (mul_comm _ _).trans (by congr 1 <;> blk_ext [])))

theorem add (x0 : Vec Ideal S2048x256 .bf16) (x1 : Vec Ideal S2048x1024 .bf16) (x2 : Vec Ideal S256x1024 .f32) (y : S256x1024.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S256x1024.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWDownRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWDownIdeal_DWDownRefIdeal (hDWDownIdeal := facts) (hDWDownRefIdeal := Cert.DWDownRefIdeal.Gen.facts) := by
  refine fun m g m' g' hp ha => ⟨fun c => Cert.DWDownRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWDownRefIdeal.defs _ _).mono (fun r h c => ⟨(h c).1.trans ?_, (h c).2⟩) (Cert.DWDownRefIdeal.Value.run m' g')⟩
  rw [(ha c).1, (ha c).2]; rfl

end Cert.DWDownIdeal.Hand

/-! ## The gradient of the feed-forward's first weight. -/

namespace Cert.DWGuIdeal.Hand
open Cert.DWGuIdeal Cert.DWGuIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x1024 .bf16) (x1 : Vec Ideal S2048x512 .bf16) (y : S1024x512.Idx) :
    k0_pay2 x0 x1 y = ∑ k : Fin 2048, x0 (ix2 k (y 0)) * x1 (ix2 k (y 1)) := by
  idx_vars y; pointwise [k0_pay2, k0_pay1]

theorem ref (x0 : Vec Ideal S4096x1024 .bf16) (x1 : Vec Ideal S4096x5632 .bf16) (y : S1024x5632.Idx) :
    Cert.DWGuRefIdeal.Read.val_main_v5 (F := Ideal) x0 x1 y = ∑ k : Fin 4096, x0 (ix2 k (y 0)) * x1 (ix2 k (y 1)) :=
  (Cert.DWGuRefIdeal.Read.val_main_v5_apply _ _ _).trans ((Cert.DWGuRefIdeal.Read.val_main_v4_apply _ _ _).trans (Finset.sum_congr rfl fun k _ => (mul_comm _ _).trans (by congr 1 <;> blk_ext [])))

theorem add (x0 : Vec Ideal S2048x1024 .bf16) (x1 : Vec Ideal S2048x512 .bf16) (x2 : Vec Ideal S1024x512 .f32) (y : S1024x512.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S1024x512.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWGuRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWGuIdeal_DWGuRefIdeal (hDWGuIdeal := facts) (hDWGuRefIdeal := Cert.DWGuRefIdeal.Gen.facts) := by
  refine fun m g m' g' hp ha => ⟨fun c => Cert.DWGuRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWGuRefIdeal.defs _ _).mono (fun r h c => ⟨(h c).1.trans ?_, (h c).2⟩) (Cert.DWGuRefIdeal.Value.run m' g')⟩
  rw [(ha c).1, (ha c).2]; rfl

end Cert.DWGuIdeal.Hand

/-! ## The gradient of the cross attention's output weight. -/

namespace Cert.DWXoIdeal.Hand
open Cert.DWXoIdeal Cert.DWXoIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x1024 .bf16) (x1 : Vec Ideal S2048x1024 .bf16) (y : S1024x1024.Idx) :
    k0_pay2 x0 x1 y = ∑ k : Fin 2048, x0 (ix2 k (y 0)) * x1 (ix2 k (y 1)) := by
  idx_vars y; pointwise [k0_pay2, k0_pay1]

theorem ref (x0 : Vec Ideal S4096x1024 .bf16) (x1 : Vec Ideal S4096x1024 .bf16) (y : S1024x1024.Idx) :
    Cert.DWXoRefIdeal.Read.val_main_v5 (F := Ideal) x0 x1 y = ∑ k : Fin 4096, x0 (ix2 k (y 0)) * x1 (ix2 k (y 1)) :=
  (Cert.DWXoRefIdeal.Read.val_main_v5_apply _ _ _).trans ((Cert.DWXoRefIdeal.Read.val_main_v4_apply _ _ _).trans (Finset.sum_congr rfl fun k _ => (mul_comm _ _).trans (by congr 1 <;> blk_ext [])))

theorem add (x0 : Vec Ideal S2048x1024 .bf16) (x1 : Vec Ideal S2048x1024 .bf16) (x2 : Vec Ideal S1024x1024 .f32) (y : S1024x1024.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S1024x1024.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWXoRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWXoIdeal_DWXoRefIdeal (hDWXoIdeal := facts) (hDWXoRefIdeal := Cert.DWXoRefIdeal.Gen.facts) := by
  refine fun m g m' g' hp ha => ⟨fun c => Cert.DWXoRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWXoRefIdeal.defs _ _).mono (fun r h c => ⟨(h c).1.trans ?_, (h c).2⟩) (Cert.DWXoRefIdeal.Value.run m' g')⟩
  rw [(ha c).1, (ha c).2]; rfl

end Cert.DWXoIdeal.Hand

/-! ## The gradient of the weight of the memory's keys and values. -/

namespace Cert.DWXkvIdeal.Hand
open Cert.DWXkvIdeal Cert.DWXkvIdeal.Gen

variable (m : (ℓ : Loc nD τ sig) → Buf (Elt Ideal) ℓ)

theorem idx : ∀ t : Fin cfg0.N, win0_0.index t = ![0, win0_2.index t 0] ∧ win0_1.index t = ![0, win0_2.index t 1] :=
  (by decide +kernel : ∀ t : Fin grid0.N, _)

theorem tile (x0 : Vec Ideal S512x1024 .bf16) (x1 : Vec Ideal S512x1024 .bf16) (y : S1024x1024.Idx) :
    out0_2 x0 x1 y = ∑ k : Fin 512, x0 (ix2 k (y 0)) * x1 (ix2 k (y 1)) := by
  rw [show out0_2 x0 x1 = k0_pay1 x0 x1 by unfold out0_2; frame_out]; idx_vars y; pointwise [k0_pay1]

theorem ref (x0 : Vec Ideal S512x1024 .bf16) (x1 : Vec Ideal S512x2048 .bf16) (y : S1024x2048.Idx) :
    Cert.DWXkvRefIdeal.Read.val_main_v5 (F := Ideal) x0 x1 y = ∑ k : Fin 512, x0 (ix2 k (y 0)) * x1 (ix2 k (y 1)) :=
  (Cert.DWXkvRefIdeal.Read.val_main_v5_apply _ _ _).trans ((Cert.DWXkvRefIdeal.Read.val_main_v4_apply _ _ _).trans (Finset.sum_congr rfl fun k _ => (mul_comm _ _).trans (by congr 1 <;> blk_ext [])))

theorem final (c : Dev nD) : (dats m 0 c).arrAt 2 cfg0.N = Cert.DWXkvRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_DWXkvIdeal_DWXkvRefIdeal (hDWXkvIdeal := facts) (hDWXkvRefIdeal := Cert.DWXkvRefIdeal.Gen.facts) := by
  refine fun m g m' g' hp ha => ⟨fun c => Cert.DWXkvRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWXkvRefIdeal.defs _ _).mono (fun r h c => ⟨(h c).1.trans ?_, (h c).2⟩) (Cert.DWXkvRefIdeal.Value.run m' g')⟩
  rw [(ha c).1, (ha c).2]; rfl

end Cert.DWXkvIdeal.Hand

/-! ## The gradient of the attention branch's weight. -/

namespace Cert.DWAttIdeal.Hand
open Cert.DWAttIdeal Cert.DWAttIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x512 .f32) (x1 : Vec Ideal S2048x1024 .bf16) (y : S512x1024.Idx) :
    k0_pay2 x0 x1 y = ∑ k : Fin 2048, x0 (ix2 k (y 0)) * x1 (ix2 k (y 1)) := by
  idx_vars y; pointwise [k0_pay2, k0_pay1]

theorem ref (x0 : Vec Ideal S4096x1024 .f32) (x1 : Vec Ideal S4096x1024 .bf16) (y : S1024x1024.Idx) :
    Cert.DWAttRefIdeal.Read.val_main_v4 (F := Ideal) x0 x1 y = ∑ k : Fin 4096, x0 (ix2 k (y 0)) * x1 (ix2 k (y 1)) :=
  (Cert.DWAttRefIdeal.Read.val_main_v4_apply _ _ _).trans ((Cert.DWAttRefIdeal.Read.val_main_v3_apply _ _ _).trans (Finset.sum_congr rfl fun k _ => (mul_comm _ _).trans (by congr 1 <;> blk_ext [])))

theorem add (x0 : Vec Ideal S2048x512 .f32) (x1 : Vec Ideal S2048x1024 .bf16) (x2 : Vec Ideal S512x1024 .f32) (y : S512x1024.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S512x1024.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWAttRefIdeal.Read.val_main_v4 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWAttIdeal_DWAttRefIdeal (hDWAttIdeal := facts) (hDWAttRefIdeal := Cert.DWAttRefIdeal.Gen.facts) := by
  refine fun m g m' g' hp ha => ⟨fun c => Cert.DWAttRefIdeal.Read.val_main_v4 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWAttRefIdeal.defs _ _).mono (fun r h c => ⟨(h c).1.trans ?_, (h c).2⟩) (Cert.DWAttRefIdeal.Value.run m' g')⟩
  rw [(ha c).1, (ha c).2]; rfl

end Cert.DWAttIdeal.Hand

/-! ## The gradient of the state-space branch's weight. -/

namespace Cert.DWSsmIdeal.Hand
open Cert.DWSsmIdeal Cert.DWSsmIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![s.val, win0_2.index t 0] ∧ win0_1.index ⟨_, h⟩ = ![s.val, win0_2.index t 1] :=
  (by decide +kernel : ∀ (t : Fin grid0.N) (s : Fin 2) (h : 2 * (t.val / 2) + s.val < grid0.N), _)

theorem tile (x0 : Vec Ideal S2048x1024 .bf16) (x1 : Vec Ideal S2048x1024 .bf16) (y : S1024x1024.Idx) :
    k0_pay2 x0 x1 y = ∑ k : Fin 2048, x0 (ix2 k (y 0)) * x1 (ix2 k (y 1)) := by
  idx_vars y; pointwise [k0_pay2, k0_pay1]

theorem ref (x0 : Vec Ideal S4096x2048 .bf16) (x1 : Vec Ideal S4096x1024 .bf16) (y : S2048x1024.Idx) :
    Cert.DWSsmRefIdeal.Read.val_main_v5 (F := Ideal) x0 x1 y = ∑ k : Fin 4096, x0 (ix2 k (y 0)) * x1 (ix2 k (y 1)) :=
  (Cert.DWSsmRefIdeal.Read.val_main_v5_apply _ _ _).trans ((Cert.DWSsmRefIdeal.Read.val_main_v4_apply _ _ _).trans (Finset.sum_congr rfl fun k _ => (mul_comm _ _).trans (by congr 1 <;> blk_ext [])))

theorem add (x0 : Vec Ideal S2048x1024 .bf16) (x1 : Vec Ideal S2048x1024 .bf16) (x2 : Vec Ideal S1024x1024 .f32) (y : S1024x1024.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S1024x1024.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.DWSsmRefIdeal.Read.val_main_v5 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_DWSsmIdeal_DWSsmRefIdeal (hDWSsmIdeal := facts) (hDWSsmRefIdeal := Cert.DWSsmRefIdeal.Gen.facts) := by
  refine fun m g m' g' hp ha => ⟨fun c => Cert.DWSsmRefIdeal.Read.val_main_v5 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.DWSsmRefIdeal.defs _ _).mono (fun r h c => ⟨(h c).1.trans ?_, (h c).2⟩) (Cert.DWSsmRefIdeal.Value.run m' g')⟩
  rw [(ha c).1, (ha c).2]; rfl

end Cert.DWSsmIdeal.Hand
-- ==== Proof.ForwardProducts.lean ====
module

public import proofs.«01_k».proof.Proof.Gen.MProjIdeal.Value
public import proofs.«01_k».proof.Proof.Gen.MProjRefIdeal.Read
public import proofs.«01_k».proof.Proof.Gen.MAttIdeal.Value
public import proofs.«01_k».proof.Proof.Gen.MAttRefIdeal.Read
public import proofs.«01_k».proof.Proof.Gen.MSsmIdeal.Value
public import proofs.«01_k».proof.Proof.Gen.MSsmRefIdeal.Read
public import proofs.«01_k».proof.Proof.Gen.MMixIdeal.Value
public import proofs.«01_k».proof.Proof.Gen.MMixRefIdeal.Read
public import proofs.«01_k».proof.Proof.Gen.MKvIdeal.Value
public import proofs.«01_k».proof.Proof.Gen.MKvRefIdeal.Read
public import proofs.«01_k».proof.Proof.Gen.MGuIdeal.Value
public import proofs.«01_k».proof.Proof.Gen.MGuRefIdeal.Read
public import proofs.«01_k».proof.Proof.Gen.MDownIdeal.Value
public import proofs.«01_k».proof.Proof.Gen.MDownRefIdeal.Read
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The forward products: each kernel's tiles, summed over its grid, are the reference's product. `idx` says which blocks a result's
    block is computed of, `tile` what one point's product is, `ref` what the reference's is, `sum` that the scratch is
    the sum over a run of points, `final` that the array is the reference's, `equal` the claim. -/

@[expose] public section

noncomputable section

open Idealize.ShloMosaic Idealize.ShloMosaic.TcCoe Idealize.SL.Sem

/-! ## The projection. -/

namespace Cert.MProjIdeal.Hand
open Cert.MProjIdeal Cert.MProjIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S1024x1024 .bf16) (x1 : Vec Ideal S1024x1152 .bf16) (y : S1024x1152.Idx) :
    out0_2 x0 x1 y = ∑ k : Fin 1024, x0 (ix2 (y 0) k) * x1 (ix2 k (y 1)) := by
  rw [show out0_2 x0 x1 = k0_pay1 x0 x1 by unfold out0_2; frame_out]; idx_vars y; pointwise [k0_pay1]

theorem ref (x0 : Vec Ideal S4096x1024 .bf16) (x1 : Vec Ideal S1024x10368 .bf16) (y : S4096x10368.Idx) :
    Cert.MProjRefIdeal.Read.val_main_v2 (F := Ideal) x0 x1 y = ∑ k : Fin 1024, x0 (ix2 (y 0) k) * x1 (ix2 k (y 1)) :=
  (Cert.MProjRefIdeal.Read.val_main_v2_apply _ _ _).trans (Finset.sum_congr rfl fun k _ => by congr 1 <;> blk_ext [])

theorem final (c : Dev nD) : (dats m 0 c).arrAt 2 cfg0.N = Cert.MProjRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MProjIdeal_MProjRefIdeal (hMProjIdeal := facts) (hMProjRefIdeal := Cert.MProjRefIdeal.Gen.facts) := by
  refine fun m g m' g' hp ha => ⟨fun c => Cert.MProjRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MProjRefIdeal.defs _ _).mono (fun r h c => ⟨(h c).1.trans ?_, (h c).2⟩) (Cert.MProjRefIdeal.Value.run m' g')⟩
  rw [(ha c).1, (ha c).2]; rfl

end Cert.MProjIdeal.Hand

/-! ## The attention branch. -/

namespace Cert.MAttIdeal.Hand
open Cert.MAttIdeal Cert.MAttIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S1024x1024 .f32) (x1 : Vec Ideal S1024x1024 .bf16) (y : S1024x1024.Idx) :
    out0_2 x0 x1 y = ∑ k : Fin 1024, x0 (ix2 (y 0) k) * x1 (ix2 k (y 1)) := by
  rw [show out0_2 x0 x1 = k0_pay1 x0 x1 by unfold out0_2; frame_out]; idx_vars y; pointwise [k0_pay1]

theorem ref (x0 : Vec Ideal S4096x1024 .f32) (x1 : Vec Ideal S1024x1024 .bf16) (y : S4096x1024.Idx) :
    Cert.MAttRefIdeal.Read.val_main_v1 (F := Ideal) x0 x1 y = ∑ k : Fin 1024, x0 (ix2 (y 0) k) * x1 (ix2 k (y 1)) :=
  (Cert.MAttRefIdeal.Read.val_main_v1_apply _ _ _).trans (Finset.sum_congr rfl fun k _ => by congr 1 <;> blk_ext [])

theorem final (c : Dev nD) : (dats m 0 c).arrAt 2 cfg0.N = Cert.MAttRefIdeal.Read.val_main_v1 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MAttIdeal_MAttRefIdeal (hMAttIdeal := facts) (hMAttRefIdeal := Cert.MAttRefIdeal.Gen.facts) := by
  refine fun m g m' g' hp ha => ⟨fun c => Cert.MAttRefIdeal.Read.val_main_v1 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MAttRefIdeal.defs _ _).mono (fun r h c => ⟨(h c).1.trans ?_, (h c).2⟩) (Cert.MAttRefIdeal.Value.run m' g')⟩
  rw [(ha c).1, (ha c).2]; rfl

end Cert.MAttIdeal.Hand

/-! ## The state-space branch. -/

namespace Cert.MSsmIdeal.Hand
open Cert.MSsmIdeal Cert.MSsmIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S1024x2048 .bf16) (x1 : Vec Ideal S2048x1024 .bf16) (y : S1024x1024.Idx) :
    out0_2 x0 x1 y = ∑ k : Fin 2048, x0 (ix2 (y 0) k) * x1 (ix2 k (y 1)) := by
  rw [show out0_2 x0 x1 = k0_pay1 x0 x1 by unfold out0_2; frame_out]; idx_vars y; pointwise [k0_pay1]

theorem ref (x0 : Vec Ideal S4096x2048 .bf16) (x1 : Vec Ideal S2048x1024 .bf16) (y : S4096x1024.Idx) :
    Cert.MSsmRefIdeal.Read.val_main_v2 (F := Ideal) x0 x1 y = ∑ k : Fin 2048, x0 (ix2 (y 0) k) * x1 (ix2 k (y 1)) :=
  (Cert.MSsmRefIdeal.Read.val_main_v2_apply _ _ _).trans (Finset.sum_congr rfl fun k _ => by congr 1 <;> blk_ext [])

theorem final (c : Dev nD) : (dats m 0 c).arrAt 2 cfg0.N = Cert.MSsmRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MSsmIdeal_MSsmRefIdeal (hMSsmIdeal := facts) (hMSsmRefIdeal := Cert.MSsmRefIdeal.Gen.facts) := by
  refine fun m g m' g' hp ha => ⟨fun c => Cert.MSsmRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MSsmRefIdeal.defs _ _).mono (fun r h c => ⟨(h c).1.trans ?_, (h c).2⟩) (Cert.MSsmRefIdeal.Value.run m' g')⟩
  rw [(ha c).1, (ha c).2]; rfl

end Cert.MSsmIdeal.Hand

/-! ## The mixer's output. -/

namespace Cert.MMixIdeal.Hand
open Cert.MMixIdeal Cert.MMixIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S1024x1024 .bf16) (x1 : Vec Ideal S1024x1024 .bf16) (y : S1024x1024.Idx) :
    out0_2 x0 x1 y = ∑ k : Fin 1024, x0 (ix2 (y 0) k) * x1 (ix2 k (y 1)) := by
  rw [show out0_2 x0 x1 = k0_pay1 x0 x1 by unfold out0_2; frame_out]; idx_vars y; pointwise [k0_pay1]

theorem ref (x0 : Vec Ideal S4096x1024 .bf16) (x1 : Vec Ideal S1024x1024 .bf16) (y : S4096x1024.Idx) :
    Cert.MMixRefIdeal.Read.val_main_v2 (F := Ideal) x0 x1 y = ∑ k : Fin 1024, x0 (ix2 (y 0) k) * x1 (ix2 k (y 1)) :=
  (Cert.MMixRefIdeal.Read.val_main_v2_apply _ _ _).trans (Finset.sum_congr rfl fun k _ => by congr 1 <;> blk_ext [])

theorem final (c : Dev nD) : (dats m 0 c).arrAt 2 cfg0.N = Cert.MMixRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MMixIdeal_MMixRefIdeal (hMMixIdeal := facts) (hMMixRefIdeal := Cert.MMixRefIdeal.Gen.facts) := by
  refine fun m g m' g' hp ha => ⟨fun c => Cert.MMixRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MMixRefIdeal.defs _ _).mono (fun r h c => ⟨(h c).1.trans ?_, (h c).2⟩) (Cert.MMixRefIdeal.Value.run m' g')⟩
  rw [(ha c).1, (ha c).2]; rfl

end Cert.MMixIdeal.Hand

/-! ## The memory's keys and values. -/

namespace Cert.MKvIdeal.Hand
open Cert.MKvIdeal Cert.MKvIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S512x1024 .bf16) (x1 : Vec Ideal S1024x1024 .bf16) (y : S512x1024.Idx) :
    out0_2 x0 x1 y = ∑ k : Fin 1024, x0 (ix2 (y 0) k) * x1 (ix2 k (y 1)) := by
  rw [show out0_2 x0 x1 = k0_pay1 x0 x1 by unfold out0_2; frame_out]; idx_vars y; pointwise [k0_pay1]

theorem ref (x0 : Vec Ideal S512x1024 .bf16) (x1 : Vec Ideal S1024x2048 .bf16) (y : S512x2048.Idx) :
    Cert.MKvRefIdeal.Read.val_main_v2 (F := Ideal) x0 x1 y = ∑ k : Fin 1024, x0 (ix2 (y 0) k) * x1 (ix2 k (y 1)) :=
  (Cert.MKvRefIdeal.Read.val_main_v2_apply _ _ _).trans (Finset.sum_congr rfl fun k _ => by congr 1 <;> blk_ext [])

theorem final (c : Dev nD) : (dats m 0 c).arrAt 2 cfg0.N = Cert.MKvRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MKvIdeal_MKvRefIdeal (hMKvIdeal := facts) (hMKvRefIdeal := Cert.MKvRefIdeal.Gen.facts) := by
  refine fun m g m' g' hp ha => ⟨fun c => Cert.MKvRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MKvRefIdeal.defs _ _).mono (fun r h c => ⟨(h c).1.trans ?_, (h c).2⟩) (Cert.MKvRefIdeal.Value.run m' g')⟩
  rw [(ha c).1, (ha c).2]; rfl

end Cert.MKvIdeal.Hand

/-! ## The feed-forward's gate and value. -/

namespace Cert.MGuIdeal.Hand
open Cert.MGuIdeal Cert.MGuIdeal.Gen

variable (m : (ℓ : Loc nD τ sig) → Buf (Elt Ideal) ℓ)

theorem idx : ∀ t : Fin cfg0.N, win0_0.index t = ![win0_2.index t 0, 0] ∧ win0_1.index t = ![0, win0_2.index t 1] :=
  (by decide +kernel : ∀ t : Fin grid0.N, _)

theorem tile (x0 : Vec Ideal S1024x1024 .bf16) (x1 : Vec Ideal S1024x512 .bf16) (y : S1024x512.Idx) :
    out0_2 x0 x1 y = ∑ k : Fin 1024, x0 (ix2 (y 0) k) * x1 (ix2 k (y 1)) := by
  rw [show out0_2 x0 x1 = k0_pay1 x0 x1 by unfold out0_2; frame_out]; idx_vars y; pointwise [k0_pay1]

theorem ref (x0 : Vec Ideal S4096x1024 .bf16) (x1 : Vec Ideal S1024x5632 .bf16) (y : S4096x5632.Idx) :
    Cert.MGuRefIdeal.Read.val_main_v2 (F := Ideal) x0 x1 y = ∑ k : Fin 1024, x0 (ix2 (y 0) k) * x1 (ix2 k (y 1)) :=
  (Cert.MGuRefIdeal.Read.val_main_v2_apply _ _ _).trans (Finset.sum_congr rfl fun k _ => by congr 1 <;> blk_ext [])

theorem final (c : Dev nD) : (dats m 0 c).arrAt 2 cfg0.N = Cert.MGuRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  rw [Value.flushed2]
  funext y
  refine (tile _ _ _).trans ((Finset.sum_congr rfl fun k _ => ?_).trans (ref _ _ _).symm)
  obtain ⟨e0, e1⟩ := idx t
  congr 1
  · blk_ext [Gen.iblk, Gen.V, e0]
  · blk_ext [Gen.iblk, Gen.V, e1]

theorem equal : Cert.algebraic_MGuIdeal_MGuRefIdeal (hMGuIdeal := facts) (hMGuRefIdeal := Cert.MGuRefIdeal.Gen.facts) := by
  refine fun m g m' g' hp ha => ⟨fun c => Cert.MGuRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MGuRefIdeal.defs _ _).mono (fun r h c => ⟨(h c).1.trans ?_, (h c).2⟩) (Cert.MGuRefIdeal.Value.run m' g')⟩
  rw [(ha c).1, (ha c).2]; rfl

end Cert.MGuIdeal.Hand

/-! ## The feed-forward's output. -/

namespace Cert.MDownIdeal.Hand
open Cert.MDownIdeal Cert.MDownIdeal.Gen

variable (m : (ℓ : Loc nD τ sig) → Buf (Elt Ideal) ℓ)

theorem idx : ∀ (t : Fin cfg0.N) (s : Fin 2) (h : 2 * (t.val / 2) + s.val < cfg0.N), win0_0.index ⟨_, h⟩ = ![win0_2.index t 0, s.val] ∧ win0_1.index ⟨_, h⟩ = ![s.val, win0_2.index t 1] :=
  (by decide +kernel : ∀ (t : Fin grid0.N) (s : Fin 2) (h : 2 * (t.val / 2) + s.val < grid0.N), _)

theorem tile (x0 : Vec Ideal S1024x1408 .bf16) (x1 : Vec Ideal S1408x1024 .bf16) (y : S1024x1024.Idx) :
    k0_pay2 x0 x1 y = ∑ k : Fin 1408, x0 (ix2 (y 0) k) * x1 (ix2 k (y 1)) := by
  idx_vars y; pointwise [k0_pay2, k0_pay1]

theorem ref (x0 : Vec Ideal S4096x2816 .bf16) (x1 : Vec Ideal S2816x1024 .bf16) (y : S4096x1024.Idx) :
    Cert.MDownRefIdeal.Read.val_main_v2 (F := Ideal) x0 x1 y = ∑ k : Fin 2816, x0 (ix2 (y 0) k) * x1 (ix2 k (y 1)) :=
  (Cert.MDownRefIdeal.Read.val_main_v2_apply _ _ _).trans (Finset.sum_congr rfl fun k _ => by congr 1 <;> blk_ext [])

theorem add (x0 : Vec Ideal S1024x1408 .bf16) (x1 : Vec Ideal S1408x1024 .bf16) (x2 : Vec Ideal S1024x1024 .f32) (y : S1024x1024.Idx) :
    k0_pay3 x0 x1 x2 y = x2 y + k0_pay2 x0 x1 y := by pointwise [k0_pay2, k0_pay3]

theorem out (c : Dev nD) (t : Fin cfg0.N) (h : t.val % 2 = 1) : (outsAt0 m c t.val t.isLt).1 = (outsAt0 m c t.val t.isLt).2 := by
  rw [outsAt0_B m c t (by omega) h h]; frame_out

theorem sum (c : Dev nD) (t : Fin cfg0.N) (h : t.val % 2 = 1) (y : S1024x1024.Idx) : (outsAt0 m c t.val t.isLt).2 y = 0 + ∑ s : Fin 2,
    k0_pay2 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 2 (fun _ => 0) (fun t => k0_pay2 (iblk m c 0 t) (iblk m c 1 t))
    (fun t h y => by rw [outsAt0_A m c t h (by omega) (by omega)]; frame_out; exact (zero_add _).symm)
    (fun t h y => by rw [outsAt0_B m c t h (by omega) (by omega)]; frame_out; rw [add, (Memref.isWhole_whole _).read_unread]) t h y

theorem final (c : Dev nD) : (dats m 0 c).arrAt 2 cfg0.N = Cert.MDownRefIdeal.Read.val_main_v2 (F := Ideal) (m ((c : Thread nD τ).loc main_arg0)) (m ((c : Thread nD τ).loc main_arg1)) := by
  refine (dats m 0 c).arrAt_eq_of_cover 2 _ (fun t hf => ?_) (Pipeline.Window.Covers.cover (w := win0_2) (by decide +kernel) (Memref.isWhole_whole _))
  have h := (flush0_2 t).mp hf
  rw [Value.flushed2, out m c t h]
  funext y
  refine ((sum m c t h _).trans (zero_add _)).trans (Eq.trans ?_ (ref _ _ _).symm)
  simp only [tile]
  refine Fin.sum_mul_add_congr fun s k hl => ?_
  obtain ⟨e0, e1⟩ := idx t s (Pipeline.run_point_lt_of_flush t h s)
  congr 1
  · blk_ext [Gen.iblk, Gen.V, e0]
  · blk_ext [Gen.iblk, Gen.V, e1]

theorem equal : Cert.algebraic_MDownIdeal_MDownRefIdeal (hMDownIdeal := facts) (hMDownRefIdeal := Cert.MDownRefIdeal.Gen.facts) := by
  refine fun m g m' g' hp ha => ⟨fun c => Cert.MDownRefIdeal.Read.val_main_v2 (F := Ideal) (m ((c : Thread nD τ).loc main_arg0)) (m ((c : Thread nD τ).loc main_arg1)),
    (θ_run defs _ _).mono (fun r h c => ⟨(h c).1.trans (final m c), (h c).2⟩) (Value.run_blocks m g),
    (θ_run Cert.MDownRefIdeal.defs _ _).mono (fun r h c => ⟨(h c).1.trans ?_, (h c).2⟩) (Cert.MDownRefIdeal.Value.run m' g')⟩
  rw [(ha c).1, (ha c).2]; rfl

end Cert.MDownIdeal.Hand
-- ==== Proof.OptimiserStep.lean ====
module

public import proofs.«01_k».proof.Proof.Gen.AWInIdeal.Value
public import proofs.«01_k».proof.Proof.Gen.AWInRefIdeal.Read
public import proofs.«01_k».proof.Proof.Gen.ABrAttIdeal.Value
public import proofs.«01_k».proof.Proof.Gen.ABrAttRefIdeal.Read
public import proofs.«01_k».proof.Proof.Gen.ABrSsmIdeal.Value
public import proofs.«01_k».proof.Proof.Gen.ABrSsmRefIdeal.Read
public import proofs.«01_k».proof.Proof.Gen.AXkvIdeal.Value
public import proofs.«01_k».proof.Proof.Gen.AXkvRefIdeal.Read
public import proofs.«01_k».proof.Proof.Gen.AGuIdeal.Value
public import proofs.«01_k».proof.Proof.Gen.AGuRefIdeal.Read
public import proofs.«01_k».proof.Proof.Gen.ADownIdeal.Value
public import proofs.«01_k».proof.Proof.Gen.ADownRefIdeal.Read
public import proofs.«01_k».proof.Proof.Gen.AConvIdeal.Value
public import proofs.«01_k».proof.Proof.Gen.AConvRefIdeal.Read
public import proofs.«01_k».proof.Proof.Gen.ASmallIdeal.Value
public import proofs.«01_k».proof.Proof.Gen.ASmallRefIdeal.Read
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The optimiser's step. One element of every result depends on that element of the weight and of the two moments, and on
    the sum `g` of that element over the eight devices' parts; `newM`, `newV` and `delta` say how, with the constants of
    reference.py. `IsStep` says of four arrays that they are the step's results, and `IsStep.block` that a block of them is
    what the step makes of the arguments' blocks. For each shape: `tile` says that a block's results are the step of its
    arguments, `ref` the same of reference.py's results, `equal` is the claim, the two put together by `IsStep.block`. -/

@[expose] public section

noncomputable section

open Idealize.ShloMosaic Idealize.ShloMosaic.TcCoe Idealize.SL.Sem

namespace Cert.Adam

/-- The new first moment. -/
def newM (g m : Ideal .f32) : Ideal .f32 := Ideal.ofBits .f32 1063675494#32 * m + Ideal.ofBits .f32 1036831949#32 * g

/-- The new second moment. -/
def newV (g v : Ideal .f32) : Ideal .f32 := Ideal.ofBits .f32 1065336439#32 * v + Ideal.ofBits .f32 981668463#32 * (g * g)

/-- The change of the weight. -/
def delta (g w m v : Ideal .f32) : Ideal .f32 :=
  Ideal.ofBits .f32 3129152111#32 * (Ideal.div (Ideal.div (newM g m) (Ideal.ofBits .f32 1059503362#32))
    (Ideal.sqrt (Ideal.div (newV g v) (Ideal.ofBits .f32 1008933580#32)) + Ideal.ofBits .f32 841731191#32)
      + Ideal.ofBits .f32 1008981770#32 * w)

/-- The four arrays `g`, `d`, `m'`, `v'` are the gradient, the change and the new moments. -/
def IsStep {a b c : Nat} (p : (⟨4, ![8, a, b, c]⟩ : Shape).Idx → EReal) (w m v g d m' v' : Vec Ideal ⟨3, ![a, b, c]⟩ .f32) : Prop :=
  ∀ y, g y = (∑ k : Fin 8, p (ix4 k (y 0) (y 1) (y 2))) ∧ d y = delta (∑ k : Fin 8, p (ix4 k (y 0) (y 1) (y 2))) (w y) (m y) (v y)
    ∧ m' y = newM (∑ k : Fin 8, p (ix4 k (y 0) (y 1) (y 2))) (m y) ∧ v' y = newV (∑ k : Fin 8, p (ix4 k (y 0) (y 1) (y 2))) (v y)

/-- Where the arguments of a step are read off larger arrays by `e`, so are its results. -/
theorem IsStep.block {a b c a' b' c' : Nat} {p : (⟨4, ![8, a, b, c]⟩ : Shape).Idx → EReal} {w m v g d mn vn : Vec Ideal ⟨3, ![a, b, c]⟩ .f32}
    {P : (⟨4, ![8, a', b', c']⟩ : Shape).Idx → EReal} {W M V G D MN VN : Vec Ideal ⟨3, ![a', b', c']⟩ .f32}
    (hr : IsStep P W M V G D MN VN) (ht : IsStep p w m v g d mn vn) (e : (⟨3, ![a, b, c]⟩ : Shape).Idx → (⟨3, ![a', b', c']⟩ : Shape).Idx)
    (hp : ∀ y k, p (ix4 k (y 0) (y 1) (y 2)) = P (ix4 k (e y 0) (e y 1) (e y 2))) (hw : ∀ y, w y = W (e y)) (hm : ∀ y, m y = M (e y))
    (hv : ∀ y, v y = V (e y)) : ∀ y, g y = G (e y) ∧ d y = D (e y) ∧ mn y = MN (e y) ∧ vn y = VN (e y) := by
  intro y
  obtain ⟨t4, t5, t6, t7⟩ := ht y
  obtain ⟨r4, r5, r6, r7⟩ := hr (e y)
  rw [t4, t5, t6, t7, r4, r5, r6, r7, hw, hm, hv, Finset.sum_congr rfl fun k _ => hp y k]
  exact ⟨rfl, rfl, rfl, rfl⟩

end Cert.Adam

/-! ## The gradients of the input projection. -/

namespace Cert.AWInIdeal.Hand
open Cert.AWInIdeal Cert.AWInIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x128x1284 .bf16) (x1 x2 x3 : Vec Ideal S1x128x1284 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x128x1284.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.AWInRefIdeal.Read in
theorem ref (x0 : Vec Ideal S8x4x1024x1284 .bf16) (x1 x2 x3 : Vec Ideal S4x1024x1284 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x1024x1284.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_AWInIdeal_AWInRefIdeal := by
  refine fun m g m' g' _ ha => ⟨_, _, _, _, (θ_run defs _ _).mono (fun r h c => ?_) (Value.run_blocks m g), Cert.AWInRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.AWInIdeal.Hand

/-! ## The gradients of a branch's output projection (also of the two attention projections of that shape). -/

namespace Cert.ABrAttIdeal.Hand
open Cert.ABrAttIdeal Cert.ABrAttIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x128x1024 .bf16) (x1 x2 x3 : Vec Ideal S1x128x1024 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x128x1024.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.ABrAttRefIdeal.Read in
theorem ref (x0 : Vec Ideal S8x4x128x1024 .bf16) (x1 x2 x3 : Vec Ideal S4x128x1024 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x128x1024.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_ABrAttIdeal_ABrAttRefIdeal := by
  refine fun m g m' g' _ ha => ⟨_, _, _, _, (θ_run defs _ _).mono (fun r h c => ?_) (Value.run_blocks m g), Cert.ABrAttRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.ABrAttIdeal.Hand

/-! ## The gradients of the state branch's output projection. -/

namespace Cert.ABrSsmIdeal.Hand
open Cert.ABrSsmIdeal Cert.ABrSsmIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x128x1024 .bf16) (x1 x2 x3 : Vec Ideal S1x128x1024 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x128x1024.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.ABrSsmRefIdeal.Read in
theorem ref (x0 : Vec Ideal S8x4x256x1024 .bf16) (x1 x2 x3 : Vec Ideal S4x256x1024 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x256x1024.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_ABrSsmIdeal_ABrSsmRefIdeal := by
  refine fun m g m' g' _ ha => ⟨_, _, _, _, (θ_run defs _ _).mono (fun r h c => ?_) (Value.run_blocks m g), Cert.ABrSsmRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.ABrSsmIdeal.Hand

/-! ## The gradients of the memory's keys and values. -/

namespace Cert.AXkvIdeal.Hand
open Cert.AXkvIdeal Cert.AXkvIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x128x256 .bf16) (x1 x2 x3 : Vec Ideal S1x128x256 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x128x256.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.AXkvRefIdeal.Read in
theorem ref (x0 : Vec Ideal S8x4x1024x256 .bf16) (x1 x2 x3 : Vec Ideal S4x1024x256 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x1024x256.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_AXkvIdeal_AXkvRefIdeal := by
  refine fun m g m' g' _ ha => ⟨_, _, _, _, (θ_run defs _ _).mono (fun r h c => ?_) (Value.run_blocks m g), Cert.AXkvRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.AXkvIdeal.Hand

/-! ## The gradients of the gate and up projection. -/

namespace Cert.AGuIdeal.Hand
open Cert.AGuIdeal Cert.AGuIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x128x704 .bf16) (x1 x2 x3 : Vec Ideal S1x128x704 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x128x704.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.AGuRefIdeal.Read in
theorem ref (x0 : Vec Ideal S8x4x1024x704 .bf16) (x1 x2 x3 : Vec Ideal S4x1024x704 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x1024x704.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_AGuIdeal_AGuRefIdeal := by
  refine fun m g m' g' _ ha => ⟨_, _, _, _, (θ_run defs _ _).mono (fun r h c => ?_) (Value.run_blocks m g), Cert.AGuRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.AGuIdeal.Hand

/-! ## The gradients of the down projection. -/

namespace Cert.ADownIdeal.Hand
open Cert.ADownIdeal Cert.ADownIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x32x1024 .bf16) (x1 x2 x3 : Vec Ideal S1x32x1024 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay8 (k0_pay10 x0 x1 x2 x3) (View.ld x0 r0_7) := by unfold out0_4; frame_out
  have e5 : out0_5 x0 x1 x2 x3 = k0_pay1 (k0_pay9 (k0_pay10 x0 x1 x2 x3) (View.ld x0 r0_7) (View.ld x2 r0_8) (View.ld x3 r0_8) (View.ld x1 r0_8)) := by unfold out0_5; frame_out
  have e6 : out0_6 x0 x1 x2 x3 = k0_pay2 (k0_pay6 (k0_pay10 x0 x1 x2 x3) (View.ld x0 r0_7) (View.ld x2 r0_8)) := by unfold out0_6; frame_out
  have e7 : out0_7 x0 x1 x2 x3 = k0_pay3 (k0_pay7 (k0_pay10 x0 x1 x2 x3) (View.ld x0 r0_7) (View.ld x3 r0_8)) := by unfold out0_7; frame_out
  rw [e4, e5, e6, e7]
  intro (y : S1x32x1024.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, k0_pay9, k0_pay10, Fin.sum_univ_eight, Adam.delta, Adam.newM, Adam.newV]

open Cert.ADownRefIdeal.Read in
theorem ref (x0 : Vec Ideal S8x4x352x1024 .bf16) (x1 x2 x3 : Vec Ideal S4x352x1024 .f32) :
    Adam.IsStep x0 x1 x2 x3 (val_main_v1 (F := Ideal) x0) (val_main_v25 (F := Ideal) x0 x1 x2 x3) (val_main_v6 (F := Ideal) x0 x2) (val_main_v12 (F := Ideal) x0 x3) := by
  intro (y : S4x352x1024.Idx)
  have e : val_main_v1 (F := Ideal) x0 y = ∑ k : Fin 8, x0 (ix4 k (y 0) (y 1) (y 2)) :=
    (val_main_v1_apply x0 y).trans ((congrArg (· + ∑ k : Fin 8, val_main_v0 (F := Ideal) x0 (idx_main_v1 y k)) Ideal.ofBits_zero_f32).trans
      ((zero_add _).trans (Finset.sum_congr rfl fun k _ => congrArg x0 (show idx_main_v1 y k = ix4 k (y 0) (y 1) (y 2) by blk_ext []))))
  rw [← e]
  exact ⟨rfl, rfl, rfl, rfl⟩

theorem equal : algebraic_ADownIdeal_ADownRefIdeal := by
  refine fun m g m' g' _ ha => ⟨_, _, _, _, (θ_run defs _ _).mono (fun r h c => ?_) (Value.run_blocks m g), Cert.ADownRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.ADownIdeal.Hand

/-! ## The gradients of the convolution. -/

namespace Cert.AConvIdeal.Hand
open Cert.AConvIdeal Cert.AConvIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x16x384 .f32) (x1 x2 x3 : Vec Ideal S1x16x384 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay6 (k0_pay8 x0 x1 x2 x3) := by unfold out0_4; frame_out
  have e5 : out0_5 x0 x1 x2 x3 = k0_pay7 (k0_pay8 x0 x1 x2 x3) (View.ld x2 r0_8) (View.ld x3 r0_8) (View.ld x1 r0_8) := by unfold out0_5; frame_out
  have e6 : out0_6 x0 x1 x2 x3 = k0_pay1 (k0_pay4 (k0_pay8 x0 x1 x2 x3) (View.ld x2 r0_8)) := by unfold out0_6; frame_out
  have e7 : out0_7 x0 x1 x2 x3 = k0_pay2 (k0_pay5 (k0_pay8 x0 x1 x2 x3) (View.ld x3 r0_8)) := by unfold out0_7; frame_out
  rw [e4, e5, e6, e7]
  intro (y : S1x16x384.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, Fin.sum_univ_eight, Adam.delta, Adam.newM, Adam.newV]

open Cert.AConvRefIdeal.Read in
theorem ref (x0 : Vec Ideal S8x1x16x384 .f32) (x1 x2 x3 : Vec Ideal S1x16x384 .f32) :
    Adam.IsStep x0 x1 x2 x3 (val_main_v0 (F := Ideal) x0) (val_main_v24 (F := Ideal) x0 x1 x2 x3) (val_main_v5 (F := Ideal) x0 x2) (val_main_v11 (F := Ideal) x0 x3) := by
  intro (y : S1x16x384.Idx)
  have e : val_main_v0 (F := Ideal) x0 y = ∑ k : Fin 8, x0 (ix4 k (y 0) (y 1) (y 2)) :=
    (val_main_v0_apply x0 y).trans ((congrArg (· + ∑ k : Fin 8, x0 (idx_main_v0 y k)) Ideal.ofBits_zero_f32).trans
      ((zero_add _).trans (Finset.sum_congr rfl fun k _ => congrArg x0 (show idx_main_v0 y k = ix4 k (y 0) (y 1) (y 2) by blk_ext []))))
  rw [← e]
  exact ⟨rfl, rfl, rfl, rfl⟩

theorem equal : algebraic_AConvIdeal_AConvRefIdeal := by
  refine fun m g m' g' _ ha => ⟨_, _, _, _, (θ_run defs _ _).mono (fun r h c => ?_) (Value.run_blocks m g), Cert.AConvRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.AConvIdeal.Hand

/-! ## The gradients of the small weights, packed. -/

namespace Cert.ASmallIdeal.Hand
open Cert.ASmallIdeal Cert.ASmallIdeal.Gen

theorem idx : ∀ t : Fin cfg0.N, win0_0.index t = ![0, win0_4.index t 0, win0_4.index t 1, win0_4.index t 2] ∧ win0_1.index t = win0_4.index t
    ∧ win0_2.index t = win0_4.index t ∧ win0_3.index t = win0_4.index t ∧ win0_5.index t = win0_4.index t ∧ win0_6.index t = win0_4.index t
    ∧ win0_7.index t = win0_4.index t :=
  (by decide +kernel : ∀ t : Fin grid0.N, _)

theorem tile (x0 : Vec Ideal S8x1x56x1024 .f32) (x1 x2 x3 : Vec Ideal S1x56x1024 .f32) :
    Adam.IsStep x0 x1 x2 x3 (out0_4 x0 x1 x2 x3) (out0_5 x0 x1 x2 x3) (out0_6 x0 x1 x2 x3) (out0_7 x0 x1 x2 x3) := by
  have e4 : out0_4 x0 x1 x2 x3 = k0_pay6 (k0_pay8 x0 x1 x2 x3) := by unfold out0_4; frame_out
  have e5 : out0_5 x0 x1 x2 x3 = k0_pay7 (k0_pay8 x0 x1 x2 x3) (View.ld x2 r0_8) (View.ld x3 r0_8) (View.ld x1 r0_8) := by unfold out0_5; frame_out
  have e6 : out0_6 x0 x1 x2 x3 = k0_pay1 (k0_pay4 (k0_pay8 x0 x1 x2 x3) (View.ld x2 r0_8)) := by unfold out0_6; frame_out
  have e7 : out0_7 x0 x1 x2 x3 = k0_pay2 (k0_pay5 (k0_pay8 x0 x1 x2 x3) (View.ld x3 r0_8)) := by unfold out0_7; frame_out
  rw [e4, e5, e6, e7]
  intro (y : S1x56x1024.Idx)
  idx_vars y
  obtain rfl : y0 = 0 := Subsingleton.elim _ _
  refine ⟨?_, ?_, ?_, ?_⟩ <;> pointwise [k0_pay1, k0_pay2, k0_pay3, k0_pay4, k0_pay5, k0_pay6, k0_pay7, k0_pay8, Fin.sum_univ_eight, Adam.delta, Adam.newM, Adam.newV]

open Cert.ASmallRefIdeal.Read in
theorem ref (x0 : Vec Ideal S8x1x56x1024 .f32) (x1 x2 x3 : Vec Ideal S1x56x1024 .f32) :
    Adam.IsStep x0 x1 x2 x3 (val_main_v0 (F := Ideal) x0) (val_main_v24 (F := Ideal) x0 x1 x2 x3) (val_main_v5 (F := Ideal) x0 x2) (val_main_v11 (F := Ideal) x0 x3) := by
  intro (y : S1x56x1024.Idx)
  have e : val_main_v0 (F := Ideal) x0 y = ∑ k : Fin 8, x0 (ix4 k (y 0) (y 1) (y 2)) :=
    (val_main_v0_apply x0 y).trans ((congrArg (· + ∑ k : Fin 8, x0 (idx_main_v0 y k)) Ideal.ofBits_zero_f32).trans
      ((zero_add _).trans (Finset.sum_congr rfl fun k _ => congrArg x0 (show idx_main_v0 y k = ix4 k (y 0) (y 1) (y 2) by blk_ext []))))
  rw [← e]
  exact ⟨rfl, rfl, rfl, rfl⟩

theorem equal : algebraic_ASmallIdeal_ASmallRefIdeal := by
  refine fun m g m' g' _ ha => ⟨_, _, _, _, (θ_run defs _ _).mono (fun r h c => ?_) (Value.run_blocks m g), Cert.ASmallRefIdeal.Value.run m' g'⟩
  obtain ⟨h4, h5, h6, h7, hk⟩ := h c
  obtain ⟨a0, a1, a2, a3⟩ := ha c
  rw [a0, a1, a2, a3]
  have B := fun t : Fin cfg0.N => (ref (m ((c : Thread nD τ).loc main_arg0)) (m ((c : Thread nD τ).loc main_arg1)) (m ((c : Thread nD τ).loc main_arg2)) (m ((c : Thread nD τ).loc main_arg3))).block
    (tile (iblk m c 0 t) (iblk m c 1 t) (iblk m c 2 t) (iblk m c 3 t)) (win0_4.blk t).view.emb
    (fun y k => by blk_ext [Gen.iblk, Gen.V, (idx t).1]) (fun y => by blk_ext [Gen.iblk, Gen.V, (idx t).2.1])
    (fun y => by blk_ext [Gen.iblk, Gen.V, (idx t).2.2.1]) (fun y => by blk_ext [Gen.iblk, Gen.V, (idx t).2.2.2.1])
  refine ⟨h4.trans ((dats m 0 c).arrAt_eq_of_cover 4 _ (fun t _ => ?_) (Pipeline.Window.Covers.cover (w := win0_4) (by decide +kernel) (Memref.isWhole_whole _))),
    h5.trans ((dats m 0 c).arrAt_eq_of_cover 5 _ (fun t _ => ?_) (Pipeline.Window.Covers.cover (w := win0_5) (by decide +kernel) (Memref.isWhole_whole _))),
    h6.trans ((dats m 0 c).arrAt_eq_of_cover 6 _ (fun t _ => ?_) (Pipeline.Window.Covers.cover (w := win0_6) (by decide +kernel) (Memref.isWhole_whole _))),
    h7.trans ((dats m 0 c).arrAt_eq_of_cover 7 _ (fun t _ => ?_) (Pipeline.Window.Covers.cover (w := win0_7) (by decide +kernel) (Memref.isWhole_whole _))), hk⟩
  all_goals obtain ⟨-, -, -, -, w5, w6, w7⟩ := idx t
  · rw [Value.flushed4]; funext y; exact (B t y).1
  · rw [Value.flushed5]; funext y; exact (B t y).2.1.trans (congrArg _ (by blk_ext [w5]))
  · rw [Value.flushed6]; funext y; exact (B t y).2.2.1.trans (congrArg _ (by blk_ext [w6]))
  · rw [Value.flushed7]; funext y; exact (B t y).2.2.2.trans (congrArg _ (by blk_ext [w7]))

end Cert.ASmallIdeal.Hand

end
-- ==== Proof.Gates.lean ====
module

public import proofs.«01_k».proof.Proof.Gen.FMergeIdeal.Value
public import proofs.«01_k».proof.Proof.Gen.FMergeRefIdeal.Read
public import proofs.«01_k».proof.Proof.Gen.FSwigluIdeal.Value
public import proofs.«01_k».proof.Proof.Gen.FSwigluRefIdeal.Read
public import proofs.«01_k».proof.Proof.Gen.ESwigluIdeal.Value
public import proofs.«01_k».proof.Proof.Gen.ESwigluRefIdeal.Read
public import proofs.«01_k».proof.Proof.Gen.EMergeIdeal.Value
public import proofs.«01_k».proof.Proof.Gen.EMergeRefIdeal.Read
public import proofs.«01_k».proof.Proof.Finite
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The calls that are one formula per element: the gated merge of the two branches and the feed-forward's gate, forward and
    backward. `tile` and `ref` read a block's element and the reference's, `idx` says which blocks go together, `final`
    that the arrays are the reference's, `equal` the claim. -/

@[expose] public section

noncomputable section

open Idealize.ShloMosaic Idealize.ShloMosaic.TcCoe Idealize.SL.Sem

namespace Cert.Rows

/-- A block that lies inside its array is read whole. -/
theorem fill_apply {sig : RefSig} {G : Pipeline.Grid} (w : Pipeline.Window sig G) (i : G.Coords) (h : ∀ a, w.clip i a = none) {α : Type}
    (d : w.block.Idx → α) (g : (w.xblock i).Idx → α) (j : w.block.Idx) :
    w.fill i d g j = g (fun a => ⟨(j a).val, by have := (j a).isLt; show _ < w.xsize i a; unfold Pipeline.Window.xsize; rw [h a]; exact this⟩) := by
  have hm : w.moved i j = true := (w.moved_iff _ j).mpr fun a => by have := (j a).isLt; unfold Pipeline.Window.xsize; rw [h a]; exact this
  unfold Pipeline.Window.fill; rw [dif_pos hm]

end Cert.Rows

/-! ## The gated merge. -/

namespace Cert.FMergeIdeal.Hand
open Cert.FMergeIdeal Cert.FMergeIdeal.Gen

theorem tile (x0 x1 x2 x3 : Vec Ideal S256x1024 .f32) (y : S256x1024.Idx) :
    k0_pay1 x0 x1 x2 x3 y = Ideal.logistic (x0 y) * x2 y + Ideal.logistic (x1 y) * x3 y := by
  pointwise [k0_pay1]

open Cert.FMergeRefIdeal.Read in
theorem ref (x0 : Vec Ideal S4096x10368 .f32) (x1 x2 : Vec Ideal S4096x1024 .f32) (y : S4096x1024.Idx) :
    val_main_v17 (F := Ideal) x0 x1 x2 y = Ideal.logistic (x0 (ix2 (y 0) ⟨2048 + (y 1).val, by have : (y 1).val < 1024 := (y 1).isLt; omega⟩)) * x1 y
      + Ideal.logistic (x0 (ix2 (y 0) ⟨3072 + (y 1).val, by have : (y 1).val < 1024 := (y 1).isLt; omega⟩)) * x2 y := by
  idx_vars y
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, val_main_cst_2, Ideal.logistic]

theorem idx : ∀ t : Fin cfg0.N, win0_0.index t = ![win0_4.index t 0, 2] ∧ win0_1.index t = ![win0_4.index t 0, 3] ∧ win0_2.index t = win0_4.index t
    ∧ win0_3.index t = win0_4.index t ∧ win0_4.index t 1 = 0 :=
  (by decide +kernel : ∀ t : Fin grid0.N, _)

theorem clip : ∀ (t : Fin cfg0.N) (a : Fin 2), win0_0.clip (grid0.coords t) a = none ∧ win0_1.clip (grid0.coords t) a = none :=
  (by decide +kernel : ∀ (t : Fin grid0.N) (a : Fin 2), _)

variable (m : (ℓ : Loc nD τ sig) → Buf (Elt Ideal) ℓ)

theorem out (c : Dev nD) (t : Fin cfg0.N) : outsAt0 m c t = k0_pay1 (X0_0 m c t) (X0_1 m c t) (iblk m c 2 t) (iblk m c 3 t) := by
  unfold outsAt0
  frame_out

theorem final (c : Dev nD) : (dats m 0 c).arrAt 4 cfg0.N = Cert.FMergeRefIdeal.Read.val_main_v17 (F := Ideal) (m ((c : Thread nD τ).loc main_arg0))
    (m ((c : Thread nD τ).loc main_arg1)) (m ((c : Thread nD τ).loc main_arg2)) := by
  refine (dats m 0 c).arrAt_eq_of_cover 4 _ (fun t hf => ?_) (Pipeline.Window.Covers.cover (w := win0_4) (by decide +kernel) (Memref.isWhole_whole _))
  rw [Value.flushed4, out]; funext y
  refine (tile _ _ _ _ _).trans (Eq.trans ?_ (ref _ _ _ _).symm)
  obtain ⟨e0, e1, e2, e3, e4⟩ := idx t
  refine congrArg₂ (· + ·) (congrArg₂ (· * ·) (congrArg Ideal.logistic ?_) ?_) (congrArg₂ (· * ·) (congrArg Ideal.logistic ?_) ?_)
  · rw [X0_0, Rows.fill_apply _ _ (fun a => (clip t a).1)]; blk_ext [Gen.iblk, Gen.V, e0, e4]
  · blk_ext [Gen.iblk, Gen.V, e2]
  · rw [X0_1, Rows.fill_apply _ _ (fun a => (clip t a).2)]; blk_ext [Gen.iblk, Gen.V, e1, e4]
  · blk_ext [Gen.iblk, Gen.V, e3]

theorem equal : algebraic_FMergeIdeal_FMergeRefIdeal := by
  refine fun m g m' g' _ ha => ⟨fun c => Cert.FMergeRefIdeal.Read.val_main_v17 (F := Ideal) (m ((c : Thread nD τ).loc main_arg0)) (m ((c : Thread nD τ).loc main_arg1)) (m ((c : Thread nD τ).loc main_arg2)),
    (θ_run defs _ _).mono (fun r h c => ⟨(h c).1.trans (final m c), (h c).2⟩) (Value.run_blocks m g),
    (θ_run Cert.FMergeRefIdeal.defs _ _).mono (fun r h c => ⟨(h c).1.trans ?_, (h c).2⟩) (Cert.FMergeRefIdeal.Value.run m' g')⟩
  rw [(ha c).1, (ha c).2.1, (ha c).2.2]; rfl

end Cert.FMergeIdeal.Hand

namespace Cert.FSwigluIdeal.Hand
open Cert.FSwigluIdeal Cert.FSwigluIdeal.Gen

open Cert.FSwigluRefIdeal.Read in
theorem final (x0 : Vec Ideal S4096x5632 .f32)  :
   Value.G2 x0 x0 = val_main_v4 (F := Ideal) x0 := by
  funext y
  have e0 : Value.inIdx2_0 y = ix2 (y 0) ⟨(y 1).val, by have : (y 1).val < 2816 := (y 1).isLt; omega⟩ := by blk_ext []
  have e1 : Value.inIdx2_1 y = ix2 (y 0) ⟨2816 + (y 1).val, by have : (y 1).val < 2816 := (y 1).isLt; omega⟩ := by blk_ext []
  idx_vars y; pointwise [Value.G2, e0, e1, val_main_v4, val_main_v3, val_main_v2, val_main_v1, val_main_v0, val_main_call0_v0, val_main_call0_v1, val_main_call0_cst, val_main_call0_v2, val_main_call0_v3, val_main_call0_cst_0, val_main_call0_v4, val_main_call0_v5, Ideal.logistic]

theorem equal : algebraic_FSwigluIdeal_FSwigluRefIdeal := by
  refine fun m g m' g' _ ha => ⟨fun c => Cert.FSwigluRefIdeal.Read.val_main_v4 (F := Ideal) (m ((c : Thread nD τ).loc main_arg0)),
    (θ_run defs _ _).mono (fun r h c => ⟨(h c).1.trans (final _), (h c).2⟩) (Value.run m g),
    (θ_run Cert.FSwigluRefIdeal.defs _ _).mono (fun r h c => ⟨(h c).1.trans ?_, (h c).2⟩) (Cert.FSwigluRefIdeal.Value.run m' g')⟩
  rw [ha c]; rfl

end Cert.FSwigluIdeal.Hand

/-! ## The feed-forward's gate, backward. -/

namespace Cert.ESwigluIdeal.Hand
open Cert.ESwigluIdeal Cert.ESwigluIdeal.Gen

/-- The kernel's product is the reference's sum, whatever the gate is. -/
theorem gate (a x : EReal) (ha : a = (a.toReal : EReal)) :
    a * (Ideal.logistic x * (1 + x * (1 - Ideal.logistic x))) = a * Ideal.logistic x + x * a * (Ideal.logistic x * (1 - Ideal.logistic x)) := by
  rw [ha]
  have h : (1 : EReal) - 1 = 0 := by rw [← EReal.coe_one, ← EReal.coe_sub, sub_self, EReal.coe_zero]
  induction x with
  | bot => simp
  | top => simp [h]
  | coe x =>
    rw [Ideal.logistic_coe]
    norm_cast
    ring

variable (x0 x1 : Vec Ideal S256x2816 .f32) (x2 : Vec Ideal S256x2816 .bf16) (r : Fin 256) (k : Fin 2816)

theorem tile_gate : k0_pay1 x0 x1 x2 (ix2 r ⟨k.val, by omega⟩) = x2 (ix2 r k) * x1 (ix2 r k)
    * (Ideal.logistic (x0 (ix2 r k)) * (1 + x0 (ix2 r k) * (1 - Ideal.logistic (x0 (ix2 r k))))) := by
  pointwise [k0_pay1]

theorem tile_up : k0_pay1 x0 x1 x2 (ix2 r ⟨2816 + k.val, by omega⟩) = x2 (ix2 r k) * (x0 (ix2 r k) * Ideal.logistic (x0 (ix2 r k))) := by
  pointwise [k0_pay1]

variable (z0 : Vec Ideal S4096x5632 .f32) (z1 : Vec Ideal S4096x2816 .bf16) (i : Fin 4096)

open Cert.ESwigluRefIdeal.Read in
theorem ref_gate : val_main_v9 (F := Ideal) z0 z1 (ix2 i ⟨k.val, by omega⟩)
    = z1 (ix2 i k) * z0 (ix2 i ⟨2816 + k.val, by omega⟩) * Ideal.logistic (z0 (ix2 i ⟨k.val, by omega⟩))
      + z0 (ix2 i ⟨k.val, by omega⟩) * (z1 (ix2 i k) * z0 (ix2 i ⟨2816 + k.val, by omega⟩))
        * (Ideal.logistic (z0 (ix2 i ⟨k.val, by omega⟩)) * (1 - Ideal.logistic (z0 (ix2 i ⟨k.val, by omega⟩)))) := by
  pointwise [val_main_v9, val_main_v8, val_main_v7, val_main_call1_v0, val_main_call1_v1, val_main_call1_v2, val_main_v6, val_main_v5, val_main_v4, val_main_v2_0, val_main_v2_1,
    val_main_v2_2, val_main_call0_v0, val_main_call0_v1, val_main_call0_cst, val_main_call0_v2, val_main_call0_v3, val_main_call0_cst_0, val_main_call0_v4, val_main_call0_cst_1,
    val_main_call0_v6, val_main_call0_v7, val_main_v1, val_main_v0, Ideal.logistic]

open Cert.ESwigluRefIdeal.Read in
theorem ref_up : val_main_v9 (F := Ideal) z0 z1 (ix2 i ⟨2816 + k.val, by omega⟩)
    = z0 (ix2 i ⟨k.val, by omega⟩) * Ideal.logistic (z0 (ix2 i ⟨k.val, by omega⟩)) * z1 (ix2 i k) := by
  pointwise [val_main_v9, val_main_v8, val_main_v7, val_main_call1_v0, val_main_call1_v1, val_main_call1_v2, val_main_v6, val_main_v5, val_main_v4, val_main_v2_0, val_main_v2_1,
    val_main_v2_2, val_main_call0_v0, val_main_call0_v1, val_main_call0_cst, val_main_call0_v2, val_main_call0_v3, val_main_call0_cst_0, val_main_call0_v4, val_main_call0_cst_1,
    val_main_call0_v6, val_main_call0_v7, val_main_v1, val_main_v0, Ideal.logistic]

theorem idx : ∀ t : Fin cfg0.N, win0_0.index t = ![win0_3.index t 0, 0] ∧ win0_1.index t = ![win0_3.index t 0, 1] ∧ win0_2.index t = ![win0_3.index t 0, 0] ∧ win0_3.index t 1 = 0
    ∧ win0_3.index t 0 < 16 :=
  (by decide +kernel : ∀ t : Fin grid0.N, _)

/-- The precondition's side conditions. -/
theorem finite_facts : Cert.Pre_finite_gate.Facts where
  bitsLt_bf16_f32 := by decide
  slices_S4096x5632_S4096x2816_0_2816 := by decide
  bcast_S_S4096x2816 := by decide

variable (m : (ℓ : Loc nD τ sig) → Buf (Elt Ideal) ℓ)

/-- The precondition, at one element: the product is a real number. -/
theorem real (hp : letI := finite_facts; Cert.Pre_ESwigluIdeal_finite_gate m) (c : Dev nD) (x : Vec Ideal S4096x5632 .f32) (x' : Vec Ideal S4096x2816 .bf16)
    (hx : x = m ((c : Thread nD τ).loc main_arg0)) (hx' : x' = m ((c : Thread nD τ).loc main_arg1)) :
    x' (ix2 i k) * x (ix2 i ⟨2816 + k.val, by omega⟩) = ((x' (ix2 i k) * x (ix2 i ⟨2816 + k.val, by omega⟩) : EReal).toReal : EReal) := by
  letI := finite_facts
  have h := congrFun (hp c) (ix2 i k)
  rw [← hx, ← hx'] at h
  pointwise [Cert.Pre_finite_gate.fn] at h
  exact Cert.KernelIdeal.Hand.real_of_lt _ (Cert.KernelIdeal.Hand.of_bit h)

theorem final (hp : letI := finite_facts; Cert.Pre_ESwigluIdeal_finite_gate m) (c : Dev nD) : (dats m 0 c).arrAt 3 cfg0.N
    = Cert.ESwigluRefIdeal.Read.val_main_v9 (F := Ideal) (m ((c : Thread nD τ).loc main_arg0)) (m ((c : Thread nD τ).loc main_arg1)) := by
  refine (dats m 0 c).arrAt_eq_of_cover 3 _ (fun t hf => ?_) (Pipeline.Window.Covers.cover (w := win0_3) (by decide +kernel) (Memref.isWhole_whole _))
  have ho : ∀ x0 x1 x2, out0_3 (F := Ideal) x0 x1 x2 = k0_pay1 x0 x1 x2 := by intros; unfold out0_3; frame_out
  rw [Value.flushed3, ho]; funext (y : S256x5632.Idx)
  obtain ⟨e0, e1, e2, e3, e4⟩ := idx t
  have hr : win0_3.index t 0 * 256 + (y 0).val < 4096 := by have : (y 0).val < 256 := (y 0).isLt; omega
  have key : ∀ k : Fin 2816,
      iblk m c 0 t (ix2 (y 0) k) = m ((c : Thread nD τ).loc main_arg0) (ix2 ⟨_, hr⟩ ⟨k.val, by omega⟩)
      ∧ iblk m c 1 t (ix2 (y 0) k) = m ((c : Thread nD τ).loc main_arg0) (ix2 ⟨_, hr⟩ ⟨2816 + k.val, by omega⟩)
      ∧ iblk m c 2 t (ix2 (y 0) k) = m ((c : Thread nD τ).loc main_arg1) (ix2 ⟨_, hr⟩ k) := by
    refine fun k => ⟨?_, ?_, ?_⟩
    · blk_ext [Gen.iblk, Gen.V, e0]
    · blk_ext [Gen.iblk, Gen.V, e1]
    · blk_ext [Gen.iblk, Gen.V, e2]
  have put : ∀ k : Fin 5632, (y 1).val = k.val → k0_pay1 (iblk m c 0 t) (iblk m c 1 t) (iblk m c 2 t) (ix2 (y 0) k)
      = Cert.ESwigluRefIdeal.Read.val_main_v9 (F := Ideal) (m ((c : Thread nD τ).loc main_arg0)) (m ((c : Thread nD τ).loc main_arg1)) (ix2 ⟨_, hr⟩ k) →
      (cfg0.win 3).cut (grid0.coords t) (k0_pay1 (iblk m c 0 t) (iblk m c 1 t) (iblk m c 2 t)) y
      = View.read (Elt Ideal) ((cfg0.win 3).blk t).view (Cert.ESwigluRefIdeal.Read.val_main_v9 (F := Ideal) (m ((c : Thread nD τ).loc main_arg0)) (m ((c : Thread nD τ).loc main_arg1))) y := by
    intro k hk h
    refine Eq.trans (congrArg _ ?_) (h.trans (congrArg _ ?_))
    · blk_ext [hk]
    · blk_ext [hk, e3]
  have h1 : (y 1).val < 5632 := (y 1).isLt
  by_cases h : (y 1).val < 2816
  · refine put ⟨_, h1⟩ rfl ((tile_gate _ _ _ _ ⟨_, h⟩).trans (Eq.trans ?_ (ref_gate ⟨_, h⟩ _ _ _).symm))
    obtain ⟨k0, k1, k2⟩ := key ⟨_, h⟩
    rw [k0, k1, k2]
    exact gate _ _ (real _ _ m hp c _ _ rfl rfl)
  · have hk : (y 1).val - 2816 < 2816 := by omega
    obtain ⟨k0, k1, k2⟩ := key ⟨_, hk⟩
    refine put ⟨2816 + ((y 1).val - 2816), by omega⟩ (by show (y 1).val = 2816 + ((y 1).val - 2816); omega) ((tile_up _ _ _ _ ⟨_, hk⟩).trans (Eq.trans ?_ (ref_up ⟨_, hk⟩ _ _ _).symm))
    rw [k0, k2]
    exact mul_comm _ _

theorem equal_pre_finite_gate : letI := finite_facts; algebraic_ESwigluIdeal_ESwigluRefIdeal_pre_finite_gate := by
  refine fun m g m' g' hp ha => ⟨fun c => Cert.ESwigluRefIdeal.Read.val_main_v9 (F := Ideal) (m ((c : Thread nD τ).loc main_arg0)) (m ((c : Thread nD τ).loc main_arg1)),
    (θ_run defs _ _).mono (fun r h c => ⟨(h c).1.trans (final m hp c), (h c).2⟩) (Value.run_blocks m g),
    (θ_run Cert.ESwigluRefIdeal.defs _ _).mono (fun r h c => ⟨(h c).1.trans ?_, (h c).2⟩) (Cert.ESwigluRefIdeal.Value.run m' g')⟩
  rw [(ha c).1, (ha c).2]; rfl

end Cert.ESwigluIdeal.Hand

/-! ## The gated merge, backward. -/

namespace Cert.EMergeIdeal.Hand
open Cert.EMergeIdeal Cert.EMergeIdeal.Gen

variable (x0 x1 x2 x3 : Vec Ideal S256x1024 .f32) (x4 : Vec Ideal S256x1024 .bf16) (r : Fin 256) (k : Fin 1024)

theorem tile_att : k0_pay4 x0 x1 x2 x3 x4 (ix2 r ⟨k.val, by omega⟩) = x4 (ix2 r k) * x2 (ix2 r k) * (Ideal.logistic (x0 (ix2 r k)) * (1 - Ideal.logistic (x0 (ix2 r k)))) := by
  pointwise [k0_pay4, k0_pay1, k0_pay2, k0_pay3]; exact mul_assoc _ _ _

theorem tile_ssm : k0_pay4 x0 x1 x2 x3 x4 (ix2 r ⟨1024 + k.val, by omega⟩) = x4 (ix2 r k) * x3 (ix2 r k) * (Ideal.logistic (x1 (ix2 r k)) * (1 - Ideal.logistic (x1 (ix2 r k)))) := by
  pointwise [k0_pay4, k0_pay1, k0_pay2, k0_pay3]; exact mul_assoc _ _ _

theorem tile_branch (y : S256x1024.Idx) : k0_pay5 x0 x4 y = Ideal.logistic (x0 y) * x4 y ∧ k0_pay6 x1 x4 y = Ideal.logistic (x1 y) * x4 y := by
  constructor <;> pointwise [k0_pay5, k0_pay6, k0_pay1, k0_pay2, k0_pay3] <;> exact mul_comm _ _

variable (z0 : Vec Ideal S4096x10368 .f32) (z1 z2 : Vec Ideal S4096x1024 .f32) (z3 : Vec Ideal S4096x1024 .bf16) (i : Fin 4096)

open Cert.EMergeRefIdeal.Read in
theorem ref_att : val_main_v31 (F := Ideal) z0 z1 z2 z3 (ix2 i ⟨k.val, by omega⟩) = z3 (ix2 i k) * z1 (ix2 i k)
    * (Ideal.logistic (z0 (ix2 i ⟨2048 + k.val, by omega⟩)) * (1 - Ideal.logistic (z0 (ix2 i ⟨2048 + k.val, by omega⟩)))) := by
  pointwise [val_main_v33, val_main_v32, val_main_v31, val_main_v30, val_main_v29, val_main_v28, val_main_v27, val_main_v26, val_main_v25, val_main_v24, val_main_v23, val_main_v20, val_main_v19, val_main_v18,
    val_main_v17, val_main_v16, val_main_v15, val_main_v14, val_main_v13, val_main_v12, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, Ideal.logistic]

open Cert.EMergeRefIdeal.Read in
theorem ref_ssm : val_main_v31 (F := Ideal) z0 z1 z2 z3 (ix2 i ⟨1024 + k.val, by omega⟩) = z3 (ix2 i k) * z2 (ix2 i k)
    * (Ideal.logistic (z0 (ix2 i ⟨3072 + k.val, by omega⟩)) * (1 - Ideal.logistic (z0 (ix2 i ⟨3072 + k.val, by omega⟩)))) := by
  pointwise [val_main_v33, val_main_v32, val_main_v31, val_main_v30, val_main_v29, val_main_v28, val_main_v27, val_main_v26, val_main_v25, val_main_v24, val_main_v23, val_main_v20, val_main_v19, val_main_v18,
    val_main_v17, val_main_v16, val_main_v15, val_main_v14, val_main_v13, val_main_v12, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, Ideal.logistic]

open Cert.EMergeRefIdeal.Read in
theorem ref_branch : val_main_v32 (F := Ideal) z0 z3 (ix2 i k) = Ideal.logistic (z0 (ix2 i ⟨2048 + k.val, by omega⟩)) * z3 (ix2 i k)
    ∧ val_main_v33 (F := Ideal) z0 z3 (ix2 i k) = Ideal.logistic (z0 (ix2 i ⟨3072 + k.val, by omega⟩)) * z3 (ix2 i k) := by
  constructor <;> pointwise [val_main_v33, val_main_v32, val_main_v31, val_main_v30, val_main_v29, val_main_v28, val_main_v27, val_main_v26, val_main_v25, val_main_v24, val_main_v23, val_main_v20, val_main_v19, val_main_v18,
    val_main_v17, val_main_v16, val_main_v15, val_main_v14, val_main_v13, val_main_v12, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, Ideal.logistic]

theorem idx : ∀ t : Fin cfg0.N, win0_0.index t = ![win0_6.index t 0, 2] ∧ win0_1.index t = ![win0_6.index t 0, 3] ∧ win0_2.index t = win0_6.index t ∧ win0_3.index t = win0_6.index t
    ∧ win0_4.index t = win0_6.index t ∧ win0_5.index t = win0_6.index t ∧ win0_7.index t = win0_6.index t ∧ win0_6.index t 1 = 0 ∧ win0_6.index t 0 < 16 :=
  (by decide +kernel : ∀ t : Fin grid0.N, _)

theorem clip : ∀ (t : Fin cfg0.N) (a : Fin 2), win0_0.clip (grid0.coords t) a = none ∧ win0_1.clip (grid0.coords t) a = none :=
  (by decide +kernel : ∀ (t : Fin grid0.N) (a : Fin 2), _)

variable (m : (ℓ : Loc nD τ sig) → Buf (Elt Ideal) ℓ)

theorem out (c : Dev nD) (t : Fin cfg0.N) : outsAt0 m c t = (k0_pay4 (X0_0 m c t) (X0_1 m c t) (iblk m c 2 t) (iblk m c 3 t) (iblk m c 4 t),
    k0_pay5 (X0_0 m c t) (iblk m c 4 t), k0_pay6 (X0_1 m c t) (iblk m c 4 t)) := by
  unfold outsAt0
  refine Prod.ext ?_ (Prod.ext ?_ ?_) <;> dsimp only <;> frame_out

/-- The blocks of a point, as rows of the arrays. -/
theorem rows (c : Dev nD) (t : Fin cfg0.N) (hr : win0_6.index t 0 * 256 + r.val < 4096) :
    X0_0 m c t (ix2 r k) = m ((c : Thread nD τ).loc main_arg0) (ix2 ⟨_, hr⟩ ⟨2048 + k.val, by omega⟩)
    ∧ X0_1 m c t (ix2 r k) = m ((c : Thread nD τ).loc main_arg0) (ix2 ⟨_, hr⟩ ⟨3072 + k.val, by omega⟩)
    ∧ iblk m c 2 t (ix2 r k) = m ((c : Thread nD τ).loc main_arg1) (ix2 ⟨_, hr⟩ k)
    ∧ iblk m c 3 t (ix2 r k) = m ((c : Thread nD τ).loc main_arg2) (ix2 ⟨_, hr⟩ k)
    ∧ iblk m c 4 t (ix2 r k) = m ((c : Thread nD τ).loc main_arg3) (ix2 ⟨_, hr⟩ k) := by
  obtain ⟨e0, e1, e2, e3, e4, e5, e7, e6, _⟩ := idx t
  refine ⟨?_, ?_, ?_, ?_, ?_⟩
  · rw [X0_0, Rows.fill_apply _ _ (fun a => (clip t a).1)]; blk_ext [Gen.iblk, Gen.V, e0]
  · rw [X0_1, Rows.fill_apply _ _ (fun a => (clip t a).2)]; blk_ext [Gen.iblk, Gen.V, e1]
  · blk_ext [Gen.iblk, Gen.V, e2, e6]
  · blk_ext [Gen.iblk, Gen.V, e3, e6]
  · blk_ext [Gen.iblk, Gen.V, e4, e6]

theorem finals (c : Dev nD) :
    (dats m 0 c).arrAt 5 cfg0.N = Cert.EMergeRefIdeal.Read.val_main_v31 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = Cert.EMergeRefIdeal.Read.val_main_v32 (F := Ideal) (m ((c : Thread nD τ).loc main_arg0)) (m ((c : Thread nD τ).loc main_arg3))
    ∧ (dats m 0 c).arrAt 7 cfg0.N = Cert.EMergeRefIdeal.Read.val_main_v33 (F := Ideal) (m ((c : Thread nD τ).loc main_arg0)) (m ((c : Thread nD τ).loc main_arg3)) := by
  refine ⟨(dats m 0 c).arrAt_eq_of_cover 5 _ (fun t hf => ?_) (Pipeline.Window.Covers.cover (w := win0_5) (by decide +kernel) (Memref.isWhole_whole _)),
    (dats m 0 c).arrAt_eq_of_cover 6 _ (fun t hf => ?_) (Pipeline.Window.Covers.cover (w := win0_6) (by decide +kernel) (Memref.isWhole_whole _)),
    (dats m 0 c).arrAt_eq_of_cover 7 _ (fun t hf => ?_) (Pipeline.Window.Covers.cover (w := win0_7) (by decide +kernel) (Memref.isWhole_whole _))⟩
  all_goals obtain ⟨e0, e1, e2, e3, e4, e5, e7, e6, e8⟩ := idx t
  · rw [Value.flushed5, out]; funext (y : S256x2048.Idx)
    have hr : win0_6.index t 0 * 256 + (y 0).val < 4096 := by have : (y 0).val < 256 := (y 0).isLt; omega
    have h1 : (y 1).val < 2048 := (y 1).isLt
    have put : ∀ k : Fin 2048, (y 1).val = k.val → k0_pay4 (X0_0 m c t) (X0_1 m c t) (iblk m c 2 t) (iblk m c 3 t) (iblk m c 4 t) (ix2 (y 0) k)
        = Cert.EMergeRefIdeal.Read.val_main_v31 (F := Ideal) (m ((c : Thread nD τ).loc main_arg0)) (m ((c : Thread nD τ).loc main_arg1)) (m ((c : Thread nD τ).loc main_arg2)) (m ((c : Thread nD τ).loc main_arg3)) (ix2 ⟨_, hr⟩ k) →
        (cfg0.win 5).cut (grid0.coords t) (k0_pay4 (X0_0 m c t) (X0_1 m c t) (iblk m c 2 t) (iblk m c 3 t) (iblk m c 4 t)) y
        = View.read (Elt Ideal) ((cfg0.win 5).blk t).view (Cert.EMergeRefIdeal.Read.val_main_v31 (F := Ideal) (m ((c : Thread nD τ).loc main_arg0)) (m ((c : Thread nD τ).loc main_arg1)) (m ((c : Thread nD τ).loc main_arg2)) (m ((c : Thread nD τ).loc main_arg3))) y := by
      intro k hk h
      refine Eq.trans (congrArg _ ?_) (h.trans (congrArg _ ?_))
      · blk_ext [hk]
      · blk_ext [hk, e5, e6]
    by_cases h : (y 1).val < 1024
    · refine put ⟨_, h1⟩ rfl ((tile_att _ _ _ _ _ _ ⟨_, h⟩).trans (Eq.trans ?_ (ref_att ⟨_, h⟩ _ _ _ _ _).symm))
      obtain ⟨k0, k1, k2, k3, k4⟩ := rows (y 0) ⟨_, h⟩ m c t hr
      rw [k0, k2, k4]
    · have hk : (y 1).val - 1024 < 1024 := by omega
      refine put ⟨1024 + ((y 1).val - 1024), by omega⟩ (by show (y 1).val = 1024 + ((y 1).val - 1024); omega) ((tile_ssm _ _ _ _ _ _ ⟨_, hk⟩).trans (Eq.trans ?_ (ref_ssm ⟨_, hk⟩ _ _ _ _ _).symm))
      obtain ⟨k0, k1, k2, k3, k4⟩ := rows (y 0) ⟨_, hk⟩ m c t hr
      rw [k1, k3, k4]
  · rw [Value.flushed6, out]; funext (y : S256x1024.Idx)
    have hr : win0_6.index t 0 * 256 + (y 0).val < 4096 := by have : (y 0).val < 256 := (y 0).isLt; omega
    obtain ⟨k0, k1, k2, k3, k4⟩ := rows (y 0) (y 1) m c t hr
    have h : k0_pay5 (X0_0 m c t) (iblk m c 4 t) (ix2 (y 0) (y 1)) = Cert.EMergeRefIdeal.Read.val_main_v32 (F := Ideal) (m ((c : Thread nD τ).loc main_arg0)) (m ((c : Thread nD τ).loc main_arg3)) (ix2 ⟨_, hr⟩ (y 1)) := by
      refine (tile_branch _ (X0_1 m c t) _ _).1.trans (Eq.trans ?_ (ref_branch _ _ _ _).1.symm)
      rw [k0, k4]
    refine Eq.trans (congrArg _ ?_) (h.trans (congrArg _ ?_))
    · blk_ext []
    · blk_ext [e6]
  · rw [Value.flushed7, out]; funext (y : S256x1024.Idx)
    have hr : win0_6.index t 0 * 256 + (y 0).val < 4096 := by have : (y 0).val < 256 := (y 0).isLt; omega
    obtain ⟨k0, k1, k2, k3, k4⟩ := rows (y 0) (y 1) m c t hr
    have h : k0_pay6 (X0_1 m c t) (iblk m c 4 t) (ix2 (y 0) (y 1)) = Cert.EMergeRefIdeal.Read.val_main_v33 (F := Ideal) (m ((c : Thread nD τ).loc main_arg0)) (m ((c : Thread nD τ).loc main_arg3)) (ix2 ⟨_, hr⟩ (y 1)) := by
      refine (tile_branch (X0_0 m c t) _ _ _).2.trans (Eq.trans ?_ (ref_branch _ _ _ _).2.symm)
      rw [k1, k4]
    refine Eq.trans (congrArg _ ?_) (h.trans (congrArg _ ?_))
    · blk_ext []
    · blk_ext [e7, e6]

theorem equal : algebraic_EMergeIdeal_EMergeRefIdeal := by
  refine fun m g m' g' _ ha => ⟨fun c => Cert.EMergeRefIdeal.Read.val_main_v31 (F := Ideal) (m ((c : Thread nD τ).loc main_arg0)) (m ((c : Thread nD τ).loc main_arg1)) (m ((c : Thread nD τ).loc main_arg2)) (m ((c : Thread nD τ).loc main_arg3)),
    fun c => Cert.EMergeRefIdeal.Read.val_main_v32 (F := Ideal) (m ((c : Thread nD τ).loc main_arg0)) (m ((c : Thread nD τ).loc main_arg3)),
    fun c => Cert.EMergeRefIdeal.Read.val_main_v33 (F := Ideal) (m ((c : Thread nD τ).loc main_arg0)) (m ((c : Thread nD τ).loc main_arg3)),
    (θ_run defs _ _).mono (fun r h c => ?_) (Value.run_blocks m g),
    (θ_run Cert.EMergeRefIdeal.defs _ _).mono (fun r h c => ?_) (Cert.EMergeRefIdeal.Value.run m' g')⟩ <;> obtain ⟨h5, h6, h7, hk⟩ := h c
  · obtain ⟨f5, f6, f7⟩ := finals m c
    exact ⟨h5.trans f5, h6.trans f6, h7.trans f7, hk⟩
  · obtain ⟨a0, a1, a2, a3⟩ := ha c
    refine ⟨h5.trans ?_, h6.trans ?_, h7.trans ?_, hk⟩ <;> clear h5 h6 h7 hk
    · rw [a0, a1, a2, a3]; exact Cert.EMergeRefIdeal.Read.val_main_v31_eq _ _ _ _
    · rw [a0, a3]; rfl
    · rw [a0, a3]; rfl

end Cert.EMergeIdeal.Hand

end
-- ==== Proof.InputGradient.lean ====
module

public import proofs.«01_k».proof.Proof.Gen.EPreIdeal.Value
public import proofs.«01_k».proof.Proof.Gen.EPreRefIdeal.Read
public import proofs.«01_k».proof.Defs
public import Idealize.ShloMosaic.Adequacy
public import Idealize.ShloMosaic.Init
public import Idealize.ShloMosaic.Lib.Pointwise
public import Idealize.ShloMosaic.Lib.Pipeline.ValueKit.Acc
public import Idealize.ShloMosaic.Lib.Pipeline.ValueKit.Geometry

/-! The gradient of the step's input through the first layer's norm. Of a row `x` with `A` its mean square plus a small
    constant, `rsqrt A` is a nonnegative real number whatever the row holds (zero if the row holds an infinity), and it
    distributes over sums; so the kernel's `r * (d - x r * mean (d * x r))` and the reference's derivative of
    `x * rsqrt A` agree with no condition on the arrays. -/

@[expose] public section

noncomputable section

open Idealize.ShloMosaic Idealize.ShloMosaic.TcCoe Idealize.SL.Sem

namespace Cert.Norm

theorem width : Ideal.ofBits .f32 0x44800000#32 = ((1024 : ℝ) : EReal) := by
  simp [Ideal.ofBits, Ideal.ieee, -EReal.coe_mul]; norm_num

theorem minusHalf : Ideal.ofBits .f32 0xBF000000#32 = ((-(1 / 2) : ℝ) : EReal) := by
  simp [Ideal.ofBits, Ideal.ieee, -EReal.coe_mul]; norm_num

theorem small : 0 < Ideal.ofBits .f32 0x358637BD#32 := by
  simp [Ideal.ofBits, Ideal.ieee, -EReal.coe_mul]

/-- A positive number's inverse root, and that over the number. -/
theorem root (A : EReal) (h : 0 < A) : ∃ ρ : ℝ, 0 ≤ ρ ∧ Ideal.rsqrt A = ρ ∧ Ideal.div (Ideal.rsqrt A) A = ρ * ρ * ρ := by
  induction A with
  | bot => exact absurd h (by simp)
  | top => exact ⟨0, le_rfl, by simp, by simp [Ideal.div]⟩
  | coe a =>
    have ha : 0 < a := by exact_mod_cast h
    have e : Ideal.rsqrt (a : EReal) = (((Real.sqrt a)⁻¹ : ℝ) : EReal) := by rw [Ideal.rsqrt_coe, if_neg (by linarith), if_neg ha.ne']
    refine ⟨(Real.sqrt a)⁻¹, by positivity, e, ?_⟩
    rw [e, Ideal.div_coe ha.ne']
    norm_cast
    have hs : Real.sqrt a * Real.sqrt a = a := Real.mul_self_sqrt ha.le
    have h0 : Real.sqrt a ≠ 0 := (Real.sqrt_pos.mpr ha).ne'
    rw [mul_assoc, ← mul_inv, hs, one_div]

theorem halves (y : EReal) : y * ((-(1 / 2) : ℝ) : EReal) + y * ((-(1 / 2) : ℝ) : EReal) = -y := by
  induction y with
  | bot => rw [EReal.bot_mul_coe_of_neg (by norm_num)]; rfl
  | top => rw [EReal.top_mul_coe_of_neg (by norm_num)]; rfl
  | coe a => norm_cast; ring

theorem mul_sum {n : ℕ} (ρ : ℝ) (h : 0 ≤ ρ) (f : Fin n → EReal) : (ρ : EReal) * ∑ k, f k = ∑ k, (ρ : EReal) * f k := by
  induction n with
  | zero => simp
  | succ n ih =>
    rw [Fin.sum_univ_succ, Fin.sum_univ_succ, EReal.left_distrib_of_nonneg_of_ne_top (by exact_mod_cast h) (EReal.coe_ne_top _), ih]

/-- The mean square of a row, with the small constant. -/
def square (x : Fin 1024 → EReal) : EReal := Ideal.div (∑ k, x k * x k) (Ideal.ofBits .f32 0x44800000#32) + Ideal.ofBits .f32 0x358637BD#32

theorem square_pos (x : Fin 1024 → EReal) : 0 < square x := by
  refine lt_of_lt_of_le small (le_add_of_nonneg_left ?_)
  rw [width, Ideal.div_coe (by norm_num)]
  refine mul_nonneg (Finset.sum_nonneg fun k _ => ?_) (by norm_num)
  generalize x k = a
  induction a with
  | bot => simp
  | top => simp
  | coe a => exact_mod_cast mul_self_nonneg a

/-- A row's derivative, as the kernel writes it and as the reference does. -/
theorem row (x d : Fin 1024 → EReal) (j : Fin 1024) :
    Ideal.rsqrt (square x) * (d j - x j * Ideal.rsqrt (square x) * Ideal.div (∑ k, d k * (x k * Ideal.rsqrt (square x))) (Ideal.ofBits .f32 0x44800000#32))
    = d j * Ideal.rsqrt (square x) + x j * Ideal.div ((∑ k, x k * d k) * (Ideal.ofBits .f32 0xBF000000#32 * Ideal.div (Ideal.rsqrt (square x)) (square x))) (Ideal.ofBits .f32 0x44800000#32)
      + Ideal.div ((∑ k, x k * d k) * (Ideal.ofBits .f32 0xBF000000#32 * Ideal.div (Ideal.rsqrt (square x)) (square x))) (Ideal.ofBits .f32 0x44800000#32) * x j := by
  obtain ⟨ρ, h0, h1, h2⟩ := root _ (square_pos x)
  rw [h2, h1, width, minusHalf, Ideal.div_coe (by norm_num), Ideal.div_coe (by norm_num)]
  have hs : ∑ k, d k * (x k * (ρ : EReal)) = ρ * ∑ k, x k * d k := by
    rw [mul_sum ρ h0]
    exact Finset.sum_congr rfl fun k _ => by ac_rfl
  rw [hs, sub_eq_add_neg, EReal.left_distrib_of_nonneg_of_ne_top (by exact_mod_cast h0) (EReal.coe_ne_top _), add_assoc, mul_comm (ρ : EReal) (d j)]
  congr 1
  have hy := halves (x j * (∑ k, x k * d k) * (ρ * ρ * ρ) * ((1 / 1024 : ℝ) : EReal))
  rw [mul_neg]
  refine Eq.trans (congrArg _ ?_) (hy.symm.trans (congrArg₂ _ ?_ ?_)) <;> ac_rfl

end Cert.Norm

namespace Cert.EPreIdeal.Hand
open Cert.EPreIdeal Cert.EPreIdeal.Gen

variable (x0 x1 x2 : Vec Ideal S256x1024 .f32) (x3 : Vec Ideal S1x1x1024 .f32) (r : Fin 256) (j : Fin 1024)

theorem tile : k0_pay5 x0 x1 x2 x3 (ix2 r j) = x2 (ix2 r j) + Ideal.rsqrt (Norm.square fun k => x0 (ix2 r k)) * (x1 (ix2 r j) * x3 (ix3 0 0 j)
    - x0 (ix2 r j) * Ideal.rsqrt (Norm.square fun k => x0 (ix2 r k))
      * Ideal.div (∑ k : Fin 1024, x1 (ix2 r k) * x3 (ix3 0 0 k) * (x0 (ix2 r k) * Ideal.rsqrt (Norm.square fun k => x0 (ix2 r k)))) (Ideal.ofBits .f32 0x44800000#32)) := by
  pointwise [k0_pay5, k0_pay3, k0_pay2, Norm.square]

theorem tileGain : k0_pay4 x0 x1 (ix2 (0 : Fin 1) j) = ∑ r : Fin 256, x1 (ix2 r j) * (x0 (ix2 r j) * Ideal.rsqrt (Norm.square fun k => x0 (ix2 r k))) := by
  pointwise [k0_pay4, k0_pay3, k0_pay2, Norm.square]

variable (z0 z1 z2 : Vec Ideal S4096x1024 .f32) (z3 : Vec Ideal S4x1x1024 .f32) (i : Fin 4096)

open Cert.EPreRefIdeal.Read in
theorem ref : val_main_v36 (F := Ideal) z0 z1 z2 z3 (ix2 i j) = z2 (ix2 i j) + Ideal.rsqrt (Norm.square fun k => z0 (ix2 i k)) * (z1 (ix2 i j) * z3 (ix3 0 0 j)
    - z0 (ix2 i j) * Ideal.rsqrt (Norm.square fun k => z0 (ix2 i k))
      * Ideal.div (∑ k : Fin 1024, z1 (ix2 i k) * z3 (ix3 0 0 k) * (z0 (ix2 i k) * Ideal.rsqrt (Norm.square fun k => z0 (ix2 i k)))) (Ideal.ofBits .f32 0x44800000#32)) := by
  rw [Norm.row (fun k => z0 (ix2 i k)) (fun k => z1 (ix2 i k) * z3 (ix3 0 0 k)) j]
  pointwise [val_main_v36, val_main_v35, val_main_v34, val_main_v33, val_main_v32, val_main_v31, val_main_v30, val_main_v29, val_main_v28, val_main_v27, val_main_v26, val_main_v25, val_main_v24,
    val_main_v23, val_main_v22, val_main_v21, val_main_v20, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4, val_main_cst_5, val_main_cst_6, Norm.square]
  simp only [Finset.univ_unique, Finset.sum_singleton]

open Cert.EPreRefIdeal.Read in
theorem refGain : val_main_v19 (F := Ideal) z0 z1 (ix2 (0 : Fin 1) j) = ∑ i : Fin 4096, z1 (ix2 i j) * (z0 (ix2 i j) * Ideal.rsqrt (Norm.square fun k => z0 (ix2 i k))) := by
  pointwise [val_main_v19, val_main_v18, val_main_v17, val_main_v14, val_main_v13, val_main_v9, val_main_v8, val_main_v7, val_main_v6, val_main_v5, val_main_v4, val_main_v3,
    val_main_v2, val_main_cst, val_main_cst_0, val_main_cst_1, val_main_cst_3, Norm.square]
  exact Finset.sum_congr rfl fun _ _ => mul_comm _ _

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0, 0] ∧ win0_4.index t = ![t.val, 0] ∧ win0_5.index t = ![0, 0] :=
  (by decide +kernel : ∀ t : Fin grid0.N, _)

theorem out (c : Dev nD) (t : Fin cfg0.N) : (outsAt0 m c t.val t.isLt).1 = k0_pay5 (iblk m c 0 t) (iblk m c 1 t) (iblk m c 2 t) (iblk m c 3 t) := by
  have := t.isLt
  change t.val < 16 at this
  by_cases h : t.val % 16 = 0
  · rw [outsAt0_A m c t h (by omega)]; frame_out
  · rw [outsAt0_B m c t h (by omega)]; frame_out

theorem reset (c : Dev nD) (t : Fin cfg0.N) (h : t.val % 16 = 0) : (outsAt0 m c t.val t.isLt).2 = k0_pay4 (iblk m c 0 t) (iblk m c 1 t) := by
  have : t.val < 16 := t.isLt
  rw [outsAt0_A m c t h (by omega)]; frame_out

theorem step (c : Dev nD) (t : Fin cfg0.N) (h : ¬ t.val % 16 = 0) : (outsAt0 m c t.val t.isLt).2
    = k0_pay1 (k0_pay4 (iblk m c 0 t) (iblk m c 1 t)) (outsAt0 m c (t.val - 1) (Nat.lt_of_le_of_lt (Nat.sub_le _ _) t.isLt)).2 := by
  rw [outsAt0_B m c t h (by omega)]; frame_out

theorem add (x y : Vec Ideal S1x1024 .f32) (l : S1x1024.Idx) : k0_pay1 x y l = y l + x l := by
  pointwise [k0_pay1]

theorem sum (c : Dev nD) (t : Fin cfg0.N) (h : t.val % 16 = 15) (y : S1x1024.Idx) : (outsAt0 m c t.val t.isLt).2 y = 0 + ∑ s : Fin 16,
    k0_pay4 (iblk m c 0 ⟨_, Pipeline.run_point_lt_of_flush t h s⟩) (iblk m c 1 ⟨_, Pipeline.run_point_lt_of_flush t h s⟩) y :=
  Pipeline.eq_sum_fin_of_reset_step_apply_of_flush (fun n h => (outsAt0 m c n h).2) 16 (fun _ => 0) (fun t => k0_pay4 (iblk m c 0 t) (iblk m c 1 t))
    (fun t h y => (congrFun (reset m c t h) y).trans (zero_add _).symm) (fun t h y => (congrFun (step m c t h) y).trans (add _ _ y)) t h y

theorem block (c : Dev nD) (t : Fin cfg0.N) (r : Fin 256) (i : Fin 4096) (h : i.val = t.val * 256 + r.val) (k : Fin 1024) :
    iblk m c 0 t (ix2 r k) = m ((c : Thread nD τ).loc main_arg0) (ix2 i k) ∧ iblk m c 1 t (ix2 r k) = m ((c : Thread nD τ).loc main_arg1) (ix2 i k)
    ∧ iblk m c 2 t (ix2 r k) = m ((c : Thread nD τ).loc main_arg2) (ix2 i k) ∧ iblk m c 3 t (ix3 0 0 k) = m ((c : Thread nD τ).loc main_arg3) (ix3 0 0 k) := by
  obtain ⟨e0, e1, e2, e3, -⟩ := idx t
  refine ⟨?_, ?_, ?_, ?_⟩
  · blk_ext [Gen.iblk, Gen.V, e0, h]
  · blk_ext [Gen.iblk, Gen.V, e1, h]
  · blk_ext [Gen.iblk, Gen.V, e2, h]
  · blk_ext [Gen.iblk, Gen.V, e3]

theorem firstEntry (c : Dev nD) (t : Fin cfg0.N) (r : Fin 256) (i : Fin 4096) (h : i.val = t.val * 256 + r.val) (j : Fin 1024) :
    k0_pay5 (iblk m c 0 t) (iblk m c 1 t) (iblk m c 2 t) (iblk m c 3 t) (ix2 r j) = Cert.EPreRefIdeal.Read.val_main_v36 (F := Ideal) (m ((c : Thread nD τ).loc main_arg0))
      (m ((c : Thread nD τ).loc main_arg1)) (m ((c : Thread nD τ).loc main_arg2)) (m ((c : Thread nD τ).loc main_arg3)) (ix2 i j) := by
  have b := block m c t r i h
  refine (tile _ _ _ _ r j).trans (Eq.trans ?_ (ref j _ _ _ _ i).symm)
  rw [(b j).1, (b j).2.1, (b j).2.2.1, (b j).2.2.2]
  simp only [fun k => (b k).1, fun k => (b k).2.1, fun k => (b k).2.2.2]

theorem first (c : Dev nD) : (dats m 0 c).arrAt 4 cfg0.N = Cert.EPreRefIdeal.Read.val_main_v36 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_cover 4 _ (fun t _ => ?_) (Pipeline.Window.Covers.cover (w := win0_4) (by decide +kernel) (Memref.isWhole_whole _))
  rw [Value.flushed4, out m c t]
  funext y
  have ht : t.val < 16 := t.isLt
  have hy : (y 0).val < 256 := (y 0).isLt
  have e4 := (idx t).2.2.2.2.1
  refine Eq.trans (congrArg _ ?_) ((firstEntry m c t (y 0) ⟨t.val * 256 + (y 0).val, by omega⟩ rfl (y 1)).trans (congrArg _ ?_))
  · blk_ext []
  · blk_ext [e4]

theorem gainEntry (c : Dev nD) (t : Fin cfg0.N) (h : t.val % 16 = 15) (j : Fin 1024) : (outsAt0 m c t.val t.isLt).2 (ix2 (0 : Fin 1) j)
    = Cert.EPreRefIdeal.Read.val_main_v19 (F := Ideal) (m ((c : Thread nD τ).loc main_arg0)) (m ((c : Thread nD τ).loc main_arg1)) (ix2 (0 : Fin 1) j) := by
  refine ((sum m c t h _).trans (zero_add _)).trans (Eq.trans ?_ (refGain j _ _).symm)
  simp only [tileGain]
  refine Fin.sum_mul_add_congr fun s k hl => ?_
  have b := block m c ⟨_, Pipeline.run_point_lt_of_flush t h s⟩ k ⟨s.val * 256 + k.val, hl⟩ (by
    have : t.val < 16 := t.isLt
    show s.val * 256 + k.val = (16 * (t.val / 16) + s.val) * 256 + k.val
    omega)
  rw [(b j).1, (b j).2.1]
  simp only [fun k => (b k).1]

theorem final (c : Dev nD) : (dats m 0 c).arrAt 5 cfg0.N = Cert.EPreRefIdeal.Read.val_main_v19 (F := Ideal) (m ((c : Thread nD τ).loc main_arg0)) (m ((c : Thread nD τ).loc main_arg1)) := by
  refine (dats m 0 c).arrAt_eq_of_cover 5 _ (fun t hf => ?_) (Pipeline.Window.Covers.cover (w := win0_5) (by decide +kernel) (Memref.isWhole_whole _))
  rw [Value.flushed5]
  funext y
  have e5 := (idx t).2.2.2.2.2
  refine Eq.trans (congrArg _ ?_) ((gainEntry m c t ((flush0_5 t).mp hf) (y 1)).trans (congrArg _ ?_))
  · blk_ext []
  · blk_ext [e5]

theorem equal : Cert.algebraic_EPreIdeal_EPreRefIdeal (hEPreIdeal := facts) (hEPreRefIdeal := Cert.EPreRefIdeal.Gen.facts) := by
  refine fun m g m' g' _ ha => ⟨_, _, (θ_run defs _ _).mono (fun r h c => ?_) (Value.run_blocks m g), Cert.EPreRefIdeal.Value.run m' g'⟩
  obtain ⟨h4, h5, hk⟩ := h c
  obtain ⟨a0, a1, a2, a3⟩ := ha c
  rw [Cert.EPreRefIdeal.Read.val_main_v36_eq, a0, a1, a2, a3]
  exact ⟨h4.trans (first m c), h5.trans (final m c), hk⟩

end Cert.EPreIdeal.Hand

end
-- ==== Proof.lean ====
/- The claims: the two kernel frames from one run over any float values, the reference's run, and the equality of their results
   over the extended reals. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Region
public import proofs.«01_k».proof.Proof.Same
public import proofs.«01_k».proof.Proof.Finite
public import proofs.«01_k».proof.Proof.Agree
public import proofs.«01_k».proof.Proof.Gen.DH1.Frame
public import proofs.«01_k».proof.Proof.Gen.DH1Ideal.Value
public import proofs.«01_k».proof.Proof.Gen.DH1RefIdeal.Read
public import proofs.«01_k».proof.Proof.Gen.DWIn.Frame
public import proofs.«01_k».proof.Proof.Gen.DWInIdeal.Value
public import proofs.«01_k».proof.Proof.Gen.DWInRefIdeal.Read
public import proofs.«01_k».proof.Proof.Gen.DAct.Frame
public import proofs.«01_k».proof.Proof.Gen.DActIdeal.Value
public import proofs.«01_k».proof.Proof.Gen.DActRefIdeal.Read
public import proofs.«01_k».proof.Proof.Gen.DWDown.Frame
public import proofs.«01_k».proof.Proof.Gen.DWDownIdeal.Value
public import proofs.«01_k».proof.Proof.Gen.DWDownRefIdeal.Read
public import proofs.«01_k».proof.Proof.Gen.DH3.Frame
public import proofs.«01_k».proof.Proof.Gen.DH3Ideal.Value
public import proofs.«01_k».proof.Proof.Gen.DH3RefIdeal.Read
public import proofs.«01_k».proof.Proof.Gen.DWGu.Frame
public import proofs.«01_k».proof.Proof.Gen.DWGuIdeal.Value
public import proofs.«01_k».proof.Proof.Gen.DWGuRefIdeal.Read
public import proofs.«01_k».proof.Proof.Gen.DOxa.Frame
public import proofs.«01_k».proof.Proof.Gen.DOxaIdeal.Value
public import proofs.«01_k».proof.Proof.Gen.DOxaRefIdeal.Read
public import proofs.«01_k».proof.Proof.Gen.DH2.Frame
public import proofs.«01_k».proof.Proof.Gen.DH2Ideal.Value
public import proofs.«01_k».proof.Proof.Gen.DH2RefIdeal.Read
public import proofs.«01_k».proof.Proof.Gen.DWXo.Frame
public import proofs.«01_k».proof.Proof.Gen.DWXoIdeal.Value
public import proofs.«01_k».proof.Proof.Gen.DWXoRefIdeal.Read
public import proofs.«01_k».proof.Proof.Gen.DMem.Frame
public import proofs.«01_k».proof.Proof.Gen.DMemIdeal.Value
public import proofs.«01_k».proof.Proof.Gen.DMemRefIdeal.Read
public import proofs.«01_k».proof.Proof.Gen.DWXkv.Frame
public import proofs.«01_k».proof.Proof.Gen.DWXkvIdeal.Value
public import proofs.«01_k».proof.Proof.Gen.DWXkvRefIdeal.Read
public import proofs.«01_k».proof.Proof.Gen.DWAtt.Frame
public import proofs.«01_k».proof.Proof.Gen.DWAttIdeal.Value
public import proofs.«01_k».proof.Proof.Gen.DWAttRefIdeal.Read
public import proofs.«01_k».proof.Proof.Gen.DOssm.Frame
public import proofs.«01_k».proof.Proof.Gen.DOssmIdeal.Value
public import proofs.«01_k».proof.Proof.Gen.DOssmRefIdeal.Read
public import proofs.«01_k».proof.Proof.Gen.DWSsm.Frame
public import proofs.«01_k».proof.Proof.Gen.DWSsmIdeal.Value
public import proofs.«01_k».proof.Proof.Gen.DWSsmRefIdeal.Read
public import proofs.«01_k».proof.Proof.Gen.MProj.Frame
public import proofs.«01_k».proof.Proof.Gen.MProjIdeal.Value
public import proofs.«01_k».proof.Proof.Gen.MProjRefIdeal.Read
public import proofs.«01_k».proof.Proof.Gen.MAtt.Frame
public import proofs.«01_k».proof.Proof.Gen.MAttIdeal.Value
public import proofs.«01_k».proof.Proof.Gen.MAttRefIdeal.Read
public import proofs.«01_k».proof.Proof.Gen.MSsm.Frame
public import proofs.«01_k».proof.Proof.Gen.MSsmIdeal.Value
public import proofs.«01_k».proof.Proof.Gen.MSsmRefIdeal.Read
public import proofs.«01_k».proof.Proof.Gen.MMix.Frame
public import proofs.«01_k».proof.Proof.Gen.MMixIdeal.Value
public import proofs.«01_k».proof.Proof.Gen.MMixRefIdeal.Read
public import proofs.«01_k».proof.Proof.Gen.MKv.Frame
public import proofs.«01_k».proof.Proof.Gen.MKvIdeal.Value
public import proofs.«01_k».proof.Proof.Gen.MKvRefIdeal.Read
public import proofs.«01_k».proof.Proof.Gen.MGu.Frame
public import proofs.«01_k».proof.Proof.Gen.MGuIdeal.Value
public import proofs.«01_k».proof.Proof.Gen.MGuRefIdeal.Read
public import proofs.«01_k».proof.Proof.Gen.MDown.Frame
public import proofs.«01_k».proof.Proof.Gen.MDownIdeal.Value
public import proofs.«01_k».proof.Proof.Gen.MDownRefIdeal.Read
public import proofs.«01_k».proof.Proof.InputProducts
public import proofs.«01_k».proof.Proof.WeightProducts
public import proofs.«01_k».proof.Proof.ForwardProducts
public import proofs.«01_k».proof.Proof.Gen.ESwiglu.Frame
public import proofs.«01_k».proof.Proof.Gen.ESwigluIdeal.Value
public import proofs.«01_k».proof.Proof.Gen.ESwigluRefIdeal.Read
public import proofs.«01_k».proof.Proof.Gen.EMerge.Frame
public import proofs.«01_k».proof.Proof.Gen.EMergeIdeal.Value
public import proofs.«01_k».proof.Proof.Gen.EMergeRefIdeal.Read
public import proofs.«01_k».proof.Proof.Gen.FSwiglu.Frame
public import proofs.«01_k».proof.Proof.Gen.FSwigluIdeal.Value
public import proofs.«01_k».proof.Proof.Gen.FSwigluRefIdeal.Read
public import proofs.«01_k».proof.Proof.Gen.FMerge.Frame
public import proofs.«01_k».proof.Proof.Gen.FMergeIdeal.Value
public import proofs.«01_k».proof.Proof.Gen.FMergeRefIdeal.Read
public import proofs.«01_k».proof.Proof.Gen.AWIn.Frame
public import proofs.«01_k».proof.Proof.Gen.AWInIdeal.Value
public import proofs.«01_k».proof.Proof.Gen.AWInRefIdeal.Read
public import proofs.«01_k».proof.Proof.Gen.ABrAtt.Frame
public import proofs.«01_k».proof.Proof.Gen.ABrAttIdeal.Value
public import proofs.«01_k».proof.Proof.Gen.ABrAttRefIdeal.Read
public import proofs.«01_k».proof.Proof.Gen.ABrSsm.Frame
public import proofs.«01_k».proof.Proof.Gen.ABrSsmIdeal.Value
public import proofs.«01_k».proof.Proof.Gen.ABrSsmRefIdeal.Read
public import proofs.«01_k».proof.Proof.Gen.AXkv.Frame
public import proofs.«01_k».proof.Proof.Gen.AXkvIdeal.Value
public import proofs.«01_k».proof.Proof.Gen.AXkvRefIdeal.Read
public import proofs.«01_k».proof.Proof.Gen.AGu.Frame
public import proofs.«01_k».proof.Proof.Gen.AGuIdeal.Value
public import proofs.«01_k».proof.Proof.Gen.AGuRefIdeal.Read
public import proofs.«01_k».proof.Proof.Gen.ADown.Frame
public import proofs.«01_k».proof.Proof.Gen.ADownIdeal.Value
public import proofs.«01_k».proof.Proof.Gen.ADownRefIdeal.Read
public import proofs.«01_k».proof.Proof.Gen.AConv.Frame
public import proofs.«01_k».proof.Proof.Gen.AConvIdeal.Value
public import proofs.«01_k».proof.Proof.Gen.AConvRefIdeal.Read
public import proofs.«01_k».proof.Proof.Gen.ASmall.Frame
public import proofs.«01_k».proof.Proof.Gen.ASmallIdeal.Value
public import proofs.«01_k».proof.Proof.Gen.ASmallRefIdeal.Read
public import proofs.«01_k».proof.Proof.Gen.EPre.Frame
public import proofs.«01_k».proof.Proof.Gen.EPreIdeal.Value
public import proofs.«01_k».proof.Proof.Gen.EPreRefIdeal.Read
public import proofs.«01_k».proof.Proof.OptimiserStep
public import proofs.«01_k».proof.Proof.Gates
public import proofs.«01_k».proof.Proof.InputGradient
public import Idealize.ShloMosaic.Adequacy
public import Idealize.ShloMosaic.Init

@[expose] public section

noncomputable section

open Idealize.ShloMosaic Idealize.ShloMosaic.TcCoe Idealize.SL.Sem

/-- The kernel's frame over the machine's floats. -/
theorem Cert.Proof.frame_kernel : Cert.quiescent_Kernel (hKernel := Cert.Kernel.Gen.facts) := fun m ρ _ => by
  have h := Cert.KernelIdeal.Hand.frame (F := Bits) m ρ
  rw [← Cert.KernelIdeal.Hand.defs_eq] at h
  exact h

/-- The kernel's frame over the extended reals. -/
theorem Cert.Proof.frame_ideal : Cert.quiescent_KernelIdeal (hKernelIdeal := Cert.KernelIdeal.Gen.facts) := fun m ρ _ => Cert.KernelIdeal.Hand.frame m ρ

/-- The reference's run returns its arguments as they were; it declares no semaphore. -/
theorem Cert.Proof.frame_reference : Cert.quiescent_ReferenceIdeal (hReferenceIdeal := Cert.ReferenceIdeal.Gen.facts) := fun m ρ _ =>
  (θ_run Cert.ReferenceIdeal.defs _ _).mono (fun r h => ⟨fun c => ⟨(h c).2.2.2.1, (h c).2.2.2.2⟩, Idealize.ShloMosaic.sem_eq_zero_of_no_sems (by decide) r.2⟩)
    (Cert.ReferenceIdeal.Value.run m ρ)

/-- Over the extended reals, of real numbers, the kernel and the reference end with the same three gradients. -/
theorem Cert.Proof.equal : Cert.algebraic_KernelIdeal_ReferenceIdeal_pre_finite (hKernelIdeal := Cert.KernelIdeal.Gen.facts) (hReferenceIdeal := Cert.ReferenceIdeal.Gen.facts) (hPre_finite := Cert.KernelIdeal.Hand.finite_facts) := by
  intro m g m' g' hp ha
  have H := fun c => Cert.KernelIdeal.Hand.reals m hp c
  refine ⟨fun c => Cert.KernelIdeal.Hand.arr4 (Cert.KernelIdeal.Hand.numP m c) (Cert.KernelIdeal.Hand.numG m c), fun c => Cert.KernelIdeal.Hand.arr5 (Cert.KernelIdeal.Hand.numP m c) (Cert.KernelIdeal.Hand.numG m c),
    fun c => Cert.KernelIdeal.Hand.arr6 (Cert.KernelIdeal.Hand.numP m c) (Cert.KernelIdeal.Hand.numG m c), ?_, ?_⟩
  · refine (θ_run Cert.KernelIdeal.defs _ _).mono (fun r h c => ?_) (Cert.KernelIdeal.Hand.run_named m g (Cert.KernelIdeal.Hand.numP m) (Cert.KernelIdeal.Hand.numG m) H)
    have k := h.1
    refine ⟨(k.out_eq c 4).trans (Cert.KernelIdeal.Hand.end4 m _ _ c), (k.out_eq c 5).trans (Cert.KernelIdeal.Hand.end5 m _ _ c), (k.out_eq c 6).trans (Cert.KernelIdeal.Hand.end6 m _ _ c), ?_, ?_⟩
    · exact (k.in_eq c 2 rfl).trans ((Cert.KernelIdeal.Hand.AN_eq m _ _ c 2).trans (Cert.KernelIdeal.Gen.V_main_arg0 m c))
    · exact (k.in_eq c 3 rfl).trans ((Cert.KernelIdeal.Hand.AN_eq m _ _ c 3).trans (Cert.KernelIdeal.Gen.V_main_arg1 m c))
  · refine (θ_run Cert.ReferenceIdeal.defs _ _).mono (fun r h c => ?_) (Cert.ReferenceIdeal.Value.run m' g')
    have k := h c
    have hP : ∀ (r : Fin 4096) (q : Fin 10368), 4096 ≤ q.val → q.val < 7168 → (m' ((c.tc : Thread Cert.ReferenceIdeal.nD Cert.ReferenceIdeal.τ).loc Cert.ReferenceIdeal.main_arg0) : FVec Ideal Cert.ReferenceIdeal.S4096x10368 .f32) (ix2 r q) = ((Cert.KernelIdeal.Hand.numP m c r.val q.val : ℝ) : EReal) := by
      rw [(ha c).1]; exact (H c).p
    have hG : ∀ (r : Fin 4096) (q : Fin 1024), (m' ((c.tc : Thread Cert.ReferenceIdeal.nD Cert.ReferenceIdeal.τ).loc Cert.ReferenceIdeal.main_arg1) : FVec Ideal Cert.ReferenceIdeal.S4096x1024 .f32) (ix2 r q) = ((Cert.KernelIdeal.Hand.numG m c r.val q.val : ℝ) : EReal) := by
      rw [(ha c).2]; exact (H c).g
    exact ⟨(k.1.trans (Cert.ReferenceIdeal.Hand.out0 m' c)).trans (Cert.ReferenceIdeal.Hand.dq_is hP hG),
      (k.2.1.trans (Cert.ReferenceIdeal.Hand.out1 m' c)).trans (Cert.ReferenceIdeal.Hand.dk_is hP hG),
      (k.2.2.1.trans (Cert.ReferenceIdeal.Hand.out2 m' c)).trans (Cert.ReferenceIdeal.Hand.dv_is hP hG), k.2.2.2.1, k.2.2.2.2⟩

/-- The certificate's claim. -/
theorem Cert.Proof.claim : Cert.Claim :=
  ⟨Cert.Kernel.Gen.facts, Cert.KernelIdeal.Gen.facts, Cert.ReferenceIdeal.Gen.facts, Cert.DH1.Gen.facts, Cert.DH1Ideal.Gen.facts, Cert.DH1RefIdeal.Gen.facts, Cert.DWIn.Gen.facts, Cert.DWInIdeal.Gen.facts, Cert.DWInRefIdeal.Gen.facts, Cert.DAct.Gen.facts, Cert.DActIdeal.Gen.facts, Cert.DActRefIdeal.Gen.facts, Cert.DWDown.Gen.facts, Cert.DWDownIdeal.Gen.facts, Cert.DWDownRefIdeal.Gen.facts, Cert.DH3.Gen.facts, Cert.DH3Ideal.Gen.facts, Cert.DH3RefIdeal.Gen.facts, Cert.DWGu.Gen.facts, Cert.DWGuIdeal.Gen.facts, Cert.DWGuRefIdeal.Gen.facts, Cert.DOxa.Gen.facts, Cert.DOxaIdeal.Gen.facts, Cert.DOxaRefIdeal.Gen.facts, Cert.DH2.Gen.facts, Cert.DH2Ideal.Gen.facts, Cert.DH2RefIdeal.Gen.facts, Cert.DWXo.Gen.facts, Cert.DWXoIdeal.Gen.facts, Cert.DWXoRefIdeal.Gen.facts, Cert.DMem.Gen.facts, Cert.DMemIdeal.Gen.facts, Cert.DMemRefIdeal.Gen.facts, Cert.DWXkv.Gen.facts, Cert.DWXkvIdeal.Gen.facts, Cert.DWXkvRefIdeal.Gen.facts, Cert.DWAtt.Gen.facts, Cert.DWAttIdeal.Gen.facts, Cert.DWAttRefIdeal.Gen.facts, Cert.DOssm.Gen.facts, Cert.DOssmIdeal.Gen.facts, Cert.DOssmRefIdeal.Gen.facts, Cert.DWSsm.Gen.facts, Cert.DWSsmIdeal.Gen.facts, Cert.DWSsmRefIdeal.Gen.facts, Cert.MProj.Gen.facts, Cert.MProjIdeal.Gen.facts, Cert.MProjRefIdeal.Gen.facts, Cert.MAtt.Gen.facts, Cert.MAttIdeal.Gen.facts, Cert.MAttRefIdeal.Gen.facts, Cert.MSsm.Gen.facts, Cert.MSsmIdeal.Gen.facts, Cert.MSsmRefIdeal.Gen.facts, Cert.MMix.Gen.facts, Cert.MMixIdeal.Gen.facts, Cert.MMixRefIdeal.Gen.facts, Cert.MKv.Gen.facts, Cert.MKvIdeal.Gen.facts, Cert.MKvRefIdeal.Gen.facts, Cert.MGu.Gen.facts, Cert.MGuIdeal.Gen.facts, Cert.MGuRefIdeal.Gen.facts, Cert.MDown.Gen.facts, Cert.MDownIdeal.Gen.facts, Cert.MDownRefIdeal.Gen.facts, Cert.ESwiglu.Gen.facts, Cert.ESwigluIdeal.Gen.facts, Cert.ESwigluRefIdeal.Gen.facts, Cert.EMerge.Gen.facts, Cert.EMergeIdeal.Gen.facts, Cert.EMergeRefIdeal.Gen.facts, Cert.FSwiglu.Gen.facts, Cert.FSwigluIdeal.Gen.facts, Cert.FSwigluRefIdeal.Gen.facts, Cert.FMerge.Gen.facts, Cert.FMergeIdeal.Gen.facts, Cert.FMergeRefIdeal.Gen.facts, Cert.AWIn.Gen.facts, Cert.AWInIdeal.Gen.facts, Cert.AWInRefIdeal.Gen.facts, Cert.ABrAtt.Gen.facts, Cert.ABrAttIdeal.Gen.facts, Cert.ABrAttRefIdeal.Gen.facts, Cert.ABrSsm.Gen.facts, Cert.ABrSsmIdeal.Gen.facts, Cert.ABrSsmRefIdeal.Gen.facts, Cert.AXkv.Gen.facts, Cert.AXkvIdeal.Gen.facts, Cert.AXkvRefIdeal.Gen.facts, Cert.AGu.Gen.facts, Cert.AGuIdeal.Gen.facts, Cert.AGuRefIdeal.Gen.facts, Cert.ADown.Gen.facts, Cert.ADownIdeal.Gen.facts, Cert.ADownRefIdeal.Gen.facts, Cert.AConv.Gen.facts, Cert.AConvIdeal.Gen.facts, Cert.AConvRefIdeal.Gen.facts, Cert.ASmall.Gen.facts, Cert.ASmallIdeal.Gen.facts, Cert.ASmallRefIdeal.Gen.facts, Cert.EPre.Gen.facts, Cert.EPreIdeal.Gen.facts, Cert.EPreRefIdeal.Gen.facts, Cert.KernelIdeal.Hand.finite_facts, Cert.ESwigluIdeal.Hand.finite_facts,
    Cert.Proof.frame_kernel,
    Cert.Proof.frame_ideal,
    fun m ρ _ => Cert.Proof.frame_ideal m ρ trivial,
    Cert.Proof.frame_reference,
    fun m ρ _ => Cert.Proof.frame_reference m ρ trivial,
    fun m ρ _ => Cert.DH1.Gen.frame m ρ,
    fun m ρ _ => Cert.DH1Ideal.Gen.frame m ρ,
    fun m ρ _ => (θ_run Cert.DH1RefIdeal.defs _ _).mono (fun r h => ⟨fun c => (h c).2, sem_eq_zero_of_no_sems (by decide) r.2⟩) (Cert.DH1RefIdeal.Value.run m ρ),
    fun m ρ _ => Cert.DWIn.Gen.frame m ρ,
    fun m ρ _ => Cert.DWInIdeal.Gen.frame m ρ,
    fun m ρ _ => (θ_run Cert.DWInRefIdeal.defs _ _).mono (fun r h => ⟨fun c => (h c).2, sem_eq_zero_of_no_sems (by decide) r.2⟩) (Cert.DWInRefIdeal.Value.run m ρ),
    fun m ρ _ => Cert.DAct.Gen.frame m ρ,
    fun m ρ _ => Cert.DActIdeal.Gen.frame m ρ,
    fun m ρ _ => (θ_run Cert.DActRefIdeal.defs _ _).mono (fun r h => ⟨fun c => (h c).2, sem_eq_zero_of_no_sems (by decide) r.2⟩) (Cert.DActRefIdeal.Value.run m ρ),
    fun m ρ _ => Cert.DWDown.Gen.frame m ρ,
    fun m ρ _ => Cert.DWDownIdeal.Gen.frame m ρ,
    fun m ρ _ => (θ_run Cert.DWDownRefIdeal.defs _ _).mono (fun r h => ⟨fun c => (h c).2, sem_eq_zero_of_no_sems (by decide) r.2⟩) (Cert.DWDownRefIdeal.Value.run m ρ),
    fun m ρ _ => Cert.DH3.Gen.frame m ρ,
    fun m ρ _ => Cert.DH3Ideal.Gen.frame m ρ,
    fun m ρ _ => (θ_run Cert.DH3RefIdeal.defs _ _).mono (fun r h => ⟨fun c => (h c).2, sem_eq_zero_of_no_sems (by decide) r.2⟩) (Cert.DH3RefIdeal.Value.run m ρ),
    fun m ρ _ => Cert.DWGu.Gen.frame m ρ,
    fun m ρ _ => Cert.DWGuIdeal.Gen.frame m ρ,
    fun m ρ _ => (θ_run Cert.DWGuRefIdeal.defs _ _).mono (fun r h => ⟨fun c => (h c).2, sem_eq_zero_of_no_sems (by decide) r.2⟩) (Cert.DWGuRefIdeal.Value.run m ρ),
    fun m ρ _ => Cert.DOxa.Gen.frame m ρ,
    fun m ρ _ => Cert.DOxaIdeal.Gen.frame m ρ,
    fun m ρ _ => (θ_run Cert.DOxaRefIdeal.defs _ _).mono (fun r h => ⟨fun c => (h c).2, sem_eq_zero_of_no_sems (by decide) r.2⟩) (Cert.DOxaRefIdeal.Value.run m ρ),
    fun m ρ _ => Cert.DH2.Gen.frame m ρ,
    fun m ρ _ => Cert.DH2Ideal.Gen.frame m ρ,
    fun m ρ _ => (θ_run Cert.DH2RefIdeal.defs _ _).mono (fun r h => ⟨fun c => (h c).2, sem_eq_zero_of_no_sems (by decide) r.2⟩) (Cert.DH2RefIdeal.Value.run m ρ),
    fun m ρ _ => Cert.DWXo.Gen.frame m ρ,
    fun m ρ _ => Cert.DWXoIdeal.Gen.frame m ρ,
    fun m ρ _ => (θ_run Cert.DWXoRefIdeal.defs _ _).mono (fun r h => ⟨fun c => (h c).2, sem_eq_zero_of_no_sems (by decide) r.2⟩) (Cert.DWXoRefIdeal.Value.run m ρ),
    fun m ρ _ => Cert.DMem.Gen.frame m ρ,
    fun m ρ _ => Cert.DMemIdeal.Gen.frame m ρ,
    fun m ρ _ => (θ_run Cert.DMemRefIdeal.defs _ _).mono (fun r h => ⟨fun c => (h c).2, sem_eq_zero_of_no_sems (by decide) r.2⟩) (Cert.DMemRefIdeal.Value.run m ρ),
    fun m ρ _ => Cert.DWXkv.Gen.frame m ρ,
    fun m ρ _ => Cert.DWXkvIdeal.Gen.frame m ρ,
    fun m ρ _ => (θ_run Cert.DWXkvRefIdeal.defs _ _).mono (fun r h => ⟨fun c => (h c).2, sem_eq_zero_of_no_sems (by decide) r.2⟩) (Cert.DWXkvRefIdeal.Value.run m ρ),
    fun m ρ _ => Cert.DWAtt.Gen.frame m ρ,
    fun m ρ _ => Cert.DWAttIdeal.Gen.frame m ρ,
    fun m ρ _ => (θ_run Cert.DWAttRefIdeal.defs _ _).mono (fun r h => ⟨fun c => (h c).2, sem_eq_zero_of_no_sems (by decide) r.2⟩) (Cert.DWAttRefIdeal.Value.run m ρ),
    fun m ρ _ => Cert.DOssm.Gen.frame m ρ,
    fun m ρ _ => Cert.DOssmIdeal.Gen.frame m ρ,
    fun m ρ _ => (θ_run Cert.DOssmRefIdeal.defs _ _).mono (fun r h => ⟨fun c => (h c).2, sem_eq_zero_of_no_sems (by decide) r.2⟩) (Cert.DOssmRefIdeal.Value.run m ρ),
    fun m ρ _ => Cert.DWSsm.Gen.frame m ρ,
    fun m ρ _ => Cert.DWSsmIdeal.Gen.frame m ρ,
    fun m ρ _ => (θ_run Cert.DWSsmRefIdeal.defs _ _).mono (fun r h => ⟨fun c => (h c).2, sem_eq_zero_of_no_sems (by decide) r.2⟩) (Cert.DWSsmRefIdeal.Value.run m ρ),
    fun m ρ _ => Cert.MProj.Gen.frame m ρ,
    fun m ρ _ => Cert.MProjIdeal.Gen.frame m ρ,
    fun m ρ _ => (θ_run Cert.MProjRefIdeal.defs _ _).mono (fun r h => ⟨fun c => (h c).2, sem_eq_zero_of_no_sems (by decide) r.2⟩) (Cert.MProjRefIdeal.Value.run m ρ),
    fun m ρ _ => Cert.MAtt.Gen.frame m ρ,
    fun m ρ _ => Cert.MAttIdeal.Gen.frame m ρ,
    fun m ρ _ => (θ_run Cert.MAttRefIdeal.defs _ _).mono (fun r h => ⟨fun c => (h c).2, sem_eq_zero_of_no_sems (by decide) r.2⟩) (Cert.MAttRefIdeal.Value.run m ρ),
    fun m ρ _ => Cert.MSsm.Gen.frame m ρ,
    fun m ρ _ => Cert.MSsmIdeal.Gen.frame m ρ,
    fun m ρ _ => (θ_run Cert.MSsmRefIdeal.defs _ _).mono (fun r h => ⟨fun c => (h c).2, sem_eq_zero_of_no_sems (by decide) r.2⟩) (Cert.MSsmRefIdeal.Value.run m ρ),
    fun m ρ _ => Cert.MMix.Gen.frame m ρ,
    fun m ρ _ => Cert.MMixIdeal.Gen.frame m ρ,
    fun m ρ _ => (θ_run Cert.MMixRefIdeal.defs _ _).mono (fun r h => ⟨fun c => (h c).2, sem_eq_zero_of_no_sems (by decide) r.2⟩) (Cert.MMixRefIdeal.Value.run m ρ),
    fun m ρ _ => Cert.MKv.Gen.frame m ρ,
    fun m ρ _ => Cert.MKvIdeal.Gen.frame m ρ,
    fun m ρ _ => (θ_run Cert.MKvRefIdeal.defs _ _).mono (fun r h => ⟨fun c => (h c).2, sem_eq_zero_of_no_sems (by decide) r.2⟩) (Cert.MKvRefIdeal.Value.run m ρ),
    fun m ρ _ => Cert.MGu.Gen.frame m ρ,
    fun m ρ _ => Cert.MGuIdeal.Gen.frame m ρ,
    fun m ρ _ => (θ_run Cert.MGuRefIdeal.defs _ _).mono (fun r h => ⟨fun c => (h c).2, sem_eq_zero_of_no_sems (by decide) r.2⟩) (Cert.MGuRefIdeal.Value.run m ρ),
    fun m ρ _ => Cert.MDown.Gen.frame m ρ,
    fun m ρ _ => Cert.MDownIdeal.Gen.frame m ρ,
    fun m ρ _ => (θ_run Cert.MDownRefIdeal.defs _ _).mono (fun r h => ⟨fun c => (h c).2, sem_eq_zero_of_no_sems (by decide) r.2⟩) (Cert.MDownRefIdeal.Value.run m ρ),
    fun m ρ _ => Cert.ESwiglu.Gen.frame m ρ,
    fun m ρ _ => Cert.ESwigluIdeal.Gen.frame m ρ,
    fun m ρ _ => Cert.ESwigluIdeal.Gen.frame m ρ,
    fun m ρ _ => (θ_run Cert.ESwigluRefIdeal.defs _ _).mono (fun r h => ⟨fun c => (h c).2, sem_eq_zero_of_no_sems (by decide) r.2⟩) (Cert.ESwigluRefIdeal.Value.run m ρ),
    fun m ρ _ => (θ_run Cert.ESwigluRefIdeal.defs _ _).mono (fun r h => ⟨fun c => (h c).2, sem_eq_zero_of_no_sems (by decide) r.2⟩) (Cert.ESwigluRefIdeal.Value.run m ρ),
    fun m ρ _ => Cert.EMerge.Gen.frame m ρ,
    fun m ρ _ => Cert.EMergeIdeal.Gen.frame m ρ,
    fun m ρ _ => (θ_run Cert.EMergeRefIdeal.defs _ _).mono (fun r h => ⟨fun c => (h c).2.2.2, sem_eq_zero_of_no_sems (by decide) r.2⟩) (Cert.EMergeRefIdeal.Value.run m ρ),
    fun m ρ _ => Cert.FSwiglu.Gen.frame m ρ,
    fun m ρ _ => Cert.FSwigluIdeal.Gen.frame m ρ,
    fun m ρ _ => (θ_run Cert.FSwigluRefIdeal.defs _ _).mono (fun r h => ⟨fun c => (h c).2, sem_eq_zero_of_no_sems (by decide) r.2⟩) (Cert.FSwigluRefIdeal.Value.run m ρ),
    fun m ρ _ => Cert.FMerge.Gen.frame m ρ,
    fun m ρ _ => Cert.FMergeIdeal.Gen.frame m ρ,
    fun m ρ _ => (θ_run Cert.FMergeRefIdeal.defs _ _).mono (fun r h => ⟨fun c => (h c).2, sem_eq_zero_of_no_sems (by decide) r.2⟩) (Cert.FMergeRefIdeal.Value.run m ρ),
    fun m ρ _ => Cert.AWIn.Gen.frame m ρ,
    fun m ρ _ => Cert.AWInIdeal.Gen.frame m ρ,
    fun m ρ _ => (θ_run Cert.AWInRefIdeal.defs _ _).mono (fun r h => ⟨fun c => (h c).2.2.2.2, sem_eq_zero_of_no_sems (by decide) r.2⟩) (Cert.AWInRefIdeal.Value.run m ρ),
    fun m ρ _ => Cert.ABrAtt.Gen.frame m ρ,
    fun m ρ _ => Cert.ABrAttIdeal.Gen.frame m ρ,
    fun m ρ _ => (θ_run Cert.ABrAttRefIdeal.defs _ _).mono (fun r h => ⟨fun c => (h c).2.2.2.2, sem_eq_zero_of_no_sems (by decide) r.2⟩) (Cert.ABrAttRefIdeal.Value.run m ρ),
    fun m ρ _ => Cert.ABrSsm.Gen.frame m ρ,
    fun m ρ _ => Cert.ABrSsmIdeal.Gen.frame m ρ,
    fun m ρ _ => (θ_run Cert.ABrSsmRefIdeal.defs _ _).mono (fun r h => ⟨fun c => (h c).2.2.2.2, sem_eq_zero_of_no_sems (by decide) r.2⟩) (Cert.ABrSsmRefIdeal.Value.run m ρ),
    fun m ρ _ => Cert.AXkv.Gen.frame m ρ,
    fun m ρ _ => Cert.AXkvIdeal.Gen.frame m ρ,
    fun m ρ _ => (θ_run Cert.AXkvRefIdeal.defs _ _).mono (fun r h => ⟨fun c => (h c).2.2.2.2, sem_eq_zero_of_no_sems (by decide) r.2⟩) (Cert.AXkvRefIdeal.Value.run m ρ),
    fun m ρ _ => Cert.AGu.Gen.frame m ρ,
    fun m ρ _ => Cert.AGuIdeal.Gen.frame m ρ,
    fun m ρ _ => (θ_run Cert.AGuRefIdeal.defs _ _).mono (fun r h => ⟨fun c => (h c).2.2.2.2, sem_eq_zero_of_no_sems (by decide) r.2⟩) (Cert.AGuRefIdeal.Value.run m ρ),
    fun m ρ _ => Cert.ADown.Gen.frame m ρ,
    fun m ρ _ => Cert.ADownIdeal.Gen.frame m ρ,
    fun m ρ _ => (θ_run Cert.ADownRefIdeal.defs _ _).mono (fun r h => ⟨fun c => (h c).2.2.2.2, sem_eq_zero_of_no_sems (by decide) r.2⟩) (Cert.ADownRefIdeal.Value.run m ρ),
    fun m ρ _ => Cert.AConv.Gen.frame m ρ,
    fun m ρ _ => Cert.AConvIdeal.Gen.frame m ρ,
    fun m ρ _ => (θ_run Cert.AConvRefIdeal.defs _ _).mono (fun r h => ⟨fun c => (h c).2.2.2.2, sem_eq_zero_of_no_sems (by decide) r.2⟩) (Cert.AConvRefIdeal.Value.run m ρ),
    fun m ρ _ => Cert.ASmall.Gen.frame m ρ,
    fun m ρ _ => Cert.ASmallIdeal.Gen.frame m ρ,
    fun m ρ _ => (θ_run Cert.ASmallRefIdeal.defs _ _).mono (fun r h => ⟨fun c => (h c).2.2.2.2, sem_eq_zero_of_no_sems (by decide) r.2⟩) (Cert.ASmallRefIdeal.Value.run m ρ),
    fun m ρ _ => Cert.EPre.Gen.frame m ρ,
    fun m ρ _ => Cert.EPreIdeal.Gen.frame m ρ,
    fun m ρ _ => (θ_run Cert.EPreRefIdeal.defs _ _).mono (fun r h => ⟨fun c => (h c).2.2, sem_eq_zero_of_no_sems (by decide) r.2⟩) (Cert.EPreRefIdeal.Value.run m ρ),
    trivial,
    Cert.Proof.equal,
    trivial,
    Cert.DH1Ideal.Hand.equal,
    trivial,
    Cert.DWInIdeal.Hand.equal,
    trivial,
    Cert.DActIdeal.Hand.equal,
    trivial,
    Cert.DWDownIdeal.Hand.equal,
    trivial,
    Cert.DH3Ideal.Hand.equal,
    trivial,
    Cert.DWGuIdeal.Hand.equal,
    trivial,
    Cert.DOxaIdeal.Hand.equal,
    trivial,
    Cert.DH2Ideal.Hand.equal,
    trivial,
    Cert.DWXoIdeal.Hand.equal,
    trivial,
    Cert.DMemIdeal.Hand.equal,
    trivial,
    Cert.DWXkvIdeal.Hand.equal,
    trivial,
    Cert.DWAttIdeal.Hand.equal,
    trivial,
    Cert.DOssmIdeal.Hand.equal,
    trivial,
    Cert.DWSsmIdeal.Hand.equal,
    trivial,
    Cert.MProjIdeal.Hand.equal,
    trivial,
    Cert.MAttIdeal.Hand.equal,
    trivial,
    Cert.MSsmIdeal.Hand.equal,
    trivial,
    Cert.MMixIdeal.Hand.equal,
    trivial,
    Cert.MKvIdeal.Hand.equal,
    trivial,
    Cert.MGuIdeal.Hand.equal,
    trivial,
    Cert.MDownIdeal.Hand.equal,
    trivial,
    Cert.ESwigluIdeal.Hand.equal_pre_finite_gate,
    trivial,
    Cert.EMergeIdeal.Hand.equal,
    trivial,
    Cert.FSwigluIdeal.Hand.equal,
    trivial,
    Cert.FMergeIdeal.Hand.equal,
    trivial,
    Cert.AWInIdeal.Hand.equal,
    trivial,
    Cert.ABrAttIdeal.Hand.equal,
    trivial,
    Cert.ABrSsmIdeal.Hand.equal,
    trivial,
    Cert.AXkvIdeal.Hand.equal,
    trivial,
    Cert.AGuIdeal.Hand.equal,
    trivial,
    Cert.ADownIdeal.Hand.equal,
    trivial,
    Cert.AConvIdeal.Hand.equal,
    trivial,
    Cert.ASmallIdeal.Hand.equal,
    trivial,
    Cert.EPreIdeal.Hand.equal⟩

end
